-- ==== Defs.lean ====
def Pre_Disc (m : (ℓ : Loc Cert.Disc.nD Cert.Disc.τ Cert.Disc.sig) → Buf (Elt Bits) ℓ) : Prop :=
  True

def Pre_DiscIdeal (m : (ℓ : Loc Cert.DiscIdeal.nD Cert.DiscIdeal.τ Cert.DiscIdeal.sig) → Buf (Elt Ideal) ℓ) : Prop :=
  True

def Pre_DiscIdeal_disc_finite [hPre_disc_finite : Cert.Pre_disc_finite.Facts] (m : (ℓ : Loc Cert.DiscIdeal.nD Cert.DiscIdeal.τ Cert.DiscIdeal.sig) → Buf (Elt Ideal) ℓ) : Prop :=
  ∀ c : Dev Cert.DiscIdeal.nD,
    (Cert.Pre_disc_finite.fn (F := Ideal) (m ((c.tc : Thread Cert.DiscIdeal.nD Cert.DiscIdeal.τ).loc Cert.DiscIdeal.main_arg0)) (m ((c.tc : Thread Cert.DiscIdeal.nD Cert.DiscIdeal.τ).loc Cert.DiscIdeal.main_arg1)) (m ((c.tc : Thread Cert.DiscIdeal.nD Cert.DiscIdeal.τ).loc Cert.DiscIdeal.main_arg2)) (m ((c.tc : Thread Cert.DiscIdeal.nD Cert.DiscIdeal.τ).loc Cert.DiscIdeal.main_arg3)) (m ((c.tc : Thread Cert.DiscIdeal.nD Cert.DiscIdeal.τ).loc Cert.DiscIdeal.main_arg4)) (m ((c.tc : Thread Cert.DiscIdeal.nD Cert.DiscIdeal.τ).loc Cert.DiscIdeal.main_arg5)) (m ((c.tc : Thread Cert.DiscIdeal.nD Cert.DiscIdeal.τ).loc Cert.DiscIdeal.main_arg6)) (m ((c.tc : Thread Cert.DiscIdeal.nD Cert.DiscIdeal.τ).loc Cert.DiscIdeal.main_arg7)) (m ((c.tc : Thread Cert.DiscIdeal.nD Cert.DiscIdeal.τ).loc Cert.DiscIdeal.main_arg8))) = (fun _ => 1#1)

def Pre_DiscRefIdeal (m : (ℓ : Loc Cert.DiscRefIdeal.nD Cert.DiscRefIdeal.τ Cert.DiscRefIdeal.sig) → Buf (Elt Ideal) ℓ) : Prop :=
  True

def Pre_DiscRefIdeal_disc_finite [hPre_disc_finite : Cert.Pre_disc_finite.Facts] (m : (ℓ : Loc Cert.DiscRefIdeal.nD Cert.DiscRefIdeal.τ Cert.DiscRefIdeal.sig) → Buf (Elt Ideal) ℓ) : Prop :=
  ∀ c : Dev Cert.DiscRefIdeal.nD,
    (Cert.Pre_disc_finite.fn (F := Ideal) (m ((c.tc : Thread Cert.DiscRefIdeal.nD Cert.DiscRefIdeal.τ).loc Cert.DiscRefIdeal.main_arg0)) (m ((c.tc : Thread Cert.DiscRefIdeal.nD Cert.DiscRefIdeal.τ).loc Cert.DiscRefIdeal.main_arg1)) (m ((c.tc : Thread Cert.DiscRefIdeal.nD Cert.DiscRefIdeal.τ).loc Cert.DiscRefIdeal.main_arg2)) (m ((c.tc : Thread Cert.DiscRefIdeal.nD Cert.DiscRefIdeal.τ).loc Cert.DiscRefIdeal.main_arg3)) (m ((c.tc : Thread Cert.DiscRefIdeal.nD Cert.DiscRefIdeal.τ).loc Cert.DiscRefIdeal.main_arg4)) (m ((c.tc : Thread Cert.DiscRefIdeal.nD Cert.DiscRefIdeal.τ).loc Cert.DiscRefIdeal.main_arg5)) (m ((c.tc : Thread Cert.DiscRefIdeal.nD Cert.DiscRefIdeal.τ).loc Cert.DiscRefIdeal.main_arg6)) (m ((c.tc : Thread Cert.DiscRefIdeal.nD Cert.DiscRefIdeal.τ).loc Cert.DiscRefIdeal.main_arg7)) (m ((c.tc : Thread Cert.DiscRefIdeal.nD Cert.DiscRefIdeal.τ).loc Cert.DiscRefIdeal.main_arg8))) = (fun _ => 1#1)

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_attn_finite [hPre_attn_finite : Cert.Pre_attn_finite.Facts] (m : (ℓ : Loc Cert.AttnIdeal.nD Cert.AttnIdeal.τ Cert.AttnIdeal.sig) → Buf (Elt Ideal) ℓ) : Prop :=
  ∀ c : Dev Cert.AttnIdeal.nD,
    (Cert.Pre_attn_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))) = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_attn_finite [hPre_attn_finite : Cert.Pre_attn_finite.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))) = (fun _ => 1#1)

def Pre_Post (m : (ℓ : Loc Cert.Post.nD Cert.Post.τ Cert.Post.sig) → Buf (Elt Bits) ℓ) : Prop :=
  True

def Pre_PostIdeal (m : (ℓ : Loc Cert.PostIdeal.nD Cert.PostIdeal.τ Cert.PostIdeal.sig) → Buf (Elt Ideal) ℓ) : Prop :=
  True

def Pre_PostIdeal_post_finite [hPre_post_finite : Cert.Pre_post_finite.Facts] (m : (ℓ : Loc Cert.PostIdeal.nD Cert.PostIdeal.τ Cert.PostIdeal.sig) → Buf (Elt Ideal) ℓ) : Prop :=
  ∀ c : Dev Cert.PostIdeal.nD,
    (Cert.Pre_post_finite.fn (F := Ideal) (m ((c.tc : Thread Cert.PostIdeal.nD Cert.PostIdeal.τ).loc Cert.PostIdeal.main_arg0)) (m ((c.tc : Thread Cert.PostIdeal.nD Cert.PostIdeal.τ).loc Cert.PostIdeal.main_arg1)) (m ((c.tc : Thread Cert.PostIdeal.nD Cert.PostIdeal.τ).loc Cert.PostIdeal.main_arg2)) (m ((c.tc : Thread Cert.PostIdeal.nD Cert.PostIdeal.τ).loc Cert.PostIdeal.main_arg3)) (m ((c.tc : Thread Cert.PostIdeal.nD Cert.PostIdeal.τ).loc Cert.PostIdeal.main_arg4)) (m ((c.tc : Thread Cert.PostIdeal.nD Cert.PostIdeal.τ).loc Cert.PostIdeal.main_arg5)) (m ((c.tc : Thread Cert.PostIdeal.nD Cert.PostIdeal.τ).loc Cert.PostIdeal.main_arg6)) (m ((c.tc : Thread Cert.PostIdeal.nD Cert.PostIdeal.τ).loc Cert.PostIdeal.main_arg7))) = (fun _ => 1#1)

def Pre_PostRefIdeal (m : (ℓ : Loc Cert.PostRefIdeal.nD Cert.PostRefIdeal.τ Cert.PostRefIdeal.sig) → Buf (Elt Ideal) ℓ) : Prop :=
  True

def Pre_PostRefIdeal_post_finite [hPre_post_finite : Cert.Pre_post_finite.Facts] (m : (ℓ : Loc Cert.PostRefIdeal.nD Cert.PostRefIdeal.τ Cert.PostRefIdeal.sig) → Buf (Elt Ideal) ℓ) : Prop :=
  ∀ c : Dev Cert.PostRefIdeal.nD,
    (Cert.Pre_post_finite.fn (F := Ideal) (m ((c.tc : Thread Cert.PostRefIdeal.nD Cert.PostRefIdeal.τ).loc Cert.PostRefIdeal.main_arg0)) (m ((c.tc : Thread Cert.PostRefIdeal.nD Cert.PostRefIdeal.τ).loc Cert.PostRefIdeal.main_arg1)) (m ((c.tc : Thread Cert.PostRefIdeal.nD Cert.PostRefIdeal.τ).loc Cert.PostRefIdeal.main_arg2)) (m ((c.tc : Thread Cert.PostRefIdeal.nD Cert.PostRefIdeal.τ).loc Cert.PostRefIdeal.main_arg3)) (m ((c.tc : Thread Cert.PostRefIdeal.nD Cert.PostRefIdeal.τ).loc Cert.PostRefIdeal.main_arg4)) (m ((c.tc : Thread Cert.PostRefIdeal.nD Cert.PostRefIdeal.τ).loc Cert.PostRefIdeal.main_arg5)) (m ((c.tc : Thread Cert.PostRefIdeal.nD Cert.PostRefIdeal.τ).loc Cert.PostRefIdeal.main_arg6)) (m ((c.tc : Thread Cert.PostRefIdeal.nD Cert.PostRefIdeal.τ).loc Cert.PostRefIdeal.main_arg7))) = (fun _ => 1#1)

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutIdeal_out_finite [hPre_out_finite : Cert.Pre_out_finite.Facts] (m : (ℓ : Loc Cert.OutIdeal.nD Cert.OutIdeal.τ Cert.OutIdeal.sig) → Buf (Elt Ideal) ℓ) : Prop :=
  ∀ c : Dev Cert.OutIdeal.nD,
    (Cert.Pre_out_finite.fn (F := Ideal) (m ((c.tc : Thread Cert.OutIdeal.nD Cert.OutIdeal.τ).loc Cert.OutIdeal.main_arg0)) (m ((c.tc : Thread Cert.OutIdeal.nD Cert.OutIdeal.τ).loc Cert.OutIdeal.main_arg1)) (m ((c.tc : Thread Cert.OutIdeal.nD Cert.OutIdeal.τ).loc Cert.OutIdeal.main_arg2)) (m ((c.tc : Thread Cert.OutIdeal.nD Cert.OutIdeal.τ).loc Cert.OutIdeal.main_arg3)) (m ((c.tc : Thread Cert.OutIdeal.nD Cert.OutIdeal.τ).loc Cert.OutIdeal.main_arg4)) (m ((c.tc : Thread Cert.OutIdeal.nD Cert.OutIdeal.τ).loc Cert.OutIdeal.main_arg5)) (m ((c.tc : Thread Cert.OutIdeal.nD Cert.OutIdeal.τ).loc Cert.OutIdeal.main_arg6)) (m ((c.tc : Thread Cert.OutIdeal.nD Cert.OutIdeal.τ).loc Cert.OutIdeal.main_arg7))) = (fun _ => 1#1)

def Pre_OutRefIdeal (m : (ℓ : Loc Cert.OutRefIdeal.nD Cert.OutRefIdeal.τ Cert.OutRefIdeal.sig) → Buf (Elt Ideal) ℓ) : Prop :=
  True

def Pre_OutRefIdeal_out_finite [hPre_out_finite : Cert.Pre_out_finite.Facts] (m : (ℓ : Loc Cert.OutRefIdeal.nD Cert.OutRefIdeal.τ Cert.OutRefIdeal.sig) → Buf (Elt Ideal) ℓ) : Prop :=
  ∀ c : Dev Cert.OutRefIdeal.nD,
    (Cert.Pre_out_finite.fn (F := Ideal) (m ((c.tc : Thread Cert.OutRefIdeal.nD Cert.OutRefIdeal.τ).loc Cert.OutRefIdeal.main_arg0)) (m ((c.tc : Thread Cert.OutRefIdeal.nD Cert.OutRefIdeal.τ).loc Cert.OutRefIdeal.main_arg1)) (m ((c.tc : Thread Cert.OutRefIdeal.nD Cert.OutRefIdeal.τ).loc Cert.OutRefIdeal.main_arg2)) (m ((c.tc : Thread Cert.OutRefIdeal.nD Cert.OutRefIdeal.τ).loc Cert.OutRefIdeal.main_arg3)) (m ((c.tc : Thread Cert.OutRefIdeal.nD Cert.OutRefIdeal.τ).loc Cert.OutRefIdeal.main_arg4)) (m ((c.tc : Thread Cert.OutRefIdeal.nD Cert.OutRefIdeal.τ).loc Cert.OutRefIdeal.main_arg5)) (m ((c.tc : Thread Cert.OutRefIdeal.nD Cert.OutRefIdeal.τ).loc Cert.OutRefIdeal.main_arg6)) (m ((c.tc : Thread Cert.OutRefIdeal.nD Cert.OutRefIdeal.τ).loc Cert.OutRefIdeal.main_arg7))) = (fun _ => 1#1)

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvIdeal_qkv_finite [hPre_qkv_finite : Cert.Pre_qkv_finite.Facts] (m : (ℓ : Loc Cert.QkvIdeal.nD Cert.QkvIdeal.τ Cert.QkvIdeal.sig) → Buf (Elt Ideal) ℓ) : Prop :=
  ∀ c : Dev Cert.QkvIdeal.nD,
    (Cert.Pre_qkv_finite.fn (F := Ideal) (m ((c.tc : Thread Cert.QkvIdeal.nD Cert.QkvIdeal.τ).loc Cert.QkvIdeal.main_arg0)) (m ((c.tc : Thread Cert.QkvIdeal.nD Cert.QkvIdeal.τ).loc Cert.QkvIdeal.main_arg1)) (m ((c.tc : Thread Cert.QkvIdeal.nD Cert.QkvIdeal.τ).loc Cert.QkvIdeal.main_arg2)) (m ((c.tc : Thread Cert.QkvIdeal.nD Cert.QkvIdeal.τ).loc Cert.QkvIdeal.main_arg3)) (m ((c.tc : Thread Cert.QkvIdeal.nD Cert.QkvIdeal.τ).loc Cert.QkvIdeal.main_arg4)) (m ((c.tc : Thread Cert.QkvIdeal.nD Cert.QkvIdeal.τ).loc Cert.QkvIdeal.main_arg5)) (m ((c.tc : Thread Cert.QkvIdeal.nD Cert.QkvIdeal.τ).loc Cert.QkvIdeal.main_arg6)) (m ((c.tc : Thread Cert.QkvIdeal.nD Cert.QkvIdeal.τ).loc Cert.QkvIdeal.main_arg7)) (m ((c.tc : Thread Cert.QkvIdeal.nD Cert.QkvIdeal.τ).loc Cert.QkvIdeal.main_arg8)) (m ((c.tc : Thread Cert.QkvIdeal.nD Cert.QkvIdeal.τ).loc Cert.QkvIdeal.main_arg9))) = (fun _ => 1#1)

def Pre_QkvRefIdeal (m : (ℓ : Loc Cert.QkvRefIdeal.nD Cert.QkvRefIdeal.τ Cert.QkvRefIdeal.sig) → Buf (Elt Ideal) ℓ) : Prop :=
  True

def Pre_QkvRefIdeal_qkv_finite [hPre_qkv_finite : Cert.Pre_qkv_finite.Facts] (m : (ℓ : Loc Cert.QkvRefIdeal.nD Cert.QkvRefIdeal.τ Cert.QkvRefIdeal.sig) → Buf (Elt Ideal) ℓ) : Prop :=
  ∀ c : Dev Cert.QkvRefIdeal.nD,
    (Cert.Pre_qkv_finite.fn (F := Ideal) (m ((c.tc : Thread Cert.QkvRefIdeal.nD Cert.QkvRefIdeal.τ).loc Cert.QkvRefIdeal.main_arg0)) (m ((c.tc : Thread Cert.QkvRefIdeal.nD Cert.QkvRefIdeal.τ).loc Cert.QkvRefIdeal.main_arg1)) (m ((c.tc : Thread Cert.QkvRefIdeal.nD Cert.QkvRefIdeal.τ).loc Cert.QkvRefIdeal.main_arg2)) (m ((c.tc : Thread Cert.QkvRefIdeal.nD Cert.QkvRefIdeal.τ).loc Cert.QkvRefIdeal.main_arg3)) (m ((c.tc : Thread Cert.QkvRefIdeal.nD Cert.QkvRefIdeal.τ).loc Cert.QkvRefIdeal.main_arg4)) (m ((c.tc : Thread Cert.QkvRefIdeal.nD Cert.QkvRefIdeal.τ).loc Cert.QkvRefIdeal.main_arg5)) (m ((c.tc : Thread Cert.QkvRefIdeal.nD Cert.QkvRefIdeal.τ).loc Cert.QkvRefIdeal.main_arg6)) (m ((c.tc : Thread Cert.QkvRefIdeal.nD Cert.QkvRefIdeal.τ).loc Cert.QkvRefIdeal.main_arg7)) (m ((c.tc : Thread Cert.QkvRefIdeal.nD Cert.QkvRefIdeal.τ).loc Cert.QkvRefIdeal.main_arg8)) (m ((c.tc : Thread Cert.QkvRefIdeal.nD Cert.QkvRefIdeal.τ).loc Cert.QkvRefIdeal.main_arg9))) = (fun _ => 1#1)

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojIdeal_inproj_finite [hPre_inproj_finite : Cert.Pre_inproj_finite.Facts] (m : (ℓ : Loc Cert.InprojIdeal.nD Cert.InprojIdeal.τ Cert.InprojIdeal.sig) → Buf (Elt Ideal) ℓ) : Prop :=
  ∀ c : Dev Cert.InprojIdeal.nD,
    (Cert.Pre_inproj_finite.fn (F := Ideal) (m ((c.tc : Thread Cert.InprojIdeal.nD Cert.InprojIdeal.τ).loc Cert.InprojIdeal.main_arg0)) (m ((c.tc : Thread Cert.InprojIdeal.nD Cert.InprojIdeal.τ).loc Cert.InprojIdeal.main_arg1)) (m ((c.tc : Thread Cert.InprojIdeal.nD Cert.InprojIdeal.τ).loc Cert.InprojIdeal.main_arg2)) (m ((c.tc : Thread Cert.InprojIdeal.nD Cert.InprojIdeal.τ).loc Cert.InprojIdeal.main_arg3)) (m ((c.tc : Thread Cert.InprojIdeal.nD Cert.InprojIdeal.τ).loc Cert.InprojIdeal.main_arg4)) (m ((c.tc : Thread Cert.InprojIdeal.nD Cert.InprojIdeal.τ).loc Cert.InprojIdeal.main_arg5)) (m ((c.tc : Thread Cert.InprojIdeal.nD Cert.InprojIdeal.τ).loc Cert.InprojIdeal.main_arg6)) (m ((c.tc : Thread Cert.InprojIdeal.nD Cert.InprojIdeal.τ).loc Cert.InprojIdeal.main_arg7)) (m ((c.tc : Thread Cert.InprojIdeal.nD Cert.InprojIdeal.τ).loc Cert.InprojIdeal.main_arg8)) (m ((c.tc : Thread Cert.InprojIdeal.nD Cert.InprojIdeal.τ).loc Cert.InprojIdeal.main_arg9)) (m ((c.tc : Thread Cert.InprojIdeal.nD Cert.InprojIdeal.τ).loc Cert.InprojIdeal.main_arg10)) (m ((c.tc : Thread Cert.InprojIdeal.nD Cert.InprojIdeal.τ).loc Cert.InprojIdeal.main_arg11)) (m ((c.tc : Thread Cert.InprojIdeal.nD Cert.InprojIdeal.τ).loc Cert.InprojIdeal.main_arg12))) = (fun _ => 1#1)

def Pre_InprojRefIdeal (m : (ℓ : Loc Cert.InprojRefIdeal.nD Cert.InprojRefIdeal.τ Cert.InprojRefIdeal.sig) → Buf (Elt Ideal) ℓ) : Prop :=
  True

def Pre_InprojRefIdeal_inproj_finite [hPre_inproj_finite : Cert.Pre_inproj_finite.Facts] (m : (ℓ : Loc Cert.InprojRefIdeal.nD Cert.InprojRefIdeal.τ Cert.InprojRefIdeal.sig) → Buf (Elt Ideal) ℓ) : Prop :=
  ∀ c : Dev Cert.InprojRefIdeal.nD,
    (Cert.Pre_inproj_finite.fn (F := Ideal) (m ((c.tc : Thread Cert.InprojRefIdeal.nD Cert.InprojRefIdeal.τ).loc Cert.InprojRefIdeal.main_arg0)) (m ((c.tc : Thread Cert.InprojRefIdeal.nD Cert.InprojRefIdeal.τ).loc Cert.InprojRefIdeal.main_arg1)) (m ((c.tc : Thread Cert.InprojRefIdeal.nD Cert.InprojRefIdeal.τ).loc Cert.InprojRefIdeal.main_arg2)) (m ((c.tc : Thread Cert.InprojRefIdeal.nD Cert.InprojRefIdeal.τ).loc Cert.InprojRefIdeal.main_arg3)) (m ((c.tc : Thread Cert.InprojRefIdeal.nD Cert.InprojRefIdeal.τ).loc Cert.InprojRefIdeal.main_arg4)) (m ((c.tc : Thread Cert.InprojRefIdeal.nD Cert.InprojRefIdeal.τ).loc Cert.InprojRefIdeal.main_arg5)) (m ((c.tc : Thread Cert.InprojRefIdeal.nD Cert.InprojRefIdeal.τ).loc Cert.InprojRefIdeal.main_arg6)) (m ((c.tc : Thread Cert.InprojRefIdeal.nD Cert.InprojRefIdeal.τ).loc Cert.InprojRefIdeal.main_arg7)) (m ((c.tc : Thread Cert.InprojRefIdeal.nD Cert.InprojRefIdeal.τ).loc Cert.InprojRefIdeal.main_arg8)) (m ((c.tc : Thread Cert.InprojRefIdeal.nD Cert.InprojRefIdeal.τ).loc Cert.InprojRefIdeal.main_arg9)) (m ((c.tc : Thread Cert.InprojRefIdeal.nD Cert.InprojRefIdeal.τ).loc Cert.InprojRefIdeal.main_arg10)) (m ((c.tc : Thread Cert.InprojRefIdeal.nD Cert.InprojRefIdeal.τ).loc Cert.InprojRefIdeal.main_arg11)) (m ((c.tc : Thread Cert.InprojRefIdeal.nD Cert.InprojRefIdeal.τ).loc Cert.InprojRefIdeal.main_arg12))) = (fun _ => 1#1)

def quiescent_Disc [hDisc : Cert.Disc.Facts] : Prop :=
  ∀ (m : (ℓ : Loc Cert.Disc.nD Cert.Disc.τ Cert.Disc.sig) → Buf (Elt Bits) ℓ) (g : Dev Cert.Disc.nD → PrngReg), Pre_Disc m →
    θ_run (Cert.Disc.defs (F := Bits)) (onTc (τ := Cert.Disc.τ) (Cert.Disc.main (F := Bits))) ⟨m, fun _ => 0, g⟩ (fun r => (∀ c : Dev Cert.Disc.nD,
      r.2.mem ((c.tc : Thread Cert.Disc.nD Cert.Disc.τ).loc Cert.Disc.main_arg0) = m ((c.tc : Thread Cert.Disc.nD Cert.Disc.τ).loc Cert.Disc.main_arg0)
      ∧ r.2.mem ((c.tc : Thread Cert.Disc.nD Cert.Disc.τ).loc Cert.Disc.main_arg1) = m ((c.tc : Thread Cert.Disc.nD Cert.Disc.τ).loc Cert.Disc.main_arg1)
      ∧ r.2.mem ((c.tc : Thread Cert.Disc.nD Cert.Disc.τ).loc Cert.Disc.main_arg2) = m ((c.tc : Thread Cert.Disc.nD Cert.Disc.τ).loc Cert.Disc.main_arg2)
      ∧ r.2.mem ((c.tc : Thread Cert.Disc.nD Cert.Disc.τ).loc Cert.Disc.main_arg3) = m ((c.tc : Thread Cert.Disc.nD Cert.Disc.τ).loc Cert.Disc.main_arg3)
      ∧ r.2.mem ((c.tc : Thread Cert.Disc.nD Cert.Disc.τ).loc Cert.Disc.main_arg4) = m ((c.tc : Thread Cert.Disc.nD Cert.Disc.τ).loc Cert.Disc.main_arg4)
      ∧ r.2.mem ((c.tc : Thread Cert.Disc.nD Cert.Disc.τ).loc Cert.Disc.main_arg5) = m ((c.tc : Thread Cert.Disc.nD Cert.Disc.τ).loc Cert.Disc.main_arg5)
      ∧ r.2.mem ((c.tc : Thread Cert.Disc.nD Cert.Disc.τ).loc Cert.Disc.main_arg6) = m ((c.tc : Thread Cert.Disc.nD Cert.Disc.τ).loc Cert.Disc.main_arg6)
      ∧ r.2.mem ((c.tc : Thread Cert.Disc.nD Cert.Disc.τ).loc Cert.Disc.main_arg7) = m ((c.tc : Thread Cert.Disc.nD Cert.Disc.τ).loc Cert.Disc.main_arg7)
      ∧ r.2.mem ((c.tc : Thread Cert.Disc.nD Cert.Disc.τ).loc Cert.Disc.main_arg8) = m ((c.tc : Thread Cert.Disc.nD Cert.Disc.τ).loc Cert.Disc.main_arg8))
      ∧ r.2.sem = fun _ => 0)

def quiescent_DiscIdeal [hDiscIdeal : Cert.DiscIdeal.Facts] : Prop :=
  ∀ (m : (ℓ : Loc Cert.DiscIdeal.nD Cert.DiscIdeal.τ Cert.DiscIdeal.sig) → Buf (Elt Ideal) ℓ) (g : Dev Cert.DiscIdeal.nD → PrngReg), Pre_DiscIdeal m →
    θ_run (Cert.DiscIdeal.defs (F := Ideal)) (onTc (τ := Cert.DiscIdeal.τ) (Cert.DiscIdeal.main (F := Ideal))) ⟨m, fun _ => 0, g⟩ (fun r => (∀ c : Dev Cert.DiscIdeal.nD,
      r.2.mem ((c.tc : Thread Cert.DiscIdeal.nD Cert.DiscIdeal.τ).loc Cert.DiscIdeal.main_arg0) = m ((c.tc : Thread Cert.DiscIdeal.nD Cert.DiscIdeal.τ).loc Cert.DiscIdeal.main_arg0)
      ∧ r.2.mem ((c.tc : Thread Cert.DiscIdeal.nD Cert.DiscIdeal.τ).loc Cert.DiscIdeal.main_arg1) = m ((c.tc : Thread Cert.DiscIdeal.nD Cert.DiscIdeal.τ).loc Cert.DiscIdeal.main_arg1)
      ∧ r.2.mem ((c.tc : Thread Cert.DiscIdeal.nD Cert.DiscIdeal.τ).loc Cert.DiscIdeal.main_arg2) = m ((c.tc : Thread Cert.DiscIdeal.nD Cert.DiscIdeal.τ).loc Cert.DiscIdeal.main_arg2)
      ∧ r.2.mem ((c.tc : Thread Cert.DiscIdeal.nD Cert.DiscIdeal.τ).loc Cert.DiscIdeal.main_arg3) = m ((c.tc : Thread Cert.DiscIdeal.nD Cert.DiscIdeal.τ).loc Cert.DiscIdeal.main_arg3)
      ∧ r.2.mem ((c.tc : Thread Cert.DiscIdeal.nD Cert.DiscIdeal.τ).loc Cert.DiscIdeal.main_arg4) = m ((c.tc : Thread Cert.DiscIdeal.nD Cert.DiscIdeal.τ).loc Cert.DiscIdeal.main_arg4)
      ∧ r.2.mem ((c.tc : Thread Cert.DiscIdeal.nD Cert.DiscIdeal.τ).loc Cert.DiscIdeal.main_arg5) = m ((c.tc : Thread Cert.DiscIdeal.nD Cert.DiscIdeal.τ).loc Cert.DiscIdeal.main_arg5)
      ∧ r.2.mem ((c.tc : Thread Cert.DiscIdeal.nD Cert.DiscIdeal.τ).loc Cert.DiscIdeal.main_arg6) = m ((c.tc : Thread Cert.DiscIdeal.nD Cert.DiscIdeal.τ).loc Cert.DiscIdeal.main_arg6)
      ∧ r.2.mem ((c.tc : Thread Cert.DiscIdeal.nD Cert.DiscIdeal.τ).loc Cert.DiscIdeal.main_arg7) = m ((c.tc : Thread Cert.DiscIdeal.nD Cert.DiscIdeal.τ).loc Cert.DiscIdeal.main_arg7)
      ∧ r.2.mem ((c.tc : Thread Cert.DiscIdeal.nD Cert.DiscIdeal.τ).loc Cert.DiscIdeal.main_arg8) = m ((c.tc : Thread Cert.DiscIdeal.nD Cert.DiscIdeal.τ).loc Cert.DiscIdeal.main_arg8))
      ∧ r.2.sem = fun _ => 0)

def quiescent_DiscIdeal_pre_disc_finite [hDiscIdeal : Cert.DiscIdeal.Facts] [hPre_disc_finite : Cert.Pre_disc_finite.Facts] : Prop :=
  ∀ (m : (ℓ : Loc Cert.DiscIdeal.nD Cert.DiscIdeal.τ Cert.DiscIdeal.sig) → Buf (Elt Ideal) ℓ) (g : Dev Cert.DiscIdeal.nD → PrngReg), Pre_DiscIdeal_disc_finite m →
    θ_run (Cert.DiscIdeal.defs (F := Ideal)) (onTc (τ := Cert.DiscIdeal.τ) (Cert.DiscIdeal.main (F := Ideal))) ⟨m, fun _ => 0, g⟩ (fun r => (∀ c : Dev Cert.DiscIdeal.nD,
      r.2.mem ((c.tc : Thread Cert.DiscIdeal.nD Cert.DiscIdeal.τ).loc Cert.DiscIdeal.main_arg0) = m ((c.tc : Thread Cert.DiscIdeal.nD Cert.DiscIdeal.τ).loc Cert.DiscIdeal.main_arg0)
      ∧ r.2.mem ((c.tc : Thread Cert.DiscIdeal.nD Cert.DiscIdeal.τ).loc Cert.DiscIdeal.main_arg1) = m ((c.tc : Thread Cert.DiscIdeal.nD Cert.DiscIdeal.τ).loc Cert.DiscIdeal.main_arg1)
      ∧ r.2.mem ((c.tc : Thread Cert.DiscIdeal.nD Cert.DiscIdeal.τ).loc Cert.DiscIdeal.main_arg2) = m ((c.tc : Thread Cert.DiscIdeal.nD Cert.DiscIdeal.τ).loc Cert.DiscIdeal.main_arg2)
      ∧ r.2.mem ((c.tc : Thread Cert.DiscIdeal.nD Cert.DiscIdeal.τ).loc Cert.DiscIdeal.main_arg3) = m ((c.tc : Thread Cert.DiscIdeal.nD Cert.DiscIdeal.τ).loc Cert.DiscIdeal.main_arg3)
      ∧ r.2.mem ((c.tc : Thread Cert.DiscIdeal.nD Cert.DiscIdeal.τ).loc Cert.DiscIdeal.main_arg4) = m ((c.tc : Thread Cert.DiscIdeal.nD Cert.DiscIdeal.τ).loc Cert.DiscIdeal.main_arg4)
      ∧ r.2.mem ((c.tc : Thread Cert.DiscIdeal.nD Cert.DiscIdeal.τ).loc Cert.DiscIdeal.main_arg5) = m ((c.tc : Thread Cert.DiscIdeal.nD Cert.DiscIdeal.τ).loc Cert.DiscIdeal.main_arg5)
      ∧ r.2.mem ((c.tc : Thread Cert.DiscIdeal.nD Cert.DiscIdeal.τ).loc Cert.DiscIdeal.main_arg6) = m ((c.tc : Thread Cert.DiscIdeal.nD Cert.DiscIdeal.τ).loc Cert.DiscIdeal.main_arg6)
      ∧ r.2.mem ((c.tc : Thread Cert.DiscIdeal.nD Cert.DiscIdeal.τ).loc Cert.DiscIdeal.main_arg7) = m ((c.tc : Thread Cert.DiscIdeal.nD Cert.DiscIdeal.τ).loc Cert.DiscIdeal.main_arg7)
      ∧ r.2.mem ((c.tc : Thread Cert.DiscIdeal.nD Cert.DiscIdeal.τ).loc Cert.DiscIdeal.main_arg8) = m ((c.tc : Thread Cert.DiscIdeal.nD Cert.DiscIdeal.τ).loc Cert.DiscIdeal.main_arg8))
      ∧ r.2.sem = fun _ => 0)

def quiescent_DiscRefIdeal [hDiscRefIdeal : Cert.DiscRefIdeal.Facts] : Prop :=
  ∀ (m : (ℓ : Loc Cert.DiscRefIdeal.nD Cert.DiscRefIdeal.τ Cert.DiscRefIdeal.sig) → Buf (Elt Ideal) ℓ) (g : Dev Cert.DiscRefIdeal.nD → PrngReg), Pre_DiscRefIdeal m →
    θ_run (Cert.DiscRefIdeal.defs (F := Ideal)) (onTc (τ := Cert.DiscRefIdeal.τ) (Cert.DiscRefIdeal.main (F := Ideal))) ⟨m, fun _ => 0, g⟩ (fun r => (∀ c : Dev Cert.DiscRefIdeal.nD,
      r.2.mem ((c.tc : Thread Cert.DiscRefIdeal.nD Cert.DiscRefIdeal.τ).loc Cert.DiscRefIdeal.main_arg0) = m ((c.tc : Thread Cert.DiscRefIdeal.nD Cert.DiscRefIdeal.τ).loc Cert.DiscRefIdeal.main_arg0)
      ∧ r.2.mem ((c.tc : Thread Cert.DiscRefIdeal.nD Cert.DiscRefIdeal.τ).loc Cert.DiscRefIdeal.main_arg1) = m ((c.tc : Thread Cert.DiscRefIdeal.nD Cert.DiscRefIdeal.τ).loc Cert.DiscRefIdeal.main_arg1)
      ∧ r.2.mem ((c.tc : Thread Cert.DiscRefIdeal.nD Cert.DiscRefIdeal.τ).loc Cert.DiscRefIdeal.main_arg2) = m ((c.tc : Thread Cert.DiscRefIdeal.nD Cert.DiscRefIdeal.τ).loc Cert.DiscRefIdeal.main_arg2)
      ∧ r.2.mem ((c.tc : Thread Cert.DiscRefIdeal.nD Cert.DiscRefIdeal.τ).loc Cert.DiscRefIdeal.main_arg3) = m ((c.tc : Thread Cert.DiscRefIdeal.nD Cert.DiscRefIdeal.τ).loc Cert.DiscRefIdeal.main_arg3)
      ∧ r.2.mem ((c.tc : Thread Cert.DiscRefIdeal.nD Cert.DiscRefIdeal.τ).loc Cert.DiscRefIdeal.main_arg4) = m ((c.tc : Thread Cert.DiscRefIdeal.nD Cert.DiscRefIdeal.τ).loc Cert.DiscRefIdeal.main_arg4)
      ∧ r.2.mem ((c.tc : Thread Cert.DiscRefIdeal.nD Cert.DiscRefIdeal.τ).loc Cert.DiscRefIdeal.main_arg5) = m ((c.tc : Thread Cert.DiscRefIdeal.nD Cert.DiscRefIdeal.τ).loc Cert.DiscRefIdeal.main_arg5)
      ∧ r.2.mem ((c.tc : Thread Cert.DiscRefIdeal.nD Cert.DiscRefIdeal.τ).loc Cert.DiscRefIdeal.main_arg6) = m ((c.tc : Thread Cert.DiscRefIdeal.nD Cert.DiscRefIdeal.τ).loc Cert.DiscRefIdeal.main_arg6)
      ∧ r.2.mem ((c.tc : Thread Cert.DiscRefIdeal.nD Cert.DiscRefIdeal.τ).loc Cert.DiscRefIdeal.main_arg7) = m ((c.tc : Thread Cert.DiscRefIdeal.nD Cert.DiscRefIdeal.τ).loc Cert.DiscRefIdeal.main_arg7)
      ∧ r.2.mem ((c.tc : Thread Cert.DiscRefIdeal.nD Cert.DiscRefIdeal.τ).loc Cert.DiscRefIdeal.main_arg8) = m ((c.tc : Thread Cert.DiscRefIdeal.nD Cert.DiscRefIdeal.τ).loc Cert.DiscRefIdeal.main_arg8))
      ∧ r.2.sem = fun _ => 0)

def quiescent_DiscRefIdeal_pre_disc_finite [hDiscRefIdeal : Cert.DiscRefIdeal.Facts] [hPre_disc_finite : Cert.Pre_disc_finite.Facts] : Prop :=
  ∀ (m : (ℓ : Loc Cert.DiscRefIdeal.nD Cert.DiscRefIdeal.τ Cert.DiscRefIdeal.sig) → Buf (Elt Ideal) ℓ) (g : Dev Cert.DiscRefIdeal.nD → PrngReg), Pre_DiscRefIdeal_disc_finite m →
    θ_run (Cert.DiscRefIdeal.defs (F := Ideal)) (onTc (τ := Cert.DiscRefIdeal.τ) (Cert.DiscRefIdeal.main (F := Ideal))) ⟨m, fun _ => 0, g⟩ (fun r => (∀ c : Dev Cert.DiscRefIdeal.nD,
      r.2.mem ((c.tc : Thread Cert.DiscRefIdeal.nD Cert.DiscRefIdeal.τ).loc Cert.DiscRefIdeal.main_arg0) = m ((c.tc : Thread Cert.DiscRefIdeal.nD Cert.DiscRefIdeal.τ).loc Cert.DiscRefIdeal.main_arg0)
      ∧ r.2.mem ((c.tc : Thread Cert.DiscRefIdeal.nD Cert.DiscRefIdeal.τ).loc Cert.DiscRefIdeal.main_arg1) = m ((c.tc : Thread Cert.DiscRefIdeal.nD Cert.DiscRefIdeal.τ).loc Cert.DiscRefIdeal.main_arg1)
      ∧ r.2.mem ((c.tc : Thread Cert.DiscRefIdeal.nD Cert.DiscRefIdeal.τ).loc Cert.DiscRefIdeal.main_arg2) = m ((c.tc : Thread Cert.DiscRefIdeal.nD Cert.DiscRefIdeal.τ).loc Cert.DiscRefIdeal.main_arg2)
      ∧ r.2.mem ((c.tc : Thread Cert.DiscRefIdeal.nD Cert.DiscRefIdeal.τ).loc Cert.DiscRefIdeal.main_arg3) = m ((c.tc : Thread Cert.DiscRefIdeal.nD Cert.DiscRefIdeal.τ).loc Cert.DiscRefIdeal.main_arg3)
      ∧ r.2.mem ((c.tc : Thread Cert.DiscRefIdeal.nD Cert.DiscRefIdeal.τ).loc Cert.DiscRefIdeal.main_arg4) = m ((c.tc : Thread Cert.DiscRefIdeal.nD Cert.DiscRefIdeal.τ).loc Cert.DiscRefIdeal.main_arg4)
      ∧ r.2.mem ((c.tc : Thread Cert.DiscRefIdeal.nD Cert.DiscRefIdeal.τ).loc Cert.DiscRefIdeal.main_arg5) = m ((c.tc : Thread Cert.DiscRefIdeal.nD Cert.DiscRefIdeal.τ).loc Cert.DiscRefIdeal.main_arg5)
      ∧ r.2.mem ((c.tc : Thread Cert.DiscRefIdeal.nD Cert.DiscRefIdeal.τ).loc Cert.DiscRefIdeal.main_arg6) = m ((c.tc : Thread Cert.DiscRefIdeal.nD Cert.DiscRefIdeal.τ).loc Cert.DiscRefIdeal.main_arg6)
      ∧ r.2.mem ((c.tc : Thread Cert.DiscRefIdeal.nD Cert.DiscRefIdeal.τ).loc Cert.DiscRefIdeal.main_arg7) = m ((c.tc : Thread Cert.DiscRefIdeal.nD Cert.DiscRefIdeal.τ).loc Cert.DiscRefIdeal.main_arg7)
      ∧ r.2.mem ((c.tc : Thread Cert.DiscRefIdeal.nD Cert.DiscRefIdeal.τ).loc Cert.DiscRefIdeal.main_arg8) = m ((c.tc : Thread Cert.DiscRefIdeal.nD Cert.DiscRefIdeal.τ).loc Cert.DiscRefIdeal.main_arg8))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnIdeal_pre_attn_finite [hAttnIdeal : Cert.AttnIdeal.Facts] [hPre_attn_finite : Cert.Pre_attn_finite.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_attn_finite m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def quiescent_AttnRefIdeal_pre_attn_finite [hAttnRefIdeal : Cert.AttnRefIdeal.Facts] [hPre_attn_finite : Cert.Pre_attn_finite.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_attn_finite m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def quiescent_Post [hPost : Cert.Post.Facts] : Prop :=
  ∀ (m : (ℓ : Loc Cert.Post.nD Cert.Post.τ Cert.Post.sig) → Buf (Elt Bits) ℓ) (g : Dev Cert.Post.nD → PrngReg), Pre_Post m →
    θ_run (Cert.Post.defs (F := Bits)) (onTc (τ := Cert.Post.τ) (Cert.Post.main (F := Bits))) ⟨m, fun _ => 0, g⟩ (fun r => (∀ c : Dev Cert.Post.nD,
      r.2.mem ((c.tc : Thread Cert.Post.nD Cert.Post.τ).loc Cert.Post.main_arg0) = m ((c.tc : Thread Cert.Post.nD Cert.Post.τ).loc Cert.Post.main_arg0)
      ∧ r.2.mem ((c.tc : Thread Cert.Post.nD Cert.Post.τ).loc Cert.Post.main_arg1) = m ((c.tc : Thread Cert.Post.nD Cert.Post.τ).loc Cert.Post.main_arg1)
      ∧ r.2.mem ((c.tc : Thread Cert.Post.nD Cert.Post.τ).loc Cert.Post.main_arg2) = m ((c.tc : Thread Cert.Post.nD Cert.Post.τ).loc Cert.Post.main_arg2)
      ∧ r.2.mem ((c.tc : Thread Cert.Post.nD Cert.Post.τ).loc Cert.Post.main_arg3) = m ((c.tc : Thread Cert.Post.nD Cert.Post.τ).loc Cert.Post.main_arg3)
      ∧ r.2.mem ((c.tc : Thread Cert.Post.nD Cert.Post.τ).loc Cert.Post.main_arg4) = m ((c.tc : Thread Cert.Post.nD Cert.Post.τ).loc Cert.Post.main_arg4)
      ∧ r.2.mem ((c.tc : Thread Cert.Post.nD Cert.Post.τ).loc Cert.Post.main_arg5) = m ((c.tc : Thread Cert.Post.nD Cert.Post.τ).loc Cert.Post.main_arg5)
      ∧ r.2.mem ((c.tc : Thread Cert.Post.nD Cert.Post.τ).loc Cert.Post.main_arg6) = m ((c.tc : Thread Cert.Post.nD Cert.Post.τ).loc Cert.Post.main_arg6)
      ∧ r.2.mem ((c.tc : Thread Cert.Post.nD Cert.Post.τ).loc Cert.Post.main_arg7) = m ((c.tc : Thread Cert.Post.nD Cert.Post.τ).loc Cert.Post.main_arg7))
      ∧ r.2.sem = fun _ => 0)

def quiescent_PostIdeal [hPostIdeal : Cert.PostIdeal.Facts] : Prop :=
  ∀ (m : (ℓ : Loc Cert.PostIdeal.nD Cert.PostIdeal.τ Cert.PostIdeal.sig) → Buf (Elt Ideal) ℓ) (g : Dev Cert.PostIdeal.nD → PrngReg), Pre_PostIdeal m →
    θ_run (Cert.PostIdeal.defs (F := Ideal)) (onTc (τ := Cert.PostIdeal.τ) (Cert.PostIdeal.main (F := Ideal))) ⟨m, fun _ => 0, g⟩ (fun r => (∀ c : Dev Cert.PostIdeal.nD,
      r.2.mem ((c.tc : Thread Cert.PostIdeal.nD Cert.PostIdeal.τ).loc Cert.PostIdeal.main_arg0) = m ((c.tc : Thread Cert.PostIdeal.nD Cert.PostIdeal.τ).loc Cert.PostIdeal.main_arg0)
      ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
      ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
      ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
      ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
      ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
      ∧ r.2.mem ((c.tc : Thread Cert.PostIdeal.nD Cert.PostIdeal.τ).loc Cert.PostIdeal.main_arg6) = m ((c.tc : Thread Cert.PostIdeal.nD Cert.PostIdeal.τ).loc Cert.PostIdeal.main_arg6)
      ∧ r.2.mem ((c.tc : Thread Cert.PostIdeal.nD Cert.PostIdeal.τ).loc Cert.PostIdeal.main_arg7) = m ((c.tc : Thread Cert.PostIdeal.nD Cert.PostIdeal.τ).loc Cert.PostIdeal.main_arg7))
      ∧ r.2.sem = fun _ => 0)

def quiescent_PostIdeal_pre_post_finite [hPostIdeal : Cert.PostIdeal.Facts] [hPre_post_finite : Cert.Pre_post_finite.Facts] : Prop :=
  ∀ (m : (ℓ : Loc Cert.PostIdeal.nD Cert.PostIdeal.τ Cert.PostIdeal.sig) → Buf (Elt Ideal) ℓ) (g : Dev Cert.PostIdeal.nD → PrngReg), Pre_PostIdeal_post_finite m →
    θ_run (Cert.PostIdeal.defs (F := Ideal)) (onTc (τ := Cert.PostIdeal.τ) (Cert.PostIdeal.main (F := Ideal))) ⟨m, fun _ => 0, g⟩ (fun r => (∀ c : Dev Cert.PostIdeal.nD,
      r.2.mem ((c.tc : Thread Cert.PostIdeal.nD Cert.PostIdeal.τ).loc Cert.PostIdeal.main_arg0) = m ((c.tc : Thread Cert.PostIdeal.nD Cert.PostIdeal.τ).loc Cert.PostIdeal.main_arg0)
      ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
      ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
      ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
      ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
      ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
      ∧ r.2.mem ((c.tc : Thread Cert.PostIdeal.nD Cert.PostIdeal.τ).loc Cert.PostIdeal.main_arg6) = m ((c.tc : Thread Cert.PostIdeal.nD Cert.PostIdeal.τ).loc Cert.PostIdeal.main_arg6)
      ∧ r.2.mem ((c.tc : Thread Cert.PostIdeal.nD Cert.PostIdeal.τ).loc Cert.PostIdeal.main_arg7) = m ((c.tc : Thread Cert.PostIdeal.nD Cert.PostIdeal.τ).loc Cert.PostIdeal.main_arg7))
      ∧ r.2.sem = fun _ => 0)

def quiescent_PostRefIdeal [hPostRefIdeal : Cert.PostRefIdeal.Facts] : Prop :=
  ∀ (m : (ℓ : Loc Cert.PostRefIdeal.nD Cert.PostRefIdeal.τ Cert.PostRefIdeal.sig) → Buf (Elt Ideal) ℓ) (g : Dev Cert.PostRefIdeal.nD → PrngReg), Pre_PostRefIdeal m →
    θ_run (Cert.PostRefIdeal.defs (F := Ideal)) (onTc (τ := Cert.PostRefIdeal.τ) (Cert.PostRefIdeal.main (F := Ideal))) ⟨m, fun _ => 0, g⟩ (fun r => (∀ c : Dev Cert.PostRefIdeal.nD,
      r.2.mem ((c.tc : Thread Cert.PostRefIdeal.nD Cert.PostRefIdeal.τ).loc Cert.PostRefIdeal.main_arg0) = m ((c.tc : Thread Cert.PostRefIdeal.nD Cert.PostRefIdeal.τ).loc Cert.PostRefIdeal.main_arg0)
      ∧ r.2.mem ((c.tc : Thread Cert.PostRefIdeal.nD Cert.PostRefIdeal.τ).loc Cert.PostRefIdeal.main_arg1) = m ((c.tc : Thread Cert.PostRefIdeal.nD Cert.PostRefIdeal.τ).loc Cert.PostRefIdeal.main_arg1)
      ∧ r.2.mem ((c.tc : Thread Cert.PostRefIdeal.nD Cert.PostRefIdeal.τ).loc Cert.PostRefIdeal.main_arg2) = m ((c.tc : Thread Cert.PostRefIdeal.nD Cert.PostRefIdeal.τ).loc Cert.PostRefIdeal.main_arg2)
      ∧ r.2.mem ((c.tc : Thread Cert.PostRefIdeal.nD Cert.PostRefIdeal.τ).loc Cert.PostRefIdeal.main_arg3) = m ((c.tc : Thread Cert.PostRefIdeal.nD Cert.PostRefIdeal.τ).loc Cert.PostRefIdeal.main_arg3)
      ∧ r.2.mem ((c.tc : Thread Cert.PostRefIdeal.nD Cert.PostRefIdeal.τ).loc Cert.PostRefIdeal.main_arg4) = m ((c.tc : Thread Cert.PostRefIdeal.nD Cert.PostRefIdeal.τ).loc Cert.PostRefIdeal.main_arg4)
      ∧ r.2.mem ((c.tc : Thread Cert.PostRefIdeal.nD Cert.PostRefIdeal.τ).loc Cert.PostRefIdeal.main_arg5) = m ((c.tc : Thread Cert.PostRefIdeal.nD Cert.PostRefIdeal.τ).loc Cert.PostRefIdeal.main_arg5)
      ∧ r.2.mem ((c.tc : Thread Cert.PostRefIdeal.nD Cert.PostRefIdeal.τ).loc Cert.PostRefIdeal.main_arg6) = m ((c.tc : Thread Cert.PostRefIdeal.nD Cert.PostRefIdeal.τ).loc Cert.PostRefIdeal.main_arg6)
      ∧ r.2.mem ((c.tc : Thread Cert.PostRefIdeal.nD Cert.PostRefIdeal.τ).loc Cert.PostRefIdeal.main_arg7) = m ((c.tc : Thread Cert.PostRefIdeal.nD Cert.PostRefIdeal.τ).loc Cert.PostRefIdeal.main_arg7))
      ∧ r.2.sem = fun _ => 0)

def quiescent_PostRefIdeal_pre_post_finite [hPostRefIdeal : Cert.PostRefIdeal.Facts] [hPre_post_finite : Cert.Pre_post_finite.Facts] : Prop :=
  ∀ (m : (ℓ : Loc Cert.PostRefIdeal.nD Cert.PostRefIdeal.τ Cert.PostRefIdeal.sig) → Buf (Elt Ideal) ℓ) (g : Dev Cert.PostRefIdeal.nD → PrngReg), Pre_PostRefIdeal_post_finite m →
    θ_run (Cert.PostRefIdeal.defs (F := Ideal)) (onTc (τ := Cert.PostRefIdeal.τ) (Cert.PostRefIdeal.main (F := Ideal))) ⟨m, fun _ => 0, g⟩ (fun r => (∀ c : Dev Cert.PostRefIdeal.nD,
      r.2.mem ((c.tc : Thread Cert.PostRefIdeal.nD Cert.PostRefIdeal.τ).loc Cert.PostRefIdeal.main_arg0) = m ((c.tc : Thread Cert.PostRefIdeal.nD Cert.PostRefIdeal.τ).loc Cert.PostRefIdeal.main_arg0)
      ∧ r.2.mem ((c.tc : Thread Cert.PostRefIdeal.nD Cert.PostRefIdeal.τ).loc Cert.PostRefIdeal.main_arg1) = m ((c.tc : Thread Cert.PostRefIdeal.nD Cert.PostRefIdeal.τ).loc Cert.PostRefIdeal.main_arg1)
      ∧ r.2.mem ((c.tc : Thread Cert.PostRefIdeal.nD Cert.PostRefIdeal.τ).loc Cert.PostRefIdeal.main_arg2) = m ((c.tc : Thread Cert.PostRefIdeal.nD Cert.PostRefIdeal.τ).loc Cert.PostRefIdeal.main_arg2)
      ∧ r.2.mem ((c.tc : Thread Cert.PostRefIdeal.nD Cert.PostRefIdeal.τ).loc Cert.PostRefIdeal.main_arg3) = m ((c.tc : Thread Cert.PostRefIdeal.nD Cert.PostRefIdeal.τ).loc Cert.PostRefIdeal.main_arg3)
      ∧ r.2.mem ((c.tc : Thread Cert.PostRefIdeal.nD Cert.PostRefIdeal.τ).loc Cert.PostRefIdeal.main_arg4) = m ((c.tc : Thread Cert.PostRefIdeal.nD Cert.PostRefIdeal.τ).loc Cert.PostRefIdeal.main_arg4)
      ∧ r.2.mem ((c.tc : Thread Cert.PostRefIdeal.nD Cert.PostRefIdeal.τ).loc Cert.PostRefIdeal.main_arg5) = m ((c.tc : Thread Cert.PostRefIdeal.nD Cert.PostRefIdeal.τ).loc Cert.PostRefIdeal.main_arg5)
      ∧ r.2.mem ((c.tc : Thread Cert.PostRefIdeal.nD Cert.PostRefIdeal.τ).loc Cert.PostRefIdeal.main_arg6) = m ((c.tc : Thread Cert.PostRefIdeal.nD Cert.PostRefIdeal.τ).loc Cert.PostRefIdeal.main_arg6)
      ∧ r.2.mem ((c.tc : Thread Cert.PostRefIdeal.nD Cert.PostRefIdeal.τ).loc Cert.PostRefIdeal.main_arg7) = m ((c.tc : Thread Cert.PostRefIdeal.nD Cert.PostRefIdeal.τ).loc Cert.PostRefIdeal.main_arg7))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3)
      ∧ r.2.mem ((c.tc : Thread Cert.Out.nD Cert.Out.τ).loc Cert.Out.main_arg4) = m ((c.tc : Thread Cert.Out.nD Cert.Out.τ).loc Cert.Out.main_arg4)
      ∧ r.2.mem ((c.tc : Thread Cert.Out.nD Cert.Out.τ).loc Cert.Out.main_arg5) = m ((c.tc : Thread Cert.Out.nD Cert.Out.τ).loc Cert.Out.main_arg5)
      ∧ r.2.mem ((c.tc : Thread Cert.Out.nD Cert.Out.τ).loc Cert.Out.main_arg6) = m ((c.tc : Thread Cert.Out.nD Cert.Out.τ).loc Cert.Out.main_arg6)
      ∧ r.2.mem ((c.tc : Thread Cert.Out.nD Cert.Out.τ).loc Cert.Out.main_arg7) = m ((c.tc : Thread Cert.Out.nD Cert.Out.τ).loc Cert.Out.main_arg7))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
      ∧ r.2.mem ((c.tc : Thread Cert.OutIdeal.nD Cert.OutIdeal.τ).loc Cert.OutIdeal.main_arg5) = m ((c.tc : Thread Cert.OutIdeal.nD Cert.OutIdeal.τ).loc Cert.OutIdeal.main_arg5)
      ∧ r.2.mem ((c.tc : Thread Cert.OutIdeal.nD Cert.OutIdeal.τ).loc Cert.OutIdeal.main_arg6) = m ((c.tc : Thread Cert.OutIdeal.nD Cert.OutIdeal.τ).loc Cert.OutIdeal.main_arg6)
      ∧ r.2.mem ((c.tc : Thread Cert.OutIdeal.nD Cert.OutIdeal.τ).loc Cert.OutIdeal.main_arg7) = m ((c.tc : Thread Cert.OutIdeal.nD Cert.OutIdeal.τ).loc Cert.OutIdeal.main_arg7))
      ∧ r.2.sem = fun _ => 0)

def quiescent_OutIdeal_pre_out_finite [hOutIdeal : Cert.OutIdeal.Facts] [hPre_out_finite : Cert.Pre_out_finite.Facts] : Prop :=
  ∀ (m : (ℓ : Loc Cert.OutIdeal.nD Cert.OutIdeal.τ Cert.OutIdeal.sig) → Buf (Elt Ideal) ℓ) (g : Dev Cert.OutIdeal.nD → PrngReg), Pre_OutIdeal_out_finite m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
      ∧ r.2.mem ((c.tc : Thread Cert.OutIdeal.nD Cert.OutIdeal.τ).loc Cert.OutIdeal.main_arg5) = m ((c.tc : Thread Cert.OutIdeal.nD Cert.OutIdeal.τ).loc Cert.OutIdeal.main_arg5)
      ∧ r.2.mem ((c.tc : Thread Cert.OutIdeal.nD Cert.OutIdeal.τ).loc Cert.OutIdeal.main_arg6) = m ((c.tc : Thread Cert.OutIdeal.nD Cert.OutIdeal.τ).loc Cert.OutIdeal.main_arg6)
      ∧ r.2.mem ((c.tc : Thread Cert.OutIdeal.nD Cert.OutIdeal.τ).loc Cert.OutIdeal.main_arg7) = m ((c.tc : Thread Cert.OutIdeal.nD Cert.OutIdeal.τ).loc Cert.OutIdeal.main_arg7))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3)
      ∧ r.2.mem ((c.tc : Thread Cert.OutRefIdeal.nD Cert.OutRefIdeal.τ).loc Cert.OutRefIdeal.main_arg4) = m ((c.tc : Thread Cert.OutRefIdeal.nD Cert.OutRefIdeal.τ).loc Cert.OutRefIdeal.main_arg4)
      ∧ r.2.mem ((c.tc : Thread Cert.OutRefIdeal.nD Cert.OutRefIdeal.τ).loc Cert.OutRefIdeal.main_arg5) = m ((c.tc : Thread Cert.OutRefIdeal.nD Cert.OutRefIdeal.τ).loc Cert.OutRefIdeal.main_arg5)
      ∧ r.2.mem ((c.tc : Thread Cert.OutRefIdeal.nD Cert.OutRefIdeal.τ).loc Cert.OutRefIdeal.main_arg6) = m ((c.tc : Thread Cert.OutRefIdeal.nD Cert.OutRefIdeal.τ).loc Cert.OutRefIdeal.main_arg6)
      ∧ r.2.mem ((c.tc : Thread Cert.OutRefIdeal.nD Cert.OutRefIdeal.τ).loc Cert.OutRefIdeal.main_arg7) = m ((c.tc : Thread Cert.OutRefIdeal.nD Cert.OutRefIdeal.τ).loc Cert.OutRefIdeal.main_arg7))
      ∧ r.2.sem = fun _ => 0)

def quiescent_OutRefIdeal_pre_out_finite [hOutRefIdeal : Cert.OutRefIdeal.Facts] [hPre_out_finite : Cert.Pre_out_finite.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal_out_finite m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3)
      ∧ r.2.mem ((c.tc : Thread Cert.OutRefIdeal.nD Cert.OutRefIdeal.τ).loc Cert.OutRefIdeal.main_arg4) = m ((c.tc : Thread Cert.OutRefIdeal.nD Cert.OutRefIdeal.τ).loc Cert.OutRefIdeal.main_arg4)
      ∧ r.2.mem ((c.tc : Thread Cert.OutRefIdeal.nD Cert.OutRefIdeal.τ).loc Cert.OutRefIdeal.main_arg5) = m ((c.tc : Thread Cert.OutRefIdeal.nD Cert.OutRefIdeal.τ).loc Cert.OutRefIdeal.main_arg5)
      ∧ r.2.mem ((c.tc : Thread Cert.OutRefIdeal.nD Cert.OutRefIdeal.τ).loc Cert.OutRefIdeal.main_arg6) = m ((c.tc : Thread Cert.OutRefIdeal.nD Cert.OutRefIdeal.τ).loc Cert.OutRefIdeal.main_arg6)
      ∧ r.2.mem ((c.tc : Thread Cert.OutRefIdeal.nD Cert.OutRefIdeal.τ).loc Cert.OutRefIdeal.main_arg7) = m ((c.tc : Thread Cert.OutRefIdeal.nD Cert.OutRefIdeal.τ).loc Cert.OutRefIdeal.main_arg7))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1)
      ∧ r.2.mem ((c.tc : Thread Cert.Qkv.nD Cert.Qkv.τ).loc Cert.Qkv.main_arg2) = m ((c.tc : Thread Cert.Qkv.nD Cert.Qkv.τ).loc Cert.Qkv.main_arg2)
      ∧ r.2.mem ((c.tc : Thread Cert.Qkv.nD Cert.Qkv.τ).loc Cert.Qkv.main_arg3) = m ((c.tc : Thread Cert.Qkv.nD Cert.Qkv.τ).loc Cert.Qkv.main_arg3)
      ∧ r.2.mem ((c.tc : Thread Cert.Qkv.nD Cert.Qkv.τ).loc Cert.Qkv.main_arg4) = m ((c.tc : Thread Cert.Qkv.nD Cert.Qkv.τ).loc Cert.Qkv.main_arg4)
      ∧ r.2.mem ((c.tc : Thread Cert.Qkv.nD Cert.Qkv.τ).loc Cert.Qkv.main_arg5) = m ((c.tc : Thread Cert.Qkv.nD Cert.Qkv.τ).loc Cert.Qkv.main_arg5)
      ∧ r.2.mem ((c.tc : Thread Cert.Qkv.nD Cert.Qkv.τ).loc Cert.Qkv.main_arg6) = m ((c.tc : Thread Cert.Qkv.nD Cert.Qkv.τ).loc Cert.Qkv.main_arg6)
      ∧ r.2.mem ((c.tc : Thread Cert.Qkv.nD Cert.Qkv.τ).loc Cert.Qkv.main_arg7) = m ((c.tc : Thread Cert.Qkv.nD Cert.Qkv.τ).loc Cert.Qkv.main_arg7)
      ∧ r.2.mem ((c.tc : Thread Cert.Qkv.nD Cert.Qkv.τ).loc Cert.Qkv.main_arg8) = m ((c.tc : Thread Cert.Qkv.nD Cert.Qkv.τ).loc Cert.Qkv.main_arg8)
      ∧ r.2.mem ((c.tc : Thread Cert.Qkv.nD Cert.Qkv.τ).loc Cert.Qkv.main_arg9) = m ((c.tc : Thread Cert.Qkv.nD Cert.Qkv.τ).loc Cert.Qkv.main_arg9))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
      ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
      ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4)
      ∧ r.2.mem ((c.tc : Thread Cert.QkvIdeal.nD Cert.QkvIdeal.τ).loc Cert.QkvIdeal.main_arg5) = m ((c.tc : Thread Cert.QkvIdeal.nD Cert.QkvIdeal.τ).loc Cert.QkvIdeal.main_arg5)
      ∧ r.2.mem ((c.tc : Thread Cert.QkvIdeal.nD Cert.QkvIdeal.τ).loc Cert.QkvIdeal.main_arg6) = m ((c.tc : Thread Cert.QkvIdeal.nD Cert.QkvIdeal.τ).loc Cert.QkvIdeal.main_arg6)
      ∧ r.2.mem ((c.tc : Thread Cert.QkvIdeal.nD Cert.QkvIdeal.τ).loc Cert.QkvIdeal.main_arg7) = m ((c.tc : Thread Cert.QkvIdeal.nD Cert.QkvIdeal.τ).loc Cert.QkvIdeal.main_arg7)
      ∧ r.2.mem ((c.tc : Thread Cert.QkvIdeal.nD Cert.QkvIdeal.τ).loc Cert.QkvIdeal.main_arg8) = m ((c.tc : Thread Cert.QkvIdeal.nD Cert.QkvIdeal.τ).loc Cert.QkvIdeal.main_arg8)
      ∧ r.2.mem ((c.tc : Thread Cert.QkvIdeal.nD Cert.QkvIdeal.τ).loc Cert.QkvIdeal.main_arg9) = m ((c.tc : Thread Cert.QkvIdeal.nD Cert.QkvIdeal.τ).loc Cert.QkvIdeal.main_arg9))
      ∧ r.2.sem = fun _ => 0)

def quiescent_QkvIdeal_pre_qkv_finite [hQkvIdeal : Cert.QkvIdeal.Facts] [hPre_qkv_finite : Cert.Pre_qkv_finite.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal_qkv_finite m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
      ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
      ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4)
      ∧ r.2.mem ((c.tc : Thread Cert.QkvIdeal.nD Cert.QkvIdeal.τ).loc Cert.QkvIdeal.main_arg5) = m ((c.tc : Thread Cert.QkvIdeal.nD Cert.QkvIdeal.τ).loc Cert.QkvIdeal.main_arg5)
      ∧ r.2.mem ((c.tc : Thread Cert.QkvIdeal.nD Cert.QkvIdeal.τ).loc Cert.QkvIdeal.main_arg6) = m ((c.tc : Thread Cert.QkvIdeal.nD Cert.QkvIdeal.τ).loc Cert.QkvIdeal.main_arg6)
      ∧ r.2.mem ((c.tc : Thread Cert.QkvIdeal.nD Cert.QkvIdeal.τ).loc Cert.QkvIdeal.main_arg7) = m ((c.tc : Thread Cert.QkvIdeal.nD Cert.QkvIdeal.τ).loc Cert.QkvIdeal.main_arg7)
      ∧ r.2.mem ((c.tc : Thread Cert.QkvIdeal.nD Cert.QkvIdeal.τ).loc Cert.QkvIdeal.main_arg8) = m ((c.tc : Thread Cert.QkvIdeal.nD Cert.QkvIdeal.τ).loc Cert.QkvIdeal.main_arg8)
      ∧ r.2.mem ((c.tc : Thread Cert.QkvIdeal.nD Cert.QkvIdeal.τ).loc Cert.QkvIdeal.main_arg9) = m ((c.tc : Thread Cert.QkvIdeal.nD Cert.QkvIdeal.τ).loc Cert.QkvIdeal.main_arg9))
      ∧ r.2.sem = fun _ => 0)

def quiescent_QkvRefIdeal [hQkvRefIdeal : Cert.QkvRefIdeal.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1)
      ∧ r.2.mem ((c.tc : Thread Cert.QkvRefIdeal.nD Cert.QkvRefIdeal.τ).loc Cert.QkvRefIdeal.main_arg2) = m ((c.tc : Thread Cert.QkvRefIdeal.nD Cert.QkvRefIdeal.τ).loc Cert.QkvRefIdeal.main_arg2)
      ∧ r.2.mem ((c.tc : Thread Cert.QkvRefIdeal.nD Cert.QkvRefIdeal.τ).loc Cert.QkvRefIdeal.main_arg3) = m ((c.tc : Thread Cert.QkvRefIdeal.nD Cert.QkvRefIdeal.τ).loc Cert.QkvRefIdeal.main_arg3)
      ∧ r.2.mem ((c.tc : Thread Cert.QkvRefIdeal.nD Cert.QkvRefIdeal.τ).loc Cert.QkvRefIdeal.main_arg4) = m ((c.tc : Thread Cert.QkvRefIdeal.nD Cert.QkvRefIdeal.τ).loc Cert.QkvRefIdeal.main_arg4)
      ∧ r.2.mem ((c.tc : Thread Cert.QkvRefIdeal.nD Cert.QkvRefIdeal.τ).loc Cert.QkvRefIdeal.main_arg5) = m ((c.tc : Thread Cert.QkvRefIdeal.nD Cert.QkvRefIdeal.τ).loc Cert.QkvRefIdeal.main_arg5)
      ∧ r.2.mem ((c.tc : Thread Cert.QkvRefIdeal.nD Cert.QkvRefIdeal.τ).loc Cert.QkvRefIdeal.main_arg6) = m ((c.tc : Thread Cert.QkvRefIdeal.nD Cert.QkvRefIdeal.τ).loc Cert.QkvRefIdeal.main_arg6)
      ∧ r.2.mem ((c.tc : Thread Cert.QkvRefIdeal.nD Cert.QkvRefIdeal.τ).loc Cert.QkvRefIdeal.main_arg7) = m ((c.tc : Thread Cert.QkvRefIdeal.nD Cert.QkvRefIdeal.τ).loc Cert.QkvRefIdeal.main_arg7)
      ∧ r.2.mem ((c.tc : Thread Cert.QkvRefIdeal.nD Cert.QkvRefIdeal.τ).loc Cert.QkvRefIdeal.main_arg8) = m ((c.tc : Thread Cert.QkvRefIdeal.nD Cert.QkvRefIdeal.τ).loc Cert.QkvRefIdeal.main_arg8)
      ∧ r.2.mem ((c.tc : Thread Cert.QkvRefIdeal.nD Cert.QkvRefIdeal.τ).loc Cert.QkvRefIdeal.main_arg9) = m ((c.tc : Thread Cert.QkvRefIdeal.nD Cert.QkvRefIdeal.τ).loc Cert.QkvRefIdeal.main_arg9))
      ∧ r.2.sem = fun _ => 0)

def quiescent_QkvRefIdeal_pre_qkv_finite [hQkvRefIdeal : Cert.QkvRefIdeal.Facts] [hPre_qkv_finite : Cert.Pre_qkv_finite.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal_qkv_finite m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1)
      ∧ r.2.mem ((c.tc : Thread Cert.QkvRefIdeal.nD Cert.QkvRefIdeal.τ).loc Cert.QkvRefIdeal.main_arg2) = m ((c.tc : Thread Cert.QkvRefIdeal.nD Cert.QkvRefIdeal.τ).loc Cert.QkvRefIdeal.main_arg2)
      ∧ r.2.mem ((c.tc : Thread Cert.QkvRefIdeal.nD Cert.QkvRefIdeal.τ).loc Cert.QkvRefIdeal.main_arg3) = m ((c.tc : Thread Cert.QkvRefIdeal.nD Cert.QkvRefIdeal.τ).loc Cert.QkvRefIdeal.main_arg3)
      ∧ r.2.mem ((c.tc : Thread Cert.QkvRefIdeal.nD Cert.QkvRefIdeal.τ).loc Cert.QkvRefIdeal.main_arg4) = m ((c.tc : Thread Cert.QkvRefIdeal.nD Cert.QkvRefIdeal.τ).loc Cert.QkvRefIdeal.main_arg4)
      ∧ r.2.mem ((c.tc : Thread Cert.QkvRefIdeal.nD Cert.QkvRefIdeal.τ).loc Cert.QkvRefIdeal.main_arg5) = m ((c.tc : Thread Cert.QkvRefIdeal.nD Cert.QkvRefIdeal.τ).loc Cert.QkvRefIdeal.main_arg5)
      ∧ r.2.mem ((c.tc : Thread Cert.QkvRefIdeal.nD Cert.QkvRefIdeal.τ).loc Cert.QkvRefIdeal.main_arg6) = m ((c.tc : Thread Cert.QkvRefIdeal.nD Cert.QkvRefIdeal.τ).loc Cert.QkvRefIdeal.main_arg6)
      ∧ r.2.mem ((c.tc : Thread Cert.QkvRefIdeal.nD Cert.QkvRefIdeal.τ).loc Cert.QkvRefIdeal.main_arg7) = m ((c.tc : Thread Cert.QkvRefIdeal.nD Cert.QkvRefIdeal.τ).loc Cert.QkvRefIdeal.main_arg7)
      ∧ r.2.mem ((c.tc : Thread Cert.QkvRefIdeal.nD Cert.QkvRefIdeal.τ).loc Cert.QkvRefIdeal.main_arg8) = m ((c.tc : Thread Cert.QkvRefIdeal.nD Cert.QkvRefIdeal.τ).loc Cert.QkvRefIdeal.main_arg8)
      ∧ r.2.mem ((c.tc : Thread Cert.QkvRefIdeal.nD Cert.QkvRefIdeal.τ).loc Cert.QkvRefIdeal.main_arg9) = m ((c.tc : Thread Cert.QkvRefIdeal.nD Cert.QkvRefIdeal.τ).loc Cert.QkvRefIdeal.main_arg9))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2)
      ∧ r.2.mem ((c.tc : Thread Cert.Inproj.nD Cert.Inproj.τ).loc Cert.Inproj.main_arg3) = m ((c.tc : Thread Cert.Inproj.nD Cert.Inproj.τ).loc Cert.Inproj.main_arg3)
      ∧ r.2.mem ((c.tc : Thread Cert.Inproj.nD Cert.Inproj.τ).loc Cert.Inproj.main_arg4) = m ((c.tc : Thread Cert.Inproj.nD Cert.Inproj.τ).loc Cert.Inproj.main_arg4)
      ∧ r.2.mem ((c.tc : Thread Cert.Inproj.nD Cert.Inproj.τ).loc Cert.Inproj.main_arg5) = m ((c.tc : Thread Cert.Inproj.nD Cert.Inproj.τ).loc Cert.Inproj.main_arg5)
      ∧ r.2.mem ((c.tc : Thread Cert.Inproj.nD Cert.Inproj.τ).loc Cert.Inproj.main_arg6) = m ((c.tc : Thread Cert.Inproj.nD Cert.Inproj.τ).loc Cert.Inproj.main_arg6)
      ∧ r.2.mem ((c.tc : Thread Cert.Inproj.nD Cert.Inproj.τ).loc Cert.Inproj.main_arg7) = m ((c.tc : Thread Cert.Inproj.nD Cert.Inproj.τ).loc Cert.Inproj.main_arg7)
      ∧ r.2.mem ((c.tc : Thread Cert.Inproj.nD Cert.Inproj.τ).loc Cert.Inproj.main_arg8) = m ((c.tc : Thread Cert.Inproj.nD Cert.Inproj.τ).loc Cert.Inproj.main_arg8)
      ∧ r.2.mem ((c.tc : Thread Cert.Inproj.nD Cert.Inproj.τ).loc Cert.Inproj.main_arg9) = m ((c.tc : Thread Cert.Inproj.nD Cert.Inproj.τ).loc Cert.Inproj.main_arg9)
      ∧ r.2.mem ((c.tc : Thread Cert.Inproj.nD Cert.Inproj.τ).loc Cert.Inproj.main_arg10) = m ((c.tc : Thread Cert.Inproj.nD Cert.Inproj.τ).loc Cert.Inproj.main_arg10)
      ∧ r.2.mem ((c.tc : Thread Cert.Inproj.nD Cert.Inproj.τ).loc Cert.Inproj.main_arg11) = m ((c.tc : Thread Cert.Inproj.nD Cert.Inproj.τ).loc Cert.Inproj.main_arg11)
      ∧ r.2.mem ((c.tc : Thread Cert.Inproj.nD Cert.Inproj.τ).loc Cert.Inproj.main_arg12) = m ((c.tc : Thread Cert.Inproj.nD Cert.Inproj.τ).loc Cert.Inproj.main_arg12))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
      ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4)
      ∧ r.2.mem ((c.tc : Thread Cert.InprojIdeal.nD Cert.InprojIdeal.τ).loc Cert.InprojIdeal.main_arg5) = m ((c.tc : Thread Cert.InprojIdeal.nD Cert.InprojIdeal.τ).loc Cert.InprojIdeal.main_arg5)
      ∧ r.2.mem ((c.tc : Thread Cert.InprojIdeal.nD Cert.InprojIdeal.τ).loc Cert.InprojIdeal.main_arg6) = m ((c.tc : Thread Cert.InprojIdeal.nD Cert.InprojIdeal.τ).loc Cert.InprojIdeal.main_arg6)
      ∧ r.2.mem ((c.tc : Thread Cert.InprojIdeal.nD Cert.InprojIdeal.τ).loc Cert.InprojIdeal.main_arg7) = m ((c.tc : Thread Cert.InprojIdeal.nD Cert.InprojIdeal.τ).loc Cert.InprojIdeal.main_arg7)
      ∧ r.2.mem ((c.tc : Thread Cert.InprojIdeal.nD Cert.InprojIdeal.τ).loc Cert.InprojIdeal.main_arg8) = m ((c.tc : Thread Cert.InprojIdeal.nD Cert.InprojIdeal.τ).loc Cert.InprojIdeal.main_arg8)
      ∧ r.2.mem ((c.tc : Thread Cert.InprojIdeal.nD Cert.InprojIdeal.τ).loc Cert.InprojIdeal.main_arg9) = m ((c.tc : Thread Cert.InprojIdeal.nD Cert.InprojIdeal.τ).loc Cert.InprojIdeal.main_arg9)
      ∧ r.2.mem ((c.tc : Thread Cert.InprojIdeal.nD Cert.InprojIdeal.τ).loc Cert.InprojIdeal.main_arg10) = m ((c.tc : Thread Cert.InprojIdeal.nD Cert.InprojIdeal.τ).loc Cert.InprojIdeal.main_arg10)
      ∧ r.2.mem ((c.tc : Thread Cert.InprojIdeal.nD Cert.InprojIdeal.τ).loc Cert.InprojIdeal.main_arg11) = m ((c.tc : Thread Cert.InprojIdeal.nD Cert.InprojIdeal.τ).loc Cert.InprojIdeal.main_arg11)
      ∧ r.2.mem ((c.tc : Thread Cert.InprojIdeal.nD Cert.InprojIdeal.τ).loc Cert.InprojIdeal.main_arg12) = m ((c.tc : Thread Cert.InprojIdeal.nD Cert.InprojIdeal.τ).loc Cert.InprojIdeal.main_arg12))
      ∧ r.2.sem = fun _ => 0)

def quiescent_InprojIdeal_pre_inproj_finite [hInprojIdeal : Cert.InprojIdeal.Facts] [hPre_inproj_finite : Cert.Pre_inproj_finite.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal_inproj_finite m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
      ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4)
      ∧ r.2.mem ((c.tc : Thread Cert.InprojIdeal.nD Cert.InprojIdeal.τ).loc Cert.InprojIdeal.main_arg5) = m ((c.tc : Thread Cert.InprojIdeal.nD Cert.InprojIdeal.τ).loc Cert.InprojIdeal.main_arg5)
      ∧ r.2.mem ((c.tc : Thread Cert.InprojIdeal.nD Cert.InprojIdeal.τ).loc Cert.InprojIdeal.main_arg6) = m ((c.tc : Thread Cert.InprojIdeal.nD Cert.InprojIdeal.τ).loc Cert.InprojIdeal.main_arg6)
      ∧ r.2.mem ((c.tc : Thread Cert.InprojIdeal.nD Cert.InprojIdeal.τ).loc Cert.InprojIdeal.main_arg7) = m ((c.tc : Thread Cert.InprojIdeal.nD Cert.InprojIdeal.τ).loc Cert.InprojIdeal.main_arg7)
      ∧ r.2.mem ((c.tc : Thread Cert.InprojIdeal.nD Cert.InprojIdeal.τ).loc Cert.InprojIdeal.main_arg8) = m ((c.tc : Thread Cert.InprojIdeal.nD Cert.InprojIdeal.τ).loc Cert.InprojIdeal.main_arg8)
      ∧ r.2.mem ((c.tc : Thread Cert.InprojIdeal.nD Cert.InprojIdeal.τ).loc Cert.InprojIdeal.main_arg9) = m ((c.tc : Thread Cert.InprojIdeal.nD Cert.InprojIdeal.τ).loc Cert.InprojIdeal.main_arg9)
      ∧ r.2.mem ((c.tc : Thread Cert.InprojIdeal.nD Cert.InprojIdeal.τ).loc Cert.InprojIdeal.main_arg10) = m ((c.tc : Thread Cert.InprojIdeal.nD Cert.InprojIdeal.τ).loc Cert.InprojIdeal.main_arg10)
      ∧ r.2.mem ((c.tc : Thread Cert.InprojIdeal.nD Cert.InprojIdeal.τ).loc Cert.InprojIdeal.main_arg11) = m ((c.tc : Thread Cert.InprojIdeal.nD Cert.InprojIdeal.τ).loc Cert.InprojIdeal.main_arg11)
      ∧ r.2.mem ((c.tc : Thread Cert.InprojIdeal.nD Cert.InprojIdeal.τ).loc Cert.InprojIdeal.main_arg12) = m ((c.tc : Thread Cert.InprojIdeal.nD Cert.InprojIdeal.τ).loc Cert.InprojIdeal.main_arg12))
      ∧ r.2.sem = fun _ => 0)

def quiescent_InprojRefIdeal [hInprojRefIdeal : Cert.InprojRefIdeal.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1)
      ∧ r.2.mem ((c.tc : Thread Cert.InprojRefIdeal.nD Cert.InprojRefIdeal.τ).loc Cert.InprojRefIdeal.main_arg2) = m ((c.tc : Thread Cert.InprojRefIdeal.nD Cert.InprojRefIdeal.τ).loc Cert.InprojRefIdeal.main_arg2)
      ∧ r.2.mem ((c.tc : Thread Cert.InprojRefIdeal.nD Cert.InprojRefIdeal.τ).loc Cert.InprojRefIdeal.main_arg3) = m ((c.tc : Thread Cert.InprojRefIdeal.nD Cert.InprojRefIdeal.τ).loc Cert.InprojRefIdeal.main_arg3)
      ∧ r.2.mem ((c.tc : Thread Cert.InprojRefIdeal.nD Cert.InprojRefIdeal.τ).loc Cert.InprojRefIdeal.main_arg4) = m ((c.tc : Thread Cert.InprojRefIdeal.nD Cert.InprojRefIdeal.τ).loc Cert.InprojRefIdeal.main_arg4)
      ∧ r.2.mem ((c.tc : Thread Cert.InprojRefIdeal.nD Cert.InprojRefIdeal.τ).loc Cert.InprojRefIdeal.main_arg5) = m ((c.tc : Thread Cert.InprojRefIdeal.nD Cert.InprojRefIdeal.τ).loc Cert.InprojRefIdeal.main_arg5)
      ∧ r.2.mem ((c.tc : Thread Cert.InprojRefIdeal.nD Cert.InprojRefIdeal.τ).loc Cert.InprojRefIdeal.main_arg6) = m ((c.tc : Thread Cert.InprojRefIdeal.nD Cert.InprojRefIdeal.τ).loc Cert.InprojRefIdeal.main_arg6)
      ∧ r.2.mem ((c.tc : Thread Cert.InprojRefIdeal.nD Cert.InprojRefIdeal.τ).loc Cert.InprojRefIdeal.main_arg7) = m ((c.tc : Thread Cert.InprojRefIdeal.nD Cert.InprojRefIdeal.τ).loc Cert.InprojRefIdeal.main_arg7)
      ∧ r.2.mem ((c.tc : Thread Cert.InprojRefIdeal.nD Cert.InprojRefIdeal.τ).loc Cert.InprojRefIdeal.main_arg8) = m ((c.tc : Thread Cert.InprojRefIdeal.nD Cert.InprojRefIdeal.τ).loc Cert.InprojRefIdeal.main_arg8)
      ∧ r.2.mem ((c.tc : Thread Cert.InprojRefIdeal.nD Cert.InprojRefIdeal.τ).loc Cert.InprojRefIdeal.main_arg9) = m ((c.tc : Thread Cert.InprojRefIdeal.nD Cert.InprojRefIdeal.τ).loc Cert.InprojRefIdeal.main_arg9)
      ∧ r.2.mem ((c.tc : Thread Cert.InprojRefIdeal.nD Cert.InprojRefIdeal.τ).loc Cert.InprojRefIdeal.main_arg10) = m ((c.tc : Thread Cert.InprojRefIdeal.nD Cert.InprojRefIdeal.τ).loc Cert.InprojRefIdeal.main_arg10)
      ∧ r.2.mem ((c.tc : Thread Cert.InprojRefIdeal.nD Cert.InprojRefIdeal.τ).loc Cert.InprojRefIdeal.main_arg11) = m ((c.tc : Thread Cert.InprojRefIdeal.nD Cert.InprojRefIdeal.τ).loc Cert.InprojRefIdeal.main_arg11)
      ∧ r.2.mem ((c.tc : Thread Cert.InprojRefIdeal.nD Cert.InprojRefIdeal.τ).loc Cert.InprojRefIdeal.main_arg12) = m ((c.tc : Thread Cert.InprojRefIdeal.nD Cert.InprojRefIdeal.τ).loc Cert.InprojRefIdeal.main_arg12))
      ∧ r.2.sem = fun _ => 0)

def quiescent_InprojRefIdeal_pre_inproj_finite [hInprojRefIdeal : Cert.InprojRefIdeal.Facts] [hPre_inproj_finite : Cert.Pre_inproj_finite.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal_inproj_finite m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1)
      ∧ r.2.mem ((c.tc : Thread Cert.InprojRefIdeal.nD Cert.InprojRefIdeal.τ).loc Cert.InprojRefIdeal.main_arg2) = m ((c.tc : Thread Cert.InprojRefIdeal.nD Cert.InprojRefIdeal.τ).loc Cert.InprojRefIdeal.main_arg2)
      ∧ r.2.mem ((c.tc : Thread Cert.InprojRefIdeal.nD Cert.InprojRefIdeal.τ).loc Cert.InprojRefIdeal.main_arg3) = m ((c.tc : Thread Cert.InprojRefIdeal.nD Cert.InprojRefIdeal.τ).loc Cert.InprojRefIdeal.main_arg3)
      ∧ r.2.mem ((c.tc : Thread Cert.InprojRefIdeal.nD Cert.InprojRefIdeal.τ).loc Cert.InprojRefIdeal.main_arg4) = m ((c.tc : Thread Cert.InprojRefIdeal.nD Cert.InprojRefIdeal.τ).loc Cert.InprojRefIdeal.main_arg4)
      ∧ r.2.mem ((c.tc : Thread Cert.InprojRefIdeal.nD Cert.InprojRefIdeal.τ).loc Cert.InprojRefIdeal.main_arg5) = m ((c.tc : Thread Cert.InprojRefIdeal.nD Cert.InprojRefIdeal.τ).loc Cert.InprojRefIdeal.main_arg5)
      ∧ r.2.mem ((c.tc : Thread Cert.InprojRefIdeal.nD Cert.InprojRefIdeal.τ).loc Cert.InprojRefIdeal.main_arg6) = m ((c.tc : Thread Cert.InprojRefIdeal.nD Cert.InprojRefIdeal.τ).loc Cert.InprojRefIdeal.main_arg6)
      ∧ r.2.mem ((c.tc : Thread Cert.InprojRefIdeal.nD Cert.InprojRefIdeal.τ).loc Cert.InprojRefIdeal.main_arg7) = m ((c.tc : Thread Cert.InprojRefIdeal.nD Cert.InprojRefIdeal.τ).loc Cert.InprojRefIdeal.main_arg7)
      ∧ r.2.mem ((c.tc : Thread Cert.InprojRefIdeal.nD Cert.InprojRefIdeal.τ).loc Cert.InprojRefIdeal.main_arg8) = m ((c.tc : Thread Cert.InprojRefIdeal.nD Cert.InprojRefIdeal.τ).loc Cert.InprojRefIdeal.main_arg8)
      ∧ r.2.mem ((c.tc : Thread Cert.InprojRefIdeal.nD Cert.InprojRefIdeal.τ).loc Cert.InprojRefIdeal.main_arg9) = m ((c.tc : Thread Cert.InprojRefIdeal.nD Cert.InprojRefIdeal.τ).loc Cert.InprojRefIdeal.main_arg9)
      ∧ r.2.mem ((c.tc : Thread Cert.InprojRefIdeal.nD Cert.InprojRefIdeal.τ).loc Cert.InprojRefIdeal.main_arg10) = m ((c.tc : Thread Cert.InprojRefIdeal.nD Cert.InprojRefIdeal.τ).loc Cert.InprojRefIdeal.main_arg10)
      ∧ r.2.mem ((c.tc : Thread Cert.InprojRefIdeal.nD Cert.InprojRefIdeal.τ).loc Cert.InprojRefIdeal.main_arg11) = m ((c.tc : Thread Cert.InprojRefIdeal.nD Cert.InprojRefIdeal.τ).loc Cert.InprojRefIdeal.main_arg11)
      ∧ r.2.mem ((c.tc : Thread Cert.InprojRefIdeal.nD Cert.InprojRefIdeal.τ).loc Cert.InprojRefIdeal.main_arg12) = m ((c.tc : Thread Cert.InprojRefIdeal.nD Cert.InprojRefIdeal.τ).loc Cert.InprojRefIdeal.main_arg12))
      ∧ r.2.sem = fun _ => 0)

def preserves_Disc_DiscIdeal : Prop :=
  True

def algebraic_DiscIdeal_DiscRefIdeal_pre_disc_finite [hDiscIdeal : Cert.DiscIdeal.Facts] [hDiscRefIdeal : Cert.DiscRefIdeal.Facts] [hPre_disc_finite : Cert.Pre_disc_finite.Facts] : Prop :=
  ∀ (m : (ℓ : Loc Cert.DiscIdeal.nD Cert.DiscIdeal.τ Cert.DiscIdeal.sig) → Buf (Elt Ideal) ℓ) (g : Dev Cert.DiscIdeal.nD → PrngReg)
    (m' : (ℓ : Loc Cert.DiscRefIdeal.nD Cert.DiscRefIdeal.τ Cert.DiscRefIdeal.sig) → Buf (Elt Ideal) ℓ) (g' : Dev Cert.DiscRefIdeal.nD → PrngReg), Pre_DiscIdeal_disc_finite m →
    (∀ c : Dev Cert.DiscIdeal.nD,
      m' ((c.tc : Thread Cert.DiscRefIdeal.nD Cert.DiscRefIdeal.τ).loc Cert.DiscRefIdeal.main_arg0) = m ((c.tc : Thread Cert.DiscIdeal.nD Cert.DiscIdeal.τ).loc Cert.DiscIdeal.main_arg0)
      ∧ m' ((c.tc : Thread Cert.DiscRefIdeal.nD Cert.DiscRefIdeal.τ).loc Cert.DiscRefIdeal.main_arg1) = m ((c.tc : Thread Cert.DiscIdeal.nD Cert.DiscIdeal.τ).loc Cert.DiscIdeal.main_arg1)
      ∧ m' ((c.tc : Thread Cert.DiscRefIdeal.nD Cert.DiscRefIdeal.τ).loc Cert.DiscRefIdeal.main_arg2) = m ((c.tc : Thread Cert.DiscIdeal.nD Cert.DiscIdeal.τ).loc Cert.DiscIdeal.main_arg2)
      ∧ m' ((c.tc : Thread Cert.DiscRefIdeal.nD Cert.DiscRefIdeal.τ).loc Cert.DiscRefIdeal.main_arg3) = m ((c.tc : Thread Cert.DiscIdeal.nD Cert.DiscIdeal.τ).loc Cert.DiscIdeal.main_arg3)
      ∧ m' ((c.tc : Thread Cert.DiscRefIdeal.nD Cert.DiscRefIdeal.τ).loc Cert.DiscRefIdeal.main_arg4) = m ((c.tc : Thread Cert.DiscIdeal.nD Cert.DiscIdeal.τ).loc Cert.DiscIdeal.main_arg4)
      ∧ m' ((c.tc : Thread Cert.DiscRefIdeal.nD Cert.DiscRefIdeal.τ).loc Cert.DiscRefIdeal.main_arg5) = m ((c.tc : Thread Cert.DiscIdeal.nD Cert.DiscIdeal.τ).loc Cert.DiscIdeal.main_arg5)
      ∧ m' ((c.tc : Thread Cert.DiscRefIdeal.nD Cert.DiscRefIdeal.τ).loc Cert.DiscRefIdeal.main_arg6) = m ((c.tc : Thread Cert.DiscIdeal.nD Cert.DiscIdeal.τ).loc Cert.DiscIdeal.main_arg6)
      ∧ m' ((c.tc : Thread Cert.DiscRefIdeal.nD Cert.DiscRefIdeal.τ).loc Cert.DiscRefIdeal.main_arg7) = m ((c.tc : Thread Cert.DiscIdeal.nD Cert.DiscIdeal.τ).loc Cert.DiscIdeal.main_arg7)
      ∧ m' ((c.tc : Thread Cert.DiscRefIdeal.nD Cert.DiscRefIdeal.τ).loc Cert.DiscRefIdeal.main_arg8) = m ((c.tc : Thread Cert.DiscIdeal.nD Cert.DiscIdeal.τ).loc Cert.DiscIdeal.main_arg8)) →
    ∃ (v0 : (c : Dev Cert.DiscIdeal.nD) → Buf (Elt Ideal) ((c.tc : Thread Cert.DiscIdeal.nD Cert.DiscIdeal.τ).loc Cert.DiscIdeal.main_v14)) (v1 : (c : Dev Cert.DiscIdeal.nD) → Buf (Elt Ideal) ((c.tc : Thread Cert.DiscIdeal.nD Cert.DiscIdeal.τ).loc Cert.DiscIdeal.main_v15)) (v2 : (c : Dev Cert.DiscIdeal.nD) → Buf (Elt Ideal) ((c.tc : Thread Cert.DiscIdeal.nD Cert.DiscIdeal.τ).loc Cert.DiscIdeal.main_v16)) (v3 : (c : Dev Cert.DiscIdeal.nD) → Buf (Elt Ideal) ((c.tc : Thread Cert.DiscIdeal.nD Cert.DiscIdeal.τ).loc Cert.DiscIdeal.main_v18)) (v4 : (c : Dev Cert.DiscIdeal.nD) → Buf (Elt Ideal) ((c.tc : Thread Cert.DiscIdeal.nD Cert.DiscIdeal.τ).loc Cert.DiscIdeal.main_v20)),
      θ_run (Cert.DiscIdeal.defs (F := Ideal)) (onTc (τ := Cert.DiscIdeal.τ) (Cert.DiscIdeal.main (F := Ideal))) ⟨m, fun _ => 0, g⟩ (fun r => ∀ c : Dev Cert.DiscIdeal.nD,
          r.2.mem ((c.tc : Thread Cert.DiscIdeal.nD Cert.DiscIdeal.τ).loc Cert.DiscIdeal.main_v14) = v0 c
          ∧ r.2.mem ((c.tc : Thread Cert.DiscIdeal.nD Cert.DiscIdeal.τ).loc Cert.DiscIdeal.main_v15) = v1 c
          ∧ r.2.mem ((c.tc : Thread Cert.DiscIdeal.nD Cert.DiscIdeal.τ).loc Cert.DiscIdeal.main_v16) = v2 c
          ∧ r.2.mem ((c.tc : Thread Cert.DiscIdeal.nD Cert.DiscIdeal.τ).loc Cert.DiscIdeal.main_v18) = v3 c
          ∧ r.2.mem ((c.tc : Thread Cert.DiscIdeal.nD Cert.DiscIdeal.τ).loc Cert.DiscIdeal.main_v20) = v4 c
          ∧ r.2.mem ((c.tc : Thread Cert.DiscIdeal.nD Cert.DiscIdeal.τ).loc Cert.DiscIdeal.main_arg0) = m ((c.tc : Thread Cert.DiscIdeal.nD Cert.DiscIdeal.τ).loc Cert.DiscIdeal.main_arg0)
          ∧ r.2.mem ((c.tc : Thread Cert.DiscIdeal.nD Cert.DiscIdeal.τ).loc Cert.DiscIdeal.main_arg1) = m ((c.tc : Thread Cert.DiscIdeal.nD Cert.DiscIdeal.τ).loc Cert.DiscIdeal.main_arg1)
          ∧ r.2.mem ((c.tc : Thread Cert.DiscIdeal.nD Cert.DiscIdeal.τ).loc Cert.DiscIdeal.main_arg2) = m ((c.tc : Thread Cert.DiscIdeal.nD Cert.DiscIdeal.τ).loc Cert.DiscIdeal.main_arg2)
          ∧ r.2.mem ((c.tc : Thread Cert.DiscIdeal.nD Cert.DiscIdeal.τ).loc Cert.DiscIdeal.main_arg3) = m ((c.tc : Thread Cert.DiscIdeal.nD Cert.DiscIdeal.τ).loc Cert.DiscIdeal.main_arg3)
          ∧ r.2.mem ((c.tc : Thread Cert.DiscIdeal.nD Cert.DiscIdeal.τ).loc Cert.DiscIdeal.main_arg4) = m ((c.tc : Thread Cert.DiscIdeal.nD Cert.DiscIdeal.τ).loc Cert.DiscIdeal.main_arg4)
          ∧ r.2.mem ((c.tc : Thread Cert.DiscIdeal.nD Cert.DiscIdeal.τ).loc Cert.DiscIdeal.main_arg5) = m ((c.tc : Thread Cert.DiscIdeal.nD Cert.DiscIdeal.τ).loc Cert.DiscIdeal.main_arg5)
          ∧ r.2.mem ((c.tc : Thread Cert.DiscIdeal.nD Cert.DiscIdeal.τ).loc Cert.DiscIdeal.main_arg6) = m ((c.tc : Thread Cert.DiscIdeal.nD Cert.DiscIdeal.τ).loc Cert.DiscIdeal.main_arg6)
          ∧ r.2.mem ((c.tc : Thread Cert.DiscIdeal.nD Cert.DiscIdeal.τ).loc Cert.DiscIdeal.main_arg7) = m ((c.tc : Thread Cert.DiscIdeal.nD Cert.DiscIdeal.τ).loc Cert.DiscIdeal.main_arg7)
          ∧ r.2.mem ((c.tc : Thread Cert.DiscIdeal.nD Cert.DiscIdeal.τ).loc Cert.DiscIdeal.main_arg8) = m ((c.tc : Thread Cert.DiscIdeal.nD Cert.DiscIdeal.τ).loc Cert.DiscIdeal.main_arg8))
      ∧ θ_run (Cert.DiscRefIdeal.defs (F := Ideal)) (onTc (τ := Cert.DiscRefIdeal.τ) (Cert.DiscRefIdeal.main (F := Ideal))) ⟨m', fun _ => 0, g'⟩ (fun r => ∀ c : Dev Cert.DiscRefIdeal.nD,
          r.2.mem ((c.tc : Thread Cert.DiscRefIdeal.nD Cert.DiscRefIdeal.τ).loc Cert.DiscRefIdeal.main_v150) = v0 c
          ∧ r.2.mem ((c.tc : Thread Cert.DiscRefIdeal.nD Cert.DiscRefIdeal.τ).loc Cert.DiscRefIdeal.main_v142) = v1 c
          ∧ r.2.mem ((c.tc : Thread Cert.DiscRefIdeal.nD Cert.DiscRefIdeal.τ).loc Cert.DiscRefIdeal.main_v152) = v2 c
          ∧ r.2.mem ((c.tc : Thread Cert.DiscRefIdeal.nD Cert.DiscRefIdeal.τ).loc Cert.DiscRefIdeal.main_v84) = v3 c
          ∧ r.2.mem ((c.tc : Thread Cert.DiscRefIdeal.nD Cert.DiscRefIdeal.τ).loc Cert.DiscRefIdeal.main_v76) = v4 c
          ∧ r.2.mem ((c.tc : Thread Cert.DiscRefIdeal.nD Cert.DiscRefIdeal.τ).loc Cert.DiscRefIdeal.main_arg0) = m' ((c.tc : Thread Cert.DiscRefIdeal.nD Cert.DiscRefIdeal.τ).loc Cert.DiscRefIdeal.main_arg0)
          ∧ r.2.mem ((c.tc : Thread Cert.DiscRefIdeal.nD Cert.DiscRefIdeal.τ).loc Cert.DiscRefIdeal.main_arg1) = m' ((c.tc : Thread Cert.DiscRefIdeal.nD Cert.DiscRefIdeal.τ).loc Cert.DiscRefIdeal.main_arg1)
          ∧ r.2.mem ((c.tc : Thread Cert.DiscRefIdeal.nD Cert.DiscRefIdeal.τ).loc Cert.DiscRefIdeal.main_arg2) = m' ((c.tc : Thread Cert.DiscRefIdeal.nD Cert.DiscRefIdeal.τ).loc Cert.DiscRefIdeal.main_arg2)
          ∧ r.2.mem ((c.tc : Thread Cert.DiscRefIdeal.nD Cert.DiscRefIdeal.τ).loc Cert.DiscRefIdeal.main_arg3) = m' ((c.tc : Thread Cert.DiscRefIdeal.nD Cert.DiscRefIdeal.τ).loc Cert.DiscRefIdeal.main_arg3)
          ∧ r.2.mem ((c.tc : Thread Cert.DiscRefIdeal.nD Cert.DiscRefIdeal.τ).loc Cert.DiscRefIdeal.main_arg4) = m' ((c.tc : Thread Cert.DiscRefIdeal.nD Cert.DiscRefIdeal.τ).loc Cert.DiscRefIdeal.main_arg4)
          ∧ r.2.mem ((c.tc : Thread Cert.DiscRefIdeal.nD Cert.DiscRefIdeal.τ).loc Cert.DiscRefIdeal.main_arg5) = m' ((c.tc : Thread Cert.DiscRefIdeal.nD Cert.DiscRefIdeal.τ).loc Cert.DiscRefIdeal.main_arg5)
          ∧ r.2.mem ((c.tc : Thread Cert.DiscRefIdeal.nD Cert.DiscRefIdeal.τ).loc Cert.DiscRefIdeal.main_arg6) = m' ((c.tc : Thread Cert.DiscRefIdeal.nD Cert.DiscRefIdeal.τ).loc Cert.DiscRefIdeal.main_arg6)
          ∧ r.2.mem ((c.tc : Thread Cert.DiscRefIdeal.nD Cert.DiscRefIdeal.τ).loc Cert.DiscRefIdeal.main_arg7) = m' ((c.tc : Thread Cert.DiscRefIdeal.nD Cert.DiscRefIdeal.τ).loc Cert.DiscRefIdeal.main_arg7)
          ∧ r.2.mem ((c.tc : Thread Cert.DiscRefIdeal.nD Cert.DiscRefIdeal.τ).loc Cert.DiscRefIdeal.main_arg8) = m' ((c.tc : Thread Cert.DiscRefIdeal.nD Cert.DiscRefIdeal.τ).loc Cert.DiscRefIdeal.main_arg8))

def preserves_Attn_AttnIdeal : Prop :=
  True

def algebraic_AttnIdeal_AttnRefIdeal_pre_attn_finite [hAttnIdeal : Cert.AttnIdeal.Facts] [hAttnRefIdeal : Cert.AttnRefIdeal.Facts] [hPre_attn_finite : Cert.Pre_attn_finite.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_attn_finite m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)) →
    ∃ (v0 : (c : Dev Cert.AttnIdeal.nD) → Buf (Elt Ideal) ((c.tc : Thread Cert.AttnIdeal.nD Cert.AttnIdeal.τ).loc Cert.AttnIdeal.main_v93)) (v1 : (c : Dev Cert.AttnIdeal.nD) → Buf (Elt Ideal) ((c.tc : Thread Cert.AttnIdeal.nD Cert.AttnIdeal.τ).loc Cert.AttnIdeal.main_v103)) (v2 : (c : Dev Cert.AttnIdeal.nD) → Buf (Elt Ideal) ((c.tc : Thread Cert.AttnIdeal.nD Cert.AttnIdeal.τ).loc Cert.AttnIdeal.main_v111)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v93) = v0 c
          ∧ r.2.mem ((c.tc : Thread Cert.AttnIdeal.nD Cert.AttnIdeal.τ).loc Cert.AttnIdeal.main_v103) = v1 c
          ∧ r.2.mem ((c.tc : Thread Cert.AttnIdeal.nD Cert.AttnIdeal.τ).loc Cert.AttnIdeal.main_v111) = v2 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v55) = v0 c
          ∧ r.2.mem ((c.tc : Thread Cert.AttnRefIdeal.nD Cert.AttnRefIdeal.τ).loc Cert.AttnRefIdeal.main_v54) = v1 c
          ∧ r.2.mem ((c.tc : Thread Cert.AttnRefIdeal.nD Cert.AttnRefIdeal.τ).loc Cert.AttnRefIdeal.main_v38) = v2 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3))

def preserves_Post_PostIdeal : Prop :=
  IdealRules.named_const.Statement Cert.PostIdeal.κ "gelu_c" .f32 0x3D372713#32 ((8943 / 200000 : ℝ) : EReal)
  ∧ IdealRules.named_const.Statement Cert.PostIdeal.κ "gelu_c3" .f32 0x3E095D4F#32 ((26829 / 200000 : ℝ) : EReal)

def algebraic_PostIdeal_PostRefIdeal_pre_post_finite [hPostIdeal : Cert.PostIdeal.Facts] [hPostRefIdeal : Cert.PostRefIdeal.Facts] [hPre_post_finite : Cert.Pre_post_finite.Facts] : Prop :=
  ∀ (m : (ℓ : Loc Cert.PostIdeal.nD Cert.PostIdeal.τ Cert.PostIdeal.sig) → Buf (Elt Ideal) ℓ) (g : Dev Cert.PostIdeal.nD → PrngReg)
    (m' : (ℓ : Loc Cert.PostRefIdeal.nD Cert.PostRefIdeal.τ Cert.PostRefIdeal.sig) → Buf (Elt Ideal) ℓ) (g' : Dev Cert.PostRefIdeal.nD → PrngReg), Pre_PostIdeal_post_finite m →
    (∀ c : Dev Cert.PostIdeal.nD,
      m' ((c.tc : Thread Cert.PostRefIdeal.nD Cert.PostRefIdeal.τ).loc Cert.PostRefIdeal.main_arg0) = m ((c.tc : Thread Cert.PostIdeal.nD Cert.PostIdeal.τ).loc Cert.PostIdeal.main_arg0)
      ∧ m' ((c.tc : Thread Cert.PostRefIdeal.nD Cert.PostRefIdeal.τ).loc Cert.PostRefIdeal.main_arg1) = m ((c.tc : Thread Cert.PostIdeal.nD Cert.PostIdeal.τ).loc Cert.PostIdeal.main_arg1)
      ∧ m' ((c.tc : Thread Cert.PostRefIdeal.nD Cert.PostRefIdeal.τ).loc Cert.PostRefIdeal.main_arg2) = m ((c.tc : Thread Cert.PostIdeal.nD Cert.PostIdeal.τ).loc Cert.PostIdeal.main_arg2)
      ∧ m' ((c.tc : Thread Cert.PostRefIdeal.nD Cert.PostRefIdeal.τ).loc Cert.PostRefIdeal.main_arg3) = m ((c.tc : Thread Cert.PostIdeal.nD Cert.PostIdeal.τ).loc Cert.PostIdeal.main_arg3)
      ∧ m' ((c.tc : Thread Cert.PostRefIdeal.nD Cert.PostRefIdeal.τ).loc Cert.PostRefIdeal.main_arg4) = m ((c.tc : Thread Cert.PostIdeal.nD Cert.PostIdeal.τ).loc Cert.PostIdeal.main_arg4)
      ∧ m' ((c.tc : Thread Cert.PostRefIdeal.nD Cert.PostRefIdeal.τ).loc Cert.PostRefIdeal.main_arg5) = m ((c.tc : Thread Cert.PostIdeal.nD Cert.PostIdeal.τ).loc Cert.PostIdeal.main_arg5)
      ∧ m' ((c.tc : Thread Cert.PostRefIdeal.nD Cert.PostRefIdeal.τ).loc Cert.PostRefIdeal.main_arg6) = m ((c.tc : Thread Cert.PostIdeal.nD Cert.PostIdeal.τ).loc Cert.PostIdeal.main_arg6)
      ∧ m' ((c.tc : Thread Cert.PostRefIdeal.nD Cert.PostRefIdeal.τ).loc Cert.PostRefIdeal.main_arg7) = m ((c.tc : Thread Cert.PostIdeal.nD Cert.PostIdeal.τ).loc Cert.PostIdeal.main_arg7)) →
    ∃ (v0 : (c : Dev Cert.PostIdeal.nD) → Buf (Elt Ideal) ((c.tc : Thread Cert.PostIdeal.nD Cert.PostIdeal.τ).loc Cert.PostIdeal.main_v47)) (v1 : (c : Dev Cert.PostIdeal.nD) → Buf (Elt Ideal) ((c.tc : Thread Cert.PostIdeal.nD Cert.PostIdeal.τ).loc Cert.PostIdeal.main_v51)) (v2 : (c : Dev Cert.PostIdeal.nD) → Buf (Elt Ideal) ((c.tc : Thread Cert.PostIdeal.nD Cert.PostIdeal.τ).loc Cert.PostIdeal.main_v43_5)) (v3 : (c : Dev Cert.PostIdeal.nD) → Buf (Elt Ideal) ((c.tc : Thread Cert.PostIdeal.nD Cert.PostIdeal.τ).loc Cert.PostIdeal.main_v43_2)) (v4 : (c : Dev Cert.PostIdeal.nD) → Buf (Elt Ideal) ((c.tc : Thread Cert.PostIdeal.nD Cert.PostIdeal.τ).loc Cert.PostIdeal.main_v43_3)) (v5 : (c : Dev Cert.PostIdeal.nD) → Buf (Elt Ideal) ((c.tc : Thread Cert.PostIdeal.nD Cert.PostIdeal.τ).loc Cert.PostIdeal.main_v43_4)),
      θ_run (Cert.PostIdeal.defs (F := Ideal)) (onTc (τ := Cert.PostIdeal.τ) (Cert.PostIdeal.main (F := Ideal))) ⟨m, fun _ => 0, g⟩ (fun r => ∀ c : Dev Cert.PostIdeal.nD,
          r.2.mem ((c.tc : Thread Cert.PostIdeal.nD Cert.PostIdeal.τ).loc Cert.PostIdeal.main_v47) = v0 c
          ∧ r.2.mem ((c.tc : Thread Cert.PostIdeal.nD Cert.PostIdeal.τ).loc Cert.PostIdeal.main_v51) = v1 c
          ∧ r.2.mem ((c.tc : Thread Cert.PostIdeal.nD Cert.PostIdeal.τ).loc Cert.PostIdeal.main_v43_5) = v2 c
          ∧ r.2.mem ((c.tc : Thread Cert.PostIdeal.nD Cert.PostIdeal.τ).loc Cert.PostIdeal.main_v43_2) = v3 c
          ∧ r.2.mem ((c.tc : Thread Cert.PostIdeal.nD Cert.PostIdeal.τ).loc Cert.PostIdeal.main_v43_3) = v4 c
          ∧ r.2.mem ((c.tc : Thread Cert.PostIdeal.nD Cert.PostIdeal.τ).loc Cert.PostIdeal.main_v43_4) = v5 c
          ∧ r.2.mem ((c.tc : Thread Cert.PostIdeal.nD Cert.PostIdeal.τ).loc Cert.PostIdeal.main_arg0) = m ((c.tc : Thread Cert.PostIdeal.nD Cert.PostIdeal.τ).loc Cert.PostIdeal.main_arg0)
          ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
          ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
          ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
          ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
          ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
          ∧ r.2.mem ((c.tc : Thread Cert.PostIdeal.nD Cert.PostIdeal.τ).loc Cert.PostIdeal.main_arg6) = m ((c.tc : Thread Cert.PostIdeal.nD Cert.PostIdeal.τ).loc Cert.PostIdeal.main_arg6)
          ∧ r.2.mem ((c.tc : Thread Cert.PostIdeal.nD Cert.PostIdeal.τ).loc Cert.PostIdeal.main_arg7) = m ((c.tc : Thread Cert.PostIdeal.nD Cert.PostIdeal.τ).loc Cert.PostIdeal.main_arg7))
      ∧ θ_run (Cert.PostRefIdeal.defs (F := Ideal)) (onTc (τ := Cert.PostRefIdeal.τ) (Cert.PostRefIdeal.main (F := Ideal))) ⟨m', fun _ => 0, g'⟩ (fun r => ∀ c : Dev Cert.PostRefIdeal.nD,
          r.2.mem ((c.tc : Thread Cert.PostRefIdeal.nD Cert.PostRefIdeal.τ).loc Cert.PostRefIdeal.main_v101) = v0 c
          ∧ r.2.mem ((c.tc : Thread Cert.PostRefIdeal.nD Cert.PostRefIdeal.τ).loc Cert.PostRefIdeal.main_v78) = v1 c
          ∧ r.2.mem ((c.tc : Thread Cert.PostRefIdeal.nD Cert.PostRefIdeal.τ).loc Cert.PostRefIdeal.main_v106) = v2 c
          ∧ r.2.mem ((c.tc : Thread Cert.PostRefIdeal.nD Cert.PostRefIdeal.τ).loc Cert.PostRefIdeal.main_v88) = v3 c
          ∧ r.2.mem ((c.tc : Thread Cert.PostRefIdeal.nD Cert.PostRefIdeal.τ).loc Cert.PostRefIdeal.main_v86) = v4 c
          ∧ r.2.mem ((c.tc : Thread Cert.PostRefIdeal.nD Cert.PostRefIdeal.τ).loc Cert.PostRefIdeal.main_v59) = v5 c
          ∧ r.2.mem ((c.tc : Thread Cert.PostRefIdeal.nD Cert.PostRefIdeal.τ).loc Cert.PostRefIdeal.main_arg0) = m' ((c.tc : Thread Cert.PostRefIdeal.nD Cert.PostRefIdeal.τ).loc Cert.PostRefIdeal.main_arg0)
          ∧ r.2.mem ((c.tc : Thread Cert.PostRefIdeal.nD Cert.PostRefIdeal.τ).loc Cert.PostRefIdeal.main_arg1) = m' ((c.tc : Thread Cert.PostRefIdeal.nD Cert.PostRefIdeal.τ).loc Cert.PostRefIdeal.main_arg1)
          ∧ r.2.mem ((c.tc : Thread Cert.PostRefIdeal.nD Cert.PostRefIdeal.τ).loc Cert.PostRefIdeal.main_arg2) = m' ((c.tc : Thread Cert.PostRefIdeal.nD Cert.PostRefIdeal.τ).loc Cert.PostRefIdeal.main_arg2)
          ∧ r.2.mem ((c.tc : Thread Cert.PostRefIdeal.nD Cert.PostRefIdeal.τ).loc Cert.PostRefIdeal.main_arg3) = m' ((c.tc : Thread Cert.PostRefIdeal.nD Cert.PostRefIdeal.τ).loc Cert.PostRefIdeal.main_arg3)
          ∧ r.2.mem ((c.tc : Thread Cert.PostRefIdeal.nD Cert.PostRefIdeal.τ).loc Cert.PostRefIdeal.main_arg4) = m' ((c.tc : Thread Cert.PostRefIdeal.nD Cert.PostRefIdeal.τ).loc Cert.PostRefIdeal.main_arg4)
          ∧ r.2.mem ((c.tc : Thread Cert.PostRefIdeal.nD Cert.PostRefIdeal.τ).loc Cert.PostRefIdeal.main_arg5) = m' ((c.tc : Thread Cert.PostRefIdeal.nD Cert.PostRefIdeal.τ).loc Cert.PostRefIdeal.main_arg5)
          ∧ r.2.mem ((c.tc : Thread Cert.PostRefIdeal.nD Cert.PostRefIdeal.τ).loc Cert.PostRefIdeal.main_arg6) = m' ((c.tc : Thread Cert.PostRefIdeal.nD Cert.PostRefIdeal.τ).loc Cert.PostRefIdeal.main_arg6)
          ∧ r.2.mem ((c.tc : Thread Cert.PostRefIdeal.nD Cert.PostRefIdeal.τ).loc Cert.PostRefIdeal.main_arg7) = m' ((c.tc : Thread Cert.PostRefIdeal.nD Cert.PostRefIdeal.τ).loc Cert.PostRefIdeal.main_arg7))

def preserves_Out_OutIdeal : Prop :=
  True

def algebraic_OutIdeal_OutRefIdeal_pre_out_finite [hOutIdeal : Cert.OutIdeal.Facts] [hOutRefIdeal : Cert.OutRefIdeal.Facts] [hPre_out_finite : Cert.Pre_out_finite.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal_out_finite m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)
      ∧ m' ((c.tc : Thread Cert.OutRefIdeal.nD Cert.OutRefIdeal.τ).loc Cert.OutRefIdeal.main_arg4) = m ((c.tc : Thread Cert.OutIdeal.nD Cert.OutIdeal.τ).loc Cert.OutIdeal.main_arg4)
      ∧ m' ((c.tc : Thread Cert.OutRefIdeal.nD Cert.OutRefIdeal.τ).loc Cert.OutRefIdeal.main_arg5) = m ((c.tc : Thread Cert.OutIdeal.nD Cert.OutIdeal.τ).loc Cert.OutIdeal.main_arg5)
      ∧ m' ((c.tc : Thread Cert.OutRefIdeal.nD Cert.OutRefIdeal.τ).loc Cert.OutRefIdeal.main_arg6) = m ((c.tc : Thread Cert.OutIdeal.nD Cert.OutIdeal.τ).loc Cert.OutIdeal.main_arg6)
      ∧ m' ((c.tc : Thread Cert.OutRefIdeal.nD Cert.OutRefIdeal.τ).loc Cert.OutRefIdeal.main_arg7) = m ((c.tc : Thread Cert.OutIdeal.nD Cert.OutIdeal.τ).loc Cert.OutIdeal.main_arg7)) →
    ∃ (v0 : (c : Dev Cert.OutIdeal.nD) → Buf (Elt Ideal) ((c.tc : Thread Cert.OutIdeal.nD Cert.OutIdeal.τ).loc Cert.OutIdeal.main_v26)) (v1 : (c : Dev Cert.OutIdeal.nD) → Buf (Elt Ideal) ((c.tc : Thread Cert.OutIdeal.nD Cert.OutIdeal.τ).loc Cert.OutIdeal.main_v30)) (v2 : (c : Dev Cert.OutIdeal.nD) → Buf (Elt Ideal) ((c.tc : Thread Cert.OutIdeal.nD Cert.OutIdeal.τ).loc Cert.OutIdeal.main_v34)) (v3 : (c : Dev Cert.OutIdeal.nD) → Buf (Elt Ideal) ((c.tc : Thread Cert.OutIdeal.nD Cert.OutIdeal.τ).loc Cert.OutIdeal.main_v38)) (v4 : (c : Dev Cert.OutIdeal.nD) → Buf (Elt Ideal) ((c.tc : Thread Cert.OutIdeal.nD Cert.OutIdeal.τ).loc Cert.OutIdeal.main_v42)) (v5 : (c : Dev Cert.OutIdeal.nD) → Buf (Elt Ideal) ((c.tc : Thread Cert.OutIdeal.nD Cert.OutIdeal.τ).loc Cert.OutIdeal.main_v25_7)) (v6 : (c : Dev Cert.OutIdeal.nD) → Buf (Elt Ideal) ((c.tc : Thread Cert.OutIdeal.nD Cert.OutIdeal.τ).loc Cert.OutIdeal.main_v25_6)) (v7 : (c : Dev Cert.OutIdeal.nD) → Buf (Elt Ideal) ((c.tc : Thread Cert.OutIdeal.nD Cert.OutIdeal.τ).loc Cert.OutIdeal.main_v25_8)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v26) = v0 c
          ∧ r.2.mem ((c.tc : Thread Cert.OutIdeal.nD Cert.OutIdeal.τ).loc Cert.OutIdeal.main_v30) = v1 c
          ∧ r.2.mem ((c.tc : Thread Cert.OutIdeal.nD Cert.OutIdeal.τ).loc Cert.OutIdeal.main_v34) = v2 c
          ∧ r.2.mem ((c.tc : Thread Cert.OutIdeal.nD Cert.OutIdeal.τ).loc Cert.OutIdeal.main_v38) = v3 c
          ∧ r.2.mem ((c.tc : Thread Cert.OutIdeal.nD Cert.OutIdeal.τ).loc Cert.OutIdeal.main_v42) = v4 c
          ∧ r.2.mem ((c.tc : Thread Cert.OutIdeal.nD Cert.OutIdeal.τ).loc Cert.OutIdeal.main_v25_7) = v5 c
          ∧ r.2.mem ((c.tc : Thread Cert.OutIdeal.nD Cert.OutIdeal.τ).loc Cert.OutIdeal.main_v25_6) = v6 c
          ∧ r.2.mem ((c.tc : Thread Cert.OutIdeal.nD Cert.OutIdeal.τ).loc Cert.OutIdeal.main_v25_8) = v7 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
          ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
          ∧ r.2.mem ((c.tc : Thread Cert.OutIdeal.nD Cert.OutIdeal.τ).loc Cert.OutIdeal.main_arg5) = m ((c.tc : Thread Cert.OutIdeal.nD Cert.OutIdeal.τ).loc Cert.OutIdeal.main_arg5)
          ∧ r.2.mem ((c.tc : Thread Cert.OutIdeal.nD Cert.OutIdeal.τ).loc Cert.OutIdeal.main_arg6) = m ((c.tc : Thread Cert.OutIdeal.nD Cert.OutIdeal.τ).loc Cert.OutIdeal.main_arg6)
          ∧ r.2.mem ((c.tc : Thread Cert.OutIdeal.nD Cert.OutIdeal.τ).loc Cert.OutIdeal.main_arg7) = m ((c.tc : Thread Cert.OutIdeal.nD Cert.OutIdeal.τ).loc Cert.OutIdeal.main_arg7))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v44) = v0 c
          ∧ r.2.mem ((c.tc : Thread Cert.OutRefIdeal.nD Cert.OutRefIdeal.τ).loc Cert.OutRefIdeal.main_v96) = v1 c
          ∧ r.2.mem ((c.tc : Thread Cert.OutRefIdeal.nD Cert.OutRefIdeal.τ).loc Cert.OutRefIdeal.main_v97) = v2 c
          ∧ r.2.mem ((c.tc : Thread Cert.OutRefIdeal.nD Cert.OutRefIdeal.τ).loc Cert.OutRefIdeal.main_v75) = v3 c
          ∧ r.2.mem ((c.tc : Thread Cert.OutRefIdeal.nD Cert.OutRefIdeal.τ).loc Cert.OutRefIdeal.main_v51) = v4 c
          ∧ r.2.mem ((c.tc : Thread Cert.OutRefIdeal.nD Cert.OutRefIdeal.τ).loc Cert.OutRefIdeal.main_v72) = v5 c
          ∧ r.2.mem ((c.tc : Thread Cert.OutRefIdeal.nD Cert.OutRefIdeal.τ).loc Cert.OutRefIdeal.main_v54) = v6 c
          ∧ r.2.mem ((c.tc : Thread Cert.OutRefIdeal.nD Cert.OutRefIdeal.τ).loc Cert.OutRefIdeal.main_v78) = v7 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3)
          ∧ r.2.mem ((c.tc : Thread Cert.OutRefIdeal.nD Cert.OutRefIdeal.τ).loc Cert.OutRefIdeal.main_arg4) = m' ((c.tc : Thread Cert.OutRefIdeal.nD Cert.OutRefIdeal.τ).loc Cert.OutRefIdeal.main_arg4)
          ∧ r.2.mem ((c.tc : Thread Cert.OutRefIdeal.nD Cert.OutRefIdeal.τ).loc Cert.OutRefIdeal.main_arg5) = m' ((c.tc : Thread Cert.OutRefIdeal.nD Cert.OutRefIdeal.τ).loc Cert.OutRefIdeal.main_arg5)
          ∧ r.2.mem ((c.tc : Thread Cert.OutRefIdeal.nD Cert.OutRefIdeal.τ).loc Cert.OutRefIdeal.main_arg6) = m' ((c.tc : Thread Cert.OutRefIdeal.nD Cert.OutRefIdeal.τ).loc Cert.OutRefIdeal.main_arg6)
          ∧ r.2.mem ((c.tc : Thread Cert.OutRefIdeal.nD Cert.OutRefIdeal.τ).loc Cert.OutRefIdeal.main_arg7) = m' ((c.tc : Thread Cert.OutRefIdeal.nD Cert.OutRefIdeal.τ).loc Cert.OutRefIdeal.main_arg7))

def preserves_Qkv_QkvIdeal : Prop :=
  IdealRules.named_const.Statement Cert.QkvIdeal.κ "inv_sqrt" .f32 0x3DD105EC#32 (((Real.sqrt 96)⁻¹ : ℝ) : EReal)
  ∧ IdealRules.named_const.Statement Cert.QkvIdeal.κ "ln2" .f32 0x3F317218#32 ((Real.log 2 : ℝ) : EReal)

def algebraic_QkvIdeal_QkvRefIdeal_pre_qkv_finite [hQkvIdeal : Cert.QkvIdeal.Facts] [hQkvRefIdeal : Cert.QkvRefIdeal.Facts] [hPre_qkv_finite : Cert.Pre_qkv_finite.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvRefIdeal.nD Cert.QkvRefIdeal.τ Cert.QkvRefIdeal.sig) → Buf (Elt Ideal) ℓ) (g' : Dev Cert.QkvRefIdeal.nD → PrngReg), Pre_QkvIdeal_qkv_finite m →
    (∀ c : Dev Cert.QkvIdeal.nD,
      m' ((c.tc : Thread Cert.QkvRefIdeal.nD Cert.QkvRefIdeal.τ).loc Cert.QkvRefIdeal.main_arg0) = m ((c.tc : Thread Cert.QkvIdeal.nD Cert.QkvIdeal.τ).loc Cert.QkvIdeal.main_arg0)
      ∧ m' ((c.tc : Thread Cert.QkvRefIdeal.nD Cert.QkvRefIdeal.τ).loc Cert.QkvRefIdeal.main_arg1) = m ((c.tc : Thread Cert.QkvIdeal.nD Cert.QkvIdeal.τ).loc Cert.QkvIdeal.main_arg1)
      ∧ m' ((c.tc : Thread Cert.QkvRefIdeal.nD Cert.QkvRefIdeal.τ).loc Cert.QkvRefIdeal.main_arg2) = m ((c.tc : Thread Cert.QkvIdeal.nD Cert.QkvIdeal.τ).loc Cert.QkvIdeal.main_arg2)
      ∧ m' ((c.tc : Thread Cert.QkvRefIdeal.nD Cert.QkvRefIdeal.τ).loc Cert.QkvRefIdeal.main_arg3) = m ((c.tc : Thread Cert.QkvIdeal.nD Cert.QkvIdeal.τ).loc Cert.QkvIdeal.main_arg3)
      ∧ m' ((c.tc : Thread Cert.QkvRefIdeal.nD Cert.QkvRefIdeal.τ).loc Cert.QkvRefIdeal.main_arg4) = m ((c.tc : Thread Cert.QkvIdeal.nD Cert.QkvIdeal.τ).loc Cert.QkvIdeal.main_arg4)
      ∧ m' ((c.tc : Thread Cert.QkvRefIdeal.nD Cert.QkvRefIdeal.τ).loc Cert.QkvRefIdeal.main_arg5) = m ((c.tc : Thread Cert.QkvIdeal.nD Cert.QkvIdeal.τ).loc Cert.QkvIdeal.main_arg5)
      ∧ m' ((c.tc : Thread Cert.QkvRefIdeal.nD Cert.QkvRefIdeal.τ).loc Cert.QkvRefIdeal.main_arg6) = m ((c.tc : Thread Cert.QkvIdeal.nD Cert.QkvIdeal.τ).loc Cert.QkvIdeal.main_arg6)
      ∧ m' ((c.tc : Thread Cert.QkvRefIdeal.nD Cert.QkvRefIdeal.τ).loc Cert.QkvRefIdeal.main_arg7) = m ((c.tc : Thread Cert.QkvIdeal.nD Cert.QkvIdeal.τ).loc Cert.QkvIdeal.main_arg7)
      ∧ m' ((c.tc : Thread Cert.QkvRefIdeal.nD Cert.QkvRefIdeal.τ).loc Cert.QkvRefIdeal.main_arg8) = m ((c.tc : Thread Cert.QkvIdeal.nD Cert.QkvIdeal.τ).loc Cert.QkvIdeal.main_arg8)
      ∧ m' ((c.tc : Thread Cert.QkvRefIdeal.nD Cert.QkvRefIdeal.τ).loc Cert.QkvRefIdeal.main_arg9) = m ((c.tc : Thread Cert.QkvIdeal.nD Cert.QkvIdeal.τ).loc Cert.QkvIdeal.main_arg9)) →
    ∃ (v0 : (c : Dev Cert.QkvIdeal.nD) → Buf (Elt Ideal) ((c.tc : Thread Cert.QkvIdeal.nD Cert.QkvIdeal.τ).loc Cert.QkvIdeal.main_v55)) (v1 : (c : Dev Cert.QkvIdeal.nD) → Buf (Elt Ideal) ((c.tc : Thread Cert.QkvIdeal.nD Cert.QkvIdeal.τ).loc Cert.QkvIdeal.main_v51_6)) (v2 : (c : Dev Cert.QkvIdeal.nD) → Buf (Elt Ideal) ((c.tc : Thread Cert.QkvIdeal.nD Cert.QkvIdeal.τ).loc Cert.QkvIdeal.main_v61)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v55) = v0 c
          ∧ r.2.mem ((c.tc : Thread Cert.QkvIdeal.nD Cert.QkvIdeal.τ).loc Cert.QkvIdeal.main_v51_6) = v1 c
          ∧ r.2.mem ((c.tc : Thread Cert.QkvIdeal.nD Cert.QkvIdeal.τ).loc Cert.QkvIdeal.main_v61) = v2 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
          ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
          ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
          ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4)
          ∧ r.2.mem ((c.tc : Thread Cert.QkvIdeal.nD Cert.QkvIdeal.τ).loc Cert.QkvIdeal.main_arg5) = m ((c.tc : Thread Cert.QkvIdeal.nD Cert.QkvIdeal.τ).loc Cert.QkvIdeal.main_arg5)
          ∧ r.2.mem ((c.tc : Thread Cert.QkvIdeal.nD Cert.QkvIdeal.τ).loc Cert.QkvIdeal.main_arg6) = m ((c.tc : Thread Cert.QkvIdeal.nD Cert.QkvIdeal.τ).loc Cert.QkvIdeal.main_arg6)
          ∧ r.2.mem ((c.tc : Thread Cert.QkvIdeal.nD Cert.QkvIdeal.τ).loc Cert.QkvIdeal.main_arg7) = m ((c.tc : Thread Cert.QkvIdeal.nD Cert.QkvIdeal.τ).loc Cert.QkvIdeal.main_arg7)
          ∧ r.2.mem ((c.tc : Thread Cert.QkvIdeal.nD Cert.QkvIdeal.τ).loc Cert.QkvIdeal.main_arg8) = m ((c.tc : Thread Cert.QkvIdeal.nD Cert.QkvIdeal.τ).loc Cert.QkvIdeal.main_arg8)
          ∧ r.2.mem ((c.tc : Thread Cert.QkvIdeal.nD Cert.QkvIdeal.τ).loc Cert.QkvIdeal.main_arg9) = m ((c.tc : Thread Cert.QkvIdeal.nD Cert.QkvIdeal.τ).loc Cert.QkvIdeal.main_arg9))
      ∧ θ_run (Cert.QkvRefIdeal.defs (F := Ideal)) (onTc (τ := Cert.QkvRefIdeal.τ) (Cert.QkvRefIdeal.main (F := Ideal))) ⟨m', fun _ => 0, g'⟩ (fun r => ∀ c : Dev Cert.QkvRefIdeal.nD,
          r.2.mem ((c.tc : Thread Cert.QkvRefIdeal.nD Cert.QkvRefIdeal.τ).loc Cert.QkvRefIdeal.main_v148) = v0 c
          ∧ r.2.mem ((c.tc : Thread Cert.QkvRefIdeal.nD Cert.QkvRefIdeal.τ).loc Cert.QkvRefIdeal.main_v132) = v1 c
          ∧ r.2.mem ((c.tc : Thread Cert.QkvRefIdeal.nD Cert.QkvRefIdeal.τ).loc Cert.QkvRefIdeal.main_v128) = v2 c
          ∧ r.2.mem ((c.tc : Thread Cert.QkvRefIdeal.nD Cert.QkvRefIdeal.τ).loc Cert.QkvRefIdeal.main_arg0) = m' ((c.tc : Thread Cert.QkvRefIdeal.nD Cert.QkvRefIdeal.τ).loc Cert.QkvRefIdeal.main_arg0)
          ∧ r.2.mem ((c.tc : Thread Cert.QkvRefIdeal.nD Cert.QkvRefIdeal.τ).loc Cert.QkvRefIdeal.main_arg1) = m' ((c.tc : Thread Cert.QkvRefIdeal.nD Cert.QkvRefIdeal.τ).loc Cert.QkvRefIdeal.main_arg1)
          ∧ r.2.mem ((c.tc : Thread Cert.QkvRefIdeal.nD Cert.QkvRefIdeal.τ).loc Cert.QkvRefIdeal.main_arg2) = m' ((c.tc : Thread Cert.QkvRefIdeal.nD Cert.QkvRefIdeal.τ).loc Cert.QkvRefIdeal.main_arg2)
          ∧ r.2.mem ((c.tc : Thread Cert.QkvRefIdeal.nD Cert.QkvRefIdeal.τ).loc Cert.QkvRefIdeal.main_arg3) = m' ((c.tc : Thread Cert.QkvRefIdeal.nD Cert.QkvRefIdeal.τ).loc Cert.QkvRefIdeal.main_arg3)
          ∧ r.2.mem ((c.tc : Thread Cert.QkvRefIdeal.nD Cert.QkvRefIdeal.τ).loc Cert.QkvRefIdeal.main_arg4) = m' ((c.tc : Thread Cert.QkvRefIdeal.nD Cert.QkvRefIdeal.τ).loc Cert.QkvRefIdeal.main_arg4)
          ∧ r.2.mem ((c.tc : Thread Cert.QkvRefIdeal.nD Cert.QkvRefIdeal.τ).loc Cert.QkvRefIdeal.main_arg5) = m' ((c.tc : Thread Cert.QkvRefIdeal.nD Cert.QkvRefIdeal.τ).loc Cert.QkvRefIdeal.main_arg5)
          ∧ r.2.mem ((c.tc : Thread Cert.QkvRefIdeal.nD Cert.QkvRefIdeal.τ).loc Cert.QkvRefIdeal.main_arg6) = m' ((c.tc : Thread Cert.QkvRefIdeal.nD Cert.QkvRefIdeal.τ).loc Cert.QkvRefIdeal.main_arg6)
          ∧ r.2.mem ((c.tc : Thread Cert.QkvRefIdeal.nD Cert.QkvRefIdeal.τ).loc Cert.QkvRefIdeal.main_arg7) = m' ((c.tc : Thread Cert.QkvRefIdeal.nD Cert.QkvRefIdeal.τ).loc Cert.QkvRefIdeal.main_arg7)
          ∧ r.2.mem ((c.tc : Thread Cert.QkvRefIdeal.nD Cert.QkvRefIdeal.τ).loc Cert.QkvRefIdeal.main_arg8) = m' ((c.tc : Thread Cert.QkvRefIdeal.nD Cert.QkvRefIdeal.τ).loc Cert.QkvRefIdeal.main_arg8)
          ∧ r.2.mem ((c.tc : Thread Cert.QkvRefIdeal.nD Cert.QkvRefIdeal.τ).loc Cert.QkvRefIdeal.main_arg9) = m' ((c.tc : Thread Cert.QkvRefIdeal.nD Cert.QkvRefIdeal.τ).loc Cert.QkvRefIdeal.main_arg9))

def preserves_Inproj_InprojIdeal : Prop :=
  True

def algebraic_InprojIdeal_InprojRefIdeal_pre_inproj_finite [hInprojIdeal : Cert.InprojIdeal.Facts] [hInprojRefIdeal : Cert.InprojRefIdeal.Facts] [hPre_inproj_finite : Cert.Pre_inproj_finite.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojRefIdeal.nD Cert.InprojRefIdeal.τ Cert.InprojRefIdeal.sig) → Buf (Elt Ideal) ℓ) (g' : Dev Cert.InprojRefIdeal.nD → PrngReg), Pre_InprojIdeal_inproj_finite m →
    (∀ c : Dev Cert.InprojIdeal.nD,
      m' ((c.tc : Thread Cert.InprojRefIdeal.nD Cert.InprojRefIdeal.τ).loc Cert.InprojRefIdeal.main_arg0) = m ((c.tc : Thread Cert.InprojIdeal.nD Cert.InprojIdeal.τ).loc Cert.InprojIdeal.main_arg0)
      ∧ m' ((c.tc : Thread Cert.InprojRefIdeal.nD Cert.InprojRefIdeal.τ).loc Cert.InprojRefIdeal.main_arg1) = m ((c.tc : Thread Cert.InprojIdeal.nD Cert.InprojIdeal.τ).loc Cert.InprojIdeal.main_arg1)
      ∧ m' ((c.tc : Thread Cert.InprojRefIdeal.nD Cert.InprojRefIdeal.τ).loc Cert.InprojRefIdeal.main_arg2) = m ((c.tc : Thread Cert.InprojIdeal.nD Cert.InprojIdeal.τ).loc Cert.InprojIdeal.main_arg2)
      ∧ m' ((c.tc : Thread Cert.InprojRefIdeal.nD Cert.InprojRefIdeal.τ).loc Cert.InprojRefIdeal.main_arg3) = m ((c.tc : Thread Cert.InprojIdeal.nD Cert.InprojIdeal.τ).loc Cert.InprojIdeal.main_arg3)
      ∧ m' ((c.tc : Thread Cert.InprojRefIdeal.nD Cert.InprojRefIdeal.τ).loc Cert.InprojRefIdeal.main_arg4) = m ((c.tc : Thread Cert.InprojIdeal.nD Cert.InprojIdeal.τ).loc Cert.InprojIdeal.main_arg4)
      ∧ m' ((c.tc : Thread Cert.InprojRefIdeal.nD Cert.InprojRefIdeal.τ).loc Cert.InprojRefIdeal.main_arg5) = m ((c.tc : Thread Cert.InprojIdeal.nD Cert.InprojIdeal.τ).loc Cert.InprojIdeal.main_arg5)
      ∧ m' ((c.tc : Thread Cert.InprojRefIdeal.nD Cert.InprojRefIdeal.τ).loc Cert.InprojRefIdeal.main_arg6) = m ((c.tc : Thread Cert.InprojIdeal.nD Cert.InprojIdeal.τ).loc Cert.InprojIdeal.main_arg6)
      ∧ m' ((c.tc : Thread Cert.InprojRefIdeal.nD Cert.InprojRefIdeal.τ).loc Cert.InprojRefIdeal.main_arg7) = m ((c.tc : Thread Cert.InprojIdeal.nD Cert.InprojIdeal.τ).loc Cert.InprojIdeal.main_arg7)
      ∧ m' ((c.tc : Thread Cert.InprojRefIdeal.nD Cert.InprojRefIdeal.τ).loc Cert.InprojRefIdeal.main_arg8) = m ((c.tc : Thread Cert.InprojIdeal.nD Cert.InprojIdeal.τ).loc Cert.InprojIdeal.main_arg8)
      ∧ m' ((c.tc : Thread Cert.InprojRefIdeal.nD Cert.InprojRefIdeal.τ).loc Cert.InprojRefIdeal.main_arg9) = m ((c.tc : Thread Cert.InprojIdeal.nD Cert.InprojIdeal.τ).loc Cert.InprojIdeal.main_arg9)
      ∧ m' ((c.tc : Thread Cert.InprojRefIdeal.nD Cert.InprojRefIdeal.τ).loc Cert.InprojRefIdeal.main_arg10) = m ((c.tc : Thread Cert.InprojIdeal.nD Cert.InprojIdeal.τ).loc Cert.InprojIdeal.main_arg10)
      ∧ m' ((c.tc : Thread Cert.InprojRefIdeal.nD Cert.InprojRefIdeal.τ).loc Cert.InprojRefIdeal.main_arg11) = m ((c.tc : Thread Cert.InprojIdeal.nD Cert.InprojIdeal.τ).loc Cert.InprojIdeal.main_arg11)
      ∧ m' ((c.tc : Thread Cert.InprojRefIdeal.nD Cert.InprojRefIdeal.τ).loc Cert.InprojRefIdeal.main_arg12) = m ((c.tc : Thread Cert.InprojIdeal.nD Cert.InprojIdeal.τ).loc Cert.InprojIdeal.main_arg12)) →
    ∃ (v0 : (c : Dev Cert.InprojIdeal.nD) → Buf (Elt Ideal) ((c.tc : Thread Cert.InprojIdeal.nD Cert.InprojIdeal.τ).loc Cert.InprojIdeal.main_v61)) (v1 : (c : Dev Cert.InprojIdeal.nD) → Buf (Elt Ideal) ((c.tc : Thread Cert.InprojIdeal.nD Cert.InprojIdeal.τ).loc Cert.InprojIdeal.main_v57_2)) (v2 : (c : Dev Cert.InprojIdeal.nD) → Buf (Elt Ideal) ((c.tc : Thread Cert.InprojIdeal.nD Cert.InprojIdeal.τ).loc Cert.InprojIdeal.main_v66)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v61) = v0 c
          ∧ r.2.mem ((c.tc : Thread Cert.InprojIdeal.nD Cert.InprojIdeal.τ).loc Cert.InprojIdeal.main_v57_2) = v1 c
          ∧ r.2.mem ((c.tc : Thread Cert.InprojIdeal.nD Cert.InprojIdeal.τ).loc Cert.InprojIdeal.main_v66) = v2 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
          ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
          ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4)
          ∧ r.2.mem ((c.tc : Thread Cert.InprojIdeal.nD Cert.InprojIdeal.τ).loc Cert.InprojIdeal.main_arg5) = m ((c.tc : Thread Cert.InprojIdeal.nD Cert.InprojIdeal.τ).loc Cert.InprojIdeal.main_arg5)
          ∧ r.2.mem ((c.tc : Thread Cert.InprojIdeal.nD Cert.InprojIdeal.τ).loc Cert.InprojIdeal.main_arg6) = m ((c.tc : Thread Cert.InprojIdeal.nD Cert.InprojIdeal.τ).loc Cert.InprojIdeal.main_arg6)
          ∧ r.2.mem ((c.tc : Thread Cert.InprojIdeal.nD Cert.InprojIdeal.τ).loc Cert.InprojIdeal.main_arg7) = m ((c.tc : Thread Cert.InprojIdeal.nD Cert.InprojIdeal.τ).loc Cert.InprojIdeal.main_arg7)
          ∧ r.2.mem ((c.tc : Thread Cert.InprojIdeal.nD Cert.InprojIdeal.τ).loc Cert.InprojIdeal.main_arg8) = m ((c.tc : Thread Cert.InprojIdeal.nD Cert.InprojIdeal.τ).loc Cert.InprojIdeal.main_arg8)
          ∧ r.2.mem ((c.tc : Thread Cert.InprojIdeal.nD Cert.InprojIdeal.τ).loc Cert.InprojIdeal.main_arg9) = m ((c.tc : Thread Cert.InprojIdeal.nD Cert.InprojIdeal.τ).loc Cert.InprojIdeal.main_arg9)
          ∧ r.2.mem ((c.tc : Thread Cert.InprojIdeal.nD Cert.InprojIdeal.τ).loc Cert.InprojIdeal.main_arg10) = m ((c.tc : Thread Cert.InprojIdeal.nD Cert.InprojIdeal.τ).loc Cert.InprojIdeal.main_arg10)
          ∧ r.2.mem ((c.tc : Thread Cert.InprojIdeal.nD Cert.InprojIdeal.τ).loc Cert.InprojIdeal.main_arg11) = m ((c.tc : Thread Cert.InprojIdeal.nD Cert.InprojIdeal.τ).loc Cert.InprojIdeal.main_arg11)
          ∧ r.2.mem ((c.tc : Thread Cert.InprojIdeal.nD Cert.InprojIdeal.τ).loc Cert.InprojIdeal.main_arg12) = m ((c.tc : Thread Cert.InprojIdeal.nD Cert.InprojIdeal.τ).loc Cert.InprojIdeal.main_arg12))
      ∧ θ_run (Cert.InprojRefIdeal.defs (F := Ideal)) (onTc (τ := Cert.InprojRefIdeal.τ) (Cert.InprojRefIdeal.main (F := Ideal))) ⟨m', fun _ => 0, g'⟩ (fun r => ∀ c : Dev Cert.InprojRefIdeal.nD,
          r.2.mem ((c.tc : Thread Cert.InprojRefIdeal.nD Cert.InprojRefIdeal.τ).loc Cert.InprojRefIdeal.main_v51) = v0 c
          ∧ r.2.mem ((c.tc : Thread Cert.InprojRefIdeal.nD Cert.InprojRefIdeal.τ).loc Cert.InprojRefIdeal.main_v34) = v1 c
          ∧ r.2.mem ((c.tc : Thread Cert.InprojRefIdeal.nD Cert.InprojRefIdeal.τ).loc Cert.InprojRefIdeal.main_v30) = v2 c
          ∧ r.2.mem ((c.tc : Thread Cert.InprojRefIdeal.nD Cert.InprojRefIdeal.τ).loc Cert.InprojRefIdeal.main_arg0) = m' ((c.tc : Thread Cert.InprojRefIdeal.nD Cert.InprojRefIdeal.τ).loc Cert.InprojRefIdeal.main_arg0)
          ∧ r.2.mem ((c.tc : Thread Cert.InprojRefIdeal.nD Cert.InprojRefIdeal.τ).loc Cert.InprojRefIdeal.main_arg1) = m' ((c.tc : Thread Cert.InprojRefIdeal.nD Cert.InprojRefIdeal.τ).loc Cert.InprojRefIdeal.main_arg1)
          ∧ r.2.mem ((c.tc : Thread Cert.InprojRefIdeal.nD Cert.InprojRefIdeal.τ).loc Cert.InprojRefIdeal.main_arg2) = m' ((c.tc : Thread Cert.InprojRefIdeal.nD Cert.InprojRefIdeal.τ).loc Cert.InprojRefIdeal.main_arg2)
          ∧ r.2.mem ((c.tc : Thread Cert.InprojRefIdeal.nD Cert.InprojRefIdeal.τ).loc Cert.InprojRefIdeal.main_arg3) = m' ((c.tc : Thread Cert.InprojRefIdeal.nD Cert.InprojRefIdeal.τ).loc Cert.InprojRefIdeal.main_arg3)
          ∧ r.2.mem ((c.tc : Thread Cert.InprojRefIdeal.nD Cert.InprojRefIdeal.τ).loc Cert.InprojRefIdeal.main_arg4) = m' ((c.tc : Thread Cert.InprojRefIdeal.nD Cert.InprojRefIdeal.τ).loc Cert.InprojRefIdeal.main_arg4)
          ∧ r.2.mem ((c.tc : Thread Cert.InprojRefIdeal.nD Cert.InprojRefIdeal.τ).loc Cert.InprojRefIdeal.main_arg5) = m' ((c.tc : Thread Cert.InprojRefIdeal.nD Cert.InprojRefIdeal.τ).loc Cert.InprojRefIdeal.main_arg5)
          ∧ r.2.mem ((c.tc : Thread Cert.InprojRefIdeal.nD Cert.InprojRefIdeal.τ).loc Cert.InprojRefIdeal.main_arg6) = m' ((c.tc : Thread Cert.InprojRefIdeal.nD Cert.InprojRefIdeal.τ).loc Cert.InprojRefIdeal.main_arg6)
          ∧ r.2.mem ((c.tc : Thread Cert.InprojRefIdeal.nD Cert.InprojRefIdeal.τ).loc Cert.InprojRefIdeal.main_arg7) = m' ((c.tc : Thread Cert.InprojRefIdeal.nD Cert.InprojRefIdeal.τ).loc Cert.InprojRefIdeal.main_arg7)
          ∧ r.2.mem ((c.tc : Thread Cert.InprojRefIdeal.nD Cert.InprojRefIdeal.τ).loc Cert.InprojRefIdeal.main_arg8) = m' ((c.tc : Thread Cert.InprojRefIdeal.nD Cert.InprojRefIdeal.τ).loc Cert.InprojRefIdeal.main_arg8)
          ∧ r.2.mem ((c.tc : Thread Cert.InprojRefIdeal.nD Cert.InprojRefIdeal.τ).loc Cert.InprojRefIdeal.main_arg9) = m' ((c.tc : Thread Cert.InprojRefIdeal.nD Cert.InprojRefIdeal.τ).loc Cert.InprojRefIdeal.main_arg9)
          ∧ r.2.mem ((c.tc : Thread Cert.InprojRefIdeal.nD Cert.InprojRefIdeal.τ).loc Cert.InprojRefIdeal.main_arg10) = m' ((c.tc : Thread Cert.InprojRefIdeal.nD Cert.InprojRefIdeal.τ).loc Cert.InprojRefIdeal.main_arg10)
          ∧ r.2.mem ((c.tc : Thread Cert.InprojRefIdeal.nD Cert.InprojRefIdeal.τ).loc Cert.InprojRefIdeal.main_arg11) = m' ((c.tc : Thread Cert.InprojRefIdeal.nD Cert.InprojRefIdeal.τ).loc Cert.InprojRefIdeal.main_arg11)
          ∧ r.2.mem ((c.tc : Thread Cert.InprojRefIdeal.nD Cert.InprojRefIdeal.τ).loc Cert.InprojRefIdeal.main_arg12) = m' ((c.tc : Thread Cert.InprojRefIdeal.nD Cert.InprojRefIdeal.τ).loc Cert.InprojRefIdeal.main_arg12))

def Claim : Prop :=
  ∃ (hDisc : Cert.Disc.Facts) (hDiscIdeal : Cert.DiscIdeal.Facts) (hDiscRefIdeal : Cert.DiscRefIdeal.Facts) (hAttn : Cert.Attn.Facts) (hAttnIdeal : Cert.AttnIdeal.Facts) (hAttnRefIdeal : Cert.AttnRefIdeal.Facts) (hPost : Cert.Post.Facts) (hPostIdeal : Cert.PostIdeal.Facts) (hPostRefIdeal : Cert.PostRefIdeal.Facts) (hOut : Cert.Out.Facts) (hOutIdeal : Cert.OutIdeal.Facts) (hOutRefIdeal : Cert.OutRefIdeal.Facts) (hQkv : Cert.Qkv.Facts) (hQkvIdeal : Cert.QkvIdeal.Facts) (hQkvRefIdeal : Cert.QkvRefIdeal.Facts) (hInproj : Cert.Inproj.Facts) (hInprojIdeal : Cert.InprojIdeal.Facts) (hInprojRefIdeal : Cert.InprojRefIdeal.Facts) (hPre_disc_finite : Cert.Pre_disc_finite.Facts) (hPre_attn_finite : Cert.Pre_attn_finite.Facts) (hPre_post_finite : Cert.Pre_post_finite.Facts) (hPre_out_finite : Cert.Pre_out_finite.Facts) (hPre_qkv_finite : Cert.Pre_qkv_finite.Facts) (hPre_inproj_finite : Cert.Pre_inproj_finite.Facts),
    quiescent_Disc (hDisc := hDisc)
    ∧ quiescent_DiscIdeal (hDiscIdeal := hDiscIdeal)
    ∧ quiescent_DiscIdeal_pre_disc_finite (hDiscIdeal := hDiscIdeal) (hPre_disc_finite := hPre_disc_finite)
    ∧ quiescent_DiscRefIdeal (hDiscRefIdeal := hDiscRefIdeal)
    ∧ quiescent_DiscRefIdeal_pre_disc_finite (hDiscRefIdeal := hDiscRefIdeal) (hPre_disc_finite := hPre_disc_finite)
    ∧ quiescent_Attn (hAttn := hAttn)
    ∧ quiescent_AttnIdeal (hAttnIdeal := hAttnIdeal)
    ∧ quiescent_AttnIdeal_pre_attn_finite (hAttnIdeal := hAttnIdeal) (hPre_attn_finite := hPre_attn_finite)
    ∧ quiescent_AttnRefIdeal (hAttnRefIdeal := hAttnRefIdeal)
    ∧ quiescent_AttnRefIdeal_pre_attn_finite (hAttnRefIdeal := hAttnRefIdeal) (hPre_attn_finite := hPre_attn_finite)
    ∧ quiescent_Post (hPost := hPost)
    ∧ quiescent_PostIdeal (hPostIdeal := hPostIdeal)
    ∧ quiescent_PostIdeal_pre_post_finite (hPostIdeal := hPostIdeal) (hPre_post_finite := hPre_post_finite)
    ∧ quiescent_PostRefIdeal (hPostRefIdeal := hPostRefIdeal)
    ∧ quiescent_PostRefIdeal_pre_post_finite (hPostRefIdeal := hPostRefIdeal) (hPre_post_finite := hPre_post_finite)
    ∧ quiescent_Out (hOut := hOut)
    ∧ quiescent_OutIdeal (hOutIdeal := hOutIdeal)
    ∧ quiescent_OutIdeal_pre_out_finite (hOutIdeal := hOutIdeal) (hPre_out_finite := hPre_out_finite)
    ∧ quiescent_OutRefIdeal (hOutRefIdeal := hOutRefIdeal)
    ∧ quiescent_OutRefIdeal_pre_out_finite (hOutRefIdeal := hOutRefIdeal) (hPre_out_finite := hPre_out_finite)
    ∧ quiescent_Qkv (hQkv := hQkv)
    ∧ quiescent_QkvIdeal (hQkvIdeal := hQkvIdeal)
    ∧ quiescent_QkvIdeal_pre_qkv_finite (hQkvIdeal := hQkvIdeal) (hPre_qkv_finite := hPre_qkv_finite)
    ∧ quiescent_QkvRefIdeal (hQkvRefIdeal := hQkvRefIdeal)
    ∧ quiescent_QkvRefIdeal_pre_qkv_finite (hQkvRefIdeal := hQkvRefIdeal) (hPre_qkv_finite := hPre_qkv_finite)
    ∧ quiescent_Inproj (hInproj := hInproj)
    ∧ quiescent_InprojIdeal (hInprojIdeal := hInprojIdeal)
    ∧ quiescent_InprojIdeal_pre_inproj_finite (hInprojIdeal := hInprojIdeal) (hPre_inproj_finite := hPre_inproj_finite)
    ∧ quiescent_InprojRefIdeal (hInprojRefIdeal := hInprojRefIdeal)
    ∧ quiescent_InprojRefIdeal_pre_inproj_finite (hInprojRefIdeal := hInprojRefIdeal) (hPre_inproj_finite := hPre_inproj_finite)
    ∧ preserves_Disc_DiscIdeal
    ∧ algebraic_DiscIdeal_DiscRefIdeal_pre_disc_finite (hDiscIdeal := hDiscIdeal) (hDiscRefIdeal := hDiscRefIdeal) (hPre_disc_finite := hPre_disc_finite)
    ∧ preserves_Attn_AttnIdeal
    ∧ algebraic_AttnIdeal_AttnRefIdeal_pre_attn_finite (hAttnIdeal := hAttnIdeal) (hAttnRefIdeal := hAttnRefIdeal) (hPre_attn_finite := hPre_attn_finite)
    ∧ preserves_Post_PostIdeal
    ∧ algebraic_PostIdeal_PostRefIdeal_pre_post_finite (hPostIdeal := hPostIdeal) (hPostRefIdeal := hPostRefIdeal) (hPre_post_finite := hPre_post_finite)
    ∧ preserves_Out_OutIdeal
    ∧ algebraic_OutIdeal_OutRefIdeal_pre_out_finite (hOutIdeal := hOutIdeal) (hOutRefIdeal := hOutRefIdeal) (hPre_out_finite := hPre_out_finite)
    ∧ preserves_Qkv_QkvIdeal
    ∧ algebraic_QkvIdeal_QkvRefIdeal_pre_qkv_finite (hQkvIdeal := hQkvIdeal) (hQkvRefIdeal := hQkvRefIdeal) (hPre_qkv_finite := hPre_qkv_finite)
    ∧ preserves_Inproj_InprojIdeal
    ∧ algebraic_InprojIdeal_InprojRefIdeal_pre_inproj_finite (hInprojIdeal := hInprojIdeal) (hInprojRefIdeal := hInprojRefIdeal) (hPre_inproj_finite := hPre_inproj_finite)
-- ==== Pre_attn_finite.lean ====
abbrev S8x16400x96 : Shape := ⟨3, ![8, 16400, 96]⟩
abbrev S8x16400x64 : Shape := ⟨3, ![8, 16400, 64]⟩
abbrev S16400x512 : Shape := ⟨2, ![16400, 512]⟩
abbrev S_ : Shape := ⟨0, ![]⟩

class Facts : Prop where
  bcast_S_S8x16400x96 : S_.BroadcastsInDim S8x16400x96 (![] : Fin 0 → Fin S8x16400x96.rank)
  reducesTo_S8x16400x96_S_d0_1_2 : S8x16400x96.ReducesTo [0, 1, 2] S_
  h_S_ : 0 < S_.numel
  bcast_S_S8x16400x64 : S_.BroadcastsInDim S8x16400x64 (![] : Fin 0 → Fin S8x16400x64.rank)
  reducesTo_S8x16400x64_S_d0_1_2 : S8x16400x64.ReducesTo [0, 1, 2] S_
  bcast_S_S16400x512 : S_.BroadcastsInDim S16400x512 (![] : Fin 0 → Fin S16400x512.rank)
  reducesTo_S16400x512_S_d0_1 : S16400x512.ReducesTo [0, 1] S_

variable [Facts]

def fn_part1 {F : FTy → Type} [FloatOps F] (main_v3 : IVec S_ 1) (main_v7 : IVec S_ 1) (main_v11 : IVec S_ 1) (main_v15 : IVec S_ 1) : IVec S_ 1 :=
  let main_v16 : IVec S_ 1 := andi main_v3 main_v7
  let main_v17 : IVec S_ 1 := andi main_v16 main_v11
  let main_v18 : IVec S_ 1 := andi main_v17 main_v15
  main_v18

def fn {F : FTy → Type} [FloatOps F] (main_arg0 : FVec F S8x16400x96 .f32) (main_arg1 : FVec F S8x16400x96 .f32) (main_arg2 : FVec F S8x16400x64 .f32) (main_arg3 : FVec F S16400x512 .f32) : IVec S_ 1 :=
  let main_v0 : FVec F S8x16400x96 .f32 := Host.absf main_arg0
  let main_cst : FVec F S_ .f32 := constant S_ .f32 0x7F800000#32
  let main_v1 : FVec F S8x16400x96 .f32 := broadcastInDim S8x16400x96 ![] bcast_S_S8x16400x96 main_cst
  let main_v2 : IVec S8x16400x96 1 := cmpf .olt main_v0 main_v1
  let main_c : IVec S_ 1 := constantI S_ 1 1#1
  let main_v3 : IVec S_ 1 := (fun x v => Host.reduce IntOp.andi x v reducesTo_S8x16400x96_S_d0_1_2 h_S_) main_v2 main_c
  let main_v4 : FVec F S8x16400x96 .f32 := Host.absf main_arg1
  let main_cst_0 : FVec F S_ .f32 := constant S_ .f32 0x7F800000#32
  let main_v5 : FVec F S8x16400x96 .f32 := broadcastInDim S8x16400x96 ![] bcast_S_S8x16400x96 main_cst_0
  let main_v6 : IVec S8x16400x96 1 := cmpf .olt main_v4 main_v5
  let main_c_1 : IVec S_ 1 := constantI S_ 1 1#1
  let main_v7 : IVec S_ 1 := (fun x v => Host.reduce IntOp.andi x v reducesTo_S8x16400x96_S_d0_1_2 h_S_) main_v6 main_c_1
  let main_v8 : FVec F S8x16400x64 .f32 := Host.absf main_arg2
  let main_cst_2 : FVec F S_ .f32 := constant S_ .f32 0x7F800000#32
  let main_v9 : FVec F S8x16400x64 .f32 := broadcastInDim S8x16400x64 ![] bcast_S_S8x16400x64 main_cst_2
  let main_v10 : IVec S8x16400x64 1 := cmpf .olt main_v8 main_v9
  let main_c_3 : IVec S_ 1 := constantI S_ 1 1#1
  let main_v11 : IVec S_ 1 := (fun x v => Host.reduce IntOp.andi x v reducesTo_S8x16400x64_S_d0_1_2 h_S_) main_v10 main_c_3
  let main_v12 : FVec F S16400x512 .f32 := Host.absf main_arg3
  let main_cst_4 : FVec F S_ .f32 := constant S_ .f32 0x7F800000#32
  let main_v13 : FVec F S16400x512 .f32 := broadcastInDim S16400x512 ![] bcast_S_S16400x512 main_cst_4
  let main_v14 : IVec S16400x512 1 := cmpf .olt main_v12 main_v13
  let main_c_5 : IVec S_ 1 := constantI S_ 1 1#1
  let main_v15 : IVec S_ 1 := (fun x v => Host.reduce IntOp.andi x v reducesTo_S16400x512_S_d0_1 h_S_) main_v14 main_c_5
  fn_part1 (F := F) main_v3 main_v7 main_v11 main_v15
-- ==== Pre_disc_finite.lean ====
abbrev S2x32x64 : Shape := ⟨3, ![2, 32, 64]⟩
abbrev S2x32 : Shape := ⟨2, ![2, 32]⟩
abbrev S2x32x64x16 : Shape := ⟨4, ![2, 32, 64, 16]⟩
abbrev S2x32x8x64 : Shape := ⟨4, ![2, 32, 8, 64]⟩
abbrev S_ : Shape := ⟨0, ![]⟩

class Facts : Prop where
  bcast_S_S2x32x64 : S_.BroadcastsInDim S2x32x64 (![] : Fin 0 → Fin S2x32x64.rank)
  reducesTo_S2x32x64_S_d0_1_2 : S2x32x64.ReducesTo [0, 1, 2] S_
  h_S_ : 0 < S_.numel
  bcast_S_S2x32 : S_.BroadcastsInDim S2x32 (![] : Fin 0 → Fin S2x32.rank)
  reducesTo_S2x32_S_d0_1 : S2x32.ReducesTo [0, 1] S_
  bcast_S_S2x32x64x16 : S_.BroadcastsInDim S2x32x64x16 (![] : Fin 0 → Fin S2x32x64x16.rank)
  reducesTo_S2x32x64x16_S_d0_1_2_3 : S2x32x64x16.ReducesTo [0, 1, 2, 3] S_
  bcast_S_S2x32x8x64 : S_.BroadcastsInDim S2x32x8x64 (![] : Fin 0 → Fin S2x32x8x64.rank)
  reducesTo_S2x32x8x64_S_d0_1_2_3 : S2x32x8x64.ReducesTo [0, 1, 2, 3] S_

variable [Facts]

def fn_part2 {F : FTy → Type} [FloatOps F] (main_arg0 : FVec F S2x32x64 .f32) (main_arg1 : FVec F S2x32x64 .f32) (main_arg8 : FVec F S2x32x64x16 .f32) (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) : IVec S_ 1 :=
  let main_v32 : FVec F S2x32x64x16 .f32 := Host.absf main_arg8
  let main_cst_14 : FVec F S_ .f32 := constant S_ .f32 0x7F800000#32
  let main_v33 : FVec F S2x32x64x16 .f32 := broadcastInDim S2x32x64x16 ![] bcast_S_S2x32x64x16 main_cst_14
  let main_v34 : IVec S2x32x64x16 1 := cmpf .olt main_v32 main_v33
  let main_c_15 : IVec S_ 1 := constantI S_ 1 1#1
  let main_v35 : IVec S_ 1 := (fun x v => Host.reduce IntOp.andi x v reducesTo_S2x32x64x16_S_d0_1_2_3 h_S_) main_v34 main_c_15
  let main_v36 : IVec S_ 1 := andi main_v3 main_v7
  let main_v37 : IVec S_ 1 := andi main_v36 main_v11
  let main_v38 : IVec S_ 1 := andi main_v37 main_v15
  let main_v39 : IVec S_ 1 := andi main_v38 main_v19
  let main_v40 : IVec S_ 1 := andi main_v39 main_v23
  let main_v41 : IVec S_ 1 := andi main_v40 main_v27
  let main_v42 : IVec S_ 1 := andi main_v41 main_v31
  let main_v43 : IVec S_ 1 := andi main_v42 main_v35
  let main_v44 : FVec F S2x32x64 .f32 := mulf main_arg0 main_arg0
  let main_v45 : FVec F S2x32x64 .f32 := mulf main_arg1 main_arg1
  let main_v46 : FVec F S2x32x64 .f32 := addf main_v44 main_v45
  let main_cst_16 : FVec F S_ .f32 := constant S_ .f32 0x00000000#32
  let main_v47 : FVec F S2x32x64 .f32 := broadcastInDim S2x32x64 ![] bcast_S_S2x32x64 main_cst_16
  let main_v48 : IVec S2x32x64 1 := cmpf .ogt main_v46 main_v47
  let main_c_17 : IVec S_ 1 := constantI S_ 1 1#1
  let main_v49 : IVec S_ 1 := (fun x v => Host.reduce IntOp.andi x v reducesTo_S2x32x64_S_d0_1_2 h_S_) main_v48 main_c_17
  let main_v50 : IVec S_ 1 := andi main_v43 main_v49
  main_v50

def fn_part1 {F : FTy → Type} [FloatOps F] (main_arg0 : FVec F S2x32x64 .f32) (main_arg1 : FVec F S2x32x64 .f32) (main_arg4 : FVec F S2x32x64x16 .f32) (main_arg5 : FVec F S2x32x8x64 .f32) (main_arg6 : FVec F S2x32x8x64 .f32) (main_arg7 : FVec F S2x32x64x16 .f32) (main_arg8 : FVec F S2x32x64x16 .f32) (main_v3 : IVec S_ 1) (main_v7 : IVec S_ 1) (main_v11 : IVec S_ 1) (main_v15 : IVec S_ 1) : IVec S_ 1 :=
  let main_v16 : FVec F S2x32x64x16 .f32 := Host.absf main_arg4
  let main_cst_6 : FVec F S_ .f32 := constant S_ .f32 0x7F800000#32
  let main_v17 : FVec F S2x32x64x16 .f32 := broadcastInDim S2x32x64x16 ![] bcast_S_S2x32x64x16 main_cst_6
  let main_v18 : IVec S2x32x64x16 1 := cmpf .olt main_v16 main_v17
  let main_c_7 : IVec S_ 1 := constantI S_ 1 1#1
  let main_v19 : IVec S_ 1 := (fun x v => Host.reduce IntOp.andi x v reducesTo_S2x32x64x16_S_d0_1_2_3 h_S_) main_v18 main_c_7
  let main_v20 : FVec F S2x32x8x64 .f32 := Host.absf main_arg5
  let main_cst_8 : FVec F S_ .f32 := constant S_ .f32 0x7F800000#32
  let main_v21 : FVec F S2x32x8x64 .f32 := broadcastInDim S2x32x8x64 ![] bcast_S_S2x32x8x64 main_cst_8
  let main_v22 : IVec S2x32x8x64 1 := cmpf .olt main_v20 main_v21
  let main_c_9 : IVec S_ 1 := constantI S_ 1 1#1
  let main_v23 : IVec S_ 1 := (fun x v => Host.reduce IntOp.andi x v reducesTo_S2x32x8x64_S_d0_1_2_3 h_S_) main_v22 main_c_9
  let main_v24 : FVec F S2x32x8x64 .f32 := Host.absf main_arg6
  let main_cst_10 : FVec F S_ .f32 := constant S_ .f32 0x7F800000#32
  let main_v25 : FVec F S2x32x8x64 .f32 := broadcastInDim S2x32x8x64 ![] bcast_S_S2x32x8x64 main_cst_10
  let main_v26 : IVec S2x32x8x64 1 := cmpf .olt main_v24 main_v25
  let main_c_11 : IVec S_ 1 := constantI S_ 1 1#1
  let main_v27 : IVec S_ 1 := (fun x v => Host.reduce IntOp.andi x v reducesTo_S2x32x8x64_S_d0_1_2_3 h_S_) main_v26 main_c_11
  let main_v28 : FVec F S2x32x64x16 .f32 := Host.absf main_arg7
  let main_cst_12 : FVec F S_ .f32 := constant S_ .f32 0x7F800000#32
  let main_v29 : FVec F S2x32x64x16 .f32 := broadcastInDim S2x32x64x16 ![] bcast_S_S2x32x64x16 main_cst_12
  let main_v30 : IVec S2x32x64x16 1 := cmpf .olt main_v28 main_v29
  let main_c_13 : IVec S_ 1 := constantI S_ 1 1#1
  let main_v31 : IVec S_ 1 := (fun x v => Host.reduce IntOp.andi x v reducesTo_S2x32x64x16_S_d0_1_2_3 h_S_) main_v30 main_c_13
  fn_part2 (F := F) main_arg0 main_arg1 main_arg8 main_v3 main_v7 main_v11 main_v15 main_v19 main_v23 main_v27 main_v31

def fn {F : FTy → Type} [FloatOps F] (main_arg0 : FVec F S2x32x64 .f32) (main_arg1 : FVec F S2x32x64 .f32) (main_arg2 : FVec F S2x32 .f32) (main_arg3 : FVec F S2x32x64x16 .f32) (main_arg4 : FVec F S2x32x64x16 .f32) (main_arg5 : FVec F S2x32x8x64 .f32) (main_arg6 : FVec F S2x32x8x64 .f32) (main_arg7 : FVec F S2x32x64x16 .f32) (main_arg8 : FVec F S2x32x64x16 .f32) : IVec S_ 1 :=
  let main_v0 : FVec F S2x32x64 .f32 := Host.absf main_arg0
  let main_cst : FVec F S_ .f32 := constant S_ .f32 0x7F800000#32
  let main_v1 : FVec F S2x32x64 .f32 := broadcastInDim S2x32x64 ![] bcast_S_S2x32x64 main_cst
  let main_v2 : IVec S2x32x64 1 := cmpf .olt main_v0 main_v1
  let main_c : IVec S_ 1 := constantI S_ 1 1#1
  let main_v3 : IVec S_ 1 := (fun x v => Host.reduce IntOp.andi x v reducesTo_S2x32x64_S_d0_1_2 h_S_) main_v2 main_c
  let main_v4 : FVec F S2x32x64 .f32 := Host.absf main_arg1
  let main_cst_0 : FVec F S_ .f32 := constant S_ .f32 0x7F800000#32
  let main_v5 : FVec F S2x32x64 .f32 := broadcastInDim S2x32x64 ![] bcast_S_S2x32x64 main_cst_0
  let main_v6 : IVec S2x32x64 1 := cmpf .olt main_v4 main_v5
  let main_c_1 : IVec S_ 1 := constantI S_ 1 1#1
  let main_v7 : IVec S_ 1 := (fun x v => Host.reduce IntOp.andi x v reducesTo_S2x32x64_S_d0_1_2 h_S_) main_v6 main_c_1
  let main_v8 : FVec F S2x32 .f32 := Host.absf main_arg2
  let main_cst_2 : FVec F S_ .f32 := constant S_ .f32 0x7F800000#32
  let main_v9 : FVec F S2x32 .f32 := broadcastInDim S2x32 ![] bcast_S_S2x32 main_cst_2
  let main_v10 : IVec S2x32 1 := cmpf .olt main_v8 main_v9
  let main_c_3 : IVec S_ 1 := constantI S_ 1 1#1
  let main_v11 : IVec S_ 1 := (fun x v => Host.reduce IntOp.andi x v reducesTo_S2x32_S_d0_1 h_S_) main_v10 main_c_3
  let main_v12 : FVec F S2x32x64x16 .f32 := Host.absf main_arg3
  let main_cst_4 : FVec F S_ .f32 := constant S_ .f32 0x7F800000#32
  let main_v13 : FVec F S2x32x64x16 .f32 := broadcastInDim S2x32x64x16 ![] bcast_S_S2x32x64x16 main_cst_4
  let main_v14 : IVec S2x32x64x16 1 := cmpf .olt main_v12 main_v13
  let main_c_5 : IVec S_ 1 := constantI S_ 1 1#1
  let main_v15 : IVec S_ 1 := (fun x v => Host.reduce IntOp.andi x v reducesTo_S2x32x64x16_S_d0_1_2_3 h_S_) main_v14 main_c_5
  fn_part1 (F := F) main_arg0 main_arg1 main_arg4 main_arg5 main_arg6 main_arg7 main_arg8 main_v3 main_v7 main_v11 main_v15
-- ==== Pre_inproj_finite.lean ====
abbrev S16400x1024 : Shape := ⟨2, ![16400, 1024]⟩
abbrev S1x1024 : Shape := ⟨2, ![1, 1024]⟩
abbrev S1024x1952 : Shape := ⟨2, ![1024, 1952]⟩
abbrev S1x512 : Shape := ⟨2, ![1, 512]⟩
abbrev S16400x256 : Shape := ⟨2, ![16400, 256]⟩
abbrev S16400x128 : Shape := ⟨2, ![16400, 128]⟩
abbrev S16400x32 : Shape := ⟨2, ![16400, 32]⟩
abbrev S16400x512 : Shape := ⟨2, ![16400, 512]⟩
abbrev S_ : Shape := ⟨0, ![]⟩

class Facts : Prop where
  bcast_S_S16400x1024 : S_.BroadcastsInDim S16400x1024 (![] : Fin 0 → Fin S16400x1024.rank)
  reducesTo_S16400x1024_S_d0_1 : S16400x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1024x1952 : S_.BroadcastsInDim S1024x1952 (![] : Fin 0 → Fin S1024x1952.rank)
  reducesTo_S1024x1952_S_d0_1 : S1024x1952.ReducesTo [0, 1] S_
  bcast_S_S1x512 : S_.BroadcastsInDim S1x512 (![] : Fin 0 → Fin S1x512.rank)
  reducesTo_S1x512_S_d0_1 : S1x512.ReducesTo [0, 1] S_
  bcast_S_S16400x256 : S_.BroadcastsInDim S16400x256 (![] : Fin 0 → Fin S16400x256.rank)
  reducesTo_S16400x256_S_d0_1 : S16400x256.ReducesTo [0, 1] S_
  bcast_S_S16400x128 : S_.BroadcastsInDim S16400x128 (![] : Fin 0 → Fin S16400x128.rank)
  reducesTo_S16400x128_S_d0_1 : S16400x128.ReducesTo [0, 1] S_
  bcast_S_S16400x32 : S_.BroadcastsInDim S16400x32 (![] : Fin 0 → Fin S16400x32.rank)
  reducesTo_S16400x32_S_d0_1 : S16400x32.ReducesTo [0, 1] S_
  bcast_S_S16400x512 : S_.BroadcastsInDim S16400x512 (![] : Fin 0 → Fin S16400x512.rank)
  reducesTo_S16400x512_S_d0_1 : S16400x512.ReducesTo [0, 1] S_

variable [Facts]

def fn_part3 {F : FTy → Type} [FloatOps F] (main_arg12 : FVec F S16400x512 .f32) (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) (main_v35 : IVec S_ 1) (main_v39 : IVec S_ 1) (main_v43 : IVec S_ 1) (main_v47 : IVec S_ 1) : IVec S_ 1 :=
  let main_v48 : FVec F S16400x512 .f32 := Host.absf main_arg12
  let main_cst_22 : FVec F S_ .f32 := constant S_ .f32 0x7F800000#32
  let main_v49 : FVec F S16400x512 .f32 := broadcastInDim S16400x512 ![] bcast_S_S16400x512 main_cst_22
  let main_v50 : IVec S16400x512 1 := cmpf .olt main_v48 main_v49
  let main_c_23 : IVec S_ 1 := constantI S_ 1 1#1
  let main_v51 : IVec S_ 1 := (fun x v => Host.reduce IntOp.andi x v reducesTo_S16400x512_S_d0_1 h_S_) main_v50 main_c_23
  let main_v52 : IVec S_ 1 := andi main_v3 main_v7
  let main_v53 : IVec S_ 1 := andi main_v52 main_v11
  let main_v54 : IVec S_ 1 := andi main_v53 main_v15
  let main_v55 : IVec S_ 1 := andi main_v54 main_v19
  let main_v56 : IVec S_ 1 := andi main_v55 main_v23
  let main_v57 : IVec S_ 1 := andi main_v56 main_v27
  let main_v58 : IVec S_ 1 := andi main_v57 main_v31
  let main_v59 : IVec S_ 1 := andi main_v58 main_v35
  let main_v60 : IVec S_ 1 := andi main_v59 main_v39
  let main_v61 : IVec S_ 1 := andi main_v60 main_v43
  let main_v62 : IVec S_ 1 := andi main_v61 main_v47
  let main_v63 : IVec S_ 1 := andi main_v62 main_v51
  main_v63

def fn_part2 {F : FTy → Type} [FloatOps F] (main_arg8 : FVec F S16400x512 .f32) (main_arg9 : FVec F S16400x512 .f32) (main_arg10 : FVec F S16400x512 .f32) (main_arg11 : FVec F S16400x512 .f32) (main_arg12 : FVec F S16400x512 .f32) (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) : IVec S_ 1 :=
  let main_v32 : FVec F S16400x512 .f32 := Host.absf main_arg8
  let main_cst_14 : FVec F S_ .f32 := constant S_ .f32 0x7F800000#32
  let main_v33 : FVec F S16400x512 .f32 := broadcastInDim S16400x512 ![] bcast_S_S16400x512 main_cst_14
  let main_v34 : IVec S16400x512 1 := cmpf .olt main_v32 main_v33
  let main_c_15 : IVec S_ 1 := constantI S_ 1 1#1
  let main_v35 : IVec S_ 1 := (fun x v => Host.reduce IntOp.andi x v reducesTo_S16400x512_S_d0_1 h_S_) main_v34 main_c_15
  let main_v36 : FVec F S16400x512 .f32 := Host.absf main_arg9
  let main_cst_16 : FVec F S_ .f32 := constant S_ .f32 0x7F800000#32
  let main_v37 : FVec F S16400x512 .f32 := broadcastInDim S16400x512 ![] bcast_S_S16400x512 main_cst_16
  let main_v38 : IVec S16400x512 1 := cmpf .olt main_v36 main_v37
  let main_c_17 : IVec S_ 1 := constantI S_ 1 1#1
  let main_v39 : IVec S_ 1 := (fun x v => Host.reduce IntOp.andi x v reducesTo_S16400x512_S_d0_1 h_S_) main_v38 main_c_17
  let main_v40 : FVec F S16400x512 .f32 := Host.absf main_arg10
  let main_cst_18 : FVec F S_ .f32 := constant S_ .f32 0x7F800000#32
  let main_v41 : FVec F S16400x512 .f32 := broadcastInDim S16400x512 ![] bcast_S_S16400x512 main_cst_18
  let main_v42 : IVec S16400x512 1 := cmpf .olt main_v40 main_v41
  let main_c_19 : IVec S_ 1 := constantI S_ 1 1#1
  let main_v43 : IVec S_ 1 := (fun x v => Host.reduce IntOp.andi x v reducesTo_S16400x512_S_d0_1 h_S_) main_v42 main_c_19
  let main_v44 : FVec F S16400x512 .f32 := Host.absf main_arg11
  let main_cst_20 : FVec F S_ .f32 := constant S_ .f32 0x7F800000#32
  let main_v45 : FVec F S16400x512 .f32 := broadcastInDim S16400x512 ![] bcast_S_S16400x512 main_cst_20
  let main_v46 : IVec S16400x512 1 := cmpf .olt main_v44 main_v45
  let main_c_21 : IVec S_ 1 := constantI S_ 1 1#1
  let main_v47 : IVec S_ 1 := (fun x v => Host.reduce IntOp.andi x v reducesTo_S16400x512_S_d0_1 h_S_) main_v46 main_c_21
  fn_part3 (F := F) main_arg12 main_v3 main_v7 main_v11 main_v15 main_v19 main_v23 main_v27 main_v31 main_v35 main_v39 main_v43 main_v47

def fn_part1 {F : FTy → Type} [FloatOps F] (main_arg4 : FVec F S16400x1024 .f32) (main_arg5 : FVec F S16400x256 .f32) (main_arg6 : FVec F S16400x128 .f32) (main_arg7 : FVec F S16400x32 .f32) (main_arg8 : FVec F S16400x512 .f32) (main_arg9 : FVec F S16400x512 .f32) (main_arg10 : FVec F S16400x512 .f32) (main_arg11 : FVec F S16400x512 .f32) (main_arg12 : FVec F S16400x512 .f32) (main_v3 : IVec S_ 1) (main_v7 : IVec S_ 1) (main_v11 : IVec S_ 1) (main_v15 : IVec S_ 1) : IVec S_ 1 :=
  let main_v16 : FVec F S16400x1024 .f32 := Host.absf main_arg4
  let main_cst_6 : FVec F S_ .f32 := constant S_ .f32 0x7F800000#32
  let main_v17 : FVec F S16400x1024 .f32 := broadcastInDim S16400x1024 ![] bcast_S_S16400x1024 main_cst_6
  let main_v18 : IVec S16400x1024 1 := cmpf .olt main_v16 main_v17
  let main_c_7 : IVec S_ 1 := constantI S_ 1 1#1
  let main_v19 : IVec S_ 1 := (fun x v => Host.reduce IntOp.andi x v reducesTo_S16400x1024_S_d0_1 h_S_) main_v18 main_c_7
  let main_v20 : FVec F S16400x256 .f32 := Host.absf main_arg5
  let main_cst_8 : FVec F S_ .f32 := constant S_ .f32 0x7F800000#32
  let main_v21 : FVec F S16400x256 .f32 := broadcastInDim S16400x256 ![] bcast_S_S16400x256 main_cst_8
  let main_v22 : IVec S16400x256 1 := cmpf .olt main_v20 main_v21
  let main_c_9 : IVec S_ 1 := constantI S_ 1 1#1
  let main_v23 : IVec S_ 1 := (fun x v => Host.reduce IntOp.andi x v reducesTo_S16400x256_S_d0_1 h_S_) main_v22 main_c_9
  let main_v24 : FVec F S16400x128 .f32 := Host.absf main_arg6
  let main_cst_10 : FVec F S_ .f32 := constant S_ .f32 0x7F800000#32
  let main_v25 : FVec F S16400x128 .f32 := broadcastInDim S16400x128 ![] bcast_S_S16400x128 main_cst_10
  let main_v26 : IVec S16400x128 1 := cmpf .olt main_v24 main_v25
  let main_c_11 : IVec S_ 1 := constantI S_ 1 1#1
  let main_v27 : IVec S_ 1 := (fun x v => Host.reduce IntOp.andi x v reducesTo_S16400x128_S_d0_1 h_S_) main_v26 main_c_11
  let main_v28 : FVec F S16400x32 .f32 := Host.absf main_arg7
  let main_cst_12 : FVec F S_ .f32 := constant S_ .f32 0x7F800000#32
  let main_v29 : FVec F S16400x32 .f32 := broadcastInDim S16400x32 ![] bcast_S_S16400x32 main_cst_12
  let main_v30 : IVec S16400x32 1 := cmpf .olt main_v28 main_v29
  let main_c_13 : IVec S_ 1 := constantI S_ 1 1#1
  let main_v31 : IVec S_ 1 := (fun x v => Host.reduce IntOp.andi x v reducesTo_S16400x32_S_d0_1 h_S_) main_v30 main_c_13
  fn_part2 (F := F) main_arg8 main_arg9 main_arg10 main_arg11 main_arg12 main_v3 main_v7 main_v11 main_v15 main_v19 main_v23 main_v27 main_v31

def fn {F : FTy → Type} [FloatOps F] (main_arg0 : FVec F S16400x1024 .f32) (main_arg1 : FVec F S1x1024 .f32) (main_arg2 : FVec F S1024x1952 .f32) (main_arg3 : FVec F S1x512 .f32) (main_arg4 : FVec F S16400x1024 .f32) (main_arg5 : FVec F S16400x256 .f32) (main_arg6 : FVec F S16400x128 .f32) (main_arg7 : FVec F S16400x32 .f32) (main_arg8 : FVec F S16400x512 .f32) (main_arg9 : FVec F S16400x512 .f32) (main_arg10 : FVec F S16400x512 .f32) (main_arg11 : FVec F S16400x512 .f32) (main_arg12 : FVec F S16400x512 .f32) : IVec S_ 1 :=
  let main_v0 : FVec F S16400x1024 .f32 := Host.absf main_arg0
  let main_cst : FVec F S_ .f32 := constant S_ .f32 0x7F800000#32
  let main_v1 : FVec F S16400x1024 .f32 := broadcastInDim S16400x1024 ![] bcast_S_S16400x1024 main_cst
  let main_v2 : IVec S16400x1024 1 := cmpf .olt main_v0 main_v1
  let main_c : IVec S_ 1 := constantI S_ 1 1#1
  let main_v3 : IVec S_ 1 := (fun x v => Host.reduce IntOp.andi x v reducesTo_S16400x1024_S_d0_1 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : FVec F S1024x1952 .f32 := Host.absf main_arg2
  let main_cst_2 : FVec F S_ .f32 := constant S_ .f32 0x7F800000#32
  let main_v9 : FVec F S1024x1952 .f32 := broadcastInDim S1024x1952 ![] bcast_S_S1024x1952 main_cst_2
  let main_v10 : IVec S1024x1952 1 := cmpf .olt main_v8 main_v9
  let main_c_3 : IVec S_ 1 := constantI S_ 1 1#1
  let main_v11 : IVec S_ 1 := (fun x v => Host.reduce IntOp.andi x v reducesTo_S1024x1952_S_d0_1 h_S_) main_v10 main_c_3
  let main_v12 : FVec F S1x512 .f32 := Host.absf main_arg3
  let main_cst_4 : FVec F S_ .f32 := constant S_ .f32 0x7F800000#32
  let main_v13 : FVec F S1x512 .f32 := broadcastInDim S1x512 ![] bcast_S_S1x512 main_cst_4
  let main_v14 : IVec S1x512 1 := cmpf .olt main_v12 main_v13
  let main_c_5 : IVec S_ 1 := constantI S_ 1 1#1
  let main_v15 : IVec S_ 1 := (fun x v => Host.reduce IntOp.andi x v reducesTo_S1x512_S_d0_1 h_S_) main_v14 main_c_5
  fn_part1 (F := F) main_arg4 main_arg5 main_arg6 main_arg7 main_arg8 main_arg9 main_arg10 main_arg11 main_arg12 main_v3 main_v7 main_v11 main_v15
-- ==== Pre_out_finite.lean ====
abbrev S16400x512 : Shape := ⟨2, ![16400, 512]⟩
abbrev S16400x1024 : Shape := ⟨2, ![16400, 1024]⟩
abbrev S1024x1024 : Shape := ⟨2, ![1024, 1024]⟩
abbrev S1x1024 : Shape := ⟨2, ![1, 1024]⟩
abbrev S1x512 : Shape := ⟨2, ![1, 512]⟩
abbrev S16384x1024 : Shape := ⟨2, ![16384, 1024]⟩
abbrev S_ : Shape := ⟨0, ![]⟩

class Facts : Prop where
  bcast_S_S16400x512 : S_.BroadcastsInDim S16400x512 (![] : Fin 0 → Fin S16400x512.rank)
  reducesTo_S16400x512_S_d0_1 : S16400x512.ReducesTo [0, 1] S_
  h_S_ : 0 < S_.numel
  bcast_S_S16400x1024 : S_.BroadcastsInDim S16400x1024 (![] : Fin 0 → Fin S16400x1024.rank)
  reducesTo_S16400x1024_S_d0_1 : S16400x1024.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1x1024 : S_.BroadcastsInDim S1x1024 (![] : Fin 0 → Fin S1x1024.rank)
  reducesTo_S1x1024_S_d0_1 : S1x1024.ReducesTo [0, 1] S_
  bcast_S_S1x512 : S_.BroadcastsInDim S1x512 (![] : Fin 0 → Fin S1x512.rank)
  reducesTo_S1x512_S_d0_1 : S1x512.ReducesTo [0, 1] S_
  bcast_S_S16384x1024 : S_.BroadcastsInDim S16384x1024 (![] : Fin 0 → Fin S16384x1024.rank)
  reducesTo_S16384x1024_S_d0_1 : S16384x1024.ReducesTo [0, 1] S_

variable [Facts]

def fn_part2 {F : FTy → Type} [FloatOps F] (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) : IVec S_ 1 :=
  let main_v32 : IVec S_ 1 := andi main_v3 main_v7
  let main_v33 : IVec S_ 1 := andi main_v32 main_v11
  let main_v34 : IVec S_ 1 := andi main_v33 main_v15
  let main_v35 : IVec S_ 1 := andi main_v34 main_v19
  let main_v36 : IVec S_ 1 := andi main_v35 main_v23
  let main_v37 : IVec S_ 1 := andi main_v36 main_v27
  let main_v38 : IVec S_ 1 := andi main_v37 main_v31
  main_v38

def fn_part1 {F : FTy → Type} [FloatOps F] (main_arg4 : FVec F S1024x1024 .f32) (main_arg5 : FVec F S1x1024 .f32) (main_arg6 : FVec F S1x512 .f32) (main_arg7 : FVec F S16384x1024 .f32) (main_v3 : IVec S_ 1) (main_v7 : IVec S_ 1) (main_v11 : IVec S_ 1) (main_v15 : IVec S_ 1) : IVec S_ 1 :=
  let main_v16 : FVec F S1024x1024 .f32 := Host.absf main_arg4
  let main_cst_6 : FVec F S_ .f32 := constant S_ .f32 0x7F800000#32
  let main_v17 : FVec F S1024x1024 .f32 := broadcastInDim S1024x1024 ![] bcast_S_S1024x1024 main_cst_6
  let main_v18 : IVec S1024x1024 1 := cmpf .olt main_v16 main_v17
  let main_c_7 : IVec S_ 1 := constantI S_ 1 1#1
  let main_v19 : IVec S_ 1 := (fun x v => Host.reduce IntOp.andi x v reducesTo_S1024x1024_S_d0_1 h_S_) main_v18 main_c_7
  let main_v20 : FVec F S1x1024 .f32 := Host.absf main_arg5
  let main_cst_8 : FVec F S_ .f32 := constant S_ .f32 0x7F800000#32
  let main_v21 : FVec F S1x1024 .f32 := broadcastInDim S1x1024 ![] bcast_S_S1x1024 main_cst_8
  let main_v22 : IVec S1x1024 1 := cmpf .olt main_v20 main_v21
  let main_c_9 : IVec S_ 1 := constantI S_ 1 1#1
  let main_v23 : IVec S_ 1 := (fun x v => Host.reduce IntOp.andi x v reducesTo_S1x1024_S_d0_1 h_S_) main_v22 main_c_9
  let main_v24 : FVec F S1x512 .f32 := Host.absf main_arg6
  let main_cst_10 : FVec F S_ .f32 := constant S_ .f32 0x7F800000#32
  let main_v25 : FVec F S1x512 .f32 := broadcastInDim S1x512 ![] bcast_S_S1x512 main_cst_10
  let main_v26 : IVec S1x512 1 := cmpf .olt main_v24 main_v25
  let main_c_11 : IVec S_ 1 := constantI S_ 1 1#1
  let main_v27 : IVec S_ 1 := (fun x v => Host.reduce IntOp.andi x v reducesTo_S1x512_S_d0_1 h_S_) main_v26 main_c_11
  let main_v28 : FVec F S16384x1024 .f32 := Host.absf main_arg7
  let main_cst_12 : FVec F S_ .f32 := constant S_ .f32 0x7F800000#32
  let main_v29 : FVec F S16384x1024 .f32 := broadcastInDim S16384x1024 ![] bcast_S_S16384x1024 main_cst_12
  let main_v30 : IVec S16384x1024 1 := cmpf .olt main_v28 main_v29
  let main_c_13 : IVec S_ 1 := constantI S_ 1 1#1
  let main_v31 : IVec S_ 1 := (fun x v => Host.reduce IntOp.andi x v reducesTo_S16384x1024_S_d0_1 h_S_) main_v30 main_c_13
  fn_part2 (F := F) main_v3 main_v7 main_v11 main_v15 main_v19 main_v23 main_v27 main_v31

def fn {F : FTy → Type} [FloatOps F] (main_arg0 : FVec F S16400x512 .f32) (main_arg1 : FVec F S16400x512 .f32) (main_arg2 : FVec F S16400x512 .f32) (main_arg3 : FVec F S16400x1024 .f32) (main_arg4 : FVec F S1024x1024 .f32) (main_arg5 : FVec F S1x1024 .f32) (main_arg6 : FVec F S1x512 .f32) (main_arg7 : FVec F S16384x1024 .f32) : IVec S_ 1 :=
  let main_v0 : FVec F S16400x512 .f32 := Host.absf main_arg0
  let main_cst : FVec F S_ .f32 := constant S_ .f32 0x7F800000#32
  let main_v1 : FVec F S16400x512 .f32 := broadcastInDim S16400x512 ![] bcast_S_S16400x512 main_cst
  let main_v2 : IVec S16400x512 1 := cmpf .olt main_v0 main_v1
  let main_c : IVec S_ 1 := constantI S_ 1 1#1
  let main_v3 : IVec S_ 1 := (fun x v => Host.reduce IntOp.andi x v reducesTo_S16400x512_S_d0_1 h_S_) main_v2 main_c
  let main_v4 : FVec F S16400x512 .f32 := Host.absf main_arg1
  let main_cst_0 : FVec F S_ .f32 := constant S_ .f32 0x7F800000#32
  let main_v5 : FVec F S16400x512 .f32 := broadcastInDim S16400x512 ![] bcast_S_S16400x512 main_cst_0
  let main_v6 : IVec S16400x512 1 := cmpf .olt main_v4 main_v5
  let main_c_1 : IVec S_ 1 := constantI S_ 1 1#1
  let main_v7 : IVec S_ 1 := (fun x v => Host.reduce IntOp.andi x v reducesTo_S16400x512_S_d0_1 h_S_) main_v6 main_c_1
  let main_v8 : FVec F S16400x512 .f32 := Host.absf main_arg2
  let main_cst_2 : FVec F S_ .f32 := constant S_ .f32 0x7F800000#32
  let main_v9 : FVec F S16400x512 .f32 := broadcastInDim S16400x512 ![] bcast_S_S16400x512 main_cst_2
  let main_v10 : IVec S16400x512 1 := cmpf .olt main_v8 main_v9
  let main_c_3 : IVec S_ 1 := constantI S_ 1 1#1
  let main_v11 : IVec S_ 1 := (fun x v => Host.reduce IntOp.andi x v reducesTo_S16400x512_S_d0_1 h_S_) main_v10 main_c_3
  let main_v12 : FVec F S16400x1024 .f32 := Host.absf main_arg3
  let main_cst_4 : FVec F S_ .f32 := constant S_ .f32 0x7F800000#32
  let main_v13 : FVec F S16400x1024 .f32 := broadcastInDim S16400x1024 ![] bcast_S_S16400x1024 main_cst_4
  let main_v14 : IVec S16400x1024 1 := cmpf .olt main_v12 main_v13
  let main_c_5 : IVec S_ 1 := constantI S_ 1 1#1
  let main_v15 : IVec S_ 1 := (fun x v => Host.reduce IntOp.andi x v reducesTo_S16400x1024_S_d0_1 h_S_) main_v14 main_c_5
  fn_part1 (F := F) main_arg4 main_arg5 main_arg6 main_arg7 main_v3 main_v7 main_v11 main_v15
-- ==== Pre_post_finite.lean ====
abbrev S16400x512 : Shape := ⟨2, ![16400, 512]⟩
abbrev S1x512 : Shape := ⟨2, ![1, 512]⟩
abbrev S512x1024 : Shape := ⟨2, ![512, 1024]⟩
abbrev S1x1024 : Shape := ⟨2, ![1, 1024]⟩
abbrev S_ : Shape := ⟨0, ![]⟩

class Facts : Prop where
  bcast_S_S16400x512 : S_.BroadcastsInDim S16400x512 (![] : Fin 0 → Fin S16400x512.rank)
  reducesTo_S16400x512_S_d0_1 : S16400x512.ReducesTo [0, 1] S_
  h_S_ : 0 < S_.numel
  bcast_S_S1x512 : S_.BroadcastsInDim S1x512 (![] : Fin 0 → Fin S1x512.rank)
  reducesTo_S1x512_S_d0_1 : S1x512.ReducesTo [0, 1] S_
  bcast_S_S512x1024 : S_.BroadcastsInDim S512x1024 (![] : Fin 0 → Fin S512x1024.rank)
  reducesTo_S512x1024_S_d0_1 : S512x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part2 {F : FTy → Type} [FloatOps F] (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) : IVec S_ 1 :=
  let main_v32 : IVec S_ 1 := andi main_v3 main_v7
  let main_v33 : IVec S_ 1 := andi main_v32 main_v11
  let main_v34 : IVec S_ 1 := andi main_v33 main_v15
  let main_v35 : IVec S_ 1 := andi main_v34 main_v19
  let main_v36 : IVec S_ 1 := andi main_v35 main_v23
  let main_v37 : IVec S_ 1 := andi main_v36 main_v27
  let main_v38 : IVec S_ 1 := andi main_v37 main_v31
  main_v38

def fn_part1 {F : FTy → Type} [FloatOps F] (main_arg4 : FVec F S512x1024 .f32) (main_arg5 : FVec F S1x1024 .f32) (main_arg6 : FVec F S1x512 .f32) (main_arg7 : FVec F S16400x512 .f32) (main_v3 : IVec S_ 1) (main_v7 : IVec S_ 1) (main_v11 : IVec S_ 1) (main_v15 : IVec S_ 1) : IVec S_ 1 :=
  let main_v16 : FVec F S512x1024 .f32 := Host.absf main_arg4
  let main_cst_6 : FVec F S_ .f32 := constant S_ .f32 0x7F800000#32
  let main_v17 : FVec F S512x1024 .f32 := broadcastInDim S512x1024 ![] bcast_S_S512x1024 main_cst_6
  let main_v18 : IVec S512x1024 1 := cmpf .olt main_v16 main_v17
  let main_c_7 : IVec S_ 1 := constantI S_ 1 1#1
  let main_v19 : IVec S_ 1 := (fun x v => Host.reduce IntOp.andi x v reducesTo_S512x1024_S_d0_1 h_S_) main_v18 main_c_7
  let main_v20 : FVec F S1x1024 .f32 := Host.absf main_arg5
  let main_cst_8 : FVec F S_ .f32 := constant S_ .f32 0x7F800000#32
  let main_v21 : FVec F S1x1024 .f32 := broadcastInDim S1x1024 ![] bcast_S_S1x1024 main_cst_8
  let main_v22 : IVec S1x1024 1 := cmpf .olt main_v20 main_v21
  let main_c_9 : IVec S_ 1 := constantI S_ 1 1#1
  let main_v23 : IVec S_ 1 := (fun x v => Host.reduce IntOp.andi x v reducesTo_S1x1024_S_d0_1 h_S_) main_v22 main_c_9
  let main_v24 : FVec F S1x512 .f32 := Host.absf main_arg6
  let main_cst_10 : FVec F S_ .f32 := constant S_ .f32 0x7F800000#32
  let main_v25 : FVec F S1x512 .f32 := broadcastInDim S1x512 ![] bcast_S_S1x512 main_cst_10
  let main_v26 : IVec S1x512 1 := cmpf .olt main_v24 main_v25
  let main_c_11 : IVec S_ 1 := constantI S_ 1 1#1
  let main_v27 : IVec S_ 1 := (fun x v => Host.reduce IntOp.andi x v reducesTo_S1x512_S_d0_1 h_S_) main_v26 main_c_11
  let main_v28 : FVec F S16400x512 .f32 := Host.absf main_arg7
  let main_cst_12 : FVec F S_ .f32 := constant S_ .f32 0x7F800000#32
  let main_v29 : FVec F S16400x512 .f32 := broadcastInDim S16400x512 ![] bcast_S_S16400x512 main_cst_12
  let main_v30 : IVec S16400x512 1 := cmpf .olt main_v28 main_v29
  let main_c_13 : IVec S_ 1 := constantI S_ 1 1#1
  let main_v31 : IVec S_ 1 := (fun x v => Host.reduce IntOp.andi x v reducesTo_S16400x512_S_d0_1 h_S_) main_v30 main_c_13
  fn_part2 (F := F) main_v3 main_v7 main_v11 main_v15 main_v19 main_v23 main_v27 main_v31

def fn {F : FTy → Type} [FloatOps F] (main_arg0 : FVec F S16400x512 .f32) (main_arg1 : FVec F S16400x512 .f32) (main_arg2 : FVec F S16400x512 .f32) (main_arg3 : FVec F S1x512 .f32) (main_arg4 : FVec F S512x1024 .f32) (main_arg5 : FVec F S1x1024 .f32) (main_arg6 : FVec F S1x512 .f32) (main_arg7 : FVec F S16400x512 .f32) : IVec S_ 1 :=
  let main_v0 : FVec F S16400x512 .f32 := Host.absf main_arg0
  let main_cst : FVec F S_ .f32 := constant S_ .f32 0x7F800000#32
  let main_v1 : FVec F S16400x512 .f32 := broadcastInDim S16400x512 ![] bcast_S_S16400x512 main_cst
  let main_v2 : IVec S16400x512 1 := cmpf .olt main_v0 main_v1
  let main_c : IVec S_ 1 := constantI S_ 1 1#1
  let main_v3 : IVec S_ 1 := (fun x v => Host.reduce IntOp.andi x v reducesTo_S16400x512_S_d0_1 h_S_) main_v2 main_c
  let main_v4 : FVec F S16400x512 .f32 := Host.absf main_arg1
  let main_cst_0 : FVec F S_ .f32 := constant S_ .f32 0x7F800000#32
  let main_v5 : FVec F S16400x512 .f32 := broadcastInDim S16400x512 ![] bcast_S_S16400x512 main_cst_0
  let main_v6 : IVec S16400x512 1 := cmpf .olt main_v4 main_v5
  let main_c_1 : IVec S_ 1 := constantI S_ 1 1#1
  let main_v7 : IVec S_ 1 := (fun x v => Host.reduce IntOp.andi x v reducesTo_S16400x512_S_d0_1 h_S_) main_v6 main_c_1
  let main_v8 : FVec F S16400x512 .f32 := Host.absf main_arg2
  let main_cst_2 : FVec F S_ .f32 := constant S_ .f32 0x7F800000#32
  let main_v9 : FVec F S16400x512 .f32 := broadcastInDim S16400x512 ![] bcast_S_S16400x512 main_cst_2
  let main_v10 : IVec S16400x512 1 := cmpf .olt main_v8 main_v9
  let main_c_3 : IVec S_ 1 := constantI S_ 1 1#1
  let main_v11 : IVec S_ 1 := (fun x v => Host.reduce IntOp.andi x v reducesTo_S16400x512_S_d0_1 h_S_) main_v10 main_c_3
  let main_v12 : FVec F S1x512 .f32 := Host.absf main_arg3
  let main_cst_4 : FVec F S_ .f32 := constant S_ .f32 0x7F800000#32
  let main_v13 : FVec F S1x512 .f32 := broadcastInDim S1x512 ![] bcast_S_S1x512 main_cst_4
  let main_v14 : IVec S1x512 1 := cmpf .olt main_v12 main_v13
  let main_c_5 : IVec S_ 1 := constantI S_ 1 1#1
  let main_v15 : IVec S_ 1 := (fun x v => Host.reduce IntOp.andi x v reducesTo_S1x512_S_d0_1 h_S_) main_v14 main_c_5
  fn_part1 (F := F) main_arg4 main_arg5 main_arg6 main_arg7 main_v3 main_v7 main_v11 main_v15
-- ==== Pre_qkv_finite.lean ====
abbrev S16400x256 : Shape := ⟨2, ![16400, 256]⟩
abbrev S16400x128 : Shape := ⟨2, ![16400, 128]⟩
abbrev S16400x32 : Shape := ⟨2, ![16400, 32]⟩
abbrev S1x256 : Shape := ⟨2, ![1, 256]⟩
abbrev S256x768 : Shape := ⟨2, ![256, 768]⟩
abbrev S1x128 : Shape := ⟨2, ![1, 128]⟩
abbrev S128x1024 : Shape := ⟨2, ![128, 1024]⟩
abbrev S8x16400x96 : Shape := ⟨3, ![8, 16400, 96]⟩
abbrev S8x16400x64 : Shape := ⟨3, ![8, 16400, 64]⟩
abbrev S_ : Shape := ⟨0, ![]⟩

class Facts : Prop where
  bcast_S_S16400x256 : S_.BroadcastsInDim S16400x256 (![] : Fin 0 → Fin S16400x256.rank)
  reducesTo_S16400x256_S_d0_1 : S16400x256.ReducesTo [0, 1] S_
  h_S_ : 0 < S_.numel
  bcast_S_S16400x128 : S_.BroadcastsInDim S16400x128 (![] : Fin 0 → Fin S16400x128.rank)
  reducesTo_S16400x128_S_d0_1 : S16400x128.ReducesTo [0, 1] S_
  bcast_S_S16400x32 : S_.BroadcastsInDim S16400x32 (![] : Fin 0 → Fin S16400x32.rank)
  reducesTo_S16400x32_S_d0_1 : S16400x32.ReducesTo [0, 1] S_
  bcast_S_S1x256 : S_.BroadcastsInDim S1x256 (![] : Fin 0 → Fin S1x256.rank)
  reducesTo_S1x256_S_d0_1 : S1x256.ReducesTo [0, 1] S_
  bcast_S_S256x768 : S_.BroadcastsInDim S256x768 (![] : Fin 0 → Fin S256x768.rank)
  reducesTo_S256x768_S_d0_1 : S256x768.ReducesTo [0, 1] S_
  bcast_S_S1x128 : S_.BroadcastsInDim S1x128 (![] : Fin 0 → Fin S1x128.rank)
  reducesTo_S1x128_S_d0_1 : S1x128.ReducesTo [0, 1] S_
  bcast_S_S128x1024 : S_.BroadcastsInDim S128x1024 (![] : Fin 0 → Fin S128x1024.rank)
  reducesTo_S128x1024_S_d0_1 : S128x1024.ReducesTo [0, 1] S_
  bcast_S_S8x16400x96 : S_.BroadcastsInDim S8x16400x96 (![] : Fin 0 → Fin S8x16400x96.rank)
  reducesTo_S8x16400x96_S_d0_1_2 : S8x16400x96.ReducesTo [0, 1, 2] S_
  bcast_S_S8x16400x64 : S_.BroadcastsInDim S8x16400x64 (![] : Fin 0 → Fin S8x16400x64.rank)
  reducesTo_S8x16400x64_S_d0_1_2 : S8x16400x64.ReducesTo [0, 1, 2] S_

variable [Facts]

def fn_part2 {F : FTy → Type} [FloatOps F] (main_arg8 : FVec F S8x16400x96 .f32) (main_arg9 : FVec F S8x16400x64 .f32) (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) : IVec S_ 1 :=
  let main_v32 : FVec F S8x16400x96 .f32 := Host.absf main_arg8
  let main_cst_14 : FVec F S_ .f32 := constant S_ .f32 0x7F800000#32
  let main_v33 : FVec F S8x16400x96 .f32 := broadcastInDim S8x16400x96 ![] bcast_S_S8x16400x96 main_cst_14
  let main_v34 : IVec S8x16400x96 1 := cmpf .olt main_v32 main_v33
  let main_c_15 : IVec S_ 1 := constantI S_ 1 1#1
  let main_v35 : IVec S_ 1 := (fun x v => Host.reduce IntOp.andi x v reducesTo_S8x16400x96_S_d0_1_2 h_S_) main_v34 main_c_15
  let main_v36 : FVec F S8x16400x64 .f32 := Host.absf main_arg9
  let main_cst_16 : FVec F S_ .f32 := constant S_ .f32 0x7F800000#32
  let main_v37 : FVec F S8x16400x64 .f32 := broadcastInDim S8x16400x64 ![] bcast_S_S8x16400x64 main_cst_16
  let main_v38 : IVec S8x16400x64 1 := cmpf .olt main_v36 main_v37
  let main_c_17 : IVec S_ 1 := constantI S_ 1 1#1
  let main_v39 : IVec S_ 1 := (fun x v => Host.reduce IntOp.andi x v reducesTo_S8x16400x64_S_d0_1_2 h_S_) main_v38 main_c_17
  let main_v40 : IVec S_ 1 := andi main_v3 main_v7
  let main_v41 : IVec S_ 1 := andi main_v40 main_v11
  let main_v42 : IVec S_ 1 := andi main_v41 main_v15
  let main_v43 : IVec S_ 1 := andi main_v42 main_v19
  let main_v44 : IVec S_ 1 := andi main_v43 main_v23
  let main_v45 : IVec S_ 1 := andi main_v44 main_v27
  let main_v46 : IVec S_ 1 := andi main_v45 main_v31
  let main_v47 : IVec S_ 1 := andi main_v46 main_v35
  let main_v48 : IVec S_ 1 := andi main_v47 main_v39
  main_v48

def fn_part1 {F : FTy → Type} [FloatOps F] (main_arg4 : FVec F S256x768 .f32) (main_arg5 : FVec F S1x128 .f32) (main_arg6 : FVec F S128x1024 .f32) (main_arg7 : FVec F S8x16400x96 .f32) (main_arg8 : FVec F S8x16400x96 .f32) (main_arg9 : FVec F S8x16400x64 .f32) (main_v3 : IVec S_ 1) (main_v7 : IVec S_ 1) (main_v11 : IVec S_ 1) (main_v15 : IVec S_ 1) : IVec S_ 1 :=
  let main_v16 : FVec F S256x768 .f32 := Host.absf main_arg4
  let main_cst_6 : FVec F S_ .f32 := constant S_ .f32 0x7F800000#32
  let main_v17 : FVec F S256x768 .f32 := broadcastInDim S256x768 ![] bcast_S_S256x768 main_cst_6
  let main_v18 : IVec S256x768 1 := cmpf .olt main_v16 main_v17
  let main_c_7 : IVec S_ 1 := constantI S_ 1 1#1
  let main_v19 : IVec S_ 1 := (fun x v => Host.reduce IntOp.andi x v reducesTo_S256x768_S_d0_1 h_S_) main_v18 main_c_7
  let main_v20 : FVec F S1x128 .f32 := Host.absf main_arg5
  let main_cst_8 : FVec F S_ .f32 := constant S_ .f32 0x7F800000#32
  let main_v21 : FVec F S1x128 .f32 := broadcastInDim S1x128 ![] bcast_S_S1x128 main_cst_8
  let main_v22 : IVec S1x128 1 := cmpf .olt main_v20 main_v21
  let main_c_9 : IVec S_ 1 := constantI S_ 1 1#1
  let main_v23 : IVec S_ 1 := (fun x v => Host.reduce IntOp.andi x v reducesTo_S1x128_S_d0_1 h_S_) main_v22 main_c_9
  let main_v24 : FVec F S128x1024 .f32 := Host.absf main_arg6
  let main_cst_10 : FVec F S_ .f32 := constant S_ .f32 0x7F800000#32
  let main_v25 : FVec F S128x1024 .f32 := broadcastInDim S128x1024 ![] bcast_S_S128x1024 main_cst_10
  let main_v26 : IVec S128x1024 1 := cmpf .olt main_v24 main_v25
  let main_c_11 : IVec S_ 1 := constantI S_ 1 1#1
  let main_v27 : IVec S_ 1 := (fun x v => Host.reduce IntOp.andi x v reducesTo_S128x1024_S_d0_1 h_S_) main_v26 main_c_11
  let main_v28 : FVec F S8x16400x96 .f32 := Host.absf main_arg7
  let main_cst_12 : FVec F S_ .f32 := constant S_ .f32 0x7F800000#32
  let main_v29 : FVec F S8x16400x96 .f32 := broadcastInDim S8x16400x96 ![] bcast_S_S8x16400x96 main_cst_12
  let main_v30 : IVec S8x16400x96 1 := cmpf .olt main_v28 main_v29
  let main_c_13 : IVec S_ 1 := constantI S_ 1 1#1
  let main_v31 : IVec S_ 1 := (fun x v => Host.reduce IntOp.andi x v reducesTo_S8x16400x96_S_d0_1_2 h_S_) main_v30 main_c_13
  fn_part2 (F := F) main_arg8 main_arg9 main_v3 main_v7 main_v11 main_v15 main_v19 main_v23 main_v27 main_v31

def fn {F : FTy → Type} [FloatOps F] (main_arg0 : FVec F S16400x256 .f32) (main_arg1 : FVec F S16400x128 .f32) (main_arg2 : FVec F S16400x32 .f32) (main_arg3 : FVec F S1x256 .f32) (main_arg4 : FVec F S256x768 .f32) (main_arg5 : FVec F S1x128 .f32) (main_arg6 : FVec F S128x1024 .f32) (main_arg7 : FVec F S8x16400x96 .f32) (main_arg8 : FVec F S8x16400x96 .f32) (main_arg9 : FVec F S8x16400x64 .f32) : IVec S_ 1 :=
  let main_v0 : FVec F S16400x256 .f32 := Host.absf main_arg0
  let main_cst : FVec F S_ .f32 := constant S_ .f32 0x7F800000#32
  let main_v1 : FVec F S16400x256 .f32 := broadcastInDim S16400x256 ![] bcast_S_S16400x256 main_cst
  let main_v2 : IVec S16400x256 1 := cmpf .olt main_v0 main_v1
  let main_c : IVec S_ 1 := constantI S_ 1 1#1
  let main_v3 : IVec S_ 1 := (fun x v => Host.reduce IntOp.andi x v reducesTo_S16400x256_S_d0_1 h_S_) main_v2 main_c
  let main_v4 : FVec F S16400x128 .f32 := Host.absf main_arg1
  let main_cst_0 : FVec F S_ .f32 := constant S_ .f32 0x7F800000#32
  let main_v5 : FVec F S16400x128 .f32 := broadcastInDim S16400x128 ![] bcast_S_S16400x128 main_cst_0
  let main_v6 : IVec S16400x128 1 := cmpf .olt main_v4 main_v5
  let main_c_1 : IVec S_ 1 := constantI S_ 1 1#1
  let main_v7 : IVec S_ 1 := (fun x v => Host.reduce IntOp.andi x v reducesTo_S16400x128_S_d0_1 h_S_) main_v6 main_c_1
  let main_v8 : FVec F S16400x32 .f32 := Host.absf main_arg2
  let main_cst_2 : FVec F S_ .f32 := constant S_ .f32 0x7F800000#32
  let main_v9 : FVec F S16400x32 .f32 := broadcastInDim S16400x32 ![] bcast_S_S16400x32 main_cst_2
  let main_v10 : IVec S16400x32 1 := cmpf .olt main_v8 main_v9
  let main_c_3 : IVec S_ 1 := constantI S_ 1 1#1
  let main_v11 : IVec S_ 1 := (fun x v => Host.reduce IntOp.andi x v reducesTo_S16400x32_S_d0_1 h_S_) main_v10 main_c_3
  let main_v12 : FVec F S1x256 .f32 := Host.absf main_arg3
  let main_cst_4 : FVec F S_ .f32 := constant S_ .f32 0x7F800000#32
  let main_v13 : FVec F S1x256 .f32 := broadcastInDim S1x256 ![] bcast_S_S1x256 main_cst_4
  let main_v14 : IVec S1x256 1 := cmpf .olt main_v12 main_v13
  let main_c_5 : IVec S_ 1 := constantI S_ 1 1#1
  let main_v15 : IVec S_ 1 := (fun x v => Host.reduce IntOp.andi x v reducesTo_S1x256_S_d0_1 h_S_) main_v14 main_c_5
  fn_part1 (F := F) main_arg4 main_arg5 main_arg6 main_arg7 main_arg8 main_arg9 main_v3 main_v7 main_v11 main_v15
-- ==== Disc.lean ====
abbrev S2x32x64 : Shape := ⟨3, ![2, 32, 64]⟩
abbrev S2x32 : Shape := ⟨2, ![2, 32]⟩
abbrev S2x32x64x16 : Shape := ⟨4, ![2, 32, 64, 16]⟩
abbrev S2x32x8x64 : Shape := ⟨4, ![2, 32, 8, 64]⟩
abbrev S64x1x64 : Shape := ⟨3, ![64, 1, 64]⟩
abbrev S64x1x1 : Shape := ⟨3, ![64, 1, 1]⟩
abbrev S2x32x16x64 : Shape := ⟨4, ![2, 32, 16, 64]⟩
abbrev S64x16x64 : Shape := ⟨3, ![64, 16, 64]⟩
abbrev S64x8x64 : Shape := ⟨3, ![64, 8, 64]⟩
abbrev S64x64 : Shape := ⟨2, ![64, 64]⟩
abbrev S64x1 : Shape := ⟨2, ![64, 1]⟩

abbrev nBuf : Space → Nat
  | .hbm => 34
  | .vmem => 14
  | .smem => 0
  | _ => 0

abbrev bufTy : (tb : Table) → Fin (tcTables nBuf tb) → BufTy
  | .hbm, ⟨0, _⟩ => ⟨S2x32x64, .f32⟩
  | .hbm, ⟨1, _⟩ => ⟨S2x32x64, .f32⟩
  | .hbm, ⟨2, _⟩ => ⟨S2x32, .f32⟩
  | .hbm, ⟨3, _⟩ => ⟨S2x32x64x16, .f32⟩
  | .hbm, ⟨4, _⟩ => ⟨S2x32x64x16, .f32⟩
  | .hbm, ⟨5, _⟩ => ⟨S2x32x8x64, .f32⟩
  | .hbm, ⟨6, _⟩ => ⟨S2x32x8x64, .f32⟩
  | .hbm, ⟨7, _⟩ => ⟨S2x32x64x16, .f32⟩
  | .hbm, ⟨8, _⟩ => ⟨S2x32x64x16, .f32⟩
  | .hbm, ⟨9, _⟩ => ⟨S64x1x64, .f32⟩
  | .hbm, ⟨10, _⟩ => ⟨S64x1x64, .f32⟩
  | .hbm, ⟨11, _⟩ => ⟨S64x1x1, .f32⟩
  | .hbm, ⟨12, _⟩ => ⟨S2x32x16x64, .f32⟩
  | .hbm, ⟨13, _⟩ => ⟨S64x16x64, .f32⟩
  | .hbm, ⟨14, _⟩ => ⟨S2x32x16x64, .f32⟩
  | .hbm, ⟨15, _⟩ => ⟨S64x16x64, .f32⟩
  | .hbm, ⟨16, _⟩ => ⟨S64x8x64, .f32⟩
  | .hbm, ⟨17, _⟩ => ⟨S64x8x64, .f32⟩
  | .hbm, ⟨18, _⟩ => ⟨S2x32x16x64, .f32⟩
  | .hbm, ⟨19, _⟩ => ⟨S64x16x64, .f32⟩
  | .hbm, ⟨20, _⟩ => ⟨S2x32x16x64, .f32⟩
  | .hbm, ⟨21, _⟩ => ⟨S64x16x64, .f32⟩
  | .hbm, ⟨22, _⟩ => ⟨S64x1x64, .f32⟩
  | .hbm, ⟨23, _⟩ => ⟨S64x1x64, .f32⟩
  | .hbm, ⟨24, _⟩ => ⟨S64x1x1, .f32⟩
  | .hbm, ⟨25, _⟩ => ⟨S64x16x64, .f32⟩
  | .hbm, ⟨26, _⟩ => ⟨S64x16x64, .f32⟩
  | .hbm, ⟨27, _⟩ => ⟨S2x32x64, .f32⟩
  | .hbm, ⟨28, _⟩ => ⟨S2x32x64, .f32⟩
  | .hbm, ⟨29, _⟩ => ⟨S2x32, .f32⟩
  | .hbm, ⟨30, _⟩ => ⟨S2x32x16x64, .f32⟩
  | .hbm, ⟨31, _⟩ => ⟨S2x32x64x16, .f32⟩
  | .hbm, ⟨32, _⟩ => ⟨S2x32x16x64, .f32⟩
  | .hbm, ⟨33, _⟩ => ⟨S2x32x64x16, .f32⟩
  | .local _ .vmem, ⟨0, _⟩ => ⟨S64x1x64, .f32⟩
  | .local _ .vmem, ⟨1, _⟩ => ⟨S64x1x64, .f32⟩
  | .local _ .vmem, ⟨2, _⟩ => ⟨S64x1x1, .f32⟩
  | .local _ .vmem, ⟨3, _⟩ => ⟨S64x16x64, .f32⟩
  | .local _ .vmem, ⟨4, _⟩ => ⟨S64x16x64, .f32⟩
  | .local _ .vmem, ⟨5, _⟩ => ⟨S64x8x64, .f32⟩
  | .local _ .vmem, ⟨6, _⟩ => ⟨S64x8x64, .f32⟩
  | .local _ .vmem, ⟨7, _⟩ => ⟨S64x16x64, .f32⟩
  | .local _ .vmem, ⟨8, _⟩ => ⟨S64x16x64, .f32⟩
  | .local _ .vmem, ⟨9, _⟩ => ⟨S64x1x64, .f32⟩
  | .local _ .vmem, ⟨10, _⟩ => ⟨S64x1x64, .f32⟩
  | .local _ .vmem, ⟨11, _⟩ => ⟨S64x1x1, .f32⟩
  | .local _ .vmem, ⟨12, _⟩ => ⟨S64x16x64, .f32⟩
  | .local _ .vmem, ⟨13, _⟩ => ⟨S64x16x64, .f32⟩
  | _, _ => ⟨S2x32x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13_0 : Ref sig .tc := ⟨.hbm, 22, rfl⟩
abbrev main_v13_1 : Ref sig .tc := ⟨.hbm, 23, rfl⟩
abbrev main_v13_2 : Ref sig .tc := ⟨.hbm, 24, rfl⟩
abbrev main_v13_3 : Ref sig .tc := ⟨.hbm, 25, rfl⟩
abbrev main_v13_4 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13

abbrev nD : Nat := 1
abbrev τ : Topo := Topo.v7x

variable {F : FTy → Type} [FloatOps F]

abbrev grid0 : Pipeline.Grid := .none

abbrev stage0_0 : Fin 1 → Memref sig .tc .vmem S64x1x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x1x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S64x16x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S64x16x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S64x8x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S64x8x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S64x16x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S64x16x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S64x1x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S64x1x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S64x1x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S64x16x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S64x16x64 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
-- ==== DiscRefIdeal.lean ====
abbrev S2x32x64 : Shape := ⟨3, ![2, 32, 64]⟩
abbrev S2x32 : Shape := ⟨2, ![2, 32]⟩
abbrev S2x32x64x16 : Shape := ⟨4, ![2, 32, 64, 16]⟩
abbrev S2x32x8x64 : Shape := ⟨4, ![2, 32, 8, 64]⟩
abbrev S2x32x1 : Shape := ⟨3, ![2, 32, 1]⟩
abbrev S_ : Shape := ⟨0, ![]⟩
abbrev S2x32x64x1 : Shape := ⟨4, ![2, 32, 64, 1]⟩
abbrev S2x32x1x64 : Shape := ⟨4, ![2, 32, 1, 64]⟩

abbrev nBuf : Space → Nat
  | .hbm => 181
  | .vmem => 0
  | .smem => 0
  | _ => 0

abbrev hbmTy0_0 (i : Nat) : BufTy := match i % 128 with
  | 0 => ⟨S2x32x64, .f32⟩
  | 1 => ⟨S2x32x64, .f32⟩
  | 2 => ⟨S2x32, .f32⟩
  | 3 => ⟨S2x32x64x16, .f32⟩
  | 4 => ⟨S2x32x64x16, .f32⟩
  | 5 => ⟨S2x32x8x64, .f32⟩
  | 6 => ⟨S2x32x8x64, .f32⟩
  | 7 => ⟨S2x32x64x16, .f32⟩
  | 8 => ⟨S2x32x64x16, .f32⟩
  | 9 => ⟨S2x32, .f32⟩
  | 10 => ⟨S2x32x1, .f32⟩
  | 11 => ⟨S2x32x64, .f32⟩
  | 12 => ⟨S2x32x64, .f32⟩
  | 13 => ⟨S2x32x64, .f32⟩
  | 14 => ⟨S2x32x64, .f32⟩
  | 15 => ⟨S2x32x64, .f32⟩
  | 16 => ⟨S2x32x64, .f32⟩
  | 17 => ⟨S2x32x64, .f32⟩
  | 18 => ⟨S2x32x64, .f32⟩
  | 19 => ⟨S2x32x64, .f32⟩
  | 20 => ⟨S2x32x64, .f32⟩
  | 21 => ⟨S2x32x64, .f32⟩
  | 22 => ⟨S2x32x64, .f32⟩
  | 23 => ⟨S2x32x64, .f32⟩
  | 24 => ⟨S_, .f32⟩
  | 25 => ⟨S2x32x64, .f32⟩
  | 26 => ⟨S2x32x64, .f32⟩
  | 27 => ⟨S2x32x64, .f32⟩
  | 28 => ⟨S2x32x64, .f32⟩
  | 29 => ⟨S2x32x64, .f32⟩
  | 30 => ⟨S2x32x64, .f32⟩
  | 31 => ⟨S2x32x64, .f32⟩
  | 32 => ⟨S2x32x64, .f32⟩
  | 33 => ⟨S2x32x64, .f32⟩
  | 34 => ⟨S2x32x64, .f32⟩
  | 35 => ⟨S_, .f32⟩
  | 36 => ⟨S2x32x64, .f32⟩
  | 37 => ⟨S2x32x64, .f32⟩
  | 38 => ⟨S2x32x64, .f32⟩
  | 39 => ⟨S2x32x64, .f32⟩
  | 40 => ⟨S2x32x64, .f32⟩
  | 41 => ⟨S2x32x64, .f32⟩
  | 42 => ⟨S2x32x64, .f32⟩
  | 43 => ⟨S_, .f32⟩
  | 44 => ⟨S2x32x64, .f32⟩
  | 45 => ⟨S2x32x64, .f32⟩
  | 46 => ⟨S2x32x64x1, .f32⟩
  | 47 => ⟨S2x32x64x16, .f32⟩
  | 48 => ⟨S2x32x64x16, .f32⟩
  | 49 => ⟨S2x32x64x1, .f32⟩
  | 50 => ⟨S2x32x64x16, .f32⟩
  | 51 => ⟨S2x32x64x16, .f32⟩
  | 52 => ⟨S2x32x64x16, .f32⟩
  | 53 => ⟨S2x32x64x1, .f32⟩
  | 54 => ⟨S2x32x64x16, .f32⟩
  | 55 => ⟨S2x32x64x16, .f32⟩
  | 56 => ⟨S2x32x64x1, .f32⟩
  | 57 => ⟨S2x32x64x16, .f32⟩
  | 58 => ⟨S2x32x64x16, .f32⟩
  | 59 => ⟨S2x32x64x16, .f32⟩
  | 60 => ⟨S2x32x1x64, .f32⟩
  | 61 => ⟨S2x32x8x64, .f32⟩
  | 62 => ⟨S2x32x1x64, .f32⟩
  | 63 => ⟨S2x32x8x64, .f32⟩
  | 64 => ⟨S_, .f32⟩
  | 65 => ⟨S2x32x64, .f32⟩
  | 66 => ⟨S2x32x1x64, .f32⟩
  | 67 => ⟨S_, .f32⟩
  | 68 => ⟨S2x32x64, .f32⟩
  | 69 => ⟨S_, .f32⟩
  | 70 => ⟨S2x32x64, .f32⟩
  | 71 => ⟨S2x32x1x64, .f32⟩
  | 72 => ⟨S_, .f32⟩
  | 73 => ⟨S2x32x64, .f32⟩
  | 74 => ⟨S2x32x64x16, .f32⟩
  | 75 => ⟨S2x32x64x16, .f32⟩
  | 76 => ⟨S2x32x64x16, .f32⟩
  | 77 => ⟨S2x32x64x16, .f32⟩
  | 78 => ⟨S2x32x64x16, .f32⟩
  | 79 => ⟨S_, .f32⟩
  | 80 => ⟨S2x32x64, .f32⟩
  | 81 => ⟨S2x32x64x1, .f32⟩
  | 82 => ⟨S_, .f32⟩
  | 83 => ⟨S2x32x64, .f32⟩
  | 84 => ⟨S2x32x64x16, .f32⟩
  | 85 => ⟨S2x32x64x16, .f32⟩
  | 86 => ⟨S2x32x64x16, .f32⟩
  | 87 => ⟨S_, .f32⟩
  | 88 => ⟨S2x32x64, .f32⟩
  | 89 => ⟨S2x32x64x1, .f32⟩
  | 90 => ⟨S_, .f32⟩
  | 91 => ⟨S2x32x64, .f32⟩
  | 92 => ⟨S2x32x64x16, .f32⟩
  | 93 => ⟨S2x32x64x16, .f32⟩
  | 94 => ⟨S2x32x64x16, .f32⟩
  | 95 => ⟨S2x32x64x16, .f32⟩
  | 96 => ⟨S2x32x64x16, .f32⟩
  | 97 => ⟨S2x32x64x16, .f32⟩
  | 98 => ⟨S_, .f32⟩
  | 99 => ⟨S2x32x64, .f32⟩
  | 100 => ⟨S2x32x64x1, .f32⟩
  | 101 => ⟨S_, .f32⟩
  | 102 => ⟨S2x32x64, .f32⟩
  | 103 => ⟨S2x32x64, .f32⟩
  | 104 => ⟨S2x32x64x16, .f32⟩
  | 105 => ⟨S2x32x64x16, .f32⟩
  | 106 => ⟨S2x32x64x16, .f32⟩
  | 107 => ⟨S2x32x64x16, .f32⟩
  | 108 => ⟨S_, .f32⟩
  | 109 => ⟨S2x32x64, .f32⟩
  | 110 => ⟨S2x32x64x1, .f32⟩
  | 111 => ⟨S_, .f32⟩
  | 112 => ⟨S2x32x64, .f32⟩
  | 113 => ⟨S2x32x64, .f32⟩
  | 114 => ⟨S2x32x64, .f32⟩
  | 115 => ⟨S2x32x64, .f32⟩
  | 116 => ⟨S2x32x64, .f32⟩
  | 117 => ⟨S2x32x64, .f32⟩
  | 118 => ⟨S2x32x64, .f32⟩
  | 119 => ⟨S2x32x64, .f32⟩
  | 120 => ⟨S2x32x64, .f32⟩
  | 121 => ⟨S2x32x64, .f32⟩
  | 122 => ⟨S2x32x64, .f32⟩
  | 123 => ⟨S2x32x64, .f32⟩
  | 124 => ⟨S2x32x64, .f32⟩
  | 125 => ⟨S2x32x64, .f32⟩
  | 126 => ⟨S2x32x64, .f32⟩
  | 127 => ⟨S2x32x64, .f32⟩
  | _ => ⟨S2x32x64, .f32⟩

abbrev hbmTy0_1 (i : Nat) : BufTy := match i % 128 with
  | 0 => ⟨S2x32x64, .f32⟩
  | 1 => ⟨S2x32x64, .f32⟩
  | 2 => ⟨S2x32x64, .f32⟩
  | 3 => ⟨S2x32x64, .f32⟩
  | 4 => ⟨S2x32x64, .f32⟩
  | 5 => ⟨S2x32x64, .f32⟩
  | 6 => ⟨S2x32x64, .f32⟩
  | 7 => ⟨S2x32x64, .f32⟩
  | 8 => ⟨S2x32x64, .f32⟩
  | 9 => ⟨S2x32x64, .f32⟩
  | 10 => ⟨S2x32x64, .f32⟩
  | 11 => ⟨S2x32x64, .f32⟩
  | 12 => ⟨S2x32x64, .f32⟩
  | 13 => ⟨S2x32x64, .f32⟩
  | 14 => ⟨S2x32x64, .f32⟩
  | 15 => ⟨S2x32x64, .f32⟩
  | 16 => ⟨S2x32x64, .f32⟩
  | 17 => ⟨S2x32x64, .f32⟩
  | 18 => ⟨S2x32x64, .f32⟩
  | 19 => ⟨S2x32x64, .f32⟩
  | 20 => ⟨S2x32x64, .f32⟩
  | 21 => ⟨S2x32x64, .f32⟩
  | 22 => ⟨S_, .f32⟩
  | 23 => ⟨S2x32, .f32⟩
  | 24 => ⟨S2x32x1, .f32⟩
  | 25 => ⟨S2x32x64, .f32⟩
  | 26 => ⟨S2x32x64, .f32⟩
  | 27 => ⟨S2x32x64, .f32⟩
  | 28 => ⟨S2x32x64, .f32⟩
  | 29 => ⟨S2x32x64, .f32⟩
  | 30 => ⟨S2x32x64, .f32⟩
  | 31 => ⟨S2x32x64, .f32⟩
  | 32 => ⟨S2x32x64, .f32⟩
  | 33 => ⟨S2x32x64, .f32⟩
  | 34 => ⟨S_, .f32⟩
  | 35 => ⟨S2x32, .f32⟩
  | 36 => ⟨S2x32x1, .f32⟩
  | 37 => ⟨S2x32x1, .f32⟩
  | 38 => ⟨S2x32x64, .f32⟩
  | 39 => ⟨S2x32x64, .f32⟩
  | 40 => ⟨S2x32x64, .f32⟩
  | 41 => ⟨S2x32x64, .f32⟩
  | 42 => ⟨S2x32x64, .f32⟩
  | 43 => ⟨S_, .f32⟩
  | 44 => ⟨S2x32, .f32⟩
  | 45 => ⟨S2x32x1, .f32⟩
  | 46 => ⟨S2x32x1, .f32⟩
  | 47 => ⟨S2x32x64, .f32⟩
  | 48 => ⟨S2x32x64, .f32⟩
  | 49 => ⟨S2x32x64, .f32⟩
  | 50 => ⟨S_, .f32⟩
  | 51 => ⟨S2x32, .f32⟩
  | 52 => ⟨S2x32, .f32⟩
  | _ => ⟨S2x32x64, .f32⟩

abbrev hbmTy (i : Nat) : BufTy := match i / 128 with
  | 0 => hbmTy0_0 i
  | 1 => hbmTy0_1 i
  | _ => ⟨S2x32x64, .f32⟩

abbrev bufTy : (tb : Table) → Fin (tcTables nBuf tb) → BufTy
  | .hbm, ⟨i, _⟩ => hbmTy i
  | _, _ => ⟨S2x32x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_0 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_1 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_cst_2 : Ref sig .tc := ⟨.hbm, 64, rfl⟩
abbrev main_v52 : Ref sig .tc := ⟨.hbm, 65, rfl⟩
abbrev main_v53 : Ref sig .tc := ⟨.hbm, 66, rfl⟩
abbrev main_cst_3 : Ref sig .tc := ⟨.hbm, 67, rfl⟩
abbrev main_v54 : Ref sig .tc := ⟨.hbm, 68, rfl⟩
abbrev main_cst_4 : Ref sig .tc := ⟨.hbm, 69, rfl⟩
abbrev main_v55 : Ref sig .tc := ⟨.hbm, 70, rfl⟩
abbrev main_v56 : Ref sig .tc := ⟨.hbm, 71, rfl⟩
abbrev main_cst_5 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_cst_6 : Ref sig .tc := ⟨.hbm, 79, rfl⟩
abbrev main_v63 : Ref sig .tc := ⟨.hbm, 80, rfl⟩
abbrev main_v64 : Ref sig .tc := ⟨.hbm, 81, rfl⟩
abbrev main_cst_7 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_cst_8 : Ref sig .tc := ⟨.hbm, 87, rfl⟩
abbrev main_v69 : Ref sig .tc := ⟨.hbm, 88, rfl⟩
abbrev main_v70 : Ref sig .tc := ⟨.hbm, 89, rfl⟩
abbrev main_cst_9 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_cst_10 : Ref sig .tc := ⟨.hbm, 98, rfl⟩
abbrev main_v78 : Ref sig .tc := ⟨.hbm, 99, rfl⟩
abbrev main_v79 : Ref sig .tc := ⟨.hbm, 100, rfl⟩
abbrev main_cst_11 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_cst_12 : Ref sig .tc := ⟨.hbm, 108, rfl⟩
abbrev main_v86 : Ref sig .tc := ⟨.hbm, 109, rfl⟩
abbrev main_v87 : Ref sig .tc := ⟨.hbm, 110, rfl⟩
abbrev main_cst_13 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩
abbrev main_v106 : Ref sig .tc := ⟨.hbm, 130, rfl⟩
abbrev main_v107 : Ref sig .tc := ⟨.hbm, 131, rfl⟩
abbrev main_v108 : Ref sig .tc := ⟨.hbm, 132, rfl⟩
abbrev main_v109 : Ref sig .tc := ⟨.hbm, 133, rfl⟩
abbrev main_v110 : Ref sig .tc := ⟨.hbm, 134, rfl⟩
abbrev main_v111 : Ref sig .tc := ⟨.hbm, 135, rfl⟩
abbrev main_v112 : Ref sig .tc := ⟨.hbm, 136, rfl⟩
abbrev main_v113 : Ref sig .tc := ⟨.hbm, 137, rfl⟩
abbrev main_v114 : Ref sig .tc := ⟨.hbm, 138, rfl⟩
abbrev main_v115 : Ref sig .tc := ⟨.hbm, 139, rfl⟩
abbrev main_v116 : Ref sig .tc := ⟨.hbm, 140, rfl⟩
abbrev main_v117 : Ref sig .tc := ⟨.hbm, 141, rfl⟩
abbrev main_v118 : Ref sig .tc := ⟨.hbm, 142, rfl⟩
abbrev main_v119 : Ref sig .tc := ⟨.hbm, 143, rfl⟩
abbrev main_v120 : Ref sig .tc := ⟨.hbm, 144, rfl⟩
abbrev main_v121 : Ref sig .tc := ⟨.hbm, 145, rfl⟩
abbrev main_v122 : Ref sig .tc := ⟨.hbm, 146, rfl⟩
abbrev main_v123 : Ref sig .tc := ⟨.hbm, 147, rfl⟩
abbrev main_v124 : Ref sig .tc := ⟨.hbm, 148, rfl⟩
abbrev main_v125 : Ref sig .tc := ⟨.hbm, 149, rfl⟩
abbrev main_cst_14 : Ref sig .tc := ⟨.hbm, 150, rfl⟩
abbrev main_v126 : Ref sig .tc := ⟨.hbm, 151, rfl⟩
abbrev main_v127 : Ref sig .tc := ⟨.hbm, 152, rfl⟩
abbrev main_v128 : Ref sig .tc := ⟨.hbm, 153, rfl⟩
abbrev main_v129 : Ref sig .tc := ⟨.hbm, 154, rfl⟩
abbrev main_v130 : Ref sig .tc := ⟨.hbm, 155, rfl⟩
abbrev main_v131 : Ref sig .tc := ⟨.hbm, 156, rfl⟩
abbrev main_v132 : Ref sig .tc := ⟨.hbm, 157, rfl⟩
abbrev main_v133 : Ref sig .tc := ⟨.hbm, 158, rfl⟩
abbrev main_v134 : Ref sig .tc := ⟨.hbm, 159, rfl⟩
abbrev main_v135 : Ref sig .tc := ⟨.hbm, 160, rfl⟩
abbrev main_v136 : Ref sig .tc := ⟨.hbm, 161, rfl⟩
abbrev main_cst_15 : Ref sig .tc := ⟨.hbm, 162, rfl⟩
abbrev main_v137 : Ref sig .tc := ⟨.hbm, 163, rfl⟩
abbrev main_v138 : Ref sig .tc := ⟨.hbm, 164, rfl⟩
abbrev main_v139 : Ref sig .tc := ⟨.hbm, 165, rfl⟩
abbrev main_v140 : Ref sig .tc := ⟨.hbm, 166, rfl⟩
abbrev main_v141 : Ref sig .tc := ⟨.hbm, 167, rfl⟩
abbrev main_v142 : Ref sig .tc := ⟨.hbm, 168, rfl⟩
abbrev main_v143 : Ref sig .tc := ⟨.hbm, 169, rfl⟩
abbrev main_v144 : Ref sig .tc := ⟨.hbm, 170, rfl⟩
abbrev main_cst_16 : Ref sig .tc := ⟨.hbm, 171, rfl⟩
abbrev main_v145 : Ref sig .tc := ⟨.hbm, 172, rfl⟩
abbrev main_v146 : Ref sig .tc := ⟨.hbm, 173, rfl⟩
abbrev main_v147 : Ref sig .tc := ⟨.hbm, 174, rfl⟩
abbrev main_v148 : Ref sig .tc := ⟨.hbm, 175, rfl⟩
abbrev main_v149 : Ref sig .tc := ⟨.hbm, 176, rfl⟩
abbrev main_v150 : Ref sig .tc := ⟨.hbm, 177, rfl⟩
abbrev main_cst_17 : Ref sig .tc := ⟨.hbm, 178, rfl⟩
abbrev main_v151 : Ref sig .tc := ⟨.hbm, 179, rfl⟩
abbrev main_v152 : Ref sig .tc := ⟨.hbm, 180, rfl⟩

abbrev nD : Nat := 1
abbrev τ : Topo := Topo.v7x

variable {F : FTy → Type} [FloatOps F]
-- ==== Attn.lean ====
abbrev S8x16400x96 : Shape := ⟨3, ![8, 16400, 96]⟩
abbrev S8x16400x64 : Shape := ⟨3, ![8, 16400, 64]⟩
abbrev S16400x512 : Shape := ⟨2, ![16400, 512]⟩
abbrev S_ : Shape := ⟨0, ![]⟩
abbrev S8x16640x96 : Shape := ⟨3, ![8, 16640, 96]⟩
abbrev S8x16640x16400 : Shape := ⟨3, ![8, 16640, 16400]⟩
abbrev S8x16640 : Shape := ⟨2, ![8, 16640]⟩
abbrev S8x16640x1 : Shape := ⟨3, ![8, 16640, 1]⟩
abbrev S8x16640x64 : Shape := ⟨3, ![8, 16640, 64]⟩
abbrev S16640x512 : Shape := ⟨2, ![16640, 512]⟩
abbrev S16640x8x64 : Shape := ⟨3, ![16640, 8, 64]⟩
abbrev S16400x8x96 : Shape := ⟨3, ![16400, 8, 96]⟩
abbrev S16400x768 : Shape := ⟨2, ![16400, 768]⟩
abbrev S240x768 : Shape := ⟨2, ![240, 768]⟩
abbrev S16640x768 : Shape := ⟨2, ![16640, 768]⟩
abbrev S8x2080x768 : Shape := ⟨3, ![8, 2080, 768]⟩
abbrev S2080x8x768 : Shape := ⟨3, ![2080, 8, 768]⟩
abbrev S16640x8x96 : Shape := ⟨3, ![16640, 8, 96]⟩
abbrev S16400x8x64 : Shape := ⟨3, ![16400, 8, 64]⟩
abbrev S240x512 : Shape := ⟨2, ![240, 512]⟩
abbrev S8x2080x512 : Shape := ⟨3, ![8, 2080, 512]⟩
abbrev S2080x8x512 : Shape := ⟨3, ![2080, 8, 512]⟩
abbrev S13x1280x8x96 : Shape := ⟨4, ![13, 1280, 8, 96]⟩
abbrev S8x13x96x1280 : Shape := ⟨4, ![8, 13, 96, 1280]⟩
abbrev S8x96x16640 : Shape := ⟨3, ![8, 96, 16640]⟩
abbrev S13x1280x8x64 : Shape := ⟨4, ![13, 1280, 8, 64]⟩
abbrev S8x13x64x1280 : Shape := ⟨4, ![8, 13, 64, 1280]⟩
abbrev S8x8x2080 : Shape := ⟨3, ![8, 8, 2080]⟩
abbrev S8x2080x8 : Shape := ⟨3, ![8, 2080, 8]⟩
abbrev S8x13x1x1280 : Shape := ⟨4, ![8, 13, 1, 1280]⟩
abbrev S8x64x16640 : Shape := ⟨3, ![8, 64, 16640]⟩
abbrev S1x13x96x1280 : Shape := ⟨4, ![1, 13, 96, 1280]⟩
abbrev S1x640x96 : Shape := ⟨3, ![1, 640, 96]⟩
abbrev S1x96x640 : Shape := ⟨3, ![1, 96, 640]⟩
abbrev S1x640x64 : Shape := ⟨3, ![1, 640, 64]⟩
abbrev S1x13x64x1280 : Shape := ⟨4, ![1, 13, 64, 1280]⟩
abbrev S1x13x1x1280 : Shape := ⟨4, ![1, 13, 1, 1280]⟩
abbrev S1x64x640 : Shape := ⟨3, ![1, 64, 640]⟩
abbrev S96x640 : Shape := ⟨2, ![96, 640]⟩
abbrev S64x640 : Shape := ⟨2, ![64, 640]⟩
abbrev S640x96 : Shape := ⟨2, ![640, 96]⟩
abbrev S640x64 : Shape := ⟨2, ![640, 64]⟩
abbrev S1x1x96x1280 : Shape := ⟨4, ![1, 1, 96, 1280]⟩
abbrev S96x1280 : Shape := ⟨2, ![96, 1280]⟩
abbrev S1x1x64x1280 : Shape := ⟨4, ![1, 1, 64, 1280]⟩
abbrev S64x1280 : Shape := ⟨2, ![64, 1280]⟩
abbrev S640x1280 : Shape := ⟨2, ![640, 1280]⟩
abbrev S1x1x1x1280 : Shape := ⟨4, ![1, 1, 1, 1280]⟩
abbrev S1x1280 : Shape := ⟨2, ![1, 1280]⟩

abbrev nBuf : Space → Nat
  | .hbm => 131
  | .vmem => 22
  | .smem => 0
  | _ => 0

abbrev hbmTy0_0 (i : Nat) : BufTy := match i % 128 with
  | 0 => ⟨S8x16400x96, .f32⟩
  | 1 => ⟨S8x16400x96, .f32⟩
  | 2 => ⟨S8x16400x64, .f32⟩
  | 3 => ⟨S16400x512, .f32⟩
  | 4 => ⟨S_, .f32⟩
  | 5 => ⟨S_, .f32⟩
  | 6 => ⟨S_, .f32⟩
  | 7 => ⟨S_, .f32⟩
  | 8 => ⟨S_, .f32⟩
  | 9 => ⟨S8x16400x96, .f32⟩
  | 10 => ⟨S8x16400x96, .f32⟩
  | 11 => ⟨S8x16400x96, .bf16⟩
  | 12 => ⟨S_, .i32⟩
  | 13 => ⟨S_, .bf16⟩
  | 14 => ⟨S8x16640x96, .bf16⟩
  | 15 => ⟨S8x16640x96, .f32⟩
  | 16 => ⟨S8x16400x96, .bf16⟩
  | 17 => ⟨S8x16400x96, .f32⟩
  | 18 => ⟨S8x16640x16400, .f32⟩
  | 19 => ⟨S_, .f32⟩
  | 20 => ⟨S8x16640, .f32⟩
  | 21 => ⟨S8x16640x1, .f32⟩
  | 22 => ⟨S8x16640x16400, .f32⟩
  | 23 => ⟨S8x16640x16400, .f32⟩
  | 24 => ⟨S8x16640x16400, .f32⟩
  | 25 => ⟨S8x16640x16400, .f32⟩
  | 26 => ⟨S8x16640x16400, .f32⟩
  | 27 => ⟨S_, .f32⟩
  | 28 => ⟨S8x16640, .f32⟩
  | 29 => ⟨S8x16640x1, .f32⟩
  | 30 => ⟨S8x16400x64, .bf16⟩
  | 31 => ⟨S8x16400x64, .f32⟩
  | 32 => ⟨S8x16640x64, .f32⟩
  | 33 => ⟨S8x16640x64, .f32⟩
  | 34 => ⟨S8x16640x64, .f32⟩
  | 35 => ⟨S8x16640x1, .f32⟩
  | 36 => ⟨S8x16640x1, .f32⟩
  | 37 => ⟨S8x16640x1, .f32⟩
  | 38 => ⟨S8x16640x1, .f32⟩
  | 39 => ⟨S_, .i32⟩
  | 40 => ⟨S_, .f32⟩
  | 41 => ⟨S16640x512, .f32⟩
  | 42 => ⟨S16640x8x64, .f32⟩
  | 43 => ⟨S8x16640x64, .f32⟩
  | 44 => ⟨S8x16640x64, .f32⟩
  | 45 => ⟨S_, .f32⟩
  | 46 => ⟨S8x16640, .f32⟩
  | 47 => ⟨S16400x8x96, .f32⟩
  | 48 => ⟨S16400x768, .f32⟩
  | 49 => ⟨S_, .f32⟩
  | 50 => ⟨S240x768, .f32⟩
  | 51 => ⟨S16640x768, .f32⟩
  | 52 => ⟨S8x2080x768, .f32⟩
  | 53 => ⟨S2080x8x768, .f32⟩
  | 54 => ⟨S16640x768, .f32⟩
  | 55 => ⟨S_, .f32⟩
  | 56 => ⟨S16640x768, .f32⟩
  | 57 => ⟨S16640x768, .f32⟩
  | 58 => ⟨S16640x768, .bf16⟩
  | 59 => ⟨S16640x8x96, .bf16⟩
  | 60 => ⟨S16400x8x96, .f32⟩
  | 61 => ⟨S16400x768, .f32⟩
  | 62 => ⟨S_, .f32⟩
  | 63 => ⟨S240x768, .f32⟩
  | 64 => ⟨S16640x768, .f32⟩
  | 65 => ⟨S8x2080x768, .f32⟩
  | 66 => ⟨S2080x8x768, .f32⟩
  | 67 => ⟨S16640x768, .f32⟩
  | 68 => ⟨S16640x768, .bf16⟩
  | 69 => ⟨S16640x8x96, .bf16⟩
  | 70 => ⟨S16400x8x64, .f32⟩
  | 71 => ⟨S16400x512, .f32⟩
  | 72 => ⟨S_, .f32⟩
  | 73 => ⟨S240x512, .f32⟩
  | 74 => ⟨S16640x512, .f32⟩
  | 75 => ⟨S8x2080x512, .f32⟩
  | 76 => ⟨S2080x8x512, .f32⟩
  | 77 => ⟨S16640x512, .f32⟩
  | 78 => ⟨S16640x512, .bf16⟩
  | 79 => ⟨S16640x8x64, .bf16⟩
  | 80 => ⟨S13x1280x8x96, .bf16⟩
  | 81 => ⟨S8x13x96x1280, .bf16⟩
  | 82 => ⟨S8x16640x96, .bf16⟩
  | 83 => ⟨S8x96x16640, .bf16⟩
  | 84 => ⟨S8x16640x64, .bf16⟩
  | 85 => ⟨S_, .f32⟩
  | 86 => ⟨S240x512, .f32⟩
  | 87 => ⟨S16640x512, .f32⟩
  | 88 => ⟨S8x2080x512, .f32⟩
  | 89 => ⟨S2080x8x512, .f32⟩
  | 90 => ⟨S16640x512, .f32⟩
  | 91 => ⟨S16640x512, .bf16⟩
  | 92 => ⟨S13x1280x8x64, .bf16⟩
  | 93 => ⟨S8x13x64x1280, .bf16⟩
  | 94 => ⟨S8x8x2080, .f32⟩
  | 95 => ⟨S8x2080x8, .f32⟩
  | 96 => ⟨S8x13x1x1280, .f32⟩
  | 97 => ⟨S8x8x2080, .f32⟩
  | 98 => ⟨S8x2080x8, .f32⟩
  | 99 => ⟨S8x13x1x1280, .f32⟩
  | 100 => ⟨S8x13x96x1280, .f32⟩
  | 101 => ⟨S8x96x16640, .f32⟩
  | 102 => ⟨S8x64x16640, .f32⟩
  | 103 => ⟨S13x1280x8x96, .f32⟩
  | 104 => ⟨S16640x768, .f32⟩
  | 105 => ⟨S2080x8x768, .f32⟩
  | 106 => ⟨S8x2080x768, .f32⟩
  | 107 => ⟨S16640x768, .f32⟩
  | 108 => ⟨S16400x768, .f32⟩
  | 109 => ⟨S16400x8x96, .f32⟩
  | 110 => ⟨S8x16400x96, .f32⟩
  | 111 => ⟨S8x16400x96, .f32⟩
  | 112 => ⟨S8x16400x96, .f32⟩
  | 113 => ⟨S16640x8x96, .f32⟩
  | 114 => ⟨S16640x768, .f32⟩
  | 115 => ⟨S2080x8x768, .f32⟩
  | 116 => ⟨S8x2080x768, .f32⟩
  | 117 => ⟨S16640x768, .f32⟩
  | 118 => ⟨S16400x768, .f32⟩
  | 119 => ⟨S16400x8x96, .f32⟩
  | 120 => ⟨S8x16400x96, .f32⟩
  | 121 => ⟨S8x16400x96, .f32⟩
  | 122 => ⟨S8x16400x96, .f32⟩
  | 123 => ⟨S16640x8x64, .f32⟩
  | 124 => ⟨S16640x512, .f32⟩
  | 125 => ⟨S2080x8x512, .f32⟩
  | 126 => ⟨S8x2080x512, .f32⟩
  | 127 => ⟨S16640x512, .f32⟩
  | _ => ⟨S8x16400x96, .f32⟩

abbrev hbmTy0_1 (i : Nat) : BufTy := match i % 128 with
  | 0 => ⟨S16400x512, .f32⟩
  | 1 => ⟨S16400x8x64, .f32⟩
  | 2 => ⟨S8x16400x64, .f32⟩
  | _ => ⟨S8x16400x96, .f32⟩

abbrev hbmTy (i : Nat) : BufTy := match i / 128 with
  | 0 => hbmTy0_0 i
  | 1 => hbmTy0_1 i
  | _ => ⟨S8x16400x96, .f32⟩

abbrev bufTy : (tb : Table) → Fin (tcTables nBuf tb) → BufTy
  | .hbm, ⟨i, _⟩ => hbmTy i
  | .local _ .vmem, ⟨0, _⟩ => ⟨S1x13x96x1280, .bf16⟩
  | .local _ .vmem, ⟨1, _⟩ => ⟨S1x13x96x1280, .bf16⟩
  | .local _ .vmem, ⟨2, _⟩ => ⟨S1x640x96, .bf16⟩
  | .local _ .vmem, ⟨3, _⟩ => ⟨S1x640x96, .bf16⟩
  | .local _ .vmem, ⟨4, _⟩ => ⟨S1x96x640, .bf16⟩
  | .local _ .vmem, ⟨5, _⟩ => ⟨S1x96x640, .bf16⟩
  | .local _ .vmem, ⟨6, _⟩ => ⟨S1x640x64, .bf16⟩
  | .local _ .vmem, ⟨7, _⟩ => ⟨S1x640x64, .bf16⟩
  | .local _ .vmem, ⟨8, _⟩ => ⟨S1x13x64x1280, .bf16⟩
  | .local _ .vmem, ⟨9, _⟩ => ⟨S1x13x64x1280, .bf16⟩
  | .local _ .vmem, ⟨10, _⟩ => ⟨S1x13x1x1280, .f32⟩
  | .local _ .vmem, ⟨11, _⟩ => ⟨S1x13x1x1280, .f32⟩
  | .local _ .vmem, ⟨12, _⟩ => ⟨S1x13x1x1280, .f32⟩
  | .local _ .vmem, ⟨13, _⟩ => ⟨S1x13x1x1280, .f32⟩
  | .local _ .vmem, ⟨14, _⟩ => ⟨S1x13x96x1280, .f32⟩
  | .local _ .vmem, ⟨15, _⟩ => ⟨S1x13x96x1280, .f32⟩
  | .local _ .vmem, ⟨16, _⟩ => ⟨S1x96x640, .f32⟩
  | .local _ .vmem, ⟨17, _⟩ => ⟨S1x96x640, .f32⟩
  | .local _ .vmem, ⟨18, _⟩ => ⟨S1x64x640, .f32⟩
  | .local _ .vmem, ⟨19, _⟩ => ⟨S1x64x640, .f32⟩
  | .local _ .vmem, ⟨20, _⟩ => ⟨S96x640, .f32⟩
  | .local _ .vmem, ⟨21, _⟩ => ⟨S64x640, .f32⟩
  | _, _ => ⟨S8x16400x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c : Ref sig .tc := ⟨.hbm, 12, rfl⟩
abbrev main_call0_v0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_c_3 : Ref sig .tc := ⟨.hbm, 39, rfl⟩
abbrev main_call1_v0 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_4 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_5 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_cst_6 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_cst_7 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_cst_8 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83_0 : Ref sig .tc := ⟨.hbm, 100, rfl⟩
abbrev main_v83_1 : Ref sig .tc := ⟨.hbm, 101, rfl⟩
abbrev main_v83_2 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩
abbrev main_v102 : Ref sig .tc := ⟨.hbm, 121, rfl⟩
abbrev main_v103 : Ref sig .tc := ⟨.hbm, 122, rfl⟩
abbrev main_v104 : Ref sig .tc := ⟨.hbm, 123, rfl⟩
abbrev main_v105 : Ref sig .tc := ⟨.hbm, 124, rfl⟩
abbrev main_v106 : Ref sig .tc := ⟨.hbm, 125, rfl⟩
abbrev main_v107 : Ref sig .tc := ⟨.hbm, 126, rfl⟩
abbrev main_v108 : Ref sig .tc := ⟨.hbm, 127, rfl⟩
abbrev main_v109 : Ref sig .tc := ⟨.hbm, 128, rfl⟩
abbrev main_v110 : Ref sig .tc := ⟨.hbm, 129, rfl⟩
abbrev main_v111 : Ref sig .tc := ⟨.hbm, 130, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![8, 26], ![false, false]⟩

@[reducible] def k0_t1_loop : Scf.Loop 32 :=
  let c0_i32_14 : BitVec 32 := 0#32
  let c12_i32 : BitVec 32 := 12#32
  let v17 : BitVec 32 := Scalar.addi c0_i32_14 c12_i32
  let c1_i32 : BitVec 32 := 1#32
  ⟨c0_i32_14, v17, c1_i32⟩
def k0_off1 (k0_t1 : Fin k0_t1_loop.trips) : Fin 4 → Nat :=
  let c0_62 : Index := 0#32
  let c0_i32_14 : BitVec 32 := 0#32
  let c1_i32 : BitVec 32 := 1#32
  let arg14 : BitVec 32 := Scf.iv c0_i32_14 c1_i32 k0_t1
  let v63 : Index := Scalar.indexCast arg14
  let c0_63 : Index := 0#32
  let c0_64 : Index := 0#32
  ![0, v63.toNat, 0, 0]
def k0_off2 (k0_t1 : Fin k0_t1_loop.trips) : Fin 4 → Nat :=
  let c0_65 : Index := 0#32
  let c0_i32_14 : BitVec 32 := 0#32
  let c1_i32 : BitVec 32 := 1#32
  let arg14 : BitVec 32 := Scf.iv c0_i32_14 c1_i32 k0_t1
  let v66 : Index := Scalar.indexCast arg14
  let c0_66 : Index := 0#32
  let c0_67 : Index := 0#32
  ![0, v66.toNat, 0, 0]
def k0_off3 (k0_t1 : Fin k0_t1_loop.trips) : Fin 4 → Nat :=
  let c0_69 : Index := 0#32
  let c0_i32_14 : BitVec 32 := 0#32
  let c1_i32 : BitVec 32 := 1#32
  let arg14 : BitVec 32 := Scf.iv c0_i32_14 c1_i32 k0_t1
  let v70 : Index := Scalar.indexCast arg14
  let c0_70 : Index := 0#32
  let c0_71 : Index := 0#32
  ![0, v70.toNat, 0, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x13x96x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x640x96 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x96x640 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x640x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x13x64x1280 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x13x1x1280 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x13x1x1280 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x13x96x1280 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x96x640 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x64x640 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== AttnRefIdeal.lean ====
abbrev S8x16400x96 : Shape := ⟨3, ![8, 16400, 96]⟩
abbrev S8x16400x64 : Shape := ⟨3, ![8, 16400, 64]⟩
abbrev S16400x512 : Shape := ⟨2, ![16400, 512]⟩
abbrev S8x16400x16400 : Shape := ⟨3, ![8, 16400, 16400]⟩
abbrev S_ : Shape := ⟨0, ![]⟩
abbrev S8x16400 : Shape := ⟨2, ![8, 16400]⟩
abbrev S8x16400x1 : Shape := ⟨3, ![8, 16400, 1]⟩
abbrev S16400x8x64 : Shape := ⟨3, ![16400, 8, 64]⟩
abbrev S8x64x16400 : Shape := ⟨3, ![8, 64, 16400]⟩

abbrev nBuf : Space → Nat
  | .hbm => 73
  | .vmem => 0
  | .smem => 0
  | _ => 0

abbrev bufTy : (tb : Table) → Fin (tcTables nBuf tb) → BufTy
  | .hbm, ⟨0, _⟩ => ⟨S8x16400x96, .f32⟩
  | .hbm, ⟨1, _⟩ => ⟨S8x16400x96, .f32⟩
  | .hbm, ⟨2, _⟩ => ⟨S8x16400x64, .f32⟩
  | .hbm, ⟨3, _⟩ => ⟨S16400x512, .f32⟩
  | .hbm, ⟨4, _⟩ => ⟨S8x16400x16400, .f32⟩
  | .hbm, ⟨5, _⟩ => ⟨S_, .f32⟩
  | .hbm, ⟨6, _⟩ => ⟨S_, .f32⟩
  | .hbm, ⟨7, _⟩ => ⟨S8x16400x16400, .f32⟩
  | .hbm, ⟨8, _⟩ => ⟨S8x16400x16400, .f32⟩
  | .hbm, ⟨9, _⟩ => ⟨S_, .f32⟩
  | .hbm, ⟨10, _⟩ => ⟨S8x16400, .f32⟩
  | .hbm, ⟨11, _⟩ => ⟨S8x16400x1, .f32⟩
  | .hbm, ⟨12, _⟩ => ⟨S8x16400x16400, .f32⟩
  | .hbm, ⟨13, _⟩ => ⟨S8x16400x16400, .i1⟩
  | .hbm, ⟨14, _⟩ => ⟨S8x16400x16400, .f32⟩
  | .hbm, ⟨15, _⟩ => ⟨S_, .f32⟩
  | .hbm, ⟨16, _⟩ => ⟨S8x16400, .f32⟩
  | .hbm, ⟨17, _⟩ => ⟨S_, .f32⟩
  | .hbm, ⟨18, _⟩ => ⟨S8x16400, .f32⟩
  | .hbm, ⟨19, _⟩ => ⟨S8x16400, .f32⟩
  | .hbm, ⟨20, _⟩ => ⟨S_, .f32⟩
  | .hbm, ⟨21, _⟩ => ⟨S8x16400, .f32⟩
  | .hbm, ⟨22, _⟩ => ⟨S8x16400, .i1⟩
  | .hbm, ⟨23, _⟩ => ⟨S_, .f32⟩
  | .hbm, ⟨24, _⟩ => ⟨S8x16400, .f32⟩
  | .hbm, ⟨25, _⟩ => ⟨S8x16400, .i1⟩
  | .hbm, ⟨26, _⟩ => ⟨S_, .f32⟩
  | .hbm, ⟨27, _⟩ => ⟨S8x16400, .f32⟩
  | .hbm, ⟨28, _⟩ => ⟨S_, .f32⟩
  | .hbm, ⟨29, _⟩ => ⟨S8x16400, .f32⟩
  | .hbm, ⟨30, _⟩ => ⟨S_, .f32⟩
  | .hbm, ⟨31, _⟩ => ⟨S8x16400, .f32⟩
  | .hbm, ⟨32, _⟩ => ⟨S8x16400, .f32⟩
  | .hbm, ⟨33, _⟩ => ⟨S8x16400, .f32⟩
  | .hbm, ⟨34, _⟩ => ⟨S8x16400x1, .f32⟩
  | .hbm, ⟨35, _⟩ => ⟨S8x16400x16400, .f32⟩
  | .hbm, ⟨36, _⟩ => ⟨S8x16400x16400, .f32⟩
  | .hbm, ⟨37, _⟩ => ⟨S8x16400x16400, .f32⟩
  | .hbm, ⟨38, _⟩ => ⟨S_, .f32⟩
  | .hbm, ⟨39, _⟩ => ⟨S8x16400, .f32⟩
  | .hbm, ⟨40, _⟩ => ⟨S8x16400x1, .f32⟩
  | .hbm, ⟨41, _⟩ => ⟨S8x16400x16400, .f32⟩
  | .hbm, ⟨42, _⟩ => ⟨S8x16400x16400, .f32⟩
  | .hbm, ⟨43, _⟩ => ⟨S8x16400x1, .f32⟩
  | .hbm, ⟨44, _⟩ => ⟨S_, .f32⟩
  | .hbm, ⟨45, _⟩ => ⟨S8x16400x1, .f32⟩
  | .hbm, ⟨46, _⟩ => ⟨S8x16400x1, .f32⟩
  | .hbm, ⟨47, _⟩ => ⟨S8x16400x64, .f32⟩
  | .hbm, ⟨48, _⟩ => ⟨S16400x8x64, .f32⟩
  | .hbm, ⟨49, _⟩ => ⟨S16400x512, .f32⟩
  | .hbm, ⟨50, _⟩ => ⟨S16400x8x64, .f32⟩
  | .hbm, ⟨51, _⟩ => ⟨S8x16400x64, .f32⟩
  | .hbm, ⟨52, _⟩ => ⟨S8x64x16400, .f32⟩
  | .hbm, ⟨53, _⟩ => ⟨S8x16400x64, .f32⟩
  | .hbm, ⟨54, _⟩ => ⟨S8x16400x16400, .f32⟩
  | .hbm, ⟨55, _⟩ => ⟨S8x16400x16400, .f32⟩
  | .hbm, ⟨56, _⟩ => ⟨S8x16400x16400, .f32⟩
  | .hbm, ⟨57, _⟩ => ⟨S8x16400x16400, .f32⟩
  | .hbm, ⟨58, _⟩ => ⟨S_, .f32⟩
  | .hbm, ⟨59, _⟩ => ⟨S8x16400, .f32⟩
  | .hbm, ⟨60, _⟩ => ⟨S8x16400x1, .f32⟩
  | .hbm, ⟨61, _⟩ => ⟨S8x16400x1, .f32⟩
  | .hbm, ⟨62, _⟩ => ⟨S8x16400x16400, .f32⟩
  | .hbm, ⟨63, _⟩ => ⟨S8x16400x16400, .f32⟩
  | .hbm, ⟨64, _⟩ => ⟨S_, .f32⟩
  | .hbm, ⟨65, _⟩ => ⟨S8x16400, .f32⟩
  | .hbm, ⟨66, _⟩ => ⟨S8x16400x16400, .f32⟩
  | .hbm, ⟨67, _⟩ => ⟨S8x16400x16400, .f32⟩
  | .hbm, ⟨68, _⟩ => ⟨S8x16400x16400, .f32⟩
  | .hbm, ⟨69, _⟩ => ⟨S8x16400x16400, .f32⟩
  | .hbm, ⟨70, _⟩ => ⟨S8x16400x16400, .f32⟩
  | .hbm, ⟨71, _⟩ => ⟨S8x16400x96, .f32⟩
  | .hbm, ⟨72, _⟩ => ⟨S8x16400x96, .f32⟩
  | _, _ => ⟨S8x16400x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_cst_7 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_9 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_10 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_cst_11 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩

abbrev nD : Nat := 1
abbrev τ : Topo := Topo.v7x

variable {F : FTy → Type} [FloatOps F]
-- ==== Post.lean ====
abbrev S16400x512 : Shape := ⟨2, ![16400, 512]⟩
abbrev S1x512 : Shape := ⟨2, ![1, 512]⟩
abbrev S512x1024 : Shape := ⟨2, ![512, 1024]⟩
abbrev S1x1024 : Shape := ⟨2, ![1, 1024]⟩
abbrev S_ : Shape := ⟨0, ![]⟩
abbrev S16400x1024 : Shape := ⟨2, ![16400, 1024]⟩
abbrev S240x512 : Shape := ⟨2, ![240, 512]⟩
abbrev S16640x512 : Shape := ⟨2, ![16640, 512]⟩
abbrev S8x2080x512 : Shape := ⟨3, ![8, 2080, 512]⟩
abbrev S2080x8x512 : Shape := ⟨3, ![2080, 8, 512]⟩
abbrev S240x1024 : Shape := ⟨2, ![240, 1024]⟩
abbrev S16640x1024 : Shape := ⟨2, ![16640, 1024]⟩
abbrev S8x2080x1024 : Shape := ⟨3, ![8, 2080, 1024]⟩
abbrev S2080x8x1024 : Shape := ⟨3, ![2080, 8, 1024]⟩
abbrev S640x512 : Shape := ⟨2, ![640, 512]⟩
abbrev S640x1024 : Shape := ⟨2, ![640, 1024]⟩
abbrev S640 : Shape := ⟨1, ![640]⟩
abbrev S640x1 : Shape := ⟨2, ![640, 1]⟩
abbrev S512 : Shape := ⟨1, ![512]⟩
abbrev S1024 : Shape := ⟨1, ![1024]⟩

abbrev nBuf : Space → Nat
  | .hbm => 72
  | .vmem => 21
  | .smem => 0
  | _ => 0

abbrev bufTy : (tb : Table) → Fin (tcTables nBuf tb) → BufTy
  | .hbm, ⟨0, _⟩ => ⟨S16400x512, .f32⟩
  | .hbm, ⟨1, _⟩ => ⟨S16400x512, .f32⟩
  | .hbm, ⟨2, _⟩ => ⟨S16400x512, .f32⟩
  | .hbm, ⟨3, _⟩ => ⟨S1x512, .f32⟩
  | .hbm, ⟨4, _⟩ => ⟨S512x1024, .f32⟩
  | .hbm, ⟨5, _⟩ => ⟨S1x1024, .f32⟩
  | .hbm, ⟨6, _⟩ => ⟨S1x512, .f32⟩
  | .hbm, ⟨7, _⟩ => ⟨S16400x512, .f32⟩
  | .hbm, ⟨8, _⟩ => ⟨S16400x512, .f32⟩
  | .hbm, ⟨9, _⟩ => ⟨S16400x512, .f32⟩
  | .hbm, ⟨10, _⟩ => ⟨S16400x512, .f32⟩
  | .hbm, ⟨11, _⟩ => ⟨S512x1024, .bf16⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S16400x512, .f32⟩
  | .hbm, ⟨16, _⟩ => ⟨S16400x512, .f32⟩
  | .hbm, ⟨17, _⟩ => ⟨S16400x512, .f32⟩
  | .hbm, ⟨18, _⟩ => ⟨S16400x512, .f32⟩
  | .hbm, ⟨19, _⟩ => ⟨S16400x512, .f32⟩
  | .hbm, ⟨20, _⟩ => ⟨S_, .f32⟩
  | .hbm, ⟨21, _⟩ => ⟨S16400x512, .f32⟩
  | .hbm, ⟨22, _⟩ => ⟨S16400x512, .f32⟩
  | .hbm, ⟨23, _⟩ => ⟨S16400x512, .f32⟩
  | .hbm, ⟨24, _⟩ => ⟨S_, .f32⟩
  | .hbm, ⟨25, _⟩ => ⟨S16400x512, .f32⟩
  | .hbm, ⟨26, _⟩ => ⟨S16400x512, .f32⟩
  | .hbm, ⟨27, _⟩ => ⟨S_, .f32⟩
  | .hbm, ⟨28, _⟩ => ⟨S16400x512, .f32⟩
  | .hbm, ⟨29, _⟩ => ⟨S16400x512, .f32⟩
  | .hbm, ⟨30, _⟩ => ⟨S16400x512, .f32⟩
  | .hbm, ⟨31, _⟩ => ⟨S16400x1024, .f32⟩
  | .hbm, ⟨32, _⟩ => ⟨S16400x1024, .f32⟩
  | .hbm, ⟨33, _⟩ => ⟨S16400x1024, .f32⟩
  | .hbm, ⟨34, _⟩ => ⟨S_, .f32⟩
  | .hbm, ⟨35, _⟩ => ⟨S240x512, .f32⟩
  | .hbm, ⟨36, _⟩ => ⟨S16640x512, .f32⟩
  | .hbm, ⟨37, _⟩ => ⟨S8x2080x512, .f32⟩
  | .hbm, ⟨38, _⟩ => ⟨S2080x8x512, .f32⟩
  | .hbm, ⟨39, _⟩ => ⟨S16640x512, .f32⟩
  | .hbm, ⟨40, _⟩ => ⟨S_, .f32⟩
  | .hbm, ⟨41, _⟩ => ⟨S240x1024, .f32⟩
  | .hbm, ⟨42, _⟩ => ⟨S16640x1024, .f32⟩
  | .hbm, ⟨43, _⟩ => ⟨S8x2080x1024, .f32⟩
  | .hbm, ⟨44, _⟩ => ⟨S2080x8x1024, .f32⟩
  | .hbm, ⟨45, _⟩ => ⟨S16640x1024, .f32⟩
  | .hbm, ⟨46, _⟩ => ⟨S16640x512, .f32⟩
  | .hbm, ⟨47, _⟩ => ⟨S8x2080x512, .f32⟩
  | .hbm, ⟨48, _⟩ => ⟨S2080x8x512, .f32⟩
  | .hbm, ⟨49, _⟩ => ⟨S16640x512, .f32⟩
  | .hbm, ⟨50, _⟩ => ⟨S16640x512, .f32⟩
  | .hbm, ⟨51, _⟩ => ⟨S8x2080x512, .f32⟩
  | .hbm, ⟨52, _⟩ => ⟨S2080x8x512, .f32⟩
  | .hbm, ⟨53, _⟩ => ⟨S16640x512, .f32⟩
  | .hbm, ⟨54, _⟩ => ⟨S16640x512, .f32⟩
  | .hbm, ⟨55, _⟩ => ⟨S8x2080x512, .f32⟩
  | .hbm, ⟨56, _⟩ => ⟨S2080x8x512, .f32⟩
  | .hbm, ⟨57, _⟩ => ⟨S16640x512, .f32⟩
  | .hbm, ⟨58, _⟩ => ⟨S16640x512, .f32⟩
  | .hbm, ⟨59, _⟩ => ⟨S16640x512, .f32⟩
  | .hbm, ⟨60, _⟩ => ⟨S512x1024, .f32⟩
  | .hbm, ⟨61, _⟩ => ⟨S1x1024, .f32⟩
  | .hbm, ⟨62, _⟩ => ⟨S1x512, .f32⟩
  | .hbm, ⟨63, _⟩ => ⟨S1x512, .f32⟩
  | .hbm, ⟨64, _⟩ => ⟨S2080x8x512, .f32⟩
  | .hbm, ⟨65, _⟩ => ⟨S8x2080x512, .f32⟩
  | .hbm, ⟨66, _⟩ => ⟨S16640x512, .f32⟩
  | .hbm, ⟨67, _⟩ => ⟨S16400x512, .f32⟩
  | .hbm, ⟨68, _⟩ => ⟨S2080x8x512, .f32⟩
  | .hbm, ⟨69, _⟩ => ⟨S8x2080x512, .f32⟩
  | .hbm, ⟨70, _⟩ => ⟨S16640x512, .f32⟩
  | .hbm, ⟨71, _⟩ => ⟨S16400x512, .f32⟩
  | .local _ .vmem, ⟨0, _⟩ => ⟨S640x512, .f32⟩
  | .local _ .vmem, ⟨1, _⟩ => ⟨S640x512, .f32⟩
  | .local _ .vmem, ⟨2, _⟩ => ⟨S640x1024, .f32⟩
  | .local _ .vmem, ⟨3, _⟩ => ⟨S640x1024, .f32⟩
  | .local _ .vmem, ⟨4, _⟩ => ⟨S640x512, .f32⟩
  | .local _ .vmem, ⟨5, _⟩ => ⟨S640x512, .f32⟩
  | .local _ .vmem, ⟨6, _⟩ => ⟨S640x512, .f32⟩
  | .local _ .vmem, ⟨7, _⟩ => ⟨S640x512, .f32⟩
  | .local _ .vmem, ⟨8, _⟩ => ⟨S640x512, .f32⟩
  | .local _ .vmem, ⟨9, _⟩ => ⟨S640x512, .f32⟩
  | .local _ .vmem, ⟨10, _⟩ => ⟨S512x1024, .bf16⟩
  | .local _ .vmem, ⟨11, _⟩ => ⟨S1x512, .f32⟩
  | .local _ .vmem, ⟨12, _⟩ => ⟨S1x512, .f32⟩
  | .local _ .vmem, ⟨13, _⟩ => ⟨S640x512, .f32⟩
  | .local _ .vmem, ⟨14, _⟩ => ⟨S640x512, .f32⟩
  | .local _ .vmem, ⟨15, _⟩ => ⟨S640x512, .f32⟩
  | .local _ .vmem, ⟨16, _⟩ => ⟨S640x512, .f32⟩
  | .local _ .vmem, ⟨17, _⟩ => ⟨S512x1024, .f32⟩
  | .local _ .vmem, ⟨18, _⟩ => ⟨S1x1024, .f32⟩
  | .local _ .vmem, ⟨19, _⟩ => ⟨S1x512, .f32⟩
  | .local _ .vmem, ⟨20, _⟩ => ⟨S1x512, .f32⟩
  | _, _ => ⟨S16400x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_cst_3 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_4 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_5 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43_0 : Ref sig .tc := ⟨.hbm, 58, rfl⟩
abbrev main_v43_1 : Ref sig .tc := ⟨.hbm, 59, rfl⟩
abbrev main_v43_2 : Ref sig .tc := ⟨.hbm, 60, rfl⟩
abbrev main_v43_3 : Ref sig .tc := ⟨.hbm, 61, rfl⟩
abbrev main_v43_4 : Ref sig .tc := ⟨.hbm, 62, rfl⟩
abbrev main_v43_5 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem11_0 : DmaSem sig := 18
abbrev cc0_sem12_0 : DmaSem sig := 19
abbrev cc0_sem13_0 : DmaSem sig := 20

abbrev nD : Nat := 1
abbrev τ : Topo := Topo.v7x

variable {F : FTy → Type} [FloatOps F]

abbrev grid0 : Pipeline.Grid := ⟨1, ![26], ![false]⟩

def k0_cond5 (i : grid0.Coords) : BitVec 1 :=
  let arg0 : BitVec 32 := BitVec.ofNat 32 (i 0).val
  let c0_i32_44 : BitVec 32 := 0#32
  let v118 : BitVec 1 := Scalar.cmpi .eq arg0 c0_i32_44
  let v119 : BitVec 32 := Scalar.extui v118
  let c0_i32_45 : BitVec 32 := 0#32
  let v120 : BitVec 1 := Scalar.cmpi .ne v119 c0_i32_45
  v120

def k0_cond6 (i : grid0.Coords) : BitVec 1 :=
  let arg0 : BitVec 32 := BitVec.ofNat 32 (i 0).val
  let c0_i32_44 : BitVec 32 := 0#32
  let v118 : BitVec 1 := Scalar.cmpi .eq arg0 c0_i32_44
  let true_46 : BitVec 1 := 1#1
  let v121 : BitVec 1 := Scalar.xori v118 true_46
  let v122 : BitVec 32 := Scalar.extui v121
  let c0_i32_47 : BitVec 32 := 0#32
  let v123 : BitVec 1 := Scalar.cmpi .ne v122 c0_i32_47
  v123

def k0_cond3 (i : grid0.Coords) : BitVec 1 :=
  let arg0 : BitVec 32 := BitVec.ofNat 32 (i 0).val
  let c0_i32_26 : BitVec 32 := 0#32
  let v76 : BitVec 1 := Scalar.cmpi .eq arg0 c0_i32_26
  let v77 : BitVec 32 := Scalar.extui v76
  let c0_i32_27 : BitVec 32 := 0#32
  let v78 : BitVec 1 := Scalar.cmpi .ne v77 c0_i32_27
  v78

def k0_cond4 (i : grid0.Coords) : BitVec 1 :=
  let arg0 : BitVec 32 := BitVec.ofNat 32 (i 0).val
  let c0_i32_26 : BitVec 32 := 0#32
  let v76 : BitVec 1 := Scalar.cmpi .eq arg0 c0_i32_26
  let true_28 : BitVec 1 := 1#1
  let v79 : BitVec 1 := Scalar.xori v76 true_28
  let v80 : BitVec 32 := Scalar.extui v79
  let c0_i32_29 : BitVec 32 := 0#32
  let v81 : BitVec 1 := Scalar.cmpi .ne v80 c0_i32_29
  v81

def k0_cond1 (i : grid0.Coords) : BitVec 1 :=
  let arg0 : BitVec 32 := BitVec.ofNat 32 (i 0).val
  let c0_i32 : BitVec 32 := 0#32
  let v57 : BitVec 1 := Scalar.cmpi .eq arg0 c0_i32
  let v58 : BitVec 32 := Scalar.extui v57
  let c0_i32_20 : BitVec 32 := 0#32
  let v59 : BitVec 1 := Scalar.cmpi .ne v58 c0_i32_20
  v59

def k0_cond2 (i : grid0.Coords) : BitVec 1 :=
  let arg0 : BitVec 32 := BitVec.ofNat 32 (i 0).val
  let c0_i32 : BitVec 32 := 0#32
  let v57 : BitVec 1 := Scalar.cmpi .eq arg0 c0_i32
  let v_true : BitVec 1 := 1#1
  let v60 : BitVec 1 := Scalar.xori v57 v_true
  let v61 : BitVec 32 := Scalar.extui v60
  let c0_i32_21 : BitVec 32 := 0#32
  let v62 : BitVec 1 := Scalar.cmpi .ne v61 c0_i32_21
  v62

def k0_cond7 (i : grid0.Coords) : BitVec 1 :=
  let arg0 : BitVec 32 := BitVec.ofNat 32 (i 0).val
  let c0_i32_56 : BitVec 32 := 0#32
  let v135 : BitVec 1 := Scalar.cmpi .eq arg0 c0_i32_56
  let v136 : BitVec 32 := Scalar.extui v135
  let c0_i32_57 : BitVec 32 := 0#32
  let v137 : BitVec 1 := Scalar.cmpi .ne v136 c0_i32_57
  v137

def k0_cond8 (i : grid0.Coords) : BitVec 1 :=
  let arg0 : BitVec 32 := BitVec.ofNat 32 (i 0).val
  let c0_i32_56 : BitVec 32 := 0#32
  let v135 : BitVec 1 := Scalar.cmpi .eq arg0 c0_i32_56
  let true_58 : BitVec 1 := 1#1
  let v138 : BitVec 1 := Scalar.xori v135 true_58
  let v139 : BitVec 32 := Scalar.extui v138
  let c0_i32_59 : BitVec 32 := 0#32
  let v140 : BitVec 1 := Scalar.cmpi .ne v139 c0_i32_59
  v140

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S640x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S640x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S640x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S640x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S640x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S640x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S640x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S512x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== PostIdeal.lean ====
variable {F : FTy → Type} [FloatOps F] [Named F]
def κ : String → Option EReal := fun
  | "gelu_c" => some ((8943 / 200000 : ℝ) : EReal)
  | "gelu_c3" => some ((26829 / 200000 : ℝ) : EReal)
  | _ => none
-- ==== PostRefIdeal.lean ====
abbrev S16400x512 : Shape := ⟨2, ![16400, 512]⟩
abbrev S1x512 : Shape := ⟨2, ![1, 512]⟩
abbrev S512x1024 : Shape := ⟨2, ![512, 1024]⟩
abbrev S1x1024 : Shape := ⟨2, ![1, 1024]⟩
abbrev S_ : Shape := ⟨0, ![]⟩
abbrev S16400x1024 : Shape := ⟨2, ![16400, 1024]⟩
abbrev S16400 : Shape := ⟨1, ![16400]⟩
abbrev S16400x1 : Shape := ⟨2, ![16400, 1]⟩
abbrev S512 : Shape := ⟨1, ![512]⟩
abbrev S1024 : Shape := ⟨1, ![1024]⟩
abbrev S1024x512 : Shape := ⟨2, ![1024, 512]⟩

abbrev nBuf : Space → Nat
  | .hbm => 155
  | .vmem => 0
  | .smem => 0
  | _ => 0

abbrev hbmTy0_0 (i : Nat) : BufTy := match i % 128 with
  | 0 => ⟨S16400x512, .f32⟩
  | 1 => ⟨S16400x512, .f32⟩
  | 2 => ⟨S16400x512, .f32⟩
  | 3 => ⟨S1x512, .f32⟩
  | 4 => ⟨S512x1024, .f32⟩
  | 5 => ⟨S1x1024, .f32⟩
  | 6 => ⟨S1x512, .f32⟩
  | 7 => ⟨S16400x512, .f32⟩
  | 8 => ⟨S16400x512, .f32⟩
  | 9 => ⟨S16400x512, .f32⟩
  | 10 => ⟨S16400x512, .f32⟩
  | 11 => ⟨S_, .f32⟩
  | 12 => ⟨S_, .f32⟩
  | 13 => ⟨S_, .f32⟩
  | 14 => ⟨S16400x512, .f32⟩
  | 15 => ⟨S16400x512, .f32⟩
  | 16 => ⟨S16400x512, .f32⟩
  | 17 => ⟨S_, .f32⟩
  | 18 => ⟨S16400x512, .f32⟩
  | 19 => ⟨S16400x512, .f32⟩
  | 20 => ⟨S16400x512, .f32⟩
  | 21 => ⟨S16400x512, .f32⟩
  | 22 => ⟨S16400x512, .f32⟩
  | 23 => ⟨S_, .f32⟩
  | 24 => ⟨S16400x512, .f32⟩
  | 25 => ⟨S16400x512, .f32⟩
  | 26 => ⟨S16400x512, .f32⟩
  | 27 => ⟨S_, .f32⟩
  | 28 => ⟨S16400x512, .f32⟩
  | 29 => ⟨S16400x512, .f32⟩
  | 30 => ⟨S_, .f32⟩
  | 31 => ⟨S16400x512, .f32⟩
  | 32 => ⟨S16400x512, .f32⟩
  | 33 => ⟨S16400x512, .f32⟩
  | 34 => ⟨S_, .f32⟩
  | 35 => ⟨S16400x512, .f32⟩
  | 36 => ⟨S16400x512, .f32⟩
  | 37 => ⟨S_, .f32⟩
  | 38 => ⟨S16400x512, .f32⟩
  | 39 => ⟨S16400x512, .f32⟩
  | 40 => ⟨S16400x512, .f32⟩
  | 41 => ⟨S16400x1024, .f32⟩
  | 42 => ⟨S16400x1024, .f32⟩
  | 43 => ⟨S16400x1024, .f32⟩
  | 44 => ⟨S16400x512, .f32⟩
  | 45 => ⟨S16400x512, .f32⟩
  | 46 => ⟨S16400x512, .f32⟩
  | 47 => ⟨S16400x512, .f32⟩
  | 48 => ⟨S_, .f32⟩
  | 49 => ⟨S16400x512, .f32⟩
  | 50 => ⟨S16400x512, .f32⟩
  | 51 => ⟨S_, .f32⟩
  | 52 => ⟨S16400x512, .f32⟩
  | 53 => ⟨S16400x512, .f32⟩
  | 54 => ⟨S_, .f32⟩
  | 55 => ⟨S16400x512, .f32⟩
  | 56 => ⟨S16400x512, .f32⟩
  | 57 => ⟨S16400x512, .f32⟩
  | 58 => ⟨S16400x512, .f32⟩
  | 59 => ⟨S16400x512, .f32⟩
  | 60 => ⟨S16400x512, .f32⟩
  | 61 => ⟨S_, .f32⟩
  | 62 => ⟨S16400x512, .f32⟩
  | 63 => ⟨S16400x512, .f32⟩
  | 64 => ⟨S_, .f32⟩
  | 65 => ⟨S16400x512, .f32⟩
  | 66 => ⟨S16400x512, .f32⟩
  | 67 => ⟨S_, .f32⟩
  | 68 => ⟨S16400x512, .f32⟩
  | 69 => ⟨S16400x512, .f32⟩
  | 70 => ⟨S16400x512, .f32⟩
  | 71 => ⟨S16400x512, .f32⟩
  | 72 => ⟨S16400x512, .f32⟩
  | 73 => ⟨S16400x512, .f32⟩
  | 74 => ⟨S_, .f32⟩
  | 75 => ⟨S16400, .f32⟩
  | 76 => ⟨S16400x1, .f32⟩
  | 77 => ⟨S_, .f32⟩
  | 78 => ⟨S16400x1, .f32⟩
  | 79 => ⟨S16400x1, .f32⟩
  | 80 => ⟨S_, .f32⟩
  | 81 => ⟨S16400x1, .f32⟩
  | 82 => ⟨S16400x1, .f32⟩
  | 83 => ⟨S16400x1, .f32⟩
  | 84 => ⟨S16400x1, .f32⟩
  | 85 => ⟨S_, .f32⟩
  | 86 => ⟨S16400x1, .f32⟩
  | 87 => ⟨S16400x1, .f32⟩
  | 88 => ⟨S16400x512, .f32⟩
  | 89 => ⟨S16400x512, .f32⟩
  | 90 => ⟨S16400x512, .f32⟩
  | 91 => ⟨S16400x512, .f32⟩
  | 92 => ⟨S16400x512, .f32⟩
  | 93 => ⟨S_, .f32⟩
  | 94 => ⟨S512, .f32⟩
  | 95 => ⟨S1x512, .f32⟩
  | 96 => ⟨S16400x512, .f32⟩
  | 97 => ⟨S16400x512, .f32⟩
  | 98 => ⟨S16400x512, .f32⟩
  | 99 => ⟨S_, .f32⟩
  | 100 => ⟨S16400, .f32⟩
  | 101 => ⟨S16400x1, .f32⟩
  | 102 => ⟨S16400x512, .f32⟩
  | 103 => ⟨S16400x512, .f32⟩
  | 104 => ⟨S16400x1, .f32⟩
  | 105 => ⟨S_, .f32⟩
  | 106 => ⟨S16400x1, .f32⟩
  | 107 => ⟨S16400x1, .f32⟩
  | 108 => ⟨S_, .f32⟩
  | 109 => ⟨S16400, .f32⟩
  | 110 => ⟨S16400x512, .f32⟩
  | 111 => ⟨S16400x512, .f32⟩
  | 112 => ⟨S16400x512, .f32⟩
  | 113 => ⟨S16400x512, .f32⟩
  | 114 => ⟨S16400x512, .f32⟩
  | 115 => ⟨S16400x512, .f32⟩
  | 116 => ⟨S16400x512, .f32⟩
  | 117 => ⟨S16400x512, .f32⟩
  | 118 => ⟨S16400x512, .f32⟩
  | 119 => ⟨S16400x512, .f32⟩
  | 120 => ⟨S16400x512, .f32⟩
  | 121 => ⟨S16400x512, .f32⟩
  | 122 => ⟨S16400x512, .f32⟩
  | 123 => ⟨S16400x512, .f32⟩
  | 124 => ⟨S_, .f32⟩
  | 125 => ⟨S16400x1024, .f32⟩
  | 126 => ⟨S_, .f32⟩
  | 127 => ⟨S16400x1024, .f32⟩
  | _ => ⟨S16400x512, .f32⟩

abbrev hbmTy0_1 (i : Nat) : BufTy := match i % 128 with
  | 0 => ⟨S16400x1024, .f32⟩
  | 1 => ⟨S_, .f32⟩
  | 2 => ⟨S1024, .f32⟩
  | 3 => ⟨S1x1024, .f32⟩
  | 4 => ⟨S1024x512, .f32⟩
  | 5 => ⟨S512x1024, .f32⟩
  | 6 => ⟨S16400x512, .f32⟩
  | 7 => ⟨S16400x512, .f32⟩
  | 8 => ⟨S16400x512, .f32⟩
  | 9 => ⟨S_, .f32⟩
  | 10 => ⟨S16400x512, .f32⟩
  | 11 => ⟨S16400x512, .f32⟩
  | 12 => ⟨S16400x512, .f32⟩
  | 13 => ⟨S_, .f32⟩
  | 14 => ⟨S16400x512, .f32⟩
  | 15 => ⟨S16400x512, .f32⟩
  | 16 => ⟨S16400x512, .f32⟩
  | 17 => ⟨S16400x512, .f32⟩
  | 18 => ⟨S16400x512, .f32⟩
  | 19 => ⟨S16400x512, .f32⟩
  | 20 => ⟨S16400x512, .f32⟩
  | 21 => ⟨S16400x512, .f32⟩
  | 22 => ⟨S16400x512, .f32⟩
  | 23 => ⟨S16400x512, .f32⟩
  | 24 => ⟨S_, .f32⟩
  | 25 => ⟨S512, .f32⟩
  | 26 => ⟨S1x512, .f32⟩
  | _ => ⟨S16400x512, .f32⟩

abbrev hbmTy (i : Nat) : BufTy := match i / 128 with
  | 0 => hbmTy0_0 i
  | 1 => hbmTy0_1 i
  | _ => ⟨S16400x512, .f32⟩

abbrev bufTy : (tb : Table) → Fin (tcTables nBuf tb) → BufTy
  | .hbm, ⟨i, _⟩ => hbmTy i
  | _, _ => ⟨S16400x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_2 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_3 : Ref sig .tc := ⟨.hbm, 27, rfl⟩
abbrev main_v15 : Ref sig .tc := ⟨.hbm, 28, rfl⟩
abbrev main_v16 : Ref sig .tc := ⟨.hbm, 29, rfl⟩
abbrev main_cst_4 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_5 : Ref sig .tc := ⟨.hbm, 34, rfl⟩
abbrev main_v20 : Ref sig .tc := ⟨.hbm, 35, rfl⟩
abbrev main_v21 : Ref sig .tc := ⟨.hbm, 36, rfl⟩
abbrev main_cst_6 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_7 : Ref sig .tc := ⟨.hbm, 48, rfl⟩
abbrev main_v32 : Ref sig .tc := ⟨.hbm, 49, rfl⟩
abbrev main_v33 : Ref sig .tc := ⟨.hbm, 50, rfl⟩
abbrev main_cst_8 : Ref sig .tc := ⟨.hbm, 51, rfl⟩
abbrev main_v34 : Ref sig .tc := ⟨.hbm, 52, rfl⟩
abbrev main_v35 : Ref sig .tc := ⟨.hbm, 53, rfl⟩
abbrev main_cst_9 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_call0_v0 : Ref sig .tc := ⟨.hbm, 59, rfl⟩
abbrev main_call0_v1 : Ref sig .tc := ⟨.hbm, 60, rfl⟩
abbrev main_call0_cst : Ref sig .tc := ⟨.hbm, 61, rfl⟩
abbrev main_call0_v2 : Ref sig .tc := ⟨.hbm, 62, rfl⟩
abbrev main_call0_v3 : Ref sig .tc := ⟨.hbm, 63, rfl⟩
abbrev main_call0_cst_0 : Ref sig .tc := ⟨.hbm, 64, rfl⟩
abbrev main_call0_v4 : Ref sig .tc := ⟨.hbm, 65, rfl⟩
abbrev main_v40_2 : Ref sig .tc := ⟨.hbm, 66, rfl⟩
abbrev main_call0_cst_1 : Ref sig .tc := ⟨.hbm, 67, rfl⟩
abbrev main_call0_v6 : Ref sig .tc := ⟨.hbm, 68, rfl⟩
abbrev main_call0_v7 : Ref sig .tc := ⟨.hbm, 69, rfl⟩
abbrev main_v40_1 : Ref sig .tc := ⟨.hbm, 70, rfl⟩
abbrev main_v40_0 : Ref sig .tc := ⟨.hbm, 71, rfl⟩
abbrev main_v41 : Ref sig .tc := ⟨.hbm, 72, rfl⟩
abbrev main_v42 : Ref sig .tc := ⟨.hbm, 73, rfl⟩
abbrev main_cst_10 : Ref sig .tc := ⟨.hbm, 74, rfl⟩
abbrev main_v43 : Ref sig .tc := ⟨.hbm, 75, rfl⟩
abbrev main_v44 : Ref sig .tc := ⟨.hbm, 76, rfl⟩
abbrev main_cst_11 : Ref sig .tc := ⟨.hbm, 77, rfl⟩
abbrev main_v45 : Ref sig .tc := ⟨.hbm, 78, rfl⟩
abbrev main_v46 : Ref sig .tc := ⟨.hbm, 79, rfl⟩
abbrev main_cst_12 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_cst_13 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_cst_14 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_cst_15 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_cst_16 : Ref sig .tc := ⟨.hbm, 105, rfl⟩
abbrev main_v68 : Ref sig .tc := ⟨.hbm, 106, rfl⟩
abbrev main_v69 : Ref sig .tc := ⟨.hbm, 107, rfl⟩
abbrev main_cst_17 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_call1_v0 : Ref sig .tc := ⟨.hbm, 117, rfl⟩
abbrev main_call1_v1 : Ref sig .tc := ⟨.hbm, 118, rfl⟩
abbrev main_call1_v2 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_cst_18 : Ref sig .tc := ⟨.hbm, 124, rfl⟩
abbrev main_v82 : Ref sig .tc := ⟨.hbm, 125, rfl⟩
abbrev main_cst_19 : Ref sig .tc := ⟨.hbm, 126, rfl⟩
abbrev main_v83 : Ref sig .tc := ⟨.hbm, 127, rfl⟩
abbrev main_v84 : Ref sig .tc := ⟨.hbm, 128, rfl⟩
abbrev main_cst_20 : Ref sig .tc := ⟨.hbm, 129, rfl⟩
abbrev main_v85 : Ref sig .tc := ⟨.hbm, 130, rfl⟩
abbrev main_v86 : Ref sig .tc := ⟨.hbm, 131, rfl⟩
abbrev main_v87 : Ref sig .tc := ⟨.hbm, 132, rfl⟩
abbrev main_v88 : Ref sig .tc := ⟨.hbm, 133, rfl⟩
abbrev main_v89 : Ref sig .tc := ⟨.hbm, 134, rfl⟩
abbrev main_v90 : Ref sig .tc := ⟨.hbm, 135, rfl⟩
abbrev main_v91 : Ref sig .tc := ⟨.hbm, 136, rfl⟩
abbrev main_cst_21 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_cst_22 : Ref sig .tc := ⟨.hbm, 141, rfl⟩
abbrev main_v95 : Ref sig .tc := ⟨.hbm, 142, rfl⟩
abbrev main_v96 : Ref sig .tc := ⟨.hbm, 143, rfl⟩
abbrev main_v97 : Ref sig .tc := ⟨.hbm, 144, rfl⟩
abbrev main_v98 : Ref sig .tc := ⟨.hbm, 145, rfl⟩
abbrev main_v99 : Ref sig .tc := ⟨.hbm, 146, rfl⟩
abbrev main_v100 : Ref sig .tc := ⟨.hbm, 147, rfl⟩
abbrev main_v101 : Ref sig .tc := ⟨.hbm, 148, rfl⟩
abbrev main_v102 : Ref sig .tc := ⟨.hbm, 149, rfl⟩
abbrev main_v103 : Ref sig .tc := ⟨.hbm, 150, rfl⟩
abbrev main_v104 : Ref sig .tc := ⟨.hbm, 151, rfl⟩
abbrev main_cst_23 : Ref sig .tc := ⟨.hbm, 152, rfl⟩
abbrev main_v105 : Ref sig .tc := ⟨.hbm, 153, rfl⟩
abbrev main_v106 : Ref sig .tc := ⟨.hbm, 154, rfl⟩

abbrev nD : Nat := 1
abbrev τ : Topo := Topo.v7x

variable {F : FTy → Type} [FloatOps F]
-- ==== Out.lean ====
abbrev S16400x512 : Shape := ⟨2, ![16400, 512]⟩
abbrev S16400x1024 : Shape := ⟨2, ![16400, 1024]⟩
abbrev S1024x1024 : Shape := ⟨2, ![1024, 1024]⟩
abbrev S1x1024 : Shape := ⟨2, ![1, 1024]⟩
abbrev S1x512 : Shape := ⟨2, ![1, 512]⟩
abbrev S16384x1024 : Shape := ⟨2, ![16384, 1024]⟩
abbrev S512x8 : Shape := ⟨2, ![512, 8]⟩
abbrev S_ : Shape := ⟨0, ![]⟩
abbrev S240x512 : Shape := ⟨2, ![240, 512]⟩
abbrev S240x1024 : Shape := ⟨2, ![240, 1024]⟩
abbrev S16x1024 : Shape := ⟨2, ![16, 1024]⟩
abbrev S16640x1024 : Shape := ⟨2, ![16640, 1024]⟩
abbrev S8x2080x1024 : Shape := ⟨3, ![8, 2080, 1024]⟩
abbrev S2080x8x1024 : Shape := ⟨3, ![2080, 8, 1024]⟩
abbrev S16640x512 : Shape := ⟨2, ![16640, 512]⟩
abbrev S8x2080x512 : Shape := ⟨3, ![8, 2080, 512]⟩
abbrev S2080x8x512 : Shape := ⟨3, ![2080, 8, 512]⟩
abbrev S16640x8 : Shape := ⟨2, ![16640, 8]⟩
abbrev S1x1 : Shape := ⟨2, ![1, 1]⟩
abbrev S640x512 : Shape := ⟨2, ![640, 512]⟩
abbrev S640x1024 : Shape := ⟨2, ![640, 1024]⟩
abbrev S640x8 : Shape := ⟨2, ![640, 8]⟩
abbrev S640 : Shape := ⟨1, ![640]⟩
abbrev S640x1 : Shape := ⟨2, ![640, 1]⟩
abbrev S1 : Shape := ⟨1, ![1]⟩
abbrev S1024 : Shape := ⟨1, ![1024]⟩
abbrev S512 : Shape := ⟨1, ![512]⟩

abbrev nBuf : Space → Nat
  | .hbm => 63
  | .vmem => 28
  | .smem => 0
  | _ => 0

abbrev bufTy : (tb : Table) → Fin (tcTables nBuf tb) → BufTy
  | .hbm, ⟨0, _⟩ => ⟨S16400x512, .f32⟩
  | .hbm, ⟨1, _⟩ => ⟨S16400x512, .f32⟩
  | .hbm, ⟨2, _⟩ => ⟨S16400x512, .f32⟩
  | .hbm, ⟨3, _⟩ => ⟨S16400x1024, .f32⟩
  | .hbm, ⟨4, _⟩ => ⟨S1024x1024, .f32⟩
  | .hbm, ⟨5, _⟩ => ⟨S1x1024, .f32⟩
  | .hbm, ⟨6, _⟩ => ⟨S1x512, .f32⟩
  | .hbm, ⟨7, _⟩ => ⟨S16384x1024, .f32⟩
  | .hbm, ⟨8, _⟩ => ⟨S512x8, .f32⟩
  | .hbm, ⟨9, _⟩ => ⟨S_, .f32⟩
  | .hbm, ⟨10, _⟩ => ⟨S240x512, .f32⟩
  | .hbm, ⟨11, _⟩ => ⟨S_, .f32⟩
  | .hbm, ⟨12, _⟩ => ⟨S240x1024, .f32⟩
  | .hbm, ⟨13, _⟩ => ⟨S_, .f32⟩
  | .hbm, ⟨14, _⟩ => ⟨S16x1024, .f32⟩
  | .hbm, ⟨15, _⟩ => ⟨S16400x1024, .f32⟩
  | .hbm, ⟨16, _⟩ => ⟨S16640x1024, .f32⟩
  | .hbm, ⟨17, _⟩ => ⟨S8x2080x1024, .f32⟩
  | .hbm, ⟨18, _⟩ => ⟨S2080x8x1024, .f32⟩
  | .hbm, ⟨19, _⟩ => ⟨S16640x1024, .f32⟩
  | .hbm, ⟨20, _⟩ => ⟨S16640x512, .f32⟩
  | .hbm, ⟨21, _⟩ => ⟨S8x2080x512, .f32⟩
  | .hbm, ⟨22, _⟩ => ⟨S2080x8x512, .f32⟩
  | .hbm, ⟨23, _⟩ => ⟨S16640x512, .f32⟩
  | .hbm, ⟨24, _⟩ => ⟨S16640x512, .f32⟩
  | .hbm, ⟨25, _⟩ => ⟨S8x2080x512, .f32⟩
  | .hbm, ⟨26, _⟩ => ⟨S2080x8x512, .f32⟩
  | .hbm, ⟨27, _⟩ => ⟨S16640x512, .f32⟩
  | .hbm, ⟨28, _⟩ => ⟨S16640x512, .f32⟩
  | .hbm, ⟨29, _⟩ => ⟨S8x2080x512, .f32⟩
  | .hbm, ⟨30, _⟩ => ⟨S2080x8x512, .f32⟩
  | .hbm, ⟨31, _⟩ => ⟨S16640x512, .f32⟩
  | .hbm, ⟨32, _⟩ => ⟨S16640x1024, .f32⟩
  | .hbm, ⟨33, _⟩ => ⟨S8x2080x1024, .f32⟩
  | .hbm, ⟨34, _⟩ => ⟨S2080x8x1024, .f32⟩
  | .hbm, ⟨35, _⟩ => ⟨S16640x1024, .f32⟩
  | .hbm, ⟨36, _⟩ => ⟨S1024x1024, .bf16⟩
  | .hbm, ⟨37, _⟩ => ⟨S16640x1024, .f32⟩
  | .hbm, ⟨38, _⟩ => ⟨S16640x512, .f32⟩
  | .hbm, ⟨39, _⟩ => ⟨S16640x512, .f32⟩
  | .hbm, ⟨40, _⟩ => ⟨S16640x512, .f32⟩
  | .hbm, ⟨41, _⟩ => ⟨S16640x8, .f32⟩
  | .hbm, ⟨42, _⟩ => ⟨S1x1, .f32⟩
  | .hbm, ⟨43, _⟩ => ⟨S1x1024, .f32⟩
  | .hbm, ⟨44, _⟩ => ⟨S1024x1024, .f32⟩
  | .hbm, ⟨45, _⟩ => ⟨S1x512, .f32⟩
  | .hbm, ⟨46, _⟩ => ⟨S_, .f32⟩
  | .hbm, ⟨47, _⟩ => ⟨S2080x8x512, .f32⟩
  | .hbm, ⟨48, _⟩ => ⟨S8x2080x512, .f32⟩
  | .hbm, ⟨49, _⟩ => ⟨S16640x512, .f32⟩
  | .hbm, ⟨50, _⟩ => ⟨S16400x512, .f32⟩
  | .hbm, ⟨51, _⟩ => ⟨S2080x8x512, .f32⟩
  | .hbm, ⟨52, _⟩ => ⟨S8x2080x512, .f32⟩
  | .hbm, ⟨53, _⟩ => ⟨S16640x512, .f32⟩
  | .hbm, ⟨54, _⟩ => ⟨S16400x512, .f32⟩
  | .hbm, ⟨55, _⟩ => ⟨S2080x8x512, .f32⟩
  | .hbm, ⟨56, _⟩ => ⟨S8x2080x512, .f32⟩
  | .hbm, ⟨57, _⟩ => ⟨S16640x512, .f32⟩
  | .hbm, ⟨58, _⟩ => ⟨S16400x512, .f32⟩
  | .hbm, ⟨59, _⟩ => ⟨S2080x8x1024, .f32⟩
  | .hbm, ⟨60, _⟩ => ⟨S8x2080x1024, .f32⟩
  | .hbm, ⟨61, _⟩ => ⟨S16640x1024, .f32⟩
  | .hbm, ⟨62, _⟩ => ⟨S16400x1024, .f32⟩
  | .local _ .vmem, ⟨0, _⟩ => ⟨S640x512, .f32⟩
  | .local _ .vmem, ⟨1, _⟩ => ⟨S640x512, .f32⟩
  | .local _ .vmem, ⟨2, _⟩ => ⟨S640x512, .f32⟩
  | .local _ .vmem, ⟨3, _⟩ => ⟨S640x512, .f32⟩
  | .local _ .vmem, ⟨4, _⟩ => ⟨S640x512, .f32⟩
  | .local _ .vmem, ⟨5, _⟩ => ⟨S640x512, .f32⟩
  | .local _ .vmem, ⟨6, _⟩ => ⟨S640x1024, .f32⟩
  | .local _ .vmem, ⟨7, _⟩ => ⟨S640x1024, .f32⟩
  | .local _ .vmem, ⟨8, _⟩ => ⟨S640x1024, .f32⟩
  | .local _ .vmem, ⟨9, _⟩ => ⟨S640x1024, .f32⟩
  | .local _ .vmem, ⟨10, _⟩ => ⟨S1024x1024, .bf16⟩
  | .local _ .vmem, ⟨11, _⟩ => ⟨S1x1024, .f32⟩
  | .local _ .vmem, ⟨12, _⟩ => ⟨S1x512, .f32⟩
  | .local _ .vmem, ⟨13, _⟩ => ⟨S512x8, .f32⟩
  | .local _ .vmem, ⟨14, _⟩ => ⟨S640x1024, .f32⟩
  | .local _ .vmem, ⟨15, _⟩ => ⟨S640x1024, .f32⟩
  | .local _ .vmem, ⟨16, _⟩ => ⟨S640x512, .f32⟩
  | .local _ .vmem, ⟨17, _⟩ => ⟨S640x512, .f32⟩
  | .local _ .vmem, ⟨18, _⟩ => ⟨S640x512, .f32⟩
  | .local _ .vmem, ⟨19, _⟩ => ⟨S640x512, .f32⟩
  | .local _ .vmem, ⟨20, _⟩ => ⟨S640x512, .f32⟩
  | .local _ .vmem, ⟨21, _⟩ => ⟨S640x512, .f32⟩
  | .local _ .vmem, ⟨22, _⟩ => ⟨S640x8, .f32⟩
  | .local _ .vmem, ⟨23, _⟩ => ⟨S640x8, .f32⟩
  | .local _ .vmem, ⟨24, _⟩ => ⟨S1x1, .f32⟩
  | .local _ .vmem, ⟨25, _⟩ => ⟨S1x1024, .f32⟩
  | .local _ .vmem, ⟨26, _⟩ => ⟨S1024x1024, .f32⟩
  | .local _ .vmem, ⟨27, _⟩ => ⟨S1x512, .f32⟩
  | _, _ => ⟨S16400x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_cst_0 : Ref sig .tc := ⟨.hbm, 9, rfl⟩
abbrev main_v0 : Ref sig .tc := ⟨.hbm, 10, rfl⟩
abbrev main_cst_1 : Ref sig .tc := ⟨.hbm, 11, rfl⟩
abbrev main_v1 : Ref sig .tc := ⟨.hbm, 12, rfl⟩
abbrev main_cst_2 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25_0 : Ref sig .tc := ⟨.hbm, 37, rfl⟩
abbrev main_v25_1 : Ref sig .tc := ⟨.hbm, 38, rfl⟩
abbrev main_v25_2 : Ref sig .tc := ⟨.hbm, 39, rfl⟩
abbrev main_v25_3 : Ref sig .tc := ⟨.hbm, 40, rfl⟩
abbrev main_v25_4 : Ref sig .tc := ⟨.hbm, 41, rfl⟩
abbrev main_v25_5 : Ref sig .tc := ⟨.hbm, 42, rfl⟩
abbrev main_v25_6 : Ref sig .tc := ⟨.hbm, 43, rfl⟩
abbrev main_v25_7 : Ref sig .tc := ⟨.hbm, 44, rfl⟩
abbrev main_v25_8 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg15_0 : Ref sig .tc := ⟨.vmem, 25, rfl⟩
abbrev cc0_stg16_0 : Ref sig .tc := ⟨.vmem, 26, rfl⟩
abbrev cc0_stg17_0 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem15_0 : DmaSem sig := 25
abbrev cc0_sem16_0 : DmaSem sig := 26
abbrev cc0_sem17_0 : DmaSem sig := 27

abbrev nD : Nat := 1
abbrev τ : Topo := Topo.v7x

variable {F : FTy → Type} [FloatOps F]

abbrev grid0 : Pipeline.Grid := ⟨1, ![26], ![false]⟩

def k0_cond1 (i : grid0.Coords) : BitVec 1 :=
  let arg0 : BitVec 32 := BitVec.ofNat 32 (i 0).val
  let c0_i32 : BitVec 32 := 0#32
  let v90 : BitVec 1 := Scalar.cmpi .eq arg0 c0_i32
  let v91 : BitVec 32 := Scalar.extui v90
  let c0_i32_34 : BitVec 32 := 0#32
  let v92 : BitVec 1 := Scalar.cmpi .ne v91 c0_i32_34
  v92

def k0_cond2 (i : grid0.Coords) : BitVec 1 :=
  let arg0 : BitVec 32 := BitVec.ofNat 32 (i 0).val
  let c0_i32 : BitVec 32 := 0#32
  let v90 : BitVec 1 := Scalar.cmpi .eq arg0 c0_i32
  let v_true : BitVec 1 := 1#1
  let v93 : BitVec 1 := Scalar.xori v90 v_true
  let v94 : BitVec 32 := Scalar.extui v93
  let c0_i32_35 : BitVec 32 := 0#32
  let v95 : BitVec 1 := Scalar.cmpi .ne v94 c0_i32_35
  v95

def k0_cond3 (i : grid0.Coords) : BitVec 1 :=
  let arg0 : BitVec 32 := BitVec.ofNat 32 (i 0).val
  let c0_i32_39 : BitVec 32 := 0#32
  let v113 : BitVec 1 := Scalar.cmpi .eq arg0 c0_i32_39
  let v114 : BitVec 32 := Scalar.extui v113
  let c0_i32_40 : BitVec 32 := 0#32
  let v115 : BitVec 1 := Scalar.cmpi .ne v114 c0_i32_40
  v115

def k0_cond4 (i : grid0.Coords) : BitVec 1 :=
  let arg0 : BitVec 32 := BitVec.ofNat 32 (i 0).val
  let c0_i32_39 : BitVec 32 := 0#32
  let v113 : BitVec 1 := Scalar.cmpi .eq arg0 c0_i32_39
  let true_41 : BitVec 1 := 1#1
  let v116 : BitVec 1 := Scalar.xori v113 true_41
  let v117 : BitVec 32 := Scalar.extui v116
  let c0_i32_42 : BitVec 32 := 0#32
  let v118 : BitVec 1 := Scalar.cmpi .ne v117 c0_i32_42
  v118

def k0_cond5 (i : grid0.Coords) : BitVec 1 :=
  let arg0 : BitVec 32 := BitVec.ofNat 32 (i 0).val
  let c0_i32_47 : BitVec 32 := 0#32
  let v126 : BitVec 1 := Scalar.cmpi .eq arg0 c0_i32_47
  let v127 : BitVec 32 := Scalar.extui v126
  let c0_i32_48 : BitVec 32 := 0#32
  let v128 : BitVec 1 := Scalar.cmpi .ne v127 c0_i32_48
  v128

def k0_cond6 (i : grid0.Coords) : BitVec 1 :=
  let arg0 : BitVec 32 := BitVec.ofNat 32 (i 0).val
  let c0_i32_47 : BitVec 32 := 0#32
  let v126 : BitVec 1 := Scalar.cmpi .eq arg0 c0_i32_47
  let true_49 : BitVec 1 := 1#1
  let v129 : BitVec 1 := Scalar.xori v126 true_49
  let v130 : BitVec 32 := Scalar.extui v129
  let c0_i32_50 : BitVec 32 := 0#32
  let v131 : BitVec 1 := Scalar.cmpi .ne v130 c0_i32_50
  v131

def k0_cond7 (i : grid0.Coords) : BitVec 1 :=
  let arg0 : BitVec 32 := BitVec.ofNat 32 (i 0).val
  let c0_i32_56 : BitVec 32 := 0#32
  let v152 : BitVec 1 := Scalar.cmpi .eq arg0 c0_i32_56
  let v153 : BitVec 32 := Scalar.extui v152
  let c0_i32_57 : BitVec 32 := 0#32
  let v154 : BitVec 1 := Scalar.cmpi .ne v153 c0_i32_57
  v154

def k0_cond8 (i : grid0.Coords) : BitVec 1 :=
  let arg0 : BitVec 32 := BitVec.ofNat 32 (i 0).val
  let c0_i32_56 : BitVec 32 := 0#32
  let v152 : BitVec 1 := Scalar.cmpi .eq arg0 c0_i32_56
  let true_58 : BitVec 1 := 1#1
  let v155 : BitVec 1 := Scalar.xori v152 true_58
  let v156 : BitVec 32 := Scalar.extui v155
  let c0_i32_59 : BitVec 32 := 0#32
  let v157 : BitVec 1 := Scalar.cmpi .ne v156 c0_i32_59
  v157

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S640x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S640x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S640x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S640x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S640x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x8 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S640x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S640x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S640x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S640x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S640x8 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S1x1 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1024x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x512 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]
-- ==== OutRefIdeal.lean ====
abbrev S16400x512 : Shape := ⟨2, ![16400, 512]⟩
abbrev S16400x1024 : Shape := ⟨2, ![16400, 1024]⟩
abbrev S1024x1024 : Shape := ⟨2, ![1024, 1024]⟩
abbrev S1x1024 : Shape := ⟨2, ![1, 1024]⟩
abbrev S1x512 : Shape := ⟨2, ![1, 512]⟩
abbrev S16384x1024 : Shape := ⟨2, ![16384, 1024]⟩
abbrev S_ : Shape := ⟨0, ![]⟩
abbrev S16400 : Shape := ⟨1, ![16400]⟩
abbrev S16400x1 : Shape := ⟨2, ![16400, 1]⟩
abbrev S16384 : Shape := ⟨1, ![16384]⟩
abbrev S1024 : Shape := ⟨1, ![1024]⟩
abbrev S512 : Shape := ⟨1, ![512]⟩

abbrev nBuf : Space → Nat
  | .hbm => 146
  | .vmem => 0
  | .smem => 0
  | _ => 0

abbrev hbmTy0_0 (i : Nat) : BufTy := match i % 128 with
  | 0 => ⟨S16400x512, .f32⟩
  | 1 => ⟨S16400x512, .f32⟩
  | 2 => ⟨S16400x512, .f32⟩
  | 3 => ⟨S16400x1024, .f32⟩
  | 4 => ⟨S1024x1024, .f32⟩
  | 5 => ⟨S1x1024, .f32⟩
  | 6 => ⟨S1x512, .f32⟩
  | 7 => ⟨S16384x1024, .f32⟩
  | 8 => ⟨S16400x512, .f32⟩
  | 9 => ⟨S16400x512, .f32⟩
  | 10 => ⟨S_, .f32⟩
  | 11 => ⟨S16400x512, .f32⟩
  | 12 => ⟨S16400x512, .f32⟩
  | 13 => ⟨S_, .f32⟩
  | 14 => ⟨S16400x512, .f32⟩
  | 15 => ⟨S16400x512, .f32⟩
  | 16 => ⟨S_, .f32⟩
  | 17 => ⟨S16400x512, .f32⟩
  | 18 => ⟨S16400x512, .f32⟩
  | 19 => ⟨S16400x512, .f32⟩
  | 20 => ⟨S16400x512, .f32⟩
  | 21 => ⟨S16400x512, .f32⟩
  | 22 => ⟨S16400x512, .f32⟩
  | 23 => ⟨S_, .f32⟩
  | 24 => ⟨S16400, .f32⟩
  | 25 => ⟨S16400x1, .f32⟩
  | 26 => ⟨S_, .f32⟩
  | 27 => ⟨S16400x1, .f32⟩
  | 28 => ⟨S16400x1, .f32⟩
  | 29 => ⟨S_, .f32⟩
  | 30 => ⟨S16400x1, .f32⟩
  | 31 => ⟨S16400x1, .f32⟩
  | 32 => ⟨S16400x1, .f32⟩
  | 33 => ⟨S16400x1, .f32⟩
  | 34 => ⟨S_, .f32⟩
  | 35 => ⟨S16400x1, .f32⟩
  | 36 => ⟨S16400x1, .f32⟩
  | 37 => ⟨S16400x512, .f32⟩
  | 38 => ⟨S16400x512, .f32⟩
  | 39 => ⟨S16400x512, .f32⟩
  | 40 => ⟨S16400x512, .f32⟩
  | 41 => ⟨S16400x1024, .f32⟩
  | 42 => ⟨S16400x1024, .f32⟩
  | 43 => ⟨S16400x1024, .f32⟩
  | 44 => ⟨S_, .f32⟩
  | 45 => ⟨S16400, .f32⟩
  | 46 => ⟨S16400x1, .f32⟩
  | 47 => ⟨S_, .f32⟩
  | 48 => ⟨S16400x1, .f32⟩
  | 49 => ⟨S16400x1, .f32⟩
  | 50 => ⟨S_, .f32⟩
  | 51 => ⟨S16400x1, .f32⟩
  | 52 => ⟨S16400x1, .f32⟩
  | 53 => ⟨S16400x1, .f32⟩
  | 54 => ⟨S16400x1, .f32⟩
  | 55 => ⟨S_, .f32⟩
  | 56 => ⟨S16400x1, .f32⟩
  | 57 => ⟨S16400x1, .f32⟩
  | 58 => ⟨S16400x1024, .f32⟩
  | 59 => ⟨S16400x1024, .f32⟩
  | 60 => ⟨S16400x1024, .f32⟩
  | 61 => ⟨S16400x1024, .f32⟩
  | 62 => ⟨S16400x1024, .f32⟩
  | 63 => ⟨S16384x1024, .f32⟩
  | 64 => ⟨S16384x1024, .f32⟩
  | 65 => ⟨S16384x1024, .f32⟩
  | 66 => ⟨S_, .f32⟩
  | 67 => ⟨S16384x1024, .f32⟩
  | 68 => ⟨S16384x1024, .f32⟩
  | 69 => ⟨S_, .f32⟩
  | 70 => ⟨S16384, .f32⟩
  | 71 => ⟨S_, .f32⟩
  | 72 => ⟨S16384, .f32⟩
  | 73 => ⟨S16384, .f32⟩
  | 74 => ⟨S_, .f32⟩
  | 75 => ⟨S_, .f32⟩
  | 76 => ⟨S_, .f32⟩
  | 77 => ⟨S_, .f32⟩
  | 78 => ⟨S_, .f32⟩
  | 79 => ⟨S_, .f32⟩
  | 80 => ⟨S_, .f32⟩
  | 81 => ⟨S16384, .f32⟩
  | 82 => ⟨S_, .f32⟩
  | 83 => ⟨S16384, .f32⟩
  | 84 => ⟨S16384, .f32⟩
  | 85 => ⟨S16384x1024, .f32⟩
  | 86 => ⟨S16384x1024, .f32⟩
  | 87 => ⟨S_, .f32⟩
  | 88 => ⟨S16400x1024, .f32⟩
  | 89 => ⟨S16400x1024, .f32⟩
  | 90 => ⟨S_, .f32⟩
  | 91 => ⟨S1024, .f32⟩
  | 92 => ⟨S1x1024, .f32⟩
  | 93 => ⟨S16400x1024, .f32⟩
  | 94 => ⟨S16400x1024, .f32⟩
  | 95 => ⟨S16400x1024, .f32⟩
  | 96 => ⟨S_, .f32⟩
  | 97 => ⟨S16400, .f32⟩
  | 98 => ⟨S16400x1, .f32⟩
  | 99 => ⟨S16400x1024, .f32⟩
  | 100 => ⟨S16400x1024, .f32⟩
  | 101 => ⟨S16400x1, .f32⟩
  | 102 => ⟨S_, .f32⟩
  | 103 => ⟨S16400x1, .f32⟩
  | 104 => ⟨S16400x1, .f32⟩
  | 105 => ⟨S_, .f32⟩
  | 106 => ⟨S16400, .f32⟩
  | 107 => ⟨S16400x1024, .f32⟩
  | 108 => ⟨S16400x1024, .f32⟩
  | 109 => ⟨S16400x1024, .f32⟩
  | 110 => ⟨S16400x1024, .f32⟩
  | 111 => ⟨S16400x1024, .f32⟩
  | 112 => ⟨S1024x1024, .f32⟩
  | 113 => ⟨S1024x1024, .f32⟩
  | 114 => ⟨S16400x1024, .f32⟩
  | 115 => ⟨S16400x512, .f32⟩
  | 116 => ⟨S16400x512, .f32⟩
  | 117 => ⟨S16400x512, .f32⟩
  | 118 => ⟨S_, .f32⟩
  | 119 => ⟨S512, .f32⟩
  | 120 => ⟨S1x512, .f32⟩
  | 121 => ⟨S16400x512, .f32⟩
  | 122 => ⟨S16400x512, .f32⟩
  | 123 => ⟨S16400x512, .f32⟩
  | 124 => ⟨S_, .f32⟩
  | 125 => ⟨S16400, .f32⟩
  | 126 => ⟨S16400x1, .f32⟩
  | 127 => ⟨S16400x512, .f32⟩
  | _ => ⟨S16400x512, .f32⟩

abbrev hbmTy0_1 (i : Nat) : BufTy := match i % 128 with
  | 0 => ⟨S16400x512, .f32⟩
  | 1 => ⟨S16400x1, .f32⟩
  | 2 => ⟨S_, .f32⟩
  | 3 => ⟨S16400x1, .f32⟩
  | 4 => ⟨S16400x1, .f32⟩
  | 5 => ⟨S_, .f32⟩
  | 6 => ⟨S16400, .f32⟩
  | 7 => ⟨S16400x512, .f32⟩
  | 8 => ⟨S16400x512, .f32⟩
  | 9 => ⟨S16400x512, .f32⟩
  | 10 => ⟨S16400x512, .f32⟩
  | 11 => ⟨S16400x512, .f32⟩
  | 12 => ⟨S16400x512, .f32⟩
  | 13 => ⟨S16400x512, .f32⟩
  | 14 => ⟨S16400x512, .f32⟩
  | 15 => ⟨S16400x512, .f32⟩
  | 16 => ⟨S16400x512, .f32⟩
  | 17 => ⟨S16400x512, .f32⟩
  | _ => ⟨S16400x512, .f32⟩

abbrev hbmTy (i : Nat) : BufTy := match i / 128 with
  | 0 => hbmTy0_0 i
  | 1 => hbmTy0_1 i
  | _ => ⟨S16400x512, .f32⟩

abbrev bufTy : (tb : Table) → Fin (tcTables nBuf tb) → BufTy
  | .hbm, ⟨i, _⟩ => hbmTy i
  | _, _ => ⟨S16400x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_v0_2 : Ref sig .tc := ⟨.hbm, 15, rfl⟩
abbrev main_call0_cst_1 : Ref sig .tc := ⟨.hbm, 16, rfl⟩
abbrev main_call0_v6 : Ref sig .tc := ⟨.hbm, 17, rfl⟩
abbrev main_call0_v7 : Ref sig .tc := ⟨.hbm, 18, rfl⟩
abbrev main_v0_1 : Ref sig .tc := ⟨.hbm, 19, rfl⟩
abbrev main_v0_0 : Ref sig .tc := ⟨.hbm, 20, rfl⟩
abbrev main_v1 : Ref sig .tc := ⟨.hbm, 21, rfl⟩
abbrev main_v2 : Ref sig .tc := ⟨.hbm, 22, rfl⟩
abbrev main_cst : Ref sig .tc := ⟨.hbm, 23, rfl⟩
abbrev main_v3 : Ref sig .tc := ⟨.hbm, 24, rfl⟩
abbrev main_v4 : Ref sig .tc := ⟨.hbm, 25, rfl⟩
abbrev main_cst_0 : Ref sig .tc := ⟨.hbm, 26, rfl⟩
abbrev main_v5 : Ref sig .tc := ⟨.hbm, 27, rfl⟩
abbrev main_v6 : Ref sig .tc := ⟨.hbm, 28, rfl⟩
abbrev main_cst_1 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_cst_2 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_cst_3 : Ref sig .tc := ⟨.hbm, 44, rfl⟩
abbrev main_v20 : Ref sig .tc := ⟨.hbm, 45, rfl⟩
abbrev main_v21 : Ref sig .tc := ⟨.hbm, 46, rfl⟩
abbrev main_cst_4 : Ref sig .tc := ⟨.hbm, 47, rfl⟩
abbrev main_v22 : Ref sig .tc := ⟨.hbm, 48, rfl⟩
abbrev main_v23 : Ref sig .tc := ⟨.hbm, 49, rfl⟩
abbrev main_cst_5 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_cst_6 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_cst_7 : Ref sig .tc := ⟨.hbm, 66, rfl⟩
abbrev main_v38 : Ref sig .tc := ⟨.hbm, 67, rfl⟩
abbrev main_v39 : Ref sig .tc := ⟨.hbm, 68, rfl⟩
abbrev main_cst_8 : Ref sig .tc := ⟨.hbm, 69, rfl⟩
abbrev main_v40 : Ref sig .tc := ⟨.hbm, 70, rfl⟩
abbrev main_cst_9 : Ref sig .tc := ⟨.hbm, 71, rfl⟩
abbrev main_v41 : Ref sig .tc := ⟨.hbm, 72, rfl⟩
abbrev main_v42 : Ref sig .tc := ⟨.hbm, 73, rfl⟩
abbrev main_cst_10 : Ref sig .tc := ⟨.hbm, 74, rfl⟩
abbrev main_v43 : Ref sig .tc := ⟨.hbm, 75, rfl⟩
abbrev main_cst_11 : Ref sig .tc := ⟨.hbm, 76, rfl⟩
abbrev main_v44 : Ref sig .tc := ⟨.hbm, 77, rfl⟩
abbrev main_cst_12 : Ref sig .tc := ⟨.hbm, 78, rfl⟩
abbrev main_cst_13 : Ref sig .tc := ⟨.hbm, 79, rfl⟩
abbrev main_v45 : Ref sig .tc := ⟨.hbm, 80, rfl⟩
abbrev main_v46 : Ref sig .tc := ⟨.hbm, 81, rfl⟩
abbrev main_cst_14 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_cst_15 : Ref sig .tc := ⟨.hbm, 87, rfl⟩
abbrev main_v51 : Ref sig .tc := ⟨.hbm, 88, rfl⟩
abbrev main_v52 : Ref sig .tc := ⟨.hbm, 89, rfl⟩
abbrev main_cst_16 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_cst_17 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_cst_18 : Ref sig .tc := ⟨.hbm, 102, rfl⟩
abbrev main_v63 : Ref sig .tc := ⟨.hbm, 103, rfl⟩
abbrev main_v64 : Ref sig .tc := ⟨.hbm, 104, rfl⟩
abbrev main_cst_19 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_cst_20 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_cst_21 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_cst_22 : Ref sig .tc := ⟨.hbm, 130, rfl⟩
abbrev main_v87 : Ref sig .tc := ⟨.hbm, 131, rfl⟩
abbrev main_v88 : Ref sig .tc := ⟨.hbm, 132, rfl⟩
abbrev main_cst_23 : Ref sig .tc := ⟨.hbm, 133, rfl⟩
abbrev main_v89 : Ref sig .tc := ⟨.hbm, 134, rfl⟩
abbrev main_v90 : Ref sig .tc := ⟨.hbm, 135, rfl⟩
abbrev main_v91 : Ref sig .tc := ⟨.hbm, 136, rfl⟩
abbrev main_v92 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_call1_v0 : Ref sig .tc := ⟨.hbm, 142, rfl⟩
abbrev main_call1_v1 : Ref sig .tc := ⟨.hbm, 143, rfl⟩
abbrev main_call1_v2 : Ref sig .tc := ⟨.hbm, 144, rfl⟩
abbrev main_v97 : Ref sig .tc := ⟨.hbm, 145, rfl⟩

abbrev nD : Nat := 1
abbrev τ : Topo := Topo.v7x

variable {F : FTy → Type} [FloatOps F]
-- ==== Qkv.lean ====
abbrev S16400x256 : Shape := ⟨2, ![16400, 256]⟩
abbrev S16400x128 : Shape := ⟨2, ![16400, 128]⟩
abbrev S16400x32 : Shape := ⟨2, ![16400, 32]⟩
abbrev S1x256 : Shape := ⟨2, ![1, 256]⟩
abbrev S256x768 : Shape := ⟨2, ![256, 768]⟩
abbrev S1x128 : Shape := ⟨2, ![1, 128]⟩
abbrev S128x1024 : Shape := ⟨2, ![128, 1024]⟩
abbrev S8x16400x96 : Shape := ⟨3, ![8, 16400, 96]⟩
abbrev S8x16400x64 : Shape := ⟨3, ![8, 16400, 64]⟩
abbrev S16640 : Shape := ⟨1, ![16640]⟩
abbrev S_ : Shape := ⟨0, ![]⟩
abbrev S16 : Shape := ⟨1, ![16]⟩
abbrev S16640x1 : Shape := ⟨2, ![16640, 1]⟩
abbrev S1x16 : Shape := ⟨2, ![1, 16]⟩
abbrev S16640x16 : Shape := ⟨2, ![16640, 16]⟩
abbrev S1x16640x1x16 : Shape := ⟨4, ![1, 16640, 1, 16]⟩
abbrev S1x16640x8x16 : Shape := ⟨4, ![1, 16640, 8, 16]⟩
abbrev S16640x128 : Shape := ⟨2, ![16640, 128]⟩
abbrev S16640x32 : Shape := ⟨2, ![16640, 32]⟩
abbrev S256 : Shape := ⟨1, ![256]⟩
abbrev S256x1 : Shape := ⟨2, ![256, 1]⟩
abbrev S32 : Shape := ⟨1, ![32]⟩
abbrev S1x32 : Shape := ⟨2, ![1, 32]⟩
abbrev S256x32 : Shape := ⟨2, ![256, 32]⟩
abbrev S32x1 : Shape := ⟨2, ![32, 1]⟩
abbrev S32x32 : Shape := ⟨2, ![32, 32]⟩
abbrev S240x768 : Shape := ⟨2, ![240, 768]⟩
abbrev S16400x8x96 : Shape := ⟨3, ![16400, 8, 96]⟩
abbrev S16400x768 : Shape := ⟨2, ![16400, 768]⟩
abbrev S16640x768 : Shape := ⟨2, ![16640, 768]⟩
abbrev S8x2080x768 : Shape := ⟨3, ![8, 2080, 768]⟩
abbrev S2080x8x768 : Shape := ⟨3, ![2080, 8, 768]⟩
abbrev S16640x8x96 : Shape := ⟨3, ![16640, 8, 96]⟩
abbrev S16640x8x64 : Shape := ⟨3, ![16640, 8, 64]⟩
abbrev S16640x512 : Shape := ⟨2, ![16640, 512]⟩
abbrev S16640x8x16 : Shape := ⟨3, ![16640, 8, 16]⟩
abbrev S16640x8x32 : Shape := ⟨3, ![16640, 8, 32]⟩
abbrev S16640x256 : Shape := ⟨2, ![16640, 256]⟩
abbrev S16400x8x64 : Shape := ⟨3, ![16400, 8, 64]⟩
abbrev S16400x512 : Shape := ⟨2, ![16400, 512]⟩
abbrev S240x512 : Shape := ⟨2, ![240, 512]⟩
abbrev S8x2080x512 : Shape := ⟨3, ![8, 2080, 512]⟩
abbrev S2080x8x512 : Shape := ⟨3, ![2080, 8, 512]⟩
abbrev S240x256 : Shape := ⟨2, ![240, 256]⟩
abbrev S8x2080x256 : Shape := ⟨3, ![8, 2080, 256]⟩
abbrev S2080x8x256 : Shape := ⟨3, ![2080, 8, 256]⟩
abbrev S240x128 : Shape := ⟨2, ![240, 128]⟩
abbrev S8x2080x128 : Shape := ⟨3, ![8, 2080, 128]⟩
abbrev S2080x8x128 : Shape := ⟨3, ![2080, 8, 128]⟩
abbrev S256x8x96 : Shape := ⟨3, ![256, 8, 96]⟩
abbrev S256x8x64 : Shape := ⟨3, ![256, 8, 64]⟩
abbrev S256x512 : Shape := ⟨2, ![256, 512]⟩
abbrev S256x8x16 : Shape := ⟨3, ![256, 8, 16]⟩
abbrev S256x128 : Shape := ⟨2, ![256, 128]⟩
abbrev S128x8x128 : Shape := ⟨3, ![128, 8, 128]⟩
abbrev S128x8x64 : Shape := ⟨3, ![128, 8, 64]⟩
abbrev S128x512 : Shape := ⟨2, ![128, 512]⟩
abbrev S640x512 : Shape := ⟨2, ![640, 512]⟩
abbrev S640x128 : Shape := ⟨2, ![640, 128]⟩
abbrev S640x256 : Shape := ⟨2, ![640, 256]⟩
abbrev S640x32 : Shape := ⟨2, ![640, 32]⟩
abbrev S640x768 : Shape := ⟨2, ![640, 768]⟩
abbrev S640 : Shape := ⟨1, ![640]⟩
abbrev S640x1 : Shape := ⟨2, ![640, 1]⟩
abbrev S640x1024 : Shape := ⟨2, ![640, 1024]⟩
abbrev S128 : Shape := ⟨1, ![128]⟩

abbrev nBuf : Space → Nat
  | .hbm => 163
  | .vmem => 40
  | .smem => 0
  | _ => 0

abbrev hbmTy0_0 (i : Nat) : BufTy := match i % 128 with
  | 0 => ⟨S16400x256, .f32⟩
  | 1 => ⟨S16400x128, .f32⟩
  | 2 => ⟨S16400x32, .f32⟩
  | 3 => ⟨S1x256, .f32⟩
  | 4 => ⟨S256x768, .f32⟩
  | 5 => ⟨S1x128, .f32⟩
  | 6 => ⟨S128x1024, .f32⟩
  | 7 => ⟨S8x16400x96, .f32⟩
  | 8 => ⟨S8x16400x96, .f32⟩
  | 9 => ⟨S8x16400x64, .f32⟩
  | 10 => ⟨S16640, .i32⟩
  | 11 => ⟨S_, .i32⟩
  | 12 => ⟨S16640, .i32⟩
  | 13 => ⟨S16640, .i32⟩
  | 14 => ⟨S_, .i32⟩
  | 15 => ⟨S16640, .i32⟩
  | 16 => ⟨S16640, .i32⟩
  | 17 => ⟨S_, .i32⟩
  | 18 => ⟨S16640, .i32⟩
  | 19 => ⟨S16640, .i32⟩
  | 20 => ⟨S16640, .i32⟩
  | 21 => ⟨S16, .f32⟩
  | 22 => ⟨S16, .f32⟩
  | 23 => ⟨S_, .f32⟩
  | 24 => ⟨S16, .f32⟩
  | 25 => ⟨S16, .f32⟩
  | 26 => ⟨S_, .f32⟩
  | 27 => ⟨S16, .f32⟩
  | 28 => ⟨S16, .f32⟩
  | 29 => ⟨S16640, .f32⟩
  | 30 => ⟨S16640x1, .f32⟩
  | 31 => ⟨S1x16, .f32⟩
  | 32 => ⟨S16640x16, .f32⟩
  | 33 => ⟨S16640x16, .f32⟩
  | 34 => ⟨S16640x16, .f32⟩
  | 35 => ⟨S16640x16, .f32⟩
  | 36 => ⟨S16640x16, .f32⟩
  | 37 => ⟨S1x16640x1x16, .f32⟩
  | 38 => ⟨S1x16640x8x16, .f32⟩
  | 39 => ⟨S16640x128, .f32⟩
  | 40 => ⟨S1x16640x1x16, .f32⟩
  | 41 => ⟨S1x16640x8x16, .f32⟩
  | 42 => ⟨S16640x128, .f32⟩
  | 43 => ⟨S16640x32, .f32⟩
  | 44 => ⟨S16640x16, .f32⟩
  | 45 => ⟨S16640x32, .f32⟩
  | 46 => ⟨S256, .i32⟩
  | 47 => ⟨S256x1, .i32⟩
  | 48 => ⟨S32, .i32⟩
  | 49 => ⟨S1x32, .i32⟩
  | 50 => ⟨S_, .i32⟩
  | 51 => ⟨S256x1, .i32⟩
  | 52 => ⟨S256x1, .i32⟩
  | 53 => ⟨S256x32, .i32⟩
  | 54 => ⟨S256x32, .i32⟩
  | 55 => ⟨S256x32, .i1⟩
  | 56 => ⟨S_, .f32⟩
  | 57 => ⟨S_, .f32⟩
  | 58 => ⟨S256x32, .f32⟩
  | 59 => ⟨S256x32, .f32⟩
  | 60 => ⟨S256x32, .f32⟩
  | 61 => ⟨S32x1, .i32⟩
  | 62 => ⟨S_, .i32⟩
  | 63 => ⟨S32x1, .i32⟩
  | 64 => ⟨S32x1, .i32⟩
  | 65 => ⟨S_, .i32⟩
  | 66 => ⟨S32x1, .i32⟩
  | 67 => ⟨S32x1, .i32⟩
  | 68 => ⟨S32x32, .i32⟩
  | 69 => ⟨S32x32, .i32⟩
  | 70 => ⟨S32x32, .i1⟩
  | 71 => ⟨S_, .f32⟩
  | 72 => ⟨S_, .f32⟩
  | 73 => ⟨S32x32, .f32⟩
  | 74 => ⟨S32x32, .f32⟩
  | 75 => ⟨S32x32, .f32⟩
  | 76 => ⟨S_, .f32⟩
  | 77 => ⟨S240x768, .f32⟩
  | 78 => ⟨S_, .f32⟩
  | 79 => ⟨S_, .f32⟩
  | 80 => ⟨S8x16400x96, .f32⟩
  | 81 => ⟨S8x16400x96, .f32⟩
  | 82 => ⟨S16400x8x96, .f32⟩
  | 83 => ⟨S16400x768, .f32⟩
  | 84 => ⟨S16640x768, .f32⟩
  | 85 => ⟨S8x2080x768, .f32⟩
  | 86 => ⟨S2080x8x768, .f32⟩
  | 87 => ⟨S16640x768, .f32⟩
  | 88 => ⟨S16640x8x96, .f32⟩
  | 89 => ⟨S16640x8x64, .f32⟩
  | 90 => ⟨S16640x512, .f32⟩
  | 91 => ⟨S16640x8x16, .f32⟩
  | 92 => ⟨S16640x128, .f32⟩
  | 93 => ⟨S16640x8x16, .f32⟩
  | 94 => ⟨S16640x128, .f32⟩
  | 95 => ⟨S_, .f32⟩
  | 96 => ⟨S_, .f32⟩
  | 97 => ⟨S8x16400x96, .f32⟩
  | 98 => ⟨S8x16400x96, .f32⟩
  | 99 => ⟨S16400x8x96, .f32⟩
  | 100 => ⟨S16400x768, .f32⟩
  | 101 => ⟨S16640x768, .f32⟩
  | 102 => ⟨S8x2080x768, .f32⟩
  | 103 => ⟨S2080x8x768, .f32⟩
  | 104 => ⟨S16640x768, .f32⟩
  | 105 => ⟨S16640x8x96, .f32⟩
  | 106 => ⟨S16640x8x64, .f32⟩
  | 107 => ⟨S16640x512, .f32⟩
  | 108 => ⟨S16640x8x32, .f32⟩
  | 109 => ⟨S16640x256, .f32⟩
  | 110 => ⟨S16400x8x64, .f32⟩
  | 111 => ⟨S16400x512, .f32⟩
  | 112 => ⟨S_, .f32⟩
  | 113 => ⟨S240x512, .f32⟩
  | 114 => ⟨S16640x512, .f32⟩
  | 115 => ⟨S8x2080x512, .f32⟩
  | 116 => ⟨S2080x8x512, .f32⟩
  | 117 => ⟨S16640x512, .f32⟩
  | 118 => ⟨S_, .f32⟩
  | 119 => ⟨S240x256, .f32⟩
  | 120 => ⟨S16640x256, .f32⟩
  | 121 => ⟨S8x2080x256, .f32⟩
  | 122 => ⟨S2080x8x256, .f32⟩
  | 123 => ⟨S16640x256, .f32⟩
  | 124 => ⟨S_, .f32⟩
  | 125 => ⟨S240x128, .f32⟩
  | 126 => ⟨S16640x128, .f32⟩
  | 127 => ⟨S8x2080x128, .f32⟩
  | _ => ⟨S16400x256, .f32⟩

abbrev hbmTy0_1 (i : Nat) : BufTy := match i % 128 with
  | 0 => ⟨S2080x8x128, .f32⟩
  | 1 => ⟨S16640x128, .f32⟩
  | 2 => ⟨S256x8x96, .f32⟩
  | 3 => ⟨S256x8x64, .f32⟩
  | 4 => ⟨S256x512, .f32⟩
  | 5 => ⟨S256x8x16, .f32⟩
  | 6 => ⟨S256x128, .f32⟩
  | 7 => ⟨S256x8x16, .f32⟩
  | 8 => ⟨S256x128, .f32⟩
  | 9 => ⟨S256x768, .f32⟩
  | 10 => ⟨S256x768, .bf16⟩
  | 11 => ⟨S128x8x128, .f32⟩
  | 12 => ⟨S128x8x64, .f32⟩
  | 13 => ⟨S128x512, .f32⟩
  | 14 => ⟨S128x8x64, .f32⟩
  | 15 => ⟨S128x512, .f32⟩
  | 16 => ⟨S128x1024, .f32⟩
  | 17 => ⟨S128x1024, .bf16⟩
  | 18 => ⟨S16640x256, .f32⟩
  | 19 => ⟨S16640x128, .f32⟩
  | 20 => ⟨S16640x32, .f32⟩
  | 21 => ⟨S256x768, .f32⟩
  | 22 => ⟨S128x1024, .f32⟩
  | 23 => ⟨S1x256, .f32⟩
  | 24 => ⟨S1x128, .f32⟩
  | 25 => ⟨S2080x8x128, .f32⟩
  | 26 => ⟨S8x2080x128, .f32⟩
  | 27 => ⟨S16640x128, .f32⟩
  | 28 => ⟨S16400x128, .f32⟩
  | 29 => ⟨S128x512, .f32⟩
  | 30 => ⟨S128x8x64, .f32⟩
  | 31 => ⟨S128x512, .f32⟩
  | 32 => ⟨S128x8x64, .f32⟩
  | 33 => ⟨S128x8x128, .f32⟩
  | 34 => ⟨S128x1024, .f32⟩
  | _ => ⟨S16400x256, .f32⟩

abbrev hbmTy (i : Nat) : BufTy := match i / 128 with
  | 0 => hbmTy0_0 i
  | 1 => hbmTy0_1 i
  | _ => ⟨S16400x256, .f32⟩

abbrev bufTy : (tb : Table) → Fin (tcTables nBuf tb) → BufTy
  | .hbm, ⟨i, _⟩ => hbmTy i
  | .local _ .vmem, ⟨0, _⟩ => ⟨S640x512, .f32⟩
  | .local _ .vmem, ⟨1, _⟩ => ⟨S640x512, .f32⟩
  | .local _ .vmem, ⟨2, _⟩ => ⟨S640x128, .f32⟩
  | .local _ .vmem, ⟨3, _⟩ => ⟨S640x128, .f32⟩
  | .local _ .vmem, ⟨4, _⟩ => ⟨S640x128, .f32⟩
  | .local _ .vmem, ⟨5, _⟩ => ⟨S640x128, .f32⟩
  | .local _ .vmem, ⟨6, _⟩ => ⟨S640x512, .f32⟩
  | .local _ .vmem, ⟨7, _⟩ => ⟨S640x512, .f32⟩
  | .local _ .vmem, ⟨8, _⟩ => ⟨S640x512, .f32⟩
  | .local _ .vmem, ⟨9, _⟩ => ⟨S640x512, .f32⟩
  | .local _ .vmem, ⟨10, _⟩ => ⟨S640x256, .f32⟩
  | .local _ .vmem, ⟨11, _⟩ => ⟨S640x256, .f32⟩
  | .local _ .vmem, ⟨12, _⟩ => ⟨S640x256, .f32⟩
  | .local _ .vmem, ⟨13, _⟩ => ⟨S640x256, .f32⟩
  | .local _ .vmem, ⟨14, _⟩ => ⟨S640x128, .f32⟩
  | .local _ .vmem, ⟨15, _⟩ => ⟨S640x128, .f32⟩
  | .local _ .vmem, ⟨16, _⟩ => ⟨S640x128, .f32⟩
  | .local _ .vmem, ⟨17, _⟩ => ⟨S640x128, .f32⟩
  | .local _ .vmem, ⟨18, _⟩ => ⟨S640x128, .f32⟩
  | .local _ .vmem, ⟨19, _⟩ => ⟨S640x128, .f32⟩
  | .local _ .vmem, ⟨20, _⟩ => ⟨S640x32, .f32⟩
  | .local _ .vmem, ⟨21, _⟩ => ⟨S640x32, .f32⟩
  | .local _ .vmem, ⟨22, _⟩ => ⟨S640x32, .f32⟩
  | .local _ .vmem, ⟨23, _⟩ => ⟨S640x32, .f32⟩
  | .local _ .vmem, ⟨24, _⟩ => ⟨S1x256, .f32⟩
  | .local _ .vmem, ⟨25, _⟩ => ⟨S1x128, .f32⟩
  | .local _ .vmem, ⟨26, _⟩ => ⟨S256x768, .bf16⟩
  | .local _ .vmem, ⟨27, _⟩ => ⟨S128x1024, .bf16⟩
  | .local _ .vmem, ⟨28, _⟩ => ⟨S32x32, .f32⟩
  | .local _ .vmem, ⟨29, _⟩ => ⟨S256x32, .f32⟩
  | .local _ .vmem, ⟨30, _⟩ => ⟨S640x256, .f32⟩
  | .local _ .vmem, ⟨31, _⟩ => ⟨S640x256, .f32⟩
  | .local _ .vmem, ⟨32, _⟩ => ⟨S640x128, .f32⟩
  | .local _ .vmem, ⟨33, _⟩ => ⟨S640x128, .f32⟩
  | .local _ .vmem, ⟨34, _⟩ => ⟨S640x32, .f32⟩
  | .local _ .vmem, ⟨35, _⟩ => ⟨S640x32, .f32⟩
  | .local _ .vmem, ⟨36, _⟩ => ⟨S256x768, .f32⟩
  | .local _ .vmem, ⟨37, _⟩ => ⟨S128x1024, .f32⟩
  | .local _ .vmem, ⟨38, _⟩ => ⟨S1x256, .f32⟩
  | .local _ .vmem, ⟨39, _⟩ => ⟨S1x128, .f32⟩
  | _, _ => ⟨S16400x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_call0_v0 : Ref sig .tc := ⟨.hbm, 10, rfl⟩
abbrev main_call0_c : Ref sig .tc := ⟨.hbm, 11, rfl⟩
abbrev main_call0_v1 : Ref sig .tc := ⟨.hbm, 12, rfl⟩
abbrev main_call0_v2 : Ref sig .tc := ⟨.hbm, 13, rfl⟩
abbrev main_call0_c_0 : Ref sig .tc := ⟨.hbm, 14, rfl⟩
abbrev main_call0_v3 : Ref sig .tc := ⟨.hbm, 15, rfl⟩
abbrev main_call0_v4 : Ref sig .tc := ⟨.hbm, 16, rfl⟩
abbrev main_call0_c_1 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_cst : Ref sig .tc := ⟨.hbm, 23, rfl⟩
abbrev main_call0_v10 : Ref sig .tc := ⟨.hbm, 24, rfl⟩
abbrev main_call0_v11 : Ref sig .tc := ⟨.hbm, 25, rfl⟩
abbrev main_call0_cst_2 : Ref sig .tc := ⟨.hbm, 26, rfl⟩
abbrev main_call0_v12 : Ref sig .tc := ⟨.hbm, 27, rfl⟩
abbrev main_call0_v13 : Ref sig .tc := ⟨.hbm, 28, rfl⟩
abbrev main_call0_v14 : Ref sig .tc := ⟨.hbm, 29, rfl⟩
abbrev main_call0_v15 : Ref sig .tc := ⟨.hbm, 30, rfl⟩
abbrev main_call0_v16 : Ref sig .tc := ⟨.hbm, 31, rfl⟩
abbrev main_call0_v17 : Ref sig .tc := ⟨.hbm, 32, rfl⟩
abbrev main_call0_v18 : Ref sig .tc := ⟨.hbm, 33, rfl⟩
abbrev main_call0_v19 : Ref sig .tc := ⟨.hbm, 34, rfl⟩
abbrev main_call0_v20 : Ref sig .tc := ⟨.hbm, 35, rfl⟩
abbrev main_call0_v21 : Ref sig .tc := ⟨.hbm, 36, rfl⟩
abbrev main_call0_v22 : Ref sig .tc := ⟨.hbm, 37, rfl⟩
abbrev main_call0_v23 : Ref sig .tc := ⟨.hbm, 38, rfl⟩
abbrev main_v0_0 : Ref sig .tc := ⟨.hbm, 39, rfl⟩
abbrev main_call0_v25 : Ref sig .tc := ⟨.hbm, 40, rfl⟩
abbrev main_call0_v26 : Ref sig .tc := ⟨.hbm, 41, rfl⟩
abbrev main_v0_1 : Ref sig .tc := ⟨.hbm, 42, rfl⟩
abbrev main_v0_2 : Ref sig .tc := ⟨.hbm, 43, rfl⟩
abbrev main_call0_v29 : Ref sig .tc := ⟨.hbm, 44, rfl⟩
abbrev main_v0_3 : Ref sig .tc := ⟨.hbm, 45, rfl⟩
abbrev main_v1 : Ref sig .tc := ⟨.hbm, 46, rfl⟩
abbrev main_v2 : Ref sig .tc := ⟨.hbm, 47, rfl⟩
abbrev main_v3 : Ref sig .tc := ⟨.hbm, 48, rfl⟩
abbrev main_v4 : Ref sig .tc := ⟨.hbm, 49, rfl⟩
abbrev main_c : Ref sig .tc := ⟨.hbm, 50, rfl⟩
abbrev main_v5 : Ref sig .tc := ⟨.hbm, 51, rfl⟩
abbrev main_v6 : Ref sig .tc := ⟨.hbm, 52, rfl⟩
abbrev main_v7 : Ref sig .tc := ⟨.hbm, 53, rfl⟩
abbrev main_v8 : Ref sig .tc := ⟨.hbm, 54, rfl⟩
abbrev main_v9 : Ref sig .tc := ⟨.hbm, 55, rfl⟩
abbrev main_cst : Ref sig .tc := ⟨.hbm, 56, rfl⟩
abbrev main_cst_0 : Ref sig .tc := ⟨.hbm, 57, rfl⟩
abbrev main_call1_v0 : Ref sig .tc := ⟨.hbm, 58, rfl⟩
abbrev main_call1_v1 : Ref sig .tc := ⟨.hbm, 59, rfl⟩
abbrev main_v10 : Ref sig .tc := ⟨.hbm, 60, rfl⟩
abbrev main_v11 : Ref sig .tc := ⟨.hbm, 61, rfl⟩
abbrev main_c_1 : Ref sig .tc := ⟨.hbm, 62, rfl⟩
abbrev main_v12 : Ref sig .tc := ⟨.hbm, 63, rfl⟩
abbrev main_v13 : Ref sig .tc := ⟨.hbm, 64, rfl⟩
abbrev main_c_2 : Ref sig .tc := ⟨.hbm, 65, rfl⟩
abbrev main_v14 : Ref sig .tc := ⟨.hbm, 66, rfl⟩
abbrev main_v15 : Ref sig .tc := ⟨.hbm, 67, rfl⟩
abbrev main_v16 : Ref sig .tc := ⟨.hbm, 68, rfl⟩
abbrev main_v17 : Ref sig .tc := ⟨.hbm, 69, rfl⟩
abbrev main_v18 : Ref sig .tc := ⟨.hbm, 70, rfl⟩
abbrev main_cst_3 : Ref sig .tc := ⟨.hbm, 71, rfl⟩
abbrev main_cst_4 : Ref sig .tc := ⟨.hbm, 72, rfl⟩
abbrev main_call2_v0 : Ref sig .tc := ⟨.hbm, 73, rfl⟩
abbrev main_call2_v1 : Ref sig .tc := ⟨.hbm, 74, rfl⟩
abbrev main_v19 : Ref sig .tc := ⟨.hbm, 75, rfl⟩
abbrev main_cst_5 : Ref sig .tc := ⟨.hbm, 76, rfl⟩
abbrev main_v20 : Ref sig .tc := ⟨.hbm, 77, rfl⟩
abbrev main_call3_cst : Ref sig .tc := ⟨.hbm, 78, rfl⟩
abbrev main_call3_v0 : Ref sig .tc := ⟨.hbm, 79, rfl⟩
abbrev main_call3_v1 : Ref sig .tc := ⟨.hbm, 80, rfl⟩
abbrev main_call3_v2 : Ref sig .tc := ⟨.hbm, 81, rfl⟩
abbrev main_call3_v3 : Ref sig .tc := ⟨.hbm, 82, rfl⟩
abbrev main_call3_v4 : Ref sig .tc := ⟨.hbm, 83, rfl⟩
abbrev main_call3_v5 : Ref sig .tc := ⟨.hbm, 84, rfl⟩
abbrev main_call3_v6 : Ref sig .tc := ⟨.hbm, 85, rfl⟩
abbrev main_call3_v7 : Ref sig .tc := ⟨.hbm, 86, rfl⟩
abbrev main_call3_v8 : Ref sig .tc := ⟨.hbm, 87, rfl⟩
abbrev main_call3_v9 : Ref sig .tc := ⟨.hbm, 88, rfl⟩
abbrev main_call3_v10 : Ref sig .tc := ⟨.hbm, 89, rfl⟩
abbrev main_v21_0 : Ref sig .tc := ⟨.hbm, 90, rfl⟩
abbrev main_call3_v12 : Ref sig .tc := ⟨.hbm, 91, rfl⟩
abbrev main_v21_1 : Ref sig .tc := ⟨.hbm, 92, rfl⟩
abbrev main_call3_v14 : Ref sig .tc := ⟨.hbm, 93, rfl⟩
abbrev main_v21_2 : Ref sig .tc := ⟨.hbm, 94, rfl⟩
abbrev main_call4_cst : Ref sig .tc := ⟨.hbm, 95, rfl⟩
abbrev main_call4_v0 : Ref sig .tc := ⟨.hbm, 96, rfl⟩
abbrev main_call4_v1 : Ref sig .tc := ⟨.hbm, 97, rfl⟩
abbrev main_call4_v2 : Ref sig .tc := ⟨.hbm, 98, rfl⟩
abbrev main_call4_v3 : Ref sig .tc := ⟨.hbm, 99, rfl⟩
abbrev main_call4_v4 : Ref sig .tc := ⟨.hbm, 100, rfl⟩
abbrev main_call4_v5 : Ref sig .tc := ⟨.hbm, 101, rfl⟩
abbrev main_call4_v6 : Ref sig .tc := ⟨.hbm, 102, rfl⟩
abbrev main_call4_v7 : Ref sig .tc := ⟨.hbm, 103, rfl⟩
abbrev main_call4_v8 : Ref sig .tc := ⟨.hbm, 104, rfl⟩
abbrev main_call4_v9 : Ref sig .tc := ⟨.hbm, 105, rfl⟩
abbrev main_call4_v10 : Ref sig .tc := ⟨.hbm, 106, rfl⟩
abbrev main_v22_0 : Ref sig .tc := ⟨.hbm, 107, rfl⟩
abbrev main_call4_v12 : Ref sig .tc := ⟨.hbm, 108, rfl⟩
abbrev main_v22_1 : Ref sig .tc := ⟨.hbm, 109, rfl⟩
abbrev main_v23 : Ref sig .tc := ⟨.hbm, 110, rfl⟩
abbrev main_v24 : Ref sig .tc := ⟨.hbm, 111, rfl⟩
abbrev main_cst_6 : Ref sig .tc := ⟨.hbm, 112, rfl⟩
abbrev main_v25 : Ref sig .tc := ⟨.hbm, 113, rfl⟩
abbrev main_v26 : Ref sig .tc := ⟨.hbm, 114, rfl⟩
abbrev main_v27 : Ref sig .tc := ⟨.hbm, 115, rfl⟩
abbrev main_v28 : Ref sig .tc := ⟨.hbm, 116, rfl⟩
abbrev main_v29 : Ref sig .tc := ⟨.hbm, 117, rfl⟩
abbrev main_cst_7 : Ref sig .tc := ⟨.hbm, 118, rfl⟩
abbrev main_v30 : Ref sig .tc := ⟨.hbm, 119, rfl⟩
abbrev main_v31 : Ref sig .tc := ⟨.hbm, 120, rfl⟩
abbrev main_v32 : Ref sig .tc := ⟨.hbm, 121, rfl⟩
abbrev main_v33 : Ref sig .tc := ⟨.hbm, 122, rfl⟩
abbrev main_v34 : Ref sig .tc := ⟨.hbm, 123, rfl⟩
abbrev main_cst_8 : Ref sig .tc := ⟨.hbm, 124, rfl⟩
abbrev main_v35 : Ref sig .tc := ⟨.hbm, 125, rfl⟩
abbrev main_v36 : Ref sig .tc := ⟨.hbm, 126, rfl⟩
abbrev main_v37 : Ref sig .tc := ⟨.hbm, 127, rfl⟩
abbrev main_v38 : Ref sig .tc := ⟨.hbm, 128, rfl⟩
abbrev main_v39 : Ref sig .tc := ⟨.hbm, 129, rfl⟩
abbrev main_v40 : Ref sig .tc := ⟨.hbm, 130, rfl⟩
abbrev main_v41 : Ref sig .tc := ⟨.hbm, 131, rfl⟩
abbrev main_v42 : Ref sig .tc := ⟨.hbm, 132, rfl⟩
abbrev main_v43 : Ref sig .tc := ⟨.hbm, 133, rfl⟩
abbrev main_v44 : Ref sig .tc := ⟨.hbm, 134, rfl⟩
abbrev main_v45 : Ref sig .tc := ⟨.hbm, 135, rfl⟩
abbrev main_v46 : Ref sig .tc := ⟨.hbm, 136, rfl⟩
abbrev main_v47 : Ref sig .tc := ⟨.hbm, 137, rfl⟩
abbrev main_v48 : Ref sig .tc := ⟨.hbm, 138, rfl⟩
abbrev main_call5_v0 : Ref sig .tc := ⟨.hbm, 139, rfl⟩
abbrev main_call5_v1 : Ref sig .tc := ⟨.hbm, 140, rfl⟩
abbrev main_call5_v2 : Ref sig .tc := ⟨.hbm, 141, rfl⟩
abbrev main_call5_v3 : Ref sig .tc := ⟨.hbm, 142, rfl⟩
abbrev main_call5_v4 : Ref sig .tc := ⟨.hbm, 143, rfl⟩
abbrev main_v49 : Ref sig .tc := ⟨.hbm, 144, rfl⟩
abbrev main_v50 : Ref sig .tc := ⟨.hbm, 145, rfl⟩
abbrev main_v51_0 : Ref sig .tc := ⟨.hbm, 146, rfl⟩
abbrev main_v51_1 : Ref sig .tc := ⟨.hbm, 147, rfl⟩
abbrev main_v51_2 : Ref sig .tc := ⟨.hbm, 148, rfl⟩
abbrev main_v51_3 : Ref sig .tc := ⟨.hbm, 149, rfl⟩
abbrev main_v51_4 : Ref sig .tc := ⟨.hbm, 150, rfl⟩
abbrev main_v51_5 : Ref sig .tc := ⟨.hbm, 151, rfl⟩
abbrev main_v51_6 : Ref sig .tc := ⟨.hbm, 152, rfl⟩
abbrev main_v52 : Ref sig .tc := ⟨.hbm, 153, rfl⟩
abbrev main_v53 : Ref sig .tc := ⟨.hbm, 154, rfl⟩
abbrev main_v54 : Ref sig .tc := ⟨.hbm, 155, rfl⟩
abbrev main_v55 : Ref sig .tc := ⟨.hbm, 156, rfl⟩
abbrev main_v56 : Ref sig .tc := ⟨.hbm, 157, rfl⟩
abbrev main_v57 : Ref sig .tc := ⟨.hbm, 158, rfl⟩
abbrev main_v58 : Ref sig .tc := ⟨.hbm, 159, rfl⟩
abbrev main_v59 : Ref sig .tc := ⟨.hbm, 160, rfl⟩
abbrev main_v60 : Ref sig .tc := ⟨.hbm, 161, rfl⟩
abbrev main_v61 : Ref sig .tc := ⟨.hbm, 162, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg13_0 : Ref sig .tc := ⟨.vmem, 25, rfl⟩
abbrev cc0_stg14_0 : Ref sig .tc := ⟨.vmem, 26, rfl⟩
abbrev cc0_stg15_0 : Ref sig .tc := ⟨.vmem, 27, rfl⟩
abbrev cc0_stg16_0 : Ref sig .tc := ⟨.vmem, 28, rfl⟩
abbrev cc0_stg17_0 : Ref sig .tc := ⟨.vmem, 29, rfl⟩
abbrev cc0_stg18_0 : Ref sig .tc := ⟨.vmem, 30, rfl⟩
abbrev cc0_stg18_1 : Ref sig .tc := ⟨.vmem, 31, rfl⟩
abbrev cc0_stg19_0 : Ref sig .tc := ⟨.vmem, 32, rfl⟩
abbrev cc0_stg19_1 : Ref sig .tc := ⟨.vmem, 33, rfl⟩
abbrev cc0_stg20_0 : Ref sig .tc := ⟨.vmem, 34, rfl⟩
abbrev cc0_stg20_1 : Ref sig .tc := ⟨.vmem, 35, rfl⟩
abbrev cc0_stg21_0 : Ref sig .tc := ⟨.vmem, 36, rfl⟩
abbrev cc0_stg22_0 : Ref sig .tc := ⟨.vmem, 37, rfl⟩
abbrev cc0_stg23_0 : Ref sig .tc := ⟨.vmem, 38, rfl⟩
abbrev cc0_stg24_0 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem13_0 : DmaSem sig := 25
abbrev cc0_sem14_0 : DmaSem sig := 26
abbrev cc0_sem15_0 : DmaSem sig := 27
abbrev cc0_sem16_0 : DmaSem sig := 28
abbrev cc0_sem17_0 : DmaSem sig := 29
abbrev cc0_sem18_0 : DmaSem sig := 30
abbrev cc0_sem18_1 : DmaSem sig := 31
abbrev cc0_sem19_0 : DmaSem sig := 32
abbrev cc0_sem19_1 : DmaSem sig := 33
abbrev cc0_sem20_0 : DmaSem sig := 34
abbrev cc0_sem20_1 : DmaSem sig := 35
abbrev cc0_sem21_0 : DmaSem sig := 36
abbrev cc0_sem22_0 : DmaSem sig := 37
abbrev cc0_sem23_0 : DmaSem sig := 38
abbrev cc0_sem24_0 : DmaSem sig := 39

abbrev nD : Nat := 1
abbrev τ : Topo := Topo.v7x

variable {F : FTy → Type} [FloatOps F]

abbrev grid0 : Pipeline.Grid := ⟨1, ![26], ![false]⟩

def k0_cond1 (i : grid0.Coords) : BitVec 1 :=
  let arg0 : BitVec 32 := BitVec.ofNat 32 (i 0).val
  let c0_i32 : BitVec 32 := 0#32
  let v37 : BitVec 1 := Scalar.cmpi .eq arg0 c0_i32
  let v38 : BitVec 32 := Scalar.extui v37
  let c0_i32_17 : BitVec 32 := 0#32
  let v39 : BitVec 1 := Scalar.cmpi .ne v38 c0_i32_17
  v39

def k0_cond2 (i : grid0.Coords) : BitVec 1 :=
  let arg0 : BitVec 32 := BitVec.ofNat 32 (i 0).val
  let c0_i32 : BitVec 32 := 0#32
  let v37 : BitVec 1 := Scalar.cmpi .eq arg0 c0_i32
  let v_true : BitVec 1 := 1#1
  let v40 : BitVec 1 := Scalar.xori v37 v_true
  let v41 : BitVec 32 := Scalar.extui v40
  let c0_i32_18 : BitVec 32 := 0#32
  let v42 : BitVec 1 := Scalar.cmpi .ne v41 c0_i32_18
  v42

def k0_cond5 (i : grid0.Coords) : BitVec 1 :=
  let arg0 : BitVec 32 := BitVec.ofNat 32 (i 0).val
  let c0_i32_44 : BitVec 32 := 0#32
  let v96 : BitVec 1 := Scalar.cmpi .eq arg0 c0_i32_44
  let v97 : BitVec 32 := Scalar.extui v96
  let c0_i32_45 : BitVec 32 := 0#32
  let v98 : BitVec 1 := Scalar.cmpi .ne v97 c0_i32_45
  v98

def k0_cond6 (i : grid0.Coords) : BitVec 1 :=
  let arg0 : BitVec 32 := BitVec.ofNat 32 (i 0).val
  let c0_i32_44 : BitVec 32 := 0#32
  let v96 : BitVec 1 := Scalar.cmpi .eq arg0 c0_i32_44
  let true_46 : BitVec 1 := 1#1
  let v99 : BitVec 1 := Scalar.xori v96 true_46
  let v100 : BitVec 32 := Scalar.extui v99
  let c0_i32_47 : BitVec 32 := 0#32
  let v101 : BitVec 1 := Scalar.cmpi .ne v100 c0_i32_47
  v101

def k0_cond3 (i : grid0.Coords) : BitVec 1 :=
  let arg0 : BitVec 32 := BitVec.ofNat 32 (i 0).val
  let c0_i32_27 : BitVec 32 := 0#32
  let v65 : BitVec 1 := Scalar.cmpi .eq arg0 c0_i32_27
  let v66 : BitVec 32 := Scalar.extui v65
  let c0_i32_28 : BitVec 32 := 0#32
  let v67 : BitVec 1 := Scalar.cmpi .ne v66 c0_i32_28
  v67

def k0_cond4 (i : grid0.Coords) : BitVec 1 :=
  let arg0 : BitVec 32 := BitVec.ofNat 32 (i 0).val
  let c0_i32_27 : BitVec 32 := 0#32
  let v65 : BitVec 1 := Scalar.cmpi .eq arg0 c0_i32_27
  let true_29 : BitVec 1 := 1#1
  let v68 : BitVec 1 := Scalar.xori v65 true_29
  let v69 : BitVec 32 := Scalar.extui v68
  let c0_i32_30 : BitVec 32 := 0#32
  let v70 : BitVec 1 := Scalar.cmpi .ne v69 c0_i32_30
  v70

def k0_cond7 (i : grid0.Coords) : BitVec 1 :=
  let arg0 : BitVec 32 := BitVec.ofNat 32 (i 0).val
  let c0_i32_56 : BitVec 32 := 0#32
  let v124 : BitVec 1 := Scalar.cmpi .eq arg0 c0_i32_56
  let v125 : BitVec 32 := Scalar.extui v124
  let c0_i32_57 : BitVec 32 := 0#32
  let v126 : BitVec 1 := Scalar.cmpi .ne v125 c0_i32_57
  v126

def k0_cond8 (i : grid0.Coords) : BitVec 1 :=
  let arg0 : BitVec 32 := BitVec.ofNat 32 (i 0).val
  let c0_i32_56 : BitVec 32 := 0#32
  let v124 : BitVec 1 := Scalar.cmpi .eq arg0 c0_i32_56
  let true_58 : BitVec 1 := 1#1
  let v127 : BitVec 1 := Scalar.xori v124 true_58
  let v128 : BitVec 32 := Scalar.extui v127
  let c0_i32_59 : BitVec 32 := 0#32
  let v129 : BitVec 1 := Scalar.cmpi .ne v128 c0_i32_59
  v129

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S640x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S640x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S640x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S640x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S640x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S640x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S640x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S640x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S640x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S640x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S640x32 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S640x32 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S256x768 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S128x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S32x32 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S256x32 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 2 → Memref sig .tc .vmem S640x256 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S640x128 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S640x32 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 1 → Memref sig .tc .vmem S256x768 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S128x1024 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S1x256 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S1x128 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]
-- ==== QkvIdeal.lean ====
variable {F : FTy → Type} [FloatOps F] [Named F]
def κ : String → Option EReal := fun
  | "inv_sqrt" => some (((Real.sqrt 96)⁻¹ : ℝ) : EReal)
  | "ln2" => some ((Real.log 2 : ℝ) : EReal)
  | "log2e" => some (((Real.log 2)⁻¹ : ℝ) : EReal)
  | "sqrt96" => some ((Real.sqrt 96 : ℝ) : EReal)
  | _ => none
-- ==== QkvRefIdeal.lean ====
abbrev S16400x256 : Shape := ⟨2, ![16400, 256]⟩
abbrev S16400x128 : Shape := ⟨2, ![16400, 128]⟩
abbrev S16400x32 : Shape := ⟨2, ![16400, 32]⟩
abbrev S1x256 : Shape := ⟨2, ![1, 256]⟩
abbrev S256x768 : Shape := ⟨2, ![256, 768]⟩
abbrev S1x128 : Shape := ⟨2, ![1, 128]⟩
abbrev S128x1024 : Shape := ⟨2, ![128, 1024]⟩
abbrev S8x16400x96 : Shape := ⟨3, ![8, 16400, 96]⟩
abbrev S8x16400x64 : Shape := ⟨3, ![8, 16400, 64]⟩
abbrev S_ : Shape := ⟨0, ![]⟩
abbrev S16400 : Shape := ⟨1, ![16400]⟩
abbrev S16400x1 : Shape := ⟨2, ![16400, 1]⟩
abbrev S16400x768 : Shape := ⟨2, ![16400, 768]⟩
abbrev S16400x8x96 : Shape := ⟨3, ![16400, 8, 96]⟩
abbrev S16400x8x64 : Shape := ⟨3, ![16400, 8, 64]⟩
abbrev S16400x8x32 : Shape := ⟨3, ![16400, 8, 32]⟩
abbrev S16 : Shape := ⟨1, ![16]⟩
abbrev S1x16 : Shape := ⟨2, ![1, 16]⟩
abbrev S16400x16 : Shape := ⟨2, ![16400, 16]⟩
abbrev S16400x1x16 : Shape := ⟨3, ![16400, 1, 16]⟩
abbrev S16400x8x16 : Shape := ⟨3, ![16400, 8, 16]⟩
abbrev S16400x1024 : Shape := ⟨2, ![16400, 1024]⟩
abbrev S16400x8x128 : Shape := ⟨3, ![16400, 8, 128]⟩
abbrev S16400x1x32 : Shape := ⟨3, ![16400, 1, 32]⟩
abbrev S1024x128 : Shape := ⟨2, ![1024, 128]⟩
abbrev S128 : Shape := ⟨1, ![128]⟩
abbrev S768x256 : Shape := ⟨2, ![768, 256]⟩
abbrev S256 : Shape := ⟨1, ![256]⟩

abbrev nBuf : Space → Nat
  | .hbm => 231
  | .vmem => 0
  | .smem => 0
  | _ => 0

abbrev hbmTy0_0 (i : Nat) : BufTy := match i % 128 with
  | 0 => ⟨S16400x256, .f32⟩
  | 1 => ⟨S16400x128, .f32⟩
  | 2 => ⟨S16400x32, .f32⟩
  | 3 => ⟨S1x256, .f32⟩
  | 4 => ⟨S256x768, .f32⟩
  | 5 => ⟨S1x128, .f32⟩
  | 6 => ⟨S128x1024, .f32⟩
  | 7 => ⟨S8x16400x96, .f32⟩
  | 8 => ⟨S8x16400x96, .f32⟩
  | 9 => ⟨S8x16400x64, .f32⟩
  | 10 => ⟨S16400x256, .f32⟩
  | 11 => ⟨S_, .f32⟩
  | 12 => ⟨S16400, .f32⟩
  | 13 => ⟨S16400x1, .f32⟩
  | 14 => ⟨S_, .f32⟩
  | 15 => ⟨S16400x1, .f32⟩
  | 16 => ⟨S16400x1, .f32⟩
  | 17 => ⟨S_, .f32⟩
  | 18 => ⟨S16400x1, .f32⟩
  | 19 => ⟨S16400x1, .f32⟩
  | 20 => ⟨S16400x1, .f32⟩
  | 21 => ⟨S16400x1, .f32⟩
  | 22 => ⟨S_, .f32⟩
  | 23 => ⟨S16400x1, .f32⟩
  | 24 => ⟨S16400x1, .f32⟩
  | 25 => ⟨S16400x256, .f32⟩
  | 26 => ⟨S16400x256, .f32⟩
  | 27 => ⟨S16400x256, .f32⟩
  | 28 => ⟨S16400x256, .f32⟩
  | 29 => ⟨S16400x768, .f32⟩
  | 30 => ⟨S16400x8x96, .f32⟩
  | 31 => ⟨S16400x8x64, .f32⟩
  | 32 => ⟨S16400x8x32, .f32⟩
  | 33 => ⟨S16, .f32⟩
  | 34 => ⟨S16, .f32⟩
  | 35 => ⟨S_, .f32⟩
  | 36 => ⟨S16, .f32⟩
  | 37 => ⟨S16, .f32⟩
  | 38 => ⟨S_, .f32⟩
  | 39 => ⟨S16, .f32⟩
  | 40 => ⟨S16, .f32⟩
  | 41 => ⟨S16400, .i32⟩
  | 42 => ⟨S16400, .f32⟩
  | 43 => ⟨S16400x1, .f32⟩
  | 44 => ⟨S1x16, .f32⟩
  | 45 => ⟨S16400x16, .f32⟩
  | 46 => ⟨S16400x16, .f32⟩
  | 47 => ⟨S16400x16, .f32⟩
  | 48 => ⟨S16400x16, .f32⟩
  | 49 => ⟨S16400x1x16, .f32⟩
  | 50 => ⟨S16400x16, .f32⟩
  | 51 => ⟨S16400x1x16, .f32⟩
  | 52 => ⟨S16400x8x16, .f32⟩
  | 53 => ⟨S16400x8x16, .f32⟩
  | 54 => ⟨S16400x8x16, .f32⟩
  | 55 => ⟨S16400x8x16, .f32⟩
  | 56 => ⟨S16400x8x16, .f32⟩
  | 57 => ⟨S16400x8x16, .f32⟩
  | 58 => ⟨S16400x8x16, .f32⟩
  | 59 => ⟨S16400x8x16, .f32⟩
  | 60 => ⟨S16400x8x16, .f32⟩
  | 61 => ⟨S16400x8x16, .f32⟩
  | 62 => ⟨S16400x8x16, .f32⟩
  | 63 => ⟨S16400x8x16, .f32⟩
  | 64 => ⟨S16400x8x32, .f32⟩
  | 65 => ⟨S16400x128, .f32⟩
  | 66 => ⟨S_, .f32⟩
  | 67 => ⟨S16400, .f32⟩
  | 68 => ⟨S16400x1, .f32⟩
  | 69 => ⟨S_, .f32⟩
  | 70 => ⟨S16400x1, .f32⟩
  | 71 => ⟨S16400x1, .f32⟩
  | 72 => ⟨S_, .f32⟩
  | 73 => ⟨S16400x1, .f32⟩
  | 74 => ⟨S16400x1, .f32⟩
  | 75 => ⟨S16400x1, .f32⟩
  | 76 => ⟨S16400x1, .f32⟩
  | 77 => ⟨S_, .f32⟩
  | 78 => ⟨S16400x1, .f32⟩
  | 79 => ⟨S16400x1, .f32⟩
  | 80 => ⟨S16400x128, .f32⟩
  | 81 => ⟨S16400x128, .f32⟩
  | 82 => ⟨S16400x128, .f32⟩
  | 83 => ⟨S16400x128, .f32⟩
  | 84 => ⟨S16400x1024, .f32⟩
  | 85 => ⟨S16400x8x128, .f32⟩
  | 86 => ⟨S16400x8x64, .f32⟩
  | 87 => ⟨S16400x8x64, .f32⟩
  | 88 => ⟨S16400x1x32, .f32⟩
  | 89 => ⟨S16, .f32⟩
  | 90 => ⟨S16, .f32⟩
  | 91 => ⟨S_, .f32⟩
  | 92 => ⟨S16, .f32⟩
  | 93 => ⟨S16, .f32⟩
  | 94 => ⟨S_, .f32⟩
  | 95 => ⟨S16, .f32⟩
  | 96 => ⟨S16, .f32⟩
  | 97 => ⟨S16400, .i32⟩
  | 98 => ⟨S16400, .f32⟩
  | 99 => ⟨S16400x1, .f32⟩
  | 100 => ⟨S1x16, .f32⟩
  | 101 => ⟨S16400x16, .f32⟩
  | 102 => ⟨S16400x16, .f32⟩
  | 103 => ⟨S16400x16, .f32⟩
  | 104 => ⟨S16400x16, .f32⟩
  | 105 => ⟨S16400x1x16, .f32⟩
  | 106 => ⟨S16400x16, .f32⟩
  | 107 => ⟨S16400x1x16, .f32⟩
  | 108 => ⟨S16400x1x16, .f32⟩
  | 109 => ⟨S16400x1x16, .f32⟩
  | 110 => ⟨S16400x1x16, .f32⟩
  | 111 => ⟨S16400x1x16, .f32⟩
  | 112 => ⟨S16400x1x16, .f32⟩
  | 113 => ⟨S16400x1x16, .f32⟩
  | 114 => ⟨S16400x1x16, .f32⟩
  | 115 => ⟨S16400x1x16, .f32⟩
  | 116 => ⟨S16400x1x32, .f32⟩
  | 117 => ⟨S16400x8x32, .f32⟩
  | 118 => ⟨S16400x8x96, .f32⟩
  | 119 => ⟨S8x16400x96, .f32⟩
  | 120 => ⟨S16400x8x96, .f32⟩
  | 121 => ⟨S8x16400x96, .f32⟩
  | 122 => ⟨S8x16400x64, .f32⟩
  | 123 => ⟨S16400x8x64, .f32⟩
  | 124 => ⟨S16400x8x96, .f32⟩
  | 125 => ⟨S16400x8x64, .f32⟩
  | 126 => ⟨S16400x8x32, .f32⟩
  | 127 => ⟨S16400x8x96, .f32⟩
  | _ => ⟨S16400x256, .f32⟩

abbrev hbmTy0_1 (i : Nat) : BufTy := match i % 128 with
  | 0 => ⟨S16400x8x64, .f32⟩
  | 1 => ⟨S16400x8x32, .f32⟩
  | 2 => ⟨S_, .f32⟩
  | 3 => ⟨S16400x32, .f32⟩
  | 4 => ⟨S16400x1x32, .f32⟩
  | 5 => ⟨S16400x1x16, .f32⟩
  | 6 => ⟨S16400x1x16, .f32⟩
  | 7 => ⟨S16400x1x16, .f32⟩
  | 8 => ⟨S16400x1x16, .f32⟩
  | 9 => ⟨S16400x1x16, .f32⟩
  | 10 => ⟨S16400x1x16, .f32⟩
  | 11 => ⟨S16400x1x16, .f32⟩
  | 12 => ⟨S16400x1x16, .f32⟩
  | 13 => ⟨S16400x1x16, .f32⟩
  | 14 => ⟨S_, .f32⟩
  | 15 => ⟨S16400x1x32, .f32⟩
  | 16 => ⟨S_, .f32⟩
  | 17 => ⟨S16400x1x32, .f32⟩
  | 18 => ⟨S16400x1x32, .f32⟩
  | 19 => ⟨S_, .f32⟩
  | 20 => ⟨S16400x32, .f32⟩
  | 21 => ⟨S_, .f32⟩
  | 22 => ⟨S16400x8x128, .f32⟩
  | 23 => ⟨S_, .f32⟩
  | 24 => ⟨S16400x8x128, .f32⟩
  | 25 => ⟨S16400x8x128, .f32⟩
  | 26 => ⟨S16400x1024, .f32⟩
  | 27 => ⟨S1024x128, .f32⟩
  | 28 => ⟨S128x1024, .f32⟩
  | 29 => ⟨S16400x128, .f32⟩
  | 30 => ⟨S16400x128, .f32⟩
  | 31 => ⟨S_, .f32⟩
  | 32 => ⟨S128, .f32⟩
  | 33 => ⟨S1x128, .f32⟩
  | 34 => ⟨S16400x128, .f32⟩
  | 35 => ⟨S16400x128, .f32⟩
  | 36 => ⟨S16400x128, .f32⟩
  | 37 => ⟨S_, .f32⟩
  | 38 => ⟨S16400, .f32⟩
  | 39 => ⟨S16400x1, .f32⟩
  | 40 => ⟨S16400x128, .f32⟩
  | 41 => ⟨S16400x128, .f32⟩
  | 42 => ⟨S16400x1, .f32⟩
  | 43 => ⟨S_, .f32⟩
  | 44 => ⟨S16400x1, .f32⟩
  | 45 => ⟨S16400x1, .f32⟩
  | 46 => ⟨S_, .f32⟩
  | 47 => ⟨S16400, .f32⟩
  | 48 => ⟨S16400x128, .f32⟩
  | 49 => ⟨S16400x128, .f32⟩
  | 50 => ⟨S16400x128, .f32⟩
  | 51 => ⟨S16400x128, .f32⟩
  | 52 => ⟨S16400x128, .f32⟩
  | 53 => ⟨S16400x8x16, .f32⟩
  | 54 => ⟨S16400x8x16, .f32⟩
  | 55 => ⟨S16400x8x16, .f32⟩
  | 56 => ⟨S16400x8x16, .f32⟩
  | 57 => ⟨S16400x8x16, .f32⟩
  | 58 => ⟨S16400x8x16, .f32⟩
  | 59 => ⟨S16400x8x16, .f32⟩
  | 60 => ⟨S16400x8x16, .f32⟩
  | 61 => ⟨S16400x8x16, .f32⟩
  | 62 => ⟨S16400x8x16, .f32⟩
  | 63 => ⟨S16400x8x16, .f32⟩
  | 64 => ⟨S16400x8x16, .f32⟩
  | 65 => ⟨S16400x8x16, .f32⟩
  | 66 => ⟨S_, .f32⟩
  | 67 => ⟨S16400x8x32, .f32⟩
  | 68 => ⟨S_, .f32⟩
  | 69 => ⟨S16400x8x32, .f32⟩
  | 70 => ⟨S16400x8x32, .f32⟩
  | 71 => ⟨S_, .f32⟩
  | 72 => ⟨S16400x8x96, .f32⟩
  | 73 => ⟨S_, .f32⟩
  | 74 => ⟨S16400x8x96, .f32⟩
  | 75 => ⟨S16400x8x96, .f32⟩
  | 76 => ⟨S16400x768, .f32⟩
  | 77 => ⟨S768x256, .f32⟩
  | 78 => ⟨S256x768, .f32⟩
  | 79 => ⟨S16400x256, .f32⟩
  | 80 => ⟨S16400x256, .f32⟩
  | 81 => ⟨S_, .f32⟩
  | 82 => ⟨S256, .f32⟩
  | 83 => ⟨S1x256, .f32⟩
  | 84 => ⟨S16400x256, .f32⟩
  | 85 => ⟨S16400x256, .f32⟩
  | 86 => ⟨S16400x256, .f32⟩
  | 87 => ⟨S_, .f32⟩
  | 88 => ⟨S16400, .f32⟩
  | 89 => ⟨S16400x1, .f32⟩
  | 90 => ⟨S16400x256, .f32⟩
  | 91 => ⟨S16400x256, .f32⟩
  | 92 => ⟨S16400x1, .f32⟩
  | 93 => ⟨S_, .f32⟩
  | 94 => ⟨S16400x1, .f32⟩
  | 95 => ⟨S16400x1, .f32⟩
  | 96 => ⟨S_, .f32⟩
  | 97 => ⟨S16400, .f32⟩
  | 98 => ⟨S16400x256, .f32⟩
  | 99 => ⟨S16400x256, .f32⟩
  | 100 => ⟨S16400x256, .f32⟩
  | 101 => ⟨S16400x256, .f32⟩
  | 102 => ⟨S16400x256, .f32⟩
  | _ => ⟨S16400x256, .f32⟩

abbrev hbmTy (i : Nat) : BufTy := match i / 128 with
  | 0 => hbmTy0_0 i
  | 1 => hbmTy0_1 i
  | _ => ⟨S16400x256, .f32⟩

abbrev bufTy : (tb : Table) → Fin (tcTables nBuf tb) → BufTy
  | .hbm, ⟨i, _⟩ => hbmTy i
  | _, _ => ⟨S16400x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst_2 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_3 : Ref sig .tc := ⟨.hbm, 35, rfl⟩
abbrev main_v21 : Ref sig .tc := ⟨.hbm, 36, rfl⟩
abbrev main_v22 : Ref sig .tc := ⟨.hbm, 37, rfl⟩
abbrev main_cst_4 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_cst_5 : Ref sig .tc := ⟨.hbm, 66, rfl⟩
abbrev main_v50 : Ref sig .tc := ⟨.hbm, 67, rfl⟩
abbrev main_v51 : Ref sig .tc := ⟨.hbm, 68, rfl⟩
abbrev main_cst_6 : Ref sig .tc := ⟨.hbm, 69, rfl⟩
abbrev main_v52 : Ref sig .tc := ⟨.hbm, 70, rfl⟩
abbrev main_v53 : Ref sig .tc := ⟨.hbm, 71, rfl⟩
abbrev main_cst_7 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_cst_8 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_cst_9 : Ref sig .tc := ⟨.hbm, 91, rfl⟩
abbrev main_v71 : Ref sig .tc := ⟨.hbm, 92, rfl⟩
abbrev main_v72 : Ref sig .tc := ⟨.hbm, 93, rfl⟩
abbrev main_cst_10 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩
abbrev main_v101 : Ref sig .tc := ⟨.hbm, 123, rfl⟩
abbrev main_v102 : Ref sig .tc := ⟨.hbm, 124, rfl⟩
abbrev main_v103 : Ref sig .tc := ⟨.hbm, 125, rfl⟩
abbrev main_v104 : Ref sig .tc := ⟨.hbm, 126, rfl⟩
abbrev main_v105 : Ref sig .tc := ⟨.hbm, 127, rfl⟩
abbrev main_v106 : Ref sig .tc := ⟨.hbm, 128, rfl⟩
abbrev main_v107 : Ref sig .tc := ⟨.hbm, 129, rfl⟩
abbrev main_cst_11 : Ref sig .tc := ⟨.hbm, 130, rfl⟩
abbrev main_v108 : Ref sig .tc := ⟨.hbm, 131, rfl⟩
abbrev main_v109 : Ref sig .tc := ⟨.hbm, 132, rfl⟩
abbrev main_v110 : Ref sig .tc := ⟨.hbm, 133, rfl⟩
abbrev main_v111 : Ref sig .tc := ⟨.hbm, 134, rfl⟩
abbrev main_v112 : Ref sig .tc := ⟨.hbm, 135, rfl⟩
abbrev main_v113 : Ref sig .tc := ⟨.hbm, 136, rfl⟩
abbrev main_v114 : Ref sig .tc := ⟨.hbm, 137, rfl⟩
abbrev main_v115 : Ref sig .tc := ⟨.hbm, 138, rfl⟩
abbrev main_v116 : Ref sig .tc := ⟨.hbm, 139, rfl⟩
abbrev main_v117 : Ref sig .tc := ⟨.hbm, 140, rfl⟩
abbrev main_v118 : Ref sig .tc := ⟨.hbm, 141, rfl⟩
abbrev main_cst_12 : Ref sig .tc := ⟨.hbm, 142, rfl⟩
abbrev main_v119 : Ref sig .tc := ⟨.hbm, 143, rfl⟩
abbrev main_cst_13 : Ref sig .tc := ⟨.hbm, 144, rfl⟩
abbrev main_v120 : Ref sig .tc := ⟨.hbm, 145, rfl⟩
abbrev main_v121 : Ref sig .tc := ⟨.hbm, 146, rfl⟩
abbrev main_cst_14 : Ref sig .tc := ⟨.hbm, 147, rfl⟩
abbrev main_v122 : Ref sig .tc := ⟨.hbm, 148, rfl⟩
abbrev main_cst_15 : Ref sig .tc := ⟨.hbm, 149, rfl⟩
abbrev main_v123 : Ref sig .tc := ⟨.hbm, 150, rfl⟩
abbrev main_cst_16 : Ref sig .tc := ⟨.hbm, 151, rfl⟩
abbrev main_v124 : Ref sig .tc := ⟨.hbm, 152, rfl⟩
abbrev main_v125 : Ref sig .tc := ⟨.hbm, 153, rfl⟩
abbrev main_v126 : Ref sig .tc := ⟨.hbm, 154, rfl⟩
abbrev main_v127 : Ref sig .tc := ⟨.hbm, 155, rfl⟩
abbrev main_v128 : Ref sig .tc := ⟨.hbm, 156, rfl⟩
abbrev main_v129 : Ref sig .tc := ⟨.hbm, 157, rfl⟩
abbrev main_v130 : Ref sig .tc := ⟨.hbm, 158, rfl⟩
abbrev main_cst_17 : Ref sig .tc := ⟨.hbm, 159, rfl⟩
abbrev main_v131 : Ref sig .tc := ⟨.hbm, 160, rfl⟩
abbrev main_v132 : Ref sig .tc := ⟨.hbm, 161, rfl⟩
abbrev main_v133 : Ref sig .tc := ⟨.hbm, 162, rfl⟩
abbrev main_v134 : Ref sig .tc := ⟨.hbm, 163, rfl⟩
abbrev main_v135 : Ref sig .tc := ⟨.hbm, 164, rfl⟩
abbrev main_cst_18 : Ref sig .tc := ⟨.hbm, 165, rfl⟩
abbrev main_v136 : Ref sig .tc := ⟨.hbm, 166, rfl⟩
abbrev main_v137 : Ref sig .tc := ⟨.hbm, 167, rfl⟩
abbrev main_v138 : Ref sig .tc := ⟨.hbm, 168, rfl⟩
abbrev main_v139 : Ref sig .tc := ⟨.hbm, 169, rfl⟩
abbrev main_v140 : Ref sig .tc := ⟨.hbm, 170, rfl⟩
abbrev main_cst_19 : Ref sig .tc := ⟨.hbm, 171, rfl⟩
abbrev main_v141 : Ref sig .tc := ⟨.hbm, 172, rfl⟩
abbrev main_v142 : Ref sig .tc := ⟨.hbm, 173, rfl⟩
abbrev main_cst_20 : Ref sig .tc := ⟨.hbm, 174, rfl⟩
abbrev main_v143 : Ref sig .tc := ⟨.hbm, 175, rfl⟩
abbrev main_v144 : Ref sig .tc := ⟨.hbm, 176, rfl⟩
abbrev main_v145 : Ref sig .tc := ⟨.hbm, 177, rfl⟩
abbrev main_v146 : Ref sig .tc := ⟨.hbm, 178, rfl⟩
abbrev main_v147 : Ref sig .tc := ⟨.hbm, 179, rfl⟩
abbrev main_v148 : Ref sig .tc := ⟨.hbm, 180, rfl⟩
abbrev main_v149 : Ref sig .tc := ⟨.hbm, 181, rfl⟩
abbrev main_v150 : Ref sig .tc := ⟨.hbm, 182, rfl⟩
abbrev main_v151 : Ref sig .tc := ⟨.hbm, 183, rfl⟩
abbrev main_v152 : Ref sig .tc := ⟨.hbm, 184, rfl⟩
abbrev main_v153 : Ref sig .tc := ⟨.hbm, 185, rfl⟩
abbrev main_v154 : Ref sig .tc := ⟨.hbm, 186, rfl⟩
abbrev main_v155 : Ref sig .tc := ⟨.hbm, 187, rfl⟩
abbrev main_v156 : Ref sig .tc := ⟨.hbm, 188, rfl⟩
abbrev main_v157 : Ref sig .tc := ⟨.hbm, 189, rfl⟩
abbrev main_v158 : Ref sig .tc := ⟨.hbm, 190, rfl⟩
abbrev main_v159 : Ref sig .tc := ⟨.hbm, 191, rfl⟩
abbrev main_v160 : Ref sig .tc := ⟨.hbm, 192, rfl⟩
abbrev main_v161 : Ref sig .tc := ⟨.hbm, 193, rfl⟩
abbrev main_cst_21 : Ref sig .tc := ⟨.hbm, 194, rfl⟩
abbrev main_v162 : Ref sig .tc := ⟨.hbm, 195, rfl⟩
abbrev main_cst_22 : Ref sig .tc := ⟨.hbm, 196, rfl⟩
abbrev main_v163 : Ref sig .tc := ⟨.hbm, 197, rfl⟩
abbrev main_v164 : Ref sig .tc := ⟨.hbm, 198, rfl⟩
abbrev main_cst_23 : Ref sig .tc := ⟨.hbm, 199, rfl⟩
abbrev main_v165 : Ref sig .tc := ⟨.hbm, 200, rfl⟩
abbrev main_cst_24 : Ref sig .tc := ⟨.hbm, 201, rfl⟩
abbrev main_v166 : Ref sig .tc := ⟨.hbm, 202, rfl⟩
abbrev main_v167 : Ref sig .tc := ⟨.hbm, 203, rfl⟩
abbrev main_v168 : Ref sig .tc := ⟨.hbm, 204, rfl⟩
abbrev main_v169 : Ref sig .tc := ⟨.hbm, 205, rfl⟩
abbrev main_v170 : Ref sig .tc := ⟨.hbm, 206, rfl⟩
abbrev main_v171 : Ref sig .tc := ⟨.hbm, 207, rfl⟩
abbrev main_v172 : Ref sig .tc := ⟨.hbm, 208, rfl⟩
abbrev main_cst_25 : Ref sig .tc := ⟨.hbm, 209, rfl⟩
abbrev main_v173 : Ref sig .tc := ⟨.hbm, 210, rfl⟩
abbrev main_v174 : Ref sig .tc := ⟨.hbm, 211, rfl⟩
abbrev main_v175 : Ref sig .tc := ⟨.hbm, 212, rfl⟩
abbrev main_v176 : Ref sig .tc := ⟨.hbm, 213, rfl⟩
abbrev main_v177 : Ref sig .tc := ⟨.hbm, 214, rfl⟩
abbrev main_cst_26 : Ref sig .tc := ⟨.hbm, 215, rfl⟩
abbrev main_v178 : Ref sig .tc := ⟨.hbm, 216, rfl⟩
abbrev main_v179 : Ref sig .tc := ⟨.hbm, 217, rfl⟩
abbrev main_v180 : Ref sig .tc := ⟨.hbm, 218, rfl⟩
abbrev main_v181 : Ref sig .tc := ⟨.hbm, 219, rfl⟩
abbrev main_v182 : Ref sig .tc := ⟨.hbm, 220, rfl⟩
abbrev main_cst_27 : Ref sig .tc := ⟨.hbm, 221, rfl⟩
abbrev main_v183 : Ref sig .tc := ⟨.hbm, 222, rfl⟩
abbrev main_v184 : Ref sig .tc := ⟨.hbm, 223, rfl⟩
abbrev main_cst_28 : Ref sig .tc := ⟨.hbm, 224, rfl⟩
abbrev main_v185 : Ref sig .tc := ⟨.hbm, 225, rfl⟩
abbrev main_v186 : Ref sig .tc := ⟨.hbm, 226, rfl⟩
abbrev main_v187 : Ref sig .tc := ⟨.hbm, 227, rfl⟩
abbrev main_v188 : Ref sig .tc := ⟨.hbm, 228, rfl⟩
abbrev main_v189 : Ref sig .tc := ⟨.hbm, 229, rfl⟩
abbrev main_v190 : Ref sig .tc := ⟨.hbm, 230, rfl⟩

abbrev nD : Nat := 1
abbrev τ : Topo := Topo.v7x

variable {F : FTy → Type} [FloatOps F]
-- ==== Inproj.lean ====
abbrev S16400x1024 : Shape := ⟨2, ![16400, 1024]⟩
abbrev S1x1024 : Shape := ⟨2, ![1, 1024]⟩
abbrev S1024x1952 : Shape := ⟨2, ![1024, 1952]⟩
abbrev S1x512 : Shape := ⟨2, ![1, 512]⟩
abbrev S16400x256 : Shape := ⟨2, ![16400, 256]⟩
abbrev S16400x128 : Shape := ⟨2, ![16400, 128]⟩
abbrev S16400x32 : Shape := ⟨2, ![16400, 32]⟩
abbrev S16400x512 : Shape := ⟨2, ![16400, 512]⟩
abbrev S1024x384 : Shape := ⟨2, ![1024, 384]⟩
abbrev S1024x1536 : Shape := ⟨2, ![1024, 1536]⟩
abbrev S1024x32 : Shape := ⟨2, ![1024, 32]⟩
abbrev S_ : Shape := ⟨0, ![]⟩
abbrev S1024x96 : Shape := ⟨2, ![1024, 96]⟩
abbrev S1024x2048 : Shape := ⟨2, ![1024, 2048]⟩
abbrev S240x256 : Shape := ⟨2, ![240, 256]⟩
abbrev S16640x256 : Shape := ⟨2, ![16640, 256]⟩
abbrev S8x2080x256 : Shape := ⟨3, ![8, 2080, 256]⟩
abbrev S2080x8x256 : Shape := ⟨3, ![2080, 8, 256]⟩
abbrev S240x128 : Shape := ⟨2, ![240, 128]⟩
abbrev S16640x128 : Shape := ⟨2, ![16640, 128]⟩
abbrev S8x2080x128 : Shape := ⟨3, ![8, 2080, 128]⟩
abbrev S2080x8x128 : Shape := ⟨3, ![2080, 8, 128]⟩
abbrev S240x512 : Shape := ⟨2, ![240, 512]⟩
abbrev S16640x512 : Shape := ⟨2, ![16640, 512]⟩
abbrev S8x2080x512 : Shape := ⟨3, ![8, 2080, 512]⟩
abbrev S2080x8x512 : Shape := ⟨3, ![2080, 8, 512]⟩
abbrev S240x32 : Shape := ⟨2, ![240, 32]⟩
abbrev S16640x32 : Shape := ⟨2, ![16640, 32]⟩
abbrev S8x2080x32 : Shape := ⟨3, ![8, 2080, 32]⟩
abbrev S2080x8x32 : Shape := ⟨3, ![2080, 8, 32]⟩
abbrev S240x1024 : Shape := ⟨2, ![240, 1024]⟩
abbrev S16640x1024 : Shape := ⟨2, ![16640, 1024]⟩
abbrev S8x2080x1024 : Shape := ⟨3, ![8, 2080, 1024]⟩
abbrev S2080x8x1024 : Shape := ⟨3, ![2080, 8, 1024]⟩
abbrev S256x256 : Shape := ⟨2, ![256, 256]⟩
abbrev S256x128 : Shape := ⟨2, ![256, 128]⟩
abbrev S256x512 : Shape := ⟨2, ![256, 512]⟩
abbrev S256x32 : Shape := ⟨2, ![256, 32]⟩
abbrev S256x1024 : Shape := ⟨2, ![256, 1024]⟩
abbrev S256x96 : Shape := ⟨2, ![256, 96]⟩
abbrev S256x2048 : Shape := ⟨2, ![256, 2048]⟩
abbrev S256 : Shape := ⟨1, ![256]⟩
abbrev S256x1 : Shape := ⟨2, ![256, 1]⟩
abbrev S1024 : Shape := ⟨1, ![1024]⟩

abbrev nBuf : Space → Nat
  | .hbm => 93
  | .vmem => 27
  | .smem => 0
  | _ => 0

abbrev bufTy : (tb : Table) → Fin (tcTables nBuf tb) → BufTy
  | .hbm, ⟨0, _⟩ => ⟨S16400x1024, .f32⟩
  | .hbm, ⟨1, _⟩ => ⟨S1x1024, .f32⟩
  | .hbm, ⟨2, _⟩ => ⟨S1024x1952, .f32⟩
  | .hbm, ⟨3, _⟩ => ⟨S1x512, .f32⟩
  | .hbm, ⟨4, _⟩ => ⟨S16400x1024, .f32⟩
  | .hbm, ⟨5, _⟩ => ⟨S16400x256, .f32⟩
  | .hbm, ⟨6, _⟩ => ⟨S16400x128, .f32⟩
  | .hbm, ⟨7, _⟩ => ⟨S16400x32, .f32⟩
  | .hbm, ⟨8, _⟩ => ⟨S16400x512, .f32⟩
  | .hbm, ⟨9, _⟩ => ⟨S16400x512, .f32⟩
  | .hbm, ⟨10, _⟩ => ⟨S16400x512, .f32⟩
  | .hbm, ⟨11, _⟩ => ⟨S16400x512, .f32⟩
  | .hbm, ⟨12, _⟩ => ⟨S16400x512, .f32⟩
  | .hbm, ⟨13, _⟩ => ⟨S1024x384, .f32⟩
  | .hbm, ⟨14, _⟩ => ⟨S1024x1536, .f32⟩
  | .hbm, ⟨15, _⟩ => ⟨S1024x32, .f32⟩
  | .hbm, ⟨16, _⟩ => ⟨S1024x1952, .f32⟩
  | .hbm, ⟨17, _⟩ => ⟨S_, .f32⟩
  | .hbm, ⟨18, _⟩ => ⟨S1024x96, .f32⟩
  | .hbm, ⟨19, _⟩ => ⟨S1024x2048, .f32⟩
  | .hbm, ⟨20, _⟩ => ⟨S1024x2048, .bf16⟩
  | .hbm, ⟨21, _⟩ => ⟨S_, .f32⟩
  | .hbm, ⟨22, _⟩ => ⟨S240x256, .f32⟩
  | .hbm, ⟨23, _⟩ => ⟨S16640x256, .f32⟩
  | .hbm, ⟨24, _⟩ => ⟨S8x2080x256, .f32⟩
  | .hbm, ⟨25, _⟩ => ⟨S2080x8x256, .f32⟩
  | .hbm, ⟨26, _⟩ => ⟨S16640x256, .f32⟩
  | .hbm, ⟨27, _⟩ => ⟨S_, .f32⟩
  | .hbm, ⟨28, _⟩ => ⟨S240x128, .f32⟩
  | .hbm, ⟨29, _⟩ => ⟨S16640x128, .f32⟩
  | .hbm, ⟨30, _⟩ => ⟨S8x2080x128, .f32⟩
  | .hbm, ⟨31, _⟩ => ⟨S2080x8x128, .f32⟩
  | .hbm, ⟨32, _⟩ => ⟨S16640x128, .f32⟩
  | .hbm, ⟨33, _⟩ => ⟨S_, .f32⟩
  | .hbm, ⟨34, _⟩ => ⟨S240x512, .f32⟩
  | .hbm, ⟨35, _⟩ => ⟨S16640x512, .f32⟩
  | .hbm, ⟨36, _⟩ => ⟨S8x2080x512, .f32⟩
  | .hbm, ⟨37, _⟩ => ⟨S2080x8x512, .f32⟩
  | .hbm, ⟨38, _⟩ => ⟨S16640x512, .f32⟩
  | .hbm, ⟨39, _⟩ => ⟨S_, .f32⟩
  | .hbm, ⟨40, _⟩ => ⟨S240x512, .f32⟩
  | .hbm, ⟨41, _⟩ => ⟨S16640x512, .f32⟩
  | .hbm, ⟨42, _⟩ => ⟨S8x2080x512, .f32⟩
  | .hbm, ⟨43, _⟩ => ⟨S2080x8x512, .f32⟩
  | .hbm, ⟨44, _⟩ => ⟨S16640x512, .f32⟩
  | .hbm, ⟨45, _⟩ => ⟨S_, .f32⟩
  | .hbm, ⟨46, _⟩ => ⟨S240x512, .f32⟩
  | .hbm, ⟨47, _⟩ => ⟨S16640x512, .f32⟩
  | .hbm, ⟨48, _⟩ => ⟨S8x2080x512, .f32⟩
  | .hbm, ⟨49, _⟩ => ⟨S2080x8x512, .f32⟩
  | .hbm, ⟨50, _⟩ => ⟨S16640x512, .f32⟩
  | .hbm, ⟨51, _⟩ => ⟨S_, .f32⟩
  | .hbm, ⟨52, _⟩ => ⟨S240x512, .f32⟩
  | .hbm, ⟨53, _⟩ => ⟨S16640x512, .f32⟩
  | .hbm, ⟨54, _⟩ => ⟨S8x2080x512, .f32⟩
  | .hbm, ⟨55, _⟩ => ⟨S2080x8x512, .f32⟩
  | .hbm, ⟨56, _⟩ => ⟨S16640x512, .f32⟩
  | .hbm, ⟨57, _⟩ => ⟨S_, .f32⟩
  | .hbm, ⟨58, _⟩ => ⟨S240x512, .f32⟩
  | .hbm, ⟨59, _⟩ => ⟨S16640x512, .f32⟩
  | .hbm, ⟨60, _⟩ => ⟨S8x2080x512, .f32⟩
  | .hbm, ⟨61, _⟩ => ⟨S2080x8x512, .f32⟩
  | .hbm, ⟨62, _⟩ => ⟨S16640x512, .f32⟩
  | .hbm, ⟨63, _⟩ => ⟨S_, .f32⟩
  | .hbm, ⟨64, _⟩ => ⟨S240x32, .f32⟩
  | .hbm, ⟨65, _⟩ => ⟨S16640x32, .f32⟩
  | .hbm, ⟨66, _⟩ => ⟨S8x2080x32, .f32⟩
  | .hbm, ⟨67, _⟩ => ⟨S2080x8x32, .f32⟩
  | .hbm, ⟨68, _⟩ => ⟨S16640x32, .f32⟩
  | .hbm, ⟨69, _⟩ => ⟨S_, .f32⟩
  | .hbm, ⟨70, _⟩ => ⟨S240x1024, .f32⟩
  | .hbm, ⟨71, _⟩ => ⟨S16640x1024, .f32⟩
  | .hbm, ⟨72, _⟩ => ⟨S8x2080x1024, .f32⟩
  | .hbm, ⟨73, _⟩ => ⟨S2080x8x1024, .f32⟩
  | .hbm, ⟨74, _⟩ => ⟨S16640x1024, .f32⟩
  | .hbm, ⟨75, _⟩ => ⟨S_, .f32⟩
  | .hbm, ⟨76, _⟩ => ⟨S240x1024, .f32⟩
  | .hbm, ⟨77, _⟩ => ⟨S16640x1024, .f32⟩
  | .hbm, ⟨78, _⟩ => ⟨S8x2080x1024, .f32⟩
  | .hbm, ⟨79, _⟩ => ⟨S2080x8x1024, .f32⟩
  | .hbm, ⟨80, _⟩ => ⟨S16640x1024, .f32⟩
  | .hbm, ⟨81, _⟩ => ⟨S16640x1024, .f32⟩
  | .hbm, ⟨82, _⟩ => ⟨S1024x2048, .f32⟩
  | .hbm, ⟨83, _⟩ => ⟨S1x1024, .f32⟩
  | .hbm, ⟨84, _⟩ => ⟨S2080x8x1024, .f32⟩
  | .hbm, ⟨85, _⟩ => ⟨S8x2080x1024, .f32⟩
  | .hbm, ⟨86, _⟩ => ⟨S16640x1024, .f32⟩
  | .hbm, ⟨87, _⟩ => ⟨S16400x1024, .f32⟩
  | .hbm, ⟨88, _⟩ => ⟨S1024x1952, .f32⟩
  | .hbm, ⟨89, _⟩ => ⟨S1024x384, .f32⟩
  | .hbm, ⟨90, _⟩ => ⟨S1024x32, .f32⟩
  | .hbm, ⟨91, _⟩ => ⟨S1024x1536, .f32⟩
  | .hbm, ⟨92, _⟩ => ⟨S1024x1952, .f32⟩
  | .local _ .vmem, ⟨0, _⟩ => ⟨S256x256, .f32⟩
  | .local _ .vmem, ⟨1, _⟩ => ⟨S256x256, .f32⟩
  | .local _ .vmem, ⟨2, _⟩ => ⟨S256x128, .f32⟩
  | .local _ .vmem, ⟨3, _⟩ => ⟨S256x128, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | .local _ .vmem, ⟨14, _⟩ => ⟨S256x32, .f32⟩
  | .local _ .vmem, ⟨15, _⟩ => ⟨S256x32, .f32⟩
  | .local _ .vmem, ⟨16, _⟩ => ⟨S256x1024, .f32⟩
  | .local _ .vmem, ⟨17, _⟩ => ⟨S256x1024, .f32⟩
  | .local _ .vmem, ⟨18, _⟩ => ⟨S256x1024, .f32⟩
  | .local _ .vmem, ⟨19, _⟩ => ⟨S256x1024, .f32⟩
  | .local _ .vmem, ⟨20, _⟩ => ⟨S1x1024, .f32⟩
  | .local _ .vmem, ⟨21, _⟩ => ⟨S1024x2048, .bf16⟩
  | .local _ .vmem, ⟨22, _⟩ => ⟨S1x512, .f32⟩
  | .local _ .vmem, ⟨23, _⟩ => ⟨S256x1024, .f32⟩
  | .local _ .vmem, ⟨24, _⟩ => ⟨S256x1024, .f32⟩
  | .local _ .vmem, ⟨25, _⟩ => ⟨S1024x2048, .f32⟩
  | .local _ .vmem, ⟨26, _⟩ => ⟨S1x1024, .f32⟩
  | _, _ => ⟨S16400x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst_0 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst_1 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst_2 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst_3 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_4 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_5 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_6 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_7 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_cst_8 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_cst_9 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57_0 : Ref sig .tc := ⟨.hbm, 81, rfl⟩
abbrev main_v57_1 : Ref sig .tc := ⟨.hbm, 82, rfl⟩
abbrev main_v57_2 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg15_0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem12_0 : DmaSem sig := 22
abbrev cc0_sem13_0 : DmaSem sig := 23
abbrev cc0_sem13_1 : DmaSem sig := 24
abbrev cc0_sem14_0 : DmaSem sig := 25
abbrev cc0_sem15_0 : DmaSem sig := 26

abbrev nD : Nat := 1
abbrev τ : Topo := Topo.v7x

variable {F : FTy → Type} [FloatOps F]

abbrev grid0 : Pipeline.Grid := ⟨1, ![65], ![false]⟩

def k0_cond1 (i : grid0.Coords) : BitVec 1 :=
  let arg0 : BitVec 32 := BitVec.ofNat 32 (i 0).val
  let c0_i32 : BitVec 32 := 0#32
  let v41 : BitVec 1 := Scalar.cmpi .eq arg0 c0_i32
  let v42 : BitVec 32 := Scalar.extui v41
  let c0_i32_25 : BitVec 32 := 0#32
  let v43 : BitVec 1 := Scalar.cmpi .ne v42 c0_i32_25
  v43

def k0_cond2 (i : grid0.Coords) : BitVec 1 :=
  let arg0 : BitVec 32 := BitVec.ofNat 32 (i 0).val
  let c0_i32 : BitVec 32 := 0#32
  let v41 : BitVec 1 := Scalar.cmpi .eq arg0 c0_i32
  let v_true : BitVec 1 := 1#1
  let v44 : BitVec 1 := Scalar.xori v41 v_true
  let v45 : BitVec 32 := Scalar.extui v44
  let c0_i32_26 : BitVec 32 := 0#32
  let v46 : BitVec 1 := Scalar.cmpi .ne v45 c0_i32_26
  v46

def k0_cond3 (i : grid0.Coords) : BitVec 1 :=
  let arg0 : BitVec 32 := BitVec.ofNat 32 (i 0).val
  let c0_i32_33 : BitVec 32 := 0#32
  let v68 : BitVec 1 := Scalar.cmpi .eq arg0 c0_i32_33
  let v69 : BitVec 32 := Scalar.extui v68
  let c0_i32_34 : BitVec 32 := 0#32
  let v70 : BitVec 1 := Scalar.cmpi .ne v69 c0_i32_34
  v70

def k0_cond4 (i : grid0.Coords) : BitVec 1 :=
  let arg0 : BitVec 32 := BitVec.ofNat 32 (i 0).val
  let c0_i32_33 : BitVec 32 := 0#32
  let v68 : BitVec 1 := Scalar.cmpi .eq arg0 c0_i32_33
  let true_35 : BitVec 1 := 1#1
  let v71 : BitVec 1 := Scalar.xori v68 true_35
  let v72 : BitVec 32 := Scalar.extui v71
  let c0_i32_36 : BitVec 32 := 0#32
  let v73 : BitVec 1 := Scalar.cmpi .ne v72 c0_i32_36
  v73

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x32 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x2048 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S1024x2048 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== InprojRefIdeal.lean ====
abbrev S16400x1024 : Shape := ⟨2, ![16400, 1024]⟩
abbrev S1x1024 : Shape := ⟨2, ![1, 1024]⟩
abbrev S1024x1952 : Shape := ⟨2, ![1024, 1952]⟩
abbrev S1x512 : Shape := ⟨2, ![1, 512]⟩
abbrev S16400x256 : Shape := ⟨2, ![16400, 256]⟩
abbrev S16400x128 : Shape := ⟨2, ![16400, 128]⟩
abbrev S16400x32 : Shape := ⟨2, ![16400, 32]⟩
abbrev S16400x512 : Shape := ⟨2, ![16400, 512]⟩
abbrev S_ : Shape := ⟨0, ![]⟩
abbrev S16400 : Shape := ⟨1, ![16400]⟩
abbrev S16400x1 : Shape := ⟨2, ![16400, 1]⟩
abbrev S16400x1952 : Shape := ⟨2, ![16400, 1952]⟩
abbrev S1952x1024 : Shape := ⟨2, ![1952, 1024]⟩
abbrev S1024 : Shape := ⟨1, ![1024]⟩

abbrev nBuf : Space → Nat
  | .hbm => 73
  | .vmem => 0
  | .smem => 0
  | _ => 0

abbrev bufTy : (tb : Table) → Fin (tcTables nBuf tb) → BufTy
  | .hbm, ⟨0, _⟩ => ⟨S16400x1024, .f32⟩
  | .hbm, ⟨1, _⟩ => ⟨S1x1024, .f32⟩
  | .hbm, ⟨2, _⟩ => ⟨S1024x1952, .f32⟩
  | .hbm, ⟨3, _⟩ => ⟨S1x512, .f32⟩
  | .hbm, ⟨4, _⟩ => ⟨S16400x1024, .f32⟩
  | .hbm, ⟨5, _⟩ => ⟨S16400x256, .f32⟩
  | .hbm, ⟨6, _⟩ => ⟨S16400x128, .f32⟩
  | .hbm, ⟨7, _⟩ => ⟨S16400x32, .f32⟩
  | .hbm, ⟨8, _⟩ => ⟨S16400x512, .f32⟩
  | .hbm, ⟨9, _⟩ => ⟨S16400x512, .f32⟩
  | .hbm, ⟨10, _⟩ => ⟨S16400x512, .f32⟩
  | .hbm, ⟨11, _⟩ => ⟨S16400x512, .f32⟩
  | .hbm, ⟨12, _⟩ => ⟨S16400x512, .f32⟩
  | .hbm, ⟨13, _⟩ => ⟨S16400x1024, .f32⟩
  | .hbm, ⟨14, _⟩ => ⟨S_, .f32⟩
  | .hbm, ⟨15, _⟩ => ⟨S16400, .f32⟩
  | .hbm, ⟨16, _⟩ => ⟨S16400x1, .f32⟩
  | .hbm, ⟨17, _⟩ => ⟨S_, .f32⟩
  | .hbm, ⟨18, _⟩ => ⟨S16400x1, .f32⟩
  | .hbm, ⟨19, _⟩ => ⟨S16400x1, .f32⟩
  | .hbm, ⟨20, _⟩ => ⟨S_, .f32⟩
  | .hbm, ⟨21, _⟩ => ⟨S16400x1, .f32⟩
  | .hbm, ⟨22, _⟩ => ⟨S16400x1, .f32⟩
  | .hbm, ⟨23, _⟩ => ⟨S16400x1, .f32⟩
  | .hbm, ⟨24, _⟩ => ⟨S16400x1, .f32⟩
  | .hbm, ⟨25, _⟩ => ⟨S_, .f32⟩
  | .hbm, ⟨26, _⟩ => ⟨S16400x1, .f32⟩
  | .hbm, ⟨27, _⟩ => ⟨S16400x1, .f32⟩
  | .hbm, ⟨28, _⟩ => ⟨S16400x1024, .f32⟩
  | .hbm, ⟨29, _⟩ => ⟨S16400x1024, .f32⟩
  | .hbm, ⟨30, _⟩ => ⟨S16400x1024, .f32⟩
  | .hbm, ⟨31, _⟩ => ⟨S16400x1024, .f32⟩
  | .hbm, ⟨32, _⟩ => ⟨S16400x1952, .f32⟩
  | .hbm, ⟨33, _⟩ => ⟨S16400x256, .f32⟩
  | .hbm, ⟨34, _⟩ => ⟨S16400x128, .f32⟩
  | .hbm, ⟨35, _⟩ => ⟨S16400x32, .f32⟩
  | .hbm, ⟨36, _⟩ => ⟨S16400x512, .f32⟩
  | .hbm, ⟨37, _⟩ => ⟨S16400x512, .f32⟩
  | .hbm, ⟨38, _⟩ => ⟨S16400x512, .f32⟩
  | .hbm, ⟨39, _⟩ => ⟨S16400x512, .f32⟩
  | .hbm, ⟨40, _⟩ => ⟨S16400x512, .f32⟩
  | .hbm, ⟨41, _⟩ => ⟨S16400x512, .f32⟩
  | .hbm, ⟨42, _⟩ => ⟨S16400x512, .f32⟩
  | .hbm, ⟨43, _⟩ => ⟨S16400x512, .f32⟩
  | .hbm, ⟨44, _⟩ => ⟨S16400x512, .f32⟩
  | .hbm, ⟨45, _⟩ => ⟨S16400x1952, .f32⟩
  | .hbm, ⟨46, _⟩ => ⟨S1952x1024, .f32⟩
  | .hbm, ⟨47, _⟩ => ⟨S1024x1952, .f32⟩
  | .hbm, ⟨48, _⟩ => ⟨S16400x1024, .f32⟩
  | .hbm, ⟨49, _⟩ => ⟨S16400x1024, .f32⟩
  | .hbm, ⟨50, _⟩ => ⟨S_, .f32⟩
  | .hbm, ⟨51, _⟩ => ⟨S1024, .f32⟩
  | .hbm, ⟨52, _⟩ => ⟨S1x1024, .f32⟩
  | .hbm, ⟨53, _⟩ => ⟨S16400x1024, .f32⟩
  | .hbm, ⟨54, _⟩ => ⟨S16400x1024, .f32⟩
  | .hbm, ⟨55, _⟩ => ⟨S16400x1024, .f32⟩
  | .hbm, ⟨56, _⟩ => ⟨S_, .f32⟩
  | .hbm, ⟨57, _⟩ => ⟨S16400, .f32⟩
  | .hbm, ⟨58, _⟩ => ⟨S16400x1, .f32⟩
  | .hbm, ⟨59, _⟩ => ⟨S16400x1024, .f32⟩
  | .hbm, ⟨60, _⟩ => ⟨S16400x1024, .f32⟩
  | .hbm, ⟨61, _⟩ => ⟨S16400x1024, .f32⟩
  | .hbm, ⟨62, _⟩ => ⟨S16400x1, .f32⟩
  | .hbm, ⟨63, _⟩ => ⟨S_, .f32⟩
  | .hbm, ⟨64, _⟩ => ⟨S16400x1, .f32⟩
  | .hbm, ⟨65, _⟩ => ⟨S16400x1, .f32⟩
  | .hbm, ⟨66, _⟩ => ⟨S_, .f32⟩
  | .hbm, ⟨67, _⟩ => ⟨S16400, .f32⟩
  | .hbm, ⟨68, _⟩ => ⟨S16400x1024, .f32⟩
  | .hbm, ⟨69, _⟩ => ⟨S16400x1024, .f32⟩
  | .hbm, ⟨70, _⟩ => ⟨S16400x1024, .f32⟩
  | .hbm, ⟨71, _⟩ => ⟨S16400x1024, .f32⟩
  | .hbm, ⟨72, _⟩ => ⟨S16400x1024, .f32⟩
  | _, _ => ⟨S16400x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_cst : Ref sig .tc := ⟨.hbm, 14, rfl⟩
abbrev main_v1 : Ref sig .tc := ⟨.hbm, 15, rfl⟩
abbrev main_v2 : Ref sig .tc := ⟨.hbm, 16, rfl⟩
abbrev main_cst_0 : Ref sig .tc := ⟨.hbm, 17, rfl⟩
abbrev main_v3 : Ref sig .tc := ⟨.hbm, 18, rfl⟩
abbrev main_v4 : Ref sig .tc := ⟨.hbm, 19, rfl⟩
abbrev main_cst_1 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_cst_2 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_3 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_4 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_5 : Ref sig .tc := ⟨.hbm, 63, rfl⟩
abbrev main_v44 : Ref sig .tc := ⟨.hbm, 64, rfl⟩
abbrev main_v45 : Ref sig .tc := ⟨.hbm, 65, rfl⟩
abbrev main_cst_6 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩

abbrev nD : Nat := 1
abbrev τ : Topo := Topo.v7x

variable {F : FTy → Type} [FloatOps F]
-- ==== Proof.Disc.Blocks.lean ====
module

public import proofs.«01_k».proof.Proof.Gen.DiscIdeal.Frame
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.DiscArr

open Cert.DiscIdeal Cert.DiscIdeal.Gen

variable (m : (ℓ : Loc nD τ sig) → Buf (Elt Ideal) ℓ)

/-- The one grid point's block of every operand is the whole array. -/
theorem idx_zero : win0_0.index t0_0 = ![0, 0, 0] ∧ win0_1.index t0_0 = ![0, 0, 0] ∧ win0_2.index t0_0 = ![0, 0, 0]
    ∧ win0_3.index t0_0 = ![0, 0, 0] ∧ win0_4.index t0_0 = ![0, 0, 0] ∧ win0_5.index t0_0 = ![0, 0, 0]
    ∧ win0_6.index t0_0 = ![0, 0, 0] ∧ win0_7.index t0_0 = ![0, 0, 0] ∧ win0_8.index t0_0 = ![0, 0, 0] := by
  decide +kernel

theorem iblk0 (c : Dev nD) : iblk m c 0 t0_0 = V m c main_v0 := by blk_ext! [iblk, idx_zero]
theorem iblk1 (c : Dev nD) : iblk m c 1 t0_0 = V m c main_v1 := by blk_ext! [iblk, idx_zero]
theorem iblk2 (c : Dev nD) : iblk m c 2 t0_0 = V m c main_v2 := by blk_ext! [iblk, idx_zero]
theorem iblk3 (c : Dev nD) : iblk m c 3 t0_0 = V m c main_v4 := by blk_ext! [iblk, idx_zero]
theorem iblk4 (c : Dev nD) : iblk m c 4 t0_0 = V m c main_v6 := by blk_ext! [iblk, idx_zero]
theorem iblk5 (c : Dev nD) : iblk m c 5 t0_0 = V m c main_v7 := by blk_ext! [iblk, idx_zero]
theorem iblk6 (c : Dev nD) : iblk m c 6 t0_0 = V m c main_v8 := by blk_ext! [iblk, idx_zero]
theorem iblk7 (c : Dev nD) : iblk m c 7 t0_0 = V m c main_v10 := by blk_ext! [iblk, idx_zero]
theorem iblk8 (c : Dev nD) : iblk m c 8 t0_0 = V m c main_v12 := by blk_ext! [iblk, idx_zero]

theorem final9 (c : Dev nD) : (dats m 0 c).arrAt 9 (cfgs 0).N
    = out0_9 (V m c main_v0) (V m c main_v1) (V m c main_v2) (V m c main_v4) (V m c main_v6) (V m c main_v7) (V m c main_v8) (V m c main_v10) (V m c main_v12) := by
  refine (dats m 0 c).arrAt_eq_of_after_last 9 t0_0 (by decide +kernel) _ fun j => ?_
  blk_simp
  rw [after0_9, iblk0, iblk1, iblk2, iblk3, iblk4, iblk5, iblk6, iblk7, iblk8]

theorem final10 (c : Dev nD) : (dats m 0 c).arrAt 10 (cfgs 0).N
    = out0_10 (V m c main_v0) (V m c main_v1) (V m c main_v2) (V m c main_v4) (V m c main_v6) (V m c main_v7) (V m c main_v8) (V m c main_v10) (V m c main_v12) := by
  refine (dats m 0 c).arrAt_eq_of_after_last 10 t0_0 (by decide +kernel) _ fun j => ?_
  blk_simp
  rw [after0_10, iblk0, iblk1, iblk2, iblk3, iblk4, iblk5, iblk6, iblk7, iblk8]

theorem final11 (c : Dev nD) : (dats m 0 c).arrAt 11 (cfgs 0).N
    = out0_11 (V m c main_v0) (V m c main_v1) (V m c main_v2) (V m c main_v4) (V m c main_v6) (V m c main_v7) (V m c main_v8) (V m c main_v10) (V m c main_v12) := by
  refine (dats m 0 c).arrAt_eq_of_after_last 11 t0_0 (by decide +kernel) _ fun j => ?_
  blk_simp
  rw [after0_11, iblk0, iblk1, iblk2, iblk3, iblk4, iblk5, iblk6, iblk7, iblk8]

theorem final12 (c : Dev nD) : (dats m 0 c).arrAt 12 (cfgs 0).N
    = out0_12 (V m c main_v0) (V m c main_v1) (V m c main_v2) (V m c main_v4) (V m c main_v6) (V m c main_v7) (V m c main_v8) (V m c main_v10) (V m c main_v12) := by
  refine (dats m 0 c).arrAt_eq_of_after_last 12 t0_0 (by decide +kernel) _ fun j => ?_
  blk_simp
  rw [after0_12, iblk0, iblk1, iblk2, iblk3, iblk4, iblk5, iblk6, iblk7, iblk8]

theorem final13 (c : Dev nD) : (dats m 0 c).arrAt 13 (cfgs 0).N
    = out0_13 (V m c main_v0) (V m c main_v1) (V m c main_v2) (V m c main_v4) (V m c main_v6) (V m c main_v7) (V m c main_v8) (V m c main_v10) (V m c main_v12) := by
  refine (dats m 0 c).arrAt_eq_of_after_last 13 t0_0 (by decide +kernel) _ fun j => ?_
  blk_simp
  rw [after0_13, iblk0, iblk1, iblk2, iblk3, iblk4, iblk5, iblk6, iblk7, iblk8]

end Cert.DiscArr
-- ==== Proof.RealLift.lean ====
/-
  Extended reals that are real numbers: the operations of the ideal programs on coerced reals give coerced reals, and a
  printed "every element is finite" gives an array of real numbers.
-/
module

public import Idealize.ShloMosaic.Lib.Pipeline.ValueKit
public import Idealize.ShloMosaic.Lib.ReduceAll
public import Idealize.ShloMosaic.PureOps.Ideal.Laws

@[expose] public section

noncomputable section

open Idealize.ShloMosaic

namespace Cert.RealLift

/-- A quotient of reals by a nonzero real. -/
theorem div_real (x : ℝ) {y : ℝ} (h : y ≠ 0) : Ideal.div (x : EReal) (y : EReal) = ((x / y : ℝ) : EReal) := by
  rw [Ideal.div_coe h, ← EReal.coe_mul, mul_one_div]

/-- A finite sum of reals. -/
theorem sum_real {ι : Type} [Fintype ι] (f : ι → ℝ) : ∑ i, ((f i : ℝ) : EReal) = ((∑ i, f i : ℝ) : EReal) := by
  classical
  induction (Finset.univ : Finset ι) using Finset.induction_on with
  | empty => simp
  | insert a s ha ih => rw [Finset.sum_insert ha, Finset.sum_insert ha, ih, EReal.coe_add]

theorem one_real : (1 : EReal) = ((1 : ℝ) : EReal) := EReal.coe_one.symm
theorem zero_real : (0 : EReal) = ((0 : ℝ) : EReal) := EReal.coe_zero.symm

/-- An extended real whose absolute value is below infinity is a real. -/
theorem real_of_abs_lt {x : EReal} (h : max x (-x) < ⊤) : ∃ r : ℝ, x = (r : EReal) := by
  refine ⟨x.toReal, (EReal.coe_toReal ?_ ?_).symm⟩
  · rintro rfl; simp at h
  · rintro rfl; simp at h

/-- The float word of infinity. -/
theorem inf_word : Ideal.ofBits FTy.f32 0x7F800000#32 = ⊤ := by simp [Ideal.ofBits, Ideal.ieee]

/-- The float word of minus infinity. -/
theorem neg_inf_word : Ideal.ofBits FTy.f32 0xFF800000#32 = ⊥ := by simp [Ideal.ofBits, Ideal.ieee]

/-- The maximum of finitely many reals, at least one of them, taken from minus infinity. -/
theorem fold_max_real {ι : Type} (S : Finset ι) (hS : S.Nonempty) (x : ι → EReal) (hx : ∀ i, ∃ r : ℝ, x i = (r : EReal)) :
    ∃ r : ℝ, S.fold max ⊥ x = (r : EReal) := by
  classical
  induction hS using Finset.Nonempty.cons_induction with
  | singleton a => obtain ⟨r, h⟩ := hx a; exact ⟨r, by rw [Finset.fold_singleton, h, max_eq_left bot_le]⟩
  | cons a S ha hS ih =>
    obtain ⟨r, h⟩ := ih; obtain ⟨r', h'⟩ := hx a
    exact ⟨max r' r, by rw [Finset.fold_cons, h, h']; exact (EReal.coe_strictMono.monotone.map_max).symm⟩

/-- A host maximum over one axis of an array of reals is a real. -/
theorem reduce_max_real {s t u : Shape} {a : Fin s.rank} (x : FVec Ideal s .f32) (init : FVec Ideal u .f32) (h' : s.ReducesTo [a] t)
    (h : s.Reduces [a] t) (hu : 0 < u.numel) (j : t.Idx) (hi : init (Shape.Idx.first hu) = ⊥) (hn : 0 < s.size a)
    (hx : ∀ i, ∃ r : ℝ, x i = (r : EReal)) : ∃ r : ℝ, Host.reduce (FloatOps.maximumf (F := Ideal)) x init h' hu j = (r : EReal) := by
  obtain ⟨r, e⟩ := fold_max_real (Finset.univ : Finset (Fin (s.size a))) ⟨⟨0, hn⟩, Finset.mem_univ _⟩ (x ∘ h.lift j) (fun k => hx _)
  refine ⟨r, ?_⟩
  rw [← e, ← hi]
  exact Host.reduce_eq_fold_single (max : EReal → EReal → EReal) x init h' h hu j

instance : Subsingleton (⟨0, ![]⟩ : Shape).Idx := ⟨fun a b => funext fun k => k.elim0⟩

/-- The printed `jnp.all(jnp.abs(x) < jnp.inf)` holds of an array: its elements are real numbers. -/
theorem real_of_all {s : Shape} {axes : List (Fin s.rank)} (x : FVec Ideal s .f32) (hb : (⟨0, ![]⟩ : Shape).BroadcastsInDim s (![] : Fin 0 → Fin s.rank))
    (h : s.ReducesTo axes ⟨0, ![]⟩) (hu : 0 < (⟨0, ![]⟩ : Shape).numel) (j : (⟨0, ![]⟩ : Shape).Idx)
    (e : Host.reduce IntOp.andi (cmpf .olt (Host.absf x) (broadcastInDim s ![] hb (constant (F := Ideal) ⟨0, ![]⟩ .f32 0x7F800000#32)))
      (constantI ⟨0, ![]⟩ 1 1#1) h hu j = 1#1) : ∃ a : s.Idx → ℝ, ∀ i, x i = ((a i : ℝ) : EReal) := by
  have key : ∀ i, ∃ r : ℝ, x i = (r : EReal) := fun i => by
    refine real_of_abs_lt ?_
    have h' := Host.reduce_andi_all _ _ h hu j e i
    have h'' : Ideal.cmp .olt (max (x i) (-(x i))) (Ideal.ofBits FTy.f32 0x7F800000#32) = 1#1 := h'
    rw [inf_word] at h''
    by_contra hn
    simp [Ideal.cmp, hn] at h''
  exact ⟨fun i => (key i).choose, fun i => (key i).choose_spec⟩

/-- An `and` of two one-bit words that is one has both one. -/
theorem andi_one {s : Shape} {x y : s.Idx → BitVec 1} {j : s.Idx} (h : andi x y j = 1#1) : x j = 1#1 ∧ y j = 1#1 := by
  have h' : x j &&& y j = 1#1 := h
  generalize x j = a at *
  generalize y j = b at *
  revert a b; decide

/-- Every entry of the array is a real. -/
def Reals {s : Shape} (A : FVec Ideal s .f32) : Prop := ∀ i, ∃ r : ℝ, A i = ((r : ℝ) : EReal)

theorem reals_of_all {s : Shape} {axes : List (Fin s.rank)} (x : FVec Ideal s .f32) (hb : (⟨0, ![]⟩ : Shape).BroadcastsInDim s (![] : Fin 0 → Fin s.rank))
    (h : s.ReducesTo axes ⟨0, ![]⟩) (hu : 0 < (⟨0, ![]⟩ : Shape).numel) (j : (⟨0, ![]⟩ : Shape).Idx)
    (e : Host.reduce IntOp.andi (cmpf .olt (Host.absf x) (broadcastInDim s ![] hb (constant (F := Ideal) ⟨0, ![]⟩ .f32 0x7F800000#32)))
      (constantI ⟨0, ![]⟩ 1 1#1) h hu j = 1#1) : Reals x := fun i => by
  obtain ⟨a, ha⟩ := real_of_all x hb h hu j e
  exact ⟨a i, ha i⟩

end Cert.RealLift
-- ==== Proof.Disc.Equation.lean ====
module

public import proofs.«01_k».proof.Proof.Disc.Blocks
public import proofs.«01_k».proof.Proof.RealLift
public import proofs.«01_k».proof.Proof.Gen.DiscRefIdeal.Read

@[expose] public section

set_option maxRecDepth 16384

noncomputable section

open Idealize.ShloMosaic Idealize.ShloMosaic.TcCoe Idealize.SL.Sem

namespace Cert.DiscArr

open Cert.DiscIdeal Cert.DiscIdeal.Gen

variable (A0 A1 : FVec Ideal S2x32x64 .f32) (A2 : FVec Ideal S2x32 .f32) (A3 A4 : FVec Ideal S2x32x64x16 .f32)
  (A5 A6 : FVec Ideal S2x32x8x64 .f32) (A7 A8 : FVec Ideal S2x32x64x16 .f32)

/-- A result of the call, as an array over the groups, of the arguments laid out the way the call takes them. -/
abbrev atRows {t : Shape} (out : FVec Ideal S64x1x64 .f32 → FVec Ideal S64x1x64 .f32 → FVec Ideal S64x1x1 .f32 →
    FVec Ideal S64x16x64 .f32 → FVec Ideal S64x16x64 .f32 → FVec Ideal S64x8x64 .f32 → FVec Ideal S64x8x64 .f32 →
    FVec Ideal S64x16x64 .f32 → FVec Ideal S64x16x64 .f32 → FVec Ideal t .f32) : FVec Ideal t .f32 :=
  out (shapeCast S64x1x64 A0 shapeCasts_S2x32x64_S64x1x64) (shapeCast S64x1x64 A1 shapeCasts_S2x32x64_S64x1x64)
    (shapeCast S64x1x1 A2 shapeCasts_S2x32_S64x1x1)
    (shapeCast S64x16x64 (transpose S2x32x16x64 [0, 1, 3, 2] A3 transposes_S2x32x64x16_S2x32x16x64_0_1_3_2) shapeCasts_S2x32x16x64_S64x16x64)
    (shapeCast S64x16x64 (transpose S2x32x16x64 [0, 1, 3, 2] A4 transposes_S2x32x64x16_S2x32x16x64_0_1_3_2) shapeCasts_S2x32x16x64_S64x16x64)
    (shapeCast S64x8x64 A5 shapeCasts_S2x32x8x64_S64x8x64) (shapeCast S64x8x64 A6 shapeCasts_S2x32x8x64_S64x8x64)
    (shapeCast S64x16x64 (transpose S2x32x16x64 [0, 1, 3, 2] A7 transposes_S2x32x64x16_S2x32x16x64_0_1_3_2) shapeCasts_S2x32x16x64_S64x16x64)
    (shapeCast S64x16x64 (transpose S2x32x16x64 [0, 1, 3, 2] A8 transposes_S2x32x64x16_S2x32x16x64_0_1_3_2) shapeCasts_S2x32x16x64_S64x16x64)

theorem two_real : Ideal.ofBits FTy.f32 1073741824#32 = ((2 : ℝ) : EReal) := by
  simp only [Ideal.ofBits, Ideal.ieee]; simp; rw [← EReal.coe_mul]; norm_num

/-- On finite arguments with a nonzero denominator the call's five results are the reference's five gradients. -/
theorem results_eq
    (a0 a1 : S2x32x64.Idx → ℝ) (a2 : S2x32.Idx → ℝ) (a3 a4 : S2x32x64x16.Idx → ℝ) (a5 a6 : S2x32x8x64.Idx → ℝ)
    (a7 a8 : S2x32x64x16.Idx → ℝ)
    (h0 : ∀ i, A0 i = ((a0 i : ℝ) : EReal)) (h1 : ∀ i, A1 i = ((a1 i : ℝ) : EReal)) (h2 : ∀ i, A2 i = ((a2 i : ℝ) : EReal))
    (h3 : ∀ i, A3 i = ((a3 i : ℝ) : EReal)) (h4 : ∀ i, A4 i = ((a4 i : ℝ) : EReal)) (h5 : ∀ i, A5 i = ((a5 i : ℝ) : EReal))
    (h6 : ∀ i, A6 i = ((a6 i : ℝ) : EReal)) (h7 : ∀ i, A7 i = ((a7 i : ℝ) : EReal)) (h8 : ∀ i, A8 i = ((a8 i : ℝ) : EReal))
    (hd : ∀ i, a0 i * a0 i + a1 i * a1 i ≠ 0) :
    shapeCast S2x32x64 (atRows A0 A1 A2 A3 A4 A5 A6 A7 A8 (out0_9 (F := Ideal))) shapeCasts_S64x1x64_S2x32x64
        = Cert.DiscRefIdeal.Read.val_main_v150 (F := Ideal) A0 A1 A2 A3 A4 A5 A6 A7 A8
    ∧ shapeCast S2x32x64 (atRows A0 A1 A2 A3 A4 A5 A6 A7 A8 (out0_10 (F := Ideal))) shapeCasts_S64x1x64_S2x32x64
        = Cert.DiscRefIdeal.Read.val_main_v142 (F := Ideal) A0 A1 A2 A3 A4 A5 A6 A7 A8
    ∧ shapeCast S2x32 (atRows A0 A1 A2 A3 A4 A5 A6 A7 A8 (out0_11 (F := Ideal))) shapeCasts_S64x1x1_S2x32
        = Cert.DiscRefIdeal.Read.val_main_v152 (F := Ideal) A0 A1 A2 A3 A4 A5 A6 A7 A8
    ∧ transpose S2x32x64x16 [0, 1, 3, 2] (shapeCast S2x32x16x64 (atRows A0 A1 A2 A3 A4 A5 A6 A7 A8 (out0_12 (F := Ideal)))
          shapeCasts_S64x16x64_S2x32x16x64) transposes_S2x32x16x64_S2x32x64x16_0_1_3_2
        = Cert.DiscRefIdeal.Read.val_main_v84 (F := Ideal) A0 A1 A2 A7 A8
    ∧ transpose S2x32x64x16 [0, 1, 3, 2] (shapeCast S2x32x16x64 (atRows A0 A1 A2 A3 A4 A5 A6 A7 A8 (out0_13 (F := Ideal)))
          shapeCasts_S64x16x64_S2x32x16x64) transposes_S2x32x16x64_S2x32x64x16_0_1_3_2
        = Cert.DiscRefIdeal.Read.val_main_v76 (F := Ideal) A0 A1 A2 A7 A8 := by
  unfold atRows
  unfold_out out0_9
  unfold_out out0_10
  unfold_out out0_11
  unfold_out out0_12
  unfold_out out0_13
  frame_out
  unfold_payloads
  have e83 : ∀ i, a8 i * a3 i = a3 i * a8 i := fun i => mul_comm _ _
  have e84 : ∀ i, a8 i * a4 i = a4 i * a8 i := fun i => mul_comm _ _
  have e73 : ∀ i, a7 i * a3 i = a3 i * a7 i := fun i => mul_comm _ _
  have e74 : ∀ i, a7 i * a4 i = a4 i * a7 i := fun i => mul_comm _ _
  obtain ⟨d, hden⟩ : ∃ d : S2x32x64.Idx → ℝ, ∀ i, a0 i * a0 i + a1 i * a1 i = d i := ⟨_, fun _ => rfl⟩
  have hdd := fun i => mul_ne_zero (hd i) (hd i)
  refine ⟨?_, ?_, ?_, ?_, ?_⟩ <;> (
    funext j
    idx_vars j
    pointwise [Cert.DiscRefIdeal.Read.val_main_v0, Cert.DiscRefIdeal.Read.val_main_v1, Cert.DiscRefIdeal.Read.val_main_v2, Cert.DiscRefIdeal.Read.val_main_v3, Cert.DiscRefIdeal.Read.val_main_v4, Cert.DiscRefIdeal.Read.val_main_v5, Cert.DiscRefIdeal.Read.val_main_v6, Cert.DiscRefIdeal.Read.val_main_v7, Cert.DiscRefIdeal.Read.val_main_v8, Cert.DiscRefIdeal.Read.val_main_v9, Cert.DiscRefIdeal.Read.val_main_v10, Cert.DiscRefIdeal.Read.val_main_v11, Cert.DiscRefIdeal.Read.val_main_v12, Cert.DiscRefIdeal.Read.val_main_v13, Cert.DiscRefIdeal.Read.val_main_v14, Cert.DiscRefIdeal.Read.val_main_cst, Cert.DiscRefIdeal.Read.val_main_v15, Cert.DiscRefIdeal.Read.val_main_v16, Cert.DiscRefIdeal.Read.val_main_v17, Cert.DiscRefIdeal.Read.val_main_v18, Cert.DiscRefIdeal.Read.val_main_v19, Cert.DiscRefIdeal.Read.val_main_v20, Cert.DiscRefIdeal.Read.val_main_v21, Cert.DiscRefIdeal.Read.val_main_v22, Cert.DiscRefIdeal.Read.val_main_v23, Cert.DiscRefIdeal.Read.val_main_v24, Cert.DiscRefIdeal.Read.val_main_cst_0, Cert.DiscRefIdeal.Read.val_main_v25, Cert.DiscRefIdeal.Read.val_main_v26, Cert.DiscRefIdeal.Read.val_main_v27, Cert.DiscRefIdeal.Read.val_main_v28, Cert.DiscRefIdeal.Read.val_main_v29, Cert.DiscRefIdeal.Read.val_main_v30, Cert.DiscRefIdeal.Read.val_main_v31, Cert.DiscRefIdeal.Read.val_main_cst_1, Cert.DiscRefIdeal.Read.val_main_v32, Cert.DiscRefIdeal.Read.val_main_v33, Cert.DiscRefIdeal.Read.val_main_v34, Cert.DiscRefIdeal.Read.val_main_v35, Cert.DiscRefIdeal.Read.val_main_v36, Cert.DiscRefIdeal.Read.val_main_v37, Cert.DiscRefIdeal.Read.val_main_v38, Cert.DiscRefIdeal.Read.val_main_v39, Cert.DiscRefIdeal.Read.val_main_v40, Cert.DiscRefIdeal.Read.val_main_v41, Cert.DiscRefIdeal.Read.val_main_v42, Cert.DiscRefIdeal.Read.val_main_v43, Cert.DiscRefIdeal.Read.val_main_v44, Cert.DiscRefIdeal.Read.val_main_v45, Cert.DiscRefIdeal.Read.val_main_v46, Cert.DiscRefIdeal.Read.val_main_v47, Cert.DiscRefIdeal.Read.val_main_v48, Cert.DiscRefIdeal.Read.val_main_v49, Cert.DiscRefIdeal.Read.val_main_v50, Cert.DiscRefIdeal.Read.val_main_v51, Cert.DiscRefIdeal.Read.val_main_cst_2, Cert.DiscRefIdeal.Read.val_main_v52, Cert.DiscRefIdeal.Read.val_main_v53, Cert.DiscRefIdeal.Read.val_main_cst_3, Cert.DiscRefIdeal.Read.val_main_v54, Cert.DiscRefIdeal.Read.val_main_cst_4, Cert.DiscRefIdeal.Read.val_main_v55, Cert.DiscRefIdeal.Read.val_main_v56, Cert.DiscRefIdeal.Read.val_main_cst_5, Cert.DiscRefIdeal.Read.val_main_v57, Cert.DiscRefIdeal.Read.val_main_v58, Cert.DiscRefIdeal.Read.val_main_v59, Cert.DiscRefIdeal.Read.val_main_v60, Cert.DiscRefIdeal.Read.val_main_v61, Cert.DiscRefIdeal.Read.val_main_v62, Cert.DiscRefIdeal.Read.val_main_cst_6, Cert.DiscRefIdeal.Read.val_main_v63, Cert.DiscRefIdeal.Read.val_main_v64, Cert.DiscRefIdeal.Read.val_main_cst_7, Cert.DiscRefIdeal.Read.val_main_v65, Cert.DiscRefIdeal.Read.val_main_v66, Cert.DiscRefIdeal.Read.val_main_v67, Cert.DiscRefIdeal.Read.val_main_v68, Cert.DiscRefIdeal.Read.val_main_cst_8, Cert.DiscRefIdeal.Read.val_main_v69, Cert.DiscRefIdeal.Read.val_main_v70, Cert.DiscRefIdeal.Read.val_main_cst_9, Cert.DiscRefIdeal.Read.val_main_v71, Cert.DiscRefIdeal.Read.val_main_v72, Cert.DiscRefIdeal.Read.val_main_v73, Cert.DiscRefIdeal.Read.val_main_v74, Cert.DiscRefIdeal.Read.val_main_v75, Cert.DiscRefIdeal.Read.val_main_v76, Cert.DiscRefIdeal.Read.val_main_v77, Cert.DiscRefIdeal.Read.val_main_cst_10, Cert.DiscRefIdeal.Read.val_main_v78, Cert.DiscRefIdeal.Read.val_main_v79, Cert.DiscRefIdeal.Read.val_main_cst_11, Cert.DiscRefIdeal.Read.val_main_v80, Cert.DiscRefIdeal.Read.val_main_v81, Cert.DiscRefIdeal.Read.val_main_v82, Cert.DiscRefIdeal.Read.val_main_v83, Cert.DiscRefIdeal.Read.val_main_v84, Cert.DiscRefIdeal.Read.val_main_v85, Cert.DiscRefIdeal.Read.val_main_cst_12, Cert.DiscRefIdeal.Read.val_main_v86, Cert.DiscRefIdeal.Read.val_main_v87, Cert.DiscRefIdeal.Read.val_main_cst_13, Cert.DiscRefIdeal.Read.val_main_v88, Cert.DiscRefIdeal.Read.val_main_v89, Cert.DiscRefIdeal.Read.val_main_v90, Cert.DiscRefIdeal.Read.val_main_v91, Cert.DiscRefIdeal.Read.val_main_v92, Cert.DiscRefIdeal.Read.val_main_v93, Cert.DiscRefIdeal.Read.val_main_v94, Cert.DiscRefIdeal.Read.val_main_v95, Cert.DiscRefIdeal.Read.val_main_v96, Cert.DiscRefIdeal.Read.val_main_v97, Cert.DiscRefIdeal.Read.val_main_v98, Cert.DiscRefIdeal.Read.val_main_v99, Cert.DiscRefIdeal.Read.val_main_v100, Cert.DiscRefIdeal.Read.val_main_v101, Cert.DiscRefIdeal.Read.val_main_v102, Cert.DiscRefIdeal.Read.val_main_v103, Cert.DiscRefIdeal.Read.val_main_v104, Cert.DiscRefIdeal.Read.val_main_v105, Cert.DiscRefIdeal.Read.val_main_v106, Cert.DiscRefIdeal.Read.val_main_v107, Cert.DiscRefIdeal.Read.val_main_v108, Cert.DiscRefIdeal.Read.val_main_v109, Cert.DiscRefIdeal.Read.val_main_v110, Cert.DiscRefIdeal.Read.val_main_v111, Cert.DiscRefIdeal.Read.val_main_v112, Cert.DiscRefIdeal.Read.val_main_v113, Cert.DiscRefIdeal.Read.val_main_v114, Cert.DiscRefIdeal.Read.val_main_v115, Cert.DiscRefIdeal.Read.val_main_v116, Cert.DiscRefIdeal.Read.val_main_v117, Cert.DiscRefIdeal.Read.val_main_v118, Cert.DiscRefIdeal.Read.val_main_v119, Cert.DiscRefIdeal.Read.val_main_v120, Cert.DiscRefIdeal.Read.val_main_v121, Cert.DiscRefIdeal.Read.val_main_v122, Cert.DiscRefIdeal.Read.val_main_v123, Cert.DiscRefIdeal.Read.val_main_v124, Cert.DiscRefIdeal.Read.val_main_v125, Cert.DiscRefIdeal.Read.val_main_cst_14, Cert.DiscRefIdeal.Read.val_main_v126, Cert.DiscRefIdeal.Read.val_main_v127, Cert.DiscRefIdeal.Read.val_main_v128, Cert.DiscRefIdeal.Read.val_main_v129, Cert.DiscRefIdeal.Read.val_main_v130, Cert.DiscRefIdeal.Read.val_main_v131, Cert.DiscRefIdeal.Read.val_main_v132, Cert.DiscRefIdeal.Read.val_main_v133, Cert.DiscRefIdeal.Read.val_main_v134, Cert.DiscRefIdeal.Read.val_main_v135, Cert.DiscRefIdeal.Read.val_main_v136, Cert.DiscRefIdeal.Read.val_main_cst_15, Cert.DiscRefIdeal.Read.val_main_v137, Cert.DiscRefIdeal.Read.val_main_v138, Cert.DiscRefIdeal.Read.val_main_v139, Cert.DiscRefIdeal.Read.val_main_v140, Cert.DiscRefIdeal.Read.val_main_v141, Cert.DiscRefIdeal.Read.val_main_v142, Cert.DiscRefIdeal.Read.val_main_v143, Cert.DiscRefIdeal.Read.val_main_v144, Cert.DiscRefIdeal.Read.val_main_cst_16, Cert.DiscRefIdeal.Read.val_main_v145, Cert.DiscRefIdeal.Read.val_main_v146, Cert.DiscRefIdeal.Read.val_main_v147, Cert.DiscRefIdeal.Read.val_main_v148, Cert.DiscRefIdeal.Read.val_main_v149, Cert.DiscRefIdeal.Read.val_main_v150, Cert.DiscRefIdeal.Read.val_main_cst_17, Cert.DiscRefIdeal.Read.val_main_v151, Cert.DiscRefIdeal.Read.val_main_v152]
    simp only [h0, h1, h2, h3, h4, h5, h6, h7, h8, two_real, RealLift.one_real, RealLift.zero_real, ← EReal.coe_mul,
      ← EReal.coe_add, ← EReal.coe_sub, ← EReal.coe_neg, Ideal.exp_coe, Ideal.cos_coe, Ideal.sin_coe, RealLift.sum_real,
      RealLift.div_real _ (hd _), RealLift.div_real _ (hdd _)]
    refine congrArg _ ?_
    try simp only [hden]
    try simp only [Finset.sum_const, Finset.card_univ, Fintype.card_fin, one_smul, Finset.sum_add_distrib,
      Finset.sum_sub_distrib, neg_mul, Finset.sum_neg_distrib, e83, e84, e73, e74]
    first
      | ring1
      | (rw [← Finset.sum_add_distrib, ← Finset.sum_add_distrib, ← Finset.sum_add_distrib]
         refine congrArg (· * _) (Finset.sum_congr rfl fun x _ => ?_)
         ring1)
      | trace_state)
end Cert.DiscArr
-- ==== Proof.Disc.Pre.lean ====
/-
  The discretisation's precondition, read: the arguments are real numbers and no state's decay is zero.
-/
module

public import proofs.«01_k».proof.Proof.Gen.Pre_disc_finite
public import proofs.«01_k».proof.Proof.RealLift

@[expose] public section

noncomputable section

open Idealize.ShloMosaic

namespace Cert.DiscArr

open Cert.Pre_disc_finite Cert.Pre_disc_finite.Gen

theorem of_pre (A0 A1 : FVec Ideal S2x32x64 .f32) (A2 : FVec Ideal S2x32 .f32) (A3 A4 : FVec Ideal S2x32x64x16 .f32)
    (A5 A6 : FVec Ideal S2x32x8x64 .f32) (A7 A8 : FVec Ideal S2x32x64x16 .f32)
    (h : fn (F := Ideal) A0 A1 A2 A3 A4 A5 A6 A7 A8 = fun _ => 1#1) :
    ∃ (a0 a1 : S2x32x64.Idx → ℝ) (a2 : S2x32.Idx → ℝ) (a3 a4 : S2x32x64x16.Idx → ℝ) (a5 a6 : S2x32x8x64.Idx → ℝ)
      (a7 a8 : S2x32x64x16.Idx → ℝ),
      (∀ i, A0 i = ((a0 i : ℝ) : EReal)) ∧ (∀ i, A1 i = ((a1 i : ℝ) : EReal)) ∧ (∀ i, A2 i = ((a2 i : ℝ) : EReal))
      ∧ (∀ i, A3 i = ((a3 i : ℝ) : EReal)) ∧ (∀ i, A4 i = ((a4 i : ℝ) : EReal)) ∧ (∀ i, A5 i = ((a5 i : ℝ) : EReal))
      ∧ (∀ i, A6 i = ((a6 i : ℝ) : EReal)) ∧ (∀ i, A7 i = ((a7 i : ℝ) : EReal)) ∧ (∀ i, A8 i = ((a8 i : ℝ) : EReal))
      ∧ ∀ i, a0 i * a0 i + a1 i * a1 i ≠ 0 := by
  have e : fn (F := Ideal) A0 A1 A2 A3 A4 A5 A6 A7 A8 (fun a => a.elim0) = 1#1 := congrFun h _
  dsimp only [fn, fn_part1, fn_part2] at e
  obtain ⟨e, e9⟩ := RealLift.andi_one e
  obtain ⟨e, e8⟩ := RealLift.andi_one e
  obtain ⟨e, e7⟩ := RealLift.andi_one e
  obtain ⟨e, e6⟩ := RealLift.andi_one e
  obtain ⟨e, e5⟩ := RealLift.andi_one e
  obtain ⟨e, e4⟩ := RealLift.andi_one e
  obtain ⟨e, e3⟩ := RealLift.andi_one e
  obtain ⟨e, e2⟩ := RealLift.andi_one e
  obtain ⟨e0, e1⟩ := RealLift.andi_one e
  obtain ⟨a0, h0⟩ := RealLift.real_of_all _ _ _ _ _ e0
  obtain ⟨a1, h1⟩ := RealLift.real_of_all _ _ _ _ _ e1
  obtain ⟨a2, h2⟩ := RealLift.real_of_all _ _ _ _ _ e2
  obtain ⟨a3, h3⟩ := RealLift.real_of_all _ _ _ _ _ e3
  obtain ⟨a4, h4⟩ := RealLift.real_of_all _ _ _ _ _ e4
  obtain ⟨a5, h5⟩ := RealLift.real_of_all _ _ _ _ _ e5
  obtain ⟨a6, h6⟩ := RealLift.real_of_all _ _ _ _ _ e6
  obtain ⟨a7, h7⟩ := RealLift.real_of_all _ _ _ _ _ e7
  obtain ⟨a8, h8⟩ := RealLift.real_of_all _ _ _ _ _ e8
  refine ⟨a0, a1, a2, a3, a4, a5, a6, a7, a8, h0, h1, h2, h3, h4, h5, h6, h7, h8, fun i hz => ?_⟩
  have h' := Host.reduce_andi_all _ _ _ _ _ e9 i
  have h'' : Ideal.cmp .ogt (A0 i * A0 i + A1 i * A1 i) (Ideal.ofBits FTy.f32 0x00000000#32) = 1#1 := h'
  rw [h0, h1, ← EReal.coe_mul, ← EReal.coe_mul, ← EReal.coe_add, hz] at h''
  simp [Ideal.cmp, Ideal.ofBits, Ideal.ieee] at h''

end Cert.DiscArr
-- ==== Proof.Disc.Run.lean ====
/-
  The discretisation's gradient call: its results are the reference's gradients.
-/
module

public import proofs.«01_k».proof.Defs
public import proofs.«01_k».proof.Proof.Disc.Equation
public import proofs.«01_k».proof.Proof.Disc.Pre

@[expose] public section

set_option maxRecDepth 16384

noncomputable section

open Idealize.ShloMosaic Idealize.ShloMosaic.TcCoe Idealize.SL.Sem

namespace Cert.DiscArr

open Cert.DiscIdeal Cert.DiscIdeal.Gen

variable (m : (ℓ : Loc nD τ sig) → Buf (Elt Ideal) ℓ)

/-- What the host lines before the region leave in the region's nine arguments. -/
theorem entries (c : Dev nD) :
    V m c main_v0 = shapeCast S64x1x64 (m ((c.tc : Thread nD τ).loc main_arg0)) shapeCasts_S2x32x64_S64x1x64
    ∧ V m c main_v1 = shapeCast S64x1x64 (m ((c.tc : Thread nD τ).loc main_arg1)) shapeCasts_S2x32x64_S64x1x64
    ∧ V m c main_v2 = shapeCast S64x1x1 (m ((c.tc : Thread nD τ).loc main_arg2)) shapeCasts_S2x32_S64x1x1
    ∧ V m c main_v4 = shapeCast S64x16x64 (transpose S2x32x16x64 [0, 1, 3, 2] (m ((c.tc : Thread nD τ).loc main_arg3)) transposes_S2x32x64x16_S2x32x16x64_0_1_3_2) shapeCasts_S2x32x16x64_S64x16x64
    ∧ V m c main_v6 = shapeCast S64x16x64 (transpose S2x32x16x64 [0, 1, 3, 2] (m ((c.tc : Thread nD τ).loc main_arg4)) transposes_S2x32x64x16_S2x32x16x64_0_1_3_2) shapeCasts_S2x32x16x64_S64x16x64
    ∧ V m c main_v7 = shapeCast S64x8x64 (m ((c.tc : Thread nD τ).loc main_arg5)) shapeCasts_S2x32x8x64_S64x8x64
    ∧ V m c main_v8 = shapeCast S64x8x64 (m ((c.tc : Thread nD τ).loc main_arg6)) shapeCasts_S2x32x8x64_S64x8x64
    ∧ V m c main_v10 = shapeCast S64x16x64 (transpose S2x32x16x64 [0, 1, 3, 2] (m ((c.tc : Thread nD τ).loc main_arg7)) transposes_S2x32x64x16_S2x32x16x64_0_1_3_2) shapeCasts_S2x32x16x64_S64x16x64
    ∧ V m c main_v12 = shapeCast S64x16x64 (transpose S2x32x16x64 [0, 1, 3, 2] (m ((c.tc : Thread nD τ).loc main_arg8)) transposes_S2x32x64x16_S2x32x16x64_0_1_3_2) shapeCasts_S2x32x16x64_S64x16x64 := by
  unfold V V0 hostOps0
  simp only [List.flatten_cons, List.flatten_nil, List.append_nil]
  refine ⟨?_, ?_, ?_, ?_, ?_, ?_, ?_, ?_, ?_⟩ <;> (after_results; rfl)

/-- Result `main_v14` of the program in terms of its arguments. -/
theorem res_main_v14 (c : Dev nD) : Pipeline.afterTail₀ cfgs (dats m) 0 (V0 m) [hostOps1] c main_v14
    = shapeCast S2x32x64 (atRows (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (out0_9 (F := Ideal))) shapeCasts_S64x1x64_S2x32x64 := by
  obtain ⟨e0, e1, e2, e3, e4, e5, e6, e7, e8⟩ := entries m c
  unfold Pipeline.afterTail₀ atRows
  rw [← e0, ← e1, ← e2, ← e3, ← e4, ← e5, ← e6, ← e7, ← e8, ← final9 m c]
  simp only [List.flatten_cons, List.flatten_nil, List.append_nil]
  after_results
  erw [Pipeline.withArrays_arr _ launch0.win.arr_inj c (V0 m c) _ 9]
  rfl

/-- Result `main_v15` of the program in terms of its arguments. -/
theorem res_main_v15 (c : Dev nD) : Pipeline.afterTail₀ cfgs (dats m) 0 (V0 m) [hostOps1] c main_v15
    = shapeCast S2x32x64 (atRows (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (out0_10 (F := Ideal))) shapeCasts_S64x1x64_S2x32x64 := by
  obtain ⟨e0, e1, e2, e3, e4, e5, e6, e7, e8⟩ := entries m c
  unfold Pipeline.afterTail₀ atRows
  rw [← e0, ← e1, ← e2, ← e3, ← e4, ← e5, ← e6, ← e7, ← e8, ← final10 m c]
  simp only [List.flatten_cons, List.flatten_nil, List.append_nil]
  after_results
  erw [Pipeline.withArrays_arr _ launch0.win.arr_inj c (V0 m c) _ 10]
  rfl

/-- Result `main_v16` of the program in terms of its arguments. -/
theorem res_main_v16 (c : Dev nD) : Pipeline.afterTail₀ cfgs (dats m) 0 (V0 m) [hostOps1] c main_v16
    = shapeCast S2x32 (atRows (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (out0_11 (F := Ideal))) shapeCasts_S64x1x1_S2x32 := by
  obtain ⟨e0, e1, e2, e3, e4, e5, e6, e7, e8⟩ := entries m c
  unfold Pipeline.afterTail₀ atRows
  rw [← e0, ← e1, ← e2, ← e3, ← e4, ← e5, ← e6, ← e7, ← e8, ← final11 m c]
  simp only [List.flatten_cons, List.flatten_nil, List.append_nil]
  after_results
  erw [Pipeline.withArrays_arr _ launch0.win.arr_inj c (V0 m c) _ 11]
  rfl

/-- Result `main_v18` of the program in terms of its arguments. -/
theorem res_main_v18 (c : Dev nD) : Pipeline.afterTail₀ cfgs (dats m) 0 (V0 m) [hostOps1] c main_v18
    = transpose S2x32x64x16 [0, 1, 3, 2] (shapeCast S2x32x16x64 (atRows (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (out0_12 (F := Ideal))) shapeCasts_S64x16x64_S2x32x16x64) transposes_S2x32x16x64_S2x32x64x16_0_1_3_2 := by
  obtain ⟨e0, e1, e2, e3, e4, e5, e6, e7, e8⟩ := entries m c
  unfold Pipeline.afterTail₀ atRows
  rw [← e0, ← e1, ← e2, ← e3, ← e4, ← e5, ← e6, ← e7, ← e8, ← final12 m c]
  simp only [List.flatten_cons, List.flatten_nil, List.append_nil]
  after_results
  erw [Pipeline.withArrays_arr _ launch0.win.arr_inj c (V0 m c) _ 12]
  rfl

/-- Result `main_v20` of the program in terms of its arguments. -/
theorem res_main_v20 (c : Dev nD) : Pipeline.afterTail₀ cfgs (dats m) 0 (V0 m) [hostOps1] c main_v20
    = transpose S2x32x64x16 [0, 1, 3, 2] (shapeCast S2x32x16x64 (atRows (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (out0_13 (F := Ideal))) shapeCasts_S64x16x64_S2x32x16x64) transposes_S2x32x16x64_S2x32x64x16_0_1_3_2 := by
  obtain ⟨e0, e1, e2, e3, e4, e5, e6, e7, e8⟩ := entries m c
  unfold Pipeline.afterTail₀ atRows
  rw [← e0, ← e1, ← e2, ← e3, ← e4, ← e5, ← e6, ← e7, ← e8, ← final13 m c]
  simp only [List.flatten_cons, List.flatten_nil, List.append_nil]
  after_results
  erw [Pipeline.withArrays_arr _ launch0.win.arr_inj c (V0 m c) _ 13]
  rfl

/-- The kernel and the reference end with the same five gradients. -/
theorem claim : Cert.algebraic_DiscIdeal_DiscRefIdeal_pre_disc_finite (hDiscIdeal := Cert.DiscIdeal.Gen.facts)
    (hDiscRefIdeal := Cert.DiscRefIdeal.Gen.facts) (hPre_disc_finite := Cert.Pre_disc_finite.Gen.facts) := by
  pair_intro
  · run_from Cert.DiscIdeal.Gen.run_main m g
    · exact W_main_arg0 m (dats m) c
    · exact W_main_arg1 m (dats m) c
    · exact W_main_arg2 m (dats m) c
    · exact W_main_arg3 m (dats m) c
    · exact W_main_arg4 m (dats m) c
    · exact W_main_arg5 m (dats m) c
    · exact W_main_arg6 m (dats m) c
    · exact W_main_arg7 m (dats m) c
    · exact W_main_arg8 m (dats m) c
  · refine (θ_run _ _ _).mono (fun r h c => ?_) (Cert.DiscRefIdeal.Value.run m' g')
    obtain ⟨r0, r1, r2, r3, r4, k0, k1, k2, k3, k4, k5, k6, k7, k8⟩ := h c
    obtain ⟨x0, x1, x2, x3, x4, x5, x6, x7, x8⟩ := hagree c
    obtain ⟨a0, a1, a2, a3, a4, a5, a6, a7, a8, h0, h1, h2, h3, h4, h5, h6, h7, h8, hd⟩ := of_pre _ _ _ _ _ _ _ _ _ (hpre c)
    obtain ⟨q0, q1, q2, q3, q4⟩ := results_eq _ _ _ _ _ _ _ _ _ a0 a1 a2 a3 a4 a5 a6 a7 a8 h0 h1 h2 h3 h4 h5 h6 h7 h8 hd
    rw [Cert.DiscRefIdeal.Read.val_main_v150_eq, x0, x1, x2, x3, x4, x5, x6, x7, x8] at r0
    rw [Cert.DiscRefIdeal.Read.val_main_v142_eq, x0, x1, x2, x3, x4, x5, x6, x7, x8] at r1
    rw [Cert.DiscRefIdeal.Read.val_main_v152_eq, x0, x1, x2, x3, x4, x5, x6, x7, x8] at r2
    rw [Cert.DiscRefIdeal.Read.val_main_v84_eq, x0, x1, x2, x7, x8] at r3
    rw [Cert.DiscRefIdeal.Read.val_main_v76_eq, x0, x1, x2, x7, x8] at r4
    exact ⟨r0.trans (q0.symm.trans (res_main_v14 m c).symm), r1.trans (q1.symm.trans (res_main_v15 m c).symm),
      r2.trans (q2.symm.trans (res_main_v16 m c).symm), r3.trans (q3.symm.trans (res_main_v18 m c).symm),
      r4.trans (q4.symm.trans (res_main_v20 m c).symm), k0, k1, k2, k3, k4, k5, k6, k7, k8⟩

end Cert.DiscArr
-- ==== Proof.Attn.Trip.lean ====
module

public import proofs.«01_k».proof.Proof.Gen.AttnIdeal.Loops
public import Idealize.ShloMosaic.Lib.VecWindow

/-
  One trip of the attention gradient's loop over the chunks of queries, and the loop: what the reads of the three
  accumulating buffers (the query gradient's block, the key gradient's and the value gradient's scratch) give after
  `k` trips, as a plain recursion over arrays.
-/

@[expose] public section

set_option maxRecDepth 16384

noncomputable section

namespace Cert.AttnValue

open Idealize.ShloMosaic Idealize.ShloMosaic.TcCoe
open Cert.AttnIdeal Cert.AttnIdeal.Gen

variable {F : FTy → Type} [FloatOps F] {e : EltTy}

/-- What the accumulating buffers hold: the query gradient's block, the key gradient's scratch, the value gradient's. -/
structure Acc (F : FTy → Type) [FloatOps F] where
  dq : Vec F S1x13x96x1280 .f32
  dk : Vec F S96x640 .f32
  dv : Vec F S64x640 .f32

section
variable (K : Vec F S1x640x96 .bf16) (KT : Vec F S1x96x640 .bf16) (V : Vec F S1x640x64 .bf16)
  (Q : Vec F S1x13x96x1280 .bf16) (DO : Vec F S1x13x64x1280 .bf16) (L D : Vec F S1x13x1x1280 .f32)

/-- Chunk `n` of a block of 13 chunks lies inside the block. -/
theorem inb (s : Shape) (n : Fin 13) (d q : ℕ) (hs : s = ⟨4, ![1, 13, d, q]⟩ := by rfl) :
    ∀ a, (![0, n.val, 0, 0] : Fin 4 → ℕ) a + (![1, 1, d, q] : Fin 4 → ℕ) a ≤ (![1, 13, d, q] : Fin 4 → ℕ) a := by
  intro a
  have := n.isLt
  fin_cases a <;> simp <;> omega

/-- Chunk `n` of the queries, of the cotangents, and of a row's scalars. -/
def qAt (n : Fin 13) (Q : Vec F S1x13x96x1280 e) : Vec F S1x1x96x1280 e :=
  VecWindow.window Q ![0, n.val, 0, 0] S1x1x96x1280.size (inb S1x13x96x1280 n 96 1280)
def oAt (n : Fin 13) (DO : Vec F S1x13x64x1280 e) : Vec F S1x1x64x1280 e :=
  VecWindow.window DO ![0, n.val, 0, 0] S1x1x64x1280.size (inb S1x13x64x1280 n 64 1280)
def lAt (n : Fin 13) (L : Vec F S1x13x1x1280 e) : Vec F S1x1x1x1280 e :=
  VecWindow.window L ![0, n.val, 0, 0] S1x1x1x1280.size (inb S1x13x1x1280 n 1 1280)

/-- The gradient of one chunk's scores: `p * (v · do - delta)`, over the keys of the tile and the queries of chunk `n`. -/
def dst (n : Fin 13) : FVec F S640x1280 .bf16 :=
  k0_pay8 (k0_pay13 K) (k0_pay15 V) (qAt n Q) (oAt n DO) (lAt n L) (lAt n D)

/-- One chunk: chunk `n` of the query gradient's block gains the tile's contribution, the two scratch arrays the chunk's. -/
def step (n : Fin 13) (a : Acc F) : Acc F where
  dq := VecWindow.put a.dq ![0, n.val, 0, 0] S1x1x96x1280.size (k0_pay16 KT (dst K V Q DO L D n) (qAt n a.dq))
  dk := k0_pay9 (k0_pay13 K) (k0_pay15 V) (qAt n Q) (oAt n DO) (lAt n L) (lAt n D) a.dk
  dv := k0_pay7 (k0_pay13 K) (qAt n Q) (oAt n DO) (lAt n L) a.dv

/-- The first `n` chunks from `a`. -/
def loop (a : Acc F) : ℕ → Acc F
  | 0 => a
  | n + 1 => if h : n < 13 then step K KT V Q DO L D ⟨n, h⟩ (loop a n) else loop a n

end

/-- The loop makes twelve trips, and trip `k`'s offsets are chunk `k`'s. -/
theorem trips_eq : k0_t1_loop.trips = 12 := by decide +kernel
theorem off1_eq : ∀ k : Fin k0_t1_loop.trips, k0_off1 k = ![0, k.val, 0, 0] := by decide +kernel
theorem off2_eq : ∀ k : Fin k0_t1_loop.trips, k0_off2 k = ![0, k.val, 0, 0] := by decide +kernel
theorem off3_eq : ∀ k : Fin k0_t1_loop.trips, k0_off3 k = ![0, k.val, 0, 0] := by decide +kernel

/-- Trip `k`'s chunk. -/
def chunk (k : Fin k0_t1_loop.trips) : Fin 13 := ⟨k.val, Nat.lt_of_lt_of_le k.isLt (by rw [trips_eq]; omega)⟩

section
variable (𝒱 : Variants) (c : Dev nD) (bd : Option 𝒱.V) (i : grid0.Coords) (arg2 : Memref sig .tc .vmem S1x13x96x1280 .bf16) (harg2 : arg2.IsWhole) (arg3 : Memref sig .tc .vmem S1x640x96 .bf16) (harg3 : arg3.IsWhole) (arg4 : Memref sig .tc .vmem S1x96x640 .bf16) (harg4 : arg4.IsWhole) (arg5 : Memref sig .tc .vmem S1x640x64 .bf16) (harg5 : arg5.IsWhole) (arg6 : Memref sig .tc .vmem S1x13x64x1280 .bf16) (harg6 : arg6.IsWhole) (arg7 : Memref sig .tc .vmem S1x13x1x1280 .f32) (harg7 : arg7.IsWhole) (arg8 : Memref sig .tc .vmem S1x13x1x1280 .f32) (harg8 : arg8.IsWhole) (arg9 : Memref sig .tc .vmem S1x13x96x1280 .f32) (harg9 : arg9.IsWhole) (arg10 : Memref sig .tc .vmem S1x96x640 .f32) (harg10 : arg10.IsWhole) (arg11 : Memref sig .tc .vmem S1x64x640 .f32) (harg11 : arg11.IsWhole) (arg12 : Memref sig .tc .vmem S96x640 .f32) (harg12 : arg12.IsWhole) (arg13 : Memref sig .tc .vmem S64x640 .f32) (harg13 : arg13.IsWhole)
  (v11 : Vec F S1x640x96 .bf16) (v13 : Vec F S1x96x640 .bf16) (v15 : Vec F S1x640x64 .bf16) (X_arg2 : BufTy.Contents (Elt F) arg2.view.ty) (X_arg6 : BufTy.Contents (Elt F) arg6.view.ty) (X_arg7 : BufTy.Contents (Elt F) arg7.view.ty) (X_arg8 : BufTy.Contents (Elt F) arg8.view.ty)

/-- One trip's pieces, read: one step of the recursion. -/
theorem trip_read (k : Fin k0_t1_loop.trips) (f9 : BufTy.Contents (Elt F) arg9.view.ty) (f12 : BufTy.Contents (Elt F) arg12.view.ty) (f13 : BufTy.Contents (Elt F) arg13.view.ty) :
    (⟨arg9.view.read (Elt F) (arg9.view.writes (Elt F) f9 (tripL_k0_t1 𝒱 c bd i arg2 harg2 arg3 harg3 arg4 harg4 arg5 harg5 arg6 harg6 arg7 harg7 arg8 harg8 arg9 harg9 arg10 harg10 arg11 harg11 arg12 harg12 arg13 harg13 v11 v13 v15 X_arg2 X_arg6 X_arg7 X_arg8 k f9 f12 f13).1),
      arg12.view.read (Elt F) (arg12.view.writes (Elt F) f12 (tripL_k0_t1 𝒱 c bd i arg2 harg2 arg3 harg3 arg4 harg4 arg5 harg5 arg6 harg6 arg7 harg7 arg8 harg8 arg9 harg9 arg10 harg10 arg11 harg11 arg12 harg12 arg13 harg13 v11 v13 v15 X_arg2 X_arg6 X_arg7 X_arg8 k f9 f12 f13).2.1),
      arg13.view.read (Elt F) (arg13.view.writes (Elt F) f13 (tripL_k0_t1 𝒱 c bd i arg2 harg2 arg3 harg3 arg4 harg4 arg5 harg5 arg6 harg6 arg7 harg7 arg8 harg8 arg9 harg9 arg10 harg10 arg11 harg11 arg12 harg12 arg13 harg13 v11 v13 v15 X_arg2 X_arg6 X_arg7 X_arg8 k f9 f12 f13).2.2)⟩ : Acc F)
    = step v11 v13 v15 (arg2.view.read (Elt F) X_arg2) (arg6.view.read (Elt F) X_arg6) (arg7.view.read (Elt F) X_arg7) (arg8.view.read (Elt F) X_arg8) (chunk k)
        ⟨arg9.view.read (Elt F) f9, arg12.view.read (Elt F) f12, arg13.view.read (Elt F) f13⟩ := by
  have e12 : arg12.view.readAt (Elt F) (Rect.unit (s := S96x640) ![0, 0] ![96, 640] inb_S96x640_S96x640_0_0).toLoadRect f12 = arg12.view.read (Elt F) f12 :=
    View.readAt_full _ _ _
  have e13 : arg13.view.readAt (Elt F) (Rect.unit (s := S64x640) ![0, 0] ![64, 640] inb_S64x640_S64x640_0_0).toLoadRect f13 = arg13.view.read (Elt F) f13 :=
    View.readAt_full _ _ _
  have e2 : arg2.view.readAt (Elt F) (Rect.unit (s := S1x13x96x1280) ![0, (Scalar.indexCast (Scf.iv 0#32 1#32 k.val)).toNat, 0, 0] ![1, 1, 96, 1280] (k0_off1_inb k)).toLoadRect X_arg2 = qAt (chunk k) (arg2.view.read (Elt F) X_arg2) :=
    View.readAt_unit _ _ _ (off1_eq k) _
  have e6 : arg6.view.readAt (Elt F) (Rect.unit (s := S1x13x64x1280) ![0, (Scalar.indexCast (Scf.iv 0#32 1#32 k.val)).toNat, 0, 0] ![1, 1, 64, 1280] (k0_off2_inb k)).toLoadRect X_arg6 = oAt (chunk k) (arg6.view.read (Elt F) X_arg6) :=
    View.readAt_unit _ _ _ (off2_eq k) _
  have e7 : arg7.view.readAt (Elt F) (Rect.unit (s := S1x13x1x1280) ![0, (Scalar.indexCast (Scf.iv 0#32 1#32 k.val)).toNat, 0, 0] ![1, 1, 1, 1280] (k0_off3_inb k)).toLoadRect X_arg7 = lAt (chunk k) (arg7.view.read (Elt F) X_arg7) :=
    View.readAt_unit _ _ _ (off3_eq k) _
  have e8 : arg8.view.readAt (Elt F) (Rect.unit (s := S1x13x1x1280) ![0, (Scalar.indexCast (Scf.iv 0#32 1#32 k.val)).toNat, 0, 0] ![1, 1, 1, 1280] (k0_off3_inb k)).toLoadRect X_arg8 = lAt (chunk k) (arg8.view.read (Elt F) X_arg8) :=
    View.readAt_unit _ _ _ (off3_eq k) _
  have e9 : arg9.view.readAt (Elt F) (Rect.unit (s := S1x13x96x1280) ![0, (Scalar.indexCast (Scf.iv 0#32 1#32 k.val)).toNat, 0, 0] ![1, 1, 96, 1280] (k0_off1_inb k)).toLoadRect f9 = qAt (chunk k) (arg9.view.read (Elt F) f9) :=
    View.readAt_unit _ _ _ (off1_eq k) _
  unfold tripL_k0_t1 trip_k0_t1
  dsimp only
  unfold step
  rw [Acc.mk.injEq]
  refine ⟨?_, ?_, ?_⟩
  · rw [View.read_writes_cons_put _ _ _ _ _ (off1_eq k)]
    sl_unfold_words
    simp only [e2, e6, e7, e8, e9]
    rfl
  · rw [View.read_writes_full]
    sl_unfold_words
    simp only [e2, e6, e7, e8, e12]
  · rw [View.read_writes_full]
    sl_unfold_words
    simp only [e2, e6, e7, e8, e13]

/-- The pieces of the first `n` trips, read: the recursion from what the buffers held before the loop. -/
theorem loop_read (f9 : BufTy.Contents (Elt F) arg9.view.ty) (f12 : BufTy.Contents (Elt F) arg12.view.ty) (f13 : BufTy.Contents (Elt F) arg13.view.ty) (n : ℕ) (hn : n ≤ k0_t1_loop.trips) :
    (⟨arg9.view.read (Elt F) (arg9.view.writes (Elt F) f9 (pb_k0_t1 𝒱 c bd i arg2 harg2 arg3 harg3 arg4 harg4 arg5 harg5 arg6 harg6 arg7 harg7 arg8 harg8 arg9 harg9 arg10 harg10 arg11 harg11 arg12 harg12 arg13 harg13 v11 v13 v15 X_arg2 X_arg6 X_arg7 X_arg8 f9 f12 f13 n).1),
      arg12.view.read (Elt F) (arg12.view.writes (Elt F) f12 (pb_k0_t1 𝒱 c bd i arg2 harg2 arg3 harg3 arg4 harg4 arg5 harg5 arg6 harg6 arg7 harg7 arg8 harg8 arg9 harg9 arg10 harg10 arg11 harg11 arg12 harg12 arg13 harg13 v11 v13 v15 X_arg2 X_arg6 X_arg7 X_arg8 f9 f12 f13 n).2.1),
      arg13.view.read (Elt F) (arg13.view.writes (Elt F) f13 (pb_k0_t1 𝒱 c bd i arg2 harg2 arg3 harg3 arg4 harg4 arg5 harg5 arg6 harg6 arg7 harg7 arg8 harg8 arg9 harg9 arg10 harg10 arg11 harg11 arg12 harg12 arg13 harg13 v11 v13 v15 X_arg2 X_arg6 X_arg7 X_arg8 f9 f12 f13 n).2.2)⟩ : Acc F)
    = loop v11 v13 v15 (arg2.view.read (Elt F) X_arg2) (arg6.view.read (Elt F) X_arg6) (arg7.view.read (Elt F) X_arg7) (arg8.view.read (Elt F) X_arg8)
        ⟨arg9.view.read (Elt F) f9, arg12.view.read (Elt F) f12, arg13.view.read (Elt F) f13⟩ n := by
  induction n with
  | zero => rfl
  | succ n ih =>
    have h : n < k0_t1_loop.trips := hn
    have h' : n < 13 := by rw [trips_eq] at h; omega
    rw [loop, dif_pos h', ← ih h.le, pb_k0_t1]
    unfold pb_k0_t1Step
    rw [dif_pos h]
    simp only [View.writes_append]
    exact trip_read 𝒱 c bd i arg2 harg2 arg3 harg3 arg4 harg4 arg5 harg5 arg6 harg6 arg7 harg7 arg8 harg8 arg9 harg9 arg10 harg10 arg11 harg11 arg12 harg12 arg13 harg13 v11 v13 v15 X_arg2 X_arg6 X_arg7 X_arg8 ⟨n, h⟩ _ _ _

end

end Cert.AttnValue

end
-- ==== Proof.Attn.Block.lean ====
module

public import proofs.«01_k».proof.Proof.Gen.AttnIdeal.Frame
public import proofs.«01_k».proof.Proof.Attn.Trip

/-
  What one grid point of the attention gradient leaves in its three outputs: the state after all 13 chunks of queries,
  from zeroed scratch and from the query gradient's block as the point finds it (zero at a head's first key tile).
-/

@[expose] public section

set_option maxRecDepth 16384

noncomputable section

namespace Cert.AttnValue

open Idealize.ShloMosaic Idealize.ShloMosaic.TcCoe
open Cert.AttnIdeal Cert.AttnIdeal.Gen

variable {F : FTy → Type} [FloatOps F]

variable (c : Dev nD) (i : grid0.Coords) (arg2 : Memref sig .tc .vmem S1x13x96x1280 .bf16) (harg2 : arg2.IsWhole) (arg3 : Memref sig .tc .vmem S1x640x96 .bf16) (harg3 : arg3.IsWhole) (arg4 : Memref sig .tc .vmem S1x96x640 .bf16) (harg4 : arg4.IsWhole) (arg5 : Memref sig .tc .vmem S1x640x64 .bf16) (harg5 : arg5.IsWhole) (arg6 : Memref sig .tc .vmem S1x13x64x1280 .bf16) (harg6 : arg6.IsWhole) (arg7 : Memref sig .tc .vmem S1x13x1x1280 .f32) (harg7 : arg7.IsWhole) (arg8 : Memref sig .tc .vmem S1x13x1x1280 .f32) (harg8 : arg8.IsWhole) (arg9 : Memref sig .tc .vmem S1x13x96x1280 .f32) (harg9 : arg9.IsWhole) (arg10 : Memref sig .tc .vmem S1x96x640 .f32) (harg10 : arg10.IsWhole) (arg11 : Memref sig .tc .vmem S1x64x640 .f32) (harg11 : arg11.IsWhole) (arg12 : Memref sig .tc .vmem S96x640 .f32) (harg12 : arg12.IsWhole) (arg13 : Memref sig .tc .vmem S64x640 .f32) (harg13 : arg13.IsWhole)
  (x0 : Vec F S1x13x96x1280 .bf16) (x1 : Vec F S1x640x96 .bf16) (x2 : Vec F S1x96x640 .bf16) (x3 : Vec F S1x640x64 .bf16) (x4 : Vec F S1x13x64x1280 .bf16) (x5 : Vec F S1x13x1x1280 .f32) (x6 : Vec F S1x13x1x1280 .f32)

/-- The last chunk, which the body takes after the loop. -/
abbrev last : Fin 13 := ⟨12, by omega⟩

/-- The loop's pieces over zeroed scratch, read through the buffers, buffer by buffer. -/
theorem loop_reads (f9 : BufTy.Contents (Elt F) arg9.view.ty) (f12 : BufTy.Contents (Elt F) arg12.view.ty) (f13 : BufTy.Contents (Elt F) arg13.view.ty)
    (d : Vec F S1x13x96x1280 .f32) (e : Vec F S96x640 .f32) (g : Vec F S64x640 .f32)
    (h9 : arg9.view.read (Elt F) f9 = d) (h12 : arg12.view.read (Elt F) f12 = e) (h13 : arg13.view.read (Elt F) f13 = g)
    (n : ℕ) (hn : n = k0_t1_loop.trips) :
    let L := pb_k0_t1 Variants.none c none i arg2 harg2 arg3 harg3 arg4 harg4 arg5 harg5 arg6 harg6 arg7 harg7 arg8 harg8 arg9 harg9 arg10 harg10 arg11 harg11 arg12 harg12 arg13 harg13 x1 x2 x3 (harg2.unread x0) (harg6.unread x4) (harg7.unread x5) (harg8.unread x6) f9 f12 f13 n
    let A := loop x1 x2 x3 x0 x4 x5 x6 ⟨d, e, g⟩ 12
    arg9.view.read (Elt F) (arg9.view.writes (Elt F) f9 L.1) = A.dq ∧ arg12.view.read (Elt F) (arg12.view.writes (Elt F) f12 L.2.1) = A.dk
      ∧ arg13.view.read (Elt F) (arg13.view.writes (Elt F) f13 L.2.2) = A.dv := by
  subst h9 h12 h13 hn
  have h := loop_read Variants.none c none i arg2 harg2 arg3 harg3 arg4 harg4 arg5 harg5 arg6 harg6 arg7 harg7 arg8 harg8 arg9 harg9 arg10 harg10 arg11 harg11 arg12 harg12 arg13 harg13 x1 x2 x3 (harg2.unread x0) (harg6.unread x4) (harg7.unread x5) (harg8.unread x6) f9 f12 f13 k0_t1_loop.trips le_rfl
  simp only [harg2.read_unread, harg6.read_unread, harg7.read_unread, harg8.read_unread, trips_eq] at h
  have h' := congrArg (fun a : Acc F => (a.dq, a.dk, a.dv)) h
  simp only [Prod.mk.injEq] at h'
  intro L A
  simp only [L, A, trips_eq]
  exact h'

/-- The point's loads of its whole inputs and of the last chunk. -/
theorem loads :
    arg3.view.readAt (Elt F) (Rect.unit (s := S1x640x96) ![0, 0, 0] ![1, 640, 96] inb_S1x640x96_S1x640x96_0_0_0).toLoadRect (harg3.unread x1) = x1
    ∧ arg4.view.readAt (Elt F) (Rect.unit (s := S1x96x640) ![0, 0, 0] ![1, 96, 640] inb_S1x96x640_S1x96x640_0_0_0).toLoadRect (harg4.unread x2) = x2
    ∧ arg5.view.readAt (Elt F) (Rect.unit (s := S1x640x64) ![0, 0, 0] ![1, 640, 64] inb_S1x640x64_S1x640x64_0_0_0).toLoadRect (harg5.unread x3) = x3
    ∧ arg2.view.readAt (Elt F) (Rect.unit (s := S1x13x96x1280) ![0, 12, 0, 0] ![1, 1, 96, 1280] inb_S1x13x96x1280_S1x1x96x1280_0_12_0_0).toLoadRect (harg2.unread x0) = qAt last x0
    ∧ arg6.view.readAt (Elt F) (Rect.unit (s := S1x13x64x1280) ![0, 12, 0, 0] ![1, 1, 64, 1280] inb_S1x13x64x1280_S1x1x64x1280_0_12_0_0).toLoadRect (harg6.unread x4) = oAt last x4
    ∧ arg7.view.readAt (Elt F) (Rect.unit (s := S1x13x1x1280) ![0, 12, 0, 0] ![1, 1, 1, 1280] inb_S1x13x1x1280_S1x1x1x1280_0_12_0_0).toLoadRect (harg7.unread x5) = lAt last x5
    ∧ arg8.view.readAt (Elt F) (Rect.unit (s := S1x13x1x1280) ![0, 12, 0, 0] ![1, 1, 1, 1280] inb_S1x13x1x1280_S1x1x1x1280_0_12_0_0).toLoadRect (harg8.unread x6) = lAt last x6 :=
  ⟨(View.readAt_full _ _ _).trans (harg3.read_unread x1),
    (View.readAt_full _ _ _).trans (harg4.read_unread x2),
    (View.readAt_full _ _ _).trans (harg5.read_unread x3),
    Eq.trans rfl (congrArg (qAt last) (harg2.read_unread _)),
    Eq.trans rfl (congrArg (oAt last) (harg6.read_unread _)),
    Eq.trans rfl (congrArg (lAt last) (harg7.read_unread _)),
    Eq.trans rfl (congrArg (lAt last) (harg8.read_unread _))⟩

/-- The body's text after the loop is the thirteenth chunk. -/
theorem last_dk (a : Acc F) : k0_pay23 (k0_pay15 x3) (k0_pay17 (qAt last x0)) (k0_pay18 (oAt last x4)) (k0_pay19 x1 (qAt last x0)) (lAt last x5) (lAt last x6)
    (loop x1 x2 x3 x0 x4 x5 x6 a 12).dk = (loop x1 x2 x3 x0 x4 x5 x6 a 13).dk := by
  have e : (loop x1 x2 x3 x0 x4 x5 x6 a 13).dk = k0_pay9 (k0_pay13 x1) (k0_pay15 x3) (qAt last x0) (oAt last x4) (lAt last x5) (lAt last x6) (loop x1 x2 x3 x0 x4 x5 x6 a 12).dk := rfl
  rw [e]
  generalize (loop x1 x2 x3 x0 x4 x5 x6 a 12).dk = b
  rfl

theorem last_dq (a : Acc F) : VecWindow.put (loop x1 x2 x3 x0 x4 x5 x6 a 12).dq ![0, 12, 0, 0] ![1, 1, 96, 1280]
    (k0_pay1 (k0_pay24 (k0_pay14 x2) (k0_pay15 x3) (k0_pay18 (oAt last x4)) (k0_pay19 x1 (qAt last x0)) (lAt last x5) (lAt last x6)
      (qAt last (loop x1 x2 x3 x0 x4 x5 x6 a 12).dq))) = (loop x1 x2 x3 x0 x4 x5 x6 a 13).dq := by
  have e : (loop x1 x2 x3 x0 x4 x5 x6 a 13).dq = VecWindow.put (loop x1 x2 x3 x0 x4 x5 x6 a 12).dq ![0, 12, 0, 0] S1x1x96x1280.size
      (k0_pay16 x2 (dst x1 x3 x0 x4 x5 x6 last) (qAt last (loop x1 x2 x3 x0 x4 x5 x6 a 12).dq)) := rfl
  rw [e]
  generalize (loop x1 x2 x3 x0 x4 x5 x6 a 12).dq = b
  rfl

theorem last_dv (a : Acc F) : k0_pay21 (k0_pay18 (oAt last x4)) (k0_pay19 x1 (qAt last x0)) (lAt last x5)
    (loop x1 x2 x3 x0 x4 x5 x6 a 12).dv = (loop x1 x2 x3 x0 x4 x5 x6 a 13).dv := by
  have e : (loop x1 x2 x3 x0 x4 x5 x6 a 13).dv = k0_pay7 (k0_pay13 x1) (qAt last x0) (oAt last x4) (lAt last x5) (loop x1 x2 x3 x0 x4 x5 x6 a 12).dv := rfl
  rw [e]
  generalize (loop x1 x2 x3 x0 x4 x5 x6 a 12).dv = b
  rfl

theorem outA_7 (hc0 : cond0_0 i) : out0_A_7 c i arg2 harg2 arg3 harg3 arg4 harg4 arg5 harg5 arg6 harg6 arg7 harg7 arg8 harg8 arg9 harg9 arg10 harg10 arg11 harg11 arg12 harg12 arg13 harg13 hc0 x0 x1 x2 x3 x4 x5 x6
    = (loop x1 x2 x3 x0 x4 x5 x6 ⟨k0_pay10, k0_pay11, k0_pay12⟩ 13).dq := by
  have r12 (f) : arg12.view.readAt (Elt F) (Rect.unit (s := S96x640) ![0, 0] ![96, 640] inb_S96x640_S96x640_0_0).toLoadRect f = arg12.view.read (Elt F) f :=
    View.readAt_full _ _ _
  have r13 (f) : arg13.view.readAt (Elt F) (Rect.unit (s := S64x640) ![0, 0] ![64, 640] inb_S64x640_S64x640_0_0).toLoadRect f = arg13.view.read (Elt F) f :=
    View.readAt_full _ _ _
  have w12 (f L w) : arg12.view.read (Elt F) (arg12.view.writes (Elt F) f (⟨Rect.unit (s := S96x640) ![0, 0] ![96, 640] inb_S96x640_S96x640_0_0, w⟩ :: L)) = w :=
    View.read_writes_full _ _ _ _ _
  have w13 (f L w) : arg13.view.read (Elt F) (arg13.view.writes (Elt F) f (⟨Rect.unit (s := S64x640) ![0, 0] ![64, 640] inb_S64x640_S64x640_0_0, w⟩ :: L)) = w :=
    View.read_writes_full _ _ _ _ _
  have r9 (f) : arg9.view.readAt (Elt F) (Rect.unit (s := S1x13x96x1280) ![0, 12, 0, 0] ![1, 1, 96, 1280] inb_S1x13x96x1280_S1x1x96x1280_0_12_0_0).toLoadRect f = qAt last (arg9.view.read (Elt F) f) :=
    rfl
  obtain ⟨e3, e4, e5, e2, e6, e7, e8⟩ := loads arg2 harg2 arg3 harg3 arg4 harg4 arg5 harg5 arg6 harg6 arg7 harg7 arg8 harg8 x0 x1 x2 x3 x4 x5 x6
  have hL := loop_reads c i arg2 harg2 arg3 harg3 arg4 harg4 arg5 harg5 arg6 harg6 arg7 harg7 arg8 harg8 arg9 harg9 arg10 harg10 arg11 harg11 arg12 harg12 arg13 harg13 x0 x1 x2 x3 x4 x5 x6 (arg9.view.writes (Elt F) arg9.view.junk [⟨Rect.unit (s := S1x13x96x1280) ![0, 0, 0, 0] S1x13x96x1280.size inb_S1x13x96x1280_S1x13x96x1280_0_0_0_0, k0_pay10 (F := F)⟩])
    (arg12.view.writes (Elt F) arg12.view.junk [⟨Rect.unit (s := S96x640) ![0, 0] S96x640.size inb_S96x640_S96x640_0_0, k0_pay11 (F := F)⟩])
    (arg13.view.writes (Elt F) arg13.view.junk [⟨Rect.unit (s := S64x640) ![0, 0] S64x640.size inb_S64x640_S64x640_0_0, k0_pay12 (F := F)⟩])
    k0_pay10 k0_pay11 k0_pay12 (View.read_writes_full _ _ _ _ _) (View.read_writes_full _ _ _ _ _) (View.read_writes_full _ _ _ _ _)
    (Scf.trips 0#32 (Scalar.addi 0#32 12#32) 1#32) rfl
  dsimp only at hL
  obtain ⟨h9, h12, h13⟩ := hL
  unfold out0_A_7
  rw [View.read_writes_eq_canon _ _ _ (cover0_A_7 c i arg2 harg2 arg3 harg3 arg4 harg4 arg5 harg5 arg6 harg6 arg7 harg7 arg8 harg8 arg9 harg9 arg10 harg10 arg11 harg11 arg12 harg12 arg13 harg13 hc0 x0 x1 x2 x3 x4 x5 x6), ← View.read_writes_eq_canon arg9.view arg9.view.junk _ (cover0_A_7 c i arg2 harg2 arg3 harg3 arg4 harg4 arg5 harg5 arg6 harg6 arg7 harg7 arg8 harg8 arg9 harg9 arg10 harg10 arg11 harg11 arg12 harg12 arg13 harg13 hc0 x0 x1 x2 x3 x4 x5 x6)]
  unfold kernelRun0_A
  dsimp only
  sl_unfold_words
  refine (View.read_writes_cons_put (s := S1x13x96x1280) (off := ![0, 12, 0, 0]) (off' := ![0, 12, 0, 0]) (size := ![1, 1, 96, 1280]) _ _ _ _ _ rfl).trans ?_
  simp only [e2, e3, e4, e5, e6, e7, e8, View.readCov, View.writes_append, r9]
  rw [h9]
  exact last_dq ..

theorem outA_8 (hc0 : cond0_0 i) : out0_A_8 c i arg2 harg2 arg3 harg3 arg4 harg4 arg5 harg5 arg6 harg6 arg7 harg7 arg8 harg8 arg9 harg9 arg10 harg10 arg11 harg11 arg12 harg12 arg13 harg13 hc0 x0 x1 x2 x3 x4 x5 x6
    = k0_pay2 (loop x1 x2 x3 x0 x4 x5 x6 ⟨k0_pay10, k0_pay11, k0_pay12⟩ 13).dk := by
  have r12 (f) : arg12.view.readAt (Elt F) (Rect.unit (s := S96x640) ![0, 0] ![96, 640] inb_S96x640_S96x640_0_0).toLoadRect f = arg12.view.read (Elt F) f :=
    View.readAt_full _ _ _
  have r13 (f) : arg13.view.readAt (Elt F) (Rect.unit (s := S64x640) ![0, 0] ![64, 640] inb_S64x640_S64x640_0_0).toLoadRect f = arg13.view.read (Elt F) f :=
    View.readAt_full _ _ _
  have w12 (f L w) : arg12.view.read (Elt F) (arg12.view.writes (Elt F) f (⟨Rect.unit (s := S96x640) ![0, 0] ![96, 640] inb_S96x640_S96x640_0_0, w⟩ :: L)) = w :=
    View.read_writes_full _ _ _ _ _
  have w13 (f L w) : arg13.view.read (Elt F) (arg13.view.writes (Elt F) f (⟨Rect.unit (s := S64x640) ![0, 0] ![64, 640] inb_S64x640_S64x640_0_0, w⟩ :: L)) = w :=
    View.read_writes_full _ _ _ _ _
  have r9 (f) : arg9.view.readAt (Elt F) (Rect.unit (s := S1x13x96x1280) ![0, 12, 0, 0] ![1, 1, 96, 1280] inb_S1x13x96x1280_S1x1x96x1280_0_12_0_0).toLoadRect f = qAt last (arg9.view.read (Elt F) f) :=
    rfl
  obtain ⟨e3, e4, e5, e2, e6, e7, e8⟩ := loads arg2 harg2 arg3 harg3 arg4 harg4 arg5 harg5 arg6 harg6 arg7 harg7 arg8 harg8 x0 x1 x2 x3 x4 x5 x6
  have hL := loop_reads c i arg2 harg2 arg3 harg3 arg4 harg4 arg5 harg5 arg6 harg6 arg7 harg7 arg8 harg8 arg9 harg9 arg10 harg10 arg11 harg11 arg12 harg12 arg13 harg13 x0 x1 x2 x3 x4 x5 x6 (arg9.view.writes (Elt F) arg9.view.junk [⟨Rect.unit (s := S1x13x96x1280) ![0, 0, 0, 0] S1x13x96x1280.size inb_S1x13x96x1280_S1x13x96x1280_0_0_0_0, k0_pay10 (F := F)⟩])
    (arg12.view.writes (Elt F) arg12.view.junk [⟨Rect.unit (s := S96x640) ![0, 0] S96x640.size inb_S96x640_S96x640_0_0, k0_pay11 (F := F)⟩])
    (arg13.view.writes (Elt F) arg13.view.junk [⟨Rect.unit (s := S64x640) ![0, 0] S64x640.size inb_S64x640_S64x640_0_0, k0_pay12 (F := F)⟩])
    k0_pay10 k0_pay11 k0_pay12 (View.read_writes_full _ _ _ _ _) (View.read_writes_full _ _ _ _ _) (View.read_writes_full _ _ _ _ _)
    (Scf.trips 0#32 (Scalar.addi 0#32 12#32) 1#32) rfl
  dsimp only at hL
  obtain ⟨h9, h12, h13⟩ := hL
  unfold out0_A_8
  unfold kernelRun0_A
  dsimp only
  sl_unfold_words
  rw [View.read_writes_full]
  simp only [e2, e3, e4, e5, e6, e7, e8, r12, r13, w12, w13, View.readCov, View.writes_append]
  rw [h12, last_dk]

theorem outA_9 (hc0 : cond0_0 i) : out0_A_9 c i arg2 harg2 arg3 harg3 arg4 harg4 arg5 harg5 arg6 harg6 arg7 harg7 arg8 harg8 arg9 harg9 arg10 harg10 arg11 harg11 arg12 harg12 arg13 harg13 hc0 x0 x1 x2 x3 x4 x5 x6
    = k0_pay3 (loop x1 x2 x3 x0 x4 x5 x6 ⟨k0_pay10, k0_pay11, k0_pay12⟩ 13).dv := by
  have r12 (f) : arg12.view.readAt (Elt F) (Rect.unit (s := S96x640) ![0, 0] ![96, 640] inb_S96x640_S96x640_0_0).toLoadRect f = arg12.view.read (Elt F) f :=
    View.readAt_full _ _ _
  have r13 (f) : arg13.view.readAt (Elt F) (Rect.unit (s := S64x640) ![0, 0] ![64, 640] inb_S64x640_S64x640_0_0).toLoadRect f = arg13.view.read (Elt F) f :=
    View.readAt_full _ _ _
  have w12 (f L w) : arg12.view.read (Elt F) (arg12.view.writes (Elt F) f (⟨Rect.unit (s := S96x640) ![0, 0] ![96, 640] inb_S96x640_S96x640_0_0, w⟩ :: L)) = w :=
    View.read_writes_full _ _ _ _ _
  have w13 (f L w) : arg13.view.read (Elt F) (arg13.view.writes (Elt F) f (⟨Rect.unit (s := S64x640) ![0, 0] ![64, 640] inb_S64x640_S64x640_0_0, w⟩ :: L)) = w :=
    View.read_writes_full _ _ _ _ _
  have r9 (f) : arg9.view.readAt (Elt F) (Rect.unit (s := S1x13x96x1280) ![0, 12, 0, 0] ![1, 1, 96, 1280] inb_S1x13x96x1280_S1x1x96x1280_0_12_0_0).toLoadRect f = qAt last (arg9.view.read (Elt F) f) :=
    rfl
  obtain ⟨e3, e4, e5, e2, e6, e7, e8⟩ := loads arg2 harg2 arg3 harg3 arg4 harg4 arg5 harg5 arg6 harg6 arg7 harg7 arg8 harg8 x0 x1 x2 x3 x4 x5 x6
  have hL := loop_reads c i arg2 harg2 arg3 harg3 arg4 harg4 arg5 harg5 arg6 harg6 arg7 harg7 arg8 harg8 arg9 harg9 arg10 harg10 arg11 harg11 arg12 harg12 arg13 harg13 x0 x1 x2 x3 x4 x5 x6 (arg9.view.writes (Elt F) arg9.view.junk [⟨Rect.unit (s := S1x13x96x1280) ![0, 0, 0, 0] S1x13x96x1280.size inb_S1x13x96x1280_S1x13x96x1280_0_0_0_0, k0_pay10 (F := F)⟩])
    (arg12.view.writes (Elt F) arg12.view.junk [⟨Rect.unit (s := S96x640) ![0, 0] S96x640.size inb_S96x640_S96x640_0_0, k0_pay11 (F := F)⟩])
    (arg13.view.writes (Elt F) arg13.view.junk [⟨Rect.unit (s := S64x640) ![0, 0] S64x640.size inb_S64x640_S64x640_0_0, k0_pay12 (F := F)⟩])
    k0_pay10 k0_pay11 k0_pay12 (View.read_writes_full _ _ _ _ _) (View.read_writes_full _ _ _ _ _) (View.read_writes_full _ _ _ _ _)
    (Scf.trips 0#32 (Scalar.addi 0#32 12#32) 1#32) rfl
  dsimp only at hL
  obtain ⟨h9, h12, h13⟩ := hL
  unfold out0_A_9
  unfold kernelRun0_A
  dsimp only
  sl_unfold_words
  rw [View.read_writes_full]
  simp only [e2, e3, e4, e5, e6, e7, e8, r12, r13, w12, w13, View.readCov, View.writes_append]
  rw [h13, last_dv]

theorem outB_7 (hc0 : ¬ cond0_0 i) (xo7 : Vec F S1x13x96x1280 .f32) : out0_B_7 c i arg2 harg2 arg3 harg3 arg4 harg4 arg5 harg5 arg6 harg6 arg7 harg7 arg8 harg8 arg9 harg9 arg10 harg10 arg11 harg11 arg12 harg12 arg13 harg13 hc0 x0 x1 x2 x3 x4 x5 x6 xo7
    = (loop x1 x2 x3 x0 x4 x5 x6 ⟨xo7, k0_pay11, k0_pay12⟩ 13).dq := by
  have r12 (f) : arg12.view.readAt (Elt F) (Rect.unit (s := S96x640) ![0, 0] ![96, 640] inb_S96x640_S96x640_0_0).toLoadRect f = arg12.view.read (Elt F) f :=
    View.readAt_full _ _ _
  have r13 (f) : arg13.view.readAt (Elt F) (Rect.unit (s := S64x640) ![0, 0] ![64, 640] inb_S64x640_S64x640_0_0).toLoadRect f = arg13.view.read (Elt F) f :=
    View.readAt_full _ _ _
  have w12 (f L w) : arg12.view.read (Elt F) (arg12.view.writes (Elt F) f (⟨Rect.unit (s := S96x640) ![0, 0] ![96, 640] inb_S96x640_S96x640_0_0, w⟩ :: L)) = w :=
    View.read_writes_full _ _ _ _ _
  have w13 (f L w) : arg13.view.read (Elt F) (arg13.view.writes (Elt F) f (⟨Rect.unit (s := S64x640) ![0, 0] ![64, 640] inb_S64x640_S64x640_0_0, w⟩ :: L)) = w :=
    View.read_writes_full _ _ _ _ _
  have r9 (f) : arg9.view.readAt (Elt F) (Rect.unit (s := S1x13x96x1280) ![0, 12, 0, 0] ![1, 1, 96, 1280] inb_S1x13x96x1280_S1x1x96x1280_0_12_0_0).toLoadRect f = qAt last (arg9.view.read (Elt F) f) :=
    rfl
  obtain ⟨e3, e4, e5, e2, e6, e7, e8⟩ := loads arg2 harg2 arg3 harg3 arg4 harg4 arg5 harg5 arg6 harg6 arg7 harg7 arg8 harg8 x0 x1 x2 x3 x4 x5 x6
  have hL := loop_reads c i arg2 harg2 arg3 harg3 arg4 harg4 arg5 harg5 arg6 harg6 arg7 harg7 arg8 harg8 arg9 harg9 arg10 harg10 arg11 harg11 arg12 harg12 arg13 harg13 x0 x1 x2 x3 x4 x5 x6 (harg9.unread xo7)
    (arg12.view.writes (Elt F) arg12.view.junk [⟨Rect.unit (s := S96x640) ![0, 0] S96x640.size inb_S96x640_S96x640_0_0, k0_pay11 (F := F)⟩])
    (arg13.view.writes (Elt F) arg13.view.junk [⟨Rect.unit (s := S64x640) ![0, 0] S64x640.size inb_S64x640_S64x640_0_0, k0_pay12 (F := F)⟩])
    xo7 k0_pay11 k0_pay12 (harg9.read_unread xo7) (View.read_writes_full _ _ _ _ _) (View.read_writes_full _ _ _ _ _)
    (Scf.trips 0#32 (Scalar.addi 0#32 12#32) 1#32) rfl
  dsimp only at hL
  obtain ⟨h9, h12, h13⟩ := hL
  unfold out0_B_7
  rw [View.read_writes_eq_canon _ _ _ (cover0_B_7 c i arg2 harg2 arg3 harg3 arg4 harg4 arg5 harg5 arg6 harg6 arg7 harg7 arg8 harg8 arg9 harg9 arg10 harg10 arg11 harg11 arg12 harg12 arg13 harg13 hc0 x0 x1 x2 x3 x4 x5 x6 xo7), ← View.read_writes_eq_canon arg9.view (harg9.unread xo7) _ (cover0_B_7 c i arg2 harg2 arg3 harg3 arg4 harg4 arg5 harg5 arg6 harg6 arg7 harg7 arg8 harg8 arg9 harg9 arg10 harg10 arg11 harg11 arg12 harg12 arg13 harg13 hc0 x0 x1 x2 x3 x4 x5 x6 xo7)]
  unfold kernelRun0_B
  dsimp only
  sl_unfold_words
  refine (View.read_writes_cons_put (s := S1x13x96x1280) (off := ![0, 12, 0, 0]) (off' := ![0, 12, 0, 0]) (size := ![1, 1, 96, 1280]) _ _ _ _ _ rfl).trans ?_
  simp only [e2, e3, e4, e5, e6, e7, e8, View.readCov, View.writes_append, r9]
  rw [h9]
  exact last_dq ..

theorem outB_8 (hc0 : ¬ cond0_0 i) (xo7 : Vec F S1x13x96x1280 .f32) : out0_B_8 c i arg2 harg2 arg3 harg3 arg4 harg4 arg5 harg5 arg6 harg6 arg7 harg7 arg8 harg8 arg9 harg9 arg10 harg10 arg11 harg11 arg12 harg12 arg13 harg13 hc0 x0 x1 x2 x3 x4 x5 x6 xo7
    = k0_pay2 (loop x1 x2 x3 x0 x4 x5 x6 ⟨xo7, k0_pay11, k0_pay12⟩ 13).dk := by
  have r12 (f) : arg12.view.readAt (Elt F) (Rect.unit (s := S96x640) ![0, 0] ![96, 640] inb_S96x640_S96x640_0_0).toLoadRect f = arg12.view.read (Elt F) f :=
    View.readAt_full _ _ _
  have r13 (f) : arg13.view.readAt (Elt F) (Rect.unit (s := S64x640) ![0, 0] ![64, 640] inb_S64x640_S64x640_0_0).toLoadRect f = arg13.view.read (Elt F) f :=
    View.readAt_full _ _ _
  have w12 (f L w) : arg12.view.read (Elt F) (arg12.view.writes (Elt F) f (⟨Rect.unit (s := S96x640) ![0, 0] ![96, 640] inb_S96x640_S96x640_0_0, w⟩ :: L)) = w :=
    View.read_writes_full _ _ _ _ _
  have w13 (f L w) : arg13.view.read (Elt F) (arg13.view.writes (Elt F) f (⟨Rect.unit (s := S64x640) ![0, 0] ![64, 640] inb_S64x640_S64x640_0_0, w⟩ :: L)) = w :=
    View.read_writes_full _ _ _ _ _
  have r9 (f) : arg9.view.readAt (Elt F) (Rect.unit (s := S1x13x96x1280) ![0, 12, 0, 0] ![1, 1, 96, 1280] inb_S1x13x96x1280_S1x1x96x1280_0_12_0_0).toLoadRect f = qAt last (arg9.view.read (Elt F) f) :=
    rfl
  obtain ⟨e3, e4, e5, e2, e6, e7, e8⟩ := loads arg2 harg2 arg3 harg3 arg4 harg4 arg5 harg5 arg6 harg6 arg7 harg7 arg8 harg8 x0 x1 x2 x3 x4 x5 x6
  have hL := loop_reads c i arg2 harg2 arg3 harg3 arg4 harg4 arg5 harg5 arg6 harg6 arg7 harg7 arg8 harg8 arg9 harg9 arg10 harg10 arg11 harg11 arg12 harg12 arg13 harg13 x0 x1 x2 x3 x4 x5 x6 (harg9.unread xo7)
    (arg12.view.writes (Elt F) arg12.view.junk [⟨Rect.unit (s := S96x640) ![0, 0] S96x640.size inb_S96x640_S96x640_0_0, k0_pay11 (F := F)⟩])
    (arg13.view.writes (Elt F) arg13.view.junk [⟨Rect.unit (s := S64x640) ![0, 0] S64x640.size inb_S64x640_S64x640_0_0, k0_pay12 (F := F)⟩])
    xo7 k0_pay11 k0_pay12 (harg9.read_unread xo7) (View.read_writes_full _ _ _ _ _) (View.read_writes_full _ _ _ _ _)
    (Scf.trips 0#32 (Scalar.addi 0#32 12#32) 1#32) rfl
  dsimp only at hL
  obtain ⟨h9, h12, h13⟩ := hL
  unfold out0_B_8
  unfold kernelRun0_B
  dsimp only
  sl_unfold_words
  rw [View.read_writes_full]
  simp only [e2, e3, e4, e5, e6, e7, e8, r12, r13, w12, w13, View.readCov, View.writes_append]
  rw [h12, last_dk]

theorem outB_9 (hc0 : ¬ cond0_0 i) (xo7 : Vec F S1x13x96x1280 .f32) : out0_B_9 c i arg2 harg2 arg3 harg3 arg4 harg4 arg5 harg5 arg6 harg6 arg7 harg7 arg8 harg8 arg9 harg9 arg10 harg10 arg11 harg11 arg12 harg12 arg13 harg13 hc0 x0 x1 x2 x3 x4 x5 x6 xo7
    = k0_pay3 (loop x1 x2 x3 x0 x4 x5 x6 ⟨xo7, k0_pay11, k0_pay12⟩ 13).dv := by
  have r12 (f) : arg12.view.readAt (Elt F) (Rect.unit (s := S96x640) ![0, 0] ![96, 640] inb_S96x640_S96x640_0_0).toLoadRect f = arg12.view.read (Elt F) f :=
    View.readAt_full _ _ _
  have r13 (f) : arg13.view.readAt (Elt F) (Rect.unit (s := S64x640) ![0, 0] ![64, 640] inb_S64x640_S64x640_0_0).toLoadRect f = arg13.view.read (Elt F) f :=
    View.readAt_full _ _ _
  have w12 (f L w) : arg12.view.read (Elt F) (arg12.view.writes (Elt F) f (⟨Rect.unit (s := S96x640) ![0, 0] ![96, 640] inb_S96x640_S96x640_0_0, w⟩ :: L)) = w :=
    View.read_writes_full _ _ _ _ _
  have w13 (f L w) : arg13.view.read (Elt F) (arg13.view.writes (Elt F) f (⟨Rect.unit (s := S64x640) ![0, 0] ![64, 640] inb_S64x640_S64x640_0_0, w⟩ :: L)) = w :=
    View.read_writes_full _ _ _ _ _
  have r9 (f) : arg9.view.readAt (Elt F) (Rect.unit (s := S1x13x96x1280) ![0, 12, 0, 0] ![1, 1, 96, 1280] inb_S1x13x96x1280_S1x1x96x1280_0_12_0_0).toLoadRect f = qAt last (arg9.view.read (Elt F) f) :=
    rfl
  obtain ⟨e3, e4, e5, e2, e6, e7, e8⟩ := loads arg2 harg2 arg3 harg3 arg4 harg4 arg5 harg5 arg6 harg6 arg7 harg7 arg8 harg8 x0 x1 x2 x3 x4 x5 x6
  have hL := loop_reads c i arg2 harg2 arg3 harg3 arg4 harg4 arg5 harg5 arg6 harg6 arg7 harg7 arg8 harg8 arg9 harg9 arg10 harg10 arg11 harg11 arg12 harg12 arg13 harg13 x0 x1 x2 x3 x4 x5 x6 (harg9.unread xo7)
    (arg12.view.writes (Elt F) arg12.view.junk [⟨Rect.unit (s := S96x640) ![0, 0] S96x640.size inb_S96x640_S96x640_0_0, k0_pay11 (F := F)⟩])
    (arg13.view.writes (Elt F) arg13.view.junk [⟨Rect.unit (s := S64x640) ![0, 0] S64x640.size inb_S64x640_S64x640_0_0, k0_pay12 (F := F)⟩])
    xo7 k0_pay11 k0_pay12 (harg9.read_unread xo7) (View.read_writes_full _ _ _ _ _) (View.read_writes_full _ _ _ _ _)
    (Scf.trips 0#32 (Scalar.addi 0#32 12#32) 1#32) rfl
  dsimp only at hL
  obtain ⟨h9, h12, h13⟩ := hL
  unfold out0_B_9
  unfold kernelRun0_B
  dsimp only
  sl_unfold_words
  rw [View.read_writes_full]
  simp only [e2, e3, e4, e5, e6, e7, e8, r12, r13, w12, w13, View.readCov, View.writes_append]
  rw [h13, last_dv]

end Cert.AttnValue

end
-- ==== Proof.Attn.Loop.lean ====
module

public import proofs.«01_k».proof.Proof.Attn.Trip
public import Idealize.ShloMosaic.Lib.Pipeline.ValueKit

/-
  The attention gradient's chunks over the extended reals: what the three accumulating arrays hold after the first `n`
  chunks, element by element.
-/

@[expose] public section

set_option maxRecDepth 16384

noncomputable section

namespace Cert.AttnValue

open Idealize.ShloMosaic Idealize.ShloMosaic.TcCoe
open Cert.AttnIdeal Cert.AttnIdeal.Gen

variable (K : Vec Ideal S1x640x96 .bf16) (KT : Vec Ideal S1x96x640 .bf16) (V : Vec Ideal S1x640x64 .bf16)
  (Q : Vec Ideal S1x13x96x1280 .bf16) (DO : Vec Ideal S1x13x64x1280 .bf16) (L D : Vec Ideal S1x13x1x1280 .f32)

theorem qAt_apply (n : Fin 13) {e : EltTy} (X : Vec Ideal S1x13x96x1280 e) (a : Fin 1) (b : Fin 1) (d : Fin 96) (q : Fin 1280) :
    qAt n X (ix4 a b d q) = X (ix4 0 n d q) := by
  unfold qAt VecWindow.window
  refine congrArg X (funext fun x => Fin.ext ?_)
  fin_cases x <;> simp [Rect.emb_apply] <;> omega

theorem oAt_apply (n : Fin 13) {e : EltTy} (X : Vec Ideal S1x13x64x1280 e) (a : Fin 1) (b : Fin 1) (d : Fin 64) (q : Fin 1280) :
    oAt n X (ix4 a b d q) = X (ix4 0 n d q) := by
  unfold oAt VecWindow.window
  refine congrArg X (funext fun x => Fin.ext ?_)
  fin_cases x <;> simp [Rect.emb_apply] <;> omega

theorem lAt_apply (n : Fin 13) {e : EltTy} (X : Vec Ideal S1x13x1x1280 e) (a : Fin 1) (b : Fin 1) (d : Fin 1) (q : Fin 1280) :
    lAt n X (ix4 a b d q) = X (ix4 0 n 0 q) := by
  unfold lAt VecWindow.window
  refine congrArg X (funext fun x => Fin.ext ?_)
  fin_cases x <;> simp [Rect.emb_apply] <;> omega

/-- Replacing chunk `n` replaces the elements whose chunk is `n`. -/
theorem put_apply (n j : Fin 13) {e : EltTy} (X : Vec Ideal S1x13x96x1280 e) (w : Vec Ideal S1x1x96x1280 e) (d : Fin 96) (q : Fin 1280) :
    VecWindow.put X ![0, n.val, 0, 0] S1x1x96x1280.size w (ix4 0 j d q) = if j = n then w (ix4 0 0 d q) else X (ix4 0 j d q) := by
  unfold VecWindow.put
  by_cases h : j = n
  · subst h
    rw [if_pos rfl, dif_pos (by intro a; have := d.isLt; have := q.isLt; fin_cases a <;> simp <;> omega)]
    refine congrArg w (funext fun x => Fin.ext ?_)
    fin_cases x <;> simp [Rect.unitLocal]
  · rw [if_neg h, dif_neg]
    intro hh
    have := hh 1
    simp at this
    exact h (Fin.ext (by omega))

/-- The kernel's probability of key `κ` for query `q` of chunk `n`, from the scores and the query's log-sum. -/
def pT (n : Fin 13) (κ : Fin 640) (q : Fin 1280) : EReal :=
  Ideal.exp2 ((∑ e : Fin 96, K (ix3 0 κ e) * Q (ix4 0 n e q)) - L (ix4 0 n 0 q))

/-- The gradient of that score. -/
def dsT (n : Fin 13) (κ : Fin 640) (q : Fin 1280) : EReal :=
  pT K Q L n κ q * ((∑ d : Fin 64, V (ix3 0 κ d) * DO (ix4 0 n d q)) - D (ix4 0 n 0 q))

theorem dst_apply (n : Fin 13) (κ : Fin 640) (q : Fin 1280) : dst K V Q DO L D n (ix2 κ q) = dsT K V Q DO L D n κ q := by
  unfold dst dsT pT
  pointwise [k0_pay8, k0_pay6, k0_pay5, k0_pay4, k0_pay13, k0_pay15]
  simp only [qAt_apply, oAt_apply, lAt_apply]
  rfl

theorem step_dv (n : Fin 13) (a : Acc Ideal) (d : Fin 64) (κ : Fin 640) :
    (step K KT V Q DO L D n a).dv (ix2 d κ) = a.dv (ix2 d κ) + ∑ q : Fin 1280, DO (ix4 0 n d q) * pT K Q L n κ q := by
  unfold step pT
  pointwise [k0_pay7, k0_pay6, k0_pay5, k0_pay4, k0_pay13]
  simp only [qAt_apply, oAt_apply, lAt_apply]
  rfl

theorem step_dk (n : Fin 13) (a : Acc Ideal) (e : Fin 96) (κ : Fin 640) :
    (step K KT V Q DO L D n a).dk (ix2 e κ) = a.dk (ix2 e κ) + ∑ q : Fin 1280, Q (ix4 0 n e q) * dsT K V Q DO L D n κ q := by
  have h : (step K KT V Q DO L D n a).dk = addf a.dk (matmul dot_S96x1280_S640x1280_S96x640_1_1_0_0_n_n none (k0_pay4 (qAt n Q)) (dst K V Q DO L D n) (constant S96x640 .f32 0x00000000#32)) := by
    unfold step k0_pay9 dst
    simp only [shapeCast_self]
  rw [h]
  pointwise [k0_pay4, dst_apply]
  simp only [qAt_apply]

theorem step_dq (n j : Fin 13) (a : Acc Ideal) (e : Fin 96) (q : Fin 1280) :
    (step K KT V Q DO L D n a).dq (ix4 0 j e q) = if j = n then a.dq (ix4 0 j e q) + ∑ κ : Fin 640, KT (ix3 0 e κ) * dsT K V Q DO L D n κ q else a.dq (ix4 0 j e q) := by
  unfold step
  dsimp only
  rw [put_apply]
  by_cases h : j = n
  · subst h
    simp only [if_true]
    pointwise [k0_pay16, k0_pay14, dst_apply]
    simp only [qAt_apply]
  · simp only [if_neg h]

/-- The chunks before `n + 1` are chunk `n` and those before it. -/
theorem filter_succ (n : ℕ) (h : n < 13) : Finset.univ.filter (fun j : Fin 13 => j.val < n + 1) = insert ⟨n, h⟩ (Finset.univ.filter (fun j : Fin 13 => j.val < n)) := by
  ext j
  simp [Fin.ext_iff]
  omega

/-- After `n` chunks. -/
theorem loop_dv (a : Acc Ideal) (d : Fin 64) (κ : Fin 640) : ∀ n ≤ 13,
    (loop K KT V Q DO L D a n).dv (ix2 d κ) = a.dv (ix2 d κ) + ∑ j ∈ Finset.univ.filter (fun j : Fin 13 => j.val < n), ∑ q : Fin 1280, DO (ix4 0 j d q) * pT K Q L j κ q := by
  intro n
  induction n with
  | zero => intro _; simp [loop]
  | succ n ih =>
    intro h
    rw [loop, dif_pos (Nat.lt_of_succ_le h), step_dv, ih (by omega), filter_succ n (Nat.lt_of_succ_le h), Finset.sum_insert (by simp), add_assoc, add_comm (Finset.sum _ _)]

theorem loop_dk (a : Acc Ideal) (e : Fin 96) (κ : Fin 640) : ∀ n ≤ 13,
    (loop K KT V Q DO L D a n).dk (ix2 e κ) = a.dk (ix2 e κ) + ∑ j ∈ Finset.univ.filter (fun j : Fin 13 => j.val < n), ∑ q : Fin 1280, Q (ix4 0 j e q) * dsT K V Q DO L D j κ q := by
  intro n
  induction n with
  | zero => intro _; simp [loop]
  | succ n ih =>
    intro h
    rw [loop, dif_pos (Nat.lt_of_succ_le h), step_dk, ih (by omega), filter_succ n (Nat.lt_of_succ_le h), Finset.sum_insert (by simp), add_assoc, add_comm (Finset.sum _ _)]

theorem loop_dq (a : Acc Ideal) (j : Fin 13) (e : Fin 96) (q : Fin 1280) : ∀ n ≤ 13,
    (loop K KT V Q DO L D a n).dq (ix4 0 j e q) = if j.val < n then a.dq (ix4 0 j e q) + ∑ κ : Fin 640, KT (ix3 0 e κ) * dsT K V Q DO L D j κ q else a.dq (ix4 0 j e q) := by
  intro n
  induction n with
  | zero => intro _; simp [loop]
  | succ n ih =>
    intro h
    rw [loop, dif_pos (Nat.lt_of_succ_le h), step_dq, ih (by omega)]
    by_cases h1 : j.val < n
    · rw [if_neg (fun he => by rw [he] at h1; simp at h1), if_pos h1, if_pos (by omega)]
    · by_cases h2 : j.val = n
      · have : j = ⟨n, Nat.lt_of_succ_le h⟩ := Fin.ext h2
        rw [if_pos this, if_neg h1, if_pos (by omega), this]
      · rw [if_neg (fun he => h2 (by rw [he])), if_neg h1, if_neg (by omega)]

/-- After all chunks, from zeroed scratch and any block of the query gradient. -/
theorem all_dv (a : Vec Ideal S1x13x96x1280 .f32) (d : Fin 64) (κ : Fin 640) :
    (loop K KT V Q DO L D ⟨a, k0_pay11 (F := Ideal), k0_pay12 (F := Ideal)⟩ 13).dv (ix2 d κ) = ∑ j : Fin 13, ∑ q : Fin 1280, DO (ix4 0 j d q) * pT K Q L j κ q := by
  have hz : (⟨a, k0_pay11 (F := Ideal), k0_pay12 (F := Ideal)⟩ : Acc Ideal).dv (ix2 d κ) = 0 := by pointwise [k0_pay12]
  rw [loop_dv _ _ _ _ _ _ _ _ _ _ 13 le_rfl, Finset.filter_true_of_mem (fun j _ => j.isLt), hz, zero_add]

theorem all_dk (a : Vec Ideal S1x13x96x1280 .f32) (e : Fin 96) (κ : Fin 640) :
    (loop K KT V Q DO L D ⟨a, k0_pay11 (F := Ideal), k0_pay12 (F := Ideal)⟩ 13).dk (ix2 e κ) = ∑ j : Fin 13, ∑ q : Fin 1280, Q (ix4 0 j e q) * dsT K V Q DO L D j κ q := by
  have hz : (⟨a, k0_pay11 (F := Ideal), k0_pay12 (F := Ideal)⟩ : Acc Ideal).dk (ix2 e κ) = 0 := by pointwise [k0_pay11]
  rw [loop_dk _ _ _ _ _ _ _ _ _ _ 13 le_rfl, Finset.filter_true_of_mem (fun j _ => j.isLt), hz, zero_add]

theorem all_dq (a : Vec Ideal S1x13x96x1280 .f32) (j : Fin 13) (e : Fin 96) (q : Fin 1280) :
    (loop K KT V Q DO L D ⟨a, k0_pay11 (F := Ideal), k0_pay12 (F := Ideal)⟩ 13).dq (ix4 0 j e q)
      = a (ix4 0 j e q) + ∑ κ : Fin 640, KT (ix3 0 e κ) * dsT K V Q DO L D j κ q := by
  rw [loop_dq _ _ _ _ _ _ _ _ _ _ _ 13 le_rfl, if_pos j.isLt]

end Cert.AttnValue

end
-- ==== Proof.Attn.Region.lean ====
/-
  The attention gradient's region: what its three result arrays hold, in terms of its seven argument arrays.
-/
module

public import proofs.«01_k».proof.Proof.Attn.Block
public import proofs.«01_k».proof.Proof.Attn.Loop

@[expose] public section

set_option maxRecDepth 16384

noncomputable section

open Idealize.ShloMosaic Idealize.ShloMosaic.TcCoe Idealize.SL.Sem
open Idealize.ShloMosaic.Pipeline (Dat)

namespace Cert.AttnValue

open Cert.AttnIdeal Cert.AttnIdeal.Gen

section
variable (Q : Vec Ideal S8x13x96x1280 .bf16) (K : Vec Ideal S8x16640x96 .bf16) (KT : Vec Ideal S8x96x16640 .bf16)
  (W : Vec Ideal S8x16640x64 .bf16) (DO : Vec Ideal S8x13x64x1280 .bf16) (L D : Vec Ideal S8x13x1x1280 .f32)

/-- The probability of key `κ` for query `q` of chunk `j`, from the saved log-sum. -/
def prob (h : Fin 8) (κ : Fin 16640) (j : Fin 13) (q : Fin 1280) : EReal :=
  Ideal.exp2 ((∑ e : Fin 96, K (ix3 h κ e) * Q (ix4 h j e q)) - L (ix4 h j 0 q))

/-- The gradient of that score. -/
def dS (h : Fin 8) (κ : Fin 16640) (j : Fin 13) (q : Fin 1280) : EReal :=
  prob Q K L h κ j q * ((∑ d : Fin 64, W (ix3 h κ d) * DO (ix4 h j d q)) - D (ix4 h j 0 q))

/-- The values' gradient. -/
def dvArr : Vec Ideal S8x64x16640 .f32 := fun i => ∑ j : Fin 13, ∑ q : Fin 1280, DO (ix4 (i 0) j (i 1) q) * prob Q K L (i 0) (i 2) j q

/-- The keys' gradient. -/
def dkArr : Vec Ideal S8x96x16640 .f32 := fun i => ∑ j : Fin 13, ∑ q : Fin 1280, Q (ix4 (i 0) j (i 1) q) * dS Q K W DO L D (i 0) (i 2) j q

/-- The queries' gradient. -/
def dqArr : Vec Ideal S8x13x96x1280 .f32 := fun i => ∑ κ : Fin 16640, KT (ix3 (i 0) (i 2) κ) * dS Q K W DO L D (i 0) κ (i 1) (i 3)
end

variable (m : (ℓ : Loc nD τ sig) → Buf (Elt Ideal) ℓ) (c : Dev nD)

theorem idx : ∀ t : Fin cfg0.N, win0_0.index t = ![t.val / 26, 0, 0, 0] ∧ win0_1.index t = ![t.val / 26, t.val % 26, 0]
    ∧ win0_2.index t = ![t.val / 26, 0, t.val % 26] ∧ win0_3.index t = ![t.val / 26, t.val % 26, 0] ∧ win0_4.index t = ![t.val / 26, 0, 0, 0]
    ∧ win0_5.index t = ![t.val / 26, 0, 0, 0] ∧ win0_6.index t = ![t.val / 26, 0, 0, 0] ∧ win0_7.index t = ![t.val / 26, 0, 0, 0]
    ∧ win0_8.index t = ![t.val / 26, 0, t.val % 26] ∧ win0_9.index t = ![t.val / 26, 0, t.val % 26] :=
  (by decide +kernel : ∀ t : Fin grid0.N, _)

/-- The head of a grid point. -/
def hd (t : Fin cfg0.N) : Fin 8 := ⟨t.val / 26, by have h : t.val < 208 := lt_of_lt_of_eq t.isLt N_0; omega⟩

/-- The key at place `κ` of a grid point's tile. -/
def key (t : Fin cfg0.N) (κ : Fin 640) : Fin 16640 := ⟨t.val % 26 * 640 + κ.val, by omega⟩

/-! ## The operands' blocks, of any array -/

theorem rd0 (f : Vec Ideal S8x13x96x1280 .bf16) (t : Fin cfg0.N) (j : Fin 13) (e : Fin 96) (q : Fin 1280) :
    ((cfg0.win 0).blk t).view.read (Elt Ideal) f (ix4 0 j e q) = f (ix4 (hd t) j e q) := by
  blk_ext [idx t, hd, key]

theorem rd1 (f : Vec Ideal S8x16640x96 .bf16) (t : Fin cfg0.N) (κ : Fin 640) (e : Fin 96) :
    ((cfg0.win 1).blk t).view.read (Elt Ideal) f (ix3 0 κ e) = f (ix3 (hd t) (key t κ) e) := by
  blk_ext [idx t, hd, key]

theorem rd2 (f : Vec Ideal S8x96x16640 .bf16) (t : Fin cfg0.N) (κ : Fin 640) (e : Fin 96) :
    ((cfg0.win 2).blk t).view.read (Elt Ideal) f (ix3 0 e κ) = f (ix3 (hd t) e (key t κ)) := by
  blk_ext [idx t, hd, key]

theorem rd3 (f : Vec Ideal S8x16640x64 .bf16) (t : Fin cfg0.N) (κ : Fin 640) (d : Fin 64) :
    ((cfg0.win 3).blk t).view.read (Elt Ideal) f (ix3 0 κ d) = f (ix3 (hd t) (key t κ) d) := by
  blk_ext [idx t, hd, key]

theorem rd4 (f : Vec Ideal S8x13x64x1280 .bf16) (t : Fin cfg0.N) (j : Fin 13) (d : Fin 64) (q : Fin 1280) :
    ((cfg0.win 4).blk t).view.read (Elt Ideal) f (ix4 0 j d q) = f (ix4 (hd t) j d q) := by
  blk_ext [idx t, hd, key]

theorem rd5 (f : Vec Ideal S8x13x1x1280 .f32) (t : Fin cfg0.N) (j : Fin 13) (q : Fin 1280) :
    ((cfg0.win 5).blk t).view.read (Elt Ideal) f (ix4 0 j 0 q) = f (ix4 (hd t) j 0 q) := by
  blk_ext [idx t, hd, key]

theorem rd6 (f : Vec Ideal S8x13x1x1280 .f32) (t : Fin cfg0.N) (j : Fin 13) (q : Fin 1280) :
    ((cfg0.win 6).blk t).view.read (Elt Ideal) f (ix4 0 j 0 q) = f (ix4 (hd t) j 0 q) := by
  blk_ext [idx t, hd, key]

/-! ## The operands' blocks, of arrays that hold `x0`, …, `x6` -/

variable (x0 : Vec Ideal S8x13x96x1280 .bf16) (x1 : Vec Ideal S8x16640x96 .bf16) (x2 : Vec Ideal S8x96x16640 .bf16) (x3 : Vec Ideal S8x16640x64 .bf16) (x4 : Vec Ideal S8x13x64x1280 .bf16) (x5 : Vec Ideal S8x13x1x1280 .f32) (x6 : Vec Ideal S8x13x1x1280 .f32)
  (e0 : V m c main_v65 = x0) (e1 : V m c main_v66 = x1) (e2 : V m c main_v67 = x2) (e3 : V m c main_v68 = x3) (e4 : V m c main_v76 = x4) (e5 : V m c main_v79 = x5) (e6 : V m c main_v82 = x6) (t : Fin cfg0.N)

include e0 in
theorem blk0 (j : Fin 13) (e : Fin 96) (q : Fin 1280) : iblk m c 0 t (ix4 0 j e q) = x0 (ix4 (hd t) j e q) := by
  show ((cfg0.win 0).blk t).view.read (Elt Ideal) (V m c main_v65) _ = _
  rw [e0]
  exact rd0 x0 t j e q

include e1 in
theorem blk1 (κ : Fin 640) (e : Fin 96) : iblk m c 1 t (ix3 0 κ e) = x1 (ix3 (hd t) (key t κ) e) := by
  show ((cfg0.win 1).blk t).view.read (Elt Ideal) (V m c main_v66) _ = _
  rw [e1]
  exact rd1 x1 t κ e

include e2 in
theorem blk2 (κ : Fin 640) (e : Fin 96) : iblk m c 2 t (ix3 0 e κ) = x2 (ix3 (hd t) e (key t κ)) := by
  show ((cfg0.win 2).blk t).view.read (Elt Ideal) (V m c main_v67) _ = _
  rw [e2]
  exact rd2 x2 t κ e

include e3 in
theorem blk3 (κ : Fin 640) (d : Fin 64) : iblk m c 3 t (ix3 0 κ d) = x3 (ix3 (hd t) (key t κ) d) := by
  show ((cfg0.win 3).blk t).view.read (Elt Ideal) (V m c main_v68) _ = _
  rw [e3]
  exact rd3 x3 t κ d

include e4 in
theorem blk4 (j : Fin 13) (d : Fin 64) (q : Fin 1280) : iblk m c 4 t (ix4 0 j d q) = x4 (ix4 (hd t) j d q) := by
  show ((cfg0.win 4).blk t).view.read (Elt Ideal) (V m c main_v76) _ = _
  rw [e4]
  exact rd4 x4 t j d q

include e5 in
theorem blk5 (j : Fin 13) (q : Fin 1280) : iblk m c 5 t (ix4 0 j 0 q) = x5 (ix4 (hd t) j 0 q) := by
  show ((cfg0.win 5).blk t).view.read (Elt Ideal) (V m c main_v79) _ = _
  rw [e5]
  exact rd5 x5 t j q

include e6 in
theorem blk6 (j : Fin 13) (q : Fin 1280) : iblk m c 6 t (ix4 0 j 0 q) = x6 (ix4 (hd t) j 0 q) := by
  show ((cfg0.win 6).blk t).view.read (Elt Ideal) (V m c main_v82) _ = _
  rw [e6]
  exact rd6 x6 t j q

include e0 e1 e5 in
theorem pT_blk (j : Fin 13) (κ : Fin 640) (q : Fin 1280) : pT (iblk m c 1 t) (iblk m c 0 t) (iblk m c 5 t) j κ q = prob x0 x1 x5 (hd t) (key t κ) j q := by
  unfold pT prob
  simp only [blk0 m c x0 e0, blk1 m c x1 e1, blk5 m c x5 e5]

include e0 e1 e3 e4 e5 e6 in
theorem dsT_blk (j : Fin 13) (κ : Fin 640) (q : Fin 1280) :
    dsT (iblk m c 1 t) (iblk m c 3 t) (iblk m c 0 t) (iblk m c 4 t) (iblk m c 5 t) (iblk m c 6 t) j κ q = dS x0 x1 x3 x4 x5 x6 (hd t) (key t κ) j q := by
  unfold dsT dS
  rw [pT_blk m c x0 x1 x5 e0 e1 e5]
  simp only [blk3 m c x3 e3, blk4 m c x4 e4, blk6 m c x6 e6]

/-- A grid point's chunks over its blocks, from any block of the query gradient. -/
def pointLoop (a : Vec Ideal S1x13x96x1280 .f32) : Acc Ideal :=
  loop (iblk m c 1 t) (iblk m c 2 t) (iblk m c 3 t) (iblk m c 0 t) (iblk m c 4 t) (iblk m c 5 t) (iblk m c 6 t) ⟨a, k0_pay11 (F := Ideal), k0_pay12 (F := Ideal)⟩ 13

include e0 e1 e4 e5 in
theorem point_dv (a : Vec Ideal S1x13x96x1280 .f32) :
    k0_pay3 (pointLoop m c t a).dv = fun y => dvArr x0 x1 x4 x5 (ix3 (hd t) (y 1) (key t (y 2))) := by
  have h : ∀ (d : Fin 64) (κ : Fin 640), (pointLoop m c t a).dv (ix2 d κ) = dvArr x0 x1 x4 x5 (ix3 (hd t) d (key t κ)) := fun d κ => by
    refine (all_dv ..).trans ?_
    simp only [pT_blk m c x0 x1 x5 e0 e1 e5, blk4 m c x4 e4]
    rfl
  generalize (pointLoop m c t a).dv = f at h ⊢
  funext y
  idx_vars y
  pointwise [k0_pay3]
  rw [h]

include e0 e1 e3 e4 e5 e6 in
theorem point_dk (a : Vec Ideal S1x13x96x1280 .f32) :
    k0_pay2 (pointLoop m c t a).dk = fun y => dkArr x0 x1 x3 x4 x5 x6 (ix3 (hd t) (y 1) (key t (y 2))) := by
  have h : ∀ (e : Fin 96) (κ : Fin 640), (pointLoop m c t a).dk (ix2 e κ) = dkArr x0 x1 x3 x4 x5 x6 (ix3 (hd t) e (key t κ)) := fun d κ => by
    refine (all_dk ..).trans ?_
    simp only [dsT_blk m c x0 x1 x3 x4 x5 x6 e0 e1 e3 e4 e5 e6, blk0 m c x0 e0]
    rfl
  generalize (pointLoop m c t a).dk = f at h ⊢
  funext y
  idx_vars y
  pointwise [k0_pay2]
  rw [h]

/-- What a grid point adds to the queries' gradient's block. -/
def part (t : Fin cfg0.N) : Vec Ideal S1x13x96x1280 .f32 := fun y =>
  ∑ κ : Fin 640, x2 (ix3 (hd t) (y 2) (key t κ)) * dS x0 x1 x3 x4 x5 x6 (hd t) (key t κ) (y 1) (y 3)

include e0 e1 e2 e3 e4 e5 e6 in
theorem point_dq (a : Vec Ideal S1x13x96x1280 .f32) (y : S1x13x96x1280.Idx) : (pointLoop m c t a).dq y = a y + part x0 x1 x2 x3 x4 x5 x6 t y := by
  obtain ⟨y0, j, e, q, rfl⟩ : ∃ y0 y1 y2 y3, y = ix4 y0 y1 y2 y3 := ⟨y 0, y 1, y 2, y 3, eq_ix4 y⟩
  obtain rfl : y0 = (0 : Fin 1) := Subsingleton.elim _ _
  refine (all_dq ..).trans ?_
  simp only [dsT_blk m c x0 x1 x3 x4 x5 x6 e0 e1 e3 e4 e5 e6, blk2 m c x2 e2]
  rfl

/-- What the grid points leave, in terms of their chunks. -/
theorem outs_A (h0 : t.val % 26 = 0) : outsAt0 m c t.val t.isLt
    = ((pointLoop m c t (k0_pay10 (F := Ideal))).dq, k0_pay2 (pointLoop m c t (k0_pay10 (F := Ideal))).dk, k0_pay3 (pointLoop m c t (k0_pay10 (F := Ideal))).dv) := by
  rw [outsAt0_A m c t h0, outA_7, outA_8, outA_9]
  rfl

theorem outs_B (h0 : ¬ t.val % 26 = 0) : outsAt0 m c t.val t.isLt
    = ((pointLoop m c t (outsAt0 m c (t.val - 1) (Nat.lt_of_le_of_lt (Nat.sub_le _ _) t.isLt)).1).dq,
        k0_pay2 (pointLoop m c t (outsAt0 m c (t.val - 1) (Nat.lt_of_le_of_lt (Nat.sub_le _ _) t.isLt)).1).dk,
        k0_pay3 (pointLoop m c t (outsAt0 m c (t.val - 1) (Nat.lt_of_le_of_lt (Nat.sub_le _ _) t.isLt)).1).dv) := by
  rw [outsAt0_B m c t h0, outB_7, outB_8, outB_9]
  rfl

include e0 e1 e4 e5 in
theorem final9 : (dats m 0 c).arrAt 9 (cfgs 0).N = dvArr x0 x1 x4 x5 := by
  refine (dats m 0 c).arrAt_eq_of_covers 9 _ (by decide +kernel) fun t _ y => ?_
  blk_simp
  rw [after0_9]
  have h : (outsAt0 m c t.val t.isLt).2.2 = fun y => dvArr x0 x1 x4 x5 (ix3 (hd t) (y 1) (key t (y 2))) := by
    by_cases h0 : t.val % 26 = 0
    · rw [outs_A m c t h0]
      exact point_dv m c x0 x1 x4 x5 e0 e1 e4 e5 t _
    · rw [outs_B m c t h0]
      exact point_dv m c x0 x1 x4 x5 e0 e1 e4 e5 t _
  rw [h]
  generalize dvArr x0 x1 x4 x5 = G
  blk_ext [idx t, hd, key]

include e0 e1 e3 e4 e5 e6 in
theorem final8 : (dats m 0 c).arrAt 8 (cfgs 0).N = dkArr x0 x1 x3 x4 x5 x6 := by
  refine (dats m 0 c).arrAt_eq_of_covers 8 _ (by decide +kernel) fun t _ y => ?_
  blk_simp
  rw [after0_8]
  have h : (outsAt0 m c t.val t.isLt).2.1 = fun y => dkArr x0 x1 x3 x4 x5 x6 (ix3 (hd t) (y 1) (key t (y 2))) := by
    by_cases h0 : t.val % 26 = 0
    · rw [outs_A m c t h0]
      exact point_dk m c x0 x1 x3 x4 x5 x6 e0 e1 e3 e4 e5 e6 t _
    · rw [outs_B m c t h0]
      exact point_dk m c x0 x1 x3 x4 x5 x6 e0 e1 e3 e4 e5 e6 t _
  rw [h]
  generalize dkArr x0 x1 x3 x4 x5 x6 = G
  blk_ext [idx t, hd, key]

include e0 e1 e2 e3 e4 e5 e6 in
theorem final7 : (dats m 0 c).arrAt 7 (cfgs 0).N = dqArr x0 x1 x2 x3 x4 x5 x6 := by
  refine (dats m 0 c).arrAt_eq_of_covers 7 _ (by decide +kernel) fun t hf y => ?_
  blk_simp
  rw [after0_7, Pipeline.eq_sum_fin_of_reset_step_apply_of_flush (fun n h => (outsAt0 m c n h).1) 26 (fun _ => (0 : EReal)) (part x0 x1 x2 x3 x4 x5 x6)
    (fun t h j => by
      rw [outs_A m c t h]
      refine (point_dq m c x0 x1 x2 x3 x4 x5 x6 e0 e1 e2 e3 e4 e5 e6 t _ j).trans (congrArg (· + _) ?_)
      pointwise [k0_pay10])
    (fun t h j => by
      rw [outs_B m c t h]
      exact point_dq m c x0 x1 x2 x3 x4 x5 x6 e0 e1 e2 e3 e4 e5 e6 t _ j)
    t ((flush0_7 t).mp hf) y, zero_add]
  have i : ∀ G : Vec Ideal S8x13x96x1280 .f32, G (ix4 (hd t) (y 1) (y 2) (y 3)) = G ((win0_7.blk t).view.emb y) := fun G => by blk_ext [idx t, hd]
  refine Eq.trans ?_ (i (dqArr x0 x1 x2 x3 x4 x5 x6))
  unfold part dqArr
  refine Fin.sum_mul_add_congr fun s k hl => ?_
  have hs : s.val < 26 := s.isLt
  have eh : hd ⟨26 * (t.val / 26) + s.val, Pipeline.run_point_lt_of_flush t ((flush0_7 t).mp hf) s⟩ = hd t := Fin.ext (show (26 * (t.val / 26) + s.val) / 26 = t.val / 26 by omega)
  have ek : key ⟨26 * (t.val / 26) + s.val, Pipeline.run_point_lt_of_flush t ((flush0_7 t).mp hf) s⟩ k = ⟨s.val * 640 + k.val, hl⟩ :=
    Fin.ext (show (26 * (t.val / 26) + s.val) % 26 * 640 + k.val = s.val * 640 + k.val by omega)
  rw [eh, ek]
  rfl

end Cert.AttnValue
-- ==== Proof.Attn.Host.lean ====
/-
  The host lines before the attention gradient's region, one definition each, as functions of the program's arguments
  (`A0`, `A1`, `A2` the queries, keys and values, `A3` the output's cotangent).
-/
module

public import proofs.«01_k».proof.Proof.Attn.Region
public import proofs.«01_k».proof.Proof.RealLift

@[expose] public section

set_option maxRecDepth 16384

noncomputable section

open Idealize.ShloMosaic Idealize.ShloMosaic.TcCoe Idealize.SL.Sem

namespace Cert.AttnHost

open Cert.AttnIdeal Cert.AttnIdeal.Gen

def h_cst : FVec Ideal S_ .f32 :=
  (constant S_ .f32 0x40000000#32)

def h_v0 : FVec Ideal S_ .f32 :=
  Host.log (h_cst)

def h_cst_0 : FVec Ideal S_ .f32 :=
  (constant S_ .f32 0x42C00000#32)

def h_v1 : FVec Ideal S_ .f32 :=
  Host.sqrt (h_cst_0)

def h_v2 : FVec Ideal S_ .f32 :=
  mulf (h_v0) (h_v1)

def h_v3 : FVec Ideal S8x16400x96 .f32 :=
  broadcastInDim S8x16400x96 ![] bcast_S_S8x16400x96 (h_v2)

def h_v4 (A0 : FVec Ideal S8x16400x96 .f32) : FVec Ideal S8x16400x96 .f32 :=
  Host.divf A0 (h_v3)

def h_v5 (A0 : FVec Ideal S8x16400x96 .f32) : FVec Ideal S8x16400x96 .bf16 :=
  truncf .bf16 (h_v4 A0) bitsLt_bf16_f32

def h_c : IVec S_ 32 :=
  (constantI S_ 32 0#32)

def h_call0_v0 : FVec Ideal S_ .bf16 :=
  (sitofp .bf16) (h_c)

def h_v6 (A0 : FVec Ideal S8x16400x96 .f32) : FVec Ideal S8x16640x96 .bf16 :=
  pad S8x16640x96 ![0, 0, 0] ![0, 240, 0] ![0, 0, 0] (h_v5 A0) (h_call0_v0) pads_S8x16400x96_S8x16640x96_000_02400_000 h_S_

def h_v7 (A0 : FVec Ideal S8x16400x96 .f32) : FVec Ideal S8x16640x96 .f32 :=
  extf .f32 (h_v6 A0) bitsLt_bf16_f32

def h_v8 (A1 : FVec Ideal S8x16400x96 .f32) : FVec Ideal S8x16400x96 .bf16 :=
  truncf .bf16 A1 bitsLt_bf16_f32

def h_v9 (A1 : FVec Ideal S8x16400x96 .f32) : FVec Ideal S8x16400x96 .f32 :=
  extf .f32 (h_v8 A1) bitsLt_bf16_f32

def h_v10 (A0 : FVec Ideal S8x16400x96 .f32) (A1 : FVec Ideal S8x16400x96 .f32) : FVec Ideal S8x16640x16400 .f32 :=
  Host.dotGeneral dot_S8x16640x96_S8x16400x96_S8x16640x16400_2_2_1_1_0_0 none (h_v7 A0) (h_v9 A1)

def h_cst_1 : FVec Ideal S_ .f32 :=
  (constant S_ .f32 0xFF800000#32)

def h_v11 (A0 : FVec Ideal S8x16400x96 .f32) (A1 : FVec Ideal S8x16400x96 .f32) : FVec Ideal S8x16640 .f32 :=
  Host.reduce FloatOps.maximumf (h_v10 A0 A1) (h_cst_1) reducesTo_S8x16640x16400_S8x16640_d2 h_S_

def h_v12 (A0 : FVec Ideal S8x16400x96 .f32) (A1 : FVec Ideal S8x16400x96 .f32) : FVec Ideal S8x16640x1 .f32 :=
  broadcastInDim S8x16640x1 ![0, 1] bcast_S8x16640_S8x16640x1_0_1 (h_v11 A0 A1)

def h_v13 (A0 : FVec Ideal S8x16400x96 .f32) (A1 : FVec Ideal S8x16400x96 .f32) : FVec Ideal S8x16640x16400 .f32 :=
  broadcastInDim S8x16640x16400 ![0, 1, 2] bcast_S8x16640x1_S8x16640x16400_0_1_2 (h_v12 A0 A1)

def h_v14 (A0 : FVec Ideal S8x16400x96 .f32) (A1 : FVec Ideal S8x16400x96 .f32) : FVec Ideal S8x16640x16400 .f32 :=
  subf (h_v10 A0 A1) (h_v13 A0 A1)

def h_v15 : FVec Ideal S8x16640x16400 .f32 :=
  broadcastInDim S8x16640x16400 ![] bcast_S_S8x16640x16400 (h_v0)

def h_v16 (A0 : FVec Ideal S8x16400x96 .f32) (A1 : FVec Ideal S8x16400x96 .f32) : FVec Ideal S8x16640x16400 .f32 :=
  mulf (h_v14 A0 A1) (h_v15)

def h_v17 (A0 : FVec Ideal S8x16400x96 .f32) (A1 : FVec Ideal S8x16400x96 .f32) : FVec Ideal S8x16640x16400 .f32 :=
  Host.exp (h_v16 A0 A1)

def h_cst_2 : FVec Ideal S_ .f32 :=
  (constant S_ .f32 0x00000000#32)

def h_v18 (A0 : FVec Ideal S8x16400x96 .f32) (A1 : FVec Ideal S8x16400x96 .f32) : FVec Ideal S8x16640 .f32 :=
  Host.reduceAdd (h_v17 A0 A1) (h_cst_2) reducesTo_S8x16640x16400_S8x16640_d2 h_S_

def h_v19 (A0 : FVec Ideal S8x16400x96 .f32) (A1 : FVec Ideal S8x16400x96 .f32) : FVec Ideal S8x16640x1 .f32 :=
  broadcastInDim S8x16640x1 ![0, 1] bcast_S8x16640_S8x16640x1_0_1 (h_v18 A0 A1)

def h_v20 (A2 : FVec Ideal S8x16400x64 .f32) : FVec Ideal S8x16400x64 .bf16 :=
  truncf .bf16 A2 bitsLt_bf16_f32

def h_v21 (A2 : FVec Ideal S8x16400x64 .f32) : FVec Ideal S8x16400x64 .f32 :=
  extf .f32 (h_v20 A2) bitsLt_bf16_f32

def h_v22 (A0 : FVec Ideal S8x16400x96 .f32) (A1 : FVec Ideal S8x16400x96 .f32) (A2 : FVec Ideal S8x16400x64 .f32) : FVec Ideal S8x16640x64 .f32 :=
  Host.dotGeneral dot_S8x16640x16400_S8x16400x64_S8x16640x64_2_1_1_2_0_0 none (h_v17 A0 A1) (h_v21 A2)

def h_v23 (A0 : FVec Ideal S8x16400x96 .f32) (A1 : FVec Ideal S8x16400x96 .f32) : FVec Ideal S8x16640x64 .f32 :=
  broadcastInDim S8x16640x64 ![0, 1, 2] bcast_S8x16640x1_S8x16640x64_0_1_2 (h_v19 A0 A1)

def h_v24 (A0 : FVec Ideal S8x16400x96 .f32) (A1 : FVec Ideal S8x16400x96 .f32) (A2 : FVec Ideal S8x16400x64 .f32) : FVec Ideal S8x16640x64 .f32 :=
  Host.divf (h_v22 A0 A1 A2) (h_v23 A0 A1)

def h_v25 (A0 : FVec Ideal S8x16400x96 .f32) (A1 : FVec Ideal S8x16400x96 .f32) : FVec Ideal S8x16640x1 .f32 :=
  Host.log (h_v19 A0 A1)

def h_v26 : FVec Ideal S8x16640x1 .f32 :=
  broadcastInDim S8x16640x1 ![] bcast_S_S8x16640x1 (h_v0)

def h_v27 (A0 : FVec Ideal S8x16400x96 .f32) (A1 : FVec Ideal S8x16400x96 .f32) : FVec Ideal S8x16640x1 .f32 :=
  Host.divf (h_v25 A0 A1) (h_v26)

def h_v28 (A0 : FVec Ideal S8x16400x96 .f32) (A1 : FVec Ideal S8x16400x96 .f32) : FVec Ideal S8x16640x1 .f32 :=
  addf (h_v12 A0 A1) (h_v27 A0 A1)

def h_c_3 : IVec S_ 32 :=
  (constantI S_ 32 0#32)

def h_call1_v0 : FVec Ideal S_ .f32 :=
  (sitofp .f32) (h_c_3)

def h_v29 (A3 : FVec Ideal S16400x512 .f32) : FVec Ideal S16640x512 .f32 :=
  pad S16640x512 ![0, 0] ![240, 0] ![0, 0] A3 (h_call1_v0) pads_S16400x512_S16640x512_02400_000 h_S_

def h_v30 (A3 : FVec Ideal S16400x512 .f32) : FVec Ideal S16640x8x64 .f32 :=
  shapeCast S16640x8x64 (h_v29 A3) shapeCasts_S16640x512_S16640x8x64

def h_v31 (A3 : FVec Ideal S16400x512 .f32) : FVec Ideal S8x16640x64 .f32 :=
  transpose S8x16640x64 [1, 0, 2] (h_v30 A3) transposes_S16640x8x64_S8x16640x64_1_0_2

def h_v32 (A0 : FVec Ideal S8x16400x96 .f32) (A1 : FVec Ideal S8x16400x96 .f32) (A2 : FVec Ideal S8x16400x64 .f32) (A3 : FVec Ideal S16400x512 .f32) : FVec Ideal S8x16640x64 .f32 :=
  mulf (h_v31 A3) (h_v24 A0 A1 A2)

def h_cst_4 : FVec Ideal S_ .f32 :=
  (constant S_ .f32 0x00000000#32)

def h_v33 (A0 : FVec Ideal S8x16400x96 .f32) (A1 : FVec Ideal S8x16400x96 .f32) (A2 : FVec Ideal S8x16400x64 .f32) (A3 : FVec Ideal S16400x512 .f32) : FVec Ideal S8x16640 .f32 :=
  Host.reduceAdd (h_v32 A0 A1 A2 A3) (h_cst_4) reducesTo_S8x16640x64_S8x16640_d2 h_S_

def h_v34 (A0 : FVec Ideal S8x16400x96 .f32) : FVec Ideal S16400x8x96 .f32 :=
  transpose S16400x8x96 [1, 0, 2] A0 transposes_S8x16400x96_S16400x8x96_1_0_2

def h_v35 (A0 : FVec Ideal S8x16400x96 .f32) : FVec Ideal S16400x768 .f32 :=
  shapeCast S16400x768 (h_v34 A0) shapeCasts_S16400x8x96_S16400x768

def h_cst_5 : FVec Ideal S_ .f32 :=
  (constant S_ .f32 0x00000000#32)

def h_v36 : FVec Ideal S240x768 .f32 :=
  broadcastInDim S240x768 ![] bcast_S_S240x768 (h_cst_5)

def h_v37 (A0 : FVec Ideal S8x16400x96 .f32) : FVec Ideal S16640x768 .f32 :=
  concatenate S16640x768 0 [⟨S16400x768, (h_v35 A0)⟩, ⟨S240x768, (h_v36)⟩] concatenates_S16400x768_S240x768_S16640x768_d0

def h_v38 (A0 : FVec Ideal S8x16400x96 .f32) : FVec Ideal S8x2080x768 .f32 :=
  shapeCast S8x2080x768 (h_v37 A0) shapeCasts_S16640x768_S8x2080x768

def h_v39 (A0 : FVec Ideal S8x16400x96 .f32) : FVec Ideal S2080x8x768 .f32 :=
  transpose S2080x8x768 [1, 0, 2] (h_v38 A0) transposes_S8x2080x768_S2080x8x768_1_0_2

def h_v40 (A0 : FVec Ideal S8x16400x96 .f32) : FVec Ideal S16640x768 .f32 :=
  shapeCast S16640x768 (h_v39 A0) shapeCasts_S2080x8x768_S16640x768

def h_v41 : FVec Ideal S_ .f32 :=
  mulf (h_v0) (h_v1)

def h_v42 : FVec Ideal S16640x768 .f32 :=
  broadcastInDim S16640x768 ![] bcast_S_S16640x768 (h_v41)

def h_v43 (A0 : FVec Ideal S8x16400x96 .f32) : FVec Ideal S16640x768 .f32 :=
  Host.divf (h_v40 A0) (h_v42)

def h_v44 (A0 : FVec Ideal S8x16400x96 .f32) : FVec Ideal S16640x768 .bf16 :=
  truncf .bf16 (h_v43 A0) bitsLt_bf16_f32

def h_v45 (A0 : FVec Ideal S8x16400x96 .f32) : FVec Ideal S16640x8x96 .bf16 :=
  shapeCast S16640x8x96 (h_v44 A0) shapeCasts_S16640x768_S16640x8x96

def h_v46 (A1 : FVec Ideal S8x16400x96 .f32) : FVec Ideal S16400x8x96 .f32 :=
  transpose S16400x8x96 [1, 0, 2] A1 transposes_S8x16400x96_S16400x8x96_1_0_2

def h_v47 (A1 : FVec Ideal S8x16400x96 .f32) : FVec Ideal S16400x768 .f32 :=
  shapeCast S16400x768 (h_v46 A1) shapeCasts_S16400x8x96_S16400x768

def h_cst_6 : FVec Ideal S_ .f32 :=
  (constant S_ .f32 0x00000000#32)

def h_v48 : FVec Ideal S240x768 .f32 :=
  broadcastInDim S240x768 ![] bcast_S_S240x768 (h_cst_6)

def h_v49 (A1 : FVec Ideal S8x16400x96 .f32) : FVec Ideal S16640x768 .f32 :=
  concatenate S16640x768 0 [⟨S16400x768, (h_v47 A1)⟩, ⟨S240x768, (h_v48)⟩] concatenates_S16400x768_S240x768_S16640x768_d0

def h_v50 (A1 : FVec Ideal S8x16400x96 .f32) : FVec Ideal S8x2080x768 .f32 :=
  shapeCast S8x2080x768 (h_v49 A1) shapeCasts_S16640x768_S8x2080x768

def h_v51 (A1 : FVec Ideal S8x16400x96 .f32) : FVec Ideal S2080x8x768 .f32 :=
  transpose S2080x8x768 [1, 0, 2] (h_v50 A1) transposes_S8x2080x768_S2080x8x768_1_0_2

def h_v52 (A1 : FVec Ideal S8x16400x96 .f32) : FVec Ideal S16640x768 .f32 :=
  shapeCast S16640x768 (h_v51 A1) shapeCasts_S2080x8x768_S16640x768

def h_v53 (A1 : FVec Ideal S8x16400x96 .f32) : FVec Ideal S16640x768 .bf16 :=
  truncf .bf16 (h_v52 A1) bitsLt_bf16_f32

def h_v54 (A1 : FVec Ideal S8x16400x96 .f32) : FVec Ideal S16640x8x96 .bf16 :=
  shapeCast S16640x8x96 (h_v53 A1) shapeCasts_S16640x768_S16640x8x96

def h_v55 (A2 : FVec Ideal S8x16400x64 .f32) : FVec Ideal S16400x8x64 .f32 :=
  transpose S16400x8x64 [1, 0, 2] A2 transposes_S8x16400x64_S16400x8x64_1_0_2

def h_v56 (A2 : FVec Ideal S8x16400x64 .f32) : FVec Ideal S16400x512 .f32 :=
  shapeCast S16400x512 (h_v55 A2) shapeCasts_S16400x8x64_S16400x512

def h_cst_7 : FVec Ideal S_ .f32 :=
  (constant S_ .f32 0x00000000#32)

def h_v57 : FVec Ideal S240x512 .f32 :=
  broadcastInDim S240x512 ![] bcast_S_S240x512 (h_cst_7)

def h_v58 (A2 : FVec Ideal S8x16400x64 .f32) : FVec Ideal S16640x512 .f32 :=
  concatenate S16640x512 0 [⟨S16400x512, (h_v56 A2)⟩, ⟨S240x512, (h_v57)⟩] concatenates_S16400x512_S240x512_S16640x512_d0

def h_v59 (A2 : FVec Ideal S8x16400x64 .f32) : FVec Ideal S8x2080x512 .f32 :=
  shapeCast S8x2080x512 (h_v58 A2) shapeCasts_S16640x512_S8x2080x512

def h_v60 (A2 : FVec Ideal S8x16400x64 .f32) : FVec Ideal S2080x8x512 .f32 :=
  transpose S2080x8x512 [1, 0, 2] (h_v59 A2) transposes_S8x2080x512_S2080x8x512_1_0_2

def h_v61 (A2 : FVec Ideal S8x16400x64 .f32) : FVec Ideal S16640x512 .f32 :=
  shapeCast S16640x512 (h_v60 A2) shapeCasts_S2080x8x512_S16640x512

def h_v62 (A2 : FVec Ideal S8x16400x64 .f32) : FVec Ideal S16640x512 .bf16 :=
  truncf .bf16 (h_v61 A2) bitsLt_bf16_f32

def h_v63 (A2 : FVec Ideal S8x16400x64 .f32) : FVec Ideal S16640x8x64 .bf16 :=
  shapeCast S16640x8x64 (h_v62 A2) shapeCasts_S16640x512_S16640x8x64

def h_v64 (A0 : FVec Ideal S8x16400x96 .f32) : FVec Ideal S13x1280x8x96 .bf16 :=
  shapeCast S13x1280x8x96 (h_v45 A0) shapeCasts_S16640x8x96_S13x1280x8x96

def h_v65 (A0 : FVec Ideal S8x16400x96 .f32) : FVec Ideal S8x13x96x1280 .bf16 :=
  transpose S8x13x96x1280 [2, 0, 3, 1] (h_v64 A0) transposes_S13x1280x8x96_S8x13x96x1280_2_0_3_1

def h_v66 (A1 : FVec Ideal S8x16400x96 .f32) : FVec Ideal S8x16640x96 .bf16 :=
  transpose S8x16640x96 [1, 0, 2] (h_v54 A1) transposes_S16640x8x96_S8x16640x96_1_0_2

def h_v67 (A1 : FVec Ideal S8x16400x96 .f32) : FVec Ideal S8x96x16640 .bf16 :=
  transpose S8x96x16640 [1, 2, 0] (h_v54 A1) transposes_S16640x8x96_S8x96x16640_1_2_0

def h_v68 (A2 : FVec Ideal S8x16400x64 .f32) : FVec Ideal S8x16640x64 .bf16 :=
  transpose S8x16640x64 [1, 0, 2] (h_v63 A2) transposes_S16640x8x64_S8x16640x64_1_0_2

def h_cst_8 : FVec Ideal S_ .f32 :=
  (constant S_ .f32 0x00000000#32)

def h_v69 : FVec Ideal S240x512 .f32 :=
  broadcastInDim S240x512 ![] bcast_S_S240x512 (h_cst_8)

def h_v70 (A3 : FVec Ideal S16400x512 .f32) : FVec Ideal S16640x512 .f32 :=
  concatenate S16640x512 0 [⟨S16400x512, A3⟩, ⟨S240x512, (h_v69)⟩] concatenates_S16400x512_S240x512_S16640x512_d0

def h_v71 (A3 : FVec Ideal S16400x512 .f32) : FVec Ideal S8x2080x512 .f32 :=
  shapeCast S8x2080x512 (h_v70 A3) shapeCasts_S16640x512_S8x2080x512

def h_v72 (A3 : FVec Ideal S16400x512 .f32) : FVec Ideal S2080x8x512 .f32 :=
  transpose S2080x8x512 [1, 0, 2] (h_v71 A3) transposes_S8x2080x512_S2080x8x512_1_0_2

def h_v73 (A3 : FVec Ideal S16400x512 .f32) : FVec Ideal S16640x512 .f32 :=
  shapeCast S16640x512 (h_v72 A3) shapeCasts_S2080x8x512_S16640x512

def h_v74 (A3 : FVec Ideal S16400x512 .f32) : FVec Ideal S16640x512 .bf16 :=
  truncf .bf16 (h_v73 A3) bitsLt_bf16_f32

def h_v75 (A3 : FVec Ideal S16400x512 .f32) : FVec Ideal S13x1280x8x64 .bf16 :=
  shapeCast S13x1280x8x64 (h_v74 A3) shapeCasts_S16640x512_S13x1280x8x64

def h_v76 (A3 : FVec Ideal S16400x512 .f32) : FVec Ideal S8x13x64x1280 .bf16 :=
  transpose S8x13x64x1280 [2, 0, 3, 1] (h_v75 A3) transposes_S13x1280x8x64_S8x13x64x1280_2_0_3_1

def h_v77 (A0 : FVec Ideal S8x16400x96 .f32) (A1 : FVec Ideal S8x16400x96 .f32) : FVec Ideal S8x8x2080 .f32 :=
  shapeCast S8x8x2080 (h_v28 A0 A1) shapeCasts_S8x16640x1_S8x8x2080

def h_v78 (A0 : FVec Ideal S8x16400x96 .f32) (A1 : FVec Ideal S8x16400x96 .f32) : FVec Ideal S8x2080x8 .f32 :=
  transpose S8x2080x8 [0, 2, 1] (h_v77 A0 A1) transposes_S8x8x2080_S8x2080x8_0_2_1

def h_v79 (A0 : FVec Ideal S8x16400x96 .f32) (A1 : FVec Ideal S8x16400x96 .f32) : FVec Ideal S8x13x1x1280 .f32 :=
  shapeCast S8x13x1x1280 (h_v78 A0 A1) shapeCasts_S8x2080x8_S8x13x1x1280

def h_v80 (A0 : FVec Ideal S8x16400x96 .f32) (A1 : FVec Ideal S8x16400x96 .f32) (A2 : FVec Ideal S8x16400x64 .f32) (A3 : FVec Ideal S16400x512 .f32) : FVec Ideal S8x8x2080 .f32 :=
  shapeCast S8x8x2080 (h_v33 A0 A1 A2 A3) shapeCasts_S8x16640_S8x8x2080

def h_v81 (A0 : FVec Ideal S8x16400x96 .f32) (A1 : FVec Ideal S8x16400x96 .f32) (A2 : FVec Ideal S8x16400x64 .f32) (A3 : FVec Ideal S16400x512 .f32) : FVec Ideal S8x2080x8 .f32 :=
  transpose S8x2080x8 [0, 2, 1] (h_v80 A0 A1 A2 A3) transposes_S8x8x2080_S8x2080x8_0_2_1

def h_v82 (A0 : FVec Ideal S8x16400x96 .f32) (A1 : FVec Ideal S8x16400x96 .f32) (A2 : FVec Ideal S8x16400x64 .f32) (A3 : FVec Ideal S16400x512 .f32) : FVec Ideal S8x13x1x1280 .f32 :=
  shapeCast S8x13x1x1280 (h_v81 A0 A1 A2 A3) shapeCasts_S8x2080x8_S8x13x1x1280

end Cert.AttnHost
-- ==== Proof.Rows.lean ====
/-
  The step's own order of the tokens: row `r` of an array of 16640 rows is position `r % 8 * 2080 + r / 8`, of which the
  first 16400 are tokens and the rest padding.  What the host lines that go to that order and back read, at any width, and
  the sums over rows that are sums over tokens.
-/
module

public import Idealize.ShloMosaic.Lib.Pipeline.ValueKit
public import Idealize.ShloMosaic.PureOps.Ideal.Laws

@[expose] public section

noncomputable section

open Idealize.ShloMosaic

namespace Cert.Rows

/-- The position a row holds. -/
def pos (r : Fin 16640) : Fin 16640 := ⟨r.val % 8 * 2080 + r.val / 8, by omega⟩
/-- The row that holds a position. -/
def row (p : Fin 16640) : Fin 16640 := ⟨p.val % 2080 * 8 + p.val / 2080, by omega⟩
/-- A token's position. -/
def tok (t : Fin 16400) : Fin 16640 := ⟨t.val, by omega⟩

theorem pos_row (p : Fin 16640) : pos (row p) = p := Fin.ext (by simp only [pos, row]; omega)
theorem row_pos (r : Fin 16640) : row (pos r) = r := Fin.ext (by simp only [pos, row]; omega)

/-- Rows and positions are the same set. -/
def rowEquiv : Fin 16640 ≃ Fin 16640 := ⟨pos, row, row_pos, pos_row⟩

/-- A sum over rows of a function of the position is the sum over positions. -/
theorem sum_rows {M : Type} [AddCommMonoid M] (f : Fin 16640 → M) : ∑ r, f (pos r) = ∑ p, f p := Equiv.sum_comp rowEquiv f

/-- A function of the tokens, zero at the padding. -/
def padded {M : Type} [Zero M] (f : Fin 16400 → M) (p : Fin 16640) : M := if h : p.val < 16400 then f ⟨p.val, h⟩ else 0

theorem padded_tok {M : Type} [Zero M] (f : Fin 16400 → M) (t : Fin 16400) : padded f (tok t) = f t := dif_pos t.isLt

/-- A sum over positions of something that is zero at the padding is the sum over tokens. -/
theorem sum_tokens {M : Type} [AddCommMonoid M] (f : Fin 16640 → M) (h : ∀ p : Fin 16640, ¬ p.val < 16400 → f p = 0) :
    ∑ p, f p = ∑ t : Fin 16400, f (tok t) := by
  rw [show (∑ p, f p) = ∑ p : Fin (16400 + 240), f ⟨p.val, p.isLt⟩ from rfl, Fin.sum_univ_add]
  rw [Finset.sum_eq_zero (s := Finset.univ (α := Fin 240)) fun i _ => h _ (by simp), add_zero]
  rfl

section
variable {α : Type}

/-- Columns split into heads. -/
theorem split (n H w W : ℕ) (hW : H * w = W) (X : (⟨2, ![n, W]⟩ : Shape).Idx → α) (hc : (⟨2, ![n, W]⟩ : Shape).ShapeCasts ⟨3, ![n, H, w]⟩)
    (r : Fin n) (h : Fin H) (e : Fin w) :
    shapeCast ⟨3, ![n, H, w]⟩ X hc (ix3 r h e) = X (ix2 r ⟨h.val * w + e.val, by
      subst hW; calc h.val * w + e.val < h.val * w + w := by omega
        _ = (h.val + 1) * w := by ring
        _ ≤ H * w := Nat.mul_le_mul_right _ h.isLt⟩) :=
  shapeCast_apply X _ _ _ (by
    rewrite [Shape.rowMajor_val_two, Shape.rowMajor_val_three]
    show r.val * W + (h.val * w + e.val) = (r.val * H + h.val) * w + e.val
    subst hW; ring)

/-- Heads merged into columns. -/
theorem merge (n H w W : ℕ) (hW : H * w = W) (X : (⟨3, ![n, H, w]⟩ : Shape).Idx → α) (hc : (⟨3, ![n, H, w]⟩ : Shape).ShapeCasts ⟨2, ![n, W]⟩)
    (r : Fin n) (h : Fin H) (e : Fin w) (c : Fin W) (hcol : c.val = h.val * w + e.val) :
    shapeCast ⟨2, ![n, W]⟩ X hc (ix2 r c) = X (ix3 r h e) :=
  shapeCast_apply X _ _ _ (by
    rewrite [Shape.rowMajor_val_two, Shape.rowMajor_val_three]
    show (r.val * H + h.val) * w + e.val = r.val * W + c.val
    rw [hcol]; subst hW; ring)

variable (w : ℕ)

/-- Rows in the step's order read positions. -/
theorem to_rows (X : (⟨2, ![16640, w]⟩ : Shape).Idx → α) (h1 : (⟨2, ![16640, w]⟩ : Shape).ShapeCasts ⟨3, ![8, 2080, w]⟩)
    (h2 : (⟨3, ![8, 2080, w]⟩ : Shape).Transposes [1, 0, 2] ⟨3, ![2080, 8, w]⟩)
    (h3 : (⟨3, ![2080, 8, w]⟩ : Shape).ShapeCasts ⟨2, ![16640, w]⟩) (r : Fin 16640) (e : Fin w) :
    shapeCast ⟨2, ![16640, w]⟩ (transpose ⟨3, ![2080, 8, w]⟩ [1, 0, 2] (shapeCast ⟨3, ![8, 2080, w]⟩ X h1) h2) h3 (ix2 r e)
      = X (ix2 (pos r) e) := by
  rw [shapeCast_apply _ h3 (ix2 r e) (ix3 (⟨r.val / 8, by omega⟩ : Fin 2080) (⟨r.val % 8, by omega⟩ : Fin 8) e) (by
    rewrite [Shape.rowMajor_val_two, Shape.rowMajor_val_three]
    show (r.val / 8 * 8 + r.val % 8) * w + e.val = r.val * w + e.val
    rw [Nat.div_add_mod'])]
  rw [transpose_apply [1, 0, 2] _ h2 _ (ix3 (⟨r.val % 8, by omega⟩ : Fin 8) (⟨r.val / 8, by omega⟩ : Fin 2080) e) (fun b => match b with
    | ⟨0, _⟩ => rfl | ⟨1, _⟩ => rfl | ⟨2, _⟩ => rfl)]
  exact shapeCast_apply X h1 _ _ (by rewrite [Shape.rowMajor_val_two, Shape.rowMajor_val_three]; rfl)

/-- Positions read the step's rows. -/
theorem to_tokens (X : (⟨2, ![16640, w]⟩ : Shape).Idx → α) (h1 : (⟨2, ![16640, w]⟩ : Shape).ShapeCasts ⟨3, ![2080, 8, w]⟩)
    (h2 : (⟨3, ![2080, 8, w]⟩ : Shape).Transposes [1, 0, 2] ⟨3, ![8, 2080, w]⟩)
    (h3 : (⟨3, ![8, 2080, w]⟩ : Shape).ShapeCasts ⟨2, ![16640, w]⟩) (p : Fin 16640) (e : Fin w) :
    shapeCast ⟨2, ![16640, w]⟩ (transpose ⟨3, ![8, 2080, w]⟩ [1, 0, 2] (shapeCast ⟨3, ![2080, 8, w]⟩ X h1) h2) h3 (ix2 p e)
      = X (ix2 (row p) e) := by
  rw [shapeCast_apply _ h3 (ix2 p e) (ix3 (⟨p.val / 2080, by omega⟩ : Fin 8) (⟨p.val % 2080, by omega⟩ : Fin 2080) e) (by
    rewrite [Shape.rowMajor_val_two, Shape.rowMajor_val_three]
    show (p.val / 2080 * 2080 + p.val % 2080) * w + e.val = p.val * w + e.val
    rw [Nat.div_add_mod'])]
  rw [transpose_apply [1, 0, 2] _ h2 _ (ix3 (⟨p.val % 2080, by omega⟩ : Fin 2080) (⟨p.val / 2080, by omega⟩ : Fin 8) e) (fun b => match b with
    | ⟨0, _⟩ => rfl | ⟨1, _⟩ => rfl | ⟨2, _⟩ => rfl)]
  exact shapeCast_apply X h1 _ _ (by rewrite [Shape.rowMajor_val_two, Shape.rowMajor_val_three]; rfl)

/-- The tokens of an array in the step's order. -/
theorem valid_tokens (X : (⟨2, ![16640, w]⟩ : Shape).Idx → α) (h1 : (⟨2, ![16640, w]⟩ : Shape).ShapeCasts ⟨3, ![2080, 8, w]⟩)
    (h2 : (⟨3, ![2080, 8, w]⟩ : Shape).Transposes [1, 0, 2] ⟨3, ![8, 2080, w]⟩)
    (h3 : (⟨3, ![8, 2080, w]⟩ : Shape).ShapeCasts ⟨2, ![16640, w]⟩)
    (h4 : (⟨2, ![16640, w]⟩ : Shape).Slices ![0, 0] ⟨2, ![16400, w]⟩) (t : Fin 16400) (e : Fin w) :
    extractStridedSlice ⟨2, ![16400, w]⟩ ![0, 0] (shapeCast ⟨2, ![16640, w]⟩ (transpose ⟨3, ![8, 2080, w]⟩ [1, 0, 2]
      (shapeCast ⟨3, ![2080, 8, w]⟩ X h1) h2) h3) h4 (ix2 t e) = X (ix2 (row (tok t)) e) := by
  rw [← to_tokens w X h1 h2 h3]
  generalize shapeCast ⟨2, ![16640, w]⟩ (transpose ⟨3, ![8, 2080, w]⟩ [1, 0, 2] (shapeCast ⟨3, ![2080, 8, w]⟩ X h1) h2) h3 = Y
  unfold extractStridedSlice
  exact congrArg Y (funext fun a => Fin.ext (match a with
    | ⟨0, _⟩ => (Nat.zero_add _) | ⟨1, _⟩ => (Nat.zero_add _)))

/-- An array of tokens with zero rows after them, in the step's order. -/
theorem padded_rows {φ : FTy} (X : FVec Ideal ⟨2, ![16400, w]⟩ φ) (Z : FVec Ideal ⟨2, ![240, w]⟩ φ) (hZ : ∀ i, Z i = 0)
    (hc : Shape.Concatenates [⟨2, ![16400, w]⟩, ⟨2, ![240, w]⟩] ⟨2, ![16640, w]⟩ 0)
    (h1 : (⟨2, ![16640, w]⟩ : Shape).ShapeCasts ⟨3, ![8, 2080, w]⟩)
    (h2 : (⟨3, ![8, 2080, w]⟩ : Shape).Transposes [1, 0, 2] ⟨3, ![2080, 8, w]⟩)
    (h3 : (⟨3, ![2080, 8, w]⟩ : Shape).ShapeCasts ⟨2, ![16640, w]⟩) (r : Fin 16640) (e : Fin w) :
    shapeCast ⟨2, ![16640, w]⟩ (transpose ⟨3, ![2080, 8, w]⟩ [1, 0, 2] (shapeCast ⟨3, ![8, 2080, w]⟩
      (concatenate ⟨2, ![16640, w]⟩ 0 [⟨⟨2, ![16400, w]⟩, X⟩, ⟨⟨2, ![240, w]⟩, Z⟩] hc) h1) h2) h3 (ix2 r e)
      = padded (fun t => X (ix2 t e)) (pos r) := by
  rw [to_rows, concatenate_pair_apply]
  unfold padded
  refine dite_congr rfl (fun h => ?_) (fun h => ?_)
  · exact congrArg X (funext fun a => Fin.ext (match a with | ⟨0, _⟩ => rfl | ⟨1, _⟩ => rfl))
  · exact hZ _

/-- An array of tokens in the step's order, zero at the padding. -/
def rowsOf {φ : FTy} (X : FVec Ideal ⟨2, ![16400, w]⟩ φ) : FVec Ideal ⟨2, ![16640, w]⟩ φ := fun i => padded (fun t => X (ix2 t (i 1))) (pos (i 0))

/-- What the host lines that bring an array of tokens into the step's order leave. -/
theorem rowsOf_eq (X : FVec Ideal ⟨2, ![16400, w]⟩ .f32) (hb : (⟨0, ![]⟩ : Shape).BroadcastsInDim ⟨2, ![240, w]⟩ (![] : Fin 0 → Fin 2))
    (hc : Shape.Concatenates [⟨2, ![16400, w]⟩, ⟨2, ![240, w]⟩] ⟨2, ![16640, w]⟩ 0)
    (h1 : (⟨2, ![16640, w]⟩ : Shape).ShapeCasts ⟨3, ![8, 2080, w]⟩)
    (h2 : (⟨3, ![8, 2080, w]⟩ : Shape).Transposes [1, 0, 2] ⟨3, ![2080, 8, w]⟩)
    (h3 : (⟨3, ![2080, 8, w]⟩ : Shape).ShapeCasts ⟨2, ![16640, w]⟩) :
    shapeCast ⟨2, ![16640, w]⟩ (transpose ⟨3, ![2080, 8, w]⟩ [1, 0, 2] (shapeCast ⟨3, ![8, 2080, w]⟩
      (concatenate ⟨2, ![16640, w]⟩ 0 [⟨⟨2, ![16400, w]⟩, X⟩, ⟨⟨2, ![240, w]⟩, broadcastInDim ⟨2, ![240, w]⟩ ![] hb (constant (F := Ideal) ⟨0, ![]⟩ .f32 0x00000000#32)⟩] hc) h1) h2) h3
      = rowsOf w X := by
  funext i
  rw [eq_ix2 i]
  exact padded_rows w X _ (fun j => Ideal.ofBits_zero_f32) hc h1 h2 h3 _ _

/-- At a token's row such an array holds the token. -/
theorem rowsOf_tok {φ : FTy} (X : FVec Ideal ⟨2, ![16400, w]⟩ φ) (t : Fin 16400) (j : Fin w) : rowsOf w X (ix2 (row (tok t)) j) = X (ix2 t j) := by
  show padded (fun t => X (ix2 t j)) (pos (row (tok t))) = _
  rw [pos_row]; exact padded_tok _ t

/-- At the padding it is zero. -/
theorem rowsOf_pad {φ : FTy} (X : FVec Ideal ⟨2, ![16400, w]⟩ φ) (r : Fin 16640) (h : ¬ (pos r).val < 16400) (j : Fin w) : rowsOf w X (ix2 r j) = (0 : EReal) := by
  show padded (fun t => X (ix2 t j)) (pos r) = _
  exact dif_neg h

/-- What the host lines that bring an array back to the tokens leave. -/
def tokensOf {φ : FTy} (X : FVec Ideal ⟨2, ![16640, w]⟩ φ) : FVec Ideal ⟨2, ![16400, w]⟩ φ := fun i => X (ix2 (row (tok (i 0))) (i 1))

theorem tokensOf_eq (X : FVec Ideal ⟨2, ![16640, w]⟩ .f32) (h1 : (⟨2, ![16640, w]⟩ : Shape).ShapeCasts ⟨3, ![2080, 8, w]⟩)
    (h2 : (⟨3, ![2080, 8, w]⟩ : Shape).Transposes [1, 0, 2] ⟨3, ![8, 2080, w]⟩)
    (h3 : (⟨3, ![8, 2080, w]⟩ : Shape).ShapeCasts ⟨2, ![16640, w]⟩)
    (h4 : (⟨2, ![16640, w]⟩ : Shape).Slices ![0, 0] ⟨2, ![16400, w]⟩) :
    extractStridedSlice ⟨2, ![16400, w]⟩ ![0, 0] (shapeCast ⟨2, ![16640, w]⟩ (transpose ⟨3, ![8, 2080, w]⟩ [1, 0, 2]
      (shapeCast ⟨3, ![2080, 8, w]⟩ X h1) h2) h3) h4 = tokensOf w X := by
  funext i
  rw [eq_ix2 i]
  exact valid_tokens w X h1 h2 h3 h4 _ _
end

/-- A sum over rows that vanishes at the padding is the sum over tokens. -/
theorem sum_rows_tokens {M : Type} [AddCommMonoid M] (G : Fin 16640 → M) (h : ∀ r, ¬ (pos r).val < 16400 → G r = 0) :
    ∑ r, G r = ∑ t : Fin 16400, G (row (tok t)) := by
  rw [show (∑ r, G r) = ∑ r, (fun p => G (row p)) (pos r) from Finset.sum_congr rfl fun r _ => by show G r = G (row (pos r)); rw [row_pos]]
  rw [sum_rows (fun p => G (row p)), sum_tokens _ fun p hp => h _ (by rwa [pos_row])]

end Cert.Rows
-- ==== Proof.Attn.Saved.lean ====
/-
  What the attention gradient's host lines hold on real arguments: the scores, the softmax's probabilities, the output, the
  base-2 log-sum of every query and the row sum of its output with the cotangent; positions past the last token count as a
  zero query and a zero cotangent.
-/
module

public import proofs.«01_k».proof.Proof.Attn.Host
public import proofs.«01_k».proof.Proof.Rows

@[expose] public section

set_option maxRecDepth 16384

noncomputable section

open Idealize.ShloMosaic Idealize.ShloMosaic.TcCoe Idealize.SL.Sem

namespace Cert.AttnHost

open Cert.AttnIdeal Cert.AttnIdeal.Gen Cert.Rows Cert.RealLift

/-! ### The real functions -/

section
variable (a0 a1 : S8x16400x96.Idx → ℝ) (a2 : S8x16400x64.Idx → ℝ) (a3 : S16400x512.Idx → ℝ)

/-- A query, zero past the last token. -/
def qp (h : Fin 8) (p : Fin 16640) (e : Fin 96) : ℝ := padded (fun t => a0 (ix3 h t e)) p
/-- A cotangent by head, zero past the last token. -/
def dp (h : Fin 8) (p : Fin 16640) (d : Fin 64) : ℝ := padded (fun t => a3 (ix2 t ⟨h.val * 64 + d.val, by omega⟩)) p
/-- A score. -/
def sc (h : Fin 8) (p : Fin 16640) (s : Fin 16400) : ℝ := (∑ e : Fin 96, qp a0 h p e * a1 (ix3 h s e)) / Real.sqrt 96
/-- The sum of a query's exponentials. -/
def den (h : Fin 8) (p : Fin 16640) : ℝ := ∑ s : Fin 16400, Real.exp (sc a0 a1 h p s)
/-- The softmax's probability. -/
def prb (h : Fin 8) (p : Fin 16640) (s : Fin 16400) : ℝ := Real.exp (sc a0 a1 h p s) / den a0 a1 h p
/-- The attention's output. -/
def outR (h : Fin 8) (p : Fin 16640) (d : Fin 64) : ℝ := ∑ s : Fin 16400, prb a0 a1 h p s * a2 (ix3 h s d)
/-- The base-2 log-sum. -/
def lse (h : Fin 8) (p : Fin 16640) : ℝ := Real.log (den a0 a1 h p) / Real.log 2
/-- The row sum of the output with its cotangent. -/
def dlt (h : Fin 8) (p : Fin 16640) : ℝ := ∑ d : Fin 64, dp a3 h p d * outR a0 a1 a2 h p d

theorem den_pos (h : Fin 8) (p : Fin 16640) : 0 < den a0 a1 h p :=
  Finset.sum_pos (fun s _ => Real.exp_pos _) ⟨⟨0, by omega⟩, Finset.mem_univ _⟩

theorem log2_pos : 0 < Real.log 2 := Real.log_pos (by norm_num)
theorem log2_ne : Real.log 2 ≠ 0 := log2_pos.ne'
theorem root_pos : 0 < Real.sqrt 96 := Real.sqrt_pos.2 (by norm_num)
theorem root_ne : Real.sqrt 96 ≠ 0 := root_pos.ne'

/-- The score in base 2, the scale divided into the query. -/
theorem score2 (h : Fin 8) (p : Fin 16640) (s : Fin 16400) :
    (∑ e : Fin 96, qp a0 h p e / (Real.log 2 * Real.sqrt 96) * a1 (ix3 h s e)) * Real.log 2 = sc a0 a1 h p s := by
  unfold sc
  rw [Finset.sum_mul, Finset.sum_div]
  refine Finset.sum_congr rfl fun e _ => ?_
  have := log2_ne; have := root_ne
  field_simp

theorem padded_div (f : Fin 16400 → ℝ) (c : ℝ) (p : Fin 16640) : padded (fun t => f t / c) p = padded f p / c := by
  unfold padded; split <;> simp
end

/-! ### The host lines on reals -/

theorem two_word : Ideal.ofBits FTy.f32 0x40000000#32 = ((2 : ℝ) : EReal) := by
  simp only [Ideal.ofBits, Ideal.ieee]; simp; rw [← EReal.coe_mul]; norm_num
theorem n96_word : Ideal.ofBits FTy.f32 0x42C00000#32 = ((96 : ℝ) : EReal) := by
  simp only [Ideal.ofBits, Ideal.ieee]; simp; rw [← EReal.coe_mul]; norm_num

theorem v0_apply (i : S_.Idx) : h_v0 i = ((Real.log 2 : ℝ) : EReal) := by
  show Ideal.log (Ideal.ofBits FTy.f32 0x40000000#32) = _
  rw [two_word, Ideal.log_coe, if_neg (by norm_num)]
theorem v1_apply (i : S_.Idx) : h_v1 i = ((Real.sqrt 96 : ℝ) : EReal) := by
  show Ideal.sqrt (Ideal.ofBits FTy.f32 0x42C00000#32) = _
  rw [n96_word, Ideal.sqrt_coe]
  first | rfl | rw [if_neg (by norm_num)]
theorem scale_apply : ∀ i, h_v2 i = ((Real.log 2 * Real.sqrt 96 : ℝ) : EReal) := fun i => by
  show h_v0 i * h_v1 i = _
  rw [v0_apply, v1_apply, EReal.coe_mul]
theorem scale_ne : Real.log 2 * Real.sqrt 96 ≠ 0 := mul_ne_zero log2_ne root_ne

variable (A0 A1 : FVec Ideal S8x16400x96 .f32) (A2 : FVec Ideal S8x16400x64 .f32) (A3 : FVec Ideal S16400x512 .f32)
  (a0 a1 : S8x16400x96.Idx → ℝ) (a2 : S8x16400x64.Idx → ℝ) (a3 : S16400x512.Idx → ℝ)

section
variable (h0 : ∀ i, A0 i = ((a0 i : ℝ) : EReal)) (h1 : ∀ i, A1 i = ((a1 i : ℝ) : EReal)) (h2 : ∀ i, A2 i = ((a2 i : ℝ) : EReal))
  (h3 : ∀ i, A3 i = ((a3 i : ℝ) : EReal))

theorem v10_apply (h p s) : h_v10 A0 A1 (ix3 h p s) = ∑ e : Fin 96, h_v7 A0 (ix3 h p e) * A1 (ix3 h s e) := by
  unfold h_v10 h_v9 h_v8; generalize h_v7 A0 = X; pointwise

theorem pad_zero : h_call0_v0 (Shape.Idx.first h_S_) = 0 := by
  show (((0#32 : BitVec 32).toInt : ℝ) : EReal) = 0
  simp

include h0 in
theorem v7_apply (h p e) : h_v7 A0 (ix3 h p e) = ((qp a0 h p e / (Real.log 2 * Real.sqrt 96) : ℝ) : EReal) := by
  unfold h_v7 h_v6 h_v5 h_v4 h_v3
  have hs := scale_apply
  generalize h_v2 = X at *
  pointwise
  unfold qp padded
  split
  · rw [h0, hs, div_real _ scale_ne]
  · rw [pad_zero, zero_div, EReal.coe_zero]

include h0 h1 in
theorem v10_real (h p s) : h_v10 A0 A1 (ix3 h p s)
    = ((∑ e : Fin 96, qp a0 h p e / (Real.log 2 * Real.sqrt 96) * a1 (ix3 h s e) : ℝ) : EReal) := by
  rw [v10_apply]
  simp only [v7_apply A0 a0 h0, h1, ← EReal.coe_mul, sum_real]

include h0 h1 in
theorem v11_real (h : Fin 8) (p : Fin 16640) : ∃ m : ℝ, h_v11 A0 A1 (ix2 h p) = (m : EReal) := by
  unfold h_v11
  refine reduce_max_real (h_v10 A0 A1) h_cst_1 reducesTo_S8x16640x16400_S8x16640_d2 (by decide) h_S_ _ neg_inf_word (by decide) fun i => ?_
  have hi : i = ix3 (i 0) (i 1) (i 2) := funext fun a => match a with | ⟨0, _⟩ => rfl | ⟨1, _⟩ => rfl | ⟨2, _⟩ => rfl
  rw [hi]
  exact ⟨_, v10_real A0 A1 a0 a1 h0 h1 _ _ _⟩

theorem v17_apply (h p s) : h_v17 A0 A1 (ix3 h p s) = Ideal.exp ((h_v10 A0 A1 (ix3 h p s) - h_v11 A0 A1 (ix2 h p)) * h_v0 ix0) := by
  unfold h_v17 h_v16 h_v15 h_v14 h_v13 h_v12
  generalize h_v10 A0 A1 = X; generalize h_v11 A0 A1 = Y; generalize h_v0 = Z; pointwise

include h0 h1 in
/-- An exponential, the row's maximum taken off. -/
theorem v17_real (h p) (m : ℝ) (hm : h_v11 A0 A1 (ix2 h p) = (m : EReal)) (s) :
    h_v17 A0 A1 (ix3 h p s) = ((Real.exp (sc a0 a1 h p s) * Real.exp (-(m * Real.log 2)) : ℝ) : EReal) := by
  rw [v17_apply, v10_real A0 A1 a0 a1 h0 h1, hm, v0_apply, ← EReal.coe_sub, ← EReal.coe_mul, Ideal.exp_coe, sub_mul, score2,
    sub_eq_add_neg, Real.exp_add]

theorem v22_apply (h p d) : h_v22 A0 A1 A2 (ix3 h p d) = ∑ s : Fin 16400, h_v17 A0 A1 (ix3 h p s) * A2 (ix3 h s d) := by
  unfold h_v22 h_v21 h_v20; generalize h_v17 A0 A1 = X; pointwise

theorem v24_apply (h p d) : h_v24 A0 A1 A2 (ix3 h p d) = Ideal.div (h_v22 A0 A1 A2 (ix3 h p d)) (∑ s : Fin 16400, h_v17 A0 A1 (ix3 h p s)) := by
  unfold h_v24 h_v23 h_v19 h_v18; generalize h_v22 A0 A1 A2 = X; generalize h_v17 A0 A1 = Y; pointwise [h_cst_2]

include h0 h1 h2 in
theorem v24_real (h p d) : h_v24 A0 A1 A2 (ix3 h p d) = ((outR a0 a1 a2 h p d : ℝ) : EReal) := by
  obtain ⟨m, hm⟩ := v11_real A0 A1 a0 a1 h0 h1 h p
  rw [v24_apply, v22_apply]
  simp only [v17_real A0 A1 a0 a1 h0 h1 h p m hm, h2, ← EReal.coe_mul, sum_real]
  have hd := (den_pos a0 a1 h p).ne'
  have hE := (Real.exp_pos (-(m * Real.log 2))).ne'
  rw [← Finset.sum_mul, show (∑ x : Fin 16400, Real.exp (sc a0 a1 h p x)) = den a0 a1 h p from rfl, div_real _ (mul_ne_zero hd hE)]
  refine congrArg _ ?_
  unfold outR prb
  rw [Finset.sum_div]
  refine Finset.sum_congr rfl fun s _ => ?_
  field_simp

theorem v12_apply (h p) (z : Fin 1) : h_v12 A0 A1 (ix3 h p z) = h_v11 A0 A1 (ix2 h p) := by
  unfold h_v12
  generalize h_v11 A0 A1 = X
  exact broadcastInDim_apply _ _ X _ _ fun a => match a with | ⟨0, _⟩ => rfl | ⟨1, _⟩ => rfl

theorem v19_apply (h p) (z : Fin 1) : h_v19 A0 A1 (ix3 h p z) = h_v18 A0 A1 (ix2 h p) := by
  unfold h_v19
  generalize h_v18 A0 A1 = X
  exact broadcastInDim_apply _ _ X _ _ fun a => match a with | ⟨0, _⟩ => rfl | ⟨1, _⟩ => rfl

theorem v18_apply (h p) : h_v18 A0 A1 (ix2 h p) = ∑ s : Fin 16400, h_v17 A0 A1 (ix3 h p s) := by
  unfold h_v18; generalize h_v17 A0 A1 = Y; pointwise [h_cst_2]

/-- A maximum, the logarithm of a sum and a divisor, read at one query. -/
theorem lse_read (X Y : FVec Ideal S8x16640x1 .f32) (Z : FVec Ideal S_ .f32) (i : S8x16640x1.Idx) (x y z : ℝ)
    (hx : X i = (x : EReal)) (hy : Y i = (y : EReal)) (hz : ∀ k, Z k = (z : EReal)) (y0 : 0 < y) (z0 : z ≠ 0) :
    addf X (Host.divf (Host.log Y) (broadcastInDim S8x16640x1 ![] bcast_S_S8x16640x1 Z)) i = ((x + Real.log y / z : ℝ) : EReal) := by
  have hb : broadcastInDim S8x16640x1 ![] bcast_S_S8x16640x1 Z i = (z : EReal) :=
    (broadcastInDim_apply _ _ Z _ ix0 fun a => a.elim0).trans (hz _)
  show X i + Ideal.div (Ideal.log (Y i)) (broadcastInDim S8x16640x1 ![] bcast_S_S8x16640x1 Z i) = _
  rw [hx, hy, hb, Ideal.log_coe, if_neg (not_le.2 y0), div_real _ z0, ← EReal.coe_add]

include h0 h1 in
theorem v28_real (h p) (z : Fin 1) : h_v28 A0 A1 (ix3 h p z) = ((lse a0 a1 h p : ℝ) : EReal) := by
  obtain ⟨m, hm⟩ := v11_real A0 A1 a0 a1 h0 h1 h p
  have hd := den_pos a0 a1 h p
  have hE := Real.exp_pos (-(m * Real.log 2))
  have hl : h_v19 A0 A1 (ix3 h p z) = ((den a0 a1 h p * Real.exp (-(m * Real.log 2)) : ℝ) : EReal) := by
    refine (v19_apply A0 A1 h p z).trans ((v18_apply A0 A1 h p).trans ?_)
    simp only [v17_real A0 A1 a0 a1 h0 h1 h p m hm, sum_real]
    rw [← Finset.sum_mul]
    rfl
  refine (lse_read (h_v12 A0 A1) (h_v19 A0 A1) h_v0 (ix3 h p z) m _ _ ((v12_apply A0 A1 h p z).trans hm) hl v0_apply
    (mul_pos hd hE) log2_ne).trans (congrArg _ ?_)
  unfold lse
  rw [Real.log_mul hd.ne' hE.ne', Real.log_exp]
  have := log2_ne
  field_simp
  ring

theorem v33_apply (h p) : h_v33 A0 A1 A2 A3 (ix2 h p) = ∑ d : Fin 64, h_v30 A3 (ix3 p h d) * h_v24 A0 A1 A2 (ix3 h p d) := by
  unfold h_v33 h_v32 h_v31; generalize h_v24 A0 A1 A2 = X; generalize h_v30 A3 = Y; pointwise [h_cst_4]

include h3 in
theorem v30_real (h p d) : h_v30 A3 (ix3 p h d) = ((dp a3 h p d : ℝ) : EReal) := by
  unfold h_v30
  rw [split 16640 8 64 512 rfl]
  unfold h_v29
  pointwise
  unfold dp padded
  by_cases hp : p.val < 16400
  · rw [dif_pos ⟨hp, by omega⟩, dif_pos hp, h3]
  · rw [dif_neg fun h => hp h.1, dif_neg hp, EReal.coe_zero]
    show (((0#32 : BitVec 32).toInt : ℝ) : EReal) = 0
    simp

include h0 h1 h2 h3 in
theorem v33_real (h p) : h_v33 A0 A1 A2 A3 (ix2 h p) = ((dlt a0 a1 a2 a3 h p : ℝ) : EReal) := by
  rw [v33_apply]
  simp only [v30_real A3 a3 h3, v24_real A0 A1 A2 a0 a1 a2 h0 h1 h2, ← EReal.coe_mul, sum_real]
  rfl
end

end Cert.AttnHost
-- ==== Proof.Attn.Arrays.lean ====
/-
  The seven arrays the attention gradient's region is given, on real arguments, at an index: rows in the step's order, the
  query scaled, the tokens past the last one zero.
-/
module

public import proofs.«01_k».proof.Proof.Attn.Saved

@[expose] public section

set_option maxRecDepth 16384

noncomputable section

open Idealize.ShloMosaic Idealize.ShloMosaic.TcCoe Idealize.SL.Sem

namespace Cert.AttnHost

open Cert.AttnIdeal Cert.AttnIdeal.Gen Cert.Rows Cert.RealLift

/-- The row a chunk's lane holds. -/
def rw1 (j : Fin 13) (q : Fin 1280) : Fin 16640 := ⟨j.val * 1280 + q.val, by omega⟩
/-- A head's column. -/
abbrev colOf (w : ℕ) (hw : 0 < w) (h : Fin 8) (e : Fin w) : Fin (8 * w) := ⟨h.val * w + e.val, by
  calc h.val * w + e.val < h.val * w + w := by omega
    _ = (h.val + 1) * w := by ring
    _ ≤ 8 * w := Nat.mul_le_mul_right _ h.isLt⟩

/-- A cast to a narrower float keeps the value. -/
theorem trunc_apply {s : Shape} (X : FVec Ideal s .f32) (h : FTy.bf16.bits < FTy.f32.bits) (i : s.Idx) (y : EReal) (e : X i = y) :
    truncf .bf16 X h i = y := e

theorem padded_real (f : Fin 16400 → ℝ) (g : Fin 16400 → EReal) (hfg : ∀ t, g t = ((f t : ℝ) : EReal)) (p : Fin 16640) :
    padded g p = ((padded f p : ℝ) : EReal) := by
  unfold padded; split
  · exact hfg _
  · exact EReal.coe_zero.symm

section
variable (w : ℕ) {α : Type}

/-- An array by head as rows of columns. -/
theorem heads_rows (X : (⟨3, ![8, 16400, w]⟩ : Shape).Idx → α) (h1 : (⟨3, ![8, 16400, w]⟩ : Shape).Transposes [1, 0, 2] ⟨3, ![16400, 8, w]⟩)
    (W : ℕ) (hW : 8 * w = W) (h2 : (⟨3, ![16400, 8, w]⟩ : Shape).ShapeCasts ⟨2, ![16400, W]⟩) (t : Fin 16400) (h : Fin 8) (e : Fin w)
    (c : Fin W) (hc : c.val = h.val * w + e.val) :
    shapeCast ⟨2, ![16400, W]⟩ (transpose ⟨3, ![16400, 8, w]⟩ [1, 0, 2] X h1) h2 (ix2 t c) = X (ix3 h t e) := by
  rw [merge 16400 8 w W hW _ h2 t h e c hc]
  exact transpose_apply [1, 0, 2] X h1 _ _ (fun b => match b with | ⟨0, _⟩ => rfl | ⟨1, _⟩ => rfl | ⟨2, _⟩ => rfl)

/-- Chunks of lanes of an array of rows. -/
theorem lanes (X : (⟨3, ![16640, 8, w]⟩ : Shape).Idx → α) (h1 : (⟨3, ![16640, 8, w]⟩ : Shape).ShapeCasts ⟨4, ![13, 1280, 8, w]⟩)
    (h2 : (⟨4, ![13, 1280, 8, w]⟩ : Shape).Transposes [2, 0, 3, 1] ⟨4, ![8, 13, w, 1280]⟩) (h : Fin 8) (j : Fin 13) (e : Fin w) (q : Fin 1280) :
    transpose ⟨4, ![8, 13, w, 1280]⟩ [2, 0, 3, 1] (shapeCast ⟨4, ![13, 1280, 8, w]⟩ X h1) h2 (ix4 h j e q) = X (ix3 (rw1 j q) h e) := by
  rw [transpose_apply [2, 0, 3, 1] _ h2 _ (ix4 j q h e) (fun b => match b with | ⟨0, _⟩ => rfl | ⟨1, _⟩ => rfl | ⟨2, _⟩ => rfl | ⟨3, _⟩ => rfl)]
  exact shapeCast_apply X h1 _ _ (by
    rewrite [Shape.rowMajor_val_three, Shape.rowMajor_val_four]
    rfl)
end

section
variable (X : FVec Ideal S8x16640 .f32)

theorem vec_rows {α : Type} (X : S8x8x2080.Idx → α) (h : Fin 8) (j : Fin 13) (q : Fin 1280) (z : Fin 1) :
    shapeCast S8x13x1x1280 (transpose S8x2080x8 [0, 2, 1] X transposes_S8x8x2080_S8x2080x8_0_2_1) shapeCasts_S8x2080x8_S8x13x1x1280
      (ix4 h j z q) = X (ix3 h ⟨(rw1 j q).val % 8, by omega⟩ ⟨(rw1 j q).val / 8, by have := (rw1 j q).isLt; omega⟩) := by
  rw [shapeCast_apply _ shapeCasts_S8x2080x8_S8x13x1x1280 _ (ix3 h (⟨(rw1 j q).val / 8, by have := (rw1 j q).isLt; omega⟩ : Fin 2080) (⟨(rw1 j q).val % 8, by omega⟩ : Fin 8)) (by
    rewrite [Shape.rowMajor_val_three, Shape.rowMajor_val_four]
    show (h.val * 2080 + (j.val * 1280 + q.val) / 8) * 8 + (j.val * 1280 + q.val) % 8 = ((h.val * 13 + j.val) * 1 + z.val) * 1280 + q.val
    omega)]
  exact transpose_apply [0, 2, 1] X transposes_S8x8x2080_S8x2080x8_0_2_1 _ _ (fun b => match b with | ⟨0, _⟩ => rfl | ⟨1, _⟩ => rfl | ⟨2, _⟩ => rfl)
end

variable (A0 A1 : FVec Ideal S8x16400x96 .f32) (A2 : FVec Ideal S8x16400x64 .f32) (A3 : FVec Ideal S16400x512 .f32)
  (a0 a1 : S8x16400x96.Idx → ℝ) (a2 : S8x16400x64.Idx → ℝ) (a3 : S16400x512.Idx → ℝ)
  (h0 : ∀ i, A0 i = ((a0 i : ℝ) : EReal)) (h1 : ∀ i, A1 i = ((a1 i : ℝ) : EReal)) (h2 : ∀ i, A2 i = ((a2 i : ℝ) : EReal))
  (h3 : ∀ i, A3 i = ((a3 i : ℝ) : EReal))

/-- A key, zero past the last token. -/
def kp (h : Fin 8) (p : Fin 16640) (e : Fin 96) : ℝ := padded (fun t => a1 (ix3 h t e)) p
/-- A value, zero past the last token. -/
def vp (h : Fin 8) (p : Fin 16640) (d : Fin 64) : ℝ := padded (fun t => a2 (ix3 h t d)) p

include h1 in
theorem v54_real (r : Fin 16640) (h : Fin 8) (e : Fin 96) : h_v54 A1 (ix3 r h e) = ((kp a1 h (pos r) e : ℝ) : EReal) := by
  have hz : ∀ i, h_v48 i = (0 : EReal) := fun i => Ideal.ofBits_zero_f32
  unfold h_v54
  rw [split 16640 8 96 768 rfl]
  unfold h_v53 h_v52 h_v51 h_v50 h_v49
  generalize h_v48 = Z at *
  refine trunc_apply _ _ _ _ ?_
  refine (padded_rows 768 (h_v47 A1) Z hz concatenates_S16400x768_S240x768_S16640x768_d0 _ _ _ r _).trans (padded_real _ _ (fun t => ?_) _)
  unfold h_v47 h_v46
  exact (heads_rows 96 A1 _ 768 rfl _ t h e _ rfl).trans (h1 _)

include h1 in
theorem x1_real (h : Fin 8) (κ : Fin 16640) (e : Fin 96) : h_v66 A1 (ix3 h κ e) = ((kp a1 h (pos κ) e : ℝ) : EReal) := by
  rw [← v54_real A1 a1 h1 κ h e]
  unfold h_v66
  exact transpose_apply [1, 0, 2] (h_v54 A1) _ _ _ (fun b => match b with | ⟨0, _⟩ => rfl | ⟨1, _⟩ => rfl | ⟨2, _⟩ => rfl)

include h1 in
theorem x2_real (h : Fin 8) (e : Fin 96) (κ : Fin 16640) : h_v67 A1 (ix3 h e κ) = ((kp a1 h (pos κ) e : ℝ) : EReal) := by
  rw [← v54_real A1 a1 h1 κ h e]
  unfold h_v67
  exact transpose_apply [1, 2, 0] (h_v54 A1) _ _ _ (fun b => match b with | ⟨0, _⟩ => rfl | ⟨1, _⟩ => rfl | ⟨2, _⟩ => rfl)

include h2 in
theorem v63_real (r : Fin 16640) (h : Fin 8) (d : Fin 64) : h_v63 A2 (ix3 r h d) = ((vp a2 h (pos r) d : ℝ) : EReal) := by
  have hz : ∀ i, h_v57 i = (0 : EReal) := fun i => Ideal.ofBits_zero_f32
  unfold h_v63
  rw [split 16640 8 64 512 rfl]
  unfold h_v62 h_v61 h_v60 h_v59 h_v58
  generalize h_v57 = Z at *
  refine trunc_apply _ _ _ _ ?_
  refine (padded_rows 512 (h_v56 A2) Z hz concatenates_S16400x512_S240x512_S16640x512_d0 _ _ _ r _).trans (padded_real _ _ (fun t => ?_) _)
  unfold h_v56 h_v55
  exact (heads_rows 64 A2 _ 512 rfl _ t h d _ rfl).trans (h2 _)

include h2 in
theorem x3_real (h : Fin 8) (κ : Fin 16640) (d : Fin 64) : h_v68 A2 (ix3 h κ d) = ((vp a2 h (pos κ) d : ℝ) : EReal) := by
  rw [← v63_real A2 a2 h2 κ h d]
  unfold h_v68
  exact transpose_apply [1, 0, 2] (h_v63 A2) _ _ _ (fun b => match b with | ⟨0, _⟩ => rfl | ⟨1, _⟩ => rfl | ⟨2, _⟩ => rfl)

include h0 in
theorem x0_real (h : Fin 8) (j : Fin 13) (e : Fin 96) (q : Fin 1280) :
    h_v65 A0 (ix4 h j e q) = ((qp a0 h (pos (rw1 j q)) e / (Real.log 2 * Real.sqrt 96) : ℝ) : EReal) := by
  have hz : ∀ i, h_v36 i = (0 : EReal) := fun i => Ideal.ofBits_zero_f32
  have hs : ∀ i, h_v42 i = ((Real.log 2 * Real.sqrt 96 : ℝ) : EReal) := fun i => by
    unfold h_v42
    exact (broadcastInDim_apply _ _ h_v41 _ ix0 fun a => a.elim0).trans (scale_apply _)
  unfold h_v65 h_v64
  refine (lanes 96 (h_v45 A0) _ _ h j e q).trans ?_
  unfold h_v45
  rw [split 16640 8 96 768 rfl]
  unfold h_v44
  refine trunc_apply _ _ _ _ ?_
  unfold h_v43
  have e : h_v40 A0 (ix2 (rw1 j q) ⟨h.val * 96 + e.val, by omega⟩) = ((qp a0 h (pos (rw1 j q)) e : ℝ) : EReal) := by
    unfold h_v40 h_v39 h_v38 h_v37
    generalize h_v36 = Z at *
    refine (padded_rows 768 (h_v35 A0) Z hz concatenates_S16400x768_S240x768_S16640x768_d0 _ _ _ _ _).trans (padded_real _ _ (fun t => ?_) _)
    unfold h_v35 h_v34
    exact (heads_rows 96 A0 _ 768 rfl _ t h e _ rfl).trans (h0 _)
  generalize h_v42 = S at *
  generalize h_v40 A0 = Y at *
  show Ideal.div (Y _) (S _) = _
  rw [hs, e, div_real _ scale_ne]

include h3 in
theorem x4_real (h : Fin 8) (j : Fin 13) (d : Fin 64) (q : Fin 1280) : h_v76 A3 (ix4 h j d q) = ((dp a3 h (pos (rw1 j q)) d : ℝ) : EReal) := by
  have hz : ∀ i, h_v69 i = (0 : EReal) := fun i => Ideal.ofBits_zero_f32
  unfold h_v76 h_v75
  generalize hX : h_v74 A3 = X
  rw [transpose_apply [2, 0, 3, 1] _ transposes_S13x1280x8x64_S8x13x64x1280_2_0_3_1 _ (ix4 j q h d) (fun b => match b with | ⟨0, _⟩ => rfl | ⟨1, _⟩ => rfl | ⟨2, _⟩ => rfl | ⟨3, _⟩ => rfl)]
  rw [shapeCast_apply X shapeCasts_S16640x512_S13x1280x8x64 _ (ix2 (rw1 j q) (⟨h.val * 64 + d.val, by omega⟩ : Fin 512)) (by
    rewrite [Shape.rowMajor_val_two, Shape.rowMajor_val_four]
    show (j.val * 1280 + q.val) * 512 + (h.val * 64 + d.val) = ((j.val * 1280 + q.val) * 8 + h.val) * 64 + d.val
    omega)]
  subst hX
  unfold h_v74 h_v73 h_v72 h_v71 h_v70
  generalize h_v69 = Z at *
  refine trunc_apply _ _ _ _ ?_
  exact (padded_rows 512 A3 Z hz concatenates_S16400x512_S240x512_S16640x512_d0 _ _ _ _ _).trans (padded_real _ _ (fun t => h3 _) _)

include h0 h1 in
theorem x5_real (h : Fin 8) (j : Fin 13) (q : Fin 1280) (z : Fin 1) : h_v79 A0 A1 (ix4 h j z q) = ((lse a0 a1 h (pos (rw1 j q)) : ℝ) : EReal) := by
  rw [← v28_real A0 A1 a0 a1 h0 h1 h (pos (rw1 j q)) 0]
  unfold h_v79 h_v78
  rw [vec_rows]
  unfold h_v77
  generalize h_v28 A0 A1 = X
  exact shapeCast_apply X _ _ _ (by
    rewrite [Shape.rowMajor_val_three, Shape.rowMajor_val_three]
    show (h.val * 16640 + ((rw1 j q).val % 8 * 2080 + (rw1 j q).val / 8)) * 1 + 0 = (h.val * 8 + (rw1 j q).val % 8) * 2080 + (rw1 j q).val / 8
    omega)

include h0 h1 h2 h3 in
theorem x6_real (h : Fin 8) (j : Fin 13) (q : Fin 1280) (z : Fin 1) :
    h_v82 A0 A1 A2 A3 (ix4 h j z q) = ((dlt a0 a1 a2 a3 h (pos (rw1 j q)) : ℝ) : EReal) := by
  rw [← v33_real A0 A1 A2 A3 a0 a1 a2 a3 h0 h1 h2 h3 h (pos (rw1 j q))]
  unfold h_v82 h_v81
  rw [vec_rows]
  unfold h_v80
  generalize h_v33 A0 A1 A2 A3 = X
  exact shapeCast_apply X _ _ _ (by
    rewrite [Shape.rowMajor_val_two, Shape.rowMajor_val_three]
    show h.val * 16640 + ((rw1 j q).val % 8 * 2080 + (rw1 j q).val / 8) = (h.val * 8 + (rw1 j q).val % 8) * 2080 + (rw1 j q).val / 8
    omega)

end Cert.AttnHost
-- ==== Proof.Attn.Reference.lean ====
/-
  What the attention reference's three gradients are on real arguments, in the softmax's probabilities.
-/
module

public import proofs.«01_k».proof.Proof.Attn.Arrays
public import proofs.«01_k».proof.Proof.Gen.AttnRefIdeal.Read

@[expose] public section

set_option maxRecDepth 16384

noncomputable section

open Idealize.ShloMosaic Idealize.ShloMosaic.TcCoe Idealize.SL.Sem

namespace Cert.AttnRef

open Cert.AttnRefIdeal Cert.AttnRefIdeal.Gen Cert.AttnRefIdeal.Read Cert.Rows Cert.RealLift Cert.AttnHost

variable (A0 A1 : FVec Ideal S8x16400x96 .f32) (A2 : FVec Ideal S8x16400x64 .f32) (A3 : FVec Ideal S16400x512 .f32)
  (a0 a1 : S8x16400x96.Idx → ℝ) (a2 : S8x16400x64.Idx → ℝ) (a3 : S16400x512.Idx → ℝ)

/-- The cotangent of a probability. -/
def gp (h : Fin 8) (p : Fin 16640) (s : Fin 16400) : ℝ := ∑ d : Fin 64, dp a3 h p d * a2 (ix3 h s d)

/-- The gradient of a score. -/
def ds (h : Fin 8) (p : Fin 16640) (s : Fin 16400) : ℝ := prb a0 a1 h p s * (gp a2 a3 h p s - dlt a0 a1 a2 a3 h p)

/-- The row sum of the output with its cotangent is the probabilities' sum with theirs. -/
theorem dlt_eq (h : Fin 8) (p : Fin 16640) : dlt a0 a1 a2 a3 h p = ∑ s, prb a0 a1 h p s * gp a2 a3 h p s := by
  unfold dlt outR gp
  simp only [Finset.mul_sum]
  rw [Finset.sum_comm]
  exact Finset.sum_congr rfl fun s _ => Finset.sum_congr rfl fun d _ => by ring

section
variable (h0 : ∀ i, A0 i = ((a0 i : ℝ) : EReal)) (h1 : ∀ i, A1 i = ((a1 i : ℝ) : EReal)) (h2 : ∀ i, A2 i = ((a2 i : ℝ) : EReal))
  (h3 : ∀ i, A3 i = ((a3 i : ℝ) : EReal))

theorem one_word : Ideal.ofBits FTy.f32 0x3F800000#32 = ((1 : ℝ) : EReal) := by
  simp only [Ideal.ofBits, Ideal.ieee]; simp; rw [← EReal.coe_mul]; norm_num

theorem v1_apply (i : S_.Idx) : val_main_v1 (F := Ideal) i = ((Real.sqrt 96 : ℝ) : EReal) := by
  show Ideal.sqrt (Ideal.ofBits FTy.f32 0x42C00000#32) = _
  rw [n96_word, Ideal.sqrt_coe]
  first | rfl | rw [if_neg (by norm_num)]

theorem v0_apply (h t s) : val_main_v0 (F := Ideal) A0 A1 (ix3 h t s) = ∑ e : Fin 96, A0 (ix3 h t e) * A1 (ix3 h s e) := by
  unfold val_main_v0; pointwise

theorem div_root (X : FVec Ideal S8x16400x16400 .f32) (i) (x : ℝ) (hx : X i = (x : EReal)) :
    Host.divf X (val_main_v2 (F := Ideal)) i = ((x / Real.sqrt 96 : ℝ) : EReal) := by
  have e := (val_main_v2_apply (F := Ideal) i).trans (v1_apply _)
  generalize val_main_v2 (F := Ideal) = Y at *
  show Ideal.div (X i) (Y i) = _
  rw [hx, e, div_real _ root_ne]

include h0 h1 in
theorem v3_real (h t s) : val_main_v3 (F := Ideal) A0 A1 (ix3 h t s) = ((sc a0 a1 h (tok t) s : ℝ) : EReal) := by
  unfold val_main_v3
  refine div_root _ _ (∑ e : Fin 96, a0 (ix3 h t e) * a1 (ix3 h s e)) ?_ |>.trans (congrArg _ ?_)
  · rw [v0_apply]; simp only [h0, h1, ← EReal.coe_mul, sum_real]
  · unfold sc qp; simp only [padded_tok]

include h0 h1 in
theorem v4_real (i : S8x16400.Idx) : ∃ m : ℝ, val_main_v4 (F := Ideal) A0 A1 i = (m : EReal) := by
  unfold val_main_v4
  refine reduce_max_real (val_main_v3 (F := Ideal) A0 A1) (val_main_cst_0 (F := Ideal)) reducesTo_S8x16400x16400_S8x16400_d2 (by decide) h_S_ _
    neg_inf_word (by decide) fun i => ?_
  have hi : i = ix3 (i 0) (i 1) (i 2) := funext fun a => match a with | ⟨0, _⟩ => rfl | ⟨1, _⟩ => rfl | ⟨2, _⟩ => rfl
  rw [hi]
  exact ⟨_, v3_real A0 A1 a0 a1 h0 h1 _ _ _⟩

include h0 h1 in
/-- The row's maximum, the same along the row. -/
theorem v22_real (h t) : ∃ m : ℝ, ∀ s, val_main_v22 (F := Ideal) A0 A1 (ix3 h t s) = (m : EReal) := by
  obtain ⟨m, hm⟩ := v4_real A0 A1 a0 a1 h0 h1 (ix2 h t)
  refine ⟨m, fun s => ?_⟩
  rw [val_main_v22_apply, val_main_v21_apply, val_main_v11_apply]
  have e : idx_main_v21 (idx_main_v22 (ix3 h t s)) = ix2 h t := funext fun a => match a with | ⟨0, _⟩ => rfl | ⟨1, _⟩ => rfl
  have hb : val_main_v10 (F := Ideal) (ix2 h t) = (⊥ : EReal) := (val_main_v10_apply _).trans neg_inf_word
  rw [e, hb, hm]
  exact max_eq_right bot_le

include h0 h1 in
/-- The exponentials, up to a positive factor of the row. -/
theorem v24_real (h t) : ∃ x : ℝ, 0 < x ∧ ∀ s, val_main_v24 (F := Ideal) A0 A1 (ix3 h t s)
    = ((Real.exp (sc a0 a1 h (tok t) s) * x : ℝ) : EReal) := by
  obtain ⟨m, hm⟩ := v22_real A0 A1 a0 a1 h0 h1 h t
  refine ⟨Real.exp (-m), Real.exp_pos _, fun s => ?_⟩
  have e3 := v3_real A0 A1 a0 a1 h0 h1 h t s
  have e22 := hm s
  unfold val_main_v24 val_main_v23
  generalize val_main_v3 (F := Ideal) A0 A1 = X at *
  generalize val_main_v22 (F := Ideal) A0 A1 = Y at *
  show Ideal.exp (X _ - Y _) = _
  rw [e3, e22, ← EReal.coe_sub, Ideal.exp_coe, sub_eq_add_neg, Real.exp_add]

theorem v25_apply (h t) : val_main_v25 (F := Ideal) A0 A1 (ix2 h t) = ∑ s : Fin 16400, val_main_v24 (F := Ideal) A0 A1 (ix3 h t s) := by
  unfold val_main_v25; generalize val_main_v24 (F := Ideal) A0 A1 = X; pointwise [val_main_cst_8]

theorem v26_apply (h t) (z : Fin 1) : val_main_v26 (F := Ideal) A0 A1 (ix3 h t z) = val_main_v25 (F := Ideal) A0 A1 (ix2 h t) := by
  rw [val_main_v26_apply]
  exact congrArg _ (funext fun a => match a with | ⟨0, _⟩ => rfl | ⟨1, _⟩ => rfl)

theorem v27_apply (h t s) : val_main_v27 (F := Ideal) A0 A1 (ix3 h t s) = val_main_v25 (F := Ideal) A0 A1 (ix2 h t) := by
  rw [val_main_v27_apply, ← v26_apply A0 A1 h t 0]
  exact congrArg _ (funext fun a => match a with | ⟨0, _⟩ => rfl | ⟨1, _⟩ => rfl | ⟨2, _⟩ => rfl)

theorem v36_apply (h t d) : val_main_v36 (F := Ideal) A3 (ix3 h t d) = A3 (ix2 t ⟨h.val * 64 + d.val, by omega⟩) := by
  unfold val_main_v36 val_main_v35
  refine (transpose_apply [1, 0, 2] (shapeCast S16400x8x64 A3 shapeCasts_S16400x512_S16400x8x64) _ (ix3 h t d) (ix3 t h d)
    (fun b => match b with | ⟨0, _⟩ => rfl | ⟨1, _⟩ => rfl | ⟨2, _⟩ => rfl)).trans ?_
  exact split 16400 8 64 512 rfl A3 _ t h d

include h3 in
theorem v36_real (h t d) : val_main_v36 (F := Ideal) A3 (ix3 h t d) = ((dp a3 h (tok t) d : ℝ) : EReal) := by
  rw [v36_apply, h3]; unfold dp; rw [padded_tok]

theorem v39_apply (h t s) : val_main_v39 (F := Ideal) A2 A3 (ix3 h t s) = ∑ d : Fin 64, val_main_v36 (F := Ideal) A3 (ix3 h t d) * A2 (ix3 h s d) := by
  unfold val_main_v39; generalize val_main_v36 (F := Ideal) A3 = X; pointwise

include h2 h3 in
theorem v39_real (h t s) : val_main_v39 (F := Ideal) A2 A3 (ix3 h t s) = ((gp a2 a3 h (tok t) s : ℝ) : EReal) := by
  rw [v39_apply]; simp only [v36_real A3 a3 h3, h2, ← EReal.coe_mul, sum_real]; rfl

/-- A row's sum, its exponentials up to a factor. -/
theorem sum_den (h : Fin 8) (t : Fin 16400) (x : ℝ) : ∑ s, Real.exp (sc a0 a1 h (tok t) s) * x = den a0 a1 h (tok t) * x := by
  rw [← Finset.sum_mul]; rfl

include h0 h1 in
theorem v28_real (h t s) : val_main_v28 (F := Ideal) A0 A1 (ix3 h t s) = ((prb a0 a1 h (tok t) s : ℝ) : EReal) := by
  obtain ⟨x, x0, hx⟩ := v24_real A0 A1 a0 a1 h0 h1 h t
  have e27 := v27_apply A0 A1 h t s
  rw [v25_apply] at e27
  simp only [hx, sum_real, sum_den a0 a1] at e27
  have e24 := hx s
  unfold val_main_v28
  generalize val_main_v24 (F := Ideal) A0 A1 = X at *
  generalize val_main_v27 (F := Ideal) A0 A1 = Y at *
  show Ideal.div (X _) (Y _) = _
  have hd := (den_pos a0 a1 h (tok t)).ne'
  rw [e24, e27, div_real _ (mul_ne_zero hd x0.ne')]
  refine congrArg _ ?_
  unfold prb
  rw [mul_div_mul_right _ _ x0.ne']

theorem v43_apply (h t) : val_main_v43 (F := Ideal) A0 A1 A2 A3 (ix2 h t) = ∑ s : Fin 16400, val_main_v42 (F := Ideal) A0 A1 A2 A3 (ix3 h t s) := by
  unfold val_main_v43; generalize val_main_v42 (F := Ideal) A0 A1 A2 A3 = X; pointwise [val_main_cst_10]

theorem v44_apply (h t) (z : Fin 1) : val_main_v44 (F := Ideal) A0 A1 A2 A3 (ix3 h t z) = val_main_v43 (F := Ideal) A0 A1 A2 A3 (ix2 h t) := by
  rw [val_main_v44_apply]
  exact congrArg _ (funext fun a => Fin.ext (match a with
    | ⟨0, _⟩ => by show (((h.val * 16400 + t.val) * 1 + z.val) / 16400) = h.val; omega
    | ⟨1, _⟩ => by show (((h.val * 16400 + t.val) * 1 + z.val) % 16400) = t.val; omega))

theorem v48_apply (h t) : val_main_v48 (F := Ideal) A0 A1 A2 A3 (ix2 h t) = ∑ z : Fin 1, val_main_v45 (F := Ideal) A0 A1 A2 A3 (ix3 h t z) := by
  unfold val_main_v48; generalize val_main_v45 (F := Ideal) A0 A1 A2 A3 = X; pointwise [val_main_cst_11]

theorem v49_apply (h t s) : val_main_v49 (F := Ideal) A0 A1 A2 A3 (ix3 h t s) = val_main_v48 (F := Ideal) A0 A1 A2 A3 (ix2 h t) := by
  rw [val_main_v49_apply]
  exact congrArg _ (funext fun a => match a with | ⟨0, _⟩ => rfl | ⟨1, _⟩ => rfl)

include h0 h1 h2 h3 in
/-- The scores' gradient before the scale. -/
theorem v51_real (h t s) : val_main_v51 (F := Ideal) A0 A1 A2 A3 (ix3 h t s) = ((ds a0 a1 a2 a3 h (tok t) s : ℝ) : EReal) := by
  obtain ⟨x, x0, hx⟩ := v24_real A0 A1 a0 a1 h0 h1 h t
  have hd := (den_pos a0 a1 h (tok t)).ne'
  have hD : den a0 a1 h (tok t) * x ≠ 0 := mul_ne_zero hd x0.ne'
  have e25 : val_main_v25 (F := Ideal) A0 A1 (ix2 h t) = ((den a0 a1 h (tok t) * x : ℝ) : EReal) := by
    rw [v25_apply]; simp only [hx, sum_real, sum_den a0 a1]
  have e26 : ∀ z, val_main_v26 (F := Ideal) A0 A1 (ix3 h t z) = ((den a0 a1 h (tok t) * x : ℝ) : EReal) := fun z =>
    (v26_apply A0 A1 h t z).trans e25
  have e31 : ∀ z, val_main_v31 (F := Ideal) A0 A1 (ix3 h t z)
      = ((1 / ((den a0 a1 h (tok t) * x) * (den a0 a1 h (tok t) * x)) : ℝ) : EReal) := fun z => by
    have e30 : val_main_v30 (F := Ideal) (ix3 h t z) = ((1 : ℝ) : EReal) :=
      (val_main_v30_apply _).trans one_word
    have e := e26 z
    unfold val_main_v31 val_main_v29
    generalize val_main_v30 (F := Ideal) = X at *
    generalize val_main_v26 (F := Ideal) A0 A1 = Y at *
    show Ideal.div (X _) (Y _ * Y _) = _
    rw [e30, e, ← EReal.coe_mul, div_real _ (mul_ne_zero hD hD)]
  have e40 : ∀ s, val_main_v40 (F := Ideal) A0 A1 (ix3 h t s)
      = ((1 / ((den a0 a1 h (tok t) * x) * (den a0 a1 h (tok t) * x)) : ℝ) : EReal) := fun s => by
    rw [val_main_v40_apply, ← e31 0]
    exact congrArg _ (funext fun a => match a with | ⟨0, _⟩ => rfl | ⟨1, _⟩ => rfl | ⟨2, _⟩ => rfl)
  have e46 : val_main_v46 (F := Ideal) A0 A1 (ix3 h t s) = ((den a0 a1 h (tok t) * x : ℝ) : EReal) := by
    rw [val_main_v46_apply, ← e26 0]
    exact congrArg _ (funext fun a => match a with | ⟨0, _⟩ => rfl | ⟨1, _⟩ => rfl | ⟨2, _⟩ => rfl)
  have e42 : ∀ s, val_main_v42 (F := Ideal) A0 A1 A2 A3 (ix3 h t s) = ((gp a2 a3 h (tok t) s
      * (1 / ((den a0 a1 h (tok t) * x) * (den a0 a1 h (tok t) * x))) * (Real.exp (sc a0 a1 h (tok t) s) * x) : ℝ) : EReal) := fun s => by
    have e39 := v39_real A2 A3 a2 a3 h2 h3 h t s
    have e40' := e40 s
    have e24 := hx s
    unfold val_main_v42 val_main_v41
    generalize val_main_v39 (F := Ideal) A2 A3 = X at *
    generalize val_main_v40 (F := Ideal) A0 A1 = Y at *
    generalize val_main_v24 (F := Ideal) A0 A1 = Z at *
    show X _ * Y _ * Z _ = _
    rw [e39, e40', e24, ← EReal.coe_mul, ← EReal.coe_mul]
  have e48 : val_main_v48 (F := Ideal) A0 A1 A2 A3 (ix2 h t) = ((-(∑ s, gp a2 a3 h (tok t) s
      * (1 / ((den a0 a1 h (tok t) * x) * (den a0 a1 h (tok t) * x))) * (Real.exp (sc a0 a1 h (tok t) s) * x)) : ℝ) : EReal) := by
    rw [v48_apply]
    simp only [Fin.sum_univ_one]
    have e44 := v44_apply A0 A1 A2 A3 h t 0
    rw [v43_apply] at e44
    simp only [e42, sum_real] at e44
    unfold val_main_v45
    generalize val_main_v44 (F := Ideal) A0 A1 A2 A3 = X at *
    show -(X _) = _
    rw [e44, ← EReal.coe_neg]
  have e39 := v39_real A2 A3 a2 a3 h2 h3 h t s
  have e49 := (v49_apply A0 A1 A2 A3 h t s).trans e48
  have e24 := hx s
  unfold val_main_v51 val_main_v50 val_main_v47
  generalize val_main_v39 (F := Ideal) A2 A3 = X at *
  generalize val_main_v46 (F := Ideal) A0 A1 = Y at *
  generalize val_main_v49 (F := Ideal) A0 A1 A2 A3 = Z at *
  generalize val_main_v24 (F := Ideal) A0 A1 = W at *
  show (Ideal.div (X _) (Y _) + Z _) * W _ = _
  rw [e39, e46, e49, e24, div_real _ hD, ← EReal.coe_add, ← EReal.coe_mul]
  refine congrArg _ ?_
  unfold ds
  rw [dlt_eq]
  have hs : ∑ s, gp a2 a3 h (tok t) s * (1 / ((den a0 a1 h (tok t) * x) * (den a0 a1 h (tok t) * x))) * (Real.exp (sc a0 a1 h (tok t) s) * x)
      = (∑ s, prb a0 a1 h (tok t) s * gp a2 a3 h (tok t) s) / (den a0 a1 h (tok t) * x) := by
    rw [Finset.sum_div]
    refine Finset.sum_congr rfl fun s _ => ?_
    unfold prb
    have := x0.ne'
    field_simp
  rw [hs]
  generalize (∑ s, prb a0 a1 h (tok t) s * gp a2 a3 h (tok t) s) = S
  unfold prb
  have := x0.ne'
  field_simp
  ring

include h0 h1 h2 h3 in
theorem v53_real (h t s) : val_main_v53 (F := Ideal) A0 A1 A2 A3 (ix3 h t s) = ((ds a0 a1 a2 a3 h (tok t) s / Real.sqrt 96 : ℝ) : EReal) := by
  have e := v51_real A0 A1 A2 A3 a0 a1 a2 a3 h0 h1 h2 h3 h t s
  unfold val_main_v53
  exact div_root _ _ _ e

theorem v55_apply (h t e) : val_main_v55 (F := Ideal) A0 A1 A2 A3 (ix3 h t e)
    = ∑ s : Fin 16400, val_main_v53 (F := Ideal) A0 A1 A2 A3 (ix3 h t s) * A1 (ix3 h s e) := by
  unfold val_main_v55; generalize val_main_v53 (F := Ideal) A0 A1 A2 A3 = X; pointwise
theorem v54_apply (h s e) : val_main_v54 (F := Ideal) A0 A1 A2 A3 (ix3 h s e)
    = ∑ t : Fin 16400, val_main_v53 (F := Ideal) A0 A1 A2 A3 (ix3 h t s) * A0 (ix3 h t e) := by
  unfold val_main_v54; generalize val_main_v53 (F := Ideal) A0 A1 A2 A3 = X; pointwise
theorem v38_apply (h s d) : val_main_v38 (F := Ideal) A0 A1 A3 (ix3 h s d)
    = ∑ t : Fin 16400, val_main_v36 (F := Ideal) A3 (ix3 h t d) * val_main_v28 (F := Ideal) A0 A1 (ix3 h t s) := by
  unfold val_main_v38 val_main_v37
  generalize val_main_v36 (F := Ideal) A3 = X; generalize val_main_v28 (F := Ideal) A0 A1 = Y; pointwise

include h0 h1 h2 h3 in
theorem dq_real (h t e) : val_main_v55 (F := Ideal) A0 A1 A2 A3 (ix3 h t e)
    = ((∑ s, ds a0 a1 a2 a3 h (tok t) s / Real.sqrt 96 * a1 (ix3 h s e) : ℝ) : EReal) := by
  rw [v55_apply]; simp only [v53_real A0 A1 A2 A3 a0 a1 a2 a3 h0 h1 h2 h3, h1, ← EReal.coe_mul, sum_real]
include h0 h1 h2 h3 in
theorem dk_real (h s e) : val_main_v54 (F := Ideal) A0 A1 A2 A3 (ix3 h s e)
    = ((∑ t, ds a0 a1 a2 a3 h (tok t) s / Real.sqrt 96 * a0 (ix3 h t e) : ℝ) : EReal) := by
  rw [v54_apply]; simp only [v53_real A0 A1 A2 A3 a0 a1 a2 a3 h0 h1 h2 h3, h0, ← EReal.coe_mul, sum_real]
include h0 h1 h3 in
theorem dv_real (h s d) : val_main_v38 (F := Ideal) A0 A1 A3 (ix3 h s d)
    = ((∑ t, dp a3 h (tok t) d * prb a0 a1 h (tok t) s : ℝ) : EReal) := by
  rw [v38_apply]; simp only [v36_real A3 a3 h3, v28_real A0 A1 a0 a1 h0 h1, ← EReal.coe_mul, sum_real]
end

end Cert.AttnRef
-- ==== Proof.Attn.Equation.lean ====
/-
  The attention gradient on real arguments: the region's three arrays, taken back to the tokens' order and scaled as the
  host lines do, are the reference's three gradients.
-/
module

public import proofs.«01_k».proof.Proof.Attn.Reference

@[expose] public section

set_option maxRecDepth 16384

noncomputable section

open Idealize.ShloMosaic Idealize.ShloMosaic.TcCoe Idealize.SL.Sem

namespace Cert.AttnHost

open Cert.AttnIdeal Cert.AttnIdeal.Gen Cert.Rows Cert.RealLift Cert.AttnValue Cert.AttnRef

/-! ### The host lines after the region -/

/-- The chunk and the lane of a row. -/
def chunk (r : Fin 16640) : Fin 13 := ⟨r.val / 1280, by omega⟩
def lane (r : Fin 16640) : Fin 1280 := ⟨r.val % 1280, by omega⟩
theorem rw1_chunk (r : Fin 16640) : rw1 (chunk r) (lane r) = r := Fin.ext (by simp only [rw1, chunk, lane]; omega)

/-- Rows and the chunks' lanes are the same set. -/
def laneEquiv : Fin 13 × Fin 1280 ≃ Fin 16640 :=
  ⟨fun x => rw1 x.1 x.2, fun r => (chunk r, lane r),
    fun x => Prod.ext (Fin.ext (by simp only [rw1, chunk]; omega)) (Fin.ext (by simp only [rw1, lane]; omega)), rw1_chunk⟩

/-- A sum over chunks and lanes of a function of the position is the sum over positions. -/
theorem sum_lanes {M : Type} [AddCommMonoid M] (f : Fin 16640 → M) : ∑ j : Fin 13, ∑ q : Fin 1280, f (pos (rw1 j q)) = ∑ p, f p := by
  rw [← sum_rows, ← Equiv.sum_comp laneEquiv, Fintype.sum_prod_type]
  rfl

/-- The tokens of an array of rows by head, heads first. -/
theorem heads_first {α : Type} (w W : ℕ) (hW : 8 * w = W) (X : (⟨3, ![16640, 8, w]⟩ : Shape).Idx → α)
    (h0 : (⟨3, ![16640, 8, w]⟩ : Shape).ShapeCasts ⟨2, ![16640, W]⟩)
    (h1 : (⟨2, ![16640, W]⟩ : Shape).ShapeCasts ⟨3, ![2080, 8, W]⟩)
    (h2 : (⟨3, ![2080, 8, W]⟩ : Shape).Transposes [1, 0, 2] ⟨3, ![8, 2080, W]⟩)
    (h3 : (⟨3, ![8, 2080, W]⟩ : Shape).ShapeCasts ⟨2, ![16640, W]⟩) (h4 : (⟨2, ![16640, W]⟩ : Shape).Slices ![0, 0] ⟨2, ![16400, W]⟩)
    (h5 : (⟨2, ![16400, W]⟩ : Shape).ShapeCasts ⟨3, ![16400, 8, w]⟩)
    (h6 : (⟨3, ![16400, 8, w]⟩ : Shape).Transposes [1, 0, 2] ⟨3, ![8, 16400, w]⟩) (h : Fin 8) (t : Fin 16400) (e : Fin w) :
    transpose ⟨3, ![8, 16400, w]⟩ [1, 0, 2] (shapeCast ⟨3, ![16400, 8, w]⟩ (extractStridedSlice ⟨2, ![16400, W]⟩ ![0, 0]
      (shapeCast ⟨2, ![16640, W]⟩ (transpose ⟨3, ![8, 2080, W]⟩ [1, 0, 2] (shapeCast ⟨3, ![2080, 8, W]⟩
        (shapeCast ⟨2, ![16640, W]⟩ X h0) h1) h2) h3) h4) h5) h6 (ix3 h t e) = X (ix3 (row (tok t)) h e) := by
  rw [transpose_apply [1, 0, 2] _ h6 _ (ix3 t h e) (fun b => match b with | ⟨0, _⟩ => rfl | ⟨1, _⟩ => rfl | ⟨2, _⟩ => rfl)]
  rw [split 16400 8 w W hW]
  rw [valid_tokens]
  exact merge 16640 8 w W hW X h0 _ h e _ rfl

/-- The queries' gradient after the region. -/
def tailQ (X : FVec Ideal S8x13x96x1280 .f32) : FVec Ideal S8x16400x96 .f32 :=
  Host.divf (transpose S8x16400x96 [1, 0, 2] (shapeCast S16400x8x96 (extractStridedSlice S16400x768 ![0, 0]
    (shapeCast S16640x768 (transpose S8x2080x768 [1, 0, 2] (shapeCast S2080x8x768 (shapeCast S16640x768
      (transpose S13x1280x8x96 [1, 3, 0, 2] X transposes_S8x13x96x1280_S13x1280x8x96_1_3_0_2)
      shapeCasts_S13x1280x8x96_S16640x768) shapeCasts_S16640x768_S2080x8x768) transposes_S2080x8x768_S8x2080x768_1_0_2)
      shapeCasts_S8x2080x768_S16640x768) slices_S16640x768_S16400x768_0_0) shapeCasts_S16400x768_S16400x8x96)
    transposes_S16400x8x96_S8x16400x96_1_0_2) (broadcastInDim S8x16400x96 ![] bcast_S_S8x16400x96 h_v1)

/-- The keys' gradient after the region. -/
def tailK (X : FVec Ideal S8x96x16640 .f32) : FVec Ideal S8x16400x96 .f32 :=
  mulf (transpose S8x16400x96 [1, 0, 2] (shapeCast S16400x8x96 (extractStridedSlice S16400x768 ![0, 0]
    (shapeCast S16640x768 (transpose S8x2080x768 [1, 0, 2] (shapeCast S2080x8x768 (shapeCast S16640x768
      (transpose S16640x8x96 [2, 0, 1] X transposes_S8x96x16640_S16640x8x96_2_0_1)
      shapeCasts_S16640x8x96_S16640x768) shapeCasts_S16640x768_S2080x8x768) transposes_S2080x8x768_S8x2080x768_1_0_2)
      shapeCasts_S8x2080x768_S16640x768) slices_S16640x768_S16400x768_0_0) shapeCasts_S16400x768_S16400x8x96)
    transposes_S16400x8x96_S8x16400x96_1_0_2) (broadcastInDim S8x16400x96 ![] bcast_S_S8x16400x96 h_v0)

/-- The values' gradient after the region. -/
def tailV (X : FVec Ideal S8x64x16640 .f32) : FVec Ideal S8x16400x64 .f32 :=
  transpose S8x16400x64 [1, 0, 2] (shapeCast S16400x8x64 (extractStridedSlice S16400x512 ![0, 0]
    (shapeCast S16640x512 (transpose S8x2080x512 [1, 0, 2] (shapeCast S2080x8x512 (shapeCast S16640x512
      (transpose S16640x8x64 [2, 0, 1] X transposes_S8x64x16640_S16640x8x64_2_0_1)
      shapeCasts_S16640x8x64_S16640x512) shapeCasts_S16640x512_S2080x8x512) transposes_S2080x8x512_S8x2080x512_1_0_2)
      shapeCasts_S8x2080x512_S16640x512) slices_S16640x512_S16400x512_0_0) shapeCasts_S16400x512_S16400x8x64)
    transposes_S16400x8x64_S8x16400x64_1_0_2

theorem tailV_apply (X : FVec Ideal S8x64x16640 .f32) (h t d) : tailV X (ix3 h t d) = X (ix3 h d (row (tok t))) := by
  unfold tailV
  refine (heads_first 64 512 rfl (transpose S16640x8x64 [2, 0, 1] X transposes_S8x64x16640_S16640x8x64_2_0_1) _ _ _ _ _ _ _ h t d).trans ?_
  exact transpose_apply [2, 0, 1] X _ _ _ (fun b => match b with | ⟨0, _⟩ => rfl | ⟨1, _⟩ => rfl | ⟨2, _⟩ => rfl)

theorem mul_read (X Y : FVec Ideal S8x16400x96 .f32) (i) (x y : ℝ) (hx : X i = (x : EReal)) (hy : Y i = (y : EReal)) :
    mulf X Y i = ((x * y : ℝ) : EReal) := by
  show X i * Y i = _
  rw [hx, hy, EReal.coe_mul]
theorem div_read (X Y : FVec Ideal S8x16400x96 .f32) (i) (x y : ℝ) (hx : X i = (x : EReal)) (hy : Y i = (y : EReal)) (h : y ≠ 0) :
    Host.divf X Y i = ((x / y : ℝ) : EReal) := by
  show Ideal.div (X i) (Y i) = _
  rw [hx, hy, div_real _ h]

theorem tailK_apply (X : FVec Ideal S8x96x16640 .f32) (h t e) (x : ℝ) (hx : X (ix3 h e (row (tok t))) = (x : EReal)) :
    tailK X (ix3 h t e) = ((x * Real.log 2 : ℝ) : EReal) := by
  unfold tailK
  refine mul_read _ _ _ _ _ ?_ ((broadcastInDim_apply _ _ h_v0 _ ix0 fun a => a.elim0).trans (v0_apply _))
  refine (heads_first 96 768 rfl (transpose S16640x8x96 [2, 0, 1] X transposes_S8x96x16640_S16640x8x96_2_0_1) _ _ _ _ _ _ _ h t e).trans ?_
  exact (transpose_apply [2, 0, 1] X _ _ (ix3 h e (row (tok t))) (fun b => match b with | ⟨0, _⟩ => rfl | ⟨1, _⟩ => rfl | ⟨2, _⟩ => rfl)).trans hx

/-- The same tokens, the rows given as chunks of lanes. -/
theorem chunks_merge {α : Type} (X : S13x1280x8x96.Idx → α) :
    shapeCast S16640x768 X shapeCasts_S13x1280x8x96_S16640x768
      = shapeCast S16640x768 (fun i : (⟨3, ![16640, 8, 96]⟩ : Shape).Idx => X (ix4 (chunk (i 0)) (lane (i 0)) (i 1) (i 2))) shapeCasts_S16640x8x96_S16640x768 := by
  funext i
  have hi : i = ix2 (i 0) (i 1) := funext fun a => match a with | ⟨0, _⟩ => rfl | ⟨1, _⟩ => rfl
  rw [hi]
  have key : ∀ (r : Fin 16640) (c : Fin 768), shapeCast S16640x768 X shapeCasts_S13x1280x8x96_S16640x768 (ix2 r c)
      = shapeCast S16640x768 (fun i : (⟨3, ![16640, 8, 96]⟩ : Shape).Idx => X (ix4 (chunk (i 0)) (lane (i 0)) (i 1) (i 2))) shapeCasts_S16640x8x96_S16640x768 (ix2 r c) := by
    intro r c
    refine Eq.trans ?_ (merge 16640 8 96 768 rfl _ _ r (⟨c.val / 96, by omega⟩ : Fin 8) (⟨c.val % 96, by omega⟩ : Fin 96) c (by
      show c.val = c.val / 96 * 96 + c.val % 96; omega)).symm
    exact shapeCast_apply X _ _ (ix4 (chunk r) (lane r) (⟨c.val / 96, by omega⟩ : Fin 8) (⟨c.val % 96, by omega⟩ : Fin 96)) (by
      rewrite [Shape.rowMajor_val_two, Shape.rowMajor_val_four]
      show ((r.val / 1280 * 1280 + r.val % 1280) * 8 + c.val / 96) * 96 + c.val % 96 = r.val * 768 + c.val
      omega)
  exact key _ _

theorem tailQ_apply (X : FVec Ideal S8x13x96x1280 .f32) (h t e) (x : ℝ)
    (hx : X (ix4 h (chunk (row (tok t))) e (lane (row (tok t)))) = (x : EReal)) :
    tailQ X (ix3 h t e) = ((x / Real.sqrt 96 : ℝ) : EReal) := by
  unfold tailQ
  refine div_read _ _ _ _ _ ?_ ((broadcastInDim_apply _ _ h_v1 _ ix0 fun a => a.elim0).trans (v1_apply _)) root_ne
  rw [chunks_merge]
  refine (heads_first 96 768 rfl _ _ _ _ _ _ _ _ h t e).trans ?_
  exact (transpose_apply [1, 3, 0, 2] X _ _ (ix4 h (chunk (row (tok t))) e (lane (row (tok t)))) (fun b => match b with
    | ⟨0, _⟩ => rfl | ⟨1, _⟩ => rfl | ⟨2, _⟩ => rfl | ⟨3, _⟩ => rfl)).trans hx

/-! ### The region on reals -/

section
variable (a0 a1 : S8x16400x96.Idx → ℝ) (a2 : S8x16400x64.Idx → ℝ) (a3 : S16400x512.Idx → ℝ)

/-- The region's probability, at any position of the key. -/
def pr (h : Fin 8) (k p : Fin 16640) : ℝ :=
  Real.rpow 2 ((∑ e : Fin 96, kp a1 h k e * (qp a0 h p e / (Real.log 2 * Real.sqrt 96))) - lse a0 a1 h p)
/-- The region's score gradient. -/
def dsR (h : Fin 8) (k p : Fin 16640) : ℝ := pr a0 a1 h k p * ((∑ d : Fin 64, vp a2 h k d * dp a3 h p d) - dlt a0 a1 a2 a3 h p)

theorem pr_tok (h : Fin 8) (s : Fin 16400) (p : Fin 16640) : pr a0 a1 h (tok s) p = prb a0 a1 h p s := by
  have e : (∑ e : Fin 96, kp a1 h (tok s) e * (qp a0 h p e / (Real.log 2 * Real.sqrt 96))) * Real.log 2 = sc a0 a1 h p s := by
    rw [← score2]
    refine congrArg (· * _) (Finset.sum_congr rfl fun e _ => ?_)
    unfold kp; rw [padded_tok]; ring
  unfold pr
  show (2 : ℝ) ^ (_ : ℝ) = _
  rw [Real.rpow_def_of_pos (by norm_num), mul_comm, sub_mul, e]
  unfold lse prb
  rw [div_mul_cancel₀ _ log2_ne, Real.exp_sub, Real.exp_log (den_pos a0 a1 h p)]

theorem dsR_tok (h : Fin 8) (s : Fin 16400) (p : Fin 16640) : dsR a0 a1 a2 a3 h (tok s) p = ds a0 a1 a2 a3 h p s := by
  unfold dsR ds gp
  rw [pr_tok]
  refine congrArg (fun x => prb a0 a1 h p s * (x - _)) (Finset.sum_congr rfl fun d _ => ?_)
  unfold vp; rw [padded_tok]; ring

theorem qp_pad (h : Fin 8) (p : Fin 16640) (hp : ¬ p.val < 16400) (e : Fin 96) : qp a0 h p e = 0 := dif_neg hp
theorem kp_pad (h : Fin 8) (p : Fin 16640) (hp : ¬ p.val < 16400) (e : Fin 96) : kp a1 h p e = 0 := dif_neg hp
theorem dp_pad (h : Fin 8) (p : Fin 16640) (hp : ¬ p.val < 16400) (d : Fin 64) : dp a3 h p d = 0 := dif_neg hp
end

section
variable (x0 : Vec Ideal S8x13x96x1280 .bf16) (x1 : Vec Ideal S8x16640x96 .bf16) (x2 : Vec Ideal S8x96x16640 .bf16)
  (x3 : Vec Ideal S8x16640x64 .bf16) (x4 : Vec Ideal S8x13x64x1280 .bf16) (x5 x6 : Vec Ideal S8x13x1x1280 .f32)
  (a0 a1 : S8x16400x96.Idx → ℝ) (a2 : S8x16400x64.Idx → ℝ) (a3 : S16400x512.Idx → ℝ)
  (r0 : ∀ h j e q, x0 (ix4 h j e q) = ((qp a0 h (pos (rw1 j q)) e / (Real.log 2 * Real.sqrt 96) : ℝ) : EReal))
  (r1 : ∀ h κ e, x1 (ix3 h κ e) = ((kp a1 h (pos κ) e : ℝ) : EReal))
  (r2 : ∀ h e κ, x2 (ix3 h e κ) = ((kp a1 h (pos κ) e : ℝ) : EReal))
  (r3 : ∀ h κ d, x3 (ix3 h κ d) = ((vp a2 h (pos κ) d : ℝ) : EReal))
  (r4 : ∀ h j d q, x4 (ix4 h j d q) = ((dp a3 h (pos (rw1 j q)) d : ℝ) : EReal))
  (r5 : ∀ h j q z, x5 (ix4 h j z q) = ((lse a0 a1 h (pos (rw1 j q)) : ℝ) : EReal))
  (r6 : ∀ h j q z, x6 (ix4 h j z q) = ((dlt a0 a1 a2 a3 h (pos (rw1 j q)) : ℝ) : EReal))

include r0 r1 r5 in
theorem prob_real (h κ j q) : prob x0 x1 x5 h κ j q = ((pr a0 a1 h (pos κ) (pos (rw1 j q)) : ℝ) : EReal) := by
  unfold prob pr
  simp only [r0, r1, r5, ← EReal.coe_mul, sum_real, ← EReal.coe_sub]
  exact Ideal.exp2_coe _

include r0 r1 r3 r4 r5 r6 in
theorem dS_real (h κ j q) : dS x0 x1 x3 x4 x5 x6 h κ j q = ((dsR a0 a1 a2 a3 h (pos κ) (pos (rw1 j q)) : ℝ) : EReal) := by
  unfold dS dsR
  simp only [prob_real x0 x1 x5 a0 a1 r0 r1 r5, r3, r4, r6, ← EReal.coe_mul, sum_real, ← EReal.coe_sub]

include r0 r1 r4 r5 in
/-- The values' gradient. -/
theorem tailV_real (h t d) : tailV (dvArr x0 x1 x4 x5) (ix3 h t d)
    = ((∑ s, dp a3 h (tok s) d * prb a0 a1 h (tok s) t : ℝ) : EReal) := by
  rw [tailV_apply]
  show ∑ j : Fin 13, ∑ q : Fin 1280, x4 (ix4 h j d q) * prob x0 x1 x5 h (row (tok t)) j q = _
  simp only [prob_real x0 x1 x5 a0 a1 r0 r1 r5, r4, ← EReal.coe_mul, sum_real, pos_row]
  rw [sum_lanes (fun p => dp a3 h p d * pr a0 a1 h (tok t) p), sum_tokens _ fun p hp => by rw [dp_pad a3 h p hp, zero_mul]]
  simp only [pr_tok]

include r0 r1 r3 r4 r5 r6 in
/-- The keys' gradient. -/
theorem tailK_real (h t e) : tailK (dkArr x0 x1 x3 x4 x5 x6) (ix3 h t e)
    = ((∑ s, ds a0 a1 a2 a3 h (tok s) t / Real.sqrt 96 * a0 (ix3 h s e) : ℝ) : EReal) := by
  refine (tailK_apply _ h t e (∑ p, qp a0 h p e / (Real.log 2 * Real.sqrt 96) * dsR a0 a1 a2 a3 h (tok t) p) ?_).trans (congrArg _ ?_)
  · show ∑ j : Fin 13, ∑ q : Fin 1280, x0 (ix4 h j e q) * dS x0 x1 x3 x4 x5 x6 h (row (tok t)) j q = _
    simp only [dS_real x0 x1 x3 x4 x5 x6 a0 a1 a2 a3 r0 r1 r3 r4 r5 r6, r0, ← EReal.coe_mul, sum_real, pos_row]
    rw [sum_lanes (fun p => qp a0 h p e / (Real.log 2 * Real.sqrt 96) * dsR a0 a1 a2 a3 h (tok t) p)]
  · rw [sum_tokens _ fun p hp => by rw [qp_pad a0 h p hp, zero_div, zero_mul], Finset.sum_mul]
    refine Finset.sum_congr rfl fun s _ => ?_
    rw [dsR_tok]
    unfold qp; rw [padded_tok]
    have := log2_ne; have := root_ne
    field_simp

include r0 r1 r2 r3 r4 r5 r6 in
/-- The queries' gradient. -/
theorem tailQ_real (h t e) : tailQ (dqArr x0 x1 x2 x3 x4 x5 x6) (ix3 h t e)
    = ((∑ s, ds a0 a1 a2 a3 h (tok t) s / Real.sqrt 96 * a1 (ix3 h s e) : ℝ) : EReal) := by
  refine (tailQ_apply _ h t e (∑ p, kp a1 h p e * dsR a0 a1 a2 a3 h p (tok t)) ?_).trans (congrArg _ ?_)
  · show ∑ κ : Fin 16640, x2 (ix3 h e κ) * dS x0 x1 x3 x4 x5 x6 h κ (chunk (row (tok t))) (lane (row (tok t))) = _
    simp only [dS_real x0 x1 x3 x4 x5 x6 a0 a1 a2 a3 r0 r1 r3 r4 r5 r6, r2, ← EReal.coe_mul, sum_real, rw1_chunk, pos_row]
    rw [sum_rows (fun p => kp a1 h p e * dsR a0 a1 a2 a3 h p (tok t))]
  · rw [sum_tokens _ fun p hp => by rw [kp_pad a1 h p hp, zero_mul], Finset.sum_div]
    refine Finset.sum_congr rfl fun s _ => ?_
    rw [dsR_tok]
    unfold kp; rw [padded_tok]
    have := root_ne
    field_simp
end

/-! ### The equation -/

variable (A0 A1 : FVec Ideal S8x16400x96 .f32) (A2 : FVec Ideal S8x16400x64 .f32) (A3 : FVec Ideal S16400x512 .f32)

/-- On finite arguments the three results are the reference's three gradients. -/
theorem results_eq (a0 a1 : S8x16400x96.Idx → ℝ) (a2 : S8x16400x64.Idx → ℝ) (a3 : S16400x512.Idx → ℝ)
    (h0 : ∀ i, A0 i = ((a0 i : ℝ) : EReal)) (h1 : ∀ i, A1 i = ((a1 i : ℝ) : EReal)) (h2 : ∀ i, A2 i = ((a2 i : ℝ) : EReal))
    (h3 : ∀ i, A3 i = ((a3 i : ℝ) : EReal)) :
    tailQ (dqArr (h_v65 A0) (h_v66 A1) (h_v67 A1) (h_v68 A2) (h_v76 A3) (h_v79 A0 A1) (h_v82 A0 A1 A2 A3))
        = Cert.AttnRefIdeal.Read.val_main_v55 (F := Ideal) A0 A1 A2 A3
    ∧ tailK (dkArr (h_v65 A0) (h_v66 A1) (h_v68 A2) (h_v76 A3) (h_v79 A0 A1) (h_v82 A0 A1 A2 A3))
        = Cert.AttnRefIdeal.Read.val_main_v54 (F := Ideal) A0 A1 A2 A3
    ∧ tailV (dvArr (h_v65 A0) (h_v66 A1) (h_v76 A3) (h_v79 A0 A1))
        = Cert.AttnRefIdeal.Read.val_main_v38 (F := Ideal) A0 A1 A3 := by
  have r0 := x0_real A0 a0 h0
  have r1 := x1_real A1 a1 h1
  have r2 := x2_real A1 a1 h1
  have r3 := x3_real A2 a2 h2
  have r4 := x4_real A3 a3 h3
  have r5 := x5_real A0 A1 a0 a1 h0 h1
  have r6 := x6_real A0 A1 A2 A3 a0 a1 a2 a3 h0 h1 h2 h3
  refine ⟨funext fun i => ?_, funext fun i => ?_, funext fun i => ?_⟩
  all_goals
    have hi : i = ix3 (i 0) (i 1) (i 2) := funext fun a => match a with | ⟨0, _⟩ => rfl | ⟨1, _⟩ => rfl | ⟨2, _⟩ => rfl
    rw [hi]
  · exact (tailQ_real _ _ _ _ _ _ _ a0 a1 a2 a3 r0 r1 r2 r3 r4 r5 r6 _ _ _).trans (dq_real A0 A1 A2 A3 a0 a1 a2 a3 h0 h1 h2 h3 _ _ _).symm
  · exact (tailK_real _ _ _ _ _ _ a0 a1 a2 a3 r0 r1 r3 r4 r5 r6 _ _ _).trans (dk_real A0 A1 A2 A3 a0 a1 a2 a3 h0 h1 h2 h3 _ _ _).symm
  · exact (tailV_real _ _ _ _ a0 a1 a3 r0 r1 r4 r5 _ _ _).trans (dv_real A0 A1 A3 a0 a1 a3 h0 h1 h3 _ _ _).symm

end Cert.AttnHost
-- ==== Proof.Attn.Pre.lean ====
/-
  The precondition of the attention's gradient: every argument is finite, so every argument is an array of reals.
-/
module

public import proofs.«01_k».proof.Proof.Gen.Pre_attn_finite
public import proofs.«01_k».proof.Proof.RealLift

@[expose] public section

set_option maxRecDepth 16384

noncomputable section

open Idealize.ShloMosaic Idealize.ShloMosaic.TcCoe Idealize.SL.Sem

namespace Cert.AttnHost

open Cert.Pre_attn_finite Cert.Pre_attn_finite.Gen

theorem of_pre (A0 A1 : FVec Ideal S8x16400x96 .f32) (A2 : FVec Ideal S8x16400x64 .f32) (A3 : FVec Ideal S16400x512 .f32)
    (h : fn (F := Ideal) A0 A1 A2 A3 = fun _ => 1#1) :
    ∃ (a0 a1 : S8x16400x96.Idx → ℝ) (a2 : S8x16400x64.Idx → ℝ) (a3 : S16400x512.Idx → ℝ),
      (∀ i, A0 i = ((a0 i : ℝ) : EReal)) ∧ (∀ i, A1 i = ((a1 i : ℝ) : EReal)) ∧ (∀ i, A2 i = ((a2 i : ℝ) : EReal))
      ∧ (∀ i, A3 i = ((a3 i : ℝ) : EReal)) := by
  have e : fn (F := Ideal) A0 A1 A2 A3 (fun a => a.elim0) = 1#1 := congrFun h _
  dsimp only [fn, fn_part1] at e
  obtain ⟨e, e3⟩ := RealLift.andi_one e
  obtain ⟨e, e2⟩ := RealLift.andi_one e
  obtain ⟨e0, e1⟩ := RealLift.andi_one e
  obtain ⟨a0, h0⟩ := RealLift.real_of_all _ _ _ _ _ e0
  obtain ⟨a1, h1⟩ := RealLift.real_of_all _ _ _ _ _ e1
  obtain ⟨a2, h2⟩ := RealLift.real_of_all _ _ _ _ _ e2
  obtain ⟨a3, h3⟩ := RealLift.real_of_all _ _ _ _ _ e3
  exact ⟨a0, a1, a2, a3, h0, h1, h2, h3⟩

end Cert.AttnHost
-- ==== Proof.Attn.Entries.lean ====
/-
  What the host lines before the attention gradient's region leave in the region's arguments.
-/
module

public import proofs.«01_k».proof.Proof.Attn.Host

@[expose] public section

set_option maxRecDepth 16384

noncomputable section

open Idealize.ShloMosaic Idealize.ShloMosaic.TcCoe Idealize.SL.Sem

namespace Cert.AttnHost

open Cert.AttnIdeal Cert.AttnIdeal.Gen

section
variable {A0 A1 : FVec Ideal S8x16400x96 .f32} {A2 : FVec Ideal S8x16400x64 .f32} {A3 : FVec Ideal S16400x512 .f32}
  (U : Valuation τ sig (Elt Ideal))

theorem s0_main_arg0 : StableHlo.after hostOps0 U (Proc.devRef .tc main_arg0) = U (Proc.devRef .tc main_arg0) := by
  after_results
theorem s0_main_arg1 : StableHlo.after hostOps0 U (Proc.devRef .tc main_arg1) = U (Proc.devRef .tc main_arg1) := by
  after_results
theorem s0_main_arg2 : StableHlo.after hostOps0 U (Proc.devRef .tc main_arg2) = U (Proc.devRef .tc main_arg2) := by
  after_results
theorem s0_main_arg3 : StableHlo.after hostOps0 U (Proc.devRef .tc main_arg3) = U (Proc.devRef .tc main_arg3) := by
  after_results
theorem s0_main_c  :
    StableHlo.after hostOps0 U (Proc.devRef .tc main_c) = h_c := by
  after_results
  unfold h_c
  rfl
theorem s0_main_v0  :
    StableHlo.after hostOps0 U (Proc.devRef .tc main_v0) = h_v0 := by
  after_results
  unfold h_v0 h_cst
  rfl
theorem s0_main_v1  :
    StableHlo.after hostOps0 U (Proc.devRef .tc main_v1) = h_v1 := by
  after_results
  unfold h_v1 h_cst_0
  rfl
theorem s0_main_v5 (e_main_arg0 : U (Proc.devRef .tc main_arg0) = A0) :
    StableHlo.after hostOps0 U (Proc.devRef .tc main_v5) = h_v5 A0 := by
  after_results
  rw [e_main_arg0]
  unfold h_v5 h_v4 h_v3 h_v2 h_v0 h_cst h_v1 h_cst_0
  rfl
theorem s1_main_arg0 : StableHlo.after hostOps0_1 U (Proc.devRef .tc main_arg0) = U (Proc.devRef .tc main_arg0) := by
  after_results
theorem s1_main_arg1 : StableHlo.after hostOps0_1 U (Proc.devRef .tc main_arg1) = U (Proc.devRef .tc main_arg1) := by
  after_results
theorem s1_main_arg2 : StableHlo.after hostOps0_1 U (Proc.devRef .tc main_arg2) = U (Proc.devRef .tc main_arg2) := by
  after_results
theorem s1_main_arg3 : StableHlo.after hostOps0_1 U (Proc.devRef .tc main_arg3) = U (Proc.devRef .tc main_arg3) := by
  after_results
theorem s1_main_v0 : StableHlo.after hostOps0_1 U (Proc.devRef .tc main_v0) = U (Proc.devRef .tc main_v0) := by
  after_results
theorem s1_main_v1 : StableHlo.after hostOps0_1 U (Proc.devRef .tc main_v1) = U (Proc.devRef .tc main_v1) := by
  after_results
theorem s1_main_v6 (e_main_v5 : U (Proc.devRef .tc main_v5) = h_v5 A0) (e_main_c : U (Proc.devRef .tc main_c) = h_c) :
    StableHlo.after hostOps0_1 U (Proc.devRef .tc main_v6) = h_v6 A0 := by
  after_results
  rw [e_main_v5, e_main_c]
  unfold h_v6 h_call0_v0
  rfl
theorem s2_main_arg0 : StableHlo.after hostOps0_2 U (Proc.devRef .tc main_arg0) = U (Proc.devRef .tc main_arg0) := by
  after_results
theorem s2_main_arg1 : StableHlo.after hostOps0_2 U (Proc.devRef .tc main_arg1) = U (Proc.devRef .tc main_arg1) := by
  after_results
theorem s2_main_arg2 : StableHlo.after hostOps0_2 U (Proc.devRef .tc main_arg2) = U (Proc.devRef .tc main_arg2) := by
  after_results
theorem s2_main_arg3 : StableHlo.after hostOps0_2 U (Proc.devRef .tc main_arg3) = U (Proc.devRef .tc main_arg3) := by
  after_results
theorem s2_main_c_3  :
    StableHlo.after hostOps0_2 U (Proc.devRef .tc main_c_3) = h_c_3 := by
  after_results
  unfold h_c_3
  rfl
theorem s2_main_v0 : StableHlo.after hostOps0_2 U (Proc.devRef .tc main_v0) = U (Proc.devRef .tc main_v0) := by
  after_results
theorem s2_main_v1 : StableHlo.after hostOps0_2 U (Proc.devRef .tc main_v1) = U (Proc.devRef .tc main_v1) := by
  after_results
theorem s2_main_v24 (e_main_v6 : U (Proc.devRef .tc main_v6) = h_v6 A0) (e_main_arg1 : U (Proc.devRef .tc main_arg1) = A1) (e_main_v0 : U (Proc.devRef .tc main_v0) = h_v0) (e_main_arg2 : U (Proc.devRef .tc main_arg2) = A2) :
    StableHlo.after hostOps0_2 U (Proc.devRef .tc main_v24) = h_v24 A0 A1 A2 := by
  after_results
  rw [e_main_v6, e_main_arg1, e_main_v0, e_main_arg2]
  unfold h_v24 h_v22 h_v17 h_v16 h_v14 h_v10 h_v7 h_v9 h_v8 h_v13 h_v12 h_v11 h_cst_1 h_v15 h_v21 h_v20 h_v23 h_v19 h_v18 h_cst_2
  rfl
theorem s2_main_v28 (e_main_v6 : U (Proc.devRef .tc main_v6) = h_v6 A0) (e_main_arg1 : U (Proc.devRef .tc main_arg1) = A1) (e_main_v0 : U (Proc.devRef .tc main_v0) = h_v0) :
    StableHlo.after hostOps0_2 U (Proc.devRef .tc main_v28) = h_v28 A0 A1 := by
  after_results
  rw [e_main_v6, e_main_arg1, e_main_v0]
  unfold h_v28 h_v12 h_v11 h_v10 h_v7 h_v9 h_v8 h_cst_1 h_v27 h_v25 h_v19 h_v18 h_v17 h_v16 h_v14 h_v13 h_v15 h_cst_2 h_v26
  rfl
theorem s3_main_arg0 : StableHlo.after hostOps0_3 U (Proc.devRef .tc main_arg0) = U (Proc.devRef .tc main_arg0) := by
  after_results
theorem s3_main_arg1 : StableHlo.after hostOps0_3 U (Proc.devRef .tc main_arg1) = U (Proc.devRef .tc main_arg1) := by
  after_results
theorem s3_main_arg2 : StableHlo.after hostOps0_3 U (Proc.devRef .tc main_arg2) = U (Proc.devRef .tc main_arg2) := by
  after_results
theorem s3_main_arg3 : StableHlo.after hostOps0_3 U (Proc.devRef .tc main_arg3) = U (Proc.devRef .tc main_arg3) := by
  after_results
theorem s3_main_v0 : StableHlo.after hostOps0_3 U (Proc.devRef .tc main_v0) = U (Proc.devRef .tc main_v0) := by
  after_results
theorem s3_main_v1 : StableHlo.after hostOps0_3 U (Proc.devRef .tc main_v1) = U (Proc.devRef .tc main_v1) := by
  after_results
theorem s3_main_v24 : StableHlo.after hostOps0_3 U (Proc.devRef .tc main_v24) = U (Proc.devRef .tc main_v24) := by
  after_results
theorem s3_main_v28 : StableHlo.after hostOps0_3 U (Proc.devRef .tc main_v28) = U (Proc.devRef .tc main_v28) := by
  after_results
theorem s3_main_v29 (e_main_arg3 : U (Proc.devRef .tc main_arg3) = A3) (e_main_c_3 : U (Proc.devRef .tc main_c_3) = h_c_3) :
    StableHlo.after hostOps0_3 U (Proc.devRef .tc main_v29) = h_v29 A3 := by
  after_results
  rw [e_main_arg3, e_main_c_3]
  unfold h_v29 h_call1_v0
  rfl
theorem s4_main_v0 : StableHlo.after hostOps0_4 U (Proc.devRef .tc main_v0) = U (Proc.devRef .tc main_v0) := by
  after_results
theorem s4_main_v1 : StableHlo.after hostOps0_4 U (Proc.devRef .tc main_v1) = U (Proc.devRef .tc main_v1) := by
  after_results
theorem s4_main_v65 (e_main_arg0 : U (Proc.devRef .tc main_arg0) = A0) (e_main_v0 : U (Proc.devRef .tc main_v0) = h_v0) (e_main_v1 : U (Proc.devRef .tc main_v1) = h_v1) :
    StableHlo.after hostOps0_4 U (Proc.devRef .tc main_v65) = h_v65 A0 := by
  after_results
  rw [e_main_arg0, e_main_v0, e_main_v1]
  unfold h_v65 h_v64 h_v45 h_v44 h_v43 h_v40 h_v39 h_v38 h_v37 h_v35 h_v34 h_v36 h_cst_5 h_v42 h_v41
  rfl
theorem s4_main_v66 (e_main_arg1 : U (Proc.devRef .tc main_arg1) = A1) :
    StableHlo.after hostOps0_4 U (Proc.devRef .tc main_v66) = h_v66 A1 := by
  after_results
  rw [e_main_arg1]
  unfold h_v66 h_v54 h_v53 h_v52 h_v51 h_v50 h_v49 h_v47 h_v46 h_v48 h_cst_6
  rfl
theorem s4_main_v67 (e_main_arg1 : U (Proc.devRef .tc main_arg1) = A1) :
    StableHlo.after hostOps0_4 U (Proc.devRef .tc main_v67) = h_v67 A1 := by
  after_results
  rw [e_main_arg1]
  unfold h_v67 h_v54 h_v53 h_v52 h_v51 h_v50 h_v49 h_v47 h_v46 h_v48 h_cst_6
  rfl
theorem s4_main_v68 (e_main_arg2 : U (Proc.devRef .tc main_arg2) = A2) :
    StableHlo.after hostOps0_4 U (Proc.devRef .tc main_v68) = h_v68 A2 := by
  after_results
  rw [e_main_arg2]
  unfold h_v68 h_v63 h_v62 h_v61 h_v60 h_v59 h_v58 h_v56 h_v55 h_v57 h_cst_7
  rfl
theorem s4_main_v76 (e_main_arg3 : U (Proc.devRef .tc main_arg3) = A3) :
    StableHlo.after hostOps0_4 U (Proc.devRef .tc main_v76) = h_v76 A3 := by
  after_results
  rw [e_main_arg3]
  unfold h_v76 h_v75 h_v74 h_v73 h_v72 h_v71 h_v70 h_v69 h_cst_8
  rfl
theorem s4_main_v79 (e_main_v28 : U (Proc.devRef .tc main_v28) = h_v28 A0 A1) :
    StableHlo.after hostOps0_4 U (Proc.devRef .tc main_v79) = h_v79 A0 A1 := by
  after_results
  rw [e_main_v28]
  unfold h_v79 h_v78 h_v77
  rfl
theorem s4_main_v82 (e_main_v29 : U (Proc.devRef .tc main_v29) = h_v29 A3) (e_main_v24 : U (Proc.devRef .tc main_v24) = h_v24 A0 A1 A2) :
    StableHlo.after hostOps0_4 U (Proc.devRef .tc main_v82) = h_v82 A0 A1 A2 A3 := by
  after_results
  rw [e_main_v29, e_main_v24]
  unfold h_v82 h_v81 h_v80 h_v33 h_v32 h_v31 h_v30 h_cst_4
  rfl
end

variable (m : (ℓ : Loc nD τ sig) → Buf (Elt Ideal) ℓ)

/-- The buffers' contents after the first lines, the first two stretches of them, and so on. -/
def U0 (c : Dev nD) : Valuation τ sig (Elt Ideal) := fun b => m (c, b)
def U1 (c : Dev nD) : Valuation τ sig (Elt Ideal) := StableHlo.after hostOps0 (U0 m c)
def U2 (c : Dev nD) : Valuation τ sig (Elt Ideal) := StableHlo.after hostOps0_1 (U1 m c)
def U3 (c : Dev nD) : Valuation τ sig (Elt Ideal) := StableHlo.after hostOps0_2 (U2 m c)
def U4 (c : Dev nD) : Valuation τ sig (Elt Ideal) := StableHlo.after hostOps0_3 (U3 m c)
def U5 (c : Dev nD) : Valuation τ sig (Elt Ideal) := StableHlo.after hostOps0_4 (U4 m c)
theorem u0_main_arg0 (c : Dev nD) : U0 m c (Proc.devRef .tc main_arg0) = (m ((c.tc : Thread nD τ).loc main_arg0)) := rfl
theorem u0_main_arg1 (c : Dev nD) : U0 m c (Proc.devRef .tc main_arg1) = (m ((c.tc : Thread nD τ).loc main_arg1)) := rfl
theorem u0_main_arg2 (c : Dev nD) : U0 m c (Proc.devRef .tc main_arg2) = (m ((c.tc : Thread nD τ).loc main_arg2)) := rfl
theorem u0_main_arg3 (c : Dev nD) : U0 m c (Proc.devRef .tc main_arg3) = (m ((c.tc : Thread nD τ).loc main_arg3)) := rfl
theorem u1_main_arg0 (c : Dev nD) : U1 m c (Proc.devRef .tc main_arg0) = (m ((c.tc : Thread nD τ).loc main_arg0)) :=
  (s0_main_arg0 _).trans (u0_main_arg0 m c)
theorem u1_main_arg1 (c : Dev nD) : U1 m c (Proc.devRef .tc main_arg1) = (m ((c.tc : Thread nD τ).loc main_arg1)) :=
  (s0_main_arg1 _).trans (u0_main_arg1 m c)
theorem u1_main_arg2 (c : Dev nD) : U1 m c (Proc.devRef .tc main_arg2) = (m ((c.tc : Thread nD τ).loc main_arg2)) :=
  (s0_main_arg2 _).trans (u0_main_arg2 m c)
theorem u1_main_arg3 (c : Dev nD) : U1 m c (Proc.devRef .tc main_arg3) = (m ((c.tc : Thread nD τ).loc main_arg3)) :=
  (s0_main_arg3 _).trans (u0_main_arg3 m c)
theorem u1_main_c (c : Dev nD) : U1 m c (Proc.devRef .tc main_c) = h_c :=
  s0_main_c _
theorem u1_main_v0 (c : Dev nD) : U1 m c (Proc.devRef .tc main_v0) = h_v0 :=
  s0_main_v0 _
theorem u1_main_v1 (c : Dev nD) : U1 m c (Proc.devRef .tc main_v1) = h_v1 :=
  s0_main_v1 _
theorem u1_main_v5 (c : Dev nD) : U1 m c (Proc.devRef .tc main_v5) = h_v5 (m ((c.tc : Thread nD τ).loc main_arg0)) :=
  s0_main_v5 (U := U0 m c) (e_main_arg0 := u0_main_arg0 m c)
theorem u2_main_arg0 (c : Dev nD) : U2 m c (Proc.devRef .tc main_arg0) = (m ((c.tc : Thread nD τ).loc main_arg0)) :=
  (s1_main_arg0 _).trans (u1_main_arg0 m c)
theorem u2_main_arg1 (c : Dev nD) : U2 m c (Proc.devRef .tc main_arg1) = (m ((c.tc : Thread nD τ).loc main_arg1)) :=
  (s1_main_arg1 _).trans (u1_main_arg1 m c)
theorem u2_main_arg2 (c : Dev nD) : U2 m c (Proc.devRef .tc main_arg2) = (m ((c.tc : Thread nD τ).loc main_arg2)) :=
  (s1_main_arg2 _).trans (u1_main_arg2 m c)
theorem u2_main_arg3 (c : Dev nD) : U2 m c (Proc.devRef .tc main_arg3) = (m ((c.tc : Thread nD τ).loc main_arg3)) :=
  (s1_main_arg3 _).trans (u1_main_arg3 m c)
theorem u2_main_v0 (c : Dev nD) : U2 m c (Proc.devRef .tc main_v0) = h_v0 :=
  (s1_main_v0 _).trans (u1_main_v0 m c)
theorem u2_main_v1 (c : Dev nD) : U2 m c (Proc.devRef .tc main_v1) = h_v1 :=
  (s1_main_v1 _).trans (u1_main_v1 m c)
theorem u2_main_v6 (c : Dev nD) : U2 m c (Proc.devRef .tc main_v6) = h_v6 (m ((c.tc : Thread nD τ).loc main_arg0)) :=
  s1_main_v6 (U := U1 m c) (e_main_v5 := u1_main_v5 m c) (e_main_c := u1_main_c m c)
theorem u3_main_arg0 (c : Dev nD) : U3 m c (Proc.devRef .tc main_arg0) = (m ((c.tc : Thread nD τ).loc main_arg0)) :=
  (s2_main_arg0 _).trans (u2_main_arg0 m c)
theorem u3_main_arg1 (c : Dev nD) : U3 m c (Proc.devRef .tc main_arg1) = (m ((c.tc : Thread nD τ).loc main_arg1)) :=
  (s2_main_arg1 _).trans (u2_main_arg1 m c)
theorem u3_main_arg2 (c : Dev nD) : U3 m c (Proc.devRef .tc main_arg2) = (m ((c.tc : Thread nD τ).loc main_arg2)) :=
  (s2_main_arg2 _).trans (u2_main_arg2 m c)
theorem u3_main_arg3 (c : Dev nD) : U3 m c (Proc.devRef .tc main_arg3) = (m ((c.tc : Thread nD τ).loc main_arg3)) :=
  (s2_main_arg3 _).trans (u2_main_arg3 m c)
theorem u3_main_c_3 (c : Dev nD) : U3 m c (Proc.devRef .tc main_c_3) = h_c_3 :=
  s2_main_c_3 _
theorem u3_main_v0 (c : Dev nD) : U3 m c (Proc.devRef .tc main_v0) = h_v0 :=
  (s2_main_v0 _).trans (u2_main_v0 m c)
theorem u3_main_v1 (c : Dev nD) : U3 m c (Proc.devRef .tc main_v1) = h_v1 :=
  (s2_main_v1 _).trans (u2_main_v1 m c)
theorem u3_main_v24 (c : Dev nD) : U3 m c (Proc.devRef .tc main_v24) = h_v24 (m ((c.tc : Thread nD τ).loc main_arg0)) (m ((c.tc : Thread nD τ).loc main_arg1)) (m ((c.tc : Thread nD τ).loc main_arg2)) :=
  s2_main_v24 (U := U2 m c) (e_main_v6 := u2_main_v6 m c) (e_main_arg1 := u2_main_arg1 m c) (e_main_v0 := u2_main_v0 m c) (e_main_arg2 := u2_main_arg2 m c)
theorem u3_main_v28 (c : Dev nD) : U3 m c (Proc.devRef .tc main_v28) = h_v28 (m ((c.tc : Thread nD τ).loc main_arg0)) (m ((c.tc : Thread nD τ).loc main_arg1)) :=
  s2_main_v28 (U := U2 m c) (e_main_v6 := u2_main_v6 m c) (e_main_arg1 := u2_main_arg1 m c) (e_main_v0 := u2_main_v0 m c)
theorem u4_main_arg0 (c : Dev nD) : U4 m c (Proc.devRef .tc main_arg0) = (m ((c.tc : Thread nD τ).loc main_arg0)) :=
  (s3_main_arg0 _).trans (u3_main_arg0 m c)
theorem u4_main_arg1 (c : Dev nD) : U4 m c (Proc.devRef .tc main_arg1) = (m ((c.tc : Thread nD τ).loc main_arg1)) :=
  (s3_main_arg1 _).trans (u3_main_arg1 m c)
theorem u4_main_arg2 (c : Dev nD) : U4 m c (Proc.devRef .tc main_arg2) = (m ((c.tc : Thread nD τ).loc main_arg2)) :=
  (s3_main_arg2 _).trans (u3_main_arg2 m c)
theorem u4_main_arg3 (c : Dev nD) : U4 m c (Proc.devRef .tc main_arg3) = (m ((c.tc : Thread nD τ).loc main_arg3)) :=
  (s3_main_arg3 _).trans (u3_main_arg3 m c)
theorem u4_main_v0 (c : Dev nD) : U4 m c (Proc.devRef .tc main_v0) = h_v0 :=
  (s3_main_v0 _).trans (u3_main_v0 m c)
theorem u4_main_v1 (c : Dev nD) : U4 m c (Proc.devRef .tc main_v1) = h_v1 :=
  (s3_main_v1 _).trans (u3_main_v1 m c)
theorem u4_main_v24 (c : Dev nD) : U4 m c (Proc.devRef .tc main_v24) = h_v24 (m ((c.tc : Thread nD τ).loc main_arg0)) (m ((c.tc : Thread nD τ).loc main_arg1)) (m ((c.tc : Thread nD τ).loc main_arg2)) :=
  (s3_main_v24 _).trans (u3_main_v24 m c)
theorem u4_main_v28 (c : Dev nD) : U4 m c (Proc.devRef .tc main_v28) = h_v28 (m ((c.tc : Thread nD τ).loc main_arg0)) (m ((c.tc : Thread nD τ).loc main_arg1)) :=
  (s3_main_v28 _).trans (u3_main_v28 m c)
theorem u4_main_v29 (c : Dev nD) : U4 m c (Proc.devRef .tc main_v29) = h_v29 (m ((c.tc : Thread nD τ).loc main_arg3)) :=
  s3_main_v29 (U := U3 m c) (e_main_arg3 := u3_main_arg3 m c) (e_main_c_3 := u3_main_c_3 m c)
theorem u5_main_v0 (c : Dev nD) : U5 m c (Proc.devRef .tc main_v0) = h_v0 :=
  (s4_main_v0 _).trans (u4_main_v0 m c)
theorem u5_main_v1 (c : Dev nD) : U5 m c (Proc.devRef .tc main_v1) = h_v1 :=
  (s4_main_v1 _).trans (u4_main_v1 m c)
theorem u5_main_v65 (c : Dev nD) : U5 m c (Proc.devRef .tc main_v65) = h_v65 (m ((c.tc : Thread nD τ).loc main_arg0)) :=
  s4_main_v65 (U := U4 m c) (e_main_arg0 := u4_main_arg0 m c) (e_main_v0 := u4_main_v0 m c) (e_main_v1 := u4_main_v1 m c)
theorem u5_main_v66 (c : Dev nD) : U5 m c (Proc.devRef .tc main_v66) = h_v66 (m ((c.tc : Thread nD τ).loc main_arg1)) :=
  s4_main_v66 (U := U4 m c) (e_main_arg1 := u4_main_arg1 m c)
theorem u5_main_v67 (c : Dev nD) : U5 m c (Proc.devRef .tc main_v67) = h_v67 (m ((c.tc : Thread nD τ).loc main_arg1)) :=
  s4_main_v67 (U := U4 m c) (e_main_arg1 := u4_main_arg1 m c)
theorem u5_main_v68 (c : Dev nD) : U5 m c (Proc.devRef .tc main_v68) = h_v68 (m ((c.tc : Thread nD τ).loc main_arg2)) :=
  s4_main_v68 (U := U4 m c) (e_main_arg2 := u4_main_arg2 m c)
theorem u5_main_v76 (c : Dev nD) : U5 m c (Proc.devRef .tc main_v76) = h_v76 (m ((c.tc : Thread nD τ).loc main_arg3)) :=
  s4_main_v76 (U := U4 m c) (e_main_arg3 := u4_main_arg3 m c)
theorem u5_main_v79 (c : Dev nD) : U5 m c (Proc.devRef .tc main_v79) = h_v79 (m ((c.tc : Thread nD τ).loc main_arg0)) (m ((c.tc : Thread nD τ).loc main_arg1)) :=
  s4_main_v79 (U := U4 m c) (e_main_v28 := u4_main_v28 m c)
theorem u5_main_v82 (c : Dev nD) : U5 m c (Proc.devRef .tc main_v82) = h_v82 (m ((c.tc : Thread nD τ).loc main_arg0)) (m ((c.tc : Thread nD τ).loc main_arg1)) (m ((c.tc : Thread nD τ).loc main_arg2)) (m ((c.tc : Thread nD τ).loc main_arg3)) :=
  s4_main_v82 (U := U4 m c) (e_main_v29 := u4_main_v29 m c) (e_main_v24 := u4_main_v24 m c)
theorem V_eq (c : Dev nD) : V0 m c = U5 m c := by
  unfold U5 U4 U3 U2 U1
  show StableHlo.after (hostOps0 ++ (hostOps0_1 ++ (hostOps0_2 ++ (hostOps0_3 ++ (hostOps0_4 ++ []))))) (U0 m c) = _
  rw [List.append_nil, StableHlo.after_append, StableHlo.after_append, StableHlo.after_append, StableHlo.after_append]
theorem entry_v0 (c : Dev nD) : V m c main_v0 = h_v0 :=
  (congrFun (V_eq m c) (Proc.devRef .tc main_v0)).trans (u5_main_v0 m c)
theorem entry_v1 (c : Dev nD) : V m c main_v1 = h_v1 :=
  (congrFun (V_eq m c) (Proc.devRef .tc main_v1)).trans (u5_main_v1 m c)
theorem entry_v65 (c : Dev nD) : V m c main_v65 = h_v65 (m ((c.tc : Thread nD τ).loc main_arg0)) :=
  (congrFun (V_eq m c) (Proc.devRef .tc main_v65)).trans (u5_main_v65 m c)
theorem entry_v66 (c : Dev nD) : V m c main_v66 = h_v66 (m ((c.tc : Thread nD τ).loc main_arg1)) :=
  (congrFun (V_eq m c) (Proc.devRef .tc main_v66)).trans (u5_main_v66 m c)
theorem entry_v67 (c : Dev nD) : V m c main_v67 = h_v67 (m ((c.tc : Thread nD τ).loc main_arg1)) :=
  (congrFun (V_eq m c) (Proc.devRef .tc main_v67)).trans (u5_main_v67 m c)
theorem entry_v68 (c : Dev nD) : V m c main_v68 = h_v68 (m ((c.tc : Thread nD τ).loc main_arg2)) :=
  (congrFun (V_eq m c) (Proc.devRef .tc main_v68)).trans (u5_main_v68 m c)
theorem entry_v76 (c : Dev nD) : V m c main_v76 = h_v76 (m ((c.tc : Thread nD τ).loc main_arg3)) :=
  (congrFun (V_eq m c) (Proc.devRef .tc main_v76)).trans (u5_main_v76 m c)
theorem entry_v79 (c : Dev nD) : V m c main_v79 = h_v79 (m ((c.tc : Thread nD τ).loc main_arg0)) (m ((c.tc : Thread nD τ).loc main_arg1)) :=
  (congrFun (V_eq m c) (Proc.devRef .tc main_v79)).trans (u5_main_v79 m c)
theorem entry_v82 (c : Dev nD) : V m c main_v82 = h_v82 (m ((c.tc : Thread nD τ).loc main_arg0)) (m ((c.tc : Thread nD τ).loc main_arg1)) (m ((c.tc : Thread nD τ).loc main_arg2)) (m ((c.tc : Thread nD τ).loc main_arg3)) :=
  (congrFun (V_eq m c) (Proc.devRef .tc main_v82)).trans (u5_main_v82 m c)

end Cert.AttnHost
-- ==== Proof.Attn.Run.lean ====
/-
  The attention's gradient call: its results are the reference's gradients.
-/
module

public import proofs.«01_k».proof.Defs
public import proofs.«01_k».proof.Proof.Attn.Equation
public import proofs.«01_k».proof.Proof.Attn.Region
public import proofs.«01_k».proof.Proof.Attn.Pre
public import proofs.«01_k».proof.Proof.Attn.Entries

@[expose] public section

set_option maxRecDepth 16384

noncomputable section

open Idealize.ShloMosaic Idealize.ShloMosaic.TcCoe Idealize.SL.Sem

namespace Cert.AttnHost

open Cert.AttnIdeal Cert.AttnIdeal.Gen Cert.AttnValue

variable (m : (ℓ : Loc nD τ sig) → Buf (Elt Ideal) ℓ)

/-- The host lines after the region, at result `main_v93`. -/
theorem tail_v93 (U : Valuation τ sig (Elt Ideal)) (e : U (Proc.devRef .tc main_v1) = h_v1) :
    StableHlo.after hostOps1 U (Proc.devRef .tc main_v93) = tailQ (U (Proc.devRef .tc main_v83_0)) := by
  after_results
  rw [e]
  unfold tailQ
  rfl

/-- The host lines after the region, at result `main_v103`. -/
theorem tail_v103 (U : Valuation τ sig (Elt Ideal)) (e : U (Proc.devRef .tc main_v0) = h_v0) :
    StableHlo.after hostOps1 U (Proc.devRef .tc main_v103) = tailK (U (Proc.devRef .tc main_v83_1)) := by
  after_results
  rw [e]
  unfold tailK
  rfl

/-- The host lines after the region, at result `main_v111`. -/
theorem tail_v111 (U : Valuation τ sig (Elt Ideal)) :
    StableHlo.after hostOps1 U (Proc.devRef .tc main_v111) = tailV (U (Proc.devRef .tc main_v83_2)) := by
  after_results
  unfold tailV
  rfl

/-- Result `main_v93` of the program in terms of its arguments. -/
theorem res_v93 (c : Dev nD) : Pipeline.afterTail₀ cfgs (dats m) 0 (V0 m) [hostOps1] c main_v93
    = tailQ (dqArr (h_v65 (m ((c.tc : Thread nD τ).loc main_arg0))) (h_v66 (m ((c.tc : Thread nD τ).loc main_arg1))) (h_v67 (m ((c.tc : Thread nD τ).loc main_arg1))) (h_v68 (m ((c.tc : Thread nD τ).loc main_arg2))) (h_v76 (m ((c.tc : Thread nD τ).loc main_arg3))) (h_v79 (m ((c.tc : Thread nD τ).loc main_arg0)) (m ((c.tc : Thread nD τ).loc main_arg1))) (h_v82 (m ((c.tc : Thread nD τ).loc main_arg0)) (m ((c.tc : Thread nD τ).loc main_arg1)) (m ((c.tc : Thread nD τ).loc main_arg2)) (m ((c.tc : Thread nD τ).loc main_arg3)))) := by
  rw [← final7 m c _ _ _ _ _ _ _ (entry_v65 m c) (entry_v66 m c) (entry_v67 m c) (entry_v68 m c) (entry_v76 m c) (entry_v79 m c) (entry_v82 m c)]
  unfold Pipeline.afterTail₀
  simp only [List.flatten_cons, List.flatten_nil, List.append_nil]
  refine (tail_v93 _ ((Pipeline.withArrays_of_ne _ c (V0 m c) _ main_v1 (by decide)).trans (entry_v1 m c))).trans (congrArg tailQ ?_)
  exact Pipeline.withArrays_arr _ launch0.win.arr_inj c (V0 m c) _ 7

/-- Result `main_v103` of the program in terms of its arguments. -/
theorem res_v103 (c : Dev nD) : Pipeline.afterTail₀ cfgs (dats m) 0 (V0 m) [hostOps1] c main_v103
    = tailK (dkArr (h_v65 (m ((c.tc : Thread nD τ).loc main_arg0))) (h_v66 (m ((c.tc : Thread nD τ).loc main_arg1))) (h_v68 (m ((c.tc : Thread nD τ).loc main_arg2))) (h_v76 (m ((c.tc : Thread nD τ).loc main_arg3))) (h_v79 (m ((c.tc : Thread nD τ).loc main_arg0)) (m ((c.tc : Thread nD τ).loc main_arg1))) (h_v82 (m ((c.tc : Thread nD τ).loc main_arg0)) (m ((c.tc : Thread nD τ).loc main_arg1)) (m ((c.tc : Thread nD τ).loc main_arg2)) (m ((c.tc : Thread nD τ).loc main_arg3)))) := by
  rw [← final8 m c _ _ _ _ _ _ (entry_v65 m c) (entry_v66 m c) (entry_v68 m c) (entry_v76 m c) (entry_v79 m c) (entry_v82 m c)]
  unfold Pipeline.afterTail₀
  simp only [List.flatten_cons, List.flatten_nil, List.append_nil]
  refine (tail_v103 _ ((Pipeline.withArrays_of_ne _ c (V0 m c) _ main_v0 (by decide)).trans (entry_v0 m c))).trans (congrArg tailK ?_)
  exact Pipeline.withArrays_arr _ launch0.win.arr_inj c (V0 m c) _ 8

/-- Result `main_v111` of the program in terms of its arguments. -/
theorem res_v111 (c : Dev nD) : Pipeline.afterTail₀ cfgs (dats m) 0 (V0 m) [hostOps1] c main_v111
    = tailV (dvArr (h_v65 (m ((c.tc : Thread nD τ).loc main_arg0))) (h_v66 (m ((c.tc : Thread nD τ).loc main_arg1))) (h_v76 (m ((c.tc : Thread nD τ).loc main_arg3))) (h_v79 (m ((c.tc : Thread nD τ).loc main_arg0)) (m ((c.tc : Thread nD τ).loc main_arg1)))) := by
  rw [← final9 m c _ _ _ _ (entry_v65 m c) (entry_v66 m c) (entry_v76 m c) (entry_v79 m c)]
  unfold Pipeline.afterTail₀
  simp only [List.flatten_cons, List.flatten_nil, List.append_nil]
  refine (tail_v111 _).trans (congrArg tailV ?_)
  exact Pipeline.withArrays_arr _ launch0.win.arr_inj c (V0 m c) _ 9

/-- The kernel and the reference end with the same three gradients. -/
theorem claim : Cert.algebraic_AttnIdeal_AttnRefIdeal_pre_attn_finite (hAttnIdeal := Cert.AttnIdeal.Gen.facts)
    (hAttnRefIdeal := Cert.AttnRefIdeal.Gen.facts) (hPre_attn_finite := Cert.Pre_attn_finite.Gen.facts) := by
  pair_intro
  · run_from Cert.AttnIdeal.Gen.run_main m g
    · exact W_main_arg0 m (dats m) c
    · exact W_main_arg1 m (dats m) c
    · exact W_main_arg2 m (dats m) c
    · exact W_main_arg3 m (dats m) c
  · refine (θ_run _ _ _).mono (fun r h c => ?_) (Cert.AttnRefIdeal.Value.run m' g')
    obtain ⟨r0, r1, r2, k0, k1, k2, k3⟩ := h c
    obtain ⟨x0, x1, x2, x3⟩ := hagree c
    obtain ⟨a0, a1, a2, a3, h0, h1, h2, h3⟩ := of_pre _ _ _ _ (hpre c)
    obtain ⟨q0, q1, q2⟩ := results_eq _ _ _ _ a0 a1 a2 a3 h0 h1 h2 h3
    rw [Cert.AttnRefIdeal.Read.val_main_v55_eq, x0, x1, x2, x3] at r0
    rw [Cert.AttnRefIdeal.Read.val_main_v54_eq, x0, x1, x2, x3] at r1
    rw [Cert.AttnRefIdeal.Read.val_main_v38_eq, x0, x1, x3] at r2
    exact ⟨r0.trans (q0.symm.trans (res_v93 m c).symm), r1.trans (q1.symm.trans (res_v103 m c).symm),
      r2.trans (q2.symm.trans (res_v111 m c).symm), k0, k1, k2, k3⟩

end Cert.AttnHost
-- ==== Proof.Post.Block.lean ====
/-
  What one grid point of the gradient after the recurrence leaves in its six outputs, as the body's own expressions.
-/
module

public import proofs.«01_k».proof.Proof.Gen.PostIdeal.Frame
public import Idealize.ShloMosaic.Lib.Pipeline.ValueKit

@[expose] public section

set_option maxRecDepth 16384

noncomputable section

open Idealize.ShloMosaic Idealize.ShloMosaic.TcCoe Idealize.SL.Sem

namespace Cert.PostValue

open Cert.PostIdeal Cert.PostIdeal.Gen

variable {F : FTy → Type} [FloatOps F] [Named F]

section
variable (c : Dev nD) (i : grid0.Coords) (arg1 : Memref sig .tc .vmem S640x512 .f32) (harg1 : arg1.IsWhole) (arg2 : Memref sig .tc .vmem S640x1024 .f32) (harg2 : arg2.IsWhole) (arg3 : Memref sig .tc .vmem S640x512 .f32) (harg3 : arg3.IsWhole) (arg4 : Memref sig .tc .vmem S640x512 .f32) (harg4 : arg4.IsWhole) (arg5 : Memref sig .tc .vmem S640x512 .f32) (harg5 : arg5.IsWhole) (arg6 : Memref sig .tc .vmem S512x1024 .bf16) (harg6 : arg6.IsWhole) (arg7 : Memref sig .tc .vmem S1x512 .f32) (harg7 : arg7.IsWhole) (arg8 : Memref sig .tc .vmem S1x512 .f32) (harg8 : arg8.IsWhole) (arg9 : Memref sig .tc .vmem S640x512 .f32) (harg9 : arg9.IsWhole) (arg10 : Memref sig .tc .vmem S640x512 .f32) (harg10 : arg10.IsWhole) (arg11 : Memref sig .tc .vmem S512x1024 .f32) (harg11 : arg11.IsWhole) (arg12 : Memref sig .tc .vmem S1x1024 .f32) (harg12 : arg12.IsWhole) (arg13 : Memref sig .tc .vmem S1x512 .f32) (harg13 : arg13.IsWhole) (arg14 : Memref sig .tc .vmem S1x512 .f32) (harg14 : arg14.IsWhole) (hc0 : cond0_0 i) (hc1 : ¬cond0_1 i) (hc2 : cond0_2 i) (hc3 : ¬cond0_3 i) (hc4 : cond0_4 i) (hc5 : ¬cond0_5 i) (hc6 : cond0_6 i) (hc7 : ¬cond0_7 i)
  (x0 : Vec F S640x512 .f32) (x1 : Vec F S640x1024 .f32) (x2 : Vec F S640x512 .f32) (x3 : Vec F S640x512 .f32) (x4 : Vec F S640x512 .f32) (x5 : Vec F S512x1024 .bf16) (x6 : Vec F S1x512 .f32) (x7 : Vec F S1x512 .f32)

theorem outA_8 : out0_A_8 c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 hc4 hc5 hc6 hc7 x0 x1 x2 x3 x4 x5 x6 x7
    = k0_pay2 (k0_pay21 (k0_pay6 x1) (k0_pay7 x1) (k0_pay11 x2) (k0_pay13 x1 x2) (k0_pay14 x0) (k0_pay15 x1 x2) x6) (k0_pay27 x3) x5 := by
  frame_out

theorem outA_9 : out0_A_9 c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 hc4 hc5 hc6 hc7 x0 x1 x2 x3 x4 x5 x6 x7
    = k0_pay20 (k0_pay8 x1) (k0_pay12 x2) (k0_pay13 x1 x2) (k0_pay14 x0) (k0_pay15 x1 x2) x6 := by
  frame_out

theorem outA_10 : out0_A_10 c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 hc4 hc5 hc6 hc7 x0 x1 x2 x3 x4 x5 x6 x7
    = k0_pay28 (k0_pay21 (k0_pay6 x1) (k0_pay7 x1) (k0_pay11 x2) (k0_pay13 x1 x2) (k0_pay14 x0) (k0_pay15 x1 x2) x6) x3 := by
  frame_out

theorem outA_11 : out0_A_11 c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 hc4 hc5 hc6 hc7 x0 x1 x2 x3 x4 x5 x6 x7
    = k0_pay22 (k0_pay6 x1) (k0_pay7 x1) (k0_pay11 x2) (k0_pay13 x1 x2) (k0_pay14 x0) (k0_pay15 x1 x2) x6 := by
  frame_out

theorem outA_12 : out0_A_12 c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 hc4 hc5 hc6 hc7 x0 x1 x2 x3 x4 x5 x6 x7
    = k0_pay18 (k0_pay13 x1 x2) (k0_pay14 x0) (k0_pay15 x1 x2) := by
  frame_out

theorem outA_13 : out0_A_13 c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 hc4 hc5 hc6 hc7 x0 x1 x2 x3 x4 x5 x6 x7
    = k0_pay3 (k0_pay21 (k0_pay6 x1) (k0_pay7 x1) (k0_pay11 x2) (k0_pay13 x1 x2) (k0_pay14 x0) (k0_pay15 x1 x2) x6) (k0_pay27 x3) x5 x4 := by
  frame_out

end

section
variable (c : Dev nD) (i : grid0.Coords) (arg1 : Memref sig .tc .vmem S640x512 .f32) (harg1 : arg1.IsWhole) (arg2 : Memref sig .tc .vmem S640x1024 .f32) (harg2 : arg2.IsWhole) (arg3 : Memref sig .tc .vmem S640x512 .f32) (harg3 : arg3.IsWhole) (arg4 : Memref sig .tc .vmem S640x512 .f32) (harg4 : arg4.IsWhole) (arg5 : Memref sig .tc .vmem S640x512 .f32) (harg5 : arg5.IsWhole) (arg6 : Memref sig .tc .vmem S512x1024 .bf16) (harg6 : arg6.IsWhole) (arg7 : Memref sig .tc .vmem S1x512 .f32) (harg7 : arg7.IsWhole) (arg8 : Memref sig .tc .vmem S1x512 .f32) (harg8 : arg8.IsWhole) (arg9 : Memref sig .tc .vmem S640x512 .f32) (harg9 : arg9.IsWhole) (arg10 : Memref sig .tc .vmem S640x512 .f32) (harg10 : arg10.IsWhole) (arg11 : Memref sig .tc .vmem S512x1024 .f32) (harg11 : arg11.IsWhole) (arg12 : Memref sig .tc .vmem S1x1024 .f32) (harg12 : arg12.IsWhole) (arg13 : Memref sig .tc .vmem S1x512 .f32) (harg13 : arg13.IsWhole) (arg14 : Memref sig .tc .vmem S1x512 .f32) (harg14 : arg14.IsWhole) (hc0 : ¬cond0_0 i) (hc1 : cond0_1 i) (hc2 : ¬cond0_2 i) (hc3 : cond0_3 i) (hc4 : ¬cond0_4 i) (hc5 : cond0_5 i) (hc6 : ¬cond0_6 i) (hc7 : cond0_7 i)
  (x0 : Vec F S640x512 .f32) (x1 : Vec F S640x1024 .f32) (x2 : Vec F S640x512 .f32) (x3 : Vec F S640x512 .f32) (x4 : Vec F S640x512 .f32) (x5 : Vec F S512x1024 .bf16) (x6 : Vec F S1x512 .f32) (x7 : Vec F S1x512 .f32) (xo10 : Vec F S512x1024 .f32) (xo11 : Vec F S1x1024 .f32) (xo12 : Vec F S1x512 .f32) (xo13 : Vec F S1x512 .f32)

theorem outB_8 : out0_B_8 c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 hc4 hc5 hc6 hc7 x0 x1 x2 x3 x4 x5 x6 x7 xo10 xo11 xo12 xo13
    = k0_pay2 (k0_pay21 (k0_pay6 x1) (k0_pay7 x1) (k0_pay11 x2) (k0_pay13 x1 x2) (k0_pay14 x0) (k0_pay15 x1 x2) x6) (k0_pay27 x3) x5 := by
  frame_out

theorem outB_9 : out0_B_9 c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 hc4 hc5 hc6 hc7 x0 x1 x2 x3 x4 x5 x6 x7 xo10 xo11 xo12 xo13
    = k0_pay20 (k0_pay8 x1) (k0_pay12 x2) (k0_pay13 x1 x2) (k0_pay14 x0) (k0_pay15 x1 x2) x6 := by
  frame_out

theorem outB_10 : out0_B_10 c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 hc4 hc5 hc6 hc7 x0 x1 x2 x3 x4 x5 x6 x7 xo10 xo11 xo12 xo13
    = k0_pay1 (k0_pay28 (k0_pay21 (k0_pay6 x1) (k0_pay7 x1) (k0_pay11 x2) (k0_pay13 x1 x2) (k0_pay14 x0) (k0_pay15 x1 x2) x6) x3) xo10 := by
  frame_out

theorem outB_11 : out0_B_11 c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 hc4 hc5 hc6 hc7 x0 x1 x2 x3 x4 x5 x6 x7 xo10 xo11 xo12 xo13
    = k0_pay23 (k0_pay22 (k0_pay6 x1) (k0_pay7 x1) (k0_pay11 x2) (k0_pay13 x1 x2) (k0_pay14 x0) (k0_pay15 x1 x2) x6) xo11 := by
  frame_out

theorem outB_12 : out0_B_12 c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 hc4 hc5 hc6 hc7 x0 x1 x2 x3 x4 x5 x6 x7 xo10 xo11 xo12 xo13
    = k0_pay19 (k0_pay13 x1 x2) (k0_pay14 x0) (k0_pay15 x1 x2) xo12 := by
  frame_out

theorem outB_13 : out0_B_13 c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 hc4 hc5 hc6 hc7 x0 x1 x2 x3 x4 x5 x6 x7 xo10 xo11 xo12 xo13
    = k0_pay4 (k0_pay21 (k0_pay6 x1) (k0_pay7 x1) (k0_pay11 x2) (k0_pay13 x1 x2) (k0_pay14 x0) (k0_pay15 x1 x2) x6) (k0_pay27 x3) x5 x4 xo13 := by
  frame_out

end

end Cert.PostValue
-- ==== Proof.Norm.lean ====
/-
  The gradient of a root-mean-square norm, one row at a time: the form the step writes by hand and the form the
  derivative of the norm's lines has are the same on finite rows.
-/
module

public import proofs.«01_k».proof.Proof.RealLift
public import Mathlib.Tactic.FieldSimp
public import Mathlib.Tactic.LinearCombination

@[expose] public section

noncomputable section

open Idealize.ShloMosaic

namespace Cert.Norm

/-- The norm's small constant is a positive real. -/
theorem eps_real : ∃ e : ℝ, 0 < e ∧ Ideal.ofBits FTy.f32 897988541#32 = ((e : ℝ) : EReal) := by
  refine ⟨8796093 * (2 ^ 43)⁻¹, by positivity, ?_⟩
  simp only [Ideal.ofBits, Ideal.ieee]; simp

theorem neg_half : Ideal.ofBits FTy.f32 3204448256#32 = ((-1 / 2 : ℝ) : EReal) := by
  simp only [Ideal.ofBits, Ideal.ieee]; simp; rw [← EReal.coe_mul, ← EReal.coe_neg]; norm_num

theorem n1024 : Ideal.ofBits FTy.f32 1149239296#32 = ((1024 : ℝ) : EReal) := by
  simp only [Ideal.ofBits, Ideal.ieee]; simp; rw [← EReal.coe_mul]; norm_num

theorem n512 : Ideal.ofBits FTy.f32 1140850688#32 = ((512 : ℝ) : EReal) := by
  simp only [Ideal.ofBits, Ideal.ieee]; simp; rw [← EReal.coe_mul]; norm_num

section
variable {n : ℕ} (x g : Fin n → ℝ) (N e : ℝ) (hN : 0 < N) (he : 0 < e)

/-- A row's mean square and the small constant. -/
def ms (X : Fin n → EReal) (N e : EReal) : EReal := Ideal.div (∑ k, X k * X k) N + e

/-- That sum, of a row of reals. -/
def msR : ℝ := (∑ k, x k * x k) / N + e

include hN he in
theorem msR_pos : 0 < msR x N e :=
  add_pos_of_nonneg_of_pos (div_nonneg (Finset.sum_nonneg fun k _ => mul_self_nonneg _) hN.le) he

include hN in
theorem ms_real : ms (fun k => ((x k : ℝ) : EReal)) N e = ((msR x N e : ℝ) : EReal) := by
  unfold ms msR
  simp only [← EReal.coe_mul, RealLift.sum_real, RealLift.div_real _ hN.ne', ← EReal.coe_add]

include hN he in
theorem inv_real : Ideal.rsqrt (ms (fun k => ((x k : ℝ) : EReal)) N e) = (((Real.sqrt (msR x N e))⁻¹ : ℝ) : EReal) := by
  have h := msR_pos x N e hN he
  rw [ms_real x N e hN, Ideal.rsqrt_coe, if_neg (not_lt.mpr h.le), if_neg h.ne']

include hN he in
/-- The row's gradient: the hand-written form and the derivative's. -/
theorem dx_eq (c : ℝ) (d : Fin n) :
    (c : EReal) + Ideal.rsqrt (ms (fun k => ((x k : ℝ) : EReal)) N e) * ((g d : EReal)
        - (x d : EReal) * Ideal.rsqrt (ms (fun k => ((x k : ℝ) : EReal)) N e)
          * Ideal.div (∑ k, (g k : EReal) * ((x k : EReal) * Ideal.rsqrt (ms (fun k => ((x k : ℝ) : EReal)) N e))) (N : EReal))
      = (c : EReal) + (g d : EReal) * Ideal.rsqrt (ms (fun k => ((x k : ℝ) : EReal)) N e)
        + (x d : EReal) * ∑ _k : Fin 1, Ideal.div ((∑ k, (x k : EReal) * (g k : EReal)) * (((-1 / 2 : ℝ) : EReal)
            * Ideal.div (Ideal.rsqrt (ms (fun k => ((x k : ℝ) : EReal)) N e)) (ms (fun k => ((x k : ℝ) : EReal)) N e))) (N : EReal)
        + (∑ _k : Fin 1, Ideal.div ((∑ k, (x k : EReal) * (g k : EReal)) * (((-1 / 2 : ℝ) : EReal)
            * Ideal.div (Ideal.rsqrt (ms (fun k => ((x k : ℝ) : EReal)) N e)) (ms (fun k => ((x k : ℝ) : EReal)) N e))) (N : EReal)) * (x d : EReal) := by
  have h := msR_pos x N e hN he
  rw [inv_real x N e hN he, ms_real x N e hN]
  have hq : (Real.sqrt (msR x N e))⁻¹ * (Real.sqrt (msR x N e))⁻¹ * msR x N e = 1 := by
    have hs := Real.mul_self_sqrt h.le
    have hp := (Real.sqrt_pos.mpr h).ne'
    field_simp
    nlinarith
  generalize (Real.sqrt (msR x N e))⁻¹ = q at *
  generalize msR x N e = v at *
  have hv := h.ne'
  simp only [← EReal.coe_mul, RealLift.sum_real, RealLift.div_real _ hN.ne', RealLift.div_real _ hv, ← EReal.coe_add, ← EReal.coe_sub]
  refine congrArg _ ?_
  have hS : ∑ k, g k * (x k * q) = q * ∑ k, x k * g k := by
    rw [Finset.mul_sum]; exact Finset.sum_congr rfl fun k _ => by ring
  rw [hS]
  simp only [Finset.univ_unique, Finset.sum_singleton]
  generalize ∑ k, x k * g k = S
  have hNn := hN.ne'
  have hqv : q / v = q * q * q := by rw [div_eq_iff hv]; linear_combination (-q) * hq
  rw [hqv]
  ring
/-- The derivative of a norm's row, as differentiation writes it: row `x`, cotangent `g`, width `N`, small constant `e`. -/
def dx0 {n : ℕ} (x g : Fin n → EReal) (N e k : EReal) (d : Fin n) : EReal :=
  g d * Ideal.rsqrt (ms x N e)
    + x d * ∑ _k : Fin 1, Ideal.div ((∑ k, x k * g k) * (k * Ideal.div (Ideal.rsqrt (ms x N e)) (ms x N e))) N
    + (∑ _k : Fin 1, Ideal.div ((∑ k, x k * g k) * (k * Ideal.div (Ideal.rsqrt (ms x N e)) (ms x N e))) N) * x d

include hN he in
/-- The hand-written form is that derivative. -/
theorem dx0_eq (d : Fin n) :
    Ideal.rsqrt (ms (fun k => ((x k : ℝ) : EReal)) N e) * ((g d : EReal)
        - (x d : EReal) * Ideal.rsqrt (ms (fun k => ((x k : ℝ) : EReal)) N e)
          * Ideal.div (∑ k, (g k : EReal) * ((x k : EReal) * Ideal.rsqrt (ms (fun k => ((x k : ℝ) : EReal)) N e))) (N : EReal))
      = dx0 (fun k => ((x k : ℝ) : EReal)) (fun k => ((g k : ℝ) : EReal)) N e ((-1 / 2 : ℝ) : EReal) d := by
  have h := dx_eq x g N e hN he 0 d
  rw [EReal.coe_zero, zero_add, zero_add] at h
  exact h

include hN he in
/-- It is a real. -/
theorem dx0_real (d : Fin n) : ∃ r : ℝ, dx0 (fun k => ((x k : ℝ) : EReal)) (fun k => ((g k : ℝ) : EReal)) N e ((-1 / 2 : ℝ) : EReal) d = ((r : ℝ) : EReal) := by
  have h := msR_pos x N e hN he
  unfold dx0
  rw [inv_real x N e hN he, ms_real x N e hN]
  simp only [← EReal.coe_mul, RealLift.sum_real, RealLift.div_real _ hN.ne', RealLift.div_real _ h.ne', ← EReal.coe_add]
  exact ⟨_, rfl⟩
end

end Cert.Norm
-- ==== Proof.Post.Row.lean ====
/-
  One row of the gradient after the recurrence, as the hand-written call computes it: from the row of the gated linear
  unit's two halves, of the gate, of the cotangent and of the norm's weight.
-/
module

public import proofs.«01_k».proof.Proof.Norm

@[expose] public section

noncomputable section

open Idealize.ShloMosaic

namespace Cert.PostRow

/-- The logistic function. -/
def sg (x : EReal) : EReal := Ideal.div 1 (1 + Ideal.exp (0 - x))

/-- The width of a row and the norm's small constant, as the programs write them. -/
abbrev W : EReal := Ideal.ofBits FTy.f32 1140850688#32
abbrev E : EReal := Ideal.ofBits FTy.f32 897988541#32

/-- The reciprocal root of a row's mean square. -/
def rq (t : Fin 512 → EReal) : EReal := Ideal.rsqrt (Norm.ms t W E)

/-- The gradient of the norm's argument. -/
def dnorm (t ct w : Fin 512 → EReal) (j : Fin 512) : EReal :=
  rq t * (ct j * w j - t j * rq t * Ideal.div (∑ x, ct x * w x * (t x * rq t)) W)

variable (a b g ct w : Fin 512 → EReal)

/-- The norm's argument: the gated linear unit times the gate. -/
def tt (j : Fin 512) : EReal := a j * sg (b j) * (g j * sg (g j))

/-- Its gradient. -/
def dt (j : Fin 512) : EReal := dnorm (tt a b g) ct w j

/-- The gate's gradient. -/
def dsg (j : Fin 512) : EReal := dt a b g ct w j * (a j * sg (b j)) * (sg (g j) * (1 + g j * (1 - sg (g j))))

/-- The gradient of the gated linear unit's halves. -/
def dhalf0 (j : Fin 512) : EReal := dt a b g ct w j * (g j * sg (g j)) * sg (b j)
def dhalf1 (j : Fin 512) : EReal := dt a b g ct w j * (g j * sg (g j)) * a j * sg (b j) * (1 - sg (b j))

/-- The gradient of the gated linear unit's input: the two halves side by side. -/
def dglu (e : Fin 1024) : EReal :=
  if h : e.val < 512 then dhalf0 a b g ct w ⟨e.val, h⟩ else dhalf1 a b g ct w ⟨e.val - 512, by omega⟩

/-- The hyperbolic tangent inside the GELU, the GELU and its derivative, with the constants as arguments. -/
def th (C c x : EReal) : EReal := Ideal.tanh (C * (x + c * x * (x * x)))
def gel (C c H x : EReal) : EReal := H * x * (1 + th C c x)
def dgel (C c c3 H x : EReal) : EReal := H * (1 + th C c x) + H * x * (1 - th C c x * th C c x) * C * (1 + c3 * (x * x))

end Cert.PostRow
-- ==== Proof.Post.Region.lean ====
/-
  The gradient after the recurrence: what the region's six result arrays hold, in terms of its argument arrays.
-/
module

public import proofs.«01_k».proof.Proof.Post.Block
public import proofs.«01_k».proof.Proof.Post.Row

@[expose] public section

set_option maxRecDepth 16384

noncomputable section

open Idealize.ShloMosaic Idealize.ShloMosaic.TcCoe Idealize.SL.Sem

open Idealize.ShloMosaic.Pipeline (Dat)

namespace Cert.PostValue

open Cert.PostIdeal Cert.PostIdeal.Gen PostRow

/-- The programs' constants inside the GELU. -/
def gC : EReal := Ideal.ofBits FTy.f32 1061962282#32
def gc : EReal := Named.named (F := Ideal) κ "gelu_c" (φ := .f32) 0x3D372713#32
def gc3 : EReal := Named.named (F := Ideal) κ "gelu_c3" (φ := .f32) 0x3E095D4F#32
def gH : EReal := Ideal.ofBits FTy.f32 1056964608#32

/-! ## The body's expressions, entry by entry -/

/-- The two halves of a row of 1024. -/
abbrev lo (f : Fin 1024 → EReal) (j : Fin 512) : EReal := f ⟨j.val, by omega⟩
abbrev hi (f : Fin 1024 → EReal) (j : Fin 512) : EReal := f ⟨512 + j.val, by omega⟩

section
variable (x1 : Vec Ideal S640x1024 .f32) (x0 x2 x3 x4 v28 v30 v2 v10 v11 v21 v27 z : Vec Ideal S640x512 .f32) (v38 : FVec Ideal S640x1 .f32)
  (x6 v39 : Vec Ideal S1x512 .f32) (D : FVec Ideal S640x1024 .f32) (x5 : Vec Ideal S512x1024 .bf16)

theorem p6 (r : Fin 640) (j : Fin 512) : k0_pay6 (F := Ideal) x1 (ix2 r j) = lo (fun e => x1 (ix2 r e)) j := by
  pointwise [k0_pay6, k0_pay5]
theorem p7 (r : Fin 640) (j : Fin 512) : k0_pay7 (F := Ideal) x1 (ix2 r j) = sg (hi (fun e => x1 (ix2 r e)) j) := by
  pointwise [k0_pay7, k0_pay5]
  rfl
theorem p8 (r : Fin 640) (j : Fin 512) : k0_pay8 (F := Ideal) x1 (ix2 r j)
    = lo (fun e => x1 (ix2 r e)) j * sg (hi (fun e => x1 (ix2 r e)) j) := by
  rw [← p6, ← p7]
  rfl
theorem p11 (r : Fin 640) (j : Fin 512) : k0_pay11 (F := Ideal) x2 (ix2 r j) = x2 (ix2 r j) * sg (x2 (ix2 r j)) := by
  pointwise [k0_pay11, k0_pay10, k0_pay9]
  rfl
theorem p12 (r : Fin 640) (j : Fin 512) : k0_pay12 (F := Ideal) x2 (ix2 r j)
    = sg (x2 (ix2 r j)) * (1 + x2 (ix2 r j) * (1 - sg (x2 (ix2 r j)))) := by
  pointwise [k0_pay12, k0_pay10, k0_pay9]
  rfl
theorem p13 (r : Fin 640) (j : Fin 512) : k0_pay13 (F := Ideal) x1 x2 (ix2 r j)
    = tt (lo (fun e => x1 (ix2 r e))) (hi (fun e => x1 (ix2 r e))) (fun j => x2 (ix2 r j)) j := by
  unfold tt
  rw [← p8, ← p11]
  rfl
theorem p14 (r : Fin 640) (j : Fin 512) : k0_pay14 (F := Ideal) x0 (ix2 r j) = x0 (ix2 r j) := by
  pointwise [k0_pay14]
theorem p15 (r : Fin 640) (z : Fin 1) : k0_pay15 (F := Ideal) x1 x2 (ix2 r z)
    = rq (tt (lo (fun e => x1 (ix2 r e))) (hi (fun e => x1 (ix2 r e))) (fun j => x2 (ix2 r j))) := by
  have h := p13 x1 x2 r
  unfold k0_pay15
  generalize k0_pay13 (F := Ideal) x1 x2 = y at h ⊢
  pointwise []
  simp only [h]
  rfl
theorem p17 (r : Fin 640) (j : Fin 512) : k0_pay17 (F := Ideal) v28 v30 v38 v39 (ix2 r j)
    = v38 (ix2 r 0) * (v30 (ix2 r j) * v39 (ix2 0 j) - v28 (ix2 r j) * v38 (ix2 r 0) *
        Ideal.div (∑ x, v30 (ix2 r x) * v39 (ix2 0 x) * (v28 (ix2 r x) * v38 (ix2 r 0))) (Ideal.ofBits FTy.f32 1140850688#32)) := by
  pointwise [k0_pay17, k0_pay16]
theorem p20 (r : Fin 640) (j : Fin 512) : k0_pay20 (F := Ideal) v11 v27 v28 v30 v38 v39 (ix2 r j)
    = k0_pay17 (F := Ideal) v28 v30 v38 v39 (ix2 r j) * v11 (ix2 r j) * v27 (ix2 r j) := by
  unfold k0_pay20
  generalize k0_pay17 (F := Ideal) v28 v30 v38 v39 = y
  pointwise []
theorem p21 (r : Fin 640) (e : Fin 1024) : k0_pay21 (F := Ideal) v2 v10 v21 v28 v30 v38 v39 (ix2 r e)
    = if h : e.val < 512 then k0_pay17 (F := Ideal) v28 v30 v38 v39 (ix2 r ⟨e.val, h⟩) * v21 (ix2 r ⟨e.val, h⟩) * v10 (ix2 r ⟨e.val, h⟩)
      else k0_pay17 (F := Ideal) v28 v30 v38 v39 (ix2 r ⟨e.val - 512, by omega⟩) * v21 (ix2 r ⟨e.val - 512, by omega⟩)
        * v2 (ix2 r ⟨e.val - 512, by omega⟩) * v10 (ix2 r ⟨e.val - 512, by omega⟩) * (1 - v10 (ix2 r ⟨e.val - 512, by omega⟩)) := by
  unfold k0_pay21
  generalize k0_pay17 (F := Ideal) v28 v30 v38 v39 = y
  pointwise []
theorem p18 (z : Fin 1) (j : Fin 512) : k0_pay18 (F := Ideal) v28 v30 v38 (ix2 z j)
    = ∑ r, v30 (ix2 r j) * (v28 (ix2 r j) * v38 (ix2 r 0)) := by
  pointwise [k0_pay18, k0_pay16]
theorem p19 (A : Vec Ideal S1x512 .f32) (z : Fin 1) (j : Fin 512) : k0_pay19 (F := Ideal) v28 v30 v38 A (ix2 z j)
    = A (ix2 z j) + k0_pay18 (F := Ideal) v28 v30 v38 (ix2 z j) := by
  unfold k0_pay19
  generalize k0_pay18 (F := Ideal) v28 v30 v38 = y
  pointwise []
theorem p22 (z : Fin 1) (e : Fin 1024) : k0_pay22 (F := Ideal) v2 v10 v21 v28 v30 v38 v39 (ix2 z e)
    = ∑ r, k0_pay21 (F := Ideal) v2 v10 v21 v28 v30 v38 v39 (ix2 r e) := by
  unfold k0_pay22
  generalize k0_pay21 (F := Ideal) v2 v10 v21 v28 v30 v38 v39 = y
  pointwise []
theorem p23 (y A : FVec Ideal S1x1024 .f32) (z : Fin 1) (e : Fin 1024) : k0_pay23 (F := Ideal) y A (ix2 z e) = A (ix2 z e) + y (ix2 z e) := by
  pointwise [k0_pay23]
theorem p26 (r : Fin 640) (j : Fin 512) : k0_pay26 (F := Ideal) x3 (ix2 r j) = th gC gc (x3 (ix2 r j)) := by
  pointwise [k0_pay26, k0_pay25, k0_pay24]
  rfl
theorem p27 (r : Fin 640) (j : Fin 512) : k0_pay27 (F := Ideal) x3 (ix2 r j) = dgel gC gc gc3 gH (x3 (ix2 r j)) := by
  have h := p26 x3 r j
  unfold k0_pay27
  generalize k0_pay26 (F := Ideal) x3 = y at h ⊢
  pointwise [k0_pay25, k0_pay24]
  rw [h]
  rfl
theorem p28 (d : Fin 512) (e : Fin 1024) : k0_pay28 (F := Ideal) D x3 (ix2 d e) = ∑ r, gel gC gc gH (x3 (ix2 r d)) * D (ix2 r e) := by
  have h := fun r => p26 x3 r d
  unfold k0_pay28
  generalize k0_pay26 (F := Ideal) x3 = y at h ⊢
  pointwise [k0_pay24]
  simp only [h]
  rfl
theorem p1 (y A : FVec Ideal S512x1024 .f32) (d : Fin 512) (e : Fin 1024) : k0_pay1 (F := Ideal) y A (ix2 d e) = A (ix2 d e) + y (ix2 d e) := by
  pointwise [k0_pay1]
theorem p2 (r : Fin 640) (j : Fin 512) : k0_pay2 (F := Ideal) D z x5 (ix2 r j) = (∑ e, D (ix2 r e) * x5 (ix2 j e)) * z (ix2 r j) := by
  pointwise [k0_pay2]
theorem p3 (a : Fin 1) (j : Fin 512) : k0_pay3 (F := Ideal) D z x5 x4 (ix2 a j) = ∑ r, k0_pay2 (F := Ideal) D z x5 (ix2 r j) * x4 (ix2 r j) := by
  unfold k0_pay3
  generalize k0_pay2 (F := Ideal) D z x5 = y
  pointwise []
theorem p4 (A : Vec Ideal S1x512 .f32) (a : Fin 1) (j : Fin 512) : k0_pay4 (F := Ideal) D z x5 x4 A (ix2 a j)
    = A (ix2 a j) + k0_pay3 (F := Ideal) D z x5 x4 (ix2 a j) := by
  unfold k0_pay4
  generalize k0_pay3 (F := Ideal) D z x5 x4 = y
  pointwise []

/-- The row's norm gradient and the rows of the gated linear unit's gradient, in terms of the body's blocks. -/
theorem p17' (r : Fin 640) (j : Fin 512) : k0_pay17 (F := Ideal) (k0_pay13 x1 x2) (k0_pay14 x0) (k0_pay15 x1 x2) x6 (ix2 r j)
    = dt (lo (fun e => x1 (ix2 r e))) (hi (fun e => x1 (ix2 r e))) (fun j => x2 (ix2 r j)) (fun j => x0 (ix2 r j)) (fun j => x6 (ix2 0 j)) j := by
  rw [p17, p15]
  simp only [p13, p14]
  rfl
theorem pD (r : Fin 640) (e : Fin 1024) : k0_pay21 (F := Ideal) (k0_pay6 x1) (k0_pay7 x1) (k0_pay11 x2) (k0_pay13 x1 x2) (k0_pay14 x0) (k0_pay15 x1 x2) x6 (ix2 r e)
    = dglu (lo (fun e => x1 (ix2 r e))) (hi (fun e => x1 (ix2 r e))) (fun j => x2 (ix2 r j)) (fun j => x0 (ix2 r j)) (fun j => x6 (ix2 0 j)) e := by
  rw [p21]
  simp only [p17', p6, p7, p11]
  rfl
theorem pS (r : Fin 640) (j : Fin 512) : k0_pay20 (F := Ideal) (k0_pay8 x1) (k0_pay12 x2) (k0_pay13 x1 x2) (k0_pay14 x0) (k0_pay15 x1 x2) x6 (ix2 r j)
    = dsg (lo (fun e => x1 (ix2 r e))) (hi (fun e => x1 (ix2 r e))) (fun j => x2 (ix2 r j)) (fun j => x0 (ix2 r j)) (fun j => x6 (ix2 0 j)) j := by
  rw [p20, p17', p8, p12]
  rfl
end

theorem idx : ∀ t : Fin cfg0.N, win0_0.index t = ![t.val, 0]
    ∧ win0_1.index t = ![t.val, 0]
    ∧ win0_2.index t = ![t.val, 0]
    ∧ win0_3.index t = ![t.val, 0]
    ∧ win0_4.index t = ![t.val, 0]
    ∧ win0_5.index t = ![0, 0]
    ∧ win0_6.index t = ![0, 0]
    ∧ win0_7.index t = ![0, 0]
    ∧ win0_8.index t = ![t.val, 0]
    ∧ win0_9.index t = ![t.val, 0]
    ∧ win0_10.index t = ![0, 0]
    ∧ win0_11.index t = ![0, 0]
    ∧ win0_12.index t = ![0, 0]
    ∧ win0_13.index t = ![0, 0] :=
  (by decide +kernel : ∀ t : Fin grid0.N, _)

/-- The array's row at place `r` of a grid point's tile. -/
def rw' (t : Fin cfg0.N) (r : Fin 640) : Fin 16640 := ⟨t.val * 640 + r.val, by
  have h : t.val < 26 := lt_of_lt_of_eq t.isLt N_0
  omega⟩

section
variable (m : (ℓ : Loc nD τ sig) → Buf (Elt Ideal) ℓ) (c : Dev nD)

theorem blk0 (X : Vec Ideal S16640x512 .f32) (e : V m c main_v25 = X) (t : Fin cfg0.N) (r : Fin 640) (j : Fin 512) :
    iblk m c 0 t (ix2 r j) = X (ix2 (rw' t r) j) := by
  have rd : ∀ f : Vec Ideal S16640x512 .f32, ((cfg0.win 0).blk t).view.read (Elt Ideal) f (ix2 r j) = f (ix2 (rw' t r) j) := fun f => by
    blk_ext [idx t, rw']
  show ((cfg0.win 0).blk t).view.read (Elt Ideal) (V m c main_v25) _ = _
  rw [e]
  exact rd X

theorem blk1 (X : Vec Ideal S16640x1024 .f32) (e : V m c main_v30 = X) (t : Fin cfg0.N) (r : Fin 640) (j : Fin 1024) :
    iblk m c 1 t (ix2 r j) = X (ix2 (rw' t r) j) := by
  have rd : ∀ f : Vec Ideal S16640x1024 .f32, ((cfg0.win 1).blk t).view.read (Elt Ideal) f (ix2 r j) = f (ix2 (rw' t r) j) := fun f => by
    blk_ext [idx t, rw']
  show ((cfg0.win 1).blk t).view.read (Elt Ideal) (V m c main_v30) _ = _
  rw [e]
  exact rd X

theorem blk2 (X : Vec Ideal S16640x512 .f32) (e : V m c main_v34 = X) (t : Fin cfg0.N) (r : Fin 640) (j : Fin 512) :
    iblk m c 2 t (ix2 r j) = X (ix2 (rw' t r) j) := by
  have rd : ∀ f : Vec Ideal S16640x512 .f32, ((cfg0.win 2).blk t).view.read (Elt Ideal) f (ix2 r j) = f (ix2 (rw' t r) j) := fun f => by
    blk_ext [idx t, rw']
  show ((cfg0.win 2).blk t).view.read (Elt Ideal) (V m c main_v34) _ = _
  rw [e]
  exact rd X

theorem blk3 (X : Vec Ideal S16640x512 .f32) (e : V m c main_v38 = X) (t : Fin cfg0.N) (r : Fin 640) (j : Fin 512) :
    iblk m c 3 t (ix2 r j) = X (ix2 (rw' t r) j) := by
  have rd : ∀ f : Vec Ideal S16640x512 .f32, ((cfg0.win 3).blk t).view.read (Elt Ideal) f (ix2 r j) = f (ix2 (rw' t r) j) := fun f => by
    blk_ext [idx t, rw']
  show ((cfg0.win 3).blk t).view.read (Elt Ideal) (V m c main_v38) _ = _
  rw [e]
  exact rd X

theorem blk4 (X : Vec Ideal S16640x512 .f32) (e : V m c main_v42 = X) (t : Fin cfg0.N) (r : Fin 640) (j : Fin 512) :
    iblk m c 4 t (ix2 r j) = X (ix2 (rw' t r) j) := by
  have rd : ∀ f : Vec Ideal S16640x512 .f32, ((cfg0.win 4).blk t).view.read (Elt Ideal) f (ix2 r j) = f (ix2 (rw' t r) j) := fun f => by
    blk_ext [idx t, rw']
  show ((cfg0.win 4).blk t).view.read (Elt Ideal) (V m c main_v42) _ = _
  rw [e]
  exact rd X

theorem blk5 (X : Vec Ideal S512x1024 .bf16) (e : V m c main_v3 = X) (t : Fin cfg0.N) (r : Fin 512) (j : Fin 1024) :
    iblk m c 5 t (ix2 r j) = X (ix2 r j) := by
  have rd : ∀ f : Vec Ideal S512x1024 .bf16, ((cfg0.win 5).blk t).view.read (Elt Ideal) f (ix2 r j) = f (ix2 r j) := fun f => by
    blk_ext [idx t]
  show ((cfg0.win 5).blk t).view.read (Elt Ideal) (V m c main_v3) _ = _
  rw [e]
  exact rd X

theorem blk6 (X : Vec Ideal S1x512 .f32) (e : V m c main_arg6 = X) (t : Fin cfg0.N) (r : Fin 1) (j : Fin 512) :
    iblk m c 6 t (ix2 r j) = X (ix2 r j) := by
  have rd : ∀ f : Vec Ideal S1x512 .f32, ((cfg0.win 6).blk t).view.read (Elt Ideal) f (ix2 r j) = f (ix2 r j) := fun f => by
    blk_ext [idx t]
  show ((cfg0.win 6).blk t).view.read (Elt Ideal) (V m c main_arg6) _ = _
  rw [e]
  exact rd X

theorem blk7 (X : Vec Ideal S1x512 .f32) (e : V m c main_arg3 = X) (t : Fin cfg0.N) (r : Fin 1) (j : Fin 512) :
    iblk m c 7 t (ix2 r j) = X (ix2 r j) := by
  have rd : ∀ f : Vec Ideal S1x512 .f32, ((cfg0.win 7).blk t).view.read (Elt Ideal) f (ix2 r j) = f (ix2 r j) := fun f => by
    blk_ext [idx t]
  show ((cfg0.win 7).blk t).view.read (Elt Ideal) (V m c main_arg3) _ = _
  rw [e]
  exact rd X

end

section
variable (X0 : Vec Ideal S16640x512 .f32)  (X1 : Vec Ideal S16640x1024 .f32)  (X2 : Vec Ideal S16640x512 .f32)  (X3 : Vec Ideal S16640x512 .f32)  (X4 : Vec Ideal S16640x512 .f32)  (X5 : Vec Ideal S512x1024 .bf16)  (X6 : Vec Ideal S1x512 .f32)

/-- The gradient of the gated linear unit's input. -/
def dG (r : Fin 16640) (e : Fin 1024) : EReal := dglu (lo (fun e => X1 (ix2 r e))) (hi (fun e => X1 (ix2 r e))) (fun j => X2 (ix2 r j)) (fun j => X0 (ix2 r j)) (fun j => X6 (ix2 0 j)) e

/-- The gradient of the value before the GELU. -/
def dYAt (r : Fin 16640) (j : Fin 512) : EReal := (∑ e, dG X0 X1 X2 X6 r e * X5 (ix2 j e)) * dgel gC gc gc3 gH (X3 (ix2 r j))
def dYArr : Vec Ideal S16640x512 .f32 := fun i => dYAt X0 X1 X2 X3 X5 X6 (i 0) (i 1)

/-- The gate's gradient. -/
def dSAt (r : Fin 16640) (j : Fin 512) : EReal := dsg (lo (fun e => X1 (ix2 r e))) (hi (fun e => X1 (ix2 r e))) (fun j => X2 (ix2 r j)) (fun j => X0 (ix2 r j)) (fun j => X6 (ix2 0 j)) j
def dSArr : Vec Ideal S16640x512 .f32 := fun i => dSAt X0 X1 X2 X6 (i 0) (i 1)

/-- What row `r` adds to the gated linear unit's weight's and bias's, the norm weight's and the skip weight's gradients. -/
def wTerm (r : Fin 16640) (d : Fin 512) (e : Fin 1024) : EReal := gel gC gc gH (X3 (ix2 r d)) * dG X0 X1 X2 X6 r e
def bTerm (r : Fin 16640) (a : Fin 1) (e : Fin 1024) : EReal := dG X0 X1 X2 X6 r e
def nTerm (r : Fin 16640) (a : Fin 1) (j : Fin 512) : EReal :=
  X0 (ix2 r j) * (tt (lo (fun e => X1 (ix2 r e))) (hi (fun e => X1 (ix2 r e))) (fun j => X2 (ix2 r j)) j
    * rq (tt (lo (fun e => X1 (ix2 r e))) (hi (fun e => X1 (ix2 r e))) (fun j => X2 (ix2 r j))))
def dTerm (r : Fin 16640) (a : Fin 1) (j : Fin 512) : EReal := dYAt X0 X1 X2 X3 X5 X6 r j * X4 (ix2 r j)
end

variable (m : (ℓ : Loc nD τ sig) → Buf (Elt Ideal) ℓ) (c : Dev nD)
  (X0 : Vec Ideal S16640x512 .f32)  (X1 : Vec Ideal S16640x1024 .f32)  (X2 : Vec Ideal S16640x512 .f32)  (X3 : Vec Ideal S16640x512 .f32)  (X4 : Vec Ideal S16640x512 .f32)  (X5 : Vec Ideal S512x1024 .bf16)  (X6 : Vec Ideal S1x512 .f32)
  (e0 : V m c main_v25 = X0) (e1 : V m c main_v30 = X1) (e2 : V m c main_v34 = X2) (e3 : V m c main_v38 = X3) (e4 : V m c main_v42 = X4) (e5 : V m c main_v3 = X5) (e6 : V m c main_arg6 = X6)
  (t : Fin cfg0.N)

/-- A grid point's block of the gated linear unit's gradient. -/
abbrev bG : FVec Ideal S640x1024 .f32 := k0_pay21 (k0_pay6 (iblk m c 1 t)) (k0_pay7 (iblk m c 1 t)) (k0_pay11 (iblk m c 2 t)) (k0_pay13 (iblk m c 1 t) (iblk m c 2 t)) (k0_pay14 (iblk m c 0 t)) (k0_pay15 (iblk m c 1 t) (iblk m c 2 t)) (iblk m c 6 t)

include e0 e1 e2 e6 in
theorem bG_eq (r : Fin 640) (e : Fin 1024) : bG m c t (ix2 r e) = dG X0 X1 X2 X6 (rw' t r) e := by
  refine (pD _ _ _ _ r e).trans ?_
  simp only [blk0 m c X0 e0, blk1 m c X1 e1, blk2 m c X2 e2, blk6 m c X6 e6]
  unfold dG
  rfl

include e3 in
theorem bE_eq (r : Fin 640) (j : Fin 512) : k0_pay27 (iblk m c 3 t) (ix2 r j) = dgel gC gc gc3 gH (X3 (ix2 (rw' t r) j)) :=
  (p27 _ r j).trans (congrArg _ (blk3 m c X3 e3 t r j))

include e0 e1 e2 e3 e5 e6 in
theorem bY (y : S640x512.Idx) : k0_pay2 (bG m c t) (k0_pay27 (iblk m c 3 t)) (iblk m c 5 t) y = dYArr X0 X1 X2 X3 X5 X6 (ix2 (rw' t (y 0)) (y 1)) := by
  have hG := bG_eq m c X0 X1 X2 X6 e0 e1 e2 e6 t
  have hE := bE_eq m c X3 e3 t
  generalize bG m c t = p at hG ⊢
  generalize k0_pay27 (iblk m c 3 t) = q at hE ⊢
  obtain ⟨r, d, rfl⟩ : ∃ r d, y = ix2 r d := ⟨y 0, y 1, eq_ix2 y⟩
  rw [p2]
  simp only [hG, hE, blk5 m c X5 e5]
  show _ = dYAt X0 X1 X2 X3 X5 X6 (rw' t r) d
  unfold dYAt
  rfl

include e0 e1 e2 e6 in
theorem bS (y : S640x512.Idx) : k0_pay20 (k0_pay8 (iblk m c 1 t)) (k0_pay12 (iblk m c 2 t)) (k0_pay13 (iblk m c 1 t) (iblk m c 2 t)) (k0_pay14 (iblk m c 0 t)) (k0_pay15 (iblk m c 1 t) (iblk m c 2 t)) (iblk m c 6 t) y = dSArr X0 X1 X2 X6 (ix2 (rw' t (y 0)) (y 1)) := by
  obtain ⟨r, d, rfl⟩ : ∃ r d, y = ix2 r d := ⟨y 0, y 1, eq_ix2 y⟩
  refine (pS _ _ _ _ r d).trans ?_
  simp only [blk0 m c X0 e0, blk1 m c X1 e1, blk2 m c X2 e2, blk6 m c X6 e6]
  show _ = dSAt X0 X1 X2 X6 (rw' t r) d
  unfold dSAt
  rfl

/-- What a grid point adds to each of the four sums. -/
def partW (t : Fin cfg0.N) : Vec Ideal S512x1024 .f32 := fun y => ∑ r : Fin 640, wTerm X0 X1 X2 X3 X6 (rw' t r) (y 0) (y 1)
def partB (t : Fin cfg0.N) : Vec Ideal S1x1024 .f32 := fun y => ∑ r : Fin 640, bTerm X0 X1 X2 X6 (rw' t r) (y 0) (y 1)
def partN (t : Fin cfg0.N) : Vec Ideal S1x512 .f32 := fun y => ∑ r : Fin 640, nTerm X0 X1 X2 (rw' t r) (y 0) (y 1)
def partD (t : Fin cfg0.N) : Vec Ideal S1x512 .f32 := fun y => ∑ r : Fin 640, dTerm X0 X1 X2 X3 X4 X5 X6 (rw' t r) (y 0) (y 1)

include e0 e1 e2 e3 e6 in
theorem bW (y : S512x1024.Idx) : k0_pay28 (bG m c t) (iblk m c 3 t) y = partW X0 X1 X2 X3 X6 t y := by
  have hG := bG_eq m c X0 X1 X2 X6 e0 e1 e2 e6 t
  generalize bG m c t = p at hG ⊢
  obtain ⟨r, d, rfl⟩ : ∃ r d, y = ix2 r d := ⟨y 0, y 1, eq_ix2 y⟩
  rw [p28]
  simp only [hG, blk3 m c X3 e3]
  show _ = ∑ r' : Fin 640, wTerm X0 X1 X2 X3 X6 (rw' t r') r d
  unfold wTerm
  rfl

include e0 e1 e2 e6 in
theorem bB (y : S1x1024.Idx) : k0_pay22 (k0_pay6 (iblk m c 1 t)) (k0_pay7 (iblk m c 1 t)) (k0_pay11 (iblk m c 2 t)) (k0_pay13 (iblk m c 1 t) (iblk m c 2 t)) (k0_pay14 (iblk m c 0 t)) (k0_pay15 (iblk m c 1 t) (iblk m c 2 t)) (iblk m c 6 t) y = partB X0 X1 X2 X6 t y := by
  obtain ⟨r, d, rfl⟩ : ∃ r d, y = ix2 r d := ⟨y 0, y 1, eq_ix2 y⟩
  refine (p22 _ _ _ _ _ _ _ r d).trans ?_
  exact Finset.sum_congr rfl fun r' _ => bG_eq m c X0 X1 X2 X6 e0 e1 e2 e6 t r' d

include e0 e1 e2 in
theorem bN (y : S1x512.Idx) : k0_pay18 (k0_pay13 (iblk m c 1 t) (iblk m c 2 t)) (k0_pay14 (iblk m c 0 t)) (k0_pay15 (iblk m c 1 t) (iblk m c 2 t)) y = partN X0 X1 X2 t y := by
  obtain ⟨r, d, rfl⟩ : ∃ r d, y = ix2 r d := ⟨y 0, y 1, eq_ix2 y⟩
  refine (p18 _ _ _ r d).trans ?_
  simp only [p13, p14, p15, blk0 m c X0 e0, blk1 m c X1 e1, blk2 m c X2 e2]
  show _ = ∑ r' : Fin 640, nTerm X0 X1 X2 (rw' t r') r d
  unfold nTerm
  rfl

include e0 e1 e2 e3 e4 e5 e6 in
theorem bDd (y : S1x512.Idx) : k0_pay3 (bG m c t) (k0_pay27 (iblk m c 3 t)) (iblk m c 5 t) (iblk m c 4 t) y = partD X0 X1 X2 X3 X4 X5 X6 t y := by
  have hY := bY m c X0 X1 X2 X3 X5 X6 e0 e1 e2 e3 e5 e6 t
  obtain ⟨r, d, rfl⟩ : ∃ r d, y = ix2 r d := ⟨y 0, y 1, eq_ix2 y⟩
  refine (p3 _ _ _ _ r d).trans ?_
  refine Finset.sum_congr rfl fun r' _ => ?_
  exact congrArg₂ (· * ·) (hY (ix2 r' d)) (blk4 m c X4 e4 t r' d)

/-- What the points leave, in terms of their blocks: at the first point, and at a later one. -/
theorem outs_A (h : t.val % 26 = 0) : outsAt0 m c t.val t.isLt
    = (k0_pay2 (bG m c t) (k0_pay27 (iblk m c 3 t)) (iblk m c 5 t),
       k0_pay20 (k0_pay8 (iblk m c 1 t)) (k0_pay12 (iblk m c 2 t)) (k0_pay13 (iblk m c 1 t) (iblk m c 2 t)) (k0_pay14 (iblk m c 0 t)) (k0_pay15 (iblk m c 1 t) (iblk m c 2 t)) (iblk m c 6 t),
       k0_pay28 (bG m c t) (iblk m c 3 t),
       k0_pay22 (k0_pay6 (iblk m c 1 t)) (k0_pay7 (iblk m c 1 t)) (k0_pay11 (iblk m c 2 t)) (k0_pay13 (iblk m c 1 t) (iblk m c 2 t)) (k0_pay14 (iblk m c 0 t)) (k0_pay15 (iblk m c 1 t) (iblk m c 2 t)) (iblk m c 6 t),
       k0_pay18 (k0_pay13 (iblk m c 1 t) (iblk m c 2 t)) (k0_pay14 (iblk m c 0 t)) (k0_pay15 (iblk m c 1 t) (iblk m c 2 t)),
       k0_pay3 (bG m c t) (k0_pay27 (iblk m c 3 t)) (iblk m c 5 t) (iblk m c 4 t)) := by
  have h' : t.val < 26 := lt_of_lt_of_eq t.isLt N_0
  rw [outsAt0_A m c t h (by omega) h (by omega) h (by omega) h (by omega), outA_8, outA_9, outA_10, outA_11, outA_12, outA_13]

theorem outs_B (h : ¬ t.val % 26 = 0) : outsAt0 m c t.val t.isLt
    = (k0_pay2 (bG m c t) (k0_pay27 (iblk m c 3 t)) (iblk m c 5 t),
       k0_pay20 (k0_pay8 (iblk m c 1 t)) (k0_pay12 (iblk m c 2 t)) (k0_pay13 (iblk m c 1 t) (iblk m c 2 t)) (k0_pay14 (iblk m c 0 t)) (k0_pay15 (iblk m c 1 t) (iblk m c 2 t)) (iblk m c 6 t),
       k0_pay1 (k0_pay28 (bG m c t) (iblk m c 3 t)) (outsAt0 m c (t.val - 1) (Nat.lt_of_le_of_lt (Nat.sub_le _ _) t.isLt)).2.2.1,
       k0_pay23 (k0_pay22 (k0_pay6 (iblk m c 1 t)) (k0_pay7 (iblk m c 1 t)) (k0_pay11 (iblk m c 2 t)) (k0_pay13 (iblk m c 1 t) (iblk m c 2 t)) (k0_pay14 (iblk m c 0 t)) (k0_pay15 (iblk m c 1 t) (iblk m c 2 t)) (iblk m c 6 t)) (outsAt0 m c (t.val - 1) (Nat.lt_of_le_of_lt (Nat.sub_le _ _) t.isLt)).2.2.2.1,
       k0_pay19 (k0_pay13 (iblk m c 1 t) (iblk m c 2 t)) (k0_pay14 (iblk m c 0 t)) (k0_pay15 (iblk m c 1 t) (iblk m c 2 t)) (outsAt0 m c (t.val - 1) (Nat.lt_of_le_of_lt (Nat.sub_le _ _) t.isLt)).2.2.2.2.1,
       k0_pay4 (bG m c t) (k0_pay27 (iblk m c 3 t)) (iblk m c 5 t) (iblk m c 4 t) (outsAt0 m c (t.val - 1) (Nat.lt_of_le_of_lt (Nat.sub_le _ _) t.isLt)).2.2.2.2.2) := by
  rw [outsAt0_B m c t h (by omega) h (by omega) h (by omega) h (by omega), outB_8, outB_9, outB_10, outB_11, outB_12, outB_13]

include e0 e1 e2 e3 e5 e6 in
theorem final8 : (dats m 0 c).arrAt 8 (cfgs 0).N = dYArr X0 X1 X2 X3 X5 X6 := by
  refine (dats m 0 c).arrAt_eq_of_covers 8 _ (by decide +kernel) fun t _ y => ?_
  blk_simp
  rw [after0_8]
  have h : (outsAt0 m c t.val t.isLt).1 y = dYArr X0 X1 X2 X3 X5 X6 (ix2 (rw' t (y 0)) (y 1)) := by
    by_cases h0 : t.val % 26 = 0
    · rw [outs_A m c t h0]
      exact bY m c X0 X1 X2 X3 X5 X6 e0 e1 e2 e3 e5 e6 t y
    · rw [outs_B m c t h0]
      exact bY m c X0 X1 X2 X3 X5 X6 e0 e1 e2 e3 e5 e6 t y
  rw [h]
  generalize dYArr X0 X1 X2 X3 X5 X6 = G
  blk_ext [idx t, rw']

include e0 e1 e2 e6 in
theorem final9 : (dats m 0 c).arrAt 9 (cfgs 0).N = dSArr X0 X1 X2 X6 := by
  refine (dats m 0 c).arrAt_eq_of_covers 9 _ (by decide +kernel) fun t _ y => ?_
  blk_simp
  rw [after0_9]
  have h : (outsAt0 m c t.val t.isLt).2.1 y = dSArr X0 X1 X2 X6 (ix2 (rw' t (y 0)) (y 1)) := by
    by_cases h0 : t.val % 26 = 0
    · rw [outs_A m c t h0]
      exact bS m c X0 X1 X2 X6 e0 e1 e2 e6 t y
    · rw [outs_B m c t h0]
      exact bS m c X0 X1 X2 X6 e0 e1 e2 e6 t y
  rw [h]
  generalize dSArr X0 X1 X2 X6 = G
  blk_ext [idx t, rw']

/-- The array of window 10: the sum over all rows. -/
def sum10 (X0 : Vec Ideal S16640x512 .f32) (X1 : Vec Ideal S16640x1024 .f32) (X2 : Vec Ideal S16640x512 .f32) (X3 : Vec Ideal S16640x512 .f32) (X6 : Vec Ideal S1x512 .f32) : Vec Ideal S512x1024 .f32 := fun y => ∑ r : Fin 16640, wTerm X0 X1 X2 X3 X6 r (y 0) (y 1)

include e0 e1 e2 e3 e6 in
theorem final10 : (dats m 0 c).arrAt 10 (cfgs 0).N = sum10 X0 X1 X2 X3 X6 := by
  refine (dats m 0 c).arrAt_eq_of_covers 10 _ (by decide +kernel) fun t hf y => ?_
  blk_simp
  rw [after0_10, Pipeline.eq_sum_fin_of_reset_step_apply_of_flush (fun n h => (outsAt0 m c n h).2.2.1) 26 (fun _ => (0 : EReal)) (partW X0 X1 X2 X3 X6)
    (fun t h j => by
      rw [outs_A m c t h]
      exact (bW m c X0 X1 X2 X3 X6 e0 e1 e2 e3 e6 t j).trans (zero_add _).symm)
    (fun t h j => by
      rw [outs_B m c t h]
      have k := bW m c X0 X1 X2 X3 X6 e0 e1 e2 e3 e6 t j
      obtain ⟨r, d, rfl⟩ : ∃ r d, j = ix2 r d := ⟨j 0, j 1, eq_ix2 j⟩
      exact (p1 _ _ r d).trans (congrArg _ k))
    t ((flush0_10 t).mp hf) y, zero_add]
  have i : ∀ G : Vec Ideal S512x1024 .f32, G y = G ((win0_10.blk t).view.emb y) := fun G => by
    obtain ⟨r, d, rfl⟩ : ∃ r d, y = ix2 r d := ⟨y 0, y 1, eq_ix2 y⟩
    blk_ext [idx t]
  refine Eq.trans ?_ (i (sum10 X0 X1 X2 X3 X6))
  unfold partW sum10
  refine Fin.sum_mul_add_congr fun s k hl => ?_
  have hs : s.val < 26 := s.isLt
  have ht : t.val < 26 := lt_of_lt_of_eq t.isLt N_0
  refine congrArg (fun r => wTerm X0 X1 X2 X3 X6 r (y 0) (y 1)) (Fin.ext ?_)
  show (26 * (t.val / 26) + s.val) * 640 + k.val = s.val * 640 + k.val
  omega

/-- The array of window 11: the sum over all rows. -/
def sum11 (X0 : Vec Ideal S16640x512 .f32) (X1 : Vec Ideal S16640x1024 .f32) (X2 : Vec Ideal S16640x512 .f32) (X6 : Vec Ideal S1x512 .f32) : Vec Ideal S1x1024 .f32 := fun y => ∑ r : Fin 16640, bTerm X0 X1 X2 X6 r (y 0) (y 1)

include e0 e1 e2 e6 in
theorem final11 : (dats m 0 c).arrAt 11 (cfgs 0).N = sum11 X0 X1 X2 X6 := by
  refine (dats m 0 c).arrAt_eq_of_covers 11 _ (by decide +kernel) fun t hf y => ?_
  blk_simp
  rw [after0_11, Pipeline.eq_sum_fin_of_reset_step_apply_of_flush (fun n h => (outsAt0 m c n h).2.2.2.1) 26 (fun _ => (0 : EReal)) (partB X0 X1 X2 X6)
    (fun t h j => by
      rw [outs_A m c t h]
      exact (bB m c X0 X1 X2 X6 e0 e1 e2 e6 t j).trans (zero_add _).symm)
    (fun t h j => by
      rw [outs_B m c t h]
      have k := bB m c X0 X1 X2 X6 e0 e1 e2 e6 t j
      obtain ⟨r, d, rfl⟩ : ∃ r d, j = ix2 r d := ⟨j 0, j 1, eq_ix2 j⟩
      exact (p23 _ _ r d).trans (congrArg _ k))
    t ((flush0_11 t).mp hf) y, zero_add]
  have i : ∀ G : Vec Ideal S1x1024 .f32, G y = G ((win0_11.blk t).view.emb y) := fun G => by
    obtain ⟨r, d, rfl⟩ : ∃ r d, y = ix2 r d := ⟨y 0, y 1, eq_ix2 y⟩
    blk_ext [idx t]
  refine Eq.trans ?_ (i (sum11 X0 X1 X2 X6))
  unfold partB sum11
  refine Fin.sum_mul_add_congr fun s k hl => ?_
  have hs : s.val < 26 := s.isLt
  have ht : t.val < 26 := lt_of_lt_of_eq t.isLt N_0
  refine congrArg (fun r => bTerm X0 X1 X2 X6 r (y 0) (y 1)) (Fin.ext ?_)
  show (26 * (t.val / 26) + s.val) * 640 + k.val = s.val * 640 + k.val
  omega

/-- The array of window 12: the sum over all rows. -/
def sum12 (X0 : Vec Ideal S16640x512 .f32) (X1 : Vec Ideal S16640x1024 .f32) (X2 : Vec Ideal S16640x512 .f32) : Vec Ideal S1x512 .f32 := fun y => ∑ r : Fin 16640, nTerm X0 X1 X2 r (y 0) (y 1)

include e0 e1 e2 in
theorem final12 : (dats m 0 c).arrAt 12 (cfgs 0).N = sum12 X0 X1 X2 := by
  refine (dats m 0 c).arrAt_eq_of_covers 12 _ (by decide +kernel) fun t hf y => ?_
  blk_simp
  rw [after0_12, Pipeline.eq_sum_fin_of_reset_step_apply_of_flush (fun n h => (outsAt0 m c n h).2.2.2.2.1) 26 (fun _ => (0 : EReal)) (partN X0 X1 X2)
    (fun t h j => by
      rw [outs_A m c t h]
      exact (bN m c X0 X1 X2 e0 e1 e2 t j).trans (zero_add _).symm)
    (fun t h j => by
      rw [outs_B m c t h]
      have k := bN m c X0 X1 X2 e0 e1 e2 t j
      obtain ⟨r, d, rfl⟩ : ∃ r d, j = ix2 r d := ⟨j 0, j 1, eq_ix2 j⟩
      exact (p19 _ _ _ _ r d).trans (congrArg _ k))
    t ((flush0_12 t).mp hf) y, zero_add]
  have i : ∀ G : Vec Ideal S1x512 .f32, G y = G ((win0_12.blk t).view.emb y) := fun G => by
    obtain ⟨r, d, rfl⟩ : ∃ r d, y = ix2 r d := ⟨y 0, y 1, eq_ix2 y⟩
    blk_ext [idx t]
  refine Eq.trans ?_ (i (sum12 X0 X1 X2))
  unfold partN sum12
  refine Fin.sum_mul_add_congr fun s k hl => ?_
  have hs : s.val < 26 := s.isLt
  have ht : t.val < 26 := lt_of_lt_of_eq t.isLt N_0
  refine congrArg (fun r => nTerm X0 X1 X2 r (y 0) (y 1)) (Fin.ext ?_)
  show (26 * (t.val / 26) + s.val) * 640 + k.val = s.val * 640 + k.val
  omega

/-- The array of window 13: the sum over all rows. -/
def sum13 (X0 : Vec Ideal S16640x512 .f32) (X1 : Vec Ideal S16640x1024 .f32) (X2 : Vec Ideal S16640x512 .f32) (X3 : Vec Ideal S16640x512 .f32) (X4 : Vec Ideal S16640x512 .f32) (X5 : Vec Ideal S512x1024 .bf16) (X6 : Vec Ideal S1x512 .f32) : Vec Ideal S1x512 .f32 := fun y => ∑ r : Fin 16640, dTerm X0 X1 X2 X3 X4 X5 X6 r (y 0) (y 1)

include e0 e1 e2 e3 e4 e5 e6 in
theorem final13 : (dats m 0 c).arrAt 13 (cfgs 0).N = sum13 X0 X1 X2 X3 X4 X5 X6 := by
  refine (dats m 0 c).arrAt_eq_of_covers 13 _ (by decide +kernel) fun t hf y => ?_
  blk_simp
  rw [after0_13, Pipeline.eq_sum_fin_of_reset_step_apply_of_flush (fun n h => (outsAt0 m c n h).2.2.2.2.2) 26 (fun _ => (0 : EReal)) (partD X0 X1 X2 X3 X4 X5 X6)
    (fun t h j => by
      rw [outs_A m c t h]
      exact (bDd m c X0 X1 X2 X3 X4 X5 X6 e0 e1 e2 e3 e4 e5 e6 t j).trans (zero_add _).symm)
    (fun t h j => by
      rw [outs_B m c t h]
      have k := bDd m c X0 X1 X2 X3 X4 X5 X6 e0 e1 e2 e3 e4 e5 e6 t j
      obtain ⟨r, d, rfl⟩ : ∃ r d, j = ix2 r d := ⟨j 0, j 1, eq_ix2 j⟩
      exact (p4 _ _ _ _ _ r d).trans (congrArg _ k))
    t ((flush0_13 t).mp hf) y, zero_add]
  have i : ∀ G : Vec Ideal S1x512 .f32, G y = G ((win0_13.blk t).view.emb y) := fun G => by
    obtain ⟨r, d, rfl⟩ : ∃ r d, y = ix2 r d := ⟨y 0, y 1, eq_ix2 y⟩
    blk_ext [idx t]
  refine Eq.trans ?_ (i (sum13 X0 X1 X2 X3 X4 X5 X6))
  unfold partD sum13
  refine Fin.sum_mul_add_congr fun s k hl => ?_
  have hs : s.val < 26 := s.isLt
  have ht : t.val < 26 := lt_of_lt_of_eq t.isLt N_0
  refine congrArg (fun r => dTerm X0 X1 X2 X3 X4 X5 X6 r (y 0) (y 1)) (Fin.ext ?_)
  show (26 * (t.val / 26) + s.val) * 640 + k.val = s.val * 640 + k.val
  omega

end Cert.PostValue
-- ==== Proof.Post.Host.lean ====
/-
  What the host lines before the gradient after the recurrence leave in the region's arguments, and what the lines after it
  make of the region's results.
-/
module

public import proofs.«01_k».proof.Proof.Post.Region
public import proofs.«01_k».proof.Proof.Rows
public import proofs.«01_k».proof.Proof.Gen.PostRefIdeal.Read

@[expose] public section

set_option maxRecDepth 16384

noncomputable section

open Idealize.ShloMosaic Idealize.ShloMosaic.TcCoe Idealize.SL.Sem

namespace Cert.PostValue

open Cert.PostIdeal Cert.PostIdeal.Gen

variable (m : (ℓ : Loc nD τ sig) → Buf (Elt Ideal) ℓ)

theorem V_eq (c : Dev nD) : V0 m c = StableHlo.after hostOps0 (fun b => m (c, b)) := by
  show StableHlo.after (hostOps0 ++ []) (fun b => m (c, b)) = _
  rw [List.append_nil]

/-- The gated linear unit's weight at the products' width. -/
def wB (W : FVec Ideal S512x1024 .f32) : FVec Ideal S512x1024 .bf16 := fun i => W i

theorem s_v25 (U : Valuation τ sig (Elt Ideal)) : StableHlo.after hostOps0 U (Proc.devRef .tc main_v25) = Rows.rowsOf (φ := .f32) 512 (U (Proc.devRef .tc main_arg7)) := by
  after_results
  exact Rows.rowsOf_eq 512 _ _ _ _ _ _

theorem entry_v25 (c : Dev nD) : V m c main_v25 = Rows.rowsOf (φ := .f32) 512 (m ((c.tc : Thread nD τ).loc main_arg7)) :=
  (congrFun (V_eq m c) (Proc.devRef .tc main_v25)).trans (s_v25 _)

theorem s_v30 (U : Valuation τ sig (Elt Ideal)) : StableHlo.after hostOps0 U (Proc.devRef .tc main_v30) = Rows.rowsOf (φ := .f32) 1024 (Cert.PostRefIdeal.Read.val_main_v27 (F := Ideal) (U (Proc.devRef .tc main_arg0)) (U (Proc.devRef .tc main_arg1)) (U (Proc.devRef .tc main_arg3)) (U (Proc.devRef .tc main_arg4)) (U (Proc.devRef .tc main_arg5))) := by
  after_results
  exact Rows.rowsOf_eq 1024 _ _ _ _ _ _

theorem entry_v30 (c : Dev nD) : V m c main_v30 = Rows.rowsOf (φ := .f32) 1024 (Cert.PostRefIdeal.Read.val_main_v27 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5))) :=
  (congrFun (V_eq m c) (Proc.devRef .tc main_v30)).trans (s_v30 _)

theorem s_v34 (U : Valuation τ sig (Elt Ideal)) : StableHlo.after hostOps0 U (Proc.devRef .tc main_v34) = Rows.rowsOf (φ := .f32) 512 (U (Proc.devRef .tc main_arg2)) := by
  after_results
  exact Rows.rowsOf_eq 512 _ _ _ _ _ _

theorem entry_v34 (c : Dev nD) : V m c main_v34 = Rows.rowsOf (φ := .f32) 512 (m ((c.tc : Thread nD τ).loc main_arg2)) :=
  (congrFun (V_eq m c) (Proc.devRef .tc main_v34)).trans (s_v34 _)

theorem s_v38 (U : Valuation τ sig (Elt Ideal)) : StableHlo.after hostOps0 U (Proc.devRef .tc main_v38) = Rows.rowsOf (φ := .f32) 512 (Cert.PostRefIdeal.Read.val_main_v2 (F := Ideal) (U (Proc.devRef .tc main_arg0)) (U (Proc.devRef .tc main_arg1)) (U (Proc.devRef .tc main_arg3))) := by
  after_results
  exact Rows.rowsOf_eq 512 _ _ _ _ _ _

theorem entry_v38 (c : Dev nD) : V m c main_v38 = Rows.rowsOf (φ := .f32) 512 (Cert.PostRefIdeal.Read.val_main_v2 (F := Ideal) (m ((c.tc : Thread nD τ).loc main_arg0)) (m ((c.tc : Thread nD τ).loc main_arg1)) (m ((c.tc : Thread nD τ).loc main_arg3))) :=
  (congrFun (V_eq m c) (Proc.devRef .tc main_v38)).trans (s_v38 _)

theorem s_v42 (U : Valuation τ sig (Elt Ideal)) : StableHlo.after hostOps0 U (Proc.devRef .tc main_v42) = Rows.rowsOf (φ := .f32) 512 (U (Proc.devRef .tc main_arg1)) := by
  after_results
  exact Rows.rowsOf_eq 512 _ _ _ _ _ _

theorem entry_v42 (c : Dev nD) : V m c main_v42 = Rows.rowsOf (φ := .f32) 512 (m ((c.tc : Thread nD τ).loc main_arg1)) :=
  (congrFun (V_eq m c) (Proc.devRef .tc main_v42)).trans (s_v42 _)

theorem s_v3 (U : Valuation τ sig (Elt Ideal)) : StableHlo.after hostOps0 U (Proc.devRef .tc main_v3) = wB (U (Proc.devRef .tc main_arg4)) := by
  after_results
  rfl

theorem entry_v3 (c : Dev nD) : V m c main_v3 = wB (m ((c.tc : Thread nD τ).loc main_arg4)) :=
  (congrFun (V_eq m c) (Proc.devRef .tc main_v3)).trans (s_v3 _)

theorem s_arg6 (U : Valuation τ sig (Elt Ideal)) : StableHlo.after hostOps0 U (Proc.devRef .tc main_arg6) = (U (Proc.devRef .tc main_arg6)) := by
  after_results

theorem entry_arg6 (c : Dev nD) : V m c main_arg6 = (m ((c.tc : Thread nD τ).loc main_arg6)) :=
  (congrFun (V_eq m c) (Proc.devRef .tc main_arg6)).trans (s_arg6 _)

theorem tail_v47 (U : Valuation τ sig (Elt Ideal)) : StableHlo.after hostOps1 U (Proc.devRef .tc main_v47)
    = Rows.tokensOf (φ := .f32) 512 (U (Proc.devRef .tc main_v43_0)) := by
  after_results
  exact Rows.tokensOf_eq 512 _ _ _ _ _

theorem tail_v51 (U : Valuation τ sig (Elt Ideal)) : StableHlo.after hostOps1 U (Proc.devRef .tc main_v51)
    = Rows.tokensOf (φ := .f32) 512 (U (Proc.devRef .tc main_v43_1)) := by
  after_results
  exact Rows.tokensOf_eq 512 _ _ _ _ _

end Cert.PostValue
-- ==== Proof.Post.Reference.lean ====
/-
  The reference gradient of the lines after the recurrence, entry by entry, from the value before the GELU and the gated
  linear unit's input.
-/
module

public import proofs.«01_k».proof.Proof.Gen.PostRefIdeal.Read
public import Idealize.ShloMosaic.Lib.Pipeline.ValueKit
public import proofs.«01_k».proof.Proof.Norm

@[expose] public section

set_option maxRecDepth 16384

noncomputable section

open Idealize.ShloMosaic Idealize.ShloMosaic.TcCoe Idealize.SL.Sem

namespace Cert.PostRef

open Cert.PostRefIdeal Cert.PostRefIdeal.Gen Cert.PostRefIdeal.Read

/-- The logistic function. -/
def sg (x : EReal) : EReal := Ideal.div 1 (1 + Ideal.exp (-x))

variable (A0 A1 A2 : FVec Ideal S16400x512 .f32) (A3 : FVec Ideal S1x512 .f32) (A4 : FVec Ideal S512x1024 .f32) (A5 : FVec Ideal S1x1024 .f32)
  (A6 : FVec Ideal S1x512 .f32) (A7 : FVec Ideal S16400x512 .f32)

/-- The two halves of the gated linear unit's input. -/
abbrev a (t : Fin 16400) (j : Fin 512) : EReal := (val_main_v27 (F := Ideal) A0 A1 A3 A4 A5) (ix2 t ⟨j.val, by omega⟩)
abbrev b (t : Fin 16400) (j : Fin 512) : EReal := (val_main_v27 (F := Ideal) A0 A1 A3 A4 A5) (ix2 t ⟨512 + j.val, by omega⟩)

theorem r28 (t : Fin 16400) (j : Fin 512) : val_main_v28 (F := Ideal) A0 A1 A3 A4 A5 (ix2 t j) = a A0 A1 A3 A4 A5 t j := by
  unfold val_main_v28 a
  generalize val_main_v27 (F := Ideal) A0 A1 A3 A4 A5 = X
  pointwise []
theorem r35 (t : Fin 16400) (j : Fin 512) : val_main_v35 (F := Ideal) A0 A1 A3 A4 A5 (ix2 t j) = sg (b A0 A1 A3 A4 A5 t j) := by
  unfold b val_main_v35 val_main_v34 val_main_v33 val_main_v32 val_main_v31 val_main_v30 val_main_v29
  generalize val_main_v27 (F := Ideal) A0 A1 A3 A4 A5 = X
  pointwise [val_main_cst_7, val_main_cst_8]
  rfl
theorem r38 (t : Fin 16400) (j : Fin 512) : val_main_v38 (F := Ideal) A0 A1 A3 A4 A5 (ix2 t j) = sg (b A0 A1 A3 A4 A5 t j) * (1 - sg (b A0 A1 A3 A4 A5 t j)) := by
  have h := r35 A0 A1 A3 A4 A5 t j
  unfold val_main_v38 val_main_v37 val_main_v36
  generalize val_main_v35 (F := Ideal) A0 A1 A3 A4 A5 = X at h ⊢
  pointwise [val_main_cst_9]
  rw [h]
theorem r39 (t : Fin 16400) (j : Fin 512) : val_main_v39 (F := Ideal) A0 A1 A3 A4 A5 (ix2 t j) = a A0 A1 A3 A4 A5 t j * sg (b A0 A1 A3 A4 A5 t j) := by
  rw [← r28, ← r35]
  rfl
theorem r40s (t : Fin 16400) (j : Fin 512) : val_main_v40_2 (F := Ideal) A2 (ix2 t j) = sg (A2 (ix2 t j)) := by
  pointwise [val_main_v40_2, val_main_call0_v4, val_main_call0_v3, val_main_call0_v2, val_main_call0_v1, val_main_call0_v0, val_main_call0_cst, val_main_call0_cst_0]
  rfl
theorem r40d (t : Fin 16400) (j : Fin 512) : val_main_v40_1 (F := Ideal) A2 (ix2 t j) = sg (A2 (ix2 t j)) * (1 - sg (A2 (ix2 t j))) := by
  have h := r40s A2 t j
  unfold val_main_v40_1 val_main_call0_v7 val_main_call0_v6
  generalize val_main_v40_2 (F := Ideal) A2 = X at h ⊢
  pointwise [val_main_call0_cst_1]
  rw [h]
theorem r40 (t : Fin 16400) (j : Fin 512) : val_main_v40_0 (F := Ideal) A2 (ix2 t j) = A2 (ix2 t j) * sg (A2 (ix2 t j)) := by
  rw [← r40s]
  rfl
/-- The norm's argument. -/
theorem r41 (t : Fin 16400) (j : Fin 512) : val_main_v41 (F := Ideal) A0 A1 A2 A3 A4 A5 (ix2 t j)
    = a A0 A1 A3 A4 A5 t j * sg (b A0 A1 A3 A4 A5 t j) * (A2 (ix2 t j) * sg (A2 (ix2 t j))) := by
  rw [← r39, ← r40]
  rfl
/-- The norm weight's gradient. -/
theorem r59 (z : Fin 1) (j : Fin 512) : val_main_v59 (F := Ideal) A0 A1 A2 A3 A4 A5 A7 (ix2 z j)
    = ∑ t, val_main_v41 (F := Ideal) A0 A1 A2 A3 A4 A5 (ix2 t j) * Ideal.rsqrt (Norm.ms (fun x => val_main_v41 (F := Ideal) A0 A1 A2 A3 A4 A5 (ix2 t x)) (Ideal.ofBits FTy.f32 1140850688#32) (Ideal.ofBits FTy.f32 897988541#32)) * A7 (ix2 t j) := by
  unfold val_main_v59 val_main_v58 val_main_v57 val_main_v54 val_main_v53 val_main_v49 val_main_v48 val_main_v47 val_main_v46 val_main_v45 val_main_v44 val_main_v43 val_main_v42
  generalize val_main_v41 (F := Ideal) A0 A1 A2 A3 A4 A5 = X
  pointwise [val_main_cst_10, val_main_cst_11, val_main_cst_12, val_main_cst_14]
  unfold Norm.ms
  rfl
/-- The gradient of the norm's argument. -/
theorem r75 (t : Fin 16400) (j : Fin 512) : val_main_v75 (F := Ideal) A0 A1 A2 A3 A4 A5 A6 A7 (ix2 t j)
    = Norm.dx0 (fun x => val_main_v41 (F := Ideal) A0 A1 A2 A3 A4 A5 (ix2 t x)) (fun x => A7 (ix2 t x) * A6 (ix2 0 x))
      (Ideal.ofBits FTy.f32 1140850688#32) (Ideal.ofBits FTy.f32 897988541#32) (Ideal.ofBits FTy.f32 3204448256#32) j := by
  unfold val_main_v75 val_main_v74 val_main_v73 val_main_v72 val_main_v71 val_main_v70 val_main_v69 val_main_v68 val_main_v67 val_main_v66 val_main_v65 val_main_v64 val_main_v63 val_main_v62 val_main_v61 val_main_v60 val_main_v52 val_main_v51 val_main_v50 val_main_v49 val_main_v48 val_main_v47 val_main_v46 val_main_v45 val_main_v44 val_main_v43 val_main_v42
  generalize val_main_v41 (F := Ideal) A0 A1 A2 A3 A4 A5 = X
  pointwise [val_main_cst_10, val_main_cst_11, val_main_cst_12, val_main_cst_13, val_main_cst_15, val_main_cst_16, val_main_cst_17]
  unfold Norm.dx0 Norm.ms
  rfl
/-- The gate's gradient. -/
theorem r78 (t : Fin 16400) (j : Fin 512) : val_main_v78 (F := Ideal) A0 A1 A2 A3 A4 A5 A6 A7 (ix2 t j)
    = a A0 A1 A3 A4 A5 t j * sg (b A0 A1 A3 A4 A5 t j) * val_main_v75 (F := Ideal) A0 A1 A2 A3 A4 A5 A6 A7 (ix2 t j) * sg (A2 (ix2 t j))
      + A2 (ix2 t j) * (a A0 A1 A3 A4 A5 t j * sg (b A0 A1 A3 A4 A5 t j) * val_main_v75 (F := Ideal) A0 A1 A2 A3 A4 A5 A6 A7 (ix2 t j)) * (sg (A2 (ix2 t j)) * (1 - sg (A2 (ix2 t j)))) := by
  rw [← r39, ← r40d, ← r40s]
  rfl
/-- The gradient of the gated linear unit's input. -/
theorem r84 (t : Fin 16400) (e : Fin 1024) : val_main_v84 (F := Ideal) A0 A1 A2 A3 A4 A5 A6 A7 (ix2 t e)
    = if h : e.val < 512 then val_main_v75 (F := Ideal) A0 A1 A2 A3 A4 A5 A6 A7 (ix2 t ⟨e.val, h⟩) * (A2 (ix2 t ⟨e.val, h⟩) * sg (A2 (ix2 t ⟨e.val, h⟩))) * sg (b A0 A1 A3 A4 A5 t ⟨e.val, h⟩)
      else a A0 A1 A3 A4 A5 t ⟨e.val - 512, by omega⟩ * (val_main_v75 (F := Ideal) A0 A1 A2 A3 A4 A5 A6 A7 (ix2 t ⟨e.val - 512, by omega⟩)
          * (A2 (ix2 t ⟨e.val - 512, by omega⟩) * sg (A2 (ix2 t ⟨e.val - 512, by omega⟩))))
        * (sg (b A0 A1 A3 A4 A5 t ⟨e.val - 512, by omega⟩) * (1 - sg (b A0 A1 A3 A4 A5 t ⟨e.val - 512, by omega⟩))) := by
  have hL := r38 A0 A1 A3 A4 A5 t
  simp only [← r28, ← r35, ← r40] at hL ⊢
  unfold val_main_v84 val_main_v83 val_main_v82 val_main_v81 val_main_v80 val_main_v79 val_main_v77
  generalize val_main_v75 (F := Ideal) A0 A1 A2 A3 A4 A5 A6 A7 = D
  generalize val_main_v40_0 (F := Ideal) A2 = S
  generalize val_main_v28 (F := Ideal) A0 A1 A3 A4 A5 = K
  generalize val_main_v38 (F := Ideal) A0 A1 A3 A4 A5 = L at hL ⊢
  generalize val_main_v35 (F := Ideal) A0 A1 A3 A4 A5 = B at hL ⊢
  pointwise [val_main_cst_18, val_main_cst_19]
  by_cases h : e.val < 512
  · rw [dif_neg (by omega), dif_pos h, dif_pos h, zero_add]
  · rw [dif_pos (by omega), dif_neg h, dif_neg h, add_zero, hL]
theorem r86 (z : Fin 1) (e : Fin 1024) : val_main_v86 (F := Ideal) A0 A1 A2 A3 A4 A5 A6 A7 (ix2 z e) = ∑ t, val_main_v84 (F := Ideal) A0 A1 A2 A3 A4 A5 A6 A7 (ix2 t e) := by
  unfold val_main_v86 val_main_v85
  generalize val_main_v84 (F := Ideal) A0 A1 A2 A3 A4 A5 A6 A7 = D
  pointwise [val_main_cst_20]
theorem r89 (t : Fin 16400) (j : Fin 512) : val_main_v89 (F := Ideal) A0 A1 A2 A3 A4 A5 A6 A7 (ix2 t j) = ∑ e, val_main_v84 (F := Ideal) A0 A1 A2 A3 A4 A5 A6 A7 (ix2 t e) * A4 (ix2 j e) := by
  unfold val_main_v89
  generalize val_main_v84 (F := Ideal) A0 A1 A2 A3 A4 A5 A6 A7 = D
  pointwise []
/-- The hyperbolic tangent inside the GELU. -/
def th (x : EReal) : EReal := Ideal.tanh (Ideal.ofBits FTy.f32 1061962282#32
  * (x + Ideal.div (Ideal.ofBits FTy.f32 1194240768#32) (Ideal.ofBits FTy.f32 1232348160#32) * (x * x * x)))
theorem r14 (t : Fin 16400) (j : Fin 512) : val_main_v14 (F := Ideal) A0 A1 A3 (ix2 t j) = th ((val_main_v2 (F := Ideal) A0 A1 A3) (ix2 t j)) := by
  unfold val_main_v14 val_main_v13 val_main_v12 val_main_v11 val_main_v10 val_main_v9 val_main_v5 val_main_v4 val_main_v3
  generalize val_main_v2 (F := Ideal) A0 A1 A3 = X
  pointwise [val_main_cst, val_main_cst_0, val_main_cst_2]
  rfl
theorem r24 (t : Fin 16400) (j : Fin 512) : val_main_v24 (F := Ideal) A0 A1 A3 (ix2 t j)
    = (val_main_v2 (F := Ideal) A0 A1 A3) (ix2 t j) * (Ideal.ofBits FTy.f32 1056964608#32 * (1 + th ((val_main_v2 (F := Ideal) A0 A1 A3) (ix2 t j)))) := by
  have h := r14 A0 A1 A3 t j
  unfold val_main_v24 val_main_v23 val_main_v22 val_main_v21 val_main_v20
  generalize val_main_v14 (F := Ideal) A0 A1 A3 = X at h ⊢
  pointwise [val_main_cst_5, val_main_cst_6]
  rw [h]
theorem r2 (t : Fin 16400) (j : Fin 512) : val_main_v2 (F := Ideal) A0 A1 A3 (ix2 t j) = A0 (ix2 t j) + A3 (ix2 0 j) * A1 (ix2 t j) := by
  pointwise [val_main_v2, val_main_v1, val_main_v0]
theorem r27 (t : Fin 16400) (e : Fin 1024) : val_main_v27 (F := Ideal) A0 A1 A3 A4 A5 (ix2 t e) = (∑ x, val_main_v24 (F := Ideal) A0 A1 A3 (ix2 t x) * A4 (ix2 x e)) + A5 (ix2 0 e) := by
  unfold val_main_v27 val_main_v26 val_main_v25
  generalize val_main_v24 (F := Ideal) A0 A1 A3 = G
  pointwise []
theorem r88 (d : Fin 512) (e : Fin 1024) : val_main_v88 (F := Ideal) A0 A1 A2 A3 A4 A5 A6 A7 (ix2 d e) = ∑ t, val_main_v84 (F := Ideal) A0 A1 A2 A3 A4 A5 A6 A7 (ix2 t e) * val_main_v24 (F := Ideal) A0 A1 A3 (ix2 t d) := by
  unfold val_main_v88 val_main_v87
  generalize val_main_v84 (F := Ideal) A0 A1 A2 A3 A4 A5 A6 A7 = D
  generalize val_main_v24 (F := Ideal) A0 A1 A3 = G
  pointwise []
/-- The gradient of the value before the GELU. -/
theorem r101 (t : Fin 16400) (j : Fin 512) : val_main_v101 (F := Ideal) A0 A1 A2 A3 A4 A5 A6 A7 (ix2 t j)
    = val_main_v89 (F := Ideal) A0 A1 A2 A3 A4 A5 A6 A7 (ix2 t j) * (Ideal.ofBits FTy.f32 1056964608#32 * (1 + th ((val_main_v2 (F := Ideal) A0 A1 A3) (ix2 t j))))
      + Ideal.ofBits FTy.f32 1061962282#32 * (Ideal.ofBits FTy.f32 1056964608#32 * ((val_main_v2 (F := Ideal) A0 A1 A3) (ix2 t j) * val_main_v89 (F := Ideal) A0 A1 A2 A3 A4 A5 A6 A7 (ix2 t j))
        * ((1 + th ((val_main_v2 (F := Ideal) A0 A1 A3) (ix2 t j))) * (1 - th ((val_main_v2 (F := Ideal) A0 A1 A3) (ix2 t j)))))
      + Ideal.div (Ideal.ofBits FTy.f32 1194240768#32) (Ideal.ofBits FTy.f32 1232348160#32)
        * (Ideal.ofBits FTy.f32 1061962282#32 * (Ideal.ofBits FTy.f32 1056964608#32 * ((val_main_v2 (F := Ideal) A0 A1 A3) (ix2 t j) * val_main_v89 (F := Ideal) A0 A1 A2 A3 A4 A5 A6 A7 (ix2 t j))
          * ((1 + th ((val_main_v2 (F := Ideal) A0 A1 A3) (ix2 t j))) * (1 - th ((val_main_v2 (F := Ideal) A0 A1 A3) (ix2 t j))))))
        * (Ideal.ofBits FTy.f32 1077936128#32 * ((val_main_v2 (F := Ideal) A0 A1 A3) (ix2 t j) * (val_main_v2 (F := Ideal) A0 A1 A3) (ix2 t j))) := by
  have h := r14 A0 A1 A3 t j
  unfold val_main_v101 val_main_v100 val_main_v99 val_main_v98 val_main_v97 val_main_v96 val_main_v95 val_main_v94 val_main_v93 val_main_v92 val_main_v91 val_main_v90 val_main_v23 val_main_v22 val_main_v21 val_main_v20 val_main_v19 val_main_v18 val_main_v17 val_main_v16 val_main_v15 val_main_v8 val_main_v7 val_main_v6 val_main_v3
  generalize val_main_v14 (F := Ideal) A0 A1 A3 = X at h ⊢
  generalize val_main_v89 (F := Ideal) A0 A1 A2 A3 A4 A5 A6 A7 = D
  generalize val_main_v2 (F := Ideal) A0 A1 A3 = Z at h ⊢
  pointwise [val_main_cst, val_main_cst_0, val_main_cst_1, val_main_cst_3, val_main_cst_4, val_main_cst_5, val_main_cst_6, val_main_cst_21, val_main_cst_22]
  simp only [h]
theorem r106 (z : Fin 1) (j : Fin 512) : val_main_v106 (F := Ideal) A0 A1 A2 A3 A4 A5 A6 A7 (ix2 z j) = ∑ t, val_main_v101 (F := Ideal) A0 A1 A2 A3 A4 A5 A6 A7 (ix2 t j) * A1 (ix2 t j) := by
  unfold val_main_v106 val_main_v105 val_main_v104
  generalize val_main_v101 (F := Ideal) A0 A1 A2 A3 A4 A5 A6 A7 = D
  pointwise [val_main_cst_23]

end Cert.PostRef
-- ==== Proof.Post.Equation.lean ====
/-
  The gradient after the recurrence: the region's six arrays, taken back to the tokens' order, are the reference's six
  gradients, on reals.
-/
module

public import proofs.«01_k».proof.Proof.Post.Host
public import proofs.«01_k».proof.Proof.Post.Reference

@[expose] public section

set_option maxRecDepth 16384

noncomputable section

open Idealize.ShloMosaic Idealize.ShloMosaic.TcCoe Idealize.SL.Sem

namespace Cert.PostValue

open Cert.PostIdeal Cert.PostIdeal.Gen Cert.PostRefIdeal.Read Cert.RealLift PostRow

/-! ## The constants -/

theorem cC : ∃ r : ℝ, Ideal.ofBits FTy.f32 1061962282#32 = ((r : ℝ) : EReal) := by
  simp only [Ideal.ofBits, Ideal.ieee]; simp; rw [← EReal.coe_mul]; exact ⟨_, rfl⟩
theorem cH : Ideal.ofBits FTy.f32 1056964608#32 = ((1 / 2 : ℝ) : EReal) := by
  simp only [Ideal.ofBits, Ideal.ieee]; simp; rw [← EReal.coe_mul]; norm_num
theorem c3 : Ideal.ofBits FTy.f32 1077936128#32 = ((3 : ℝ) : EReal) := by
  simp only [Ideal.ofBits, Ideal.ieee]; simp; rw [← EReal.coe_mul]; norm_num
theorem cNum : Ideal.ofBits FTy.f32 1194240768#32 = ((44715 : ℝ) : EReal) := by
  simp only [Ideal.ofBits, Ideal.ieee]; simp; rw [← EReal.coe_mul]; norm_num
theorem cDen : Ideal.ofBits FTy.f32 1232348160#32 = ((1000000 : ℝ) : EReal) := by
  simp only [Ideal.ofBits, Ideal.ieee]; simp; rw [← EReal.coe_mul]; norm_num
theorem cRef : Ideal.div (Ideal.ofBits FTy.f32 1194240768#32) (Ideal.ofBits FTy.f32 1232348160#32) = ((8943 / 200000 : ℝ) : EReal) := by
  rw [cNum, cDen, div_real _ (by norm_num)]; norm_num
theorem gc_real : gc = ((8943 / 200000 : ℝ) : EReal) := rfl
theorem gc3_real : gc3 = ((26829 / 200000 : ℝ) : EReal) := rfl

theorem sg_eq (x : EReal) : PostRow.sg x = PostRef.sg x := by
  unfold PostRow.sg PostRef.sg
  rw [zero_sub]

theorem sg_real (x : ℝ) : ∃ s : ℝ, PostRef.sg (x : EReal) = ((s : ℝ) : EReal) := by
  unfold PostRef.sg
  have hp : (1 + Real.exp (-x)) ≠ 0 := (add_pos one_pos (Real.exp_pos _)).ne'
  rw [← EReal.coe_neg, Ideal.exp_coe, one_real, ← EReal.coe_add, div_real _ hp]
  exact ⟨_, rfl⟩

theorem th_eq (x : EReal) : PostRow.th gC gc x = PostRef.th x := by
  unfold PostRow.th PostRef.th
  rw [cRef, gc_real, gC, mul_assoc x x x, mul_assoc ((8943 / 200000 : ℝ) : EReal) x]

theorem th_real (x : ℝ) : ∃ s : ℝ, PostRef.th (x : EReal) = ((s : ℝ) : EReal) := by
  obtain ⟨C, eC⟩ := cC
  unfold PostRef.th
  rw [cRef, eC]
  simp only [← EReal.coe_mul, ← EReal.coe_add, Ideal.tanh_coe]
  exact ⟨_, rfl⟩

variable (A0 A1 A2 : FVec Ideal S16400x512 .f32) (A3 : FVec Ideal S1x512 .f32) (A4 : FVec Ideal S512x1024 .f32) (A5 : FVec Ideal S1x1024 .f32)
  (A6 : FVec Ideal S1x512 .f32) (A7 : FVec Ideal S16400x512 .f32)

theorem y_real (h0 : Reals A0) (h1 : Reals A1) (h3 : Reals A3) : Reals (val_main_v2 (F := Ideal) A0 A1 A3) := fun i => by
  obtain ⟨t, j, rfl⟩ : ∃ t j, i = ix2 t j := ⟨i 0, i 1, eq_ix2 i⟩
  obtain ⟨a, ea⟩ := h0 (ix2 t j)
  obtain ⟨b, eb⟩ := h1 (ix2 t j)
  obtain ⟨d, ed⟩ := h3 (ix2 0 j)
  rw [PostRef.r2, ea, eb, ed, ← EReal.coe_mul, ← EReal.coe_add]
  exact ⟨_, rfl⟩

theorem gelu_real (h0 : Reals A0) (h1 : Reals A1) (h3 : Reals A3) (t : Fin 16400) (j : Fin 512) : ∃ r : ℝ, val_main_v24 (F := Ideal) A0 A1 A3 (ix2 t j) = ((r : ℝ) : EReal) := by
  obtain ⟨y, ey⟩ := y_real A0 A1 A3 h0 h1 h3 (ix2 t j)
  obtain ⟨s, es⟩ := th_real y
  rw [PostRef.r24, ey, es, cH, one_real, ← EReal.coe_add, ← EReal.coe_mul, ← EReal.coe_mul]
  exact ⟨_, rfl⟩

theorem glu_real (h0 : Reals A0) (h1 : Reals A1) (h3 : Reals A3) (h4 : Reals A4) (h5 : Reals A5) : Reals (val_main_v27 (F := Ideal) A0 A1 A3 A4 A5) := fun i => by
  obtain ⟨t, e, rfl⟩ : ∃ t e, i = ix2 t e := ⟨i 0, i 1, eq_ix2 i⟩
  choose g eg using gelu_real A0 A1 A3 h0 h1 h3 t
  choose a4 e4 using h4
  obtain ⟨b, eb⟩ := h5 (ix2 0 e)
  rw [PostRef.r27]
  simp only [eg, e4, eb, ← EReal.coe_mul, sum_real, ← EReal.coe_add]
  exact ⟨_, rfl⟩

theorem t_real (h0 : Reals A0) (h1 : Reals A1) (h2 : Reals A2) (h3 : Reals A3) (h4 : Reals A4) (h5 : Reals A5) (t : Fin 16400) (j : Fin 512) : ∃ r : ℝ, val_main_v41 (F := Ideal) A0 A1 A2 A3 A4 A5 (ix2 t j) = ((r : ℝ) : EReal) := by
  rw [PostRef.r41]
  unfold PostRef.a PostRef.b
  obtain ⟨a, ea⟩ := glu_real A0 A1 A3 A4 A5 h0 h1 h3 h4 h5 (ix2 t ⟨j.val, by omega⟩)
  obtain ⟨b, eb⟩ := glu_real A0 A1 A3 A4 A5 h0 h1 h3 h4 h5 (ix2 t ⟨512 + j.val, by omega⟩)
  obtain ⟨g, eg⟩ := h2 (ix2 t j)
  obtain ⟨s, es⟩ := sg_real b
  obtain ⟨u, eu⟩ := sg_real g
  rw [ea, eb, eg, es, eu]
  simp only [← EReal.coe_mul]
  exact ⟨_, rfl⟩

theorem dt_real (h0 : Reals A0) (h1 : Reals A1) (h2 : Reals A2) (h3 : Reals A3) (h4 : Reals A4) (h5 : Reals A5) (h6 : Reals A6) (h7 : Reals A7) (t : Fin 16400) (j : Fin 512) : ∃ r : ℝ, val_main_v75 (F := Ideal) A0 A1 A2 A3 A4 A5 A6 A7 (ix2 t j) = ((r : ℝ) : EReal) := by
  choose x ex using t_real A0 A1 A2 A3 A4 A5 h0 h1 h2 h3 h4 h5 t
  have hg : ∀ j, ∃ g : ℝ, A7 (ix2 t j) * A6 (ix2 0 j) = ((g : ℝ) : EReal) := fun j => by
    obtain ⟨p, ep⟩ := h7 (ix2 t j)
    obtain ⟨q, eq⟩ := h6 (ix2 0 j)
    exact ⟨p * q, by rw [ep, eq, EReal.coe_mul]⟩
  choose g eg using hg
  obtain ⟨e, he, ee⟩ := Norm.eps_real
  rw [PostRef.r75]
  simp only [ex, eg, ee, Norm.n512, Norm.neg_half]
  exact Norm.dx0_real x g 512 e (by norm_num) he j

/-! ## The call's rows at a token, and at the padding -/

theorem tt_tok (t : Fin 16400) (j : Fin 512) : tt (lo (fun e => (Rows.rowsOf (φ := .f32) 1024 (val_main_v27 (F := Ideal) A0 A1 A3 A4 A5)) (ix2 (Rows.row (Rows.tok t)) e))) (hi (fun e => (Rows.rowsOf (φ := .f32) 1024 (val_main_v27 (F := Ideal) A0 A1 A3 A4 A5)) (ix2 (Rows.row (Rows.tok t)) e))) (fun j => (Rows.rowsOf (φ := .f32) 512 A2) (ix2 (Rows.row (Rows.tok t)) j)) j = val_main_v41 (F := Ideal) A0 A1 A2 A3 A4 A5 (ix2 t j) := by
  unfold tt lo hi
  simp only [Rows.rowsOf_tok, sg_eq]
  exact (PostRef.r41 A0 A1 A2 A3 A4 A5 t j).symm

theorem dt_tok (h0 : Reals A0) (h1 : Reals A1) (h2 : Reals A2) (h3 : Reals A3) (h4 : Reals A4) (h5 : Reals A5) (h6 : Reals A6) (h7 : Reals A7) (t : Fin 16400) (j : Fin 512) :
    dt (lo (fun e => (Rows.rowsOf (φ := .f32) 1024 (val_main_v27 (F := Ideal) A0 A1 A3 A4 A5)) (ix2 (Rows.row (Rows.tok t)) e))) (hi (fun e => (Rows.rowsOf (φ := .f32) 1024 (val_main_v27 (F := Ideal) A0 A1 A3 A4 A5)) (ix2 (Rows.row (Rows.tok t)) e))) (fun j => (Rows.rowsOf (φ := .f32) 512 A2) (ix2 (Rows.row (Rows.tok t)) j)) (fun j => (Rows.rowsOf (φ := .f32) 512 A7) (ix2 (Rows.row (Rows.tok t)) j)) (fun j => A6 (ix2 0 j)) j = val_main_v75 (F := Ideal) A0 A1 A2 A3 A4 A5 A6 A7 (ix2 t j) := by
  unfold dt
  have ht := tt_tok A0 A1 A2 A3 A4 A5 t
  generalize tt (lo (fun e => (Rows.rowsOf (φ := .f32) 1024 (val_main_v27 (F := Ideal) A0 A1 A3 A4 A5)) (ix2 (Rows.row (Rows.tok t)) e))) (hi (fun e => (Rows.rowsOf (φ := .f32) 1024 (val_main_v27 (F := Ideal) A0 A1 A3 A4 A5)) (ix2 (Rows.row (Rows.tok t)) e))) (fun j => (Rows.rowsOf (φ := .f32) 512 A2) (ix2 (Rows.row (Rows.tok t)) j)) = x at ht ⊢
  obtain rfl : x = _ := funext ht
  simp only [Rows.rowsOf_tok]
  choose x ex using t_real A0 A1 A2 A3 A4 A5 h0 h1 h2 h3 h4 h5 t
  have hg : ∀ j, ∃ g : ℝ, A7 (ix2 t j) * A6 (ix2 0 j) = ((g : ℝ) : EReal) := fun j => by
    obtain ⟨p, ep⟩ := h7 (ix2 t j)
    obtain ⟨q, eq⟩ := h6 (ix2 0 j)
    exact ⟨p * q, by rw [ep, eq, EReal.coe_mul]⟩
  choose g eg using hg
  obtain ⟨e, he, ee⟩ := Norm.eps_real
  rw [PostRef.r75]
  unfold dnorm rq
  simp only [ex, eg, ee, Norm.n512, Norm.neg_half]
  exact Norm.dx0_eq x g 512 e (by norm_num) he j

theorem shuffle (d a s u : EReal) : d * a * s * u = a * d * (s * u) := by rw [mul_comm d a, mul_assoc (a * d)]

theorem dG_tok (h0 : Reals A0) (h1 : Reals A1) (h2 : Reals A2) (h3 : Reals A3) (h4 : Reals A4) (h5 : Reals A5) (h6 : Reals A6) (h7 : Reals A7) (t : Fin 16400) (e : Fin 1024) : dG (Rows.rowsOf (φ := .f32) 512 A7) (Rows.rowsOf (φ := .f32) 1024 (val_main_v27 (F := Ideal) A0 A1 A3 A4 A5)) (Rows.rowsOf (φ := .f32) 512 A2) A6 (Rows.row (Rows.tok t)) e = val_main_v84 (F := Ideal) A0 A1 A2 A3 A4 A5 A6 A7 (ix2 t e) := by
  unfold dG dglu dhalf0 dhalf1
  simp only [dt_tok A0 A1 A2 A3 A4 A5 A6 A7 h0 h1 h2 h3 h4 h5 h6 h7 t]
  unfold lo hi
  simp only [Rows.rowsOf_tok, sg_eq]
  rw [PostRef.r84]
  by_cases h : e.val < 512
  · rw [dif_pos h, dif_pos h]
  · rw [dif_neg h, dif_neg h]
    exact shuffle _ _ _ _

theorem dt_pad (a b g w : Fin 512 → EReal) (j : Fin 512) : dt a b g (fun _ => 0) w j = 0 := by
  unfold dt dnorm
  have hz : Ideal.div 0 W = 0 := by
    show Ideal.div 0 (Ideal.ofBits FTy.f32 1140850688#32) = 0
    rw [Norm.n512, zero_real, div_real _ (by norm_num)]; norm_num
  simp only [zero_mul, Finset.sum_const_zero, hz, mul_zero, sub_zero]

theorem dG_pad (r : Fin 16640) (h : ¬ (Rows.pos r).val < 16400) (e : Fin 1024) : dG (Rows.rowsOf (φ := .f32) 512 A7) (Rows.rowsOf (φ := .f32) 1024 (val_main_v27 (F := Ideal) A0 A1 A3 A4 A5)) (Rows.rowsOf (φ := .f32) 512 A2) A6 r e = 0 := by
  unfold dG dglu dhalf0 dhalf1
  simp only [Rows.rowsOf_pad 512 A7 r h, dt_pad, zero_mul, dite_eq_ite, ite_self]

theorem gel_tok (t : Fin 16400) (j : Fin 512) : gel gC gc gH ((Rows.rowsOf (φ := .f32) 512 (val_main_v2 (F := Ideal) A0 A1 A3)) (ix2 (Rows.row (Rows.tok t)) j)) = val_main_v24 (F := Ideal) A0 A1 A3 (ix2 t j) := by
  unfold gel
  rw [Rows.rowsOf_tok, th_eq, PostRef.r24, gH, mul_assoc, mul_left_comm]

/-! ## The results -/

/-- The gate's gradient. -/
theorem g_result (h0 : Reals A0) (h1 : Reals A1) (h2 : Reals A2) (h3 : Reals A3) (h4 : Reals A4) (h5 : Reals A5) (h6 : Reals A6) (h7 : Reals A7) : Rows.tokensOf (φ := .f32) 512 (dSArr (Rows.rowsOf (φ := .f32) 512 A7) (Rows.rowsOf (φ := .f32) 1024 (val_main_v27 (F := Ideal) A0 A1 A3 A4 A5)) (Rows.rowsOf (φ := .f32) 512 A2) A6) = val_main_v78 (F := Ideal) A0 A1 A2 A3 A4 A5 A6 A7 := by
  funext y
  obtain ⟨t, j, rfl⟩ : ∃ t j, y = ix2 t j := ⟨y 0, y 1, eq_ix2 y⟩
  rw [PostRef.r78]
  show dSAt (Rows.rowsOf (φ := .f32) 512 A7) (Rows.rowsOf (φ := .f32) 1024 (val_main_v27 (F := Ideal) A0 A1 A3 A4 A5)) (Rows.rowsOf (φ := .f32) 512 A2) A6 (Rows.row (Rows.tok t)) j = _
  unfold dSAt dsg
  rw [dt_tok A0 A1 A2 A3 A4 A5 A6 A7 h0 h1 h2 h3 h4 h5 h6 h7 t]
  unfold lo hi PostRef.a PostRef.b
  simp only [Rows.rowsOf_tok, sg_eq]
  obtain ⟨a, ea⟩ := glu_real A0 A1 A3 A4 A5 h0 h1 h3 h4 h5 (ix2 t ⟨j.val, by omega⟩)
  obtain ⟨b, eb⟩ := glu_real A0 A1 A3 A4 A5 h0 h1 h3 h4 h5 (ix2 t ⟨512 + j.val, by omega⟩)
  obtain ⟨g, eg⟩ := h2 (ix2 t j)
  obtain ⟨s, es⟩ := sg_real b
  obtain ⟨u, eu⟩ := sg_real g
  obtain ⟨d, ed⟩ := dt_real A0 A1 A2 A3 A4 A5 A6 A7 h0 h1 h2 h3 h4 h5 h6 h7 t j
  rw [ea, eb, eg, es, eu, ed, one_real]
  simp only [← EReal.coe_mul, ← EReal.coe_add, ← EReal.coe_sub]
  exact congrArg _ (by ring)

/-- The gradient of the value before the GELU, at a token. -/
theorem dY_tok (h0 : Reals A0) (h1 : Reals A1) (h2 : Reals A2) (h3 : Reals A3) (h4 : Reals A4) (h5 : Reals A5) (h6 : Reals A6) (h7 : Reals A7) (t : Fin 16400) (j : Fin 512) : dYAt (Rows.rowsOf (φ := .f32) 512 A7) (Rows.rowsOf (φ := .f32) 1024 (val_main_v27 (F := Ideal) A0 A1 A3 A4 A5)) (Rows.rowsOf (φ := .f32) 512 A2) (Rows.rowsOf (φ := .f32) 512 (val_main_v2 (F := Ideal) A0 A1 A3)) (wB A4) A6 (Rows.row (Rows.tok t)) j = val_main_v101 (F := Ideal) A0 A1 A2 A3 A4 A5 A6 A7 (ix2 t j) := by
  have hD : (∑ e, dG (Rows.rowsOf (φ := .f32) 512 A7) (Rows.rowsOf (φ := .f32) 1024 (val_main_v27 (F := Ideal) A0 A1 A3 A4 A5)) (Rows.rowsOf (φ := .f32) 512 A2) A6 (Rows.row (Rows.tok t)) e * wB A4 (ix2 j e)) = val_main_v89 (F := Ideal) A0 A1 A2 A3 A4 A5 A6 A7 (ix2 t j) := by
    rw [PostRef.r89]
    exact Finset.sum_congr rfl fun e _ => by rw [dG_tok A0 A1 A2 A3 A4 A5 A6 A7 h0 h1 h2 h3 h4 h5 h6 h7 t e]; rfl
  have hR : ∃ r : ℝ, val_main_v89 (F := Ideal) A0 A1 A2 A3 A4 A5 A6 A7 (ix2 t j) = ((r : ℝ) : EReal) := by
    have hr : ∀ e, ∃ r : ℝ, val_main_v84 (F := Ideal) A0 A1 A2 A3 A4 A5 A6 A7 (ix2 t e) = ((r : ℝ) : EReal) := fun e => by
      rw [PostRef.r84]
      have hj : ∀ j, (∃ r : ℝ, val_main_v75 (F := Ideal) A0 A1 A2 A3 A4 A5 A6 A7 (ix2 t j) * (A2 (ix2 t j) * PostRef.sg (A2 (ix2 t j))) * PostRef.sg (PostRef.b A0 A1 A3 A4 A5 t j) = ((r : ℝ) : EReal))
          ∧ (∃ r : ℝ, PostRef.a A0 A1 A3 A4 A5 t j * (val_main_v75 (F := Ideal) A0 A1 A2 A3 A4 A5 A6 A7 (ix2 t j) * (A2 (ix2 t j) * PostRef.sg (A2 (ix2 t j))))
            * (PostRef.sg (PostRef.b A0 A1 A3 A4 A5 t j) * (1 - PostRef.sg (PostRef.b A0 A1 A3 A4 A5 t j))) = ((r : ℝ) : EReal)) := fun j => by
        obtain ⟨a, ea⟩ := glu_real A0 A1 A3 A4 A5 h0 h1 h3 h4 h5 (ix2 t ⟨j.val, by omega⟩)
        obtain ⟨b, eb⟩ := glu_real A0 A1 A3 A4 A5 h0 h1 h3 h4 h5 (ix2 t ⟨512 + j.val, by omega⟩)
        obtain ⟨g, eg⟩ := h2 (ix2 t j)
        obtain ⟨s, es⟩ := sg_real b
        obtain ⟨u, eu⟩ := sg_real g
        obtain ⟨d, ed⟩ := dt_real A0 A1 A2 A3 A4 A5 A6 A7 h0 h1 h2 h3 h4 h5 h6 h7 t j
        unfold PostRef.a PostRef.b
        rw [ea, eb, eg, es, eu, ed, one_real]
        simp only [← EReal.coe_mul, ← EReal.coe_sub]
        exact ⟨⟨_, rfl⟩, ⟨_, rfl⟩⟩
      by_cases h : e.val < 512
      · rw [dif_pos h]; exact (hj _).1
      · rw [dif_neg h]; exact (hj _).2
    choose q eq using hr
    choose a4 e4 using h4
    rw [PostRef.r89]
    simp only [eq, e4, ← EReal.coe_mul, sum_real]
    exact ⟨_, rfl⟩
  unfold dYAt dgel
  rw [hD, PostRef.r101, Rows.rowsOf_tok, th_eq, cRef, gH, gC, cH, c3, gc3_real]
  obtain ⟨D, eD⟩ := hR
  obtain ⟨y, ey⟩ := y_real A0 A1 A3 h0 h1 h3 (ix2 t j)
  obtain ⟨C, eC⟩ := cC
  rw [eD, ey, eC]
  obtain ⟨s, es⟩ := th_real y
  rw [es, one_real]
  simp only [← EReal.coe_mul, ← EReal.coe_add, ← EReal.coe_sub]
  exact congrArg _ (by ring)

theorem y_result (h0 : Reals A0) (h1 : Reals A1) (h2 : Reals A2) (h3 : Reals A3) (h4 : Reals A4) (h5 : Reals A5) (h6 : Reals A6) (h7 : Reals A7) : Rows.tokensOf (φ := .f32) 512 (dYArr (Rows.rowsOf (φ := .f32) 512 A7) (Rows.rowsOf (φ := .f32) 1024 (val_main_v27 (F := Ideal) A0 A1 A3 A4 A5)) (Rows.rowsOf (φ := .f32) 512 A2) (Rows.rowsOf (φ := .f32) 512 (val_main_v2 (F := Ideal) A0 A1 A3)) (wB A4) A6) = val_main_v101 (F := Ideal) A0 A1 A2 A3 A4 A5 A6 A7 := by
  funext y
  obtain ⟨t, j, rfl⟩ : ∃ t j, y = ix2 t j := ⟨y 0, y 1, eq_ix2 y⟩
  exact dY_tok A0 A1 A2 A3 A4 A5 A6 A7 h0 h1 h2 h3 h4 h5 h6 h7 t j

/-- The skip weight's gradient. -/
theorem d_result (h0 : Reals A0) (h1 : Reals A1) (h2 : Reals A2) (h3 : Reals A3) (h4 : Reals A4) (h5 : Reals A5) (h6 : Reals A6) (h7 : Reals A7) : sum13 (Rows.rowsOf (φ := .f32) 512 A7) (Rows.rowsOf (φ := .f32) 1024 (val_main_v27 (F := Ideal) A0 A1 A3 A4 A5)) (Rows.rowsOf (φ := .f32) 512 A2) (Rows.rowsOf (φ := .f32) 512 (val_main_v2 (F := Ideal) A0 A1 A3)) (Rows.rowsOf (φ := .f32) 512 A1) (wB A4) A6 = val_main_v106 (F := Ideal) A0 A1 A2 A3 A4 A5 A6 A7 := by
  funext y
  obtain ⟨z, j, rfl⟩ : ∃ z j, y = ix2 z j := ⟨y 0, y 1, eq_ix2 y⟩
  rw [PostRef.r106]
  show ∑ r, dTerm (Rows.rowsOf (φ := .f32) 512 A7) (Rows.rowsOf (φ := .f32) 1024 (val_main_v27 (F := Ideal) A0 A1 A3 A4 A5)) (Rows.rowsOf (φ := .f32) 512 A2) (Rows.rowsOf (φ := .f32) 512 (val_main_v2 (F := Ideal) A0 A1 A3)) (Rows.rowsOf (φ := .f32) 512 A1) (wB A4) A6 r z j = _
  unfold dTerm
  rw [Rows.sum_rows_tokens _ fun r h => by
    unfold dYAt
    simp only [dG_pad A0 A1 A2 A3 A4 A5 A6 A7 r h, zero_mul, Finset.sum_const_zero]]
  refine Finset.sum_congr rfl fun t _ => ?_
  rw [dY_tok A0 A1 A2 A3 A4 A5 A6 A7 h0 h1 h2 h3 h4 h5 h6 h7 t j, Rows.rowsOf_tok]

/-- The gated linear unit's weight's gradient. -/
theorem w_result (h0 : Reals A0) (h1 : Reals A1) (h2 : Reals A2) (h3 : Reals A3) (h4 : Reals A4) (h5 : Reals A5) (h6 : Reals A6) (h7 : Reals A7) : sum10 (Rows.rowsOf (φ := .f32) 512 A7) (Rows.rowsOf (φ := .f32) 1024 (val_main_v27 (F := Ideal) A0 A1 A3 A4 A5)) (Rows.rowsOf (φ := .f32) 512 A2) (Rows.rowsOf (φ := .f32) 512 (val_main_v2 (F := Ideal) A0 A1 A3)) A6 = val_main_v88 (F := Ideal) A0 A1 A2 A3 A4 A5 A6 A7 := by
  funext y
  obtain ⟨d, e, rfl⟩ : ∃ d e, y = ix2 d e := ⟨y 0, y 1, eq_ix2 y⟩
  rw [PostRef.r88]
  show ∑ r, wTerm (Rows.rowsOf (φ := .f32) 512 A7) (Rows.rowsOf (φ := .f32) 1024 (val_main_v27 (F := Ideal) A0 A1 A3 A4 A5)) (Rows.rowsOf (φ := .f32) 512 A2) (Rows.rowsOf (φ := .f32) 512 (val_main_v2 (F := Ideal) A0 A1 A3)) A6 r d e = _
  unfold wTerm
  rw [Rows.sum_rows_tokens _ fun r h => by rw [dG_pad A0 A1 A2 A3 A4 A5 A6 A7 r h, mul_zero]]
  refine Finset.sum_congr rfl fun t _ => ?_
  rw [gel_tok, dG_tok A0 A1 A2 A3 A4 A5 A6 A7 h0 h1 h2 h3 h4 h5 h6 h7 t e, mul_comm]

/-- The gated linear unit's bias's gradient. -/
theorem b_result (h0 : Reals A0) (h1 : Reals A1) (h2 : Reals A2) (h3 : Reals A3) (h4 : Reals A4) (h5 : Reals A5) (h6 : Reals A6) (h7 : Reals A7) : sum11 (Rows.rowsOf (φ := .f32) 512 A7) (Rows.rowsOf (φ := .f32) 1024 (val_main_v27 (F := Ideal) A0 A1 A3 A4 A5)) (Rows.rowsOf (φ := .f32) 512 A2) A6 = val_main_v86 (F := Ideal) A0 A1 A2 A3 A4 A5 A6 A7 := by
  funext y
  obtain ⟨z, e, rfl⟩ : ∃ z e, y = ix2 z e := ⟨y 0, y 1, eq_ix2 y⟩
  rw [PostRef.r86]
  show ∑ r, bTerm (Rows.rowsOf (φ := .f32) 512 A7) (Rows.rowsOf (φ := .f32) 1024 (val_main_v27 (F := Ideal) A0 A1 A3 A4 A5)) (Rows.rowsOf (φ := .f32) 512 A2) A6 r z e = _
  unfold bTerm
  rw [Rows.sum_rows_tokens _ fun r h => dG_pad A0 A1 A2 A3 A4 A5 A6 A7 r h e]
  exact Finset.sum_congr rfl fun t _ => dG_tok A0 A1 A2 A3 A4 A5 A6 A7 h0 h1 h2 h3 h4 h5 h6 h7 t e

/-- The norm weight's gradient. -/
theorem n_result : sum12 (Rows.rowsOf (φ := .f32) 512 A7) (Rows.rowsOf (φ := .f32) 1024 (val_main_v27 (F := Ideal) A0 A1 A3 A4 A5)) (Rows.rowsOf (φ := .f32) 512 A2) = val_main_v59 (F := Ideal) A0 A1 A2 A3 A4 A5 A7 := by
  funext y
  obtain ⟨z, j, rfl⟩ : ∃ z j, y = ix2 z j := ⟨y 0, y 1, eq_ix2 y⟩
  rw [PostRef.r59]
  show ∑ r, nTerm (Rows.rowsOf (φ := .f32) 512 A7) (Rows.rowsOf (φ := .f32) 1024 (val_main_v27 (F := Ideal) A0 A1 A3 A4 A5)) (Rows.rowsOf (φ := .f32) 512 A2) r z j = _
  unfold nTerm
  rw [Rows.sum_rows_tokens _ fun r h => by rw [Rows.rowsOf_pad 512 A7 r h, zero_mul]]
  refine Finset.sum_congr rfl fun t _ => ?_
  have ht := tt_tok A0 A1 A2 A3 A4 A5 t
  generalize tt (lo (fun e => (Rows.rowsOf (φ := .f32) 1024 (val_main_v27 (F := Ideal) A0 A1 A3 A4 A5)) (ix2 (Rows.row (Rows.tok t)) e))) (hi (fun e => (Rows.rowsOf (φ := .f32) 1024 (val_main_v27 (F := Ideal) A0 A1 A3 A4 A5)) (ix2 (Rows.row (Rows.tok t)) e))) (fun j => (Rows.rowsOf (φ := .f32) 512 A2) (ix2 (Rows.row (Rows.tok t)) j)) = x at ht ⊢
  obtain rfl : x = _ := funext ht
  rw [Rows.rowsOf_tok, mul_comm]
  rfl

end Cert.PostValue
-- ==== Proof.Post.Pre.lean ====
/-
  The precondition of the gradient after the recurrence: every argument is finite, so every argument is an array of reals.
-/
module

public import proofs.«01_k».proof.Proof.Gen.Pre_post_finite
public import proofs.«01_k».proof.Proof.RealLift

@[expose] public section

set_option maxRecDepth 16384

noncomputable section

open Idealize.ShloMosaic Idealize.ShloMosaic.TcCoe Idealize.SL.Sem

namespace Cert.PostValue

open Cert.Pre_post_finite Cert.Pre_post_finite.Gen Cert.RealLift

theorem of_pre (A0 : FVec Ideal S16400x512 .f32) (A1 : FVec Ideal S16400x512 .f32) (A2 : FVec Ideal S16400x512 .f32) (A3 : FVec Ideal S1x512 .f32) (A4 : FVec Ideal S512x1024 .f32) (A5 : FVec Ideal S1x1024 .f32) (A6 : FVec Ideal S1x512 .f32) (A7 : FVec Ideal S16400x512 .f32)
    (h : fn (F := Ideal) A0 A1 A2 A3 A4 A5 A6 A7 = fun _ => 1#1) :
    Reals A0 ∧ Reals A1 ∧ Reals A2 ∧ Reals A3 ∧ Reals A4 ∧ Reals A5 ∧ Reals A6 ∧ Reals A7 := by
  have e : fn (F := Ideal) A0 A1 A2 A3 A4 A5 A6 A7 (fun a => a.elim0) = 1#1 := congrFun h _
  dsimp only [fn, fn_part1, fn_part2] at e
  obtain ⟨e, e7⟩ := andi_one e
  obtain ⟨e, e6⟩ := andi_one e
  obtain ⟨e, e5⟩ := andi_one e
  obtain ⟨e, e4⟩ := andi_one e
  obtain ⟨e, e3⟩ := andi_one e
  obtain ⟨e, e2⟩ := andi_one e
  obtain ⟨e0, e1⟩ := andi_one e
  exact ⟨reals_of_all _ _ _ _ _ e0, reals_of_all _ _ _ _ _ e1, reals_of_all _ _ _ _ _ e2, reals_of_all _ _ _ _ _ e3, reals_of_all _ _ _ _ _ e4, reals_of_all _ _ _ _ _ e5, reals_of_all _ _ _ _ _ e6, reals_of_all _ _ _ _ _ e7⟩

end Cert.PostValue
-- ==== Proof.Post.Run.lean ====
/-
  The gradient after the recurrence: its results are the reference's gradients.
-/
module

public import proofs.«01_k».proof.Defs
public import proofs.«01_k».proof.Proof.Post.Equation
public import proofs.«01_k».proof.Proof.Post.Pre

@[expose] public section

set_option maxRecDepth 16384

noncomputable section

open Idealize.ShloMosaic Idealize.ShloMosaic.TcCoe Idealize.SL.Sem

namespace Cert.PostValue

open Cert.PostIdeal Cert.PostIdeal.Gen

variable (m : (ℓ : Loc nD τ sig) → Buf (Elt Ideal) ℓ)

/-- Result `main_v47` of the program in terms of its arguments. -/
theorem res_v47 (c : Dev nD) : Pipeline.afterTail₀ cfgs (dats m) 0 (V0 m) [hostOps1] c main_v47
    = Rows.tokensOf (φ := .f32) 512 (dYArr (Rows.rowsOf (φ := .f32) 512 (m ((c.tc : Thread nD τ).loc main_arg7))) (Rows.rowsOf (φ := .f32) 1024 (Cert.PostRefIdeal.Read.val_main_v27 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)))) (Rows.rowsOf (φ := .f32) 512 (m ((c.tc : Thread nD τ).loc main_arg2))) (Rows.rowsOf (φ := .f32) 512 (Cert.PostRefIdeal.Read.val_main_v2 (F := Ideal) (m ((c.tc : Thread nD τ).loc main_arg0)) (m ((c.tc : Thread nD τ).loc main_arg1)) (m ((c.tc : Thread nD τ).loc main_arg3)))) (wB (m ((c.tc : Thread nD τ).loc main_arg4))) (m ((c.tc : Thread nD τ).loc main_arg6))) := by
  rw [← final8 m c _ _ _ _ _ _ (entry_v25 m c) (entry_v30 m c) (entry_v34 m c) (entry_v38 m c) (entry_v3 m c) (entry_arg6 m c)]
  unfold Pipeline.afterTail₀
  simp only [List.flatten_cons, List.flatten_nil, List.append_nil]
  refine (tail_v47 _).trans (congrArg (Rows.tokensOf (φ := .f32) 512) ?_)
  exact Pipeline.withArrays_arr _ launch0.win.arr_inj c (V0 m c) _ 8

/-- Result `main_v51` of the program in terms of its arguments. -/
theorem res_v51 (c : Dev nD) : Pipeline.afterTail₀ cfgs (dats m) 0 (V0 m) [hostOps1] c main_v51
    = Rows.tokensOf (φ := .f32) 512 (dSArr (Rows.rowsOf (φ := .f32) 512 (m ((c.tc : Thread nD τ).loc main_arg7))) (Rows.rowsOf (φ := .f32) 1024 (Cert.PostRefIdeal.Read.val_main_v27 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)))) (Rows.rowsOf (φ := .f32) 512 (m ((c.tc : Thread nD τ).loc main_arg2))) (m ((c.tc : Thread nD τ).loc main_arg6))) := by
  rw [← final9 m c _ _ _ _ (entry_v25 m c) (entry_v30 m c) (entry_v34 m c) (entry_arg6 m c)]
  unfold Pipeline.afterTail₀
  simp only [List.flatten_cons, List.flatten_nil, List.append_nil]
  refine (tail_v51 _).trans (congrArg (Rows.tokensOf (φ := .f32) 512) ?_)
  exact Pipeline.withArrays_arr _ launch0.win.arr_inj c (V0 m c) _ 9

set_option maxHeartbeats 4000000 in
/-- The kernel and the reference end with the same gradients. -/
theorem claim : Cert.algebraic_PostIdeal_PostRefIdeal_pre_post_finite (hPostIdeal := Cert.PostIdeal.Gen.facts)
    (hPostRefIdeal := Cert.PostRefIdeal.Gen.facts) (hPre_post_finite := Cert.Pre_post_finite.Gen.facts) := by
  pair_intro
  · run_from Cert.PostIdeal.Gen.run_main m g
    · exact W_main_arg0 m (dats m) c
    · exact W_main_arg1 m (dats m) c
    · exact W_main_arg2 m (dats m) c
    · exact W_main_arg4 m (dats m) c
    · exact W_main_arg5 m (dats m) c
    · exact W_main_arg7 m (dats m) c
  · refine (θ_run _ _ _).mono (fun r h c => ?_) (Cert.PostRefIdeal.Value.run m' g')
    obtain ⟨r0, r1, r2, r3, r4, r5, k0, k1, k2, k3, k4, k5, k6, k7⟩ := h c
    obtain ⟨x0, x1, x2, x3, x4, x5, x6, x7⟩ := hagree c
    obtain ⟨h0, h1, h2, h3, h4, h5, h6, h7⟩ := of_pre _ _ _ _ _ _ _ _ (hpre c)
    have y0 : StableHlo.launchContents m' c (Proc.tc.devRef Cert.PostRefIdeal.main_arg0) = m ((c.tc : Thread nD τ).loc main_arg0) := x0
    have y1 : StableHlo.launchContents m' c (Proc.tc.devRef Cert.PostRefIdeal.main_arg1) = m ((c.tc : Thread nD τ).loc main_arg1) := x1
    have y2 : StableHlo.launchContents m' c (Proc.tc.devRef Cert.PostRefIdeal.main_arg2) = m ((c.tc : Thread nD τ).loc main_arg2) := x2
    have y3 : StableHlo.launchContents m' c (Proc.tc.devRef Cert.PostRefIdeal.main_arg3) = m ((c.tc : Thread nD τ).loc main_arg3) := x3
    have y4 : StableHlo.launchContents m' c (Proc.tc.devRef Cert.PostRefIdeal.main_arg4) = m ((c.tc : Thread nD τ).loc main_arg4) := x4
    have y5 : StableHlo.launchContents m' c (Proc.tc.devRef Cert.PostRefIdeal.main_arg5) = m ((c.tc : Thread nD τ).loc main_arg5) := x5
    have y6 : StableHlo.launchContents m' c (Proc.tc.devRef Cert.PostRefIdeal.main_arg6) = m ((c.tc : Thread nD τ).loc main_arg6) := x6
    have y7 : StableHlo.launchContents m' c (Proc.tc.devRef Cert.PostRefIdeal.main_arg7) = m ((c.tc : Thread nD τ).loc main_arg7) := x7
    rw [Cert.PostRefIdeal.Read.val_main_v101_eq, y0, y1, y2, y3, y4, y5, y6, y7] at r0
    rw [Cert.PostRefIdeal.Read.val_main_v78_eq, y0, y1, y2, y3, y4, y5, y6, y7] at r1
    rw [Cert.PostRefIdeal.Read.val_main_v106_eq, y0, y1, y2, y3, y4, y5, y6, y7] at r2
    rw [Cert.PostRefIdeal.Read.val_main_v88_eq, y0, y1, y2, y3, y4, y5, y6, y7] at r3
    rw [Cert.PostRefIdeal.Read.val_main_v86_eq, y0, y1, y2, y3, y4, y5, y6, y7] at r4
    rw [Cert.PostRefIdeal.Read.val_main_v59_eq, y0, y1, y2, y3, y4, y5, y7] at r5
    exact ⟨r0.trans ((y_result _ _ _ _ _ _ _ _ h0 h1 h2 h3 h4 h5 h6 h7).symm.trans (res_v47 m c).symm), r1.trans ((g_result _ _ _ _ _ _ _ _ h0 h1 h2 h3 h4 h5 h6 h7).symm.trans (res_v51 m c).symm), r2.trans ((d_result _ _ _ _ _ _ _ _ h0 h1 h2 h3 h4 h5 h6 h7).symm.trans (final13 m c _ _ _ _ _ _ _ (entry_v25 m c) (entry_v30 m c) (entry_v34 m c) (entry_v38 m c) (entry_v42 m c) (entry_v3 m c) (entry_arg6 m c)).symm), r3.trans ((w_result _ _ _ _ _ _ _ _ h0 h1 h2 h3 h4 h5 h6 h7).symm.trans (final10 m c _ _ _ _ _ (entry_v25 m c) (entry_v30 m c) (entry_v34 m c) (entry_v38 m c) (entry_arg6 m c)).symm), r4.trans ((b_result _ _ _ _ _ _ _ _ h0 h1 h2 h3 h4 h5 h6 h7).symm.trans (final11 m c _ _ _ _ (entry_v25 m c) (entry_v30 m c) (entry_v34 m c) (entry_arg6 m c)).symm), r5.trans ((n_result _ _ _ _ _ _ _ ).symm.trans (final12 m c _ _ _ (entry_v25 m c) (entry_v30 m c) (entry_v34 m c)).symm),
      k0, k1, k2, k3, k4, k5, k6, k7⟩

end Cert.PostValue
-- ==== Proof.Out.Block.lean ====
/-
  What one grid point of the loss, the output norm's and the attention gate's gradient leaves in its outputs, as the
  body's own expressions.
-/
module

public import proofs.«01_k».proof.Proof.Gen.OutIdeal.Frame
public import Idealize.ShloMosaic.Lib.Pipeline.ValueKit

@[expose] public section

set_option maxRecDepth 16384

noncomputable section

open Idealize.ShloMosaic Idealize.ShloMosaic.TcCoe Idealize.SL.Sem

namespace Cert.OutValue

open Cert.OutIdeal Cert.OutIdeal.Gen

variable {F : FTy → Type} [FloatOps F]

section
variable (c : Dev nD) (i : grid0.Coords) (arg1 : Memref sig .tc .vmem S640x512 .f32) (harg1 : arg1.IsWhole) (arg2 : Memref sig .tc .vmem S640x512 .f32) (harg2 : arg2.IsWhole) (arg3 : Memref sig .tc .vmem S640x512 .f32) (harg3 : arg3.IsWhole) (arg4 : Memref sig .tc .vmem S640x1024 .f32) (harg4 : arg4.IsWhole) (arg5 : Memref sig .tc .vmem S640x1024 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x512 .f32) (harg8 : arg8.IsWhole) (arg9 : Memref sig .tc .vmem S512x8 .f32) (harg9 : arg9.IsWhole) (arg10 : Memref sig .tc .vmem S640x1024 .f32) (harg10 : arg10.IsWhole) (arg11 : Memref sig .tc .vmem S640x512 .f32) (harg11 : arg11.IsWhole) (arg12 : Memref sig .tc .vmem S640x512 .f32) (harg12 : arg12.IsWhole) (arg13 : Memref sig .tc .vmem S640x512 .f32) (harg13 : arg13.IsWhole) (arg14 : Memref sig .tc .vmem S640x8 .f32) (harg14 : arg14.IsWhole) (arg15 : Memref sig .tc .vmem S1x1 .f32) (harg15 : arg15.IsWhole) (arg16 : Memref sig .tc .vmem S1x1024 .f32) (harg16 : arg16.IsWhole) (arg17 : Memref sig .tc .vmem S1024x1024 .f32) (harg17 : arg17.IsWhole) (arg18 : Memref sig .tc .vmem S1x512 .f32) (harg18 : arg18.IsWhole) (hc0 : cond0_0 i) (hc1 : ¬cond0_1 i) (hc2 : cond0_2 i) (hc3 : ¬cond0_3 i) (hc4 : cond0_4 i) (hc5 : ¬cond0_5 i) (hc6 : cond0_6 i) (hc7 : ¬cond0_7 i)
  (x0 : Vec F S640x512 .f32) (x1 : Vec F S640x512 .f32) (x2 : Vec F S640x512 .f32) (x3 : Vec F S640x1024 .f32) (x4 : Vec F S640x1024 .f32) (x5 : Vec F S1024x1024 .bf16) (x6 : Vec F S1x1024 .f32) (x7 : Vec F S1x512 .f32) (x8 : Vec F S512x8 .f32)

theorem outA_9 : out0_A_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc4 hc5 hc6 hc7 x0 x1 x2 x3 x4 x5 x6 x7 x8
    = k0_pay15 (BitVec.ofNat 32 (i 0).val) (k0_pay11 x0 x7 x1 x2 x5) (k0_pay12 x0 x7 x1 x2 x5) x6 x3 x4 := by
  frame_out

theorem outA_10 : out0_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc4 hc5 hc6 hc7 x0 x1 x2 x3 x4 x5 x6 x7 x8
    = k0_pay31 x7 (k0_pay6 x1) (k0_pay8 x0 x1) (k0_pay9 x0 x1) (k0_pay19 (k0_pay11 x0 x7 x1 x2 x5) (k0_pay13 (k0_pay12 x0 x7 x1 x2 x5)) x6 (k0_pay15 (BitVec.ofNat 32 (i 0).val) (k0_pay11 x0 x7 x1 x2 x5) (k0_pay12 x0 x7 x1 x2 x5) x6 x3 x4)) x5 := by
  frame_out

theorem outA_11 : out0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc4 hc5 hc6 hc7 x0 x1 x2 x3 x4 x5 x6 x7 x8
    = k0_pay1 (k0_pay3 x0) (k0_pay7 x1) (k0_pay28 x7 (k0_pay8 x0 x1) (k0_pay9 x0 x1) (k0_pay19 (k0_pay11 x0 x7 x1 x2 x5) (k0_pay13 (k0_pay12 x0 x7 x1 x2 x5)) x6 (k0_pay15 (BitVec.ofNat 32 (i 0).val) (k0_pay11 x0 x7 x1 x2 x5) (k0_pay12 x0 x7 x1 x2 x5) x6 x3 x4)) x5) := by
  frame_out

theorem outA_12 : out0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc4 hc5 hc6 hc7 x0 x1 x2 x3 x4 x5 x6 x7 x8
    = k0_pay25 (k0_pay19 (k0_pay11 x0 x7 x1 x2 x5) (k0_pay13 (k0_pay12 x0 x7 x1 x2 x5)) x6 (k0_pay15 (BitVec.ofNat 32 (i 0).val) (k0_pay11 x0 x7 x1 x2 x5) (k0_pay12 x0 x7 x1 x2 x5) x6 x3 x4)) x5 := by
  frame_out

theorem outA_13 : out0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc4 hc5 hc6 hc7 x0 x1 x2 x3 x4 x5 x6 x7 x8
    = k0_pay2 (k0_pay3 x0) (k0_pay31 x7 (k0_pay6 x1) (k0_pay8 x0 x1) (k0_pay9 x0 x1) (k0_pay19 (k0_pay11 x0 x7 x1 x2 x5) (k0_pay13 (k0_pay12 x0 x7 x1 x2 x5)) x6 (k0_pay15 (BitVec.ofNat 32 (i 0).val) (k0_pay11 x0 x7 x1 x2 x5) (k0_pay12 x0 x7 x1 x2 x5) x6 x3 x4)) x5) x8 := by
  frame_out

theorem outA_14 : out0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc4 hc5 hc6 hc7 x0 x1 x2 x3 x4 x5 x6 x7 x8
    = k0_pay16 (k0_pay14 (BitVec.ofNat 32 (i 0).val) (k0_pay11 x0 x7 x1 x2 x5) (k0_pay12 x0 x7 x1 x2 x5) x6 x3 x4) := by
  frame_out

theorem outA_15 : out0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc4 hc5 hc6 hc7 x0 x1 x2 x3 x4 x5 x6 x7 x8
    = k0_pay20 (k0_pay11 x0 x7 x1 x2 x5) (k0_pay13 (k0_pay12 x0 x7 x1 x2 x5)) (k0_pay15 (BitVec.ofNat 32 (i 0).val) (k0_pay11 x0 x7 x1 x2 x5) (k0_pay12 x0 x7 x1 x2 x5) x6 x3 x4) := by
  frame_out

theorem outA_16 : out0_A_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc4 hc5 hc6 hc7 x0 x1 x2 x3 x4 x5 x6 x7 x8
    = k0_pay23 (k0_pay10 x0 x7 x1 x2) (k0_pay19 (k0_pay11 x0 x7 x1 x2 x5) (k0_pay13 (k0_pay12 x0 x7 x1 x2 x5)) x6 (k0_pay15 (BitVec.ofNat 32 (i 0).val) (k0_pay11 x0 x7 x1 x2 x5) (k0_pay12 x0 x7 x1 x2 x5) x6 x3 x4)) := by
  frame_out

theorem outA_17 : out0_A_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc4 hc5 hc6 hc7 x0 x1 x2 x3 x4 x5 x6 x7 x8
    = k0_pay29 (k0_pay8 x0 x1) (k0_pay9 x0 x1) (k0_pay19 (k0_pay11 x0 x7 x1 x2 x5) (k0_pay13 (k0_pay12 x0 x7 x1 x2 x5)) x6 (k0_pay15 (BitVec.ofNat 32 (i 0).val) (k0_pay11 x0 x7 x1 x2 x5) (k0_pay12 x0 x7 x1 x2 x5) x6 x3 x4)) x5 := by
  frame_out

end

section
variable (c : Dev nD) (i : grid0.Coords) (arg1 : Memref sig .tc .vmem S640x512 .f32) (harg1 : arg1.IsWhole) (arg2 : Memref sig .tc .vmem S640x512 .f32) (harg2 : arg2.IsWhole) (arg3 : Memref sig .tc .vmem S640x512 .f32) (harg3 : arg3.IsWhole) (arg4 : Memref sig .tc .vmem S640x1024 .f32) (harg4 : arg4.IsWhole) (arg5 : Memref sig .tc .vmem S640x1024 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x512 .f32) (harg8 : arg8.IsWhole) (arg9 : Memref sig .tc .vmem S512x8 .f32) (harg9 : arg9.IsWhole) (arg10 : Memref sig .tc .vmem S640x1024 .f32) (harg10 : arg10.IsWhole) (arg11 : Memref sig .tc .vmem S640x512 .f32) (harg11 : arg11.IsWhole) (arg12 : Memref sig .tc .vmem S640x512 .f32) (harg12 : arg12.IsWhole) (arg13 : Memref sig .tc .vmem S640x512 .f32) (harg13 : arg13.IsWhole) (arg14 : Memref sig .tc .vmem S640x8 .f32) (harg14 : arg14.IsWhole) (arg15 : Memref sig .tc .vmem S1x1 .f32) (harg15 : arg15.IsWhole) (arg16 : Memref sig .tc .vmem S1x1024 .f32) (harg16 : arg16.IsWhole) (arg17 : Memref sig .tc .vmem S1024x1024 .f32) (harg17 : arg17.IsWhole) (arg18 : Memref sig .tc .vmem S1x512 .f32) (harg18 : arg18.IsWhole) (hc0 : ¬cond0_0 i) (hc1 : cond0_1 i) (hc2 : ¬cond0_2 i) (hc3 : cond0_3 i) (hc4 : ¬cond0_4 i) (hc5 : cond0_5 i) (hc6 : ¬cond0_6 i) (hc7 : cond0_7 i)
  (x0 : Vec F S640x512 .f32) (x1 : Vec F S640x512 .f32) (x2 : Vec F S640x512 .f32) (x3 : Vec F S640x1024 .f32) (x4 : Vec F S640x1024 .f32) (x5 : Vec F S1024x1024 .bf16) (x6 : Vec F S1x1024 .f32) (x7 : Vec F S1x512 .f32) (x8 : Vec F S512x8 .f32) (xo14 : Vec F S1x1 .f32) (xo15 : Vec F S1x1024 .f32) (xo16 : Vec F S1024x1024 .f32) (xo17 : Vec F S1x512 .f32)

theorem outB_9 : out0_B_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc4 hc5 hc6 hc7 x0 x1 x2 x3 x4 x5 x6 x7 x8 xo14 xo15 xo16 xo17
    = k0_pay15 (BitVec.ofNat 32 (i 0).val) (k0_pay11 x0 x7 x1 x2 x5) (k0_pay12 x0 x7 x1 x2 x5) x6 x3 x4 := by
  frame_out

theorem outB_10 : out0_B_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc4 hc5 hc6 hc7 x0 x1 x2 x3 x4 x5 x6 x7 x8 xo14 xo15 xo16 xo17
    = k0_pay31 x7 (k0_pay6 x1) (k0_pay8 x0 x1) (k0_pay9 x0 x1) (k0_pay19 (k0_pay11 x0 x7 x1 x2 x5) (k0_pay13 (k0_pay12 x0 x7 x1 x2 x5)) x6 (k0_pay15 (BitVec.ofNat 32 (i 0).val) (k0_pay11 x0 x7 x1 x2 x5) (k0_pay12 x0 x7 x1 x2 x5) x6 x3 x4)) x5 := by
  frame_out

theorem outB_11 : out0_B_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc4 hc5 hc6 hc7 x0 x1 x2 x3 x4 x5 x6 x7 x8 xo14 xo15 xo16 xo17
    = k0_pay1 (k0_pay3 x0) (k0_pay7 x1) (k0_pay28 x7 (k0_pay8 x0 x1) (k0_pay9 x0 x1) (k0_pay19 (k0_pay11 x0 x7 x1 x2 x5) (k0_pay13 (k0_pay12 x0 x7 x1 x2 x5)) x6 (k0_pay15 (BitVec.ofNat 32 (i 0).val) (k0_pay11 x0 x7 x1 x2 x5) (k0_pay12 x0 x7 x1 x2 x5) x6 x3 x4)) x5) := by
  frame_out

theorem outB_12 : out0_B_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc4 hc5 hc6 hc7 x0 x1 x2 x3 x4 x5 x6 x7 x8 xo14 xo15 xo16 xo17
    = k0_pay25 (k0_pay19 (k0_pay11 x0 x7 x1 x2 x5) (k0_pay13 (k0_pay12 x0 x7 x1 x2 x5)) x6 (k0_pay15 (BitVec.ofNat 32 (i 0).val) (k0_pay11 x0 x7 x1 x2 x5) (k0_pay12 x0 x7 x1 x2 x5) x6 x3 x4)) x5 := by
  frame_out

theorem outB_13 : out0_B_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc4 hc5 hc6 hc7 x0 x1 x2 x3 x4 x5 x6 x7 x8 xo14 xo15 xo16 xo17
    = k0_pay2 (k0_pay3 x0) (k0_pay31 x7 (k0_pay6 x1) (k0_pay8 x0 x1) (k0_pay9 x0 x1) (k0_pay19 (k0_pay11 x0 x7 x1 x2 x5) (k0_pay13 (k0_pay12 x0 x7 x1 x2 x5)) x6 (k0_pay15 (BitVec.ofNat 32 (i 0).val) (k0_pay11 x0 x7 x1 x2 x5) (k0_pay12 x0 x7 x1 x2 x5) x6 x3 x4)) x5) x8 := by
  frame_out

theorem outB_14 : out0_B_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc4 hc5 hc6 hc7 x0 x1 x2 x3 x4 x5 x6 x7 x8 xo14 xo15 xo16 xo17
    = k0_pay17 (k0_pay14 (BitVec.ofNat 32 (i 0).val) (k0_pay11 x0 x7 x1 x2 x5) (k0_pay12 x0 x7 x1 x2 x5) x6 x3 x4) xo14 := by
  frame_out

theorem outB_15 : out0_B_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc4 hc5 hc6 hc7 x0 x1 x2 x3 x4 x5 x6 x7 x8 xo14 xo15 xo16 xo17
    = k0_pay21 (k0_pay11 x0 x7 x1 x2 x5) (k0_pay13 (k0_pay12 x0 x7 x1 x2 x5)) (k0_pay15 (BitVec.ofNat 32 (i 0).val) (k0_pay11 x0 x7 x1 x2 x5) (k0_pay12 x0 x7 x1 x2 x5) x6 x3 x4) xo15 := by
  frame_out

theorem outB_16 : out0_B_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc4 hc5 hc6 hc7 x0 x1 x2 x3 x4 x5 x6 x7 x8 xo14 xo15 xo16 xo17
    = k0_pay24 (k0_pay10 x0 x7 x1 x2) (k0_pay19 (k0_pay11 x0 x7 x1 x2 x5) (k0_pay13 (k0_pay12 x0 x7 x1 x2 x5)) x6 (k0_pay15 (BitVec.ofNat 32 (i 0).val) (k0_pay11 x0 x7 x1 x2 x5) (k0_pay12 x0 x7 x1 x2 x5) x6 x3 x4)) xo16 := by
  frame_out

theorem outB_17 : out0_B_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc4 hc5 hc6 hc7 x0 x1 x2 x3 x4 x5 x6 x7 x8 xo14 xo15 xo16 xo17
    = k0_pay30 (k0_pay8 x0 x1) (k0_pay9 x0 x1) (k0_pay19 (k0_pay11 x0 x7 x1 x2 x5) (k0_pay13 (k0_pay12 x0 x7 x1 x2 x5)) x6 (k0_pay15 (BitVec.ofNat 32 (i 0).val) (k0_pay11 x0 x7 x1 x2 x5) (k0_pay12 x0 x7 x1 x2 x5) x6 x3 x4)) x5 xo17 := by
  frame_out

end

end Cert.OutValue
-- ==== Proof.Out.Row.lean ====
/-
  One row of the loss's, the output norm's and the attention gate's gradient, as the hand-written call computes it.
-/
module

public import proofs.«01_k».proof.Proof.Norm

@[expose] public section

noncomputable section

open Idealize.ShloMosaic

namespace Cert.OutRow

/-- The logistic function. -/
def sg (x : EReal) : EReal := Ideal.div 1 (1 + Ideal.exp (0 - x))

/-- The widths of the two norms, their small constant, the mean's factor and one half, as the programs write them. -/
abbrev W1 : EReal := Ideal.ofBits FTy.f32 1140850688#32
abbrev W2 : EReal := Ideal.ofBits FTy.f32 1149239296#32
abbrev E : EReal := Ideal.ofBits FTy.f32 897988541#32
abbrev K : EReal := Ideal.ofBits FTy.f32 981467136#32
abbrev H : EReal := Ideal.ofBits FTy.f32 1056964608#32

/-- The reciprocal root of a row's mean square. -/
def rq {n : ℕ} (W : EReal) (t : Fin n → EReal) : EReal := Ideal.rsqrt (Norm.ms t W E)

/-- The gradient of a norm's argument. -/
def dnorm {n : ℕ} (W : EReal) (t ct w : Fin n → EReal) (j : Fin n) : EReal :=
  rq W t * (ct j * w j - t j * rq W t * Ideal.div (∑ x, ct x * w x * (t x * rq W t)) W)

/-- What a row is computed from: the attention's output, its gate, the recurrence's output, the gate norm's weight, the
    block's input, the target, the output norm's weight, the output projection, and whether the row counts. -/
structure Row where
  o : Fin 512 → EReal
  g : Fin 512 → EReal
  ys : Fin 512 → EReal
  aw : Fin 512 → EReal
  h : Fin 1024 → EReal
  tg : Fin 1024 → EReal
  pw : Fin 1024 → EReal
  wo : Fin 1024 → Fin 1024 → EReal
  v : Prop

namespace Row
variable (R : Row)

/-- The gated attention output. -/
def ta (j : Fin 512) : EReal := R.o j * (R.g j * sg (R.g j))
/-- The projection's input: its norm beside the recurrence's output. -/
def cat (e : Fin 1024) : EReal := if h : e.val < 512 then R.ta ⟨e.val, h⟩ * rq W1 R.ta * R.aw ⟨e.val, h⟩ else R.ys ⟨e.val - 512, by omega⟩
/-- The projection. -/
def y (e : Fin 1024) : EReal := ∑ x, R.cat x * R.wo x e
open Classical in
/-- The error of the block's output. -/
def diff (e : Fin 1024) : EReal := if R.v then R.h e + R.y e * rq W2 R.y * R.pw e - R.tg e else 0
def dout (e : Fin 1024) : EReal := R.diff e * K
/-- The projection's gradient, and its input's. -/
def dy (e : Fin 1024) : EReal := dnorm W2 R.y R.dout R.pw e
def dcat (d : Fin 1024) : EReal := ∑ e, R.dy e * R.wo d e
def dt (j : Fin 512) : EReal := dnorm W1 R.ta (fun j => R.dcat ⟨j.val, by omega⟩) R.aw j
def dO (j : Fin 512) : EReal := R.dt j * (R.g j * sg (R.g j))
def dG (j : Fin 512) : EReal := R.dt j * R.o j * (sg (R.g j) * (1 + R.g j * (1 - sg (R.g j))))
def dYs (j : Fin 512) : EReal := R.dcat ⟨512 + j.val, by omega⟩
/-- What the row adds to the loss and to the three weights' gradients. -/
def lTerm : EReal := ∑ e, R.diff e * R.diff e
def pTerm (e : Fin 1024) : EReal := R.dout e * (R.y e * rq W2 R.y)
def wTerm (d e : Fin 1024) : EReal := R.cat d * R.dy e
def aTerm (j : Fin 512) : EReal := R.dcat ⟨j.val, by omega⟩ * (R.ta j * rq W1 R.ta)

end Row

end Cert.OutRow
-- ==== Proof.Out.Region.lean ====
/-
  The loss's, the output norm's and the attention gate's gradient: what the region's result arrays hold, in terms of its
  argument arrays.
-/
module

public import proofs.«01_k».proof.Proof.Out.Block
public import proofs.«01_k».proof.Proof.Out.Row
public import proofs.«01_k».proof.Proof.Rows

@[expose] public section

set_option maxRecDepth 16384

noncomputable section

open Idealize.ShloMosaic Idealize.ShloMosaic.TcCoe Idealize.SL.Sem

open Idealize.ShloMosaic.Pipeline (Dat)

namespace Cert.OutValue

open Cert.OutIdeal Cert.OutIdeal.Gen OutRow

/-! ## Which rows count -/

/-- The position of a row counts: it is a token's, and not one of the sixteen learned ones. -/
def ok (r : Fin 16640) : Prop := 16 ≤ (Rows.pos r).val ∧ (Rows.pos r).val < 16400

/-- The body's test of a row's position, on the machine's words. -/
def posW (a : BitVec 32) (r : Fin 640) : BitVec 32 :=
  IntOp.addi (IntOp.muli (IntOp.andi (IntOp.addi (IntOp.muli a 640#32) (BitVec.ofNat 32 r.val)) 7#32) 2080#32)
    (IntOp.shrsi .vector (IntOp.addi (IntOp.muli a 640#32) (BitVec.ofNat 32 r.val)) 3#32)
def test (a : BitVec 32) (r : Fin 640) : BitVec 1 := IntOp.andi (IntOp.cmpi .sge (posW a r) 16#32) (IntOp.cmpi .slt (posW a r) 16400#32)

/-! ## The body's expressions, entry by entry -/

section
variable (x0 x1 x2 : Vec Ideal S640x512 .f32) (x3 x4 : Vec Ideal S640x1024 .f32) (x5 : Vec Ideal S1024x1024 .bf16) (x6 : Vec Ideal S1x1024 .f32)
  (x7 : Vec Ideal S1x512 .f32) (a : BitVec 32)
  (v38 v39 v77 v79 v34 v109 : FVec Ideal S640x1024 .f32) (v46 v27 : FVec Ideal S640x1 .f32) (v19 : FVec Ideal S640x512 .f32)

/-- The row of the blocks. -/
def xRow (r : Fin 640) : Row := ⟨fun j => x0 (ix2 r j), fun j => x1 (ix2 r j), fun j => x2 (ix2 r j), fun j => x7 (ix2 0 j),
  fun e => x3 (ix2 r e), fun e => x4 (ix2 r e), fun e => x6 (ix2 0 e), fun d e => x5 (ix2 d e), test a r = 1#1⟩

theorem p3 (r : Fin 640) (j : Fin 512) : k0_pay3 (F := Ideal) x0 (ix2 r j) = x0 (ix2 r j) := by
  pointwise [k0_pay3]
theorem p6 (r : Fin 640) (j : Fin 512) : k0_pay6 (F := Ideal) x1 (ix2 r j) = x1 (ix2 r j) * sg (x1 (ix2 r j)) := by
  pointwise [k0_pay6, k0_pay5, k0_pay4]
  rfl
theorem p7 (r : Fin 640) (j : Fin 512) : k0_pay7 (F := Ideal) x1 (ix2 r j)
    = sg (x1 (ix2 r j)) * (1 + x1 (ix2 r j) * (1 - sg (x1 (ix2 r j)))) := by
  pointwise [k0_pay7, k0_pay5, k0_pay4]
  rfl
theorem p8 (r : Fin 640) (j : Fin 512) : k0_pay8 (F := Ideal) x0 x1 (ix2 r j) = (xRow x0 x1 x2 x3 x4 x5 x6 x7 a r).ta j := by
  show k0_pay3 (F := Ideal) x0 (ix2 r j) * k0_pay6 (F := Ideal) x1 (ix2 r j) = _
  rw [p3, p6]
  rfl
theorem p9 (r : Fin 640) (z : Fin 1) : k0_pay9 (F := Ideal) x0 x1 (ix2 r z) = rq W1 (xRow x0 x1 x2 x3 x4 x5 x6 x7 a r).ta := by
  have h := p8 x0 x1 x2 x3 x4 x5 x6 x7 a r
  unfold k0_pay9
  generalize k0_pay8 (F := Ideal) x0 x1 = y at h ⊢
  pointwise []
  simp only [h]
  rfl
theorem p10 (r : Fin 640) (e : Fin 1024) : k0_pay10 (F := Ideal) x0 x7 x1 x2 (ix2 r e) = (xRow x0 x1 x2 x3 x4 x5 x6 x7 a r).cat e := by
  have h := p8 x0 x1 x2 x3 x4 x5 x6 x7 a r
  have h' := p9 x0 x1 x2 x3 x4 x5 x6 x7 a r
  unfold k0_pay10
  generalize k0_pay8 (F := Ideal) x0 x1 = y at h ⊢
  generalize k0_pay9 (F := Ideal) x0 x1 = z at h' ⊢
  pointwise []
  simp only [h, h']
  rfl
theorem p11 (r : Fin 640) (e : Fin 1024) : k0_pay11 (F := Ideal) x0 x7 x1 x2 x5 (ix2 r e) = (xRow x0 x1 x2 x3 x4 x5 x6 x7 a r).y e := by
  have h := p10 x0 x1 x2 x3 x4 x5 x6 x7 a r
  unfold k0_pay11
  generalize k0_pay10 (F := Ideal) x0 x7 x1 x2 = y at h ⊢
  pointwise []
  simp only [h]
  rfl
theorem p13 (r : Fin 640) (z : Fin 1) : k0_pay13 (F := Ideal) v39 (ix2 r z)
    = Ideal.rsqrt (Ideal.div (∑ e, v39 (ix2 r e)) W2 + E) := by
  pointwise [k0_pay13]
theorem p13' (r : Fin 640) (z : Fin 1) : k0_pay13 (F := Ideal) (k0_pay12 x0 x7 x1 x2 x5) (ix2 r z) = rq W2 (xRow x0 x1 x2 x3 x4 x5 x6 x7 a r).y := by
  have h := p11 x0 x1 x2 x3 x4 x5 x6 x7 a r
  rw [p13]
  unfold k0_pay12
  generalize k0_pay11 (F := Ideal) x0 x7 x1 x2 x5 = y at h ⊢
  show Ideal.rsqrt (Ideal.div (∑ e, y (ix2 r e) * y (ix2 r e)) W2 + E) = _
  simp only [h]
  rfl
theorem p14 (r : Fin 640) (e : Fin 1024) : k0_pay14 (F := Ideal) a v38 v39 x6 x3 x4 (ix2 r e)
    = if test a r = 1#1 then x3 (ix2 r e) + v38 (ix2 r e) * k0_pay13 (F := Ideal) v39 (ix2 r 0) * x6 (ix2 0 e) - x4 (ix2 r e) else 0 := by
  unfold k0_pay14
  generalize k0_pay13 (F := Ideal) v39 = q
  pointwise []
  rfl
theorem p14' (r : Fin 640) (e : Fin 1024) : (k0_pay14 (F := Ideal) a (k0_pay11 x0 x7 x1 x2 x5) (k0_pay12 x0 x7 x1 x2 x5) x6 x3 x4) (ix2 r e) = (xRow x0 x1 x2 x3 x4 x5 x6 x7 a r).diff e := by
  have h := p11 x0 x1 x2 x3 x4 x5 x6 x7 a r
  have h' := p13' x0 x1 x2 x3 x4 x5 x6 x7 a r
  rw [p14, h', h]
  unfold Row.diff
  by_cases t : test a r = 1#1
  · rw [if_pos t]
    exact (if_pos t).symm
  · rw [if_neg t]
    exact (if_neg t).symm
theorem p15 (r : Fin 640) (e : Fin 1024) : (k0_pay15 (F := Ideal) a (k0_pay11 x0 x7 x1 x2 x5) (k0_pay12 x0 x7 x1 x2 x5) x6 x3 x4) (ix2 r e) = (xRow x0 x1 x2 x3 x4 x5 x6 x7 a r).dout e := by
  have h := p14' x0 x1 x2 x3 x4 x5 x6 x7 a r e
  unfold k0_pay15
  generalize (k0_pay14 (F := Ideal) a (k0_pay11 x0 x7 x1 x2 x5) (k0_pay12 x0 x7 x1 x2 x5) x6 x3 x4) = y at h ⊢
  show y (ix2 r e) * K = _
  rw [h]
  rfl
theorem p16 (z z' : Fin 1) : k0_pay16 (F := Ideal) v77 (ix2 z z') = H * (∑ r, ∑ e, v77 (ix2 r e) * v77 (ix2 r e)) * K := by
  pointwise [k0_pay16]
theorem p17 (A : Vec Ideal S1x1 .f32) (z z' : Fin 1) : k0_pay17 (F := Ideal) v77 A (ix2 z z') = A (ix2 z z') + k0_pay16 (F := Ideal) v77 (ix2 z z') := by
  unfold k0_pay17
  generalize k0_pay16 (F := Ideal) v77 = y
  pointwise []
theorem p19 (r : Fin 640) (e : Fin 1024) : k0_pay19 (F := Ideal) v38 v46 x6 v79 (ix2 r e)
    = v46 (ix2 r 0) * (v79 (ix2 r e) * x6 (ix2 0 e) - v38 (ix2 r e) * v46 (ix2 r 0) *
        Ideal.div (∑ x, v79 (ix2 r x) * x6 (ix2 0 x) * (v38 (ix2 r x) * v46 (ix2 r 0))) W2) := by
  pointwise [k0_pay19, k0_pay18]
theorem p19' (r : Fin 640) (e : Fin 1024) : (k0_pay19 (F := Ideal) (k0_pay11 x0 x7 x1 x2 x5) (k0_pay13 (k0_pay12 x0 x7 x1 x2 x5)) x6 (k0_pay15 a (k0_pay11 x0 x7 x1 x2 x5) (k0_pay12 x0 x7 x1 x2 x5) x6 x3 x4)) (ix2 r e) = (xRow x0 x1 x2 x3 x4 x5 x6 x7 a r).dy e := by
  have h := p11 x0 x1 x2 x3 x4 x5 x6 x7 a r
  have h' := p13' x0 x1 x2 x3 x4 x5 x6 x7 a r
  have h'' := p15 x0 x1 x2 x3 x4 x5 x6 x7 a r
  rw [p19, h']
  simp only [h, h'']
  rfl
theorem p20 (z : Fin 1) (e : Fin 1024) : k0_pay20 (F := Ideal) v38 v46 v79 (ix2 z e) = ∑ r, v79 (ix2 r e) * (v38 (ix2 r e) * v46 (ix2 r 0)) := by
  pointwise [k0_pay20, k0_pay18]
theorem p21 (A : Vec Ideal S1x1024 .f32) (z : Fin 1) (e : Fin 1024) : k0_pay21 (F := Ideal) v38 v46 v79 A (ix2 z e)
    = A (ix2 z e) + k0_pay20 (F := Ideal) v38 v46 v79 (ix2 z e) := by
  unfold k0_pay21
  generalize k0_pay20 (F := Ideal) v38 v46 v79 = y
  pointwise []
theorem p22 (r : Fin 640) (d : Fin 1024) : k0_pay22 (F := Ideal) v109 x5 (ix2 r d) = ∑ e, v109 (ix2 r e) * x5 (ix2 d e) := by
  pointwise [k0_pay22]
theorem p22' (r : Fin 640) (d : Fin 1024) : k0_pay22 (F := Ideal) (k0_pay19 (F := Ideal) (k0_pay11 x0 x7 x1 x2 x5) (k0_pay13 (k0_pay12 x0 x7 x1 x2 x5)) x6 (k0_pay15 a (k0_pay11 x0 x7 x1 x2 x5) (k0_pay12 x0 x7 x1 x2 x5) x6 x3 x4)) x5 (ix2 r d) = (xRow x0 x1 x2 x3 x4 x5 x6 x7 a r).dcat d := by
  have h := p19' x0 x1 x2 x3 x4 x5 x6 x7 a r
  rw [p22]
  simp only [h]
  rfl
theorem p23 (d e : Fin 1024) : k0_pay23 (F := Ideal) v34 v109 (ix2 d e) = ∑ r, v34 (ix2 r d) * v109 (ix2 r e) := by
  pointwise [k0_pay23]
theorem p24 (A : Vec Ideal S1024x1024 .f32) (d e : Fin 1024) : k0_pay24 (F := Ideal) v34 v109 A (ix2 d e) = A (ix2 d e) + k0_pay23 (F := Ideal) v34 v109 (ix2 d e) := by
  unfold k0_pay24
  generalize k0_pay23 (F := Ideal) v34 v109 = y
  pointwise []
theorem p25 (r : Fin 640) (j : Fin 512) : k0_pay25 (F := Ideal) v109 x5 (ix2 r j) = k0_pay22 (F := Ideal) v109 x5 (ix2 r ⟨512 + j.val, by omega⟩) := by
  unfold k0_pay25
  generalize k0_pay22 (F := Ideal) v109 x5 = y
  pointwise []
theorem p26 (r : Fin 640) (j : Fin 512) : k0_pay26 (F := Ideal) v109 x5 (ix2 r j) = k0_pay22 (F := Ideal) v109 x5 (ix2 r ⟨j.val, by omega⟩) := by
  unfold k0_pay26
  generalize k0_pay22 (F := Ideal) v109 x5 = y
  pointwise []
theorem p28 (r : Fin 640) (j : Fin 512) : k0_pay28 (F := Ideal) x7 v19 v27 v109 x5 (ix2 r j)
    = v27 (ix2 r 0) * (k0_pay26 (F := Ideal) v109 x5 (ix2 r j) * x7 (ix2 0 j) - v19 (ix2 r j) * v27 (ix2 r 0) *
        Ideal.div (∑ x, k0_pay26 (F := Ideal) v109 x5 (ix2 r x) * x7 (ix2 0 x) * (v19 (ix2 r x) * v27 (ix2 r 0))) W1) := by
  unfold k0_pay28
  generalize k0_pay26 (F := Ideal) v109 x5 = y
  pointwise [k0_pay27]
theorem p28' (r : Fin 640) (j : Fin 512) : (k0_pay28 (F := Ideal) x7 (k0_pay8 x0 x1) (k0_pay9 x0 x1) (k0_pay19 (k0_pay11 x0 x7 x1 x2 x5) (k0_pay13 (k0_pay12 x0 x7 x1 x2 x5)) x6 (k0_pay15 a (k0_pay11 x0 x7 x1 x2 x5) (k0_pay12 x0 x7 x1 x2 x5) x6 x3 x4)) x5) (ix2 r j) = (xRow x0 x1 x2 x3 x4 x5 x6 x7 a r).dt j := by
  have h := p8 x0 x1 x2 x3 x4 x5 x6 x7 a r
  have h' := p9 x0 x1 x2 x3 x4 x5 x6 x7 a r
  have h'' := p22' x0 x1 x2 x3 x4 x5 x6 x7 a r
  rw [p28]
  simp only [p26]
  rw [h']
  simp only [h, h'']
  rfl
theorem p29 (z : Fin 1) (j : Fin 512) : k0_pay29 (F := Ideal) v19 v27 v109 x5 (ix2 z j)
    = ∑ r, k0_pay26 (F := Ideal) v109 x5 (ix2 r j) * (v19 (ix2 r j) * v27 (ix2 r 0)) := by
  unfold k0_pay29
  generalize k0_pay26 (F := Ideal) v109 x5 = y
  pointwise [k0_pay27]
theorem p30 (A : Vec Ideal S1x512 .f32) (z : Fin 1) (j : Fin 512) : k0_pay30 (F := Ideal) v19 v27 v109 x5 A (ix2 z j)
    = A (ix2 z j) + k0_pay29 (F := Ideal) v19 v27 v109 x5 (ix2 z j) := by
  unfold k0_pay30
  generalize k0_pay29 (F := Ideal) v19 v27 v109 x5 = y
  pointwise []

/-! ## What a grid point computes, in terms of its rows -/

theorem q10 (r : Fin 640) (j : Fin 512) : (k0_pay31 (F := Ideal) x7 (k0_pay6 x1) (k0_pay8 x0 x1) (k0_pay9 x0 x1) (k0_pay19 (k0_pay11 x0 x7 x1 x2 x5) (k0_pay13 (k0_pay12 x0 x7 x1 x2 x5)) x6 (k0_pay15 a (k0_pay11 x0 x7 x1 x2 x5) (k0_pay12 x0 x7 x1 x2 x5) x6 x3 x4)) x5) (ix2 r j) = (xRow x0 x1 x2 x3 x4 x5 x6 x7 a r).dO j := by
  have h := p28' x0 x1 x2 x3 x4 x5 x6 x7 a r j
  show (k0_pay28 (F := Ideal) x7 (k0_pay8 x0 x1) (k0_pay9 x0 x1) (k0_pay19 (k0_pay11 x0 x7 x1 x2 x5) (k0_pay13 (k0_pay12 x0 x7 x1 x2 x5)) x6 (k0_pay15 a (k0_pay11 x0 x7 x1 x2 x5) (k0_pay12 x0 x7 x1 x2 x5) x6 x3 x4)) x5) (ix2 r j) * k0_pay6 (F := Ideal) x1 (ix2 r j) = _
  rw [h, p6]
  rfl
theorem q11 (r : Fin 640) (j : Fin 512) : (k0_pay1 (F := Ideal) (k0_pay3 x0) (k0_pay7 x1) (k0_pay28 x7 (k0_pay8 x0 x1) (k0_pay9 x0 x1) (k0_pay19 (k0_pay11 x0 x7 x1 x2 x5) (k0_pay13 (k0_pay12 x0 x7 x1 x2 x5)) x6 (k0_pay15 a (k0_pay11 x0 x7 x1 x2 x5) (k0_pay12 x0 x7 x1 x2 x5) x6 x3 x4)) x5)) (ix2 r j) = (xRow x0 x1 x2 x3 x4 x5 x6 x7 a r).dG j := by
  have h := p28' x0 x1 x2 x3 x4 x5 x6 x7 a r j
  show (k0_pay28 (F := Ideal) x7 (k0_pay8 x0 x1) (k0_pay9 x0 x1) (k0_pay19 (k0_pay11 x0 x7 x1 x2 x5) (k0_pay13 (k0_pay12 x0 x7 x1 x2 x5)) x6 (k0_pay15 a (k0_pay11 x0 x7 x1 x2 x5) (k0_pay12 x0 x7 x1 x2 x5) x6 x3 x4)) x5) (ix2 r j) * k0_pay3 (F := Ideal) x0 (ix2 r j) * k0_pay7 (F := Ideal) x1 (ix2 r j) = _
  rw [h, p3, p7]
  rfl
theorem q12 (r : Fin 640) (j : Fin 512) : (k0_pay25 (F := Ideal) (k0_pay19 (k0_pay11 x0 x7 x1 x2 x5) (k0_pay13 (k0_pay12 x0 x7 x1 x2 x5)) x6 (k0_pay15 a (k0_pay11 x0 x7 x1 x2 x5) (k0_pay12 x0 x7 x1 x2 x5) x6 x3 x4)) x5) (ix2 r j) = (xRow x0 x1 x2 x3 x4 x5 x6 x7 a r).dYs j := by
  rw [p25]
  exact p22' x0 x1 x2 x3 x4 x5 x6 x7 a r _
theorem q14 (z z' : Fin 1) : (k0_pay16 (F := Ideal) (k0_pay14 a (k0_pay11 x0 x7 x1 x2 x5) (k0_pay12 x0 x7 x1 x2 x5) x6 x3 x4)) (ix2 z z') = H * (∑ r, (xRow x0 x1 x2 x3 x4 x5 x6 x7 a r).lTerm) * K := by
  have h := p14' x0 x1 x2 x3 x4 x5 x6 x7 a
  rw [p16]
  simp only [h]
  rfl
theorem q15 (z : Fin 1) (e : Fin 1024) : (k0_pay20 (F := Ideal) (k0_pay11 x0 x7 x1 x2 x5) (k0_pay13 (k0_pay12 x0 x7 x1 x2 x5)) (k0_pay15 a (k0_pay11 x0 x7 x1 x2 x5) (k0_pay12 x0 x7 x1 x2 x5) x6 x3 x4)) (ix2 z e) = ∑ r, (xRow x0 x1 x2 x3 x4 x5 x6 x7 a r).pTerm e := by
  have h := p11 x0 x1 x2 x3 x4 x5 x6 x7 a
  have h' := p13' x0 x1 x2 x3 x4 x5 x6 x7 a
  have h'' := p15 x0 x1 x2 x3 x4 x5 x6 x7 a
  rw [p20]
  simp only [h, h', h'']
  rfl
theorem q16 (d e : Fin 1024) : (k0_pay23 (F := Ideal) (k0_pay10 x0 x7 x1 x2) (k0_pay19 (k0_pay11 x0 x7 x1 x2 x5) (k0_pay13 (k0_pay12 x0 x7 x1 x2 x5)) x6 (k0_pay15 a (k0_pay11 x0 x7 x1 x2 x5) (k0_pay12 x0 x7 x1 x2 x5) x6 x3 x4))) (ix2 d e) = ∑ r, (xRow x0 x1 x2 x3 x4 x5 x6 x7 a r).wTerm d e := by
  have h := p10 x0 x1 x2 x3 x4 x5 x6 x7 a
  have h' := p19' x0 x1 x2 x3 x4 x5 x6 x7 a
  rw [p23]
  simp only [h, h']
  rfl
theorem q17 (z : Fin 1) (j : Fin 512) : (k0_pay29 (F := Ideal) (k0_pay8 x0 x1) (k0_pay9 x0 x1) (k0_pay19 (k0_pay11 x0 x7 x1 x2 x5) (k0_pay13 (k0_pay12 x0 x7 x1 x2 x5)) x6 (k0_pay15 a (k0_pay11 x0 x7 x1 x2 x5) (k0_pay12 x0 x7 x1 x2 x5) x6 x3 x4)) x5) (ix2 z j) = ∑ r, (xRow x0 x1 x2 x3 x4 x5 x6 x7 a r).aTerm j := by
  have h := p8 x0 x1 x2 x3 x4 x5 x6 x7 a
  have h' := p9 x0 x1 x2 x3 x4 x5 x6 x7 a
  have h'' := p22' x0 x1 x2 x3 x4 x5 x6 x7 a
  rw [p29]
  simp only [p26]
  simp only [h, h', h'']
  rfl
end

/-! ## The test of a row's position -/

theorem test_eq : ∀ t : Fin 26, ∀ r : Fin 640, (test (BitVec.ofNat 32 t.val) r = 1#1)
    = (16 ≤ (t.val * 640 + r.val) % 8 * 2080 + (t.val * 640 + r.val) / 8 ∧ (t.val * 640 + r.val) % 8 * 2080 + (t.val * 640 + r.val) / 8 < 16400) := by
  have h : ∀ t : Fin 26, ∀ r : Fin 640, (test (BitVec.ofNat 32 t.val) r = 1#1)
    ↔ (16 ≤ (t.val * 640 + r.val) % 8 * 2080 + (t.val * 640 + r.val) / 8 ∧ (t.val * 640 + r.val) % 8 * 2080 + (t.val * 640 + r.val) / 8 < 16400) := by
    decide +kernel
  exact fun t r => propext (h t r)

theorem coord (t : Fin cfg0.N) : (grid0.coords t 0).val = t.val :=
  (by decide +kernel : ∀ t : Fin grid0.N, (grid0.coords t 0).val = t.val) t

theorem idx : ∀ t : Fin cfg0.N, win0_0.index t = ![t.val, 0]
    ∧ win0_1.index t = ![t.val, 0]
    ∧ win0_2.index t = ![t.val, 0]
    ∧ win0_3.index t = ![t.val, 0]
    ∧ win0_4.index t = ![t.val, 0]
    ∧ win0_5.index t = ![0, 0]
    ∧ win0_6.index t = ![0, 0]
    ∧ win0_7.index t = ![0, 0]
    ∧ win0_8.index t = ![0, 0]
    ∧ win0_9.index t = ![t.val, 0]
    ∧ win0_10.index t = ![t.val, 0]
    ∧ win0_11.index t = ![t.val, 0]
    ∧ win0_12.index t = ![t.val, 0]
    ∧ win0_13.index t = ![t.val, 0]
    ∧ win0_14.index t = ![0, 0]
    ∧ win0_15.index t = ![0, 0]
    ∧ win0_16.index t = ![0, 0]
    ∧ win0_17.index t = ![0, 0] :=
  (by decide +kernel : ∀ t : Fin grid0.N, _)

/-- The array's row at place `r` of a grid point's tile. -/
def rw' (t : Fin cfg0.N) (r : Fin 640) : Fin 16640 := ⟨t.val * 640 + r.val, by
  have h : t.val < 26 := lt_of_lt_of_eq t.isLt N_0
  omega⟩

section
variable (m : (ℓ : Loc nD τ sig) → Buf (Elt Ideal) ℓ) (c : Dev nD)

theorem blk0 (X : Vec Ideal S16640x512 .f32) (e : V m c main_v11 = X) (t : Fin cfg0.N) (r : Fin 640) (j : Fin 512) :
    iblk m c 0 t (ix2 r j) = X (ix2 (rw' t r) j) := by
  have rd : ∀ f : Vec Ideal S16640x512 .f32, ((cfg0.win 0).blk t).view.read (Elt Ideal) f (ix2 r j) = f (ix2 (rw' t r) j) := fun f => by
    blk_ext [idx t, rw']
  show ((cfg0.win 0).blk t).view.read (Elt Ideal) (V m c main_v11) _ = _
  rw [e]
  exact rd X

theorem blk1 (X : Vec Ideal S16640x512 .f32) (e : V m c main_v15 = X) (t : Fin cfg0.N) (r : Fin 640) (j : Fin 512) :
    iblk m c 1 t (ix2 r j) = X (ix2 (rw' t r) j) := by
  have rd : ∀ f : Vec Ideal S16640x512 .f32, ((cfg0.win 1).blk t).view.read (Elt Ideal) f (ix2 r j) = f (ix2 (rw' t r) j) := fun f => by
    blk_ext [idx t, rw']
  show ((cfg0.win 1).blk t).view.read (Elt Ideal) (V m c main_v15) _ = _
  rw [e]
  exact rd X

theorem blk2 (X : Vec Ideal S16640x512 .f32) (e : V m c main_v19 = X) (t : Fin cfg0.N) (r : Fin 640) (j : Fin 512) :
    iblk m c 2 t (ix2 r j) = X (ix2 (rw' t r) j) := by
  have rd : ∀ f : Vec Ideal S16640x512 .f32, ((cfg0.win 2).blk t).view.read (Elt Ideal) f (ix2 r j) = f (ix2 (rw' t r) j) := fun f => by
    blk_ext [idx t, rw']
  show ((cfg0.win 2).blk t).view.read (Elt Ideal) (V m c main_v19) _ = _
  rw [e]
  exact rd X

theorem blk3 (X : Vec Ideal S16640x1024 .f32) (e : V m c main_v23 = X) (t : Fin cfg0.N) (r : Fin 640) (j : Fin 1024) :
    iblk m c 3 t (ix2 r j) = X (ix2 (rw' t r) j) := by
  have rd : ∀ f : Vec Ideal S16640x1024 .f32, ((cfg0.win 3).blk t).view.read (Elt Ideal) f (ix2 r j) = f (ix2 (rw' t r) j) := fun f => by
    blk_ext [idx t, rw']
  show ((cfg0.win 3).blk t).view.read (Elt Ideal) (V m c main_v23) _ = _
  rw [e]
  exact rd X

theorem blk4 (X : Vec Ideal S16640x1024 .f32) (e : V m c main_v7 = X) (t : Fin cfg0.N) (r : Fin 640) (j : Fin 1024) :
    iblk m c 4 t (ix2 r j) = X (ix2 (rw' t r) j) := by
  have rd : ∀ f : Vec Ideal S16640x1024 .f32, ((cfg0.win 4).blk t).view.read (Elt Ideal) f (ix2 r j) = f (ix2 (rw' t r) j) := fun f => by
    blk_ext [idx t, rw']
  show ((cfg0.win 4).blk t).view.read (Elt Ideal) (V m c main_v7) _ = _
  rw [e]
  exact rd X

theorem blk5 (X : Vec Ideal S1024x1024 .bf16) (e : V m c main_v24 = X) (t : Fin cfg0.N) (r : Fin 1024) (j : Fin 1024) :
    iblk m c 5 t (ix2 r j) = X (ix2 r j) := by
  have rd : ∀ f : Vec Ideal S1024x1024 .bf16, ((cfg0.win 5).blk t).view.read (Elt Ideal) f (ix2 r j) = f (ix2 r j) := fun f => by
    blk_ext [idx t]
  show ((cfg0.win 5).blk t).view.read (Elt Ideal) (V m c main_v24) _ = _
  rw [e]
  exact rd X

theorem blk6 (X : Vec Ideal S1x1024 .f32) (e : V m c main_arg5 = X) (t : Fin cfg0.N) (r : Fin 1) (j : Fin 1024) :
    iblk m c 6 t (ix2 r j) = X (ix2 r j) := by
  have rd : ∀ f : Vec Ideal S1x1024 .f32, ((cfg0.win 6).blk t).view.read (Elt Ideal) f (ix2 r j) = f (ix2 r j) := fun f => by
    blk_ext [idx t]
  show ((cfg0.win 6).blk t).view.read (Elt Ideal) (V m c main_arg5) _ = _
  rw [e]
  exact rd X

theorem blk7 (X : Vec Ideal S1x512 .f32) (e : V m c main_arg6 = X) (t : Fin cfg0.N) (r : Fin 1) (j : Fin 512) :
    iblk m c 7 t (ix2 r j) = X (ix2 r j) := by
  have rd : ∀ f : Vec Ideal S1x512 .f32, ((cfg0.win 7).blk t).view.read (Elt Ideal) f (ix2 r j) = f (ix2 r j) := fun f => by
    blk_ext [idx t]
  show ((cfg0.win 7).blk t).view.read (Elt Ideal) (V m c main_arg6) _ = _
  rw [e]
  exact rd X

theorem blk8 (X : Vec Ideal S512x8 .f32) (e : V m c main_cst = X) (t : Fin cfg0.N) (r : Fin 512) (j : Fin 8) :
    iblk m c 8 t (ix2 r j) = X (ix2 r j) := by
  have rd : ∀ f : Vec Ideal S512x8 .f32, ((cfg0.win 8).blk t).view.read (Elt Ideal) f (ix2 r j) = f (ix2 r j) := fun f => by
    blk_ext [idx t]
  show ((cfg0.win 8).blk t).view.read (Elt Ideal) (V m c main_cst) _ = _
  rw [e]
  exact rd X

end

/-- The row of the arrays. -/
def aRow (X0 : Vec Ideal S16640x512 .f32)  (X1 : Vec Ideal S16640x512 .f32)  (X2 : Vec Ideal S16640x512 .f32)  (X3 : Vec Ideal S16640x1024 .f32)  (X4 : Vec Ideal S16640x1024 .f32)  (X5 : Vec Ideal S1024x1024 .bf16)  (X6 : Vec Ideal S1x1024 .f32)  (X7 : Vec Ideal S1x512 .f32) (r : Fin 16640) : Row := ⟨fun j => X0 (ix2 r j), fun j => X1 (ix2 r j), fun j => X2 (ix2 r j), fun j => X7 (ix2 0 j),
  fun e => X3 (ix2 r e), fun e => X4 (ix2 r e), fun e => X6 (ix2 0 e), fun d e => X5 (ix2 d e), ok r⟩

/-- An array of the call, row by row. -/
def arrOf {n : ℕ} (f : Row → Fin n → EReal) (X0 : Vec Ideal S16640x512 .f32)  (X1 : Vec Ideal S16640x512 .f32)  (X2 : Vec Ideal S16640x512 .f32)  (X3 : Vec Ideal S16640x1024 .f32)  (X4 : Vec Ideal S16640x1024 .f32)  (X5 : Vec Ideal S1024x1024 .bf16)  (X6 : Vec Ideal S1x1024 .f32)  (X7 : Vec Ideal S1x512 .f32) : Vec Ideal ⟨2, ![16640, n]⟩ .f32 :=
  fun i => f (aRow X0 X1 X2 X3 X4 X5 X6 X7 (i 0)) (i 1)

/-- A sum of the call over all rows. -/
def sumOf {n k : ℕ} (f : Row → Fin n → Fin k → EReal) (X0 : Vec Ideal S16640x512 .f32)  (X1 : Vec Ideal S16640x512 .f32)  (X2 : Vec Ideal S16640x512 .f32)  (X3 : Vec Ideal S16640x1024 .f32)  (X4 : Vec Ideal S16640x1024 .f32)  (X5 : Vec Ideal S1024x1024 .bf16)  (X6 : Vec Ideal S1x1024 .f32)  (X7 : Vec Ideal S1x512 .f32) : Vec Ideal ⟨2, ![n, k]⟩ .f32 :=
  fun y => ∑ r : Fin 16640, f (aRow X0 X1 X2 X3 X4 X5 X6 X7 r) (y 0) (y 1)

/-- The loss: a sum over the grid points. -/
def lossOf (X0 : Vec Ideal S16640x512 .f32)  (X1 : Vec Ideal S16640x512 .f32)  (X2 : Vec Ideal S16640x512 .f32)  (X3 : Vec Ideal S16640x1024 .f32)  (X4 : Vec Ideal S16640x1024 .f32)  (X5 : Vec Ideal S1024x1024 .bf16)  (X6 : Vec Ideal S1x1024 .f32)  (X7 : Vec Ideal S1x512 .f32) : Vec Ideal S1x1 .f32 := fun _ => ∑ s : Fin 26, H * (∑ k : Fin 640, (aRow X0 X1 X2 X3 X4 X5 X6 X7 ⟨s.val * 640 + k.val, by omega⟩).lTerm) * K

variable (m : (ℓ : Loc nD τ sig) → Buf (Elt Ideal) ℓ) (c : Dev nD)
  (X0 : Vec Ideal S16640x512 .f32)  (X1 : Vec Ideal S16640x512 .f32)  (X2 : Vec Ideal S16640x512 .f32)  (X3 : Vec Ideal S16640x1024 .f32)  (X4 : Vec Ideal S16640x1024 .f32)  (X5 : Vec Ideal S1024x1024 .bf16)  (X6 : Vec Ideal S1x1024 .f32)  (X7 : Vec Ideal S1x512 .f32)
  (e0 : V m c main_v11 = X0) (e1 : V m c main_v15 = X1) (e2 : V m c main_v19 = X2) (e3 : V m c main_v23 = X3) (e4 : V m c main_v7 = X4) (e5 : V m c main_v24 = X5) (e6 : V m c main_arg5 = X6) (e7 : V m c main_arg6 = X7)
  (t : Fin cfg0.N)

/-- A row of a grid point's blocks. -/
def bRow (r : Fin 640) : Row := xRow (iblk m c 0 t) (iblk m c 1 t) (iblk m c 2 t) (iblk m c 3 t) (iblk m c 4 t) (iblk m c 5 t) (iblk m c 6 t) (iblk m c 7 t)
  (BitVec.ofNat 32 (grid0.coords t 0).val) r

include e0 e1 e2 e3 e4 e5 e6 e7 in
theorem bRow_eq (r : Fin 640) : bRow m c t r = aRow X0 X1 X2 X3 X4 X5 X6 X7 (rw' t r) := by
  have h : t.val < 26 := lt_of_lt_of_eq t.isLt N_0
  unfold bRow xRow aRow
  simp only [blk0 m c X0 e0, blk1 m c X1 e1, blk2 m c X2 e2, blk3 m c X3 e3, blk4 m c X4 e4, blk5 m c X5 e5, blk6 m c X6 e6, blk7 m c X7 e7]
  rw [coord]
  have k := test_eq ⟨t.val, h⟩ r
  unfold ok Rows.pos rw'
  simp only [k]

/-- What a grid point adds to each of the four sums. -/
def partL (t : Fin cfg0.N) : Vec Ideal S1x1 .f32 := fun _ => H * (∑ r : Fin 640, (aRow X0 X1 X2 X3 X4 X5 X6 X7 (rw' t r)).lTerm) * K
def part {n k : ℕ} (f : Row → Fin n → Fin k → EReal) (t : Fin cfg0.N) : Vec Ideal ⟨2, ![n, k]⟩ .f32 := fun y => ∑ r : Fin 640, f (aRow X0 X1 X2 X3 X4 X5 X6 X7 (rw' t r)) (y 0) (y 1)

include e0 e1 e2 e3 e4 e5 e6 e7 in
theorem b9 (y : S640x1024.Idx) : k0_pay15 (BitVec.ofNat 32 (grid0.coords t 0).val) (k0_pay11 (iblk m c 0 t) (iblk m c 7 t) (iblk m c 1 t) (iblk m c 2 t) (iblk m c 5 t)) (k0_pay12 (iblk m c 0 t) (iblk m c 7 t) (iblk m c 1 t) (iblk m c 2 t) (iblk m c 5 t)) (iblk m c 6 t) (iblk m c 3 t) (iblk m c 4 t) y = arrOf Row.dout X0 X1 X2 X3 X4 X5 X6 X7 (ix2 (rw' t (y 0)) (y 1)) := by
  obtain ⟨r, d, rfl⟩ : ∃ r d, y = ix2 r d := ⟨y 0, y 1, eq_ix2 y⟩
  exact (p15 (iblk m c 0 t) (iblk m c 1 t) (iblk m c 2 t) (iblk m c 3 t) (iblk m c 4 t) (iblk m c 5 t) (iblk m c 6 t) (iblk m c 7 t) (BitVec.ofNat 32 (grid0.coords t 0).val) r d).trans (congrArg (fun R => Row.dout R d) (bRow_eq m c X0 X1 X2 X3 X4 X5 X6 X7 e0 e1 e2 e3 e4 e5 e6 e7 t r))

include e0 e1 e2 e3 e4 e5 e6 e7 in
theorem b10 (y : S640x512.Idx) : k0_pay31 (iblk m c 7 t) (k0_pay6 (iblk m c 1 t)) (k0_pay8 (iblk m c 0 t) (iblk m c 1 t)) (k0_pay9 (iblk m c 0 t) (iblk m c 1 t)) (k0_pay19 (k0_pay11 (iblk m c 0 t) (iblk m c 7 t) (iblk m c 1 t) (iblk m c 2 t) (iblk m c 5 t)) (k0_pay13 (k0_pay12 (iblk m c 0 t) (iblk m c 7 t) (iblk m c 1 t) (iblk m c 2 t) (iblk m c 5 t))) (iblk m c 6 t) (k0_pay15 (BitVec.ofNat 32 (grid0.coords t 0).val) (k0_pay11 (iblk m c 0 t) (iblk m c 7 t) (iblk m c 1 t) (iblk m c 2 t) (iblk m c 5 t)) (k0_pay12 (iblk m c 0 t) (iblk m c 7 t) (iblk m c 1 t) (iblk m c 2 t) (iblk m c 5 t)) (iblk m c 6 t) (iblk m c 3 t) (iblk m c 4 t))) (iblk m c 5 t) y = arrOf Row.dO X0 X1 X2 X3 X4 X5 X6 X7 (ix2 (rw' t (y 0)) (y 1)) := by
  obtain ⟨r, d, rfl⟩ : ∃ r d, y = ix2 r d := ⟨y 0, y 1, eq_ix2 y⟩
  exact (q10 (iblk m c 0 t) (iblk m c 1 t) (iblk m c 2 t) (iblk m c 3 t) (iblk m c 4 t) (iblk m c 5 t) (iblk m c 6 t) (iblk m c 7 t) (BitVec.ofNat 32 (grid0.coords t 0).val) r d).trans (congrArg (fun R => Row.dO R d) (bRow_eq m c X0 X1 X2 X3 X4 X5 X6 X7 e0 e1 e2 e3 e4 e5 e6 e7 t r))

include e0 e1 e2 e3 e4 e5 e6 e7 in
theorem b11 (y : S640x512.Idx) : k0_pay1 (k0_pay3 (iblk m c 0 t)) (k0_pay7 (iblk m c 1 t)) (k0_pay28 (iblk m c 7 t) (k0_pay8 (iblk m c 0 t) (iblk m c 1 t)) (k0_pay9 (iblk m c 0 t) (iblk m c 1 t)) (k0_pay19 (k0_pay11 (iblk m c 0 t) (iblk m c 7 t) (iblk m c 1 t) (iblk m c 2 t) (iblk m c 5 t)) (k0_pay13 (k0_pay12 (iblk m c 0 t) (iblk m c 7 t) (iblk m c 1 t) (iblk m c 2 t) (iblk m c 5 t))) (iblk m c 6 t) (k0_pay15 (BitVec.ofNat 32 (grid0.coords t 0).val) (k0_pay11 (iblk m c 0 t) (iblk m c 7 t) (iblk m c 1 t) (iblk m c 2 t) (iblk m c 5 t)) (k0_pay12 (iblk m c 0 t) (iblk m c 7 t) (iblk m c 1 t) (iblk m c 2 t) (iblk m c 5 t)) (iblk m c 6 t) (iblk m c 3 t) (iblk m c 4 t))) (iblk m c 5 t)) y = arrOf Row.dG X0 X1 X2 X3 X4 X5 X6 X7 (ix2 (rw' t (y 0)) (y 1)) := by
  obtain ⟨r, d, rfl⟩ : ∃ r d, y = ix2 r d := ⟨y 0, y 1, eq_ix2 y⟩
  exact (q11 (iblk m c 0 t) (iblk m c 1 t) (iblk m c 2 t) (iblk m c 3 t) (iblk m c 4 t) (iblk m c 5 t) (iblk m c 6 t) (iblk m c 7 t) (BitVec.ofNat 32 (grid0.coords t 0).val) r d).trans (congrArg (fun R => Row.dG R d) (bRow_eq m c X0 X1 X2 X3 X4 X5 X6 X7 e0 e1 e2 e3 e4 e5 e6 e7 t r))

include e0 e1 e2 e3 e4 e5 e6 e7 in
theorem b12 (y : S640x512.Idx) : k0_pay25 (k0_pay19 (k0_pay11 (iblk m c 0 t) (iblk m c 7 t) (iblk m c 1 t) (iblk m c 2 t) (iblk m c 5 t)) (k0_pay13 (k0_pay12 (iblk m c 0 t) (iblk m c 7 t) (iblk m c 1 t) (iblk m c 2 t) (iblk m c 5 t))) (iblk m c 6 t) (k0_pay15 (BitVec.ofNat 32 (grid0.coords t 0).val) (k0_pay11 (iblk m c 0 t) (iblk m c 7 t) (iblk m c 1 t) (iblk m c 2 t) (iblk m c 5 t)) (k0_pay12 (iblk m c 0 t) (iblk m c 7 t) (iblk m c 1 t) (iblk m c 2 t) (iblk m c 5 t)) (iblk m c 6 t) (iblk m c 3 t) (iblk m c 4 t))) (iblk m c 5 t) y = arrOf Row.dYs X0 X1 X2 X3 X4 X5 X6 X7 (ix2 (rw' t (y 0)) (y 1)) := by
  obtain ⟨r, d, rfl⟩ : ∃ r d, y = ix2 r d := ⟨y 0, y 1, eq_ix2 y⟩
  exact (q12 (iblk m c 0 t) (iblk m c 1 t) (iblk m c 2 t) (iblk m c 3 t) (iblk m c 4 t) (iblk m c 5 t) (iblk m c 6 t) (iblk m c 7 t) (BitVec.ofNat 32 (grid0.coords t 0).val) r d).trans (congrArg (fun R => Row.dYs R d) (bRow_eq m c X0 X1 X2 X3 X4 X5 X6 X7 e0 e1 e2 e3 e4 e5 e6 e7 t r))

include e0 e1 e2 e3 e4 e5 e6 e7 in
theorem b15 (y : S1x1024.Idx) : k0_pay20 (k0_pay11 (iblk m c 0 t) (iblk m c 7 t) (iblk m c 1 t) (iblk m c 2 t) (iblk m c 5 t)) (k0_pay13 (k0_pay12 (iblk m c 0 t) (iblk m c 7 t) (iblk m c 1 t) (iblk m c 2 t) (iblk m c 5 t))) (k0_pay15 (BitVec.ofNat 32 (grid0.coords t 0).val) (k0_pay11 (iblk m c 0 t) (iblk m c 7 t) (iblk m c 1 t) (iblk m c 2 t) (iblk m c 5 t)) (k0_pay12 (iblk m c 0 t) (iblk m c 7 t) (iblk m c 1 t) (iblk m c 2 t) (iblk m c 5 t)) (iblk m c 6 t) (iblk m c 3 t) (iblk m c 4 t)) y = part X0 X1 X2 X3 X4 X5 X6 X7 (fun R _ e => Row.pTerm R e) t y := by
  obtain ⟨r, d, rfl⟩ : ∃ r d, y = ix2 r d := ⟨y 0, y 1, eq_ix2 y⟩
  exact (q15 (iblk m c 0 t) (iblk m c 1 t) (iblk m c 2 t) (iblk m c 3 t) (iblk m c 4 t) (iblk m c 5 t) (iblk m c 6 t) (iblk m c 7 t) (BitVec.ofNat 32 (grid0.coords t 0).val) r d).trans (Finset.sum_congr rfl fun r' _ => congrArg (fun R => (fun R _ e => Row.pTerm R e) R r d) (bRow_eq m c X0 X1 X2 X3 X4 X5 X6 X7 e0 e1 e2 e3 e4 e5 e6 e7 t r'))

include e0 e1 e2 e3 e4 e5 e6 e7 in
theorem b16 (y : S1024x1024.Idx) : k0_pay23 (k0_pay10 (iblk m c 0 t) (iblk m c 7 t) (iblk m c 1 t) (iblk m c 2 t)) (k0_pay19 (k0_pay11 (iblk m c 0 t) (iblk m c 7 t) (iblk m c 1 t) (iblk m c 2 t) (iblk m c 5 t)) (k0_pay13 (k0_pay12 (iblk m c 0 t) (iblk m c 7 t) (iblk m c 1 t) (iblk m c 2 t) (iblk m c 5 t))) (iblk m c 6 t) (k0_pay15 (BitVec.ofNat 32 (grid0.coords t 0).val) (k0_pay11 (iblk m c 0 t) (iblk m c 7 t) (iblk m c 1 t) (iblk m c 2 t) (iblk m c 5 t)) (k0_pay12 (iblk m c 0 t) (iblk m c 7 t) (iblk m c 1 t) (iblk m c 2 t) (iblk m c 5 t)) (iblk m c 6 t) (iblk m c 3 t) (iblk m c 4 t))) y = part X0 X1 X2 X3 X4 X5 X6 X7 Row.wTerm t y := by
  obtain ⟨r, d, rfl⟩ : ∃ r d, y = ix2 r d := ⟨y 0, y 1, eq_ix2 y⟩
  exact (q16 (iblk m c 0 t) (iblk m c 1 t) (iblk m c 2 t) (iblk m c 3 t) (iblk m c 4 t) (iblk m c 5 t) (iblk m c 6 t) (iblk m c 7 t) (BitVec.ofNat 32 (grid0.coords t 0).val) r d).trans (Finset.sum_congr rfl fun r' _ => congrArg (fun R => Row.wTerm R r d) (bRow_eq m c X0 X1 X2 X3 X4 X5 X6 X7 e0 e1 e2 e3 e4 e5 e6 e7 t r'))

include e0 e1 e2 e3 e4 e5 e6 e7 in
theorem b17 (y : S1x512.Idx) : k0_pay29 (k0_pay8 (iblk m c 0 t) (iblk m c 1 t)) (k0_pay9 (iblk m c 0 t) (iblk m c 1 t)) (k0_pay19 (k0_pay11 (iblk m c 0 t) (iblk m c 7 t) (iblk m c 1 t) (iblk m c 2 t) (iblk m c 5 t)) (k0_pay13 (k0_pay12 (iblk m c 0 t) (iblk m c 7 t) (iblk m c 1 t) (iblk m c 2 t) (iblk m c 5 t))) (iblk m c 6 t) (k0_pay15 (BitVec.ofNat 32 (grid0.coords t 0).val) (k0_pay11 (iblk m c 0 t) (iblk m c 7 t) (iblk m c 1 t) (iblk m c 2 t) (iblk m c 5 t)) (k0_pay12 (iblk m c 0 t) (iblk m c 7 t) (iblk m c 1 t) (iblk m c 2 t) (iblk m c 5 t)) (iblk m c 6 t) (iblk m c 3 t) (iblk m c 4 t))) (iblk m c 5 t) y = part X0 X1 X2 X3 X4 X5 X6 X7 (fun R _ j => Row.aTerm R j) t y := by
  obtain ⟨r, d, rfl⟩ : ∃ r d, y = ix2 r d := ⟨y 0, y 1, eq_ix2 y⟩
  exact (q17 (iblk m c 0 t) (iblk m c 1 t) (iblk m c 2 t) (iblk m c 3 t) (iblk m c 4 t) (iblk m c 5 t) (iblk m c 6 t) (iblk m c 7 t) (BitVec.ofNat 32 (grid0.coords t 0).val) r d).trans (Finset.sum_congr rfl fun r' _ => congrArg (fun R => (fun R _ j => Row.aTerm R j) R r d) (bRow_eq m c X0 X1 X2 X3 X4 X5 X6 X7 e0 e1 e2 e3 e4 e5 e6 e7 t r'))

include e0 e1 e2 e3 e4 e5 e6 e7 in
theorem b14 (y : S1x1.Idx) : k0_pay16 (k0_pay14 (BitVec.ofNat 32 (grid0.coords t 0).val) (k0_pay11 (iblk m c 0 t) (iblk m c 7 t) (iblk m c 1 t) (iblk m c 2 t) (iblk m c 5 t)) (k0_pay12 (iblk m c 0 t) (iblk m c 7 t) (iblk m c 1 t) (iblk m c 2 t) (iblk m c 5 t)) (iblk m c 6 t) (iblk m c 3 t) (iblk m c 4 t)) y = partL X0 X1 X2 X3 X4 X5 X6 X7 t y := by
  obtain ⟨r, d, rfl⟩ : ∃ r d, y = ix2 r d := ⟨y 0, y 1, eq_ix2 y⟩
  exact (q14 (iblk m c 0 t) (iblk m c 1 t) (iblk m c 2 t) (iblk m c 3 t) (iblk m c 4 t) (iblk m c 5 t) (iblk m c 6 t) (iblk m c 7 t) (BitVec.ofNat 32 (grid0.coords t 0).val) r d).trans (congrArg (fun s => H * s * K) (Finset.sum_congr rfl fun r' _ => congrArg (fun R => Row.lTerm R) (bRow_eq m c X0 X1 X2 X3 X4 X5 X6 X7 e0 e1 e2 e3 e4 e5 e6 e7 t r')))

/-- What the points leave, in terms of their blocks: at the first point, and at a later one. -/
theorem outs_A (h : t.val % 26 = 0) : outsAt0 m c t.val t.isLt
    = (k0_pay15 (BitVec.ofNat 32 (grid0.coords t 0).val) (k0_pay11 (iblk m c 0 t) (iblk m c 7 t) (iblk m c 1 t) (iblk m c 2 t) (iblk m c 5 t)) (k0_pay12 (iblk m c 0 t) (iblk m c 7 t) (iblk m c 1 t) (iblk m c 2 t) (iblk m c 5 t)) (iblk m c 6 t) (iblk m c 3 t) (iblk m c 4 t),
       k0_pay31 (iblk m c 7 t) (k0_pay6 (iblk m c 1 t)) (k0_pay8 (iblk m c 0 t) (iblk m c 1 t)) (k0_pay9 (iblk m c 0 t) (iblk m c 1 t)) (k0_pay19 (k0_pay11 (iblk m c 0 t) (iblk m c 7 t) (iblk m c 1 t) (iblk m c 2 t) (iblk m c 5 t)) (k0_pay13 (k0_pay12 (iblk m c 0 t) (iblk m c 7 t) (iblk m c 1 t) (iblk m c 2 t) (iblk m c 5 t))) (iblk m c 6 t) (k0_pay15 (BitVec.ofNat 32 (grid0.coords t 0).val) (k0_pay11 (iblk m c 0 t) (iblk m c 7 t) (iblk m c 1 t) (iblk m c 2 t) (iblk m c 5 t)) (k0_pay12 (iblk m c 0 t) (iblk m c 7 t) (iblk m c 1 t) (iblk m c 2 t) (iblk m c 5 t)) (iblk m c 6 t) (iblk m c 3 t) (iblk m c 4 t))) (iblk m c 5 t),
       k0_pay1 (k0_pay3 (iblk m c 0 t)) (k0_pay7 (iblk m c 1 t)) (k0_pay28 (iblk m c 7 t) (k0_pay8 (iblk m c 0 t) (iblk m c 1 t)) (k0_pay9 (iblk m c 0 t) (iblk m c 1 t)) (k0_pay19 (k0_pay11 (iblk m c 0 t) (iblk m c 7 t) (iblk m c 1 t) (iblk m c 2 t) (iblk m c 5 t)) (k0_pay13 (k0_pay12 (iblk m c 0 t) (iblk m c 7 t) (iblk m c 1 t) (iblk m c 2 t) (iblk m c 5 t))) (iblk m c 6 t) (k0_pay15 (BitVec.ofNat 32 (grid0.coords t 0).val) (k0_pay11 (iblk m c 0 t) (iblk m c 7 t) (iblk m c 1 t) (iblk m c 2 t) (iblk m c 5 t)) (k0_pay12 (iblk m c 0 t) (iblk m c 7 t) (iblk m c 1 t) (iblk m c 2 t) (iblk m c 5 t)) (iblk m c 6 t) (iblk m c 3 t) (iblk m c 4 t))) (iblk m c 5 t)),
       k0_pay25 (k0_pay19 (k0_pay11 (iblk m c 0 t) (iblk m c 7 t) (iblk m c 1 t) (iblk m c 2 t) (iblk m c 5 t)) (k0_pay13 (k0_pay12 (iblk m c 0 t) (iblk m c 7 t) (iblk m c 1 t) (iblk m c 2 t) (iblk m c 5 t))) (iblk m c 6 t) (k0_pay15 (BitVec.ofNat 32 (grid0.coords t 0).val) (k0_pay11 (iblk m c 0 t) (iblk m c 7 t) (iblk m c 1 t) (iblk m c 2 t) (iblk m c 5 t)) (k0_pay12 (iblk m c 0 t) (iblk m c 7 t) (iblk m c 1 t) (iblk m c 2 t) (iblk m c 5 t)) (iblk m c 6 t) (iblk m c 3 t) (iblk m c 4 t))) (iblk m c 5 t),
       k0_pay2 (k0_pay3 (iblk m c 0 t)) (k0_pay31 (iblk m c 7 t) (k0_pay6 (iblk m c 1 t)) (k0_pay8 (iblk m c 0 t) (iblk m c 1 t)) (k0_pay9 (iblk m c 0 t) (iblk m c 1 t)) (k0_pay19 (k0_pay11 (iblk m c 0 t) (iblk m c 7 t) (iblk m c 1 t) (iblk m c 2 t) (iblk m c 5 t)) (k0_pay13 (k0_pay12 (iblk m c 0 t) (iblk m c 7 t) (iblk m c 1 t) (iblk m c 2 t) (iblk m c 5 t))) (iblk m c 6 t) (k0_pay15 (BitVec.ofNat 32 (grid0.coords t 0).val) (k0_pay11 (iblk m c 0 t) (iblk m c 7 t) (iblk m c 1 t) (iblk m c 2 t) (iblk m c 5 t)) (k0_pay12 (iblk m c 0 t) (iblk m c 7 t) (iblk m c 1 t) (iblk m c 2 t) (iblk m c 5 t)) (iblk m c 6 t) (iblk m c 3 t) (iblk m c 4 t))) (iblk m c 5 t)) (iblk m c 8 t),
       k0_pay16 (k0_pay14 (BitVec.ofNat 32 (grid0.coords t 0).val) (k0_pay11 (iblk m c 0 t) (iblk m c 7 t) (iblk m c 1 t) (iblk m c 2 t) (iblk m c 5 t)) (k0_pay12 (iblk m c 0 t) (iblk m c 7 t) (iblk m c 1 t) (iblk m c 2 t) (iblk m c 5 t)) (iblk m c 6 t) (iblk m c 3 t) (iblk m c 4 t)),
       k0_pay20 (k0_pay11 (iblk m c 0 t) (iblk m c 7 t) (iblk m c 1 t) (iblk m c 2 t) (iblk m c 5 t)) (k0_pay13 (k0_pay12 (iblk m c 0 t) (iblk m c 7 t) (iblk m c 1 t) (iblk m c 2 t) (iblk m c 5 t))) (k0_pay15 (BitVec.ofNat 32 (grid0.coords t 0).val) (k0_pay11 (iblk m c 0 t) (iblk m c 7 t) (iblk m c 1 t) (iblk m c 2 t) (iblk m c 5 t)) (k0_pay12 (iblk m c 0 t) (iblk m c 7 t) (iblk m c 1 t) (iblk m c 2 t) (iblk m c 5 t)) (iblk m c 6 t) (iblk m c 3 t) (iblk m c 4 t)),
       k0_pay23 (k0_pay10 (iblk m c 0 t) (iblk m c 7 t) (iblk m c 1 t) (iblk m c 2 t)) (k0_pay19 (k0_pay11 (iblk m c 0 t) (iblk m c 7 t) (iblk m c 1 t) (iblk m c 2 t) (iblk m c 5 t)) (k0_pay13 (k0_pay12 (iblk m c 0 t) (iblk m c 7 t) (iblk m c 1 t) (iblk m c 2 t) (iblk m c 5 t))) (iblk m c 6 t) (k0_pay15 (BitVec.ofNat 32 (grid0.coords t 0).val) (k0_pay11 (iblk m c 0 t) (iblk m c 7 t) (iblk m c 1 t) (iblk m c 2 t) (iblk m c 5 t)) (k0_pay12 (iblk m c 0 t) (iblk m c 7 t) (iblk m c 1 t) (iblk m c 2 t) (iblk m c 5 t)) (iblk m c 6 t) (iblk m c 3 t) (iblk m c 4 t))),
       k0_pay29 (k0_pay8 (iblk m c 0 t) (iblk m c 1 t)) (k0_pay9 (iblk m c 0 t) (iblk m c 1 t)) (k0_pay19 (k0_pay11 (iblk m c 0 t) (iblk m c 7 t) (iblk m c 1 t) (iblk m c 2 t) (iblk m c 5 t)) (k0_pay13 (k0_pay12 (iblk m c 0 t) (iblk m c 7 t) (iblk m c 1 t) (iblk m c 2 t) (iblk m c 5 t))) (iblk m c 6 t) (k0_pay15 (BitVec.ofNat 32 (grid0.coords t 0).val) (k0_pay11 (iblk m c 0 t) (iblk m c 7 t) (iblk m c 1 t) (iblk m c 2 t) (iblk m c 5 t)) (k0_pay12 (iblk m c 0 t) (iblk m c 7 t) (iblk m c 1 t) (iblk m c 2 t) (iblk m c 5 t)) (iblk m c 6 t) (iblk m c 3 t) (iblk m c 4 t))) (iblk m c 5 t)) := by
  have h' : t.val < 26 := lt_of_lt_of_eq t.isLt N_0
  rw [outsAt0_A m c t h (by omega) h (by omega) h (by omega) h (by omega), outA_9, outA_10, outA_11, outA_12, outA_13, outA_14, outA_15, outA_16, outA_17]

theorem outs_B (h : ¬ t.val % 26 = 0) : outsAt0 m c t.val t.isLt
    = (k0_pay15 (BitVec.ofNat 32 (grid0.coords t 0).val) (k0_pay11 (iblk m c 0 t) (iblk m c 7 t) (iblk m c 1 t) (iblk m c 2 t) (iblk m c 5 t)) (k0_pay12 (iblk m c 0 t) (iblk m c 7 t) (iblk m c 1 t) (iblk m c 2 t) (iblk m c 5 t)) (iblk m c 6 t) (iblk m c 3 t) (iblk m c 4 t),
       k0_pay31 (iblk m c 7 t) (k0_pay6 (iblk m c 1 t)) (k0_pay8 (iblk m c 0 t) (iblk m c 1 t)) (k0_pay9 (iblk m c 0 t) (iblk m c 1 t)) (k0_pay19 (k0_pay11 (iblk m c 0 t) (iblk m c 7 t) (iblk m c 1 t) (iblk m c 2 t) (iblk m c 5 t)) (k0_pay13 (k0_pay12 (iblk m c 0 t) (iblk m c 7 t) (iblk m c 1 t) (iblk m c 2 t) (iblk m c 5 t))) (iblk m c 6 t) (k0_pay15 (BitVec.ofNat 32 (grid0.coords t 0).val) (k0_pay11 (iblk m c 0 t) (iblk m c 7 t) (iblk m c 1 t) (iblk m c 2 t) (iblk m c 5 t)) (k0_pay12 (iblk m c 0 t) (iblk m c 7 t) (iblk m c 1 t) (iblk m c 2 t) (iblk m c 5 t)) (iblk m c 6 t) (iblk m c 3 t) (iblk m c 4 t))) (iblk m c 5 t),
       k0_pay1 (k0_pay3 (iblk m c 0 t)) (k0_pay7 (iblk m c 1 t)) (k0_pay28 (iblk m c 7 t) (k0_pay8 (iblk m c 0 t) (iblk m c 1 t)) (k0_pay9 (iblk m c 0 t) (iblk m c 1 t)) (k0_pay19 (k0_pay11 (iblk m c 0 t) (iblk m c 7 t) (iblk m c 1 t) (iblk m c 2 t) (iblk m c 5 t)) (k0_pay13 (k0_pay12 (iblk m c 0 t) (iblk m c 7 t) (iblk m c 1 t) (iblk m c 2 t) (iblk m c 5 t))) (iblk m c 6 t) (k0_pay15 (BitVec.ofNat 32 (grid0.coords t 0).val) (k0_pay11 (iblk m c 0 t) (iblk m c 7 t) (iblk m c 1 t) (iblk m c 2 t) (iblk m c 5 t)) (k0_pay12 (iblk m c 0 t) (iblk m c 7 t) (iblk m c 1 t) (iblk m c 2 t) (iblk m c 5 t)) (iblk m c 6 t) (iblk m c 3 t) (iblk m c 4 t))) (iblk m c 5 t)),
       k0_pay25 (k0_pay19 (k0_pay11 (iblk m c 0 t) (iblk m c 7 t) (iblk m c 1 t) (iblk m c 2 t) (iblk m c 5 t)) (k0_pay13 (k0_pay12 (iblk m c 0 t) (iblk m c 7 t) (iblk m c 1 t) (iblk m c 2 t) (iblk m c 5 t))) (iblk m c 6 t) (k0_pay15 (BitVec.ofNat 32 (grid0.coords t 0).val) (k0_pay11 (iblk m c 0 t) (iblk m c 7 t) (iblk m c 1 t) (iblk m c 2 t) (iblk m c 5 t)) (k0_pay12 (iblk m c 0 t) (iblk m c 7 t) (iblk m c 1 t) (iblk m c 2 t) (iblk m c 5 t)) (iblk m c 6 t) (iblk m c 3 t) (iblk m c 4 t))) (iblk m c 5 t),
       k0_pay2 (k0_pay3 (iblk m c 0 t)) (k0_pay31 (iblk m c 7 t) (k0_pay6 (iblk m c 1 t)) (k0_pay8 (iblk m c 0 t) (iblk m c 1 t)) (k0_pay9 (iblk m c 0 t) (iblk m c 1 t)) (k0_pay19 (k0_pay11 (iblk m c 0 t) (iblk m c 7 t) (iblk m c 1 t) (iblk m c 2 t) (iblk m c 5 t)) (k0_pay13 (k0_pay12 (iblk m c 0 t) (iblk m c 7 t) (iblk m c 1 t) (iblk m c 2 t) (iblk m c 5 t))) (iblk m c 6 t) (k0_pay15 (BitVec.ofNat 32 (grid0.coords t 0).val) (k0_pay11 (iblk m c 0 t) (iblk m c 7 t) (iblk m c 1 t) (iblk m c 2 t) (iblk m c 5 t)) (k0_pay12 (iblk m c 0 t) (iblk m c 7 t) (iblk m c 1 t) (iblk m c 2 t) (iblk m c 5 t)) (iblk m c 6 t) (iblk m c 3 t) (iblk m c 4 t))) (iblk m c 5 t)) (iblk m c 8 t),
       k0_pay17 (k0_pay14 (BitVec.ofNat 32 (grid0.coords t 0).val) (k0_pay11 (iblk m c 0 t) (iblk m c 7 t) (iblk m c 1 t) (iblk m c 2 t) (iblk m c 5 t)) (k0_pay12 (iblk m c 0 t) (iblk m c 7 t) (iblk m c 1 t) (iblk m c 2 t) (iblk m c 5 t)) (iblk m c 6 t) (iblk m c 3 t) (iblk m c 4 t)) (outsAt0 m c (t.val - 1) (Nat.lt_of_le_of_lt (Nat.sub_le _ _) t.isLt)).2.2.2.2.2.1,
       k0_pay21 (k0_pay11 (iblk m c 0 t) (iblk m c 7 t) (iblk m c 1 t) (iblk m c 2 t) (iblk m c 5 t)) (k0_pay13 (k0_pay12 (iblk m c 0 t) (iblk m c 7 t) (iblk m c 1 t) (iblk m c 2 t) (iblk m c 5 t))) (k0_pay15 (BitVec.ofNat 32 (grid0.coords t 0).val) (k0_pay11 (iblk m c 0 t) (iblk m c 7 t) (iblk m c 1 t) (iblk m c 2 t) (iblk m c 5 t)) (k0_pay12 (iblk m c 0 t) (iblk m c 7 t) (iblk m c 1 t) (iblk m c 2 t) (iblk m c 5 t)) (iblk m c 6 t) (iblk m c 3 t) (iblk m c 4 t)) (outsAt0 m c (t.val - 1) (Nat.lt_of_le_of_lt (Nat.sub_le _ _) t.isLt)).2.2.2.2.2.2.1,
       k0_pay24 (k0_pay10 (iblk m c 0 t) (iblk m c 7 t) (iblk m c 1 t) (iblk m c 2 t)) (k0_pay19 (k0_pay11 (iblk m c 0 t) (iblk m c 7 t) (iblk m c 1 t) (iblk m c 2 t) (iblk m c 5 t)) (k0_pay13 (k0_pay12 (iblk m c 0 t) (iblk m c 7 t) (iblk m c 1 t) (iblk m c 2 t) (iblk m c 5 t))) (iblk m c 6 t) (k0_pay15 (BitVec.ofNat 32 (grid0.coords t 0).val) (k0_pay11 (iblk m c 0 t) (iblk m c 7 t) (iblk m c 1 t) (iblk m c 2 t) (iblk m c 5 t)) (k0_pay12 (iblk m c 0 t) (iblk m c 7 t) (iblk m c 1 t) (iblk m c 2 t) (iblk m c 5 t)) (iblk m c 6 t) (iblk m c 3 t) (iblk m c 4 t))) (outsAt0 m c (t.val - 1) (Nat.lt_of_le_of_lt (Nat.sub_le _ _) t.isLt)).2.2.2.2.2.2.2.1,
       k0_pay30 (k0_pay8 (iblk m c 0 t) (iblk m c 1 t)) (k0_pay9 (iblk m c 0 t) (iblk m c 1 t)) (k0_pay19 (k0_pay11 (iblk m c 0 t) (iblk m c 7 t) (iblk m c 1 t) (iblk m c 2 t) (iblk m c 5 t)) (k0_pay13 (k0_pay12 (iblk m c 0 t) (iblk m c 7 t) (iblk m c 1 t) (iblk m c 2 t) (iblk m c 5 t))) (iblk m c 6 t) (k0_pay15 (BitVec.ofNat 32 (grid0.coords t 0).val) (k0_pay11 (iblk m c 0 t) (iblk m c 7 t) (iblk m c 1 t) (iblk m c 2 t) (iblk m c 5 t)) (k0_pay12 (iblk m c 0 t) (iblk m c 7 t) (iblk m c 1 t) (iblk m c 2 t) (iblk m c 5 t)) (iblk m c 6 t) (iblk m c 3 t) (iblk m c 4 t))) (iblk m c 5 t) (outsAt0 m c (t.val - 1) (Nat.lt_of_le_of_lt (Nat.sub_le _ _) t.isLt)).2.2.2.2.2.2.2.2) := by
  rw [outsAt0_B m c t h (by omega) h (by omega) h (by omega) h (by omega), outB_9, outB_10, outB_11, outB_12, outB_13, outB_14, outB_15, outB_16, outB_17]

include e0 e1 e2 e3 e4 e5 e6 e7 in
theorem final9 : (dats m 0 c).arrAt 9 (cfgs 0).N = arrOf Row.dout X0 X1 X2 X3 X4 X5 X6 X7 := by
  refine (dats m 0 c).arrAt_eq_of_covers 9 _ (by decide +kernel) fun t _ y => ?_
  blk_simp
  rw [after0_9]
  have h : (outsAt0 m c t.val t.isLt).1 y = arrOf Row.dout X0 X1 X2 X3 X4 X5 X6 X7 (ix2 (rw' t (y 0)) (y 1)) := by
    by_cases h0 : t.val % 26 = 0
    · rw [outs_A m c t h0]
      exact b9 m c X0 X1 X2 X3 X4 X5 X6 X7 e0 e1 e2 e3 e4 e5 e6 e7 t y
    · rw [outs_B m c t h0]
      exact b9 m c X0 X1 X2 X3 X4 X5 X6 X7 e0 e1 e2 e3 e4 e5 e6 e7 t y
  rw [h]
  generalize arrOf Row.dout X0 X1 X2 X3 X4 X5 X6 X7 = G
  blk_ext [idx t, rw']

include e0 e1 e2 e3 e4 e5 e6 e7 in
theorem final10 : (dats m 0 c).arrAt 10 (cfgs 0).N = arrOf Row.dO X0 X1 X2 X3 X4 X5 X6 X7 := by
  refine (dats m 0 c).arrAt_eq_of_covers 10 _ (by decide +kernel) fun t _ y => ?_
  blk_simp
  rw [after0_10]
  have h : (outsAt0 m c t.val t.isLt).2.1 y = arrOf Row.dO X0 X1 X2 X3 X4 X5 X6 X7 (ix2 (rw' t (y 0)) (y 1)) := by
    by_cases h0 : t.val % 26 = 0
    · rw [outs_A m c t h0]
      exact b10 m c X0 X1 X2 X3 X4 X5 X6 X7 e0 e1 e2 e3 e4 e5 e6 e7 t y
    · rw [outs_B m c t h0]
      exact b10 m c X0 X1 X2 X3 X4 X5 X6 X7 e0 e1 e2 e3 e4 e5 e6 e7 t y
  rw [h]
  generalize arrOf Row.dO X0 X1 X2 X3 X4 X5 X6 X7 = G
  blk_ext [idx t, rw']

include e0 e1 e2 e3 e4 e5 e6 e7 in
theorem final11 : (dats m 0 c).arrAt 11 (cfgs 0).N = arrOf Row.dG X0 X1 X2 X3 X4 X5 X6 X7 := by
  refine (dats m 0 c).arrAt_eq_of_covers 11 _ (by decide +kernel) fun t _ y => ?_
  blk_simp
  rw [after0_11]
  have h : (outsAt0 m c t.val t.isLt).2.2.1 y = arrOf Row.dG X0 X1 X2 X3 X4 X5 X6 X7 (ix2 (rw' t (y 0)) (y 1)) := by
    by_cases h0 : t.val % 26 = 0
    · rw [outs_A m c t h0]
      exact b11 m c X0 X1 X2 X3 X4 X5 X6 X7 e0 e1 e2 e3 e4 e5 e6 e7 t y
    · rw [outs_B m c t h0]
      exact b11 m c X0 X1 X2 X3 X4 X5 X6 X7 e0 e1 e2 e3 e4 e5 e6 e7 t y
  rw [h]
  generalize arrOf Row.dG X0 X1 X2 X3 X4 X5 X6 X7 = G
  blk_ext [idx t, rw']

include e0 e1 e2 e3 e4 e5 e6 e7 in
theorem final12 : (dats m 0 c).arrAt 12 (cfgs 0).N = arrOf Row.dYs X0 X1 X2 X3 X4 X5 X6 X7 := by
  refine (dats m 0 c).arrAt_eq_of_covers 12 _ (by decide +kernel) fun t _ y => ?_
  blk_simp
  rw [after0_12]
  have h : (outsAt0 m c t.val t.isLt).2.2.2.1 y = arrOf Row.dYs X0 X1 X2 X3 X4 X5 X6 X7 (ix2 (rw' t (y 0)) (y 1)) := by
    by_cases h0 : t.val % 26 = 0
    · rw [outs_A m c t h0]
      exact b12 m c X0 X1 X2 X3 X4 X5 X6 X7 e0 e1 e2 e3 e4 e5 e6 e7 t y
    · rw [outs_B m c t h0]
      exact b12 m c X0 X1 X2 X3 X4 X5 X6 X7 e0 e1 e2 e3 e4 e5 e6 e7 t y
  rw [h]
  generalize arrOf Row.dYs X0 X1 X2 X3 X4 X5 X6 X7 = G
  blk_ext [idx t, rw']

include e0 e1 e2 e3 e4 e5 e6 e7 in
theorem final15 : (dats m 0 c).arrAt 15 (cfgs 0).N = sumOf (fun R _ e => Row.pTerm R e) X0 X1 X2 X3 X4 X5 X6 X7 := by
  refine (dats m 0 c).arrAt_eq_of_covers 15 _ (by decide +kernel) fun t hf y => ?_
  blk_simp
  rw [after0_15, Pipeline.eq_sum_fin_of_reset_step_apply_of_flush (fun n h => (outsAt0 m c n h).2.2.2.2.2.2.1) 26 (fun _ => (0 : EReal)) (part X0 X1 X2 X3 X4 X5 X6 X7 (fun R _ e => Row.pTerm R e))
    (fun t h j => by
      rw [outs_A m c t h]
      exact (b15 m c X0 X1 X2 X3 X4 X5 X6 X7 e0 e1 e2 e3 e4 e5 e6 e7 t j).trans (zero_add _).symm)
    (fun t h j => by
      rw [outs_B m c t h]
      have k := b15 m c X0 X1 X2 X3 X4 X5 X6 X7 e0 e1 e2 e3 e4 e5 e6 e7 t j
      obtain ⟨r, d, rfl⟩ : ∃ r d, j = ix2 r d := ⟨j 0, j 1, eq_ix2 j⟩
      exact (p21 _ _ _ _ r d).trans (congrArg _ k))
    t ((flush0_15 t).mp hf) y, zero_add]
  have i : ∀ G : Vec Ideal S1x1024 .f32, G y = G ((win0_15.blk t).view.emb y) := fun G => by
    obtain ⟨r, d, rfl⟩ : ∃ r d, y = ix2 r d := ⟨y 0, y 1, eq_ix2 y⟩
    blk_ext [idx t]
  refine Eq.trans ?_ (i (sumOf (fun R _ e => Row.pTerm R e) X0 X1 X2 X3 X4 X5 X6 X7))
  have ht : t.val < 26 := lt_of_lt_of_eq t.isLt N_0
  unfold part sumOf
  refine Fin.sum_mul_add_congr fun s k hl => ?_
  have hs : s.val < 26 := s.isLt
  refine congrArg (fun r => (fun R _ e => Row.pTerm R e) (aRow X0 X1 X2 X3 X4 X5 X6 X7 r) (y 0) (y 1)) (Fin.ext ?_)
  show (26 * (t.val / 26) + s.val) * 640 + k.val = s.val * 640 + k.val
  omega

include e0 e1 e2 e3 e4 e5 e6 e7 in
theorem final16 : (dats m 0 c).arrAt 16 (cfgs 0).N = sumOf Row.wTerm X0 X1 X2 X3 X4 X5 X6 X7 := by
  refine (dats m 0 c).arrAt_eq_of_covers 16 _ (by decide +kernel) fun t hf y => ?_
  blk_simp
  rw [after0_16, Pipeline.eq_sum_fin_of_reset_step_apply_of_flush (fun n h => (outsAt0 m c n h).2.2.2.2.2.2.2.1) 26 (fun _ => (0 : EReal)) (part X0 X1 X2 X3 X4 X5 X6 X7 Row.wTerm)
    (fun t h j => by
      rw [outs_A m c t h]
      exact (b16 m c X0 X1 X2 X3 X4 X5 X6 X7 e0 e1 e2 e3 e4 e5 e6 e7 t j).trans (zero_add _).symm)
    (fun t h j => by
      rw [outs_B m c t h]
      have k := b16 m c X0 X1 X2 X3 X4 X5 X6 X7 e0 e1 e2 e3 e4 e5 e6 e7 t j
      obtain ⟨r, d, rfl⟩ : ∃ r d, j = ix2 r d := ⟨j 0, j 1, eq_ix2 j⟩
      exact (p24 _ _ _ r d).trans (congrArg _ k))
    t ((flush0_16 t).mp hf) y, zero_add]
  have i : ∀ G : Vec Ideal S1024x1024 .f32, G y = G ((win0_16.blk t).view.emb y) := fun G => by
    obtain ⟨r, d, rfl⟩ : ∃ r d, y = ix2 r d := ⟨y 0, y 1, eq_ix2 y⟩
    blk_ext [idx t]
  refine Eq.trans ?_ (i (sumOf Row.wTerm X0 X1 X2 X3 X4 X5 X6 X7))
  have ht : t.val < 26 := lt_of_lt_of_eq t.isLt N_0
  unfold part sumOf
  refine Fin.sum_mul_add_congr fun s k hl => ?_
  have hs : s.val < 26 := s.isLt
  refine congrArg (fun r => Row.wTerm (aRow X0 X1 X2 X3 X4 X5 X6 X7 r) (y 0) (y 1)) (Fin.ext ?_)
  show (26 * (t.val / 26) + s.val) * 640 + k.val = s.val * 640 + k.val
  omega

include e0 e1 e2 e3 e4 e5 e6 e7 in
theorem final17 : (dats m 0 c).arrAt 17 (cfgs 0).N = sumOf (fun R _ j => Row.aTerm R j) X0 X1 X2 X3 X4 X5 X6 X7 := by
  refine (dats m 0 c).arrAt_eq_of_covers 17 _ (by decide +kernel) fun t hf y => ?_
  blk_simp
  rw [after0_17, Pipeline.eq_sum_fin_of_reset_step_apply_of_flush (fun n h => (outsAt0 m c n h).2.2.2.2.2.2.2.2) 26 (fun _ => (0 : EReal)) (part X0 X1 X2 X3 X4 X5 X6 X7 (fun R _ j => Row.aTerm R j))
    (fun t h j => by
      rw [outs_A m c t h]
      exact (b17 m c X0 X1 X2 X3 X4 X5 X6 X7 e0 e1 e2 e3 e4 e5 e6 e7 t j).trans (zero_add _).symm)
    (fun t h j => by
      rw [outs_B m c t h]
      have k := b17 m c X0 X1 X2 X3 X4 X5 X6 X7 e0 e1 e2 e3 e4 e5 e6 e7 t j
      obtain ⟨r, d, rfl⟩ : ∃ r d, j = ix2 r d := ⟨j 0, j 1, eq_ix2 j⟩
      exact (p30 _ _ _ _ _ r d).trans (congrArg _ k))
    t ((flush0_17 t).mp hf) y, zero_add]
  have i : ∀ G : Vec Ideal S1x512 .f32, G y = G ((win0_17.blk t).view.emb y) := fun G => by
    obtain ⟨r, d, rfl⟩ : ∃ r d, y = ix2 r d := ⟨y 0, y 1, eq_ix2 y⟩
    blk_ext [idx t]
  refine Eq.trans ?_ (i (sumOf (fun R _ j => Row.aTerm R j) X0 X1 X2 X3 X4 X5 X6 X7))
  have ht : t.val < 26 := lt_of_lt_of_eq t.isLt N_0
  unfold part sumOf
  refine Fin.sum_mul_add_congr fun s k hl => ?_
  have hs : s.val < 26 := s.isLt
  refine congrArg (fun r => (fun R _ j => Row.aTerm R j) (aRow X0 X1 X2 X3 X4 X5 X6 X7 r) (y 0) (y 1)) (Fin.ext ?_)
  show (26 * (t.val / 26) + s.val) * 640 + k.val = s.val * 640 + k.val
  omega

include e0 e1 e2 e3 e4 e5 e6 e7 in
theorem final14 : (dats m 0 c).arrAt 14 (cfgs 0).N = lossOf X0 X1 X2 X3 X4 X5 X6 X7 := by
  refine (dats m 0 c).arrAt_eq_of_covers 14 _ (by decide +kernel) fun t hf y => ?_
  blk_simp
  rw [after0_14, Pipeline.eq_sum_fin_of_reset_step_apply_of_flush (fun n h => (outsAt0 m c n h).2.2.2.2.2.1) 26 (fun _ => (0 : EReal)) (partL X0 X1 X2 X3 X4 X5 X6 X7)
    (fun t h j => by
      rw [outs_A m c t h]
      exact (b14 m c X0 X1 X2 X3 X4 X5 X6 X7 e0 e1 e2 e3 e4 e5 e6 e7 t j).trans (zero_add _).symm)
    (fun t h j => by
      rw [outs_B m c t h]
      have k := b14 m c X0 X1 X2 X3 X4 X5 X6 X7 e0 e1 e2 e3 e4 e5 e6 e7 t j
      obtain ⟨r, d, rfl⟩ : ∃ r d, j = ix2 r d := ⟨j 0, j 1, eq_ix2 j⟩
      exact (p17 _ _ r d).trans (congrArg _ k))
    t ((flush0_14 t).mp hf) y, zero_add]
  have i : ∀ G : Vec Ideal S1x1 .f32, G y = G ((win0_14.blk t).view.emb y) := fun G => by
    obtain ⟨r, d, rfl⟩ : ∃ r d, y = ix2 r d := ⟨y 0, y 1, eq_ix2 y⟩
    blk_ext [idx t]
  refine Eq.trans ?_ (i (lossOf X0 X1 X2 X3 X4 X5 X6 X7))
  have ht : t.val < 26 := lt_of_lt_of_eq t.isLt N_0
  unfold partL lossOf
  refine Finset.sum_congr (M := EReal) rfl fun s _ => congrArg (fun s : EReal => H * s * K) (Finset.sum_congr (M := EReal) rfl fun k _ => ?_)
  have hs : s.val < 26 := s.isLt
  refine congrArg (fun r => (aRow X0 X1 X2 X3 X4 X5 X6 X7 r).lTerm) (Fin.ext ?_)
  show (26 * (t.val / 26) + s.val) * 640 + k.val = s.val * 640 + k.val
  omega

end Cert.OutValue
-- ==== Proof.Out.Host.lean ====
/-
  What the host lines before the gradient of the loss leave in the region's arguments, and what the lines after it make of
  the region's results.
-/
module

public import proofs.«01_k».proof.Proof.Out.Region

@[expose] public section

set_option maxRecDepth 16384

noncomputable section

open Idealize.ShloMosaic Idealize.ShloMosaic.TcCoe Idealize.SL.Sem

namespace Cert.OutValue

open Cert.OutIdeal Cert.OutIdeal.Gen

variable (m : (ℓ : Loc nD τ sig) → Buf (Elt Ideal) ℓ)

theorem V_eq (c : Dev nD) : V0 m c = StableHlo.after hostOps0 (fun b => m (c, b)) := by
  show StableHlo.after (hostOps0 ++ []) (fun b => m (c, b)) = _
  rw [List.append_nil]

/-- The output projection at the products' width. -/
def wB (W : FVec Ideal S1024x1024 .f32) : FVec Ideal S1024x1024 .bf16 := fun i => W i

/-- The target with sixteen rows before it, for the learned tokens. -/
def tgt (T : FVec Ideal S16384x1024 .f32) : FVec Ideal S16400x1024 .f32 :=
  concatenate S16400x1024 0 [⟨S16x1024, fun _ => Ideal.ofBits FTy.f32 0#32⟩, ⟨S16384x1024, T⟩] concatenates_S16x1024_S16384x1024_S16400x1024_d0

theorem tgt_at (T : FVec Ideal S16384x1024 .f32) (s : Fin 16384) (e : Fin 1024) :
    tgt T (ix2 ⟨16 + s.val, by omega⟩ e) = T (ix2 s e) := by
  unfold tgt
  pointwise []

theorem s_v11 (U : Valuation τ sig (Elt Ideal)) : StableHlo.after hostOps0 U (Proc.devRef .tc main_v11) = Rows.rowsOf (φ := .f32) 512 (U (Proc.devRef .tc main_arg0)) := by
  after_results
  exact Rows.rowsOf_eq 512 _ _ _ _ _ _

theorem entry_v11 (c : Dev nD) : V m c main_v11 = Rows.rowsOf (φ := .f32) 512 (m ((c.tc : Thread nD τ).loc main_arg0)) :=
  (congrFun (V_eq m c) (Proc.devRef .tc main_v11)).trans (s_v11 _)

theorem s_v15 (U : Valuation τ sig (Elt Ideal)) : StableHlo.after hostOps0 U (Proc.devRef .tc main_v15) = Rows.rowsOf (φ := .f32) 512 (U (Proc.devRef .tc main_arg1)) := by
  after_results
  exact Rows.rowsOf_eq 512 _ _ _ _ _ _

theorem entry_v15 (c : Dev nD) : V m c main_v15 = Rows.rowsOf (φ := .f32) 512 (m ((c.tc : Thread nD τ).loc main_arg1)) :=
  (congrFun (V_eq m c) (Proc.devRef .tc main_v15)).trans (s_v15 _)

theorem s_v19 (U : Valuation τ sig (Elt Ideal)) : StableHlo.after hostOps0 U (Proc.devRef .tc main_v19) = Rows.rowsOf (φ := .f32) 512 (U (Proc.devRef .tc main_arg2)) := by
  after_results
  exact Rows.rowsOf_eq 512 _ _ _ _ _ _

theorem entry_v19 (c : Dev nD) : V m c main_v19 = Rows.rowsOf (φ := .f32) 512 (m ((c.tc : Thread nD τ).loc main_arg2)) :=
  (congrFun (V_eq m c) (Proc.devRef .tc main_v19)).trans (s_v19 _)

theorem s_v23 (U : Valuation τ sig (Elt Ideal)) : StableHlo.after hostOps0 U (Proc.devRef .tc main_v23) = Rows.rowsOf (φ := .f32) 1024 (U (Proc.devRef .tc main_arg3)) := by
  after_results
  exact Rows.rowsOf_eq 1024 _ _ _ _ _ _

theorem entry_v23 (c : Dev nD) : V m c main_v23 = Rows.rowsOf (φ := .f32) 1024 (m ((c.tc : Thread nD τ).loc main_arg3)) :=
  (congrFun (V_eq m c) (Proc.devRef .tc main_v23)).trans (s_v23 _)

theorem s_v7 (U : Valuation τ sig (Elt Ideal)) : StableHlo.after hostOps0 U (Proc.devRef .tc main_v7) = Rows.rowsOf (φ := .f32) 1024 (tgt (U (Proc.devRef .tc main_arg7))) := by
  after_results
  exact Rows.rowsOf_eq 1024 (tgt _) _ _ _ _ _

theorem entry_v7 (c : Dev nD) : V m c main_v7 = Rows.rowsOf (φ := .f32) 1024 (tgt (m ((c.tc : Thread nD τ).loc main_arg7))) :=
  (congrFun (V_eq m c) (Proc.devRef .tc main_v7)).trans (s_v7 _)

theorem s_v24 (U : Valuation τ sig (Elt Ideal)) : StableHlo.after hostOps0 U (Proc.devRef .tc main_v24) = wB (U (Proc.devRef .tc main_arg4)) := by
  after_results
  rfl

theorem entry_v24 (c : Dev nD) : V m c main_v24 = wB (m ((c.tc : Thread nD τ).loc main_arg4)) :=
  (congrFun (V_eq m c) (Proc.devRef .tc main_v24)).trans (s_v24 _)

theorem s_arg5 (U : Valuation τ sig (Elt Ideal)) : StableHlo.after hostOps0 U (Proc.devRef .tc main_arg5) = (U (Proc.devRef .tc main_arg5)) := by
  after_results

theorem entry_arg5 (c : Dev nD) : V m c main_arg5 = (m ((c.tc : Thread nD τ).loc main_arg5)) :=
  (congrFun (V_eq m c) (Proc.devRef .tc main_arg5)).trans (s_arg5 _)

theorem s_arg6 (U : Valuation τ sig (Elt Ideal)) : StableHlo.after hostOps0 U (Proc.devRef .tc main_arg6) = (U (Proc.devRef .tc main_arg6)) := by
  after_results

theorem entry_arg6 (c : Dev nD) : V m c main_arg6 = (m ((c.tc : Thread nD τ).loc main_arg6)) :=
  (congrFun (V_eq m c) (Proc.devRef .tc main_arg6)).trans (s_arg6 _)

theorem tail_v30 (U : Valuation τ sig (Elt Ideal)) : StableHlo.after hostOps1 U (Proc.devRef .tc main_v30)
    = Rows.tokensOf (φ := .f32) 512 (U (Proc.devRef .tc main_v25_1)) := by
  after_results
  exact Rows.tokensOf_eq 512 _ _ _ _ _

theorem tail_v34 (U : Valuation τ sig (Elt Ideal)) : StableHlo.after hostOps1 U (Proc.devRef .tc main_v34)
    = Rows.tokensOf (φ := .f32) 512 (U (Proc.devRef .tc main_v25_2)) := by
  after_results
  exact Rows.tokensOf_eq 512 _ _ _ _ _

theorem tail_v38 (U : Valuation τ sig (Elt Ideal)) : StableHlo.after hostOps1 U (Proc.devRef .tc main_v38)
    = Rows.tokensOf (φ := .f32) 512 (U (Proc.devRef .tc main_v25_3)) := by
  after_results
  exact Rows.tokensOf_eq 512 _ _ _ _ _

theorem tail_v42 (U : Valuation τ sig (Elt Ideal)) : StableHlo.after hostOps1 U (Proc.devRef .tc main_v42)
    = Rows.tokensOf (φ := .f32) 1024 (U (Proc.devRef .tc main_v25_0)) := by
  after_results
  exact Rows.tokensOf_eq 1024 _ _ _ _ _

/-- The loss as a number. -/
def scalarOf (X : FVec Ideal S1x1 .f32) : FVec Ideal S_ .f32 := fun _ => X (ix2 0 0)

theorem tail_v26 (U : Valuation τ sig (Elt Ideal)) : StableHlo.after hostOps1 U (Proc.devRef .tc main_v26)
    = scalarOf (U (Proc.devRef .tc main_v25_5)) := by
  after_results
  funext i
  unfold scalarOf
  pointwise []

end Cert.OutValue
-- ==== Proof.Out.Reference.lean ====
/-
  The reference gradient of the loss, the output norm and the attention gate, entry by entry.
-/
module

public import proofs.«01_k».proof.Proof.Gen.OutRefIdeal.Read
public import Idealize.ShloMosaic.Lib.Pipeline.ValueKit
public import proofs.«01_k».proof.Proof.Norm

@[expose] public section

set_option maxRecDepth 16384

noncomputable section

open Idealize.ShloMosaic Idealize.ShloMosaic.TcCoe Idealize.SL.Sem

namespace Cert.OutRef

open Cert.OutRefIdeal Cert.OutRefIdeal.Gen Cert.OutRefIdeal.Read

/-- The logistic function. -/
def sg (x : EReal) : EReal := Ideal.div 1 (1 + Ideal.exp (-x))

abbrev W1 : EReal := Ideal.ofBits FTy.f32 1140850688#32
abbrev W2 : EReal := Ideal.ofBits FTy.f32 1149239296#32
abbrev E : EReal := Ideal.ofBits FTy.f32 897988541#32
abbrev H : EReal := Ideal.ofBits FTy.f32 1056964608#32
abbrev MH : EReal := Ideal.ofBits FTy.f32 3204448256#32
abbrev Two : EReal := Ideal.ofBits FTy.f32 1073741824#32

variable (A0 A1 A2 : FVec Ideal S16400x512 .f32) (A3 : FVec Ideal S16400x1024 .f32) (A4 : FVec Ideal S1024x1024 .f32) (A5 : FVec Ideal S1x1024 .f32)
  (A6 : FVec Ideal S1x512 .f32) (A7 : FVec Ideal S16384x1024 .f32)

theorem rs (t : Fin 16400) (j : Fin 512) : val_main_v0_2 (F := Ideal) A1 (ix2 t j) = sg (A1 (ix2 t j)) := by
  pointwise [val_main_v0_2, val_main_call0_v4, val_main_call0_v3, val_main_call0_v2, val_main_call0_v1, val_main_call0_v0, val_main_call0_cst, val_main_call0_cst_0]
  rfl
theorem rd (t : Fin 16400) (j : Fin 512) : val_main_v0_1 (F := Ideal) A1 (ix2 t j) = sg (A1 (ix2 t j)) * (1 - sg (A1 (ix2 t j))) := by
  have h := rs A1 t j
  unfold val_main_v0_1 val_main_call0_v7 val_main_call0_v6
  generalize val_main_v0_2 (F := Ideal) A1 = X at h ⊢
  pointwise [val_main_call0_cst_1]
  rw [h]
theorem r0 (t : Fin 16400) (j : Fin 512) : val_main_v0_0 (F := Ideal) A1 (ix2 t j) = A1 (ix2 t j) * sg (A1 (ix2 t j)) := by
  rw [← rs]
  rfl
/-- The gated attention output. -/
theorem r1 (t : Fin 16400) (j : Fin 512) : val_main_v1 (F := Ideal) A0 A1 (ix2 t j) = A0 (ix2 t j) * (A1 (ix2 t j) * sg (A1 (ix2 t j))) := by
  rw [← r0]
  rfl
theorem r14 (t : Fin 16400) (j : Fin 512) : val_main_v14 (F := Ideal) A0 A1 (ix2 t j)
    = val_main_v1 (F := Ideal) A0 A1 (ix2 t j) * Ideal.rsqrt (Norm.ms (fun x => val_main_v1 (F := Ideal) A0 A1 (ix2 t x)) W1 E) := by
  unfold val_main_v14 val_main_v13 val_main_v9 val_main_v8 val_main_v7 val_main_v6 val_main_v5 val_main_v4 val_main_v3 val_main_v2
  generalize val_main_v1 (F := Ideal) A0 A1 = X
  pointwise [val_main_cst, val_main_cst_0, val_main_cst_1]
  unfold Norm.ms
  rfl
/-- The projection's input. -/
theorem r17 (t : Fin 16400) (e : Fin 1024) : val_main_v17 (F := Ideal) A0 A1 A2 A6 (ix2 t e)
    = if h : e.val < 512 then val_main_v14 (F := Ideal) A0 A1 (ix2 t ⟨e.val, h⟩) * A6 (ix2 0 ⟨e.val, h⟩) else A2 (ix2 t ⟨e.val - 512, by omega⟩) := by
  unfold val_main_v17 val_main_v16 val_main_v15
  generalize val_main_v14 (F := Ideal) A0 A1 = X
  pointwise []
theorem r18 (t : Fin 16400) (e : Fin 1024) : val_main_v18 (F := Ideal) A0 A1 A2 A4 A6 (ix2 t e) = ∑ x, val_main_v17 (F := Ideal) A0 A1 A2 A6 (ix2 t x) * A4 (ix2 x e) := by
  unfold val_main_v18
  generalize val_main_v17 (F := Ideal) A0 A1 A2 A6 = X
  pointwise []
theorem r31 (t : Fin 16400) (e : Fin 1024) : val_main_v31 (F := Ideal) A0 A1 A2 A4 A6 (ix2 t e)
    = val_main_v18 (F := Ideal) A0 A1 A2 A4 A6 (ix2 t e) * Ideal.rsqrt (Norm.ms (fun x => val_main_v18 (F := Ideal) A0 A1 A2 A4 A6 (ix2 t x)) W2 E) := by
  unfold val_main_v31 val_main_v30 val_main_v26 val_main_v25 val_main_v24 val_main_v23 val_main_v22 val_main_v21 val_main_v20 val_main_v19
  generalize val_main_v18 (F := Ideal) A0 A1 A2 A4 A6 = X
  pointwise [val_main_cst_3, val_main_cst_4, val_main_cst_5]
  unfold Norm.ms
  rfl
/-- The error. -/
theorem r36 (s : Fin 16384) (e : Fin 1024) : val_main_v36 (F := Ideal) A0 A1 A2 A3 A4 A5 A6 A7 (ix2 s e)
    = A3 (ix2 ⟨16 + s.val, by omega⟩ e) + val_main_v31 (F := Ideal) A0 A1 A2 A4 A6 (ix2 ⟨16 + s.val, by omega⟩ e) * A5 (ix2 0 e) - A7 (ix2 s e) := by
  unfold val_main_v36 val_main_v35 val_main_v34 val_main_v33 val_main_v32
  generalize val_main_v31 (F := Ideal) A0 A1 A2 A4 A6 = X
  pointwise []
/-- The loss. -/
theorem r44 (i : S_.Idx) : val_main_v44 (F := Ideal) A0 A1 A2 A3 A4 A5 A6 A7 i = H * ∑ s, Ideal.div (∑ e, val_main_v36 (F := Ideal) A0 A1 A2 A3 A4 A5 A6 A7 (ix2 s e) * val_main_v36 (F := Ideal) A0 A1 A2 A3 A4 A5 A6 A7 (ix2 s e)) W2 := by
  unfold val_main_v44 val_main_v43 val_main_v42 val_main_v41 val_main_v40 val_main_v37
  generalize val_main_v36 (F := Ideal) A0 A1 A2 A3 A4 A5 A6 A7 = X
  pointwise [val_main_cst_8, val_main_cst_9, val_main_cst_10, val_main_cst_11]
/-- The gradient of the block's output. -/
theorem r51 (t : Fin 16400) (e : Fin 1024) : val_main_v51 (F := Ideal) A0 A1 A2 A3 A4 A5 A6 A7 (ix2 t e)
    = if h : 16 ≤ t.val then Ideal.div H W2 * (Two * val_main_v36 (F := Ideal) A0 A1 A2 A3 A4 A5 A6 A7 (ix2 ⟨t.val - 16, by omega⟩ e)) else 0 := by
  unfold val_main_v51 val_main_v50 val_main_v49 val_main_v48 val_main_v47 val_main_v46 val_main_v45 val_main_v39 val_main_v38
  generalize val_main_v36 (F := Ideal) A0 A1 A2 A3 A4 A5 A6 A7 = X
  pointwise [val_main_cst_7, val_main_cst_11, val_main_cst_12, val_main_cst_13, val_main_cst_14, val_main_cst_15]
  by_cases h : 16 ≤ t.val
  · rw [dif_pos h, dif_pos ⟨h, by omega⟩]
  · rw [dif_neg h, dif_neg fun k => h k.1]
/-- The output norm's weight's gradient. -/
theorem r54 (z : Fin 1) (e : Fin 1024) : val_main_v54 (F := Ideal) A0 A1 A2 A3 A4 A5 A6 A7 (ix2 z e) = ∑ t, val_main_v31 (F := Ideal) A0 A1 A2 A4 A6 (ix2 t e) * val_main_v51 (F := Ideal) A0 A1 A2 A3 A4 A5 A6 A7 (ix2 t e) := by
  unfold val_main_v54 val_main_v53 val_main_v52
  generalize val_main_v31 (F := Ideal) A0 A1 A2 A4 A6 = X
  generalize val_main_v51 (F := Ideal) A0 A1 A2 A3 A4 A5 A6 A7 = Y
  pointwise [val_main_cst_16]
theorem r70 (t : Fin 16400) (e : Fin 1024) : val_main_v70 (F := Ideal) A0 A1 A2 A3 A4 A5 A6 A7 (ix2 t e)
    = Norm.dx0 (fun x => val_main_v18 (F := Ideal) A0 A1 A2 A4 A6 (ix2 t x)) (fun x => val_main_v51 (F := Ideal) A0 A1 A2 A3 A4 A5 A6 A7 (ix2 t x) * A5 (ix2 0 x)) W2 E MH e := by
  unfold val_main_v70 val_main_v69 val_main_v68 val_main_v67 val_main_v66 val_main_v65 val_main_v64 val_main_v63 val_main_v62 val_main_v61 val_main_v60 val_main_v59 val_main_v58 val_main_v57 val_main_v56 val_main_v55 val_main_v29 val_main_v28 val_main_v27 val_main_v26 val_main_v25 val_main_v24 val_main_v23 val_main_v22 val_main_v21 val_main_v20 val_main_v19
  generalize val_main_v18 (F := Ideal) A0 A1 A2 A4 A6 = X
  generalize val_main_v51 (F := Ideal) A0 A1 A2 A3 A4 A5 A6 A7 = Y
  pointwise [val_main_cst_3, val_main_cst_4, val_main_cst_5, val_main_cst_6, val_main_cst_17, val_main_cst_18, val_main_cst_19]
  unfold Norm.dx0 Norm.ms
  rfl
theorem r72 (d e : Fin 1024) : val_main_v72 (F := Ideal) A0 A1 A2 A3 A4 A5 A6 A7 (ix2 d e) = ∑ t, val_main_v70 (F := Ideal) A0 A1 A2 A3 A4 A5 A6 A7 (ix2 t e) * val_main_v17 (F := Ideal) A0 A1 A2 A6 (ix2 t d) := by
  unfold val_main_v72 val_main_v71
  generalize val_main_v70 (F := Ideal) A0 A1 A2 A3 A4 A5 A6 A7 = X
  generalize val_main_v17 (F := Ideal) A0 A1 A2 A6 = Y
  pointwise []
theorem r73 (t : Fin 16400) (d : Fin 1024) : val_main_v73 (F := Ideal) A0 A1 A2 A3 A4 A5 A6 A7 (ix2 t d) = ∑ e, val_main_v70 (F := Ideal) A0 A1 A2 A3 A4 A5 A6 A7 (ix2 t e) * A4 (ix2 d e) := by
  unfold val_main_v73
  generalize val_main_v70 (F := Ideal) A0 A1 A2 A3 A4 A5 A6 A7 = X
  pointwise []
theorem r74 (t : Fin 16400) (j : Fin 512) : val_main_v74 (F := Ideal) A0 A1 A2 A3 A4 A5 A6 A7 (ix2 t j) = val_main_v73 (F := Ideal) A0 A1 A2 A3 A4 A5 A6 A7 (ix2 t ⟨j.val, by omega⟩) := by
  unfold val_main_v74
  generalize val_main_v73 (F := Ideal) A0 A1 A2 A3 A4 A5 A6 A7 = X
  pointwise []
theorem r75 (t : Fin 16400) (j : Fin 512) : val_main_v75 (F := Ideal) A0 A1 A2 A3 A4 A5 A6 A7 (ix2 t j) = val_main_v73 (F := Ideal) A0 A1 A2 A3 A4 A5 A6 A7 (ix2 t ⟨512 + j.val, by omega⟩) := by
  unfold val_main_v75
  generalize val_main_v73 (F := Ideal) A0 A1 A2 A3 A4 A5 A6 A7 = X
  pointwise []
/-- The gate norm's weight's gradient. -/
theorem r78 (z : Fin 1) (j : Fin 512) : val_main_v78 (F := Ideal) A0 A1 A2 A3 A4 A5 A6 A7 (ix2 z j) = ∑ t, val_main_v14 (F := Ideal) A0 A1 (ix2 t j) * val_main_v74 (F := Ideal) A0 A1 A2 A3 A4 A5 A6 A7 (ix2 t j) := by
  unfold val_main_v78 val_main_v77 val_main_v76
  generalize val_main_v14 (F := Ideal) A0 A1 = X
  generalize val_main_v74 (F := Ideal) A0 A1 A2 A3 A4 A5 A6 A7 = Y
  pointwise [val_main_cst_20]
theorem r94 (t : Fin 16400) (j : Fin 512) : val_main_v94 (F := Ideal) A0 A1 A2 A3 A4 A5 A6 A7 (ix2 t j)
    = Norm.dx0 (fun x => val_main_v1 (F := Ideal) A0 A1 (ix2 t x)) (fun x => val_main_v74 (F := Ideal) A0 A1 A2 A3 A4 A5 A6 A7 (ix2 t x) * A6 (ix2 0 x)) W1 E MH j := by
  unfold val_main_v94 val_main_v93 val_main_v92 val_main_v91 val_main_v90 val_main_v89 val_main_v88 val_main_v87 val_main_v86 val_main_v85 val_main_v84 val_main_v83 val_main_v82 val_main_v81 val_main_v80 val_main_v79 val_main_v12 val_main_v11 val_main_v10 val_main_v9 val_main_v8 val_main_v7 val_main_v6 val_main_v5 val_main_v4 val_main_v3 val_main_v2
  generalize val_main_v1 (F := Ideal) A0 A1 = X
  generalize val_main_v74 (F := Ideal) A0 A1 A2 A3 A4 A5 A6 A7 = Y
  pointwise [val_main_cst, val_main_cst_0, val_main_cst_1, val_main_cst_2, val_main_cst_21, val_main_cst_22, val_main_cst_23]
  unfold Norm.dx0 Norm.ms
  rfl
theorem r96 (t : Fin 16400) (j : Fin 512) : val_main_v96 (F := Ideal) A0 A1 A2 A3 A4 A5 A6 A7 (ix2 t j) = val_main_v94 (F := Ideal) A0 A1 A2 A3 A4 A5 A6 A7 (ix2 t j) * (A1 (ix2 t j) * sg (A1 (ix2 t j))) := by
  rw [← r0]
  rfl
theorem r97 (t : Fin 16400) (j : Fin 512) : val_main_v97 (F := Ideal) A0 A1 A2 A3 A4 A5 A6 A7 (ix2 t j)
    = A0 (ix2 t j) * val_main_v94 (F := Ideal) A0 A1 A2 A3 A4 A5 A6 A7 (ix2 t j) * sg (A1 (ix2 t j))
      + A1 (ix2 t j) * (A0 (ix2 t j) * val_main_v94 (F := Ideal) A0 A1 A2 A3 A4 A5 A6 A7 (ix2 t j)) * (sg (A1 (ix2 t j)) * (1 - sg (A1 (ix2 t j)))) := by
  rw [← rd, ← rs]
  rfl

end Cert.OutRef
-- ==== Proof.Out.Equation.lean ====
/-
  The loss, the output norm and the attention gate: the region's arrays, taken back to the tokens' order, are the reference's
  loss and gradients, on reals.
-/
module

public import proofs.«01_k».proof.Proof.Out.Host
public import proofs.«01_k».proof.Proof.Out.Reference

@[expose] public section

set_option maxRecDepth 16384

noncomputable section

open Idealize.ShloMosaic Idealize.ShloMosaic.TcCoe Idealize.SL.Sem

namespace Cert.OutValue

open Cert.OutIdeal Cert.OutIdeal.Gen Cert.OutRefIdeal.Read Cert.RealLift OutRow

/-! ## The constants -/

theorem cH : Ideal.ofBits FTy.f32 1056964608#32 = ((1 / 2 : ℝ) : EReal) := by
  simp only [Ideal.ofBits, Ideal.ieee]; simp; rw [← EReal.coe_mul]; norm_num
theorem cK : Ideal.ofBits FTy.f32 981467136#32 = ((1 / 1024 : ℝ) : EReal) := by
  simp only [Ideal.ofBits, Ideal.ieee]; simp; rw [← EReal.coe_mul]; norm_num
theorem c2 : Ideal.ofBits FTy.f32 1073741824#32 = ((2 : ℝ) : EReal) := by
  simp only [Ideal.ofBits, Ideal.ieee]; simp; rw [← EReal.coe_mul]; norm_num

theorem sg_eq (x : EReal) : OutRow.sg x = OutRef.sg x := by
  unfold OutRow.sg OutRef.sg
  rw [zero_sub]

theorem sg_real (x : ℝ) : ∃ s : ℝ, OutRef.sg (x : EReal) = ((s : ℝ) : EReal) := by
  unfold OutRef.sg
  have hp : (1 + Real.exp (-x)) ≠ 0 := (add_pos one_pos (Real.exp_pos _)).ne'
  rw [← EReal.coe_neg, Ideal.exp_coe, one_real, ← EReal.coe_add, div_real _ hp]
  exact ⟨_, rfl⟩

variable (A0 A1 A2 : FVec Ideal S16400x512 .f32) (A3 : FVec Ideal S16400x1024 .f32) (A4 : FVec Ideal S1024x1024 .f32) (A5 : FVec Ideal S1x1024 .f32)
  (A6 : FVec Ideal S1x512 .f32) (A7 : FVec Ideal S16384x1024 .f32)

/-! ## The reference's values are reals -/

theorem r1_real (h0 : Reals A0) (h1 : Reals A1) : Reals (val_main_v1 (F := Ideal) A0 A1) := fun i => by
  obtain ⟨t, j, rfl⟩ : ∃ t j, i = ix2 t j := ⟨i 0, i 1, eq_ix2 i⟩
  obtain ⟨a, ea⟩ := h0 (ix2 t j)
  obtain ⟨b, eb⟩ := h1 (ix2 t j)
  obtain ⟨s, es⟩ := sg_real b
  rw [OutRef.r1, ea, eb, es, ← EReal.coe_mul, ← EReal.coe_mul]
  exact ⟨_, rfl⟩

theorem r14_real (h0 : Reals A0) (h1 : Reals A1) : Reals (val_main_v14 (F := Ideal) A0 A1) := fun i => by
  obtain ⟨t, j, rfl⟩ : ∃ t j, i = ix2 t j := ⟨i 0, i 1, eq_ix2 i⟩
  choose x ex using fun j => r1_real A0 A1 h0 h1 (ix2 t j)
  obtain ⟨e, he, ee⟩ := Norm.eps_real
  rw [OutRef.r14]
  simp only [ex, OutRef.W1, OutRef.E, ee, Norm.n512]
  rw [Norm.inv_real x 512 e (by norm_num) he, ← EReal.coe_mul]
  exact ⟨_, rfl⟩

theorem r17_real (h0 : Reals A0) (h1 : Reals A1) (h2 : Reals A2) (h6 : Reals A6) : Reals (val_main_v17 (F := Ideal) A0 A1 A2 A6) := fun i => by
  obtain ⟨t, e, rfl⟩ : ∃ t e, i = ix2 t e := ⟨i 0, i 1, eq_ix2 i⟩
  rw [OutRef.r17]
  by_cases h : e.val < 512
  · obtain ⟨a, ea⟩ := r14_real A0 A1 h0 h1 (ix2 t ⟨e.val, h⟩)
    obtain ⟨b, eb⟩ := h6 (ix2 0 ⟨e.val, h⟩)
    rw [dif_pos h, ea, eb, ← EReal.coe_mul]
    exact ⟨_, rfl⟩
  · rw [dif_neg h]
    exact h2 _

theorem r18_real (h0 : Reals A0) (h1 : Reals A1) (h2 : Reals A2) (h4 : Reals A4) (h6 : Reals A6) : Reals (val_main_v18 (F := Ideal) A0 A1 A2 A4 A6) := fun i => by
  obtain ⟨t, e, rfl⟩ : ∃ t e, i = ix2 t e := ⟨i 0, i 1, eq_ix2 i⟩
  choose x ex using fun j => r17_real A0 A1 A2 A6 h0 h1 h2 h6 (ix2 t j)
  choose a4 e4 using h4
  rw [OutRef.r18]
  simp only [ex, e4, ← EReal.coe_mul, sum_real]
  exact ⟨_, rfl⟩

theorem r36_real (h0 : Reals A0) (h1 : Reals A1) (h2 : Reals A2) (h3 : Reals A3) (h4 : Reals A4) (h5 : Reals A5) (h6 : Reals A6) (h7 : Reals A7) : Reals (val_main_v36 (F := Ideal) A0 A1 A2 A3 A4 A5 A6 A7) := fun i => by
  obtain ⟨s, e, rfl⟩ : ∃ s e, i = ix2 s e := ⟨i 0, i 1, eq_ix2 i⟩
  choose x ex using fun j => r18_real A0 A1 A2 A4 A6 h0 h1 h2 h4 h6 (ix2 ⟨16 + s.val, by omega⟩ j)
  obtain ⟨ε, he, ee⟩ := Norm.eps_real
  obtain ⟨a, ea⟩ := h3 (ix2 ⟨16 + s.val, by omega⟩ e)
  obtain ⟨b, eb⟩ := h5 (ix2 0 e)
  obtain ⟨d, ed⟩ := h7 (ix2 s e)
  rw [OutRef.r36, OutRef.r31]
  simp only [ex, OutRef.W2, OutRef.E, ee, Norm.n1024]
  rw [Norm.inv_real x 1024 ε (by norm_num) he, ea, eb, ed, ← EReal.coe_mul, ← EReal.coe_mul, ← EReal.coe_add, ← EReal.coe_sub]
  exact ⟨_, rfl⟩

theorem scale (d : EReal) : d * K = Ideal.div OutRef.H OutRef.W2 * (OutRef.Two * d) := by
  unfold K OutRef.H OutRef.W2 OutRef.Two
  rw [cK, cH, c2, Norm.n1024, div_real _ (by norm_num), ← mul_assoc, ← EReal.coe_mul, mul_comm]
  exact congrArg (fun q : ℝ => (q : EReal) * d) (by norm_num)

theorem r51_real (h0 : Reals A0) (h1 : Reals A1) (h2 : Reals A2) (h3 : Reals A3) (h4 : Reals A4) (h5 : Reals A5) (h6 : Reals A6) (h7 : Reals A7) : Reals (val_main_v51 (F := Ideal) A0 A1 A2 A3 A4 A5 A6 A7) := fun i => by
  obtain ⟨t, e, rfl⟩ : ∃ t e, i = ix2 t e := ⟨i 0, i 1, eq_ix2 i⟩
  rw [OutRef.r51]
  by_cases h : 16 ≤ t.val
  · obtain ⟨d, ed⟩ := r36_real A0 A1 A2 A3 A4 A5 A6 A7 h0 h1 h2 h3 h4 h5 h6 h7 (ix2 ⟨t.val - 16, by omega⟩ e)
    rw [dif_pos h, ← scale, ed]
    unfold K
    rw [cK, ← EReal.coe_mul]
    exact ⟨_, rfl⟩
  · rw [dif_neg h]
    exact ⟨0, zero_real⟩

/-- The cotangent of the output norm. -/
theorem g2_real (h0 : Reals A0) (h1 : Reals A1) (h2 : Reals A2) (h3 : Reals A3) (h4 : Reals A4) (h5 : Reals A5) (h6 : Reals A6) (h7 : Reals A7) (t : Fin 16400) (e : Fin 1024) : ∃ r : ℝ, val_main_v51 (F := Ideal) A0 A1 A2 A3 A4 A5 A6 A7 (ix2 t e) * A5 (ix2 0 e) = ((r : ℝ) : EReal) := by
  obtain ⟨p, ep⟩ := r51_real A0 A1 A2 A3 A4 A5 A6 A7 h0 h1 h2 h3 h4 h5 h6 h7 (ix2 t e)
  obtain ⟨q, eq⟩ := h5 (ix2 0 e)
  exact ⟨p * q, by rw [ep, eq, EReal.coe_mul]⟩

theorem r70_real (h0 : Reals A0) (h1 : Reals A1) (h2 : Reals A2) (h3 : Reals A3) (h4 : Reals A4) (h5 : Reals A5) (h6 : Reals A6) (h7 : Reals A7) : Reals (val_main_v70 (F := Ideal) A0 A1 A2 A3 A4 A5 A6 A7) := fun i => by
  obtain ⟨t, e, rfl⟩ : ∃ t e, i = ix2 t e := ⟨i 0, i 1, eq_ix2 i⟩
  choose x ex using fun j => r18_real A0 A1 A2 A4 A6 h0 h1 h2 h4 h6 (ix2 t j)
  choose g eg using g2_real A0 A1 A2 A3 A4 A5 A6 A7 h0 h1 h2 h3 h4 h5 h6 h7 t
  obtain ⟨ε, he, ee⟩ := Norm.eps_real
  rw [OutRef.r70]
  simp only [ex, eg, OutRef.W2, OutRef.E, OutRef.MH, ee, Norm.n1024, Norm.neg_half]
  exact Norm.dx0_real x g 1024 ε (by norm_num) he e

/-- The cotangent of the gate's norm. -/
theorem g1_real (h0 : Reals A0) (h1 : Reals A1) (h2 : Reals A2) (h3 : Reals A3) (h4 : Reals A4) (h5 : Reals A5) (h6 : Reals A6) (h7 : Reals A7) (t : Fin 16400) (j : Fin 512) : ∃ r : ℝ, val_main_v74 (F := Ideal) A0 A1 A2 A3 A4 A5 A6 A7 (ix2 t j) * A6 (ix2 0 j) = ((r : ℝ) : EReal) := by
  choose x ex using fun e => r70_real A0 A1 A2 A3 A4 A5 A6 A7 h0 h1 h2 h3 h4 h5 h6 h7 (ix2 t e)
  choose a4 e4 using h4
  obtain ⟨q, eq⟩ := h6 (ix2 0 j)
  rw [OutRef.r74, OutRef.r73]
  simp only [ex, e4, eq, ← EReal.coe_mul, sum_real]
  exact ⟨_, rfl⟩

theorem r94_real (h0 : Reals A0) (h1 : Reals A1) (h2 : Reals A2) (h3 : Reals A3) (h4 : Reals A4) (h5 : Reals A5) (h6 : Reals A6) (h7 : Reals A7) : Reals (val_main_v94 (F := Ideal) A0 A1 A2 A3 A4 A5 A6 A7) := fun i => by
  obtain ⟨t, j, rfl⟩ : ∃ t j, i = ix2 t j := ⟨i 0, i 1, eq_ix2 i⟩
  choose x ex using fun j => r1_real A0 A1 h0 h1 (ix2 t j)
  choose g eg using g1_real A0 A1 A2 A3 A4 A5 A6 A7 h0 h1 h2 h3 h4 h5 h6 h7 t
  obtain ⟨ε, he, ee⟩ := Norm.eps_real
  rw [OutRef.r94]
  simp only [ex, eg, OutRef.W1, OutRef.E, OutRef.MH, ee, Norm.n512, Norm.neg_half]
  exact Norm.dx0_real x g 512 ε (by norm_num) he j

/-! ## The call's rows at a token, and at the padding -/

/-- A row of the call's own arrays. -/
def kRow (r : Fin 16640) : Row := aRow (Rows.rowsOf (φ := .f32) 512 A0) (Rows.rowsOf (φ := .f32) 512 A1) (Rows.rowsOf (φ := .f32) 512 A2) (Rows.rowsOf (φ := .f32) 1024 A3) (Rows.rowsOf (φ := .f32) 1024 (tgt A7)) (wB A4) A5 A6 r

theorem ta_tok (t : Fin 16400) : (kRow A0 A1 A2 A3 A4 A5 A6 A7 (Rows.row (Rows.tok t))).ta = fun j => val_main_v1 (F := Ideal) A0 A1 (ix2 t j) := funext fun j => by
  unfold kRow aRow Row.ta
  simp only [Rows.rowsOf_tok, sg_eq]
  exact (OutRef.r1 A0 A1 t j).symm

theorem cat_tok (t : Fin 16400) : (kRow A0 A1 A2 A3 A4 A5 A6 A7 (Rows.row (Rows.tok t))).cat = fun e => val_main_v17 (F := Ideal) A0 A1 A2 A6 (ix2 t e) := funext fun e => by
  have k := OutRef.r17 A0 A1 A2 A6 t e
  simp only [OutRef.r14] at k
  unfold Row.cat
  rw [k, ta_tok]
  unfold kRow aRow
  simp only [Rows.rowsOf_tok]
  rfl

theorem y_tok (t : Fin 16400) : (kRow A0 A1 A2 A3 A4 A5 A6 A7 (Rows.row (Rows.tok t))).y = fun e => val_main_v18 (F := Ideal) A0 A1 A2 A4 A6 (ix2 t e) := funext fun e => by
  unfold Row.y
  rw [OutRef.r18, cat_tok]
  rfl

theorem ok_tok (t : Fin 16400) : ok (Rows.row (Rows.tok t)) ↔ 16 ≤ t.val := by
  unfold ok
  rw [Rows.pos_row]
  exact ⟨fun h => h.1, fun h => ⟨h, t.isLt⟩⟩

theorem diff_tok (s : Fin 16384) : (kRow A0 A1 A2 A3 A4 A5 A6 A7 (Rows.row (Rows.tok ⟨16 + s.val, by omega⟩))).diff = fun e => val_main_v36 (F := Ideal) A0 A1 A2 A3 A4 A5 A6 A7 (ix2 s e) := funext fun e => by
  have hv : ok (Rows.row (Rows.tok ⟨16 + s.val, by omega⟩)) := (ok_tok _).mpr (Nat.le_add_right _ _)
  have k := OutRef.r36 A0 A1 A2 A3 A4 A5 A6 A7 s e
  rw [OutRef.r31] at k
  unfold Row.diff
  rw [k, y_tok]
  refine (if_pos hv).trans ?_
  unfold kRow aRow
  simp only [Rows.rowsOf_tok, tgt_at]
  rfl

theorem diff_off (r : Fin 16640) (h : ¬ ok r) : (kRow A0 A1 A2 A3 A4 A5 A6 A7 r).diff = fun _ => 0 := funext fun e => if_neg h

theorem dout_off (r : Fin 16640) (h : ¬ ok r) : (kRow A0 A1 A2 A3 A4 A5 A6 A7 r).dout = fun _ => 0 := funext fun e => by
  unfold Row.dout
  rw [diff_off _ _ _ _ _ _ _ _ r h, zero_mul]

theorem dout_tok (t : Fin 16400) : (kRow A0 A1 A2 A3 A4 A5 A6 A7 (Rows.row (Rows.tok t))).dout = fun e => val_main_v51 (F := Ideal) A0 A1 A2 A3 A4 A5 A6 A7 (ix2 t e) := funext fun e => by
  rw [OutRef.r51]
  by_cases h : 16 ≤ t.val
  · obtain ⟨v, hv⟩ := t
    obtain ⟨w, rfl⟩ := Nat.exists_eq_add_of_le (show 16 ≤ v from h)
    have k := diff_tok A0 A1 A2 A3 A4 A5 A6 A7 ⟨w, by omega⟩
    simp only at k
    unfold Row.dout
    rw [k, dif_pos h, scale]
    exact congrArg (fun s => Ideal.div OutRef.H OutRef.W2 * (OutRef.Two * val_main_v36 (F := Ideal) A0 A1 A2 A3 A4 A5 A6 A7 (ix2 s e))) (Fin.ext (Nat.add_sub_cancel_left 16 w).symm)
  · rw [dout_off _ _ _ _ _ _ _ _ _ (fun k => h ((ok_tok t).mp k)), dif_neg h]

theorem dy_off (r : Fin 16640) (h : ¬ ok r) (e : Fin 1024) : (kRow A0 A1 A2 A3 A4 A5 A6 A7 r).dy e = 0 := by
  unfold Row.dy dnorm
  have hz : Ideal.div 0 W2 = 0 := by
    show Ideal.div 0 (Ideal.ofBits FTy.f32 1149239296#32) = 0
    rw [Norm.n1024, zero_real, div_real _ (by norm_num)]; norm_num
  rw [dout_off _ _ _ _ _ _ _ _ r h]
  simp only [zero_mul, Finset.sum_const_zero, hz, mul_zero, sub_zero]

theorem dcat_off (r : Fin 16640) (h : ¬ ok r) (d : Fin 1024) : (kRow A0 A1 A2 A3 A4 A5 A6 A7 r).dcat d = 0 := by
  unfold Row.dcat
  simp only [dy_off _ _ _ _ _ _ _ _ r h, zero_mul, Finset.sum_const_zero]

theorem ok_lt (r : Fin 16640) (h : ¬ (Rows.pos r).val < 16400) : ¬ ok r := fun k => h k.2

theorem dy_tok (h0 : Reals A0) (h1 : Reals A1) (h2 : Reals A2) (h3 : Reals A3) (h4 : Reals A4) (h5 : Reals A5) (h6 : Reals A6) (h7 : Reals A7) (t : Fin 16400) : (kRow A0 A1 A2 A3 A4 A5 A6 A7 (Rows.row (Rows.tok t))).dy = fun e => val_main_v70 (F := Ideal) A0 A1 A2 A3 A4 A5 A6 A7 (ix2 t e) := funext fun e => by
  unfold Row.dy
  rw [y_tok, dout_tok, OutRef.r70]
  show dnorm W2 _ _ (fun e => A5 (ix2 0 e)) e = _
  choose x ex using fun j => r18_real A0 A1 A2 A4 A6 h0 h1 h2 h4 h6 (ix2 t j)
  choose g eg using g2_real A0 A1 A2 A3 A4 A5 A6 A7 h0 h1 h2 h3 h4 h5 h6 h7 t
  obtain ⟨ε, he, ee⟩ := Norm.eps_real
  unfold dnorm rq
  simp only [ex, eg, W2, E, OutRef.W2, OutRef.E, OutRef.MH, ee, Norm.n1024, Norm.neg_half]
  exact Norm.dx0_eq x g 1024 ε (by norm_num) he e

theorem dcat_tok (h0 : Reals A0) (h1 : Reals A1) (h2 : Reals A2) (h3 : Reals A3) (h4 : Reals A4) (h5 : Reals A5) (h6 : Reals A6) (h7 : Reals A7) (t : Fin 16400) (d : Fin 1024) : (kRow A0 A1 A2 A3 A4 A5 A6 A7 (Rows.row (Rows.tok t))).dcat d = val_main_v73 (F := Ideal) A0 A1 A2 A3 A4 A5 A6 A7 (ix2 t d) := by
  unfold Row.dcat
  rw [dy_tok A0 A1 A2 A3 A4 A5 A6 A7 h0 h1 h2 h3 h4 h5 h6 h7 t, OutRef.r73]
  rfl

theorem dt_tok (h0 : Reals A0) (h1 : Reals A1) (h2 : Reals A2) (h3 : Reals A3) (h4 : Reals A4) (h5 : Reals A5) (h6 : Reals A6) (h7 : Reals A7) (t : Fin 16400) (j : Fin 512) : (kRow A0 A1 A2 A3 A4 A5 A6 A7 (Rows.row (Rows.tok t))).dt j = val_main_v94 (F := Ideal) A0 A1 A2 A3 A4 A5 A6 A7 (ix2 t j) := by
  unfold Row.dt
  simp only [dcat_tok A0 A1 A2 A3 A4 A5 A6 A7 h0 h1 h2 h3 h4 h5 h6 h7 t, ← OutRef.r74]
  rw [ta_tok, OutRef.r94]
  show dnorm W1 _ _ (fun j => A6 (ix2 0 j)) j = _
  choose x ex using fun j => r1_real A0 A1 h0 h1 (ix2 t j)
  choose g eg using g1_real A0 A1 A2 A3 A4 A5 A6 A7 h0 h1 h2 h3 h4 h5 h6 h7 t
  obtain ⟨ε, he, ee⟩ := Norm.eps_real
  unfold dnorm rq
  simp only [ex, eg, W1, E, OutRef.W1, OutRef.E, OutRef.MH, ee, Norm.n512, Norm.neg_half]
  exact Norm.dx0_eq x g 512 ε (by norm_num) he j

/-! ## The results -/

/-- The gradient of the block's output. -/
theorem h_result : Rows.tokensOf (φ := .f32) 1024 (arrOf Row.dout (Rows.rowsOf (φ := .f32) 512 A0) (Rows.rowsOf (φ := .f32) 512 A1) (Rows.rowsOf (φ := .f32) 512 A2) (Rows.rowsOf (φ := .f32) 1024 A3) (Rows.rowsOf (φ := .f32) 1024 (tgt A7)) (wB A4) A5 A6) = val_main_v51 (F := Ideal) A0 A1 A2 A3 A4 A5 A6 A7 := by
  funext y
  obtain ⟨t, e, rfl⟩ : ∃ t e, y = ix2 t e := ⟨y 0, y 1, eq_ix2 y⟩
  exact congrFun (dout_tok A0 A1 A2 A3 A4 A5 A6 A7 t) e

/-- The gradient of the attention's output. -/
theorem o_result (h0 : Reals A0) (h1 : Reals A1) (h2 : Reals A2) (h3 : Reals A3) (h4 : Reals A4) (h5 : Reals A5) (h6 : Reals A6) (h7 : Reals A7) : Rows.tokensOf (φ := .f32) 512 (arrOf Row.dO (Rows.rowsOf (φ := .f32) 512 A0) (Rows.rowsOf (φ := .f32) 512 A1) (Rows.rowsOf (φ := .f32) 512 A2) (Rows.rowsOf (φ := .f32) 1024 A3) (Rows.rowsOf (φ := .f32) 1024 (tgt A7)) (wB A4) A5 A6) = val_main_v96 (F := Ideal) A0 A1 A2 A3 A4 A5 A6 A7 := by
  funext y
  obtain ⟨t, j, rfl⟩ : ∃ t j, y = ix2 t j := ⟨y 0, y 1, eq_ix2 y⟩
  show (kRow A0 A1 A2 A3 A4 A5 A6 A7 (Rows.row (Rows.tok t))).dO j = _
  unfold Row.dO
  rw [dt_tok A0 A1 A2 A3 A4 A5 A6 A7 h0 h1 h2 h3 h4 h5 h6 h7 t, OutRef.r96]
  unfold kRow aRow
  simp only [Rows.rowsOf_tok, sg_eq]

/-- The gradient of the attention's gate. -/
theorem g_result (h0 : Reals A0) (h1 : Reals A1) (h2 : Reals A2) (h3 : Reals A3) (h4 : Reals A4) (h5 : Reals A5) (h6 : Reals A6) (h7 : Reals A7) : Rows.tokensOf (φ := .f32) 512 (arrOf Row.dG (Rows.rowsOf (φ := .f32) 512 A0) (Rows.rowsOf (φ := .f32) 512 A1) (Rows.rowsOf (φ := .f32) 512 A2) (Rows.rowsOf (φ := .f32) 1024 A3) (Rows.rowsOf (φ := .f32) 1024 (tgt A7)) (wB A4) A5 A6) = val_main_v97 (F := Ideal) A0 A1 A2 A3 A4 A5 A6 A7 := by
  funext y
  obtain ⟨t, j, rfl⟩ : ∃ t j, y = ix2 t j := ⟨y 0, y 1, eq_ix2 y⟩
  show (kRow A0 A1 A2 A3 A4 A5 A6 A7 (Rows.row (Rows.tok t))).dG j = _
  unfold Row.dG
  rw [dt_tok A0 A1 A2 A3 A4 A5 A6 A7 h0 h1 h2 h3 h4 h5 h6 h7 t, OutRef.r97]
  unfold kRow aRow
  simp only [Rows.rowsOf_tok, sg_eq]
  obtain ⟨a, ea⟩ := h0 (ix2 t j)
  obtain ⟨g, eg⟩ := h1 (ix2 t j)
  obtain ⟨u, eu⟩ := sg_real g
  obtain ⟨d, ed⟩ := r94_real A0 A1 A2 A3 A4 A5 A6 A7 h0 h1 h2 h3 h4 h5 h6 h7 (ix2 t j)
  rw [ea, eg, eu, ed, one_real]
  simp only [← EReal.coe_mul, ← EReal.coe_add, ← EReal.coe_sub]
  exact congrArg _ (by ring)

/-- The gradient of the recurrence's output. -/
theorem s_result (h0 : Reals A0) (h1 : Reals A1) (h2 : Reals A2) (h3 : Reals A3) (h4 : Reals A4) (h5 : Reals A5) (h6 : Reals A6) (h7 : Reals A7) : Rows.tokensOf (φ := .f32) 512 (arrOf Row.dYs (Rows.rowsOf (φ := .f32) 512 A0) (Rows.rowsOf (φ := .f32) 512 A1) (Rows.rowsOf (φ := .f32) 512 A2) (Rows.rowsOf (φ := .f32) 1024 A3) (Rows.rowsOf (φ := .f32) 1024 (tgt A7)) (wB A4) A5 A6) = val_main_v75 (F := Ideal) A0 A1 A2 A3 A4 A5 A6 A7 := by
  funext y
  obtain ⟨t, j, rfl⟩ : ∃ t j, y = ix2 t j := ⟨y 0, y 1, eq_ix2 y⟩
  rw [OutRef.r75]
  exact dcat_tok A0 A1 A2 A3 A4 A5 A6 A7 h0 h1 h2 h3 h4 h5 h6 h7 t _

/-- The output norm's weight's gradient. -/
theorem p_result : sumOf (fun R _ e => Row.pTerm R e) (Rows.rowsOf (φ := .f32) 512 A0) (Rows.rowsOf (φ := .f32) 512 A1) (Rows.rowsOf (φ := .f32) 512 A2) (Rows.rowsOf (φ := .f32) 1024 A3) (Rows.rowsOf (φ := .f32) 1024 (tgt A7)) (wB A4) A5 A6 = val_main_v54 (F := Ideal) A0 A1 A2 A3 A4 A5 A6 A7 := by
  funext y
  obtain ⟨z, e, rfl⟩ : ∃ z e, y = ix2 z e := ⟨y 0, y 1, eq_ix2 y⟩
  rw [OutRef.r54]
  show ∑ r, (kRow A0 A1 A2 A3 A4 A5 A6 A7 r).pTerm e = _
  unfold Row.pTerm
  rw [Rows.sum_rows_tokens _ fun r h => by rw [dout_off _ _ _ _ _ _ _ _ r (ok_lt r h), zero_mul]]
  refine Finset.sum_congr rfl fun t _ => ?_
  rw [dout_tok, y_tok, OutRef.r31, mul_comm]
  rfl

/-- The output projection's gradient. -/
theorem w_result (h0 : Reals A0) (h1 : Reals A1) (h2 : Reals A2) (h3 : Reals A3) (h4 : Reals A4) (h5 : Reals A5) (h6 : Reals A6) (h7 : Reals A7) : sumOf Row.wTerm (Rows.rowsOf (φ := .f32) 512 A0) (Rows.rowsOf (φ := .f32) 512 A1) (Rows.rowsOf (φ := .f32) 512 A2) (Rows.rowsOf (φ := .f32) 1024 A3) (Rows.rowsOf (φ := .f32) 1024 (tgt A7)) (wB A4) A5 A6 = val_main_v72 (F := Ideal) A0 A1 A2 A3 A4 A5 A6 A7 := by
  funext y
  obtain ⟨d, e, rfl⟩ : ∃ d e, y = ix2 d e := ⟨y 0, y 1, eq_ix2 y⟩
  rw [OutRef.r72]
  show ∑ r, (kRow A0 A1 A2 A3 A4 A5 A6 A7 r).wTerm d e = _
  unfold Row.wTerm
  rw [Rows.sum_rows_tokens _ fun r h => by rw [dy_off _ _ _ _ _ _ _ _ r (ok_lt r h), mul_zero]]
  refine Finset.sum_congr rfl fun t _ => ?_
  rw [dy_tok A0 A1 A2 A3 A4 A5 A6 A7 h0 h1 h2 h3 h4 h5 h6 h7 t, cat_tok, mul_comm]

/-- The gate norm's weight's gradient. -/
theorem a_result (h0 : Reals A0) (h1 : Reals A1) (h2 : Reals A2) (h3 : Reals A3) (h4 : Reals A4) (h5 : Reals A5) (h6 : Reals A6) (h7 : Reals A7) : sumOf (fun R _ j => Row.aTerm R j) (Rows.rowsOf (φ := .f32) 512 A0) (Rows.rowsOf (φ := .f32) 512 A1) (Rows.rowsOf (φ := .f32) 512 A2) (Rows.rowsOf (φ := .f32) 1024 A3) (Rows.rowsOf (φ := .f32) 1024 (tgt A7)) (wB A4) A5 A6 = val_main_v78 (F := Ideal) A0 A1 A2 A3 A4 A5 A6 A7 := by
  funext y
  obtain ⟨z, j, rfl⟩ : ∃ z j, y = ix2 z j := ⟨y 0, y 1, eq_ix2 y⟩
  rw [OutRef.r78]
  show ∑ r, (kRow A0 A1 A2 A3 A4 A5 A6 A7 r).aTerm j = _
  unfold Row.aTerm
  rw [Rows.sum_rows_tokens _ fun r h => by rw [dcat_off _ _ _ _ _ _ _ _ r (ok_lt r h), zero_mul]]
  refine Finset.sum_congr rfl fun t _ => ?_
  rw [dcat_tok A0 A1 A2 A3 A4 A5 A6 A7 h0 h1 h2 h3 h4 h5 h6 h7 t, ta_tok, OutRef.r14, OutRef.r74, mul_comm]
  rfl

/-- The error's squares, over all rows: the padding and the learned tokens add nothing. -/
theorem l_sum : ∑ r, (kRow A0 A1 A2 A3 A4 A5 A6 A7 r).lTerm = ∑ s : Fin 16384, ∑ e, val_main_v36 (F := Ideal) A0 A1 A2 A3 A4 A5 A6 A7 (ix2 s e) * val_main_v36 (F := Ideal) A0 A1 A2 A3 A4 A5 A6 A7 (ix2 s e) := by
  have off : ∀ r, ¬ ok r → (kRow A0 A1 A2 A3 A4 A5 A6 A7 r).lTerm = 0 := fun r h => by
    unfold Row.lTerm
    rw [diff_off _ _ _ _ _ _ _ _ r h]
    simp only [mul_zero, Finset.sum_const_zero]
  rw [Rows.sum_rows_tokens _ fun r h => off r (ok_lt r h)]
  refine (Fin.sum_univ_add (a := 16) (b := 16384) (fun t : Fin (16 + 16384) => (kRow A0 A1 A2 A3 A4 A5 A6 A7 (Rows.row (Rows.tok ⟨t.val, t.isLt⟩))).lTerm)).trans ?_
  rw [Finset.sum_eq_zero fun i _ => off _ fun k => absurd ((ok_tok _).mp k) (by simp), zero_add]
  refine Finset.sum_congr rfl fun s _ => ?_
  have k := diff_tok A0 A1 A2 A3 A4 A5 A6 A7 s
  unfold Row.lTerm
  show ∑ e, (kRow A0 A1 A2 A3 A4 A5 A6 A7 (Rows.row (Rows.tok ⟨16 + s.val, _⟩))).diff e * (kRow A0 A1 A2 A3 A4 A5 A6 A7 (Rows.row (Rows.tok ⟨16 + s.val, _⟩))).diff e = _
  rw [k]

/-- The loss. -/
theorem l_result (h0 : Reals A0) (h1 : Reals A1) (h2 : Reals A2) (h3 : Reals A3) (h4 : Reals A4) (h5 : Reals A5) (h6 : Reals A6) (h7 : Reals A7) : scalarOf (lossOf (Rows.rowsOf (φ := .f32) 512 A0) (Rows.rowsOf (φ := .f32) 512 A1) (Rows.rowsOf (φ := .f32) 512 A2) (Rows.rowsOf (φ := .f32) 1024 A3) (Rows.rowsOf (φ := .f32) 1024 (tgt A7)) (wB A4) A5 A6) = val_main_v44 (F := Ideal) A0 A1 A2 A3 A4 A5 A6 A7 := by
  funext i
  rw [OutRef.r44]
  have hq : ∀ s, ∃ q : ℝ, ∑ e, val_main_v36 (F := Ideal) A0 A1 A2 A3 A4 A5 A6 A7 (ix2 s e) * val_main_v36 (F := Ideal) A0 A1 A2 A3 A4 A5 A6 A7 (ix2 s e) = ((q : ℝ) : EReal) := fun s => by
    choose x ex using fun e => r36_real A0 A1 A2 A3 A4 A5 A6 A7 h0 h1 h2 h3 h4 h5 h6 h7 (ix2 s e)
    simp only [ex, ← EReal.coe_mul, sum_real]
    exact ⟨_, rfl⟩
  have hl : ∀ r, ∃ q : ℝ, (kRow A0 A1 A2 A3 A4 A5 A6 A7 r).lTerm = ((q : ℝ) : EReal) := fun r => by
    by_cases h : ok r
    · obtain ⟨ha, hb⟩ : 16 ≤ (Rows.pos r).val ∧ (Rows.pos r).val < 16400 := h
      have k := diff_tok A0 A1 A2 A3 A4 A5 A6 A7 ⟨(Rows.pos r).val - 16, by omega⟩
      obtain ⟨q, eq⟩ := hq ⟨(Rows.pos r).val - 16, by omega⟩
      refine ⟨q, Eq.trans ?_ eq⟩
      have i : Rows.row (Rows.tok ⟨16 + ((Rows.pos r).val - 16), by omega⟩) = r :=
        (congrArg Rows.row (Fin.ext (show 16 + ((Rows.pos r).val - 16) = (Rows.pos r).val by omega))).trans (Rows.row_pos r)
      rw [i] at k
      unfold Row.lTerm
      rw [k]
    · refine ⟨0, ?_⟩
      unfold Row.lTerm
      rw [diff_off _ _ _ _ _ _ _ _ r h]
      simp only [mul_zero, Finset.sum_const_zero, EReal.coe_zero]
  have hs := l_sum A0 A1 A2 A3 A4 A5 A6 A7
  choose l el using hl
  choose q eq using hq
  simp only [el, eq, sum_real] at hs
  have hs' := EReal.coe_injective hs
  have hb : ∑ s : Fin 26, ∑ k : Fin 640, l ⟨s.val * 640 + k.val, by omega⟩ = ∑ r, l r :=
    Fin.sum_mul_add_congr fun s k _ => rfl
  show ∑ s : Fin 26, H * (∑ k : Fin 640, (kRow A0 A1 A2 A3 A4 A5 A6 A7 ⟨s.val * 640 + k.val, _⟩).lTerm) * K = _
  unfold H K OutRef.H OutRef.W2
  simp only [el, eq, cH, cK, Norm.n1024, sum_real, ← EReal.coe_mul, div_real _ (show (1024 : ℝ) ≠ 0 by norm_num)]
  refine congrArg _ ?_
  rw [← Finset.sum_mul, ← Finset.mul_sum, hb, hs', ← Finset.sum_div]
  ring

end Cert.OutValue
-- ==== Proof.Out.Pre.lean ====
/-
  The precondition of the gradient of the loss, the output norm and the attention gate: every argument is finite, so every argument is an array of reals.
-/
module

public import proofs.«01_k».proof.Proof.Gen.Pre_out_finite
public import proofs.«01_k».proof.Proof.RealLift

@[expose] public section

set_option maxRecDepth 16384

noncomputable section

open Idealize.ShloMosaic Idealize.ShloMosaic.TcCoe Idealize.SL.Sem

namespace Cert.OutValue

open Cert.Pre_out_finite Cert.Pre_out_finite.Gen Cert.RealLift

theorem of_pre (A0 : FVec Ideal S16400x512 .f32) (A1 : FVec Ideal S16400x512 .f32) (A2 : FVec Ideal S16400x512 .f32) (A3 : FVec Ideal S16400x1024 .f32) (A4 : FVec Ideal S1024x1024 .f32) (A5 : FVec Ideal S1x1024 .f32) (A6 : FVec Ideal S1x512 .f32) (A7 : FVec Ideal S16384x1024 .f32)
    (h : fn (F := Ideal) A0 A1 A2 A3 A4 A5 A6 A7 = fun _ => 1#1) :
    Reals A0 ∧ Reals A1 ∧ Reals A2 ∧ Reals A3 ∧ Reals A4 ∧ Reals A5 ∧ Reals A6 ∧ Reals A7 := by
  have e : fn (F := Ideal) A0 A1 A2 A3 A4 A5 A6 A7 (fun a => a.elim0) = 1#1 := congrFun h _
  dsimp only [fn, fn_part1, fn_part2] at e
  obtain ⟨e, e7⟩ := andi_one e
  obtain ⟨e, e6⟩ := andi_one e
  obtain ⟨e, e5⟩ := andi_one e
  obtain ⟨e, e4⟩ := andi_one e
  obtain ⟨e, e3⟩ := andi_one e
  obtain ⟨e, e2⟩ := andi_one e
  obtain ⟨e0, e1⟩ := andi_one e
  exact ⟨reals_of_all _ _ _ _ _ e0, reals_of_all _ _ _ _ _ e1, reals_of_all _ _ _ _ _ e2, reals_of_all _ _ _ _ _ e3, reals_of_all _ _ _ _ _ e4, reals_of_all _ _ _ _ _ e5, reals_of_all _ _ _ _ _ e6, reals_of_all _ _ _ _ _ e7⟩

end Cert.OutValue
-- ==== Proof.Out.Run.lean ====
/-
  The gradient of the loss, the output norm and the attention gate: its results are the reference's gradients.
-/
module

public import proofs.«01_k».proof.Defs
public import proofs.«01_k».proof.Proof.Out.Equation
public import proofs.«01_k».proof.Proof.Out.Pre

@[expose] public section

set_option maxRecDepth 16384

noncomputable section

open Idealize.ShloMosaic Idealize.ShloMosaic.TcCoe Idealize.SL.Sem

namespace Cert.OutValue

open Cert.OutIdeal Cert.OutIdeal.Gen

variable (m : (ℓ : Loc nD τ sig) → Buf (Elt Ideal) ℓ)

/-- Result `main_v26` of the program in terms of its arguments. -/
theorem res_v26 (c : Dev nD) : Pipeline.afterTail₀ cfgs (dats m) 0 (V0 m) [hostOps1] c main_v26
    = scalarOf (lossOf (Rows.rowsOf (φ := .f32) 512 (m ((c.tc : Thread nD τ).loc main_arg0))) (Rows.rowsOf (φ := .f32) 512 (m ((c.tc : Thread nD τ).loc main_arg1))) (Rows.rowsOf (φ := .f32) 512 (m ((c.tc : Thread nD τ).loc main_arg2))) (Rows.rowsOf (φ := .f32) 1024 (m ((c.tc : Thread nD τ).loc main_arg3))) (Rows.rowsOf (φ := .f32) 1024 (tgt (m ((c.tc : Thread nD τ).loc main_arg7)))) (wB (m ((c.tc : Thread nD τ).loc main_arg4))) (m ((c.tc : Thread nD τ).loc main_arg5)) (m ((c.tc : Thread nD τ).loc main_arg6))) := by
  rw [← final14 m c _ _ _ _ _ _ _ _ (entry_v11 m c) (entry_v15 m c) (entry_v19 m c) (entry_v23 m c) (entry_v7 m c) (entry_v24 m c) (entry_arg5 m c) (entry_arg6 m c)]
  unfold Pipeline.afterTail₀
  simp only [List.flatten_cons, List.flatten_nil, List.append_nil]
  refine (tail_v26 _).trans (congrArg (scalarOf) ?_)
  exact Pipeline.withArrays_arr _ launch0.win.arr_inj c (V0 m c) _ 14

/-- Result `main_v30` of the program in terms of its arguments. -/
theorem res_v30 (c : Dev nD) : Pipeline.afterTail₀ cfgs (dats m) 0 (V0 m) [hostOps1] c main_v30
    = Rows.tokensOf (φ := .f32) 512 (arrOf OutRow.Row.dO (Rows.rowsOf (φ := .f32) 512 (m ((c.tc : Thread nD τ).loc main_arg0))) (Rows.rowsOf (φ := .f32) 512 (m ((c.tc : Thread nD τ).loc main_arg1))) (Rows.rowsOf (φ := .f32) 512 (m ((c.tc : Thread nD τ).loc main_arg2))) (Rows.rowsOf (φ := .f32) 1024 (m ((c.tc : Thread nD τ).loc main_arg3))) (Rows.rowsOf (φ := .f32) 1024 (tgt (m ((c.tc : Thread nD τ).loc main_arg7)))) (wB (m ((c.tc : Thread nD τ).loc main_arg4))) (m ((c.tc : Thread nD τ).loc main_arg5)) (m ((c.tc : Thread nD τ).loc main_arg6))) := by
  rw [← final10 m c _ _ _ _ _ _ _ _ (entry_v11 m c) (entry_v15 m c) (entry_v19 m c) (entry_v23 m c) (entry_v7 m c) (entry_v24 m c) (entry_arg5 m c) (entry_arg6 m c)]
  unfold Pipeline.afterTail₀
  simp only [List.flatten_cons, List.flatten_nil, List.append_nil]
  refine (tail_v30 _).trans (congrArg (Rows.tokensOf (φ := .f32) 512) ?_)
  exact Pipeline.withArrays_arr _ launch0.win.arr_inj c (V0 m c) _ 10

/-- Result `main_v34` of the program in terms of its arguments. -/
theorem res_v34 (c : Dev nD) : Pipeline.afterTail₀ cfgs (dats m) 0 (V0 m) [hostOps1] c main_v34
    = Rows.tokensOf (φ := .f32) 512 (arrOf OutRow.Row.dG (Rows.rowsOf (φ := .f32) 512 (m ((c.tc : Thread nD τ).loc main_arg0))) (Rows.rowsOf (φ := .f32) 512 (m ((c.tc : Thread nD τ).loc main_arg1))) (Rows.rowsOf (φ := .f32) 512 (m ((c.tc : Thread nD τ).loc main_arg2))) (Rows.rowsOf (φ := .f32) 1024 (m ((c.tc : Thread nD τ).loc main_arg3))) (Rows.rowsOf (φ := .f32) 1024 (tgt (m ((c.tc : Thread nD τ).loc main_arg7)))) (wB (m ((c.tc : Thread nD τ).loc main_arg4))) (m ((c.tc : Thread nD τ).loc main_arg5)) (m ((c.tc : Thread nD τ).loc main_arg6))) := by
  rw [← final11 m c _ _ _ _ _ _ _ _ (entry_v11 m c) (entry_v15 m c) (entry_v19 m c) (entry_v23 m c) (entry_v7 m c) (entry_v24 m c) (entry_arg5 m c) (entry_arg6 m c)]
  unfold Pipeline.afterTail₀
  simp only [List.flatten_cons, List.flatten_nil, List.append_nil]
  refine (tail_v34 _).trans (congrArg (Rows.tokensOf (φ := .f32) 512) ?_)
  exact Pipeline.withArrays_arr _ launch0.win.arr_inj c (V0 m c) _ 11

/-- Result `main_v38` of the program in terms of its arguments. -/
theorem res_v38 (c : Dev nD) : Pipeline.afterTail₀ cfgs (dats m) 0 (V0 m) [hostOps1] c main_v38
    = Rows.tokensOf (φ := .f32) 512 (arrOf OutRow.Row.dYs (Rows.rowsOf (φ := .f32) 512 (m ((c.tc : Thread nD τ).loc main_arg0))) (Rows.rowsOf (φ := .f32) 512 (m ((c.tc : Thread nD τ).loc main_arg1))) (Rows.rowsOf (φ := .f32) 512 (m ((c.tc : Thread nD τ).loc main_arg2))) (Rows.rowsOf (φ := .f32) 1024 (m ((c.tc : Thread nD τ).loc main_arg3))) (Rows.rowsOf (φ := .f32) 1024 (tgt (m ((c.tc : Thread nD τ).loc main_arg7)))) (wB (m ((c.tc : Thread nD τ).loc main_arg4))) (m ((c.tc : Thread nD τ).loc main_arg5)) (m ((c.tc : Thread nD τ).loc main_arg6))) := by
  rw [← final12 m c _ _ _ _ _ _ _ _ (entry_v11 m c) (entry_v15 m c) (entry_v19 m c) (entry_v23 m c) (entry_v7 m c) (entry_v24 m c) (entry_arg5 m c) (entry_arg6 m c)]
  unfold Pipeline.afterTail₀
  simp only [List.flatten_cons, List.flatten_nil, List.append_nil]
  refine (tail_v38 _).trans (congrArg (Rows.tokensOf (φ := .f32) 512) ?_)
  exact Pipeline.withArrays_arr _ launch0.win.arr_inj c (V0 m c) _ 12

/-- Result `main_v42` of the program in terms of its arguments. -/
theorem res_v42 (c : Dev nD) : Pipeline.afterTail₀ cfgs (dats m) 0 (V0 m) [hostOps1] c main_v42
    = Rows.tokensOf (φ := .f32) 1024 (arrOf OutRow.Row.dout (Rows.rowsOf (φ := .f32) 512 (m ((c.tc : Thread nD τ).loc main_arg0))) (Rows.rowsOf (φ := .f32) 512 (m ((c.tc : Thread nD τ).loc main_arg1))) (Rows.rowsOf (φ := .f32) 512 (m ((c.tc : Thread nD τ).loc main_arg2))) (Rows.rowsOf (φ := .f32) 1024 (m ((c.tc : Thread nD τ).loc main_arg3))) (Rows.rowsOf (φ := .f32) 1024 (tgt (m ((c.tc : Thread nD τ).loc main_arg7)))) (wB (m ((c.tc : Thread nD τ).loc main_arg4))) (m ((c.tc : Thread nD τ).loc main_arg5)) (m ((c.tc : Thread nD τ).loc main_arg6))) := by
  rw [← final9 m c _ _ _ _ _ _ _ _ (entry_v11 m c) (entry_v15 m c) (entry_v19 m c) (entry_v23 m c) (entry_v7 m c) (entry_v24 m c) (entry_arg5 m c) (entry_arg6 m c)]
  unfold Pipeline.afterTail₀
  simp only [List.flatten_cons, List.flatten_nil, List.append_nil]
  refine (tail_v42 _).trans (congrArg (Rows.tokensOf (φ := .f32) 1024) ?_)
  exact Pipeline.withArrays_arr _ launch0.win.arr_inj c (V0 m c) _ 9

/-- What the two last sums of the region end at. -/
theorem run_sums (ρ : Dev nD → PrngReg) : θ_run defs (onTc (τ := τ) (main (F := Ideal))) (s₀ m ρ) (fun r => ∀ c : Dev nD,
    r.2.mem ((c.tc : Thread nD τ).loc main_v25_7) = (dats m 0 c).arrAt 16 (cfgs 0).N
    ∧ r.2.mem ((c.tc : Thread nD τ).loc main_v25_8) = (dats m 0 c).arrAt 17 (cfgs 0).N) :=
  θ_run_mono (run_main m ρ) fun _ h c => ⟨(h c).1 16, (h c).1 17⟩

set_option maxHeartbeats 4000000 in
/-- The kernel and the reference end with the same gradients. -/
theorem claim : Cert.algebraic_OutIdeal_OutRefIdeal_pre_out_finite (hOutIdeal := Cert.OutIdeal.Gen.facts)
    (hOutRefIdeal := Cert.OutRefIdeal.Gen.facts) (hPre_out_finite := Cert.Pre_out_finite.Gen.facts) := by
  pair_intro
  · run_from (Cert.OutIdeal.Gen.run_main m g) & (run_sums m g)
    · exact W_main_arg0 m (dats m) c
    · exact W_main_arg1 m (dats m) c
    · exact W_main_arg2 m (dats m) c
    · exact W_main_arg3 m (dats m) c
    · exact W_main_arg4 m (dats m) c
    · exact W_main_arg7 m (dats m) c
  · refine (θ_run _ _ _).mono (fun r h c => ?_) (Cert.OutRefIdeal.Value.run m' g')
    obtain ⟨r0, r1, r2, r3, r4, r5, r6, r7, k0, k1, k2, k3, k4, k5, k6, k7⟩ := h c
    obtain ⟨x0, x1, x2, x3, x4, x5, x6, x7⟩ := hagree c
    obtain ⟨h0, h1, h2, h3, h4, h5, h6, h7⟩ := of_pre _ _ _ _ _ _ _ _ (hpre c)
    have y0 : StableHlo.launchContents m' c (Proc.tc.devRef Cert.OutRefIdeal.main_arg0) = m ((c.tc : Thread nD τ).loc main_arg0) := x0
    have y1 : StableHlo.launchContents m' c (Proc.tc.devRef Cert.OutRefIdeal.main_arg1) = m ((c.tc : Thread nD τ).loc main_arg1) := x1
    have y2 : StableHlo.launchContents m' c (Proc.tc.devRef Cert.OutRefIdeal.main_arg2) = m ((c.tc : Thread nD τ).loc main_arg2) := x2
    have y3 : StableHlo.launchContents m' c (Proc.tc.devRef Cert.OutRefIdeal.main_arg3) = m ((c.tc : Thread nD τ).loc main_arg3) := x3
    have y4 : StableHlo.launchContents m' c (Proc.tc.devRef Cert.OutRefIdeal.main_arg4) = m ((c.tc : Thread nD τ).loc main_arg4) := x4
    have y5 : StableHlo.launchContents m' c (Proc.tc.devRef Cert.OutRefIdeal.main_arg5) = m ((c.tc : Thread nD τ).loc main_arg5) := x5
    have y6 : StableHlo.launchContents m' c (Proc.tc.devRef Cert.OutRefIdeal.main_arg6) = m ((c.tc : Thread nD τ).loc main_arg6) := x6
    have y7 : StableHlo.launchContents m' c (Proc.tc.devRef Cert.OutRefIdeal.main_arg7) = m ((c.tc : Thread nD τ).loc main_arg7) := x7
    rw [Cert.OutRefIdeal.Read.val_main_v44_eq, y0, y1, y2, y3, y4, y5, y6, y7] at r0
    rw [Cert.OutRefIdeal.Read.val_main_v96_eq, y0, y1, y2, y3, y4, y5, y6, y7] at r1
    rw [Cert.OutRefIdeal.Read.val_main_v97_eq, y0, y1, y2, y3, y4, y5, y6, y7] at r2
    rw [Cert.OutRefIdeal.Read.val_main_v75_eq, y0, y1, y2, y3, y4, y5, y6, y7] at r3
    rw [Cert.OutRefIdeal.Read.val_main_v51_eq, y0, y1, y2, y3, y4, y5, y6, y7] at r4
    rw [Cert.OutRefIdeal.Read.val_main_v72_eq, y0, y1, y2, y3, y4, y5, y6, y7] at r5
    rw [Cert.OutRefIdeal.Read.val_main_v54_eq, y0, y1, y2, y3, y4, y5, y6, y7] at r6
    rw [Cert.OutRefIdeal.Read.val_main_v78_eq, y0, y1, y2, y3, y4, y5, y6, y7] at r7
    exact ⟨r0.trans ((l_result _ _ _ _ _ _ _ _ h0 h1 h2 h3 h4 h5 h6 h7).symm.trans (res_v26 m c).symm), r1.trans ((o_result _ _ _ _ _ _ _ _ h0 h1 h2 h3 h4 h5 h6 h7).symm.trans (res_v30 m c).symm), r2.trans ((g_result _ _ _ _ _ _ _ _ h0 h1 h2 h3 h4 h5 h6 h7).symm.trans (res_v34 m c).symm), r3.trans ((s_result _ _ _ _ _ _ _ _ h0 h1 h2 h3 h4 h5 h6 h7).symm.trans (res_v38 m c).symm), r4.trans ((h_result _ _ _ _ _ _ _ _ ).symm.trans (res_v42 m c).symm), r5.trans ((w_result _ _ _ _ _ _ _ _ h0 h1 h2 h3 h4 h5 h6 h7).symm.trans (final16 m c _ _ _ _ _ _ _ _ (entry_v11 m c) (entry_v15 m c) (entry_v19 m c) (entry_v23 m c) (entry_v7 m c) (entry_v24 m c) (entry_arg5 m c) (entry_arg6 m c)).symm), r6.trans ((p_result _ _ _ _ _ _ _ _ ).symm.trans (final15 m c _ _ _ _ _ _ _ _ (entry_v11 m c) (entry_v15 m c) (entry_v19 m c) (entry_v23 m c) (entry_v7 m c) (entry_v24 m c) (entry_arg5 m c) (entry_arg6 m c)).symm), r7.trans ((a_result _ _ _ _ _ _ _ _ h0 h1 h2 h3 h4 h5 h6 h7).symm.trans (final17 m c _ _ _ _ _ _ _ _ (entry_v11 m c) (entry_v15 m c) (entry_v19 m c) (entry_v23 m c) (entry_v7 m c) (entry_v24 m c) (entry_arg5 m c) (entry_arg6 m c)).symm),
      k0, k1, k2, k3, k4, k5, k6, k7⟩

end Cert.OutValue
-- ==== Proof.Qkv.Block.lean ====
/-
  What one grid point of the latent projections' gradient leaves in its outputs of the keys' and values' side, as the
  body's own expressions.
-/
module

public import proofs.«01_k».proof.Proof.Gen.QkvIdeal.Frame
public import Idealize.ShloMosaic.Lib.Pipeline.ValueKit

@[expose] public section

set_option maxRecDepth 16384

noncomputable section

open Idealize.ShloMosaic Idealize.ShloMosaic.TcCoe Idealize.SL.Sem

namespace Cert.QkvValue

open Cert.QkvIdeal Cert.QkvIdeal.Gen

variable {F : FTy → Type} [FloatOps F] [Named F]

/-- A load of a whole block reads the block. -/
theorem ld4 (a : Memref sig .tc .vmem S640x512 .f32) (h : a.IsWhole) (x : Vec F S640x512 .f32) :
    View.ld (View.read (Elt F) a.view (h.unread x)) (Rect.unit ![0, 0] ![640, 512] inb_S640x512_S640x512_0_0) = x := by
  rw [h.read_unread]
  exact View.ld_unit_zero (by funext a; fin_cases a <;> rfl) _ x

section
variable (c : Dev nD) (i : grid0.Coords) (arg1 : Memref sig .tc .vmem S640x512 .f32) (harg1 : arg1.IsWhole) (arg2 : Memref sig .tc .vmem S640x128 .f32) (harg2 : arg2.IsWhole) (arg3 : Memref sig .tc .vmem S640x128 .f32) (harg3 : arg3.IsWhole) (arg4 : Memref sig .tc .vmem S640x512 .f32) (harg4 : arg4.IsWhole) (arg5 : Memref sig .tc .vmem S640x512 .f32) (harg5 : arg5.IsWhole) (arg6 : Memref sig .tc .vmem S640x256 .f32) (harg6 : arg6.IsWhole) (arg7 : Memref sig .tc .vmem S640x256 .f32) (harg7 : arg7.IsWhole) (arg8 : Memref sig .tc .vmem S640x128 .f32) (harg8 : arg8.IsWhole) (arg9 : Memref sig .tc .vmem S640x128 .f32) (harg9 : arg9.IsWhole) (arg10 : Memref sig .tc .vmem S640x128 .f32) (harg10 : arg10.IsWhole) (arg11 : Memref sig .tc .vmem S640x32 .f32) (harg11 : arg11.IsWhole) (arg12 : Memref sig .tc .vmem S640x32 .f32) (harg12 : arg12.IsWhole) (arg13 : Memref sig .tc .vmem S1x256 .f32) (harg13 : arg13.IsWhole) (arg14 : Memref sig .tc .vmem S1x128 .f32) (harg14 : arg14.IsWhole) (arg15 : Memref sig .tc .vmem S256x768 .bf16) (harg15 : arg15.IsWhole) (arg16 : Memref sig .tc .vmem S128x1024 .bf16) (harg16 : arg16.IsWhole) (arg17 : Memref sig .tc .vmem S32x32 .f32) (harg17 : arg17.IsWhole) (arg18 : Memref sig .tc .vmem S256x32 .f32) (harg18 : arg18.IsWhole) (arg19 : Memref sig .tc .vmem S640x256 .f32) (harg19 : arg19.IsWhole) (arg20 : Memref sig .tc .vmem S640x128 .f32) (harg20 : arg20.IsWhole) (arg21 : Memref sig .tc .vmem S640x32 .f32) (harg21 : arg21.IsWhole) (arg22 : Memref sig .tc .vmem S256x768 .f32) (harg22 : arg22.IsWhole) (arg23 : Memref sig .tc .vmem S128x1024 .f32) (harg23 : arg23.IsWhole) (arg24 : Memref sig .tc .vmem S1x256 .f32) (harg24 : arg24.IsWhole) (arg25 : Memref sig .tc .vmem S1x128 .f32) (harg25 : arg25.IsWhole) (hc0 : cond0_0 i) (hc1 : ¬cond0_1 i) (hc2 : cond0_2 i) (hc3 : ¬cond0_3 i) (hc4 : cond0_4 i) (hc5 : ¬cond0_5 i) (hc6 : cond0_6 i) (hc7 : ¬cond0_7 i)
  (x0 : Vec F S640x512 .f32) (x1 : Vec F S640x128 .f32) (x2 : Vec F S640x128 .f32) (x3 : Vec F S640x512 .f32) (x4 : Vec F S640x512 .f32) (x5 : Vec F S640x256 .f32) (x6 : Vec F S640x256 .f32) (x7 : Vec F S640x128 .f32) (x8 : Vec F S640x128 .f32) (x9 : Vec F S640x128 .f32) (x10 : Vec F S640x32 .f32) (x11 : Vec F S640x32 .f32) (x12 : Vec F S1x256 .f32) (x13 : Vec F S1x128 .f32) (x14 : Vec F S256x768 .bf16) (x15 : Vec F S128x1024 .bf16) (x16 : Vec F S32x32 .f32) (x17 : Vec F S256x32 .f32)

theorem outA_19 : out0_A_19 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 hc2 hc3 hc4 hc5 hc6 hc7 x0 x1 x2 x3 x4 x5 x6 x7 x8 x9 x10 x11 x12 x13 x14 x15 x16 x17
    = k0_pay21 (k0_pay14 x7) (k0_pay18 x7) (k0_pay19 (k0_pay11 x3) x4 x13 x15) (k0_pay20 (k0_pay11 x3) x4 x7 x13 x15) := by
  frame_out
  rw [ld4 arg4 harg4 x3, ld4 arg5 harg5 x4]
  rfl

theorem outA_22 : out0_A_22 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 hc2 hc3 hc4 hc5 hc6 hc7 x0 x1 x2 x3 x4 x5 x6 x7 x8 x9 x10 x11 x12 x13 x14 x15 x16 x17
    = k0_pay15 (k0_pay11 x3) x4 x7 x13 := by
  frame_out
  rw [ld4 arg4 harg4 x3, ld4 arg5 harg5 x4]
  rfl

theorem outA_24 : out0_A_24 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 hc2 hc3 hc4 hc5 hc6 hc7 x0 x1 x2 x3 x4 x5 x6 x7 x8 x9 x10 x11 x12 x13 x14 x15 x16 x17
    = k0_pay22 (k0_pay17 (k0_pay11 x3) x4 x15) (k0_pay18 x7) := by
  frame_out
  rw [ld4 arg4 harg4 x3, ld4 arg5 harg5 x4]
  rfl

end

section
variable (c : Dev nD) (i : grid0.Coords) (arg1 : Memref sig .tc .vmem S640x512 .f32) (harg1 : arg1.IsWhole) (arg2 : Memref sig .tc .vmem S640x128 .f32) (harg2 : arg2.IsWhole) (arg3 : Memref sig .tc .vmem S640x128 .f32) (harg3 : arg3.IsWhole) (arg4 : Memref sig .tc .vmem S640x512 .f32) (harg4 : arg4.IsWhole) (arg5 : Memref sig .tc .vmem S640x512 .f32) (harg5 : arg5.IsWhole) (arg6 : Memref sig .tc .vmem S640x256 .f32) (harg6 : arg6.IsWhole) (arg7 : Memref sig .tc .vmem S640x256 .f32) (harg7 : arg7.IsWhole) (arg8 : Memref sig .tc .vmem S640x128 .f32) (harg8 : arg8.IsWhole) (arg9 : Memref sig .tc .vmem S640x128 .f32) (harg9 : arg9.IsWhole) (arg10 : Memref sig .tc .vmem S640x128 .f32) (harg10 : arg10.IsWhole) (arg11 : Memref sig .tc .vmem S640x32 .f32) (harg11 : arg11.IsWhole) (arg12 : Memref sig .tc .vmem S640x32 .f32) (harg12 : arg12.IsWhole) (arg13 : Memref sig .tc .vmem S1x256 .f32) (harg13 : arg13.IsWhole) (arg14 : Memref sig .tc .vmem S1x128 .f32) (harg14 : arg14.IsWhole) (arg15 : Memref sig .tc .vmem S256x768 .bf16) (harg15 : arg15.IsWhole) (arg16 : Memref sig .tc .vmem S128x1024 .bf16) (harg16 : arg16.IsWhole) (arg17 : Memref sig .tc .vmem S32x32 .f32) (harg17 : arg17.IsWhole) (arg18 : Memref sig .tc .vmem S256x32 .f32) (harg18 : arg18.IsWhole) (arg19 : Memref sig .tc .vmem S640x256 .f32) (harg19 : arg19.IsWhole) (arg20 : Memref sig .tc .vmem S640x128 .f32) (harg20 : arg20.IsWhole) (arg21 : Memref sig .tc .vmem S640x32 .f32) (harg21 : arg21.IsWhole) (arg22 : Memref sig .tc .vmem S256x768 .f32) (harg22 : arg22.IsWhole) (arg23 : Memref sig .tc .vmem S128x1024 .f32) (harg23 : arg23.IsWhole) (arg24 : Memref sig .tc .vmem S1x256 .f32) (harg24 : arg24.IsWhole) (arg25 : Memref sig .tc .vmem S1x128 .f32) (harg25 : arg25.IsWhole) (hc0 : ¬cond0_0 i) (hc1 : cond0_1 i) (hc2 : ¬cond0_2 i) (hc3 : cond0_3 i) (hc4 : ¬cond0_4 i) (hc5 : cond0_5 i) (hc6 : ¬cond0_6 i) (hc7 : cond0_7 i)
  (x0 : Vec F S640x512 .f32) (x1 : Vec F S640x128 .f32) (x2 : Vec F S640x128 .f32) (x3 : Vec F S640x512 .f32) (x4 : Vec F S640x512 .f32) (x5 : Vec F S640x256 .f32) (x6 : Vec F S640x256 .f32) (x7 : Vec F S640x128 .f32) (x8 : Vec F S640x128 .f32) (x9 : Vec F S640x128 .f32) (x10 : Vec F S640x32 .f32) (x11 : Vec F S640x32 .f32) (x12 : Vec F S1x256 .f32) (x13 : Vec F S1x128 .f32) (x14 : Vec F S256x768 .bf16) (x15 : Vec F S128x1024 .bf16) (x16 : Vec F S32x32 .f32) (x17 : Vec F S256x32 .f32) (xo21 : Vec F S256x768 .f32) (xo22 : Vec F S128x1024 .f32) (xo23 : Vec F S1x256 .f32) (xo24 : Vec F S1x128 .f32)

theorem outB_19 : out0_B_19 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 hc2 hc3 hc4 hc5 hc6 hc7 x0 x1 x2 x3 x4 x5 x6 x7 x8 x9 x10 x11 x12 x13 x14 x15 x16 x17 xo21 xo22 xo23 xo24
    = k0_pay21 (k0_pay14 x7) (k0_pay18 x7) (k0_pay19 (k0_pay11 x3) x4 x13 x15) (k0_pay20 (k0_pay11 x3) x4 x7 x13 x15) := by
  frame_out
  rw [ld4 arg4 harg4 x3, ld4 arg5 harg5 x4]
  rfl

theorem outB_22 : out0_B_22 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 hc2 hc3 hc4 hc5 hc6 hc7 x0 x1 x2 x3 x4 x5 x6 x7 x8 x9 x10 x11 x12 x13 x14 x15 x16 x17 xo21 xo22 xo23 xo24
    = k0_pay16 (k0_pay11 x3) x4 x7 x13 xo22 := by
  frame_out
  rw [ld4 arg4 harg4 x3, ld4 arg5 harg5 x4]
  rfl

theorem outB_24 : out0_B_24 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 hc2 hc3 hc4 hc5 hc6 hc7 x0 x1 x2 x3 x4 x5 x6 x7 x8 x9 x10 x11 x12 x13 x14 x15 x16 x17 xo21 xo22 xo23 xo24
    = k0_pay23 (k0_pay17 (k0_pay11 x3) x4 x15) (k0_pay18 x7) xo24 := by
  frame_out
  rw [ld4 arg4 harg4 x3, ld4 arg5 harg5 x4]
  rfl

end

end Cert.QkvValue
-- ==== Proof.Qkv.Row.lean ====
/-
  One row of the gradient through the keys' and values' projection and its norm, as the hand-written call computes it.
-/
module

public import proofs.«01_k».proof.Proof.Norm

@[expose] public section

noncomputable section

open Idealize.ShloMosaic

namespace Cert.QkvRow

/-- The norm's width and small constant, and the natural logarithm of two. -/
abbrev N : EReal := Ideal.ofBits FTy.f32 1124073472#32
abbrev E : EReal := Ideal.ofBits FTy.f32 897988541#32
abbrev L : EReal := ((Real.log 2 : ℝ) : EReal)

/-- The reciprocal root of a row's mean square. -/
def rq (t : Fin 128 → EReal) : EReal := Ideal.rsqrt (Norm.ms t N E)

/-- What a row is computed from: the gradients of the keys (times a constant) and of the values, the latent vector, the
    norm's weight and the projection's matrix. -/
structure Row where
  k : Fin 512 → EReal
  v : Fin 512 → EReal
  x : Fin 128 → EReal
  w : Fin 128 → EReal
  W : Fin 128 → Fin 1024 → EReal

namespace Row
variable (R : Row)

/-- The gradient of the projection's result: keys, then values. -/
def g (e : Fin 1024) : EReal := if h : e.val < 512 then R.k ⟨e.val, h⟩ * L else R.v ⟨e.val - 512, by omega⟩
/-- The gradient of the projection's argument. -/
def up (d : Fin 128) : EReal := ∑ e, R.g e * R.W d e
/-- The latent vector's gradient. -/
def dx (j : Fin 128) : EReal :=
  rq R.x * (R.up j * R.w j - R.x j * rq R.x * Ideal.div (∑ i, R.up i * R.w i * (R.x i * rq R.x)) N)
/-- What the row adds to the gradients of the matrix and of the norm's weight. -/
def wTerm (d : Fin 128) (e : Fin 1024) : EReal := R.x d * rq R.x * R.w d * R.g e
def aTerm (j : Fin 128) : EReal := R.up j * (R.x j * rq R.x)

end Row

end Cert.QkvRow
-- ==== Proof.Qkv.Region.lean ====
/-
  The latent projections' gradient, keys and values: what the region's result arrays hold, in terms of its argument
  arrays.
-/
module

public import proofs.«01_k».proof.Proof.Qkv.Block
public import proofs.«01_k».proof.Proof.Qkv.Row
public import proofs.«01_k».proof.Proof.Rows

@[expose] public section

set_option maxRecDepth 16384

noncomputable section

open Idealize.ShloMosaic Idealize.ShloMosaic.TcCoe Idealize.SL.Sem

open Idealize.ShloMosaic.Pipeline (Dat)

namespace Cert.QkvValue

open Cert.QkvIdeal Cert.QkvIdeal.Gen QkvRow

theorem named_ln2 : Named.named (F := Ideal) κ "ln2" (φ := .f32) 0x3F317218#32 = L := rfl

/-! ## The body's expressions, entry by entry -/

section
variable (x3 x4 : Vec Ideal S640x512 .f32) (x7 : Vec Ideal S640x128 .f32) (x13 : Vec Ideal S1x128 .f32) (x15 : Vec Ideal S128x1024 .bf16)
  (v105 v107 v109 : FVec Ideal S640x128 .f32) (v87 v114 : FVec Ideal S640x1 .f32)

/-- The row of the blocks. -/
def xRow (r : Fin 640) : Row := ⟨fun j => x3 (ix2 r j), fun j => x4 (ix2 r j), fun j => x7 (ix2 r j), fun j => x13 (ix2 0 j), fun d e => x15 (ix2 d e)⟩

theorem p11 (r : Fin 640) (j : Fin 512) : k0_pay11 (F := Ideal) x3 (ix2 r j) = x3 (ix2 r j) * L := by
  unfold k0_pay11
  rw [named_ln2]
  pointwise []
theorem p12 (r : Fin 640) (e : Fin 1024) : k0_pay12 (F := Ideal) (k0_pay11 x3) x4 (ix2 r e) = (xRow x3 x4 x7 x13 x15 r).g e := by
  have h := p11 x3 r
  unfold k0_pay12
  generalize k0_pay11 (F := Ideal) x3 = y at h ⊢
  pointwise []
  simp only [h]
  rfl
theorem p13 (r : Fin 640) (j : Fin 128) : k0_pay13 (F := Ideal) x7 (ix2 r j) = x7 (ix2 r j) := by
  pointwise [k0_pay13]
theorem p14 (r : Fin 640) (z : Fin 1) : k0_pay14 (F := Ideal) x7 (ix2 r z) = rq (xRow x3 x4 x7 x13 x15 r).x := by
  have h := p13 x7 r
  unfold k0_pay14
  generalize k0_pay13 (F := Ideal) x7 = y at h ⊢
  pointwise []
  simp only [h]
  rfl
theorem p15 (d : Fin 128) (e : Fin 1024) : k0_pay15 (F := Ideal) (k0_pay11 x3) x4 x7 x13 (ix2 d e) = ∑ r, (xRow x3 x4 x7 x13 x15 r).wTerm d e := by
  have h := p12 x3 x4 x7 x13 x15
  have h1 := p13 x7
  have h2 := p14 x3 x4 x7 x13 x15
  unfold k0_pay15
  generalize k0_pay12 (F := Ideal) (k0_pay11 x3) x4 = y at h ⊢
  generalize k0_pay13 (F := Ideal) x7 = y1 at h1 ⊢
  generalize k0_pay14 (F := Ideal) x7 = y2 at h2 ⊢
  pointwise []
  simp only [h, h1, h2]
  rfl
theorem p16 (A : Vec Ideal S128x1024 .f32) (y : FVec Ideal S640x512 .f32) (d : Fin 128) (e : Fin 1024) : k0_pay16 (F := Ideal) y x4 x7 x13 A (ix2 d e)
    = A (ix2 d e) + k0_pay15 (F := Ideal) y x4 x7 x13 (ix2 d e) := by
  unfold k0_pay16
  generalize k0_pay15 (F := Ideal) y x4 x7 x13 = z
  pointwise []
theorem p17 (r : Fin 640) (d : Fin 128) : k0_pay17 (F := Ideal) (k0_pay11 x3) x4 x15 (ix2 r d) = (xRow x3 x4 x7 x13 x15 r).up d := by
  have h := p12 x3 x4 x7 x13 x15
  unfold k0_pay17
  generalize k0_pay12 (F := Ideal) (k0_pay11 x3) x4 = y at h ⊢
  pointwise []
  simp only [h]
  rfl
theorem p18 (r : Fin 640) (j : Fin 128) : k0_pay18 (F := Ideal) x7 (ix2 r j) = x7 (ix2 r j) * rq (xRow x3 x4 x7 x13 x15 r).x := by
  have h1 := p13 x7
  have h2 := p14 x3 x4 x7 x13 x15
  unfold k0_pay18
  generalize k0_pay13 (F := Ideal) x7 = y1 at h1 ⊢
  generalize k0_pay14 (F := Ideal) x7 = y2 at h2 ⊢
  pointwise []
  simp only [h1, h2]
theorem p19 (r : Fin 640) (j : Fin 128) : k0_pay19 (F := Ideal) (k0_pay11 x3) x4 x13 x15 (ix2 r j) = (xRow x3 x4 x7 x13 x15 r).up j * x13 (ix2 0 j) := by
  have h := p17 x3 x4 x7 x13 x15
  unfold k0_pay19
  generalize k0_pay17 (F := Ideal) (k0_pay11 x3) x4 x15 = y at h ⊢
  pointwise []
  simp only [h]
theorem p20 (r : Fin 640) (z : Fin 1) : k0_pay20 (F := Ideal) (k0_pay11 x3) x4 x7 x13 x15 (ix2 r z)
    = Ideal.div (∑ i, (xRow x3 x4 x7 x13 x15 r).up i * x13 (ix2 0 i) * (x7 (ix2 r i) * rq (xRow x3 x4 x7 x13 x15 r).x)) N := by
  have h := p18 x3 x4 x7 x13 x15
  have h' := p19 x3 x4 x7 x13 x15
  unfold k0_pay20
  generalize k0_pay18 (F := Ideal) x7 = y at h ⊢
  generalize k0_pay19 (F := Ideal) (k0_pay11 x3) x4 x13 x15 = y' at h' ⊢
  pointwise []
  simp only [h, h']
theorem p21 (r : Fin 640) (j : Fin 128) : k0_pay21 (F := Ideal) v87 v107 v109 v114 (ix2 r j)
    = v87 (ix2 r 0) * (v109 (ix2 r j) - v107 (ix2 r j) * v114 (ix2 r 0)) := by
  pointwise [k0_pay21]
theorem p22 (z : Fin 1) (j : Fin 128) : k0_pay22 (F := Ideal) v105 v107 (ix2 z j) = ∑ r, v105 (ix2 r j) * v107 (ix2 r j) := by
  pointwise [k0_pay22]
theorem p23 (A : Vec Ideal S1x128 .f32) (z : Fin 1) (j : Fin 128) : k0_pay23 (F := Ideal) v105 v107 A (ix2 z j)
    = A (ix2 z j) + k0_pay22 (F := Ideal) v105 v107 (ix2 z j) := by
  unfold k0_pay23
  generalize k0_pay22 (F := Ideal) v105 v107 = y
  pointwise []

/-! ## What a grid point computes, in terms of its rows -/

theorem q19 (r : Fin 640) (j : Fin 128) : (k0_pay21 (F := Ideal) (k0_pay14 x7) (k0_pay18 x7) (k0_pay19 (k0_pay11 x3) x4 x13 x15) (k0_pay20 (k0_pay11 x3) x4 x7 x13 x15)) (ix2 r j) = (xRow x3 x4 x7 x13 x15 r).dx j := by
  rw [p21, p14 x3 x4 x7 x13 x15, p18 x3 x4 x7 x13 x15, p19 x3 x4 x7 x13 x15, p20]
  rfl
theorem q24 (z : Fin 1) (j : Fin 128) : (k0_pay22 (F := Ideal) (k0_pay17 (k0_pay11 x3) x4 x15) (k0_pay18 x7)) (ix2 z j) = ∑ r, (xRow x3 x4 x7 x13 x15 r).aTerm j := by
  have h := p17 x3 x4 x7 x13 x15
  have h' := p18 x3 x4 x7 x13 x15
  rw [p22]
  simp only [h, h']
  rfl
end

theorem idx : ∀ t : Fin cfg0.N, win0_0.index t = ![t.val, 0]
    ∧ win0_1.index t = ![t.val, 0]
    ∧ win0_2.index t = ![t.val, 0]
    ∧ win0_3.index t = ![t.val, 0]
    ∧ win0_4.index t = ![t.val, 0]
    ∧ win0_5.index t = ![t.val, 0]
    ∧ win0_6.index t = ![t.val, 0]
    ∧ win0_7.index t = ![t.val, 0]
    ∧ win0_8.index t = ![t.val, 0]
    ∧ win0_9.index t = ![t.val, 0]
    ∧ win0_10.index t = ![t.val, 0]
    ∧ win0_11.index t = ![t.val, 0]
    ∧ win0_12.index t = ![0, 0]
    ∧ win0_13.index t = ![0, 0]
    ∧ win0_14.index t = ![0, 0]
    ∧ win0_15.index t = ![0, 0]
    ∧ win0_16.index t = ![0, 0]
    ∧ win0_17.index t = ![0, 0]
    ∧ win0_18.index t = ![t.val, 0]
    ∧ win0_19.index t = ![t.val, 0]
    ∧ win0_20.index t = ![t.val, 0]
    ∧ win0_21.index t = ![0, 0]
    ∧ win0_22.index t = ![0, 0]
    ∧ win0_23.index t = ![0, 0]
    ∧ win0_24.index t = ![0, 0] :=
  (by decide +kernel : ∀ t : Fin grid0.N, _)

/-- The array's row at place `r` of a grid point's tile. -/
def rw' (t : Fin cfg0.N) (r : Fin 640) : Fin 16640 := ⟨t.val * 640 + r.val, by
  have h : t.val < 26 := lt_of_lt_of_eq t.isLt N_0
  omega⟩

section
variable (m : (ℓ : Loc nD τ sig) → Buf (Elt Ideal) ℓ) (c : Dev nD)

theorem blk0 (X : Vec Ideal S16640x512 .f32) (e : V m c main_v21_0 = X) (t : Fin cfg0.N) (r : Fin 640) (j : Fin 512) :
    iblk m c 0 t (ix2 r j) = X (ix2 (rw' t r) j) := by
  have rd : ∀ f : Vec Ideal S16640x512 .f32, ((cfg0.win 0).blk t).view.read (Elt Ideal) f (ix2 r j) = f (ix2 (rw' t r) j) := fun f => by
    blk_ext [idx t, rw']
  show ((cfg0.win 0).blk t).view.read (Elt Ideal) (V m c main_v21_0) _ = _
  rw [e]
  exact rd X

theorem blk1 (X : Vec Ideal S16640x128 .f32) (e : V m c main_v21_1 = X) (t : Fin cfg0.N) (r : Fin 640) (j : Fin 128) :
    iblk m c 1 t (ix2 r j) = X (ix2 (rw' t r) j) := by
  have rd : ∀ f : Vec Ideal S16640x128 .f32, ((cfg0.win 1).blk t).view.read (Elt Ideal) f (ix2 r j) = f (ix2 (rw' t r) j) := fun f => by
    blk_ext [idx t, rw']
  show ((cfg0.win 1).blk t).view.read (Elt Ideal) (V m c main_v21_1) _ = _
  rw [e]
  exact rd X

theorem blk2 (X : Vec Ideal S16640x128 .f32) (e : V m c main_v21_2 = X) (t : Fin cfg0.N) (r : Fin 640) (j : Fin 128) :
    iblk m c 2 t (ix2 r j) = X (ix2 (rw' t r) j) := by
  have rd : ∀ f : Vec Ideal S16640x128 .f32, ((cfg0.win 2).blk t).view.read (Elt Ideal) f (ix2 r j) = f (ix2 (rw' t r) j) := fun f => by
    blk_ext [idx t, rw']
  show ((cfg0.win 2).blk t).view.read (Elt Ideal) (V m c main_v21_2) _ = _
  rw [e]
  exact rd X

theorem blk3 (X : Vec Ideal S16640x512 .f32) (e : V m c main_v22_0 = X) (t : Fin cfg0.N) (r : Fin 640) (j : Fin 512) :
    iblk m c 3 t (ix2 r j) = X (ix2 (rw' t r) j) := by
  have rd : ∀ f : Vec Ideal S16640x512 .f32, ((cfg0.win 3).blk t).view.read (Elt Ideal) f (ix2 r j) = f (ix2 (rw' t r) j) := fun f => by
    blk_ext [idx t, rw']
  show ((cfg0.win 3).blk t).view.read (Elt Ideal) (V m c main_v22_0) _ = _
  rw [e]
  exact rd X

theorem blk4 (X : Vec Ideal S16640x512 .f32) (e : V m c main_v29 = X) (t : Fin cfg0.N) (r : Fin 640) (j : Fin 512) :
    iblk m c 4 t (ix2 r j) = X (ix2 (rw' t r) j) := by
  have rd : ∀ f : Vec Ideal S16640x512 .f32, ((cfg0.win 4).blk t).view.read (Elt Ideal) f (ix2 r j) = f (ix2 (rw' t r) j) := fun f => by
    blk_ext [idx t, rw']
  show ((cfg0.win 4).blk t).view.read (Elt Ideal) (V m c main_v29) _ = _
  rw [e]
  exact rd X

theorem blk5 (X : Vec Ideal S16640x256 .f32) (e : V m c main_v22_1 = X) (t : Fin cfg0.N) (r : Fin 640) (j : Fin 256) :
    iblk m c 5 t (ix2 r j) = X (ix2 (rw' t r) j) := by
  have rd : ∀ f : Vec Ideal S16640x256 .f32, ((cfg0.win 5).blk t).view.read (Elt Ideal) f (ix2 r j) = f (ix2 (rw' t r) j) := fun f => by
    blk_ext [idx t, rw']
  show ((cfg0.win 5).blk t).view.read (Elt Ideal) (V m c main_v22_1) _ = _
  rw [e]
  exact rd X

theorem blk6 (X : Vec Ideal S16640x256 .f32) (e : V m c main_v34 = X) (t : Fin cfg0.N) (r : Fin 640) (j : Fin 256) :
    iblk m c 6 t (ix2 r j) = X (ix2 (rw' t r) j) := by
  have rd : ∀ f : Vec Ideal S16640x256 .f32, ((cfg0.win 6).blk t).view.read (Elt Ideal) f (ix2 r j) = f (ix2 (rw' t r) j) := fun f => by
    blk_ext [idx t, rw']
  show ((cfg0.win 6).blk t).view.read (Elt Ideal) (V m c main_v34) _ = _
  rw [e]
  exact rd X

theorem blk7 (X : Vec Ideal S16640x128 .f32) (e : V m c main_v39 = X) (t : Fin cfg0.N) (r : Fin 640) (j : Fin 128) :
    iblk m c 7 t (ix2 r j) = X (ix2 (rw' t r) j) := by
  have rd : ∀ f : Vec Ideal S16640x128 .f32, ((cfg0.win 7).blk t).view.read (Elt Ideal) f (ix2 r j) = f (ix2 (rw' t r) j) := fun f => by
    blk_ext [idx t, rw']
  show ((cfg0.win 7).blk t).view.read (Elt Ideal) (V m c main_v39) _ = _
  rw [e]
  exact rd X

theorem blk8 (X : Vec Ideal S16640x128 .f32) (e : V m c main_v0_0 = X) (t : Fin cfg0.N) (r : Fin 640) (j : Fin 128) :
    iblk m c 8 t (ix2 r j) = X (ix2 (rw' t r) j) := by
  have rd : ∀ f : Vec Ideal S16640x128 .f32, ((cfg0.win 8).blk t).view.read (Elt Ideal) f (ix2 r j) = f (ix2 (rw' t r) j) := fun f => by
    blk_ext [idx t, rw']
  show ((cfg0.win 8).blk t).view.read (Elt Ideal) (V m c main_v0_0) _ = _
  rw [e]
  exact rd X

theorem blk9 (X : Vec Ideal S16640x128 .f32) (e : V m c main_v0_1 = X) (t : Fin cfg0.N) (r : Fin 640) (j : Fin 128) :
    iblk m c 9 t (ix2 r j) = X (ix2 (rw' t r) j) := by
  have rd : ∀ f : Vec Ideal S16640x128 .f32, ((cfg0.win 9).blk t).view.read (Elt Ideal) f (ix2 r j) = f (ix2 (rw' t r) j) := fun f => by
    blk_ext [idx t, rw']
  show ((cfg0.win 9).blk t).view.read (Elt Ideal) (V m c main_v0_1) _ = _
  rw [e]
  exact rd X

theorem blk10 (X : Vec Ideal S16640x32 .f32) (e : V m c main_v0_2 = X) (t : Fin cfg0.N) (r : Fin 640) (j : Fin 32) :
    iblk m c 10 t (ix2 r j) = X (ix2 (rw' t r) j) := by
  have rd : ∀ f : Vec Ideal S16640x32 .f32, ((cfg0.win 10).blk t).view.read (Elt Ideal) f (ix2 r j) = f (ix2 (rw' t r) j) := fun f => by
    blk_ext [idx t, rw']
  show ((cfg0.win 10).blk t).view.read (Elt Ideal) (V m c main_v0_2) _ = _
  rw [e]
  exact rd X

theorem blk11 (X : Vec Ideal S16640x32 .f32) (e : V m c main_v0_3 = X) (t : Fin cfg0.N) (r : Fin 640) (j : Fin 32) :
    iblk m c 11 t (ix2 r j) = X (ix2 (rw' t r) j) := by
  have rd : ∀ f : Vec Ideal S16640x32 .f32, ((cfg0.win 11).blk t).view.read (Elt Ideal) f (ix2 r j) = f (ix2 (rw' t r) j) := fun f => by
    blk_ext [idx t, rw']
  show ((cfg0.win 11).blk t).view.read (Elt Ideal) (V m c main_v0_3) _ = _
  rw [e]
  exact rd X

theorem blk12 (X : Vec Ideal S1x256 .f32) (e : V m c main_arg3 = X) (t : Fin cfg0.N) (r : Fin 1) (j : Fin 256) :
    iblk m c 12 t (ix2 r j) = X (ix2 r j) := by
  have rd : ∀ f : Vec Ideal S1x256 .f32, ((cfg0.win 12).blk t).view.read (Elt Ideal) f (ix2 r j) = f (ix2 r j) := fun f => by
    blk_ext [idx t]
  show ((cfg0.win 12).blk t).view.read (Elt Ideal) (V m c main_arg3) _ = _
  rw [e]
  exact rd X

theorem blk13 (X : Vec Ideal S1x128 .f32) (e : V m c main_arg5 = X) (t : Fin cfg0.N) (r : Fin 1) (j : Fin 128) :
    iblk m c 13 t (ix2 r j) = X (ix2 r j) := by
  have rd : ∀ f : Vec Ideal S1x128 .f32, ((cfg0.win 13).blk t).view.read (Elt Ideal) f (ix2 r j) = f (ix2 r j) := fun f => by
    blk_ext [idx t]
  show ((cfg0.win 13).blk t).view.read (Elt Ideal) (V m c main_arg5) _ = _
  rw [e]
  exact rd X

theorem blk14 (X : Vec Ideal S256x768 .bf16) (e : V m c main_v48 = X) (t : Fin cfg0.N) (r : Fin 256) (j : Fin 768) :
    iblk m c 14 t (ix2 r j) = X (ix2 r j) := by
  have rd : ∀ f : Vec Ideal S256x768 .bf16, ((cfg0.win 14).blk t).view.read (Elt Ideal) f (ix2 r j) = f (ix2 r j) := fun f => by
    blk_ext [idx t]
  show ((cfg0.win 14).blk t).view.read (Elt Ideal) (V m c main_v48) _ = _
  rw [e]
  exact rd X

theorem blk15 (X : Vec Ideal S128x1024 .bf16) (e : V m c main_v50 = X) (t : Fin cfg0.N) (r : Fin 128) (j : Fin 1024) :
    iblk m c 15 t (ix2 r j) = X (ix2 r j) := by
  have rd : ∀ f : Vec Ideal S128x1024 .bf16, ((cfg0.win 15).blk t).view.read (Elt Ideal) f (ix2 r j) = f (ix2 r j) := fun f => by
    blk_ext [idx t]
  show ((cfg0.win 15).blk t).view.read (Elt Ideal) (V m c main_v50) _ = _
  rw [e]
  exact rd X

theorem blk16 (X : Vec Ideal S32x32 .f32) (e : V m c main_v19 = X) (t : Fin cfg0.N) (r : Fin 32) (j : Fin 32) :
    iblk m c 16 t (ix2 r j) = X (ix2 r j) := by
  have rd : ∀ f : Vec Ideal S32x32 .f32, ((cfg0.win 16).blk t).view.read (Elt Ideal) f (ix2 r j) = f (ix2 r j) := fun f => by
    blk_ext [idx t]
  show ((cfg0.win 16).blk t).view.read (Elt Ideal) (V m c main_v19) _ = _
  rw [e]
  exact rd X

theorem blk17 (X : Vec Ideal S256x32 .f32) (e : V m c main_v10 = X) (t : Fin cfg0.N) (r : Fin 256) (j : Fin 32) :
    iblk m c 17 t (ix2 r j) = X (ix2 r j) := by
  have rd : ∀ f : Vec Ideal S256x32 .f32, ((cfg0.win 17).blk t).view.read (Elt Ideal) f (ix2 r j) = f (ix2 r j) := fun f => by
    blk_ext [idx t]
  show ((cfg0.win 17).blk t).view.read (Elt Ideal) (V m c main_v10) _ = _
  rw [e]
  exact rd X

end

/-- The row of the arrays. -/
def aRow (X3 : Vec Ideal S16640x512 .f32)  (X4 : Vec Ideal S16640x512 .f32)  (X7 : Vec Ideal S16640x128 .f32)  (X13 : Vec Ideal S1x128 .f32)  (X15 : Vec Ideal S128x1024 .bf16) (r : Fin 16640) : Row := ⟨fun j => X3 (ix2 r j), fun j => X4 (ix2 r j), fun j => X7 (ix2 r j), fun j => X13 (ix2 0 j), fun d e => X15 (ix2 d e)⟩

/-- An array of the call, row by row. -/
def arrOf {n : ℕ} (f : Row → Fin n → EReal) (X3 : Vec Ideal S16640x512 .f32)  (X4 : Vec Ideal S16640x512 .f32)  (X7 : Vec Ideal S16640x128 .f32)  (X13 : Vec Ideal S1x128 .f32)  (X15 : Vec Ideal S128x1024 .bf16) : Vec Ideal ⟨2, ![16640, n]⟩ .f32 :=
  fun i => f (aRow X3 X4 X7 X13 X15 (i 0)) (i 1)

/-- A sum of the call over all rows. -/
def sumOf {n k : ℕ} (f : Row → Fin n → Fin k → EReal) (X3 : Vec Ideal S16640x512 .f32)  (X4 : Vec Ideal S16640x512 .f32)  (X7 : Vec Ideal S16640x128 .f32)  (X13 : Vec Ideal S1x128 .f32)  (X15 : Vec Ideal S128x1024 .bf16) : Vec Ideal ⟨2, ![n, k]⟩ .f32 :=
  fun y => ∑ r : Fin 16640, f (aRow X3 X4 X7 X13 X15 r) (y 0) (y 1)

variable (m : (ℓ : Loc nD τ sig) → Buf (Elt Ideal) ℓ) (c : Dev nD)
  (X3 : Vec Ideal S16640x512 .f32)  (X4 : Vec Ideal S16640x512 .f32)  (X7 : Vec Ideal S16640x128 .f32)  (X13 : Vec Ideal S1x128 .f32)  (X15 : Vec Ideal S128x1024 .bf16)
  (e3 : V m c main_v22_0 = X3) (e4 : V m c main_v29 = X4) (e7 : V m c main_v39 = X7) (e13 : V m c main_arg5 = X13) (e15 : V m c main_v50 = X15)
  (t : Fin cfg0.N)

/-- A row of a grid point's blocks. -/
def bRow (r : Fin 640) : Row := xRow (iblk m c 3 t) (iblk m c 4 t) (iblk m c 7 t) (iblk m c 13 t) (iblk m c 15 t) r

include e3 e4 e7 e13 e15 in
theorem bRow_eq (r : Fin 640) : bRow m c t r = aRow X3 X4 X7 X13 X15 (rw' t r) := by
  unfold bRow xRow aRow
  simp only [blk3 m c X3 e3, blk4 m c X4 e4, blk7 m c X7 e7, blk13 m c X13 e13, blk15 m c X15 e15]

/-- What a grid point adds to a sum. -/
def part {n k : ℕ} (f : Row → Fin n → Fin k → EReal) (t : Fin cfg0.N) : Vec Ideal ⟨2, ![n, k]⟩ .f32 := fun y => ∑ r : Fin 640, f (aRow X3 X4 X7 X13 X15 (rw' t r)) (y 0) (y 1)

include e3 e4 e7 e13 e15 in
theorem b19 (y : S640x128.Idx) : k0_pay21 (k0_pay14 (iblk m c 7 t)) (k0_pay18 (iblk m c 7 t)) (k0_pay19 (k0_pay11 (iblk m c 3 t)) (iblk m c 4 t) (iblk m c 13 t) (iblk m c 15 t)) (k0_pay20 (k0_pay11 (iblk m c 3 t)) (iblk m c 4 t) (iblk m c 7 t) (iblk m c 13 t) (iblk m c 15 t)) y = arrOf Row.dx X3 X4 X7 X13 X15 (ix2 (rw' t (y 0)) (y 1)) := by
  obtain ⟨r, d, rfl⟩ : ∃ r d, y = ix2 r d := ⟨y 0, y 1, eq_ix2 y⟩
  exact (q19 (iblk m c 3 t) (iblk m c 4 t) (iblk m c 7 t) (iblk m c 13 t) (iblk m c 15 t) r d).trans (congrArg (fun R => Row.dx R d) (bRow_eq m c X3 X4 X7 X13 X15 e3 e4 e7 e13 e15 t r))

include e3 e4 e7 e13 e15 in
theorem b22 (y : S128x1024.Idx) : k0_pay15 (k0_pay11 (iblk m c 3 t)) (iblk m c 4 t) (iblk m c 7 t) (iblk m c 13 t) y = part X3 X4 X7 X13 X15 Row.wTerm t y := by
  obtain ⟨r, d, rfl⟩ : ∃ r d, y = ix2 r d := ⟨y 0, y 1, eq_ix2 y⟩
  exact (p15 (iblk m c 3 t) (iblk m c 4 t) (iblk m c 7 t) (iblk m c 13 t) (iblk m c 15 t) r d).trans (Finset.sum_congr rfl fun r' _ => congrArg (fun R => Row.wTerm R r d) (bRow_eq m c X3 X4 X7 X13 X15 e3 e4 e7 e13 e15 t r'))

include e3 e4 e7 e13 e15 in
theorem b24 (y : S1x128.Idx) : k0_pay22 (k0_pay17 (k0_pay11 (iblk m c 3 t)) (iblk m c 4 t) (iblk m c 15 t)) (k0_pay18 (iblk m c 7 t)) y = part X3 X4 X7 X13 X15 (fun R _ j => Row.aTerm R j) t y := by
  obtain ⟨r, d, rfl⟩ : ∃ r d, y = ix2 r d := ⟨y 0, y 1, eq_ix2 y⟩
  exact (q24 (iblk m c 3 t) (iblk m c 4 t) (iblk m c 7 t) (iblk m c 13 t) (iblk m c 15 t) r d).trans (Finset.sum_congr rfl fun r' _ => congrArg (fun R => (fun R _ j => Row.aTerm R j) R r d) (bRow_eq m c X3 X4 X7 X13 X15 e3 e4 e7 e13 e15 t r'))

/-- What a point leaves in output 19, in terms of its blocks: at the first point, and at a later one. -/
theorem outs_A19 (h : t.val % 26 = 0) : (outsAt0 m c t.val t.isLt).2.1 = k0_pay21 (k0_pay14 (iblk m c 7 t)) (k0_pay18 (iblk m c 7 t)) (k0_pay19 (k0_pay11 (iblk m c 3 t)) (iblk m c 4 t) (iblk m c 13 t) (iblk m c 15 t)) (k0_pay20 (k0_pay11 (iblk m c 3 t)) (iblk m c 4 t) (iblk m c 7 t) (iblk m c 13 t) (iblk m c 15 t)) := by
  have h' : t.val < 26 := lt_of_lt_of_eq t.isLt N_0
  rw [outsAt0_A m c t h (by omega) h (by omega) h (by omega) h (by omega), outA_19]

theorem outs_B19 (h : ¬ t.val % 26 = 0) : (outsAt0 m c t.val t.isLt).2.1 = k0_pay21 (k0_pay14 (iblk m c 7 t)) (k0_pay18 (iblk m c 7 t)) (k0_pay19 (k0_pay11 (iblk m c 3 t)) (iblk m c 4 t) (iblk m c 13 t) (iblk m c 15 t)) (k0_pay20 (k0_pay11 (iblk m c 3 t)) (iblk m c 4 t) (iblk m c 7 t) (iblk m c 13 t) (iblk m c 15 t)) := by
  rw [outsAt0_B m c t h (by omega) h (by omega) h (by omega) h (by omega), outB_19]

/-- What a point leaves in output 22, in terms of its blocks: at the first point, and at a later one. -/
theorem outs_A22 (h : t.val % 26 = 0) : (outsAt0 m c t.val t.isLt).2.2.2.2.1 = k0_pay15 (k0_pay11 (iblk m c 3 t)) (iblk m c 4 t) (iblk m c 7 t) (iblk m c 13 t) := by
  have h' : t.val < 26 := lt_of_lt_of_eq t.isLt N_0
  rw [outsAt0_A m c t h (by omega) h (by omega) h (by omega) h (by omega), outA_22]

theorem outs_B22 (h : ¬ t.val % 26 = 0) : (outsAt0 m c t.val t.isLt).2.2.2.2.1 = k0_pay16 (k0_pay11 (iblk m c 3 t)) (iblk m c 4 t) (iblk m c 7 t) (iblk m c 13 t) (outsAt0 m c (t.val - 1) (Nat.lt_of_le_of_lt (Nat.sub_le _ _) t.isLt)).2.2.2.2.1 := by
  rw [outsAt0_B m c t h (by omega) h (by omega) h (by omega) h (by omega), outB_22]

/-- What a point leaves in output 24, in terms of its blocks: at the first point, and at a later one. -/
theorem outs_A24 (h : t.val % 26 = 0) : (outsAt0 m c t.val t.isLt).2.2.2.2.2.2 = k0_pay22 (k0_pay17 (k0_pay11 (iblk m c 3 t)) (iblk m c 4 t) (iblk m c 15 t)) (k0_pay18 (iblk m c 7 t)) := by
  have h' : t.val < 26 := lt_of_lt_of_eq t.isLt N_0
  rw [outsAt0_A m c t h (by omega) h (by omega) h (by omega) h (by omega), outA_24]

theorem outs_B24 (h : ¬ t.val % 26 = 0) : (outsAt0 m c t.val t.isLt).2.2.2.2.2.2 = k0_pay23 (k0_pay17 (k0_pay11 (iblk m c 3 t)) (iblk m c 4 t) (iblk m c 15 t)) (k0_pay18 (iblk m c 7 t)) (outsAt0 m c (t.val - 1) (Nat.lt_of_le_of_lt (Nat.sub_le _ _) t.isLt)).2.2.2.2.2.2 := by
  rw [outsAt0_B m c t h (by omega) h (by omega) h (by omega) h (by omega), outB_24]

include e3 e4 e7 e13 e15 in
theorem final19 : (dats m 0 c).arrAt 19 (cfgs 0).N = arrOf Row.dx X3 X4 X7 X13 X15 := by
  refine (dats m 0 c).arrAt_eq_of_covers 19 _ (by decide +kernel) fun t _ y => ?_
  blk_simp
  rw [after0_19]
  have h : (outsAt0 m c t.val t.isLt).2.1 y = arrOf Row.dx X3 X4 X7 X13 X15 (ix2 (rw' t (y 0)) (y 1)) := by
    by_cases h0 : t.val % 26 = 0
    · rw [outs_A19 m c t h0]
      exact b19 m c X3 X4 X7 X13 X15 e3 e4 e7 e13 e15 t y
    · rw [outs_B19 m c t h0]
      exact b19 m c X3 X4 X7 X13 X15 e3 e4 e7 e13 e15 t y
  rw [h]
  generalize arrOf Row.dx X3 X4 X7 X13 X15 = G
  blk_ext [idx t, rw']

include e3 e4 e7 e13 e15 in
theorem final22 : (dats m 0 c).arrAt 22 (cfgs 0).N = sumOf Row.wTerm X3 X4 X7 X13 X15 := by
  refine (dats m 0 c).arrAt_eq_of_covers 22 _ (by decide +kernel) fun t hf y => ?_
  blk_simp
  rw [after0_22, Pipeline.eq_sum_fin_of_reset_step_apply_of_flush (fun n h => (outsAt0 m c n h).2.2.2.2.1) 26 (fun _ => (0 : EReal)) (part X3 X4 X7 X13 X15 Row.wTerm)
    (fun t h j => by
      rw [outs_A22 m c t h]
      exact (b22 m c X3 X4 X7 X13 X15 e3 e4 e7 e13 e15 t j).trans (zero_add _).symm)
    (fun t h j => by
      rw [outs_B22 m c t h]
      have k := b22 m c X3 X4 X7 X13 X15 e3 e4 e7 e13 e15 t j
      obtain ⟨r, d, rfl⟩ : ∃ r d, j = ix2 r d := ⟨j 0, j 1, eq_ix2 j⟩
      exact (p16 _ _ _ _ _ r d).trans (congrArg _ k))
    t ((flush0_22 t).mp hf) y, zero_add]
  have i : ∀ G : Vec Ideal S128x1024 .f32, G y = G ((win0_22.blk t).view.emb y) := fun G => by
    obtain ⟨r, d, rfl⟩ : ∃ r d, y = ix2 r d := ⟨y 0, y 1, eq_ix2 y⟩
    blk_ext [idx t]
  refine Eq.trans ?_ (i (sumOf Row.wTerm X3 X4 X7 X13 X15))
  have ht : t.val < 26 := lt_of_lt_of_eq t.isLt N_0
  unfold part sumOf
  refine Fin.sum_mul_add_congr fun s k hl => ?_
  have hs : s.val < 26 := s.isLt
  refine congrArg (fun r => Row.wTerm (aRow X3 X4 X7 X13 X15 r) (y 0) (y 1)) (Fin.ext ?_)
  show (26 * (t.val / 26) + s.val) * 640 + k.val = s.val * 640 + k.val
  omega

include e3 e4 e7 e13 e15 in
theorem final24 : (dats m 0 c).arrAt 24 (cfgs 0).N = sumOf (fun R _ j => Row.aTerm R j) X3 X4 X7 X13 X15 := by
  refine (dats m 0 c).arrAt_eq_of_covers 24 _ (by decide +kernel) fun t hf y => ?_
  blk_simp
  rw [after0_24, Pipeline.eq_sum_fin_of_reset_step_apply_of_flush (fun n h => (outsAt0 m c n h).2.2.2.2.2.2) 26 (fun _ => (0 : EReal)) (part X3 X4 X7 X13 X15 (fun R _ j => Row.aTerm R j))
    (fun t h j => by
      rw [outs_A24 m c t h]
      exact (b24 m c X3 X4 X7 X13 X15 e3 e4 e7 e13 e15 t j).trans (zero_add _).symm)
    (fun t h j => by
      rw [outs_B24 m c t h]
      have k := b24 m c X3 X4 X7 X13 X15 e3 e4 e7 e13 e15 t j
      obtain ⟨r, d, rfl⟩ : ∃ r d, j = ix2 r d := ⟨j 0, j 1, eq_ix2 j⟩
      exact (p23 _ _ _ r d).trans (congrArg _ k))
    t ((flush0_24 t).mp hf) y, zero_add]
  have i : ∀ G : Vec Ideal S1x128 .f32, G y = G ((win0_24.blk t).view.emb y) := fun G => by
    obtain ⟨r, d, rfl⟩ : ∃ r d, y = ix2 r d := ⟨y 0, y 1, eq_ix2 y⟩
    blk_ext [idx t]
  refine Eq.trans ?_ (i (sumOf (fun R _ j => Row.aTerm R j) X3 X4 X7 X13 X15))
  have ht : t.val < 26 := lt_of_lt_of_eq t.isLt N_0
  unfold part sumOf
  refine Fin.sum_mul_add_congr fun s k hl => ?_
  have hs : s.val < 26 := s.isLt
  refine congrArg (fun r => (fun R _ j => Row.aTerm R j) (aRow X3 X4 X7 X13 X15 r) (y 0) (y 1)) (Fin.ext ?_)
  show (26 * (t.val / 26) + s.val) * 640 + k.val = s.val * 640 + k.val
  omega

end Cert.QkvValue
-- ==== Proof.Qkv.Host.lean ====
/-
  What the host lines before the latent projections' gradient leave in the region's arguments of the keys' and values' side,
  and what the lines after it make of the region's results.
-/
module

public import proofs.«01_k».proof.Proof.Qkv.Region

@[expose] public section

set_option maxRecDepth 16384

noncomputable section

open Idealize.ShloMosaic Idealize.ShloMosaic.TcCoe Idealize.SL.Sem

namespace Cert.QkvValue

open Cert.QkvIdeal Cert.QkvIdeal.Gen

variable (m : (ℓ : Loc nD τ sig) → Buf (Elt Ideal) ℓ)

/-- The host lines before the region, stretch after stretch. -/
theorem V_eq (c : Dev nD) : V0 m c = StableHlo.after hostOps0_10 (StableHlo.after hostOps0_9 (StableHlo.after hostOps0_8 (StableHlo.after hostOps0_7
    (StableHlo.after hostOps0_6 (StableHlo.after hostOps0_5 (StableHlo.after hostOps0_4 (StableHlo.after hostOps0_3 (StableHlo.after hostOps0_2
    (StableHlo.after hostOps0_1 (StableHlo.after hostOps0 (fun b => m (c, b)))))))))))) := by
  show StableHlo.after (hostOps0 ++ (hostOps0_1 ++ (hostOps0_2 ++ (hostOps0_3 ++ (hostOps0_4 ++ (hostOps0_5 ++ (hostOps0_6 ++ (hostOps0_7 ++ (hostOps0_8 ++ (hostOps0_9 ++ (hostOps0_10 ++ []))))))))))) (fun b => m (c, b)) = _
  simp only [StableHlo.after_append]
  rfl

/-- The natural logarithm of two, as the host lines compute it. -/
theorem log_two : Ideal.log (Ideal.ofBits FTy.f32 1073741824#32) = ((Real.log 2 : ℝ) : EReal) := by
  have h : Ideal.ofBits FTy.f32 1073741824#32 = ((2 : ℝ) : EReal) := by
    simp only [Ideal.ofBits, Ideal.ieee]; simp; rw [← EReal.coe_mul]; norm_num
  rw [h, Ideal.log_coe, if_neg (by norm_num)]

/-- The keys' gradient: the first 64 entries of every head, over the logarithm of two, head after head in a token's row. -/
def kCols (A : FVec Ideal S8x16400x96 .f32) : FVec Ideal S16400x512 .f32 := fun i =>
  Ideal.div (A (ix3 (⟨(i 1).val / 64, by have := (i 1).isLt; show _ < 8; have : (i 1).val < 512 := this; omega⟩ : Fin 8) (i 0) (⟨(i 1).val % 64, by omega⟩ : Fin 96))) ((Real.log 2 : ℝ) : EReal)

theorem kCols_at (A : FVec Ideal S8x16400x96 .f32) (t : Fin 16400) (h : Fin 8) (d : Fin 96) (hd : d.val < 64) (e : Fin 512) (he : e.val = h.val * 64 + d.val) :
    kCols A (ix2 t e) = Ideal.div (A (ix3 h t d)) ((Real.log 2 : ℝ) : EReal) := by
  have h1 : (⟨e.val / 64, by omega⟩ : Fin 8) = h := Fin.ext (show e.val / 64 = h.val by omega)
  have h2 : (⟨e.val % 64, by omega⟩ : Fin 96) = d := Fin.ext (show e.val % 64 = d.val by omega)
  rw [← h1, ← h2]
  rfl

/-- The values' gradient, head after head in a token's row. -/
def vCols (A : FVec Ideal S8x16400x64 .f32) : FVec Ideal S16400x512 .f32 :=
  shapeCast S16400x512 (transpose S16400x8x64 [1, 0, 2] A transposes_S8x16400x64_S16400x8x64_1_0_2) shapeCasts_S16400x8x64_S16400x512

theorem vCols_at (A : FVec Ideal S8x16400x64 .f32) (t : Fin 16400) (h : Fin 8) (d : Fin 64) (e : Fin 512) (he : e.val = h.val * 64 + d.val) :
    vCols A (ix2 t e) = A (ix3 h t d) := by
  unfold vCols
  rw [Rows.merge 16400 8 64 512 rfl _ _ t h d e he]
  pointwise []

/-- The matrix with the keys' columns before the values'. -/
def wCols (A : FVec Ideal S128x1024 .f32) : FVec Ideal S128x1024 .bf16 :=
  truncf .bf16 (concatenate S128x1024 1
    [⟨S128x512, shapeCast S128x512 (extractStridedSlice S128x8x64 ![0, 0, 0] (shapeCast S128x8x128 A shapeCasts_S128x1024_S128x8x128) slices_S128x8x128_S128x8x64_0_0_0) shapeCasts_S128x8x64_S128x512⟩,
     ⟨S128x512, shapeCast S128x512 (extractStridedSlice S128x8x64 ![0, 0, 64] (shapeCast S128x8x128 A shapeCasts_S128x1024_S128x8x128) slices_S128x8x128_S128x8x64_0_0_64) shapeCasts_S128x8x64_S128x512⟩]
    concatenates_S128x512_S128x512_S128x1024_d1) bitsLt_bf16_f32

theorem wCols_k (A : FVec Ideal S128x1024 .f32) (d : Fin 128) (h : Fin 8) (f : Fin 64) (e c : Fin 1024) (he : e.val = h.val * 64 + f.val) (hc : c.val = h.val * 128 + f.val) :
    wCols A (ix2 d e) = A (ix2 d c) := by
  have hl : h.val * 64 + f.val < 512 := by omega
  have k : e = ⟨h.val * 64 + f.val, by omega⟩ := Fin.ext he
  have k1 : c = ⟨h.val * 128 + f.val, by omega⟩ := Fin.ext hc
  unfold wCols
  generalize hy : shapeCast S128x512 (extractStridedSlice S128x8x64 ![0, 0, 0] (shapeCast S128x8x128 A shapeCasts_S128x1024_S128x8x128) slices_S128x8x128_S128x8x64_0_0_0) shapeCasts_S128x8x64_S128x512 = y
  generalize shapeCast S128x512 (extractStridedSlice S128x8x64 ![0, 0, 64] (shapeCast S128x8x128 A shapeCasts_S128x1024_S128x8x128) slices_S128x8x128_S128x8x64_0_0_64) shapeCasts_S128x8x64_S128x512 = z
  have h1 : y (ix2 d ⟨h.val * 64 + f.val, hl⟩) = A (ix2 d c) := by
    rw [← hy, Rows.merge 128 8 64 512 rfl _ _ d h f _ rfl, k1]
    refine Eq.trans ?_ (Rows.split 128 8 128 1024 rfl A shapeCasts_S128x1024_S128x8x128 d h ⟨f.val, by omega⟩)
    generalize shapeCast S128x8x128 A shapeCasts_S128x1024_S128x8x128 = B
    pointwise []
  rw [← h1, k]
  pointwise []
  simp [hl]

theorem wCols_v (A : FVec Ideal S128x1024 .f32) (d : Fin 128) (h : Fin 8) (f : Fin 64) (e c : Fin 1024) (he : e.val = 512 + (h.val * 64 + f.val)) (hc : c.val = h.val * 128 + (64 + f.val)) :
    wCols A (ix2 d e) = A (ix2 d c) := by
  have hl : h.val * 64 + f.val < 512 := by omega
  have k : e = ⟨512 + (h.val * 64 + f.val), by omega⟩ := Fin.ext he
  have k1 : c = ⟨h.val * 128 + (64 + f.val), by omega⟩ := Fin.ext hc
  unfold wCols
  generalize hy : shapeCast S128x512 (extractStridedSlice S128x8x64 ![0, 0, 64] (shapeCast S128x8x128 A shapeCasts_S128x1024_S128x8x128) slices_S128x8x128_S128x8x64_0_0_64) shapeCasts_S128x8x64_S128x512 = y
  generalize shapeCast S128x512 (extractStridedSlice S128x8x64 ![0, 0, 0] (shapeCast S128x8x128 A shapeCasts_S128x1024_S128x8x128) slices_S128x8x128_S128x8x64_0_0_0) shapeCasts_S128x8x64_S128x512 = z
  have h1 : y (ix2 d ⟨h.val * 64 + f.val, hl⟩) = A (ix2 d c) := by
    rw [← hy, Rows.merge 128 8 64 512 rfl _ _ d h f _ rfl, k1]
    refine Eq.trans ?_ (Rows.split 128 8 128 1024 rfl A shapeCasts_S128x1024_S128x8x128 d h ⟨64 + f.val, by omega⟩)
    generalize shapeCast S128x8x128 A shapeCasts_S128x1024_S128x8x128 = B
    pointwise []
  rw [← h1, k]
  pointwise []

/-- The matrix's gradient, its columns back in the heads' order. -/
def wBack (X : FVec Ideal S128x1024 .f32) : FVec Ideal S128x1024 .f32 :=
  shapeCast S128x1024 (concatenate S128x8x128 2
    [⟨S128x8x64, shapeCast S128x8x64 (extractStridedSlice S128x512 ![0, 0] X slices_S128x1024_S128x512_0_0) shapeCasts_S128x512_S128x8x64⟩,
     ⟨S128x8x64, shapeCast S128x8x64 (extractStridedSlice S128x512 ![0, 512] X slices_S128x1024_S128x512_0_512) shapeCasts_S128x512_S128x8x64⟩]
    concatenates_S128x8x64_S128x8x64_S128x8x128_d2) shapeCasts_S128x8x128_S128x1024

theorem wBack_at (X : FVec Ideal S128x1024 .f32) (d : Fin 128) (h : Fin 8) (f : Fin 128) (c : Fin 1024) (hc : c.val = h.val * 128 + f.val) :
    wBack X (ix2 d c) = X (ix2 d (if f.val < 64 then ⟨h.val * 64 + f.val % 64, by omega⟩ else ⟨512 + (h.val * 64 + f.val % 64), by omega⟩)) := by
  unfold wBack
  rw [Rows.merge 128 8 128 1024 rfl _ _ d h f c hc]
  have q0 := fun g : Fin 64 => Rows.split 128 8 64 512 rfl (extractStridedSlice S128x512 ![0, 0] X slices_S128x1024_S128x512_0_0) shapeCasts_S128x512_S128x8x64 d h g
  have q1 := fun g : Fin 64 => Rows.split 128 8 64 512 rfl (extractStridedSlice S128x512 ![0, 512] X slices_S128x1024_S128x512_0_512) shapeCasts_S128x512_S128x8x64 d h g
  generalize shapeCast S128x8x64 (extractStridedSlice S128x512 ![0, 0] X slices_S128x1024_S128x512_0_0) shapeCasts_S128x512_S128x8x64 = y at q0 ⊢
  generalize shapeCast S128x8x64 (extractStridedSlice S128x512 ![0, 512] X slices_S128x1024_S128x512_0_512) shapeCasts_S128x512_S128x8x64 = z at q1 ⊢
  by_cases k : f.val < 64
  · rw [if_pos k]
    have e : f.val % 64 = f.val := Nat.mod_eq_of_lt k
    refine Eq.trans ?_ ((q0 ⟨f.val, k⟩).trans ?_)
    · pointwise []
      simp [k]
    · pointwise []
      simp [e]
  · rw [if_neg k]
    have e : f.val % 64 = f.val - 64 := by omega
    have k1 : f.val - 64 < 64 := by omega
    refine Eq.trans ?_ ((q1 ⟨f.val - 64, k1⟩).trans ?_)
    · pointwise []
      simp [k]
    · pointwise []
      simp [e]

theorem entry_arg5 (c : Dev nD) : V m c main_arg5 = (m ((c.tc : Thread nD τ).loc main_arg5)) := by
  refine (congrFun (V_eq m c) (Proc.devRef .tc main_arg5)).trans ?_
  after_results

theorem entry_v39 (c : Dev nD) : V m c main_v39 = Rows.rowsOf (φ := .f32) 128 (m ((c.tc : Thread nD τ).loc main_arg1)) := by
  refine (congrFun (V_eq m c) (Proc.devRef .tc main_v39)).trans ?_
  after_results
  exact Rows.rowsOf_eq 128 _ _ _ _ _ _

theorem entry_v29 (c : Dev nD) : V m c main_v29 = Rows.rowsOf (φ := .f32) 512 (vCols (m ((c.tc : Thread nD τ).loc main_arg9))) := by
  refine (congrFun (V_eq m c) (Proc.devRef .tc main_v29)).trans ?_
  after_results
  exact Rows.rowsOf_eq 512 (vCols _) _ _ _ _ _

theorem entry_v50 (c : Dev nD) : V m c main_v50 = wCols (m ((c.tc : Thread nD τ).loc main_arg6)) := by
  refine (congrFun (V_eq m c) (Proc.devRef .tc main_v50)).trans ?_
  after_results
  rfl

theorem tail_v55 (U : Valuation τ sig (Elt Ideal)) : StableHlo.after hostOps1 U (Proc.devRef .tc main_v55)
    = Rows.tokensOf (φ := .f32) 128 (U (Proc.devRef .tc main_v51_1)) := by
  after_results
  exact Rows.tokensOf_eq 128 _ _ _ _ _

theorem tail_v61 (U : Valuation τ sig (Elt Ideal)) : StableHlo.after hostOps1 U (Proc.devRef .tc main_v61)
    = wBack (U (Proc.devRef .tc main_v51_4)) := by
  after_results
  rfl

/-- The keys' gradient over the logarithm of two, head after head in a token's row, whole heads of 96 entries. -/
def kAll (A : FVec Ideal S8x16400x96 .f32) : FVec Ideal S16400x768 .f32 :=
  shapeCast S16400x768 (transpose S16400x8x96 [1, 0, 2] (Host.divf A (broadcastInDim S8x16400x96 ![] bcast_S_S8x16400x96 (Host.log (constant S_ .f32 0x40000000#32))))
    transposes_S8x16400x96_S16400x8x96_1_0_2) shapeCasts_S16400x8x96_S16400x768

theorem kAll_at (A : FVec Ideal S8x16400x96 .f32) (t : Fin 16400) (h : Fin 8) (d : Fin 96) (e : Fin 768) (he : e.val = h.val * 96 + d.val) :
    kAll A (ix2 t e) = Ideal.div (A (ix3 h t d)) ((Real.log 2 : ℝ) : EReal) := by
  unfold kAll
  rw [Rows.merge 16400 8 96 768 rfl _ _ t h d e he, ← log_two]
  pointwise []

/-- What the host lines leave of them: the first 64 entries of every head. -/
theorem k_rows (A : FVec Ideal S8x16400x96 .f32) :
    shapeCast S16640x512 (extractStridedSlice S16640x8x64 ![0, 0, 0] (shapeCast S16640x8x96 (Rows.rowsOf (φ := .f32) 768 (kAll A)) shapeCasts_S16640x768_S16640x8x96)
      slices_S16640x8x96_S16640x8x64_0_0_0) shapeCasts_S16640x8x64_S16640x512 = Rows.rowsOf (φ := .f32) 512 (kCols A) := by
  funext i
  obtain ⟨r, e, rfl⟩ : ∃ r e, i = ix2 r e := ⟨i 0, i 1, eq_ix2 i⟩
  have hh : e.val / 64 < 8 := by omega
  have hd : e.val % 64 < 64 := Nat.mod_lt _ (by norm_num)
  have q := Rows.split 16640 8 96 768 rfl (Rows.rowsOf (φ := .f32) 768 (kAll A)) shapeCasts_S16640x768_S16640x8x96 r ⟨e.val / 64, hh⟩ ⟨e.val % 64, by omega⟩
  rw [Rows.merge 16640 8 64 512 rfl _ _ r ⟨e.val / 64, hh⟩ ⟨e.val % 64, hd⟩ e (by show e.val = e.val / 64 * 64 + e.val % 64; omega)]
  refine Eq.trans ?_ (q.trans ?_)
  · generalize shapeCast S16640x8x96 (Rows.rowsOf (φ := .f32) 768 (kAll A)) shapeCasts_S16640x768_S16640x8x96 = B
    pointwise []
  · show Rows.padded (fun t => kAll A (ix2 t _)) (Rows.pos r) = Rows.padded (fun t => kCols A (ix2 t e)) (Rows.pos r)
    refine congrArg (fun f => Rows.padded f (Rows.pos r)) (funext fun t => ?_)
    exact kAll_at A t ⟨e.val / 64, hh⟩ ⟨e.val % 64, by omega⟩ _ rfl

set_option maxHeartbeats 1000000 in
theorem entry_v22_0 (c : Dev nD) : V m c main_v22_0 = Rows.rowsOf (φ := .f32) 512 (kCols (m ((c.tc : Thread nD τ).loc main_arg8))) := by
  refine (congrFun (V_eq m c) (Proc.devRef .tc main_v22_0)).trans ?_
  after_results
  have e := Rows.rowsOf_eq 768 (kAll (m ((c.tc : Thread nD τ).loc main_arg8))) bcast_S_S240x768 concatenates_S16400x768_S240x768_S16640x768_d0 shapeCasts_S16640x768_S8x2080x768 transposes_S8x2080x768_S2080x8x768_1_0_2 shapeCasts_S2080x8x768_S16640x768
  rw [← k_rows, ← e]
  simp only [StableHlo.TRef.ofBuf_toBuf]
  rfl

end Cert.QkvValue
-- ==== Proof.Qkv.Reference.lean ====
/-
  The reference gradient of the keys' and values' projection and of its norm, entry by entry.
-/
module

public import proofs.«01_k».proof.Proof.Gen.QkvRefIdeal.Read
public import Idealize.ShloMosaic.Lib.Pipeline.ValueKit
public import proofs.«01_k».proof.Proof.Norm
public import proofs.«01_k».proof.Proof.Rows

@[expose] public section

set_option maxRecDepth 16384

noncomputable section

open Idealize.ShloMosaic Idealize.ShloMosaic.TcCoe Idealize.SL.Sem

namespace Cert.QkvRef

open Cert.QkvRefIdeal Cert.QkvRefIdeal.Gen Cert.QkvRefIdeal.Read

abbrev N : EReal := Ideal.ofBits FTy.f32 1124073472#32
abbrev E : EReal := Ideal.ofBits FTy.f32 897988541#32
abbrev MH : EReal := Ideal.ofBits FTy.f32 3204448256#32

variable (A1 : FVec Ideal S16400x128 .f32) (A5 : FVec Ideal S1x128 .f32) (A6 : FVec Ideal S128x1024 .f32) (A8 : FVec Ideal S8x16400x96 .f32)
  (A9 : FVec Ideal S8x16400x64 .f32)

/-- The gradient of the projection's result at a head's column: the head's keys, then its values. -/
def gT (t : Fin 16400) (h : Fin 8) (d : Fin 128) : EReal :=
  if k : d.val < 64 then A8 (ix3 h t ⟨d.val, by omega⟩) else A9 (ix3 h t ⟨d.val - 64, by omega⟩)

theorem r125 (t : Fin 16400) (h : Fin 8) (d : Fin 128) : val_main_v125 (F := Ideal) A8 A9 (ix3 t h d) = gT A8 A9 t h d := by
  unfold val_main_v125 val_main_v124 val_main_v123 val_main_v103 val_main_v102 val_main_v101
  pointwise [val_main_cst_15, val_main_cst_16]
  unfold gT
  by_cases k : d.val < 64
  · have k1 : ¬ 64 ≤ d.val := by omega
    simp [k, k1]
  · have k1 : 64 ≤ d.val := by omega
    have k2 : d.val - 64 < 64 := by omega
    simp [k, k1, k2]
theorem r126 (t : Fin 16400) (h : Fin 8) (d : Fin 128) (c : Fin 1024) (hc : c.val = h.val * 128 + d.val) : val_main_v126 (F := Ideal) A8 A9 (ix2 t c) = gT A8 A9 t h d := by
  rw [← r125]
  exact Rows.merge 16400 8 128 1024 rfl _ _ t h d c hc
theorem r61 (t : Fin 16400) (j : Fin 128) : val_main_v61 (F := Ideal) A1 (ix2 t j) = A1 (ix2 t j) * Ideal.rsqrt (Norm.ms (fun x => A1 (ix2 t x)) N E) := by
  unfold val_main_v61 val_main_v60 val_main_v56 val_main_v55 val_main_v54 val_main_v53 val_main_v52 val_main_v51 val_main_v50 val_main_v49
  pointwise [val_main_cst_5, val_main_cst_6, val_main_cst_7]
  unfold Norm.ms
  rfl
theorem r129 (t : Fin 16400) (j : Fin 128) : val_main_v129 (F := Ideal) A6 A8 A9 (ix2 t j) = ∑ c, val_main_v126 (F := Ideal) A8 A9 (ix2 t c) * A6 (ix2 j c) := by
  unfold val_main_v129
  generalize val_main_v126 (F := Ideal) A8 A9 = X
  pointwise []
/-- The matrix's gradient. -/
theorem r128 (d : Fin 128) (c : Fin 1024) : val_main_v128 (F := Ideal) A1 A5 A8 A9 (ix2 d c) = ∑ t, val_main_v126 (F := Ideal) A8 A9 (ix2 t c) * (val_main_v61 (F := Ideal) A1 (ix2 t d) * A5 (ix2 0 d)) := by
  unfold val_main_v128 val_main_v127 val_main_v63 val_main_v62
  generalize val_main_v126 (F := Ideal) A8 A9 = X
  generalize val_main_v61 (F := Ideal) A1 = Y
  pointwise []
/-- The norm's weight's gradient. -/
theorem r132 (z : Fin 1) (j : Fin 128) : val_main_v132 (F := Ideal) A1 A6 A8 A9 (ix2 z j) = ∑ t, val_main_v61 (F := Ideal) A1 (ix2 t j) * val_main_v129 (F := Ideal) A6 A8 A9 (ix2 t j) := by
  unfold val_main_v132 val_main_v131 val_main_v130
  generalize val_main_v129 (F := Ideal) A6 A8 A9 = X
  generalize val_main_v61 (F := Ideal) A1 = Y
  pointwise [val_main_cst_17]
/-- The latent vectors' gradient. -/
theorem r148 (t : Fin 16400) (j : Fin 128) : val_main_v148 (F := Ideal) A1 A5 A6 A8 A9 (ix2 t j)
    = Norm.dx0 (fun x => A1 (ix2 t x)) (fun x => val_main_v129 (F := Ideal) A6 A8 A9 (ix2 t x) * A5 (ix2 0 x)) N E MH j := by
  unfold val_main_v148 val_main_v147 val_main_v146 val_main_v145 val_main_v144 val_main_v143 val_main_v142 val_main_v141 val_main_v140 val_main_v139 val_main_v138 val_main_v137 val_main_v136 val_main_v135 val_main_v134 val_main_v133 val_main_v59 val_main_v58 val_main_v57 val_main_v56 val_main_v55 val_main_v54 val_main_v53 val_main_v52 val_main_v51 val_main_v50 val_main_v49
  generalize val_main_v129 (F := Ideal) A6 A8 A9 = X
  pointwise [val_main_cst_5, val_main_cst_6, val_main_cst_7, val_main_cst_8, val_main_cst_18, val_main_cst_19, val_main_cst_20]
  unfold Norm.dx0 Norm.ms
  rfl

end Cert.QkvRef
-- ==== Proof.Qkv.Equation.lean ====
/-
  The keys' and values' projection and its norm: the region's arrays, taken back to the tokens' and heads' order, are the
  reference's gradients, on reals.
-/
module

public import proofs.«01_k».proof.Proof.Qkv.Host
public import proofs.«01_k».proof.Proof.Qkv.Reference

@[expose] public section

set_option maxRecDepth 16384

noncomputable section

open Idealize.ShloMosaic Idealize.ShloMosaic.TcCoe Idealize.SL.Sem

namespace Cert.QkvValue

open Cert.QkvIdeal Cert.QkvIdeal.Gen Cert.QkvRefIdeal.Read Cert.RealLift QkvRow

/-! ## The columns -/

/-- Where the call keeps a column of the matrix: the keys' columns of all heads first, then the values'. -/
def col (c : Fin 1024) : Fin 1024 :=
  if c.val % 128 < 64 then ⟨c.val / 128 * 64 + c.val % 128 % 64, by omega⟩ else ⟨512 + (c.val / 128 * 64 + c.val % 128 % 64), by omega⟩

/-- The column kept there. -/
def colInv (e : Fin 1024) : Fin 1024 :=
  if h : e.val < 512 then ⟨e.val / 64 * 128 + e.val % 64, by omega⟩ else ⟨(e.val - 512) / 64 * 128 + (64 + (e.val - 512) % 64), by omega⟩

theorem col_k (c : Fin 1024) (k : c.val % 128 < 64) : (col c).val = c.val / 128 * 64 + c.val % 128 % 64 := by
  unfold col
  rw [if_pos k]
theorem col_v (c : Fin 1024) (k : ¬ c.val % 128 < 64) : (col c).val = 512 + (c.val / 128 * 64 + c.val % 128 % 64) := by
  unfold col
  rw [if_neg k]
theorem colInv_k (e : Fin 1024) (k : e.val < 512) : (colInv e).val = e.val / 64 * 128 + e.val % 64 := by
  unfold colInv
  rw [dif_pos k]
theorem colInv_v (e : Fin 1024) (k : ¬ e.val < 512) : (colInv e).val = (e.val - 512) / 64 * 128 + (64 + (e.val - 512) % 64) := by
  unfold colInv
  rw [dif_neg k]

theorem col_left (c : Fin 1024) : colInv (col c) = c := by
  apply Fin.ext
  by_cases k : c.val % 128 < 64
  · have a := col_k c k
    have b := colInv_k (col c) (by omega)
    omega
  · have a := col_v c k
    have b := colInv_v (col c) (by omega)
    omega

theorem col_right (e : Fin 1024) : col (colInv e) = e := by
  apply Fin.ext
  by_cases k : e.val < 512
  · have a := colInv_k e k
    have b := col_k (colInv e) (by omega)
    omega
  · have a := colInv_v e k
    have b := col_v (colInv e) (by omega)
    omega

/-- The two are inverse to each other. -/
def colEquiv : Fin 1024 ≃ Fin 1024 := ⟨col, colInv, col_left, col_right⟩

/-! ## The constants -/

theorem n128 : Ideal.ofBits FTy.f32 1124073472#32 = ((128 : ℝ) : EReal) := by
  simp only [Ideal.ofBits, Ideal.ieee]; simp; rw [← EReal.coe_mul]; norm_num

theorem div_log (x : ℝ) : Ideal.div (x : EReal) ((Real.log 2 : ℝ) : EReal) * ((Real.log 2 : ℝ) : EReal) = ((x : ℝ) : EReal) := by
  have h : Real.log 2 ≠ 0 := (Real.log_pos (by norm_num)).ne'
  rw [div_real _ h, ← EReal.coe_mul, div_mul_cancel₀ _ h]

theorem zero_div_log : Ideal.div 0 ((Real.log 2 : ℝ) : EReal) = 0 := by
  have h : Real.log 2 ≠ 0 := (Real.log_pos (by norm_num)).ne'
  rw [zero_real, div_real _ h, zero_div]

variable (A1 : FVec Ideal S16400x128 .f32) (A5 : FVec Ideal S1x128 .f32) (A6 : FVec Ideal S128x1024 .f32) (A8 : FVec Ideal S8x16400x96 .f32)
  (A9 : FVec Ideal S8x16400x64 .f32)

/-! ## The reference's values are reals -/

theorem g_real (h8 : Reals A8) (h9 : Reals A9) (t : Fin 16400) (c : Fin 1024) : ∃ r : ℝ, val_main_v126 (F := Ideal) A8 A9 (ix2 t c) = ((r : ℝ) : EReal) := by
  rw [QkvRef.r126 A8 A9 t ⟨c.val / 128, by omega⟩ ⟨c.val % 128, by omega⟩ c (by show c.val = c.val / 128 * 128 + c.val % 128; omega)]
  unfold QkvRef.gT
  split
  · exact h8 _
  · exact h9 _

theorem up_real (h6 : Reals A6) (h8 : Reals A8) (h9 : Reals A9) (t : Fin 16400) (j : Fin 128) : ∃ r : ℝ, val_main_v129 (F := Ideal) A6 A8 A9 (ix2 t j) = ((r : ℝ) : EReal) := by
  choose x ex using g_real A8 A9 h8 h9 t
  choose w ew using h6
  rw [QkvRef.r129]
  simp only [ex, ew, ← EReal.coe_mul, sum_real]
  exact ⟨_, rfl⟩

/-! ## The call's rows at a token, and at the padding -/

/-- A row of the call's own arrays. -/
def kRow (r : Fin 16640) : Row := aRow (Rows.rowsOf (φ := .f32) 512 (kCols A8)) (Rows.rowsOf (φ := .f32) 512 (vCols A9)) (Rows.rowsOf (φ := .f32) 128 A1) A5 (wCols A6) r

theorem x_tok (t : Fin 16400) : (kRow A1 A5 A6 A8 A9 (Rows.row (Rows.tok t))).x = fun j => A1 (ix2 t j) := funext fun j => Rows.rowsOf_tok 128 A1 t j

theorem g_tok (h8 : Reals A8) (h9 : Reals A9) (t : Fin 16400) (c : Fin 1024) : (kRow A1 A5 A6 A8 A9 (Rows.row (Rows.tok t))).g (col c) = val_main_v126 (F := Ideal) A8 A9 (ix2 t c) := by
  rw [QkvRef.r126 A8 A9 t ⟨c.val / 128, by omega⟩ ⟨c.val % 128, by omega⟩ c (by show c.val = c.val / 128 * 128 + c.val % 128; omega)]
  unfold QkvRef.gT
  by_cases k : c.val % 128 < 64
  · have hl : c.val / 128 * 64 + c.val % 128 % 64 < 512 := by omega
    have hc : col c = ⟨c.val / 128 * 64 + c.val % 128 % 64, by omega⟩ := if_pos k
    rw [dif_pos k, hc]
    unfold Row.g
    rw [dif_pos hl]
    show Rows.rowsOf (φ := .f32) 512 (kCols A8) (ix2 _ _) * L = _
    rw [Rows.rowsOf_tok, kCols_at A8 t ⟨c.val / 128, by omega⟩ ⟨c.val % 128, by omega⟩ k _ (by show c.val / 128 * 64 + c.val % 128 % 64 = c.val / 128 * 64 + c.val % 128; omega)]
    obtain ⟨r, er⟩ := h8 (ix3 (⟨c.val / 128, by omega⟩ : Fin 8) t (⟨c.val % 128, by omega⟩ : Fin 96))
    rw [er]
    exact div_log r
  · have hl : ¬ 512 + (c.val / 128 * 64 + c.val % 128 % 64) < 512 := by omega
    have hc : col c = ⟨512 + (c.val / 128 * 64 + c.val % 128 % 64), by omega⟩ := if_neg k
    rw [dif_neg k, hc]
    unfold Row.g
    rw [dif_neg hl]
    show Rows.rowsOf (φ := .f32) 512 (vCols A9) (ix2 _ _) = _
    rw [Rows.rowsOf_tok]
    exact vCols_at A9 t ⟨c.val / 128, by omega⟩ ⟨c.val % 128 - 64, by omega⟩ _ (by show 512 + (c.val / 128 * 64 + c.val % 128 % 64) - 512 = c.val / 128 * 64 + (c.val % 128 - 64); omega)

theorem w_col (d : Fin 128) (c : Fin 1024) : wCols A6 (ix2 d (col c)) = A6 (ix2 d c) := by
  by_cases k : c.val % 128 < 64
  · have hc : col c = ⟨c.val / 128 * 64 + c.val % 128 % 64, by omega⟩ := if_pos k
    exact wCols_k A6 d ⟨c.val / 128, by omega⟩ ⟨c.val % 128, k⟩ _ c (by rw [hc]; show c.val / 128 * 64 + c.val % 128 % 64 = c.val / 128 * 64 + c.val % 128; omega)
      (by show c.val = c.val / 128 * 128 + c.val % 128; omega)
  · have hc : col c = ⟨512 + (c.val / 128 * 64 + c.val % 128 % 64), by omega⟩ := if_neg k
    exact wCols_v A6 d ⟨c.val / 128, by omega⟩ ⟨c.val % 128 - 64, by omega⟩ _ c (by rw [hc]; show 512 + (c.val / 128 * 64 + c.val % 128 % 64) = 512 + (c.val / 128 * 64 + (c.val % 128 - 64)); omega)
      (by show c.val = c.val / 128 * 128 + (64 + (c.val % 128 - 64)); omega)

theorem g_off (r : Fin 16640) (h : ¬ (Rows.pos r).val < 16400) (e : Fin 1024) : (kRow A1 A5 A6 A8 A9 r).g e = 0 := by
  unfold Row.g
  split
  · show Rows.rowsOf (φ := .f32) 512 (kCols A8) (ix2 r _) * L = 0
    rw [Rows.rowsOf_pad 512 _ r h, zero_mul]
  · exact Rows.rowsOf_pad 512 _ r h _

theorem up_off (r : Fin 16640) (h : ¬ (Rows.pos r).val < 16400) (d : Fin 128) : (kRow A1 A5 A6 A8 A9 r).up d = 0 := by
  unfold Row.up
  simp only [g_off A1 A5 A6 A8 A9 r h, zero_mul, Finset.sum_const_zero]

theorem up_tok (h8 : Reals A8) (h9 : Reals A9) (t : Fin 16400) (d : Fin 128) : (kRow A1 A5 A6 A8 A9 (Rows.row (Rows.tok t))).up d = val_main_v129 (F := Ideal) A6 A8 A9 (ix2 t d) := by
  unfold Row.up
  rw [QkvRef.r129, ← Equiv.sum_comp colEquiv]
  refine Finset.sum_congr rfl fun c _ => ?_
  show (kRow A1 A5 A6 A8 A9 (Rows.row (Rows.tok t))).g (col c) * wCols A6 (ix2 d (col c)) = _
  rw [g_tok A1 A5 A6 A8 A9 h8 h9, w_col]

/-! ## The results -/

/-- The gradient of the keys' and values' latent vectors. -/
theorem x_result (h1 : Reals A1) (h5 : Reals A5) (h6 : Reals A6) (h8 : Reals A8) (h9 : Reals A9) : Rows.tokensOf (φ := .f32) 128 (arrOf Row.dx (Rows.rowsOf (φ := .f32) 512 (kCols A8)) (Rows.rowsOf (φ := .f32) 512 (vCols A9)) (Rows.rowsOf (φ := .f32) 128 A1) A5 (wCols A6)) = val_main_v148 (F := Ideal) A1 A5 A6 A8 A9 := by
  funext y
  obtain ⟨t, j, rfl⟩ : ∃ t j, y = ix2 t j := ⟨y 0, y 1, eq_ix2 y⟩
  show (kRow A1 A5 A6 A8 A9 (Rows.row (Rows.tok t))).dx j = _
  have hx := x_tok A1 A5 A6 A8 A9 t
  have hw : (kRow A1 A5 A6 A8 A9 (Rows.row (Rows.tok t))).w = fun j => A5 (ix2 0 j) := rfl
  unfold Row.dx
  simp only [up_tok A1 A5 A6 A8 A9 h8 h9 t, hx, hw]
  rw [QkvRef.r148]
  choose x ex using fun i => h1 (ix2 t i)
  choose u eu using up_real A6 A8 A9 h6 h8 h9 t
  choose w ew using fun i => h5 (ix2 0 i)
  obtain ⟨ε, he, ee⟩ := Norm.eps_real
  unfold rq
  simp only [ex, eu, ew, N, E, QkvRef.N, QkvRef.E, QkvRef.MH, ee, n128, Norm.neg_half, ← EReal.coe_mul]
  have k := Norm.dx0_eq x (fun i => u i * w i) 128 ε (by norm_num) he j
  simpa only [← EReal.coe_mul] using k

/-- The norm's weight's gradient. -/
theorem a_result (h8 : Reals A8) (h9 : Reals A9) : sumOf (fun R _ j => Row.aTerm R j) (Rows.rowsOf (φ := .f32) 512 (kCols A8)) (Rows.rowsOf (φ := .f32) 512 (vCols A9)) (Rows.rowsOf (φ := .f32) 128 A1) A5 (wCols A6) = val_main_v132 (F := Ideal) A1 A6 A8 A9 := by
  funext y
  obtain ⟨z, j, rfl⟩ : ∃ z j, y = ix2 z j := ⟨y 0, y 1, eq_ix2 y⟩
  rw [QkvRef.r132]
  show ∑ r, (kRow A1 A5 A6 A8 A9 r).aTerm j = _
  unfold Row.aTerm
  rw [Rows.sum_rows_tokens _ fun r h => by rw [up_off A1 A5 A6 A8 A9 r h, zero_mul]]
  refine Finset.sum_congr rfl fun t _ => ?_
  rw [up_tok A1 A5 A6 A8 A9 h8 h9, x_tok, QkvRef.r61, mul_comm]
  rfl

/-- The matrix's gradient. -/
theorem w_result (h8 : Reals A8) (h9 : Reals A9) : wBack (sumOf Row.wTerm (Rows.rowsOf (φ := .f32) 512 (kCols A8)) (Rows.rowsOf (φ := .f32) 512 (vCols A9)) (Rows.rowsOf (φ := .f32) 128 A1) A5 (wCols A6)) = val_main_v128 (F := Ideal) A1 A5 A8 A9 := by
  funext y
  obtain ⟨d, c, rfl⟩ : ∃ d c, y = ix2 d c := ⟨y 0, y 1, eq_ix2 y⟩
  rw [QkvRef.r128, wBack_at _ d ⟨c.val / 128, by omega⟩ ⟨c.val % 128, by omega⟩ c (by show c.val = c.val / 128 * 128 + c.val % 128; omega)]
  show ∑ r, (kRow A1 A5 A6 A8 A9 r).wTerm d (col c) = _
  unfold Row.wTerm
  rw [Rows.sum_rows_tokens _ fun r h => by rw [g_off A1 A5 A6 A8 A9 r h, mul_zero]]
  refine Finset.sum_congr rfl fun t _ => ?_
  rw [g_tok A1 A5 A6 A8 A9 h8 h9, x_tok, QkvRef.r61, mul_comm]
  rfl

end Cert.QkvValue
-- ==== Proof.Qkv.Pre.lean ====
/-
  The precondition of the latent projections' gradient: every argument is finite, so every argument is an array of reals.
-/
module

public import proofs.«01_k».proof.Proof.Gen.Pre_qkv_finite
public import proofs.«01_k».proof.Proof.RealLift

@[expose] public section

set_option maxRecDepth 16384

noncomputable section

open Idealize.ShloMosaic Idealize.ShloMosaic.TcCoe Idealize.SL.Sem

namespace Cert.QkvValue

open Cert.Pre_qkv_finite Cert.Pre_qkv_finite.Gen Cert.RealLift

theorem of_pre (A0 : FVec Ideal S16400x256 .f32) (A1 : FVec Ideal S16400x128 .f32) (A2 : FVec Ideal S16400x32 .f32) (A3 : FVec Ideal S1x256 .f32) (A4 : FVec Ideal S256x768 .f32) (A5 : FVec Ideal S1x128 .f32) (A6 : FVec Ideal S128x1024 .f32) (A7 : FVec Ideal S8x16400x96 .f32) (A8 : FVec Ideal S8x16400x96 .f32) (A9 : FVec Ideal S8x16400x64 .f32)
    (h : fn (F := Ideal) A0 A1 A2 A3 A4 A5 A6 A7 A8 A9 = fun _ => 1#1) :
    Reals A0 ∧ Reals A1 ∧ Reals A2 ∧ Reals A3 ∧ Reals A4 ∧ Reals A5 ∧ Reals A6 ∧ Reals A7 ∧ Reals A8 ∧ Reals A9 := by
  have e : fn (F := Ideal) A0 A1 A2 A3 A4 A5 A6 A7 A8 A9 (fun a => a.elim0) = 1#1 := congrFun h _
  dsimp only [fn, fn_part1, fn_part2] at e
  obtain ⟨e, e9⟩ := andi_one e
  obtain ⟨e, e8⟩ := andi_one e
  obtain ⟨e, e7⟩ := andi_one e
  obtain ⟨e, e6⟩ := andi_one e
  obtain ⟨e, e5⟩ := andi_one e
  obtain ⟨e, e4⟩ := andi_one e
  obtain ⟨e, e3⟩ := andi_one e
  obtain ⟨e, e2⟩ := andi_one e
  obtain ⟨e0, e1⟩ := andi_one e
  exact ⟨reals_of_all _ _ _ _ _ e0, reals_of_all _ _ _ _ _ e1, reals_of_all _ _ _ _ _ e2, reals_of_all _ _ _ _ _ e3, reals_of_all _ _ _ _ _ e4, reals_of_all _ _ _ _ _ e5, reals_of_all _ _ _ _ _ e6, reals_of_all _ _ _ _ _ e7, reals_of_all _ _ _ _ _ e8, reals_of_all _ _ _ _ _ e9⟩

end Cert.QkvValue
-- ==== Proof.Qkv.Run.lean ====
/-
  The latent projections' gradient, keys and values: its results are the reference's gradients.
-/
module

public import proofs.«01_k».proof.Defs
public import proofs.«01_k».proof.Proof.Qkv.Equation
public import proofs.«01_k».proof.Proof.Qkv.Pre

@[expose] public section

set_option maxRecDepth 16384

noncomputable section

open Idealize.ShloMosaic Idealize.ShloMosaic.TcCoe Idealize.SL.Sem

namespace Cert.QkvValue

open Cert.QkvIdeal Cert.QkvIdeal.Gen

variable (m : (ℓ : Loc nD τ sig) → Buf (Elt Ideal) ℓ)

/-- Result `main_v55` of the program in terms of its arguments. -/
theorem res_v55 (c : Dev nD) : Pipeline.afterTail₀ cfgs (dats m) 0 (V0 m) [hostOps1] c main_v55
    = Rows.tokensOf (φ := .f32) 128 (arrOf QkvRow.Row.dx (Rows.rowsOf (φ := .f32) 512 (kCols (m ((c.tc : Thread nD τ).loc main_arg8)))) (Rows.rowsOf (φ := .f32) 512 (vCols (m ((c.tc : Thread nD τ).loc main_arg9)))) (Rows.rowsOf (φ := .f32) 128 (m ((c.tc : Thread nD τ).loc main_arg1))) (m ((c.tc : Thread nD τ).loc main_arg5)) (wCols (m ((c.tc : Thread nD τ).loc main_arg6)))) := by
  rw [← final19 m c _ _ _ _ _ (entry_v22_0 m c) (entry_v29 m c) (entry_v39 m c) (entry_arg5 m c) (entry_v50 m c)]
  unfold Pipeline.afterTail₀
  simp only [List.flatten_cons, List.flatten_nil, List.append_nil]
  refine (tail_v55 _).trans (congrArg (Rows.tokensOf (φ := .f32) 128) ?_)
  exact Pipeline.withArrays_arr _ launch0.win.arr_inj c (V0 m c) _ 19

/-- Result `main_v61` of the program in terms of its arguments. -/
theorem res_v61 (c : Dev nD) : Pipeline.afterTail₀ cfgs (dats m) 0 (V0 m) [hostOps1] c main_v61
    = wBack (sumOf QkvRow.Row.wTerm (Rows.rowsOf (φ := .f32) 512 (kCols (m ((c.tc : Thread nD τ).loc main_arg8)))) (Rows.rowsOf (φ := .f32) 512 (vCols (m ((c.tc : Thread nD τ).loc main_arg9)))) (Rows.rowsOf (φ := .f32) 128 (m ((c.tc : Thread nD τ).loc main_arg1))) (m ((c.tc : Thread nD τ).loc main_arg5)) (wCols (m ((c.tc : Thread nD τ).loc main_arg6)))) := by
  rw [← final22 m c _ _ _ _ _ (entry_v22_0 m c) (entry_v29 m c) (entry_v39 m c) (entry_arg5 m c) (entry_v50 m c)]
  unfold Pipeline.afterTail₀
  simp only [List.flatten_cons, List.flatten_nil, List.append_nil]
  refine (tail_v61 _).trans (congrArg (wBack) ?_)
  exact Pipeline.withArrays_arr _ launch0.win.arr_inj c (V0 m c) _ 22

/-- What the region's sum for the norm's weight ends at. -/
theorem run_sums (ρ : Dev nD → PrngReg) : θ_run defs (onTc (τ := τ) (main (F := Ideal))) (s₀ m ρ) (fun r => ∀ c : Dev nD,
    r.2.mem ((c.tc : Thread nD τ).loc main_v51_6) = (dats m 0 c).arrAt 24 (cfgs 0).N) :=
  θ_run_mono (run_main m ρ) fun _ h c => (h c).1 24

set_option maxHeartbeats 4000000 in
/-- The kernel and the reference end with the same gradients. -/
theorem claim : Cert.algebraic_QkvIdeal_QkvRefIdeal_pre_qkv_finite (hQkvIdeal := Cert.QkvIdeal.Gen.facts)
    (hQkvRefIdeal := Cert.QkvRefIdeal.Gen.facts) (hPre_qkv_finite := Cert.Pre_qkv_finite.Gen.facts) := by
  pair_intro
  · run_from (Cert.QkvIdeal.Gen.run_main m g) & (run_sums m g)
    · exact W_main_arg0 m (dats m) c
    · exact W_main_arg1 m (dats m) c
    · exact W_main_arg2 m (dats m) c
    · exact W_main_arg4 m (dats m) c
    · exact W_main_arg6 m (dats m) c
    · exact W_main_arg7 m (dats m) c
    · exact W_main_arg8 m (dats m) c
    · exact W_main_arg9 m (dats m) c
  · refine (θ_run _ _ _).mono (fun r h c => ?_) (Cert.QkvRefIdeal.Value.run m' g')
    obtain ⟨r0, r1, r2, k0, k1, k2, k3, k4, k5, k6, k7, k8, k9⟩ := h c
    obtain ⟨x0, x1, x2, x3, x4, x5, x6, x7, x8, x9⟩ := hagree c
    obtain ⟨h0, h1, h2, h3, h4, h5, h6, h7, h8, h9⟩ := of_pre _ _ _ _ _ _ _ _ _ _ (hpre c)
    have y0 : StableHlo.launchContents m' c (Proc.tc.devRef Cert.QkvRefIdeal.main_arg0) = m ((c.tc : Thread nD τ).loc main_arg0) := x0
    have y1 : StableHlo.launchContents m' c (Proc.tc.devRef Cert.QkvRefIdeal.main_arg1) = m ((c.tc : Thread nD τ).loc main_arg1) := x1
    have y2 : StableHlo.launchContents m' c (Proc.tc.devRef Cert.QkvRefIdeal.main_arg2) = m ((c.tc : Thread nD τ).loc main_arg2) := x2
    have y3 : StableHlo.launchContents m' c (Proc.tc.devRef Cert.QkvRefIdeal.main_arg3) = m ((c.tc : Thread nD τ).loc main_arg3) := x3
    have y4 : StableHlo.launchContents m' c (Proc.tc.devRef Cert.QkvRefIdeal.main_arg4) = m ((c.tc : Thread nD τ).loc main_arg4) := x4
    have y5 : StableHlo.launchContents m' c (Proc.tc.devRef Cert.QkvRefIdeal.main_arg5) = m ((c.tc : Thread nD τ).loc main_arg5) := x5
    have y6 : StableHlo.launchContents m' c (Proc.tc.devRef Cert.QkvRefIdeal.main_arg6) = m ((c.tc : Thread nD τ).loc main_arg6) := x6
    have y7 : StableHlo.launchContents m' c (Proc.tc.devRef Cert.QkvRefIdeal.main_arg7) = m ((c.tc : Thread nD τ).loc main_arg7) := x7
    have y8 : StableHlo.launchContents m' c (Proc.tc.devRef Cert.QkvRefIdeal.main_arg8) = m ((c.tc : Thread nD τ).loc main_arg8) := x8
    have y9 : StableHlo.launchContents m' c (Proc.tc.devRef Cert.QkvRefIdeal.main_arg9) = m ((c.tc : Thread nD τ).loc main_arg9) := x9
    rw [Cert.QkvRefIdeal.Read.val_main_v148_eq, y1, y5, y6, y8, y9] at r0
    rw [Cert.QkvRefIdeal.Read.val_main_v132_eq, y1, y6, y8, y9] at r1
    rw [Cert.QkvRefIdeal.Read.val_main_v128_eq, y1, y5, y8, y9] at r2
    exact ⟨r0.trans ((x_result _ _ _ _ _ h1 h5 h6 h8 h9).symm.trans (res_v55 m c).symm), r1.trans ((a_result _ _ _ _ _ h8 h9).symm.trans (final24 m c _ _ _ _ _ (entry_v22_0 m c) (entry_v29 m c) (entry_v39 m c) (entry_arg5 m c) (entry_v50 m c)).symm), r2.trans ((w_result _ _ _ _ _ h8 h9).symm.trans (res_v61 m c).symm),
      k0, k1, k2, k3, k4, k5, k6, k7, k8, k9⟩

end Cert.QkvValue
-- ==== Proof.Inproj.Block.lean ====
/-
  What one grid point of the input projection's gradient leaves in its three outputs, as the body's own expressions.
-/
module

public import proofs.«01_k».proof.Proof.Gen.InprojIdeal.Frame
public import Idealize.ShloMosaic.Lib.Pipeline.ValueKit

@[expose] public section

set_option maxRecDepth 16384

noncomputable section

open Idealize.ShloMosaic Idealize.ShloMosaic.TcCoe Idealize.SL.Sem

namespace Cert.InprojValue

open Cert.InprojIdeal Cert.InprojIdeal.Gen

variable {F : FTy → Type} [FloatOps F]

section
variable (c : Dev nD) (i : grid0.Coords) (arg1 : Memref sig .tc .vmem S256x256 .f32) (harg1 : arg1.IsWhole) (arg2 : Memref sig .tc .vmem S256x128 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S256x512 .f32) (harg5 : arg5.IsWhole) (arg6 : Memref sig .tc .vmem S256x512 .f32) (harg6 : arg6.IsWhole) (arg7 : Memref sig .tc .vmem S256x512 .f32) (harg7 : arg7.IsWhole) (arg8 : Memref sig .tc .vmem S256x32 .f32) (harg8 : arg8.IsWhole) (arg9 : Memref sig .tc .vmem S256x1024 .f32) (harg9 : arg9.IsWhole) (arg10 : Memref sig .tc .vmem S256x1024 .f32) (harg10 : arg10.IsWhole) (arg11 : Memref sig .tc .vmem S1x1024 .f32) (harg11 : arg11.IsWhole) (arg12 : Memref sig .tc .vmem S1024x2048 .bf16) (harg12 : arg12.IsWhole) (arg13 : Memref sig .tc .vmem S1x512 .f32) (harg13 : arg13.IsWhole) (arg14 : Memref sig .tc .vmem S256x1024 .f32) (harg14 : arg14.IsWhole) (arg15 : Memref sig .tc .vmem S1024x2048 .f32) (harg15 : arg15.IsWhole) (arg16 : Memref sig .tc .vmem S1x1024 .f32) (harg16 : arg16.IsWhole) (hc0 : cond0_0 i) (hc1 : ¬cond0_1 i) (hc2 : cond0_2 i) (hc3 : ¬cond0_3 i)
  (x0 : Vec F S256x256 .f32) (x1 : Vec F S256x128 .f32) (x2 : Vec F S256x512 .f32) (x3 : Vec F S256x512 .f32) (x4 : Vec F S256x512 .f32) (x5 : Vec F S256x512 .f32) (x6 : Vec F S256x512 .f32) (x7 : Vec F S256x32 .f32) (x8 : Vec F S256x1024 .f32) (x9 : Vec F S256x1024 .f32) (x10 : Vec F S1x1024 .f32) (x11 : Vec F S1024x2048 .bf16) (x12 : Vec F S1x512 .f32)

theorem outA_13 : out0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 x0 x1 x2 x3 x4 x5 x6 x7 x8 x9 x10 x11 x12
    = k0_pay1 (k0_pay9 (k0_pay2 x3 x4 x12 x5 x0 x1 x2 x6 x7) (k0_pay3 x8) (k0_pay4 x8) x10 x11) x9 := by
  frame_out

theorem outA_14 : out0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 x0 x1 x2 x3 x4 x5 x6 x7 x8 x9 x10 x11 x12
    = k0_pay5 (k0_pay2 x3 x4 x12 x5 x0 x1 x2 x6 x7) (k0_pay3 x8) (k0_pay4 x8) x10 := by
  frame_out

theorem outA_15 : out0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 x0 x1 x2 x3 x4 x5 x6 x7 x8 x9 x10 x11 x12
    = k0_pay10 (k0_pay2 x3 x4 x12 x5 x0 x1 x2 x6 x7) (k0_pay3 x8) (k0_pay4 x8) x11 := by
  frame_out

end

section
variable (c : Dev nD) (i : grid0.Coords) (arg1 : Memref sig .tc .vmem S256x256 .f32) (harg1 : arg1.IsWhole) (arg2 : Memref sig .tc .vmem S256x128 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S256x512 .f32) (harg5 : arg5.IsWhole) (arg6 : Memref sig .tc .vmem S256x512 .f32) (harg6 : arg6.IsWhole) (arg7 : Memref sig .tc .vmem S256x512 .f32) (harg7 : arg7.IsWhole) (arg8 : Memref sig .tc .vmem S256x32 .f32) (harg8 : arg8.IsWhole) (arg9 : Memref sig .tc .vmem S256x1024 .f32) (harg9 : arg9.IsWhole) (arg10 : Memref sig .tc .vmem S256x1024 .f32) (harg10 : arg10.IsWhole) (arg11 : Memref sig .tc .vmem S1x1024 .f32) (harg11 : arg11.IsWhole) (arg12 : Memref sig .tc .vmem S1024x2048 .bf16) (harg12 : arg12.IsWhole) (arg13 : Memref sig .tc .vmem S1x512 .f32) (harg13 : arg13.IsWhole) (arg14 : Memref sig .tc .vmem S256x1024 .f32) (harg14 : arg14.IsWhole) (arg15 : Memref sig .tc .vmem S1024x2048 .f32) (harg15 : arg15.IsWhole) (arg16 : Memref sig .tc .vmem S1x1024 .f32) (harg16 : arg16.IsWhole) (hc0 : ¬cond0_0 i) (hc1 : cond0_1 i) (hc2 : ¬cond0_2 i) (hc3 : cond0_3 i)
  (x0 : Vec F S256x256 .f32) (x1 : Vec F S256x128 .f32) (x2 : Vec F S256x512 .f32) (x3 : Vec F S256x512 .f32) (x4 : Vec F S256x512 .f32) (x5 : Vec F S256x512 .f32) (x6 : Vec F S256x512 .f32) (x7 : Vec F S256x32 .f32) (x8 : Vec F S256x1024 .f32) (x9 : Vec F S256x1024 .f32) (x10 : Vec F S1x1024 .f32) (x11 : Vec F S1024x2048 .bf16) (x12 : Vec F S1x512 .f32) (xo14 : Vec F S1024x2048 .f32) (xo15 : Vec F S1x1024 .f32)

theorem outB_13 : out0_B_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 x0 x1 x2 x3 x4 x5 x6 x7 x8 x9 x10 x11 x12 xo14 xo15
    = k0_pay1 (k0_pay9 (k0_pay2 x3 x4 x12 x5 x0 x1 x2 x6 x7) (k0_pay3 x8) (k0_pay4 x8) x10 x11) x9 := by
  frame_out

theorem outB_14 : out0_B_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 x0 x1 x2 x3 x4 x5 x6 x7 x8 x9 x10 x11 x12 xo14 xo15
    = k0_pay6 (k0_pay2 x3 x4 x12 x5 x0 x1 x2 x6 x7) (k0_pay3 x8) (k0_pay4 x8) x10 xo14 := by
  frame_out

theorem outB_15 : out0_B_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 x0 x1 x2 x3 x4 x5 x6 x7 x8 x9 x10 x11 x12 xo14 xo15
    = k0_pay11 (k0_pay2 x3 x4 x12 x5 x0 x1 x2 x6 x7) (k0_pay3 x8) (k0_pay4 x8) x11 xo15 := by
  frame_out

end

end Cert.InprojValue
-- ==== Proof.Inproj.Region.lean ====
/-
  The input projection's gradient: what the region's three result arrays hold, in terms of its argument arrays.
-/
module

public import proofs.«01_k».proof.Proof.Inproj.Block

@[expose] public section

set_option maxRecDepth 16384

noncomputable section

open Idealize.ShloMosaic Idealize.ShloMosaic.TcCoe Idealize.SL.Sem

open Idealize.ShloMosaic.Pipeline (Dat)

namespace Cert.InprojValue

open Cert.InprojIdeal Cert.InprojIdeal.Gen

theorem idx : ∀ t : Fin cfg0.N, win0_0.index t = ![t.val, 0]
    ∧ win0_1.index t = ![t.val, 0]
    ∧ win0_2.index t = ![t.val, 0]
    ∧ win0_3.index t = ![t.val, 0]
    ∧ win0_4.index t = ![t.val, 0]
    ∧ win0_5.index t = ![t.val, 0]
    ∧ win0_6.index t = ![t.val, 0]
    ∧ win0_7.index t = ![t.val, 0]
    ∧ win0_8.index t = ![t.val, 0]
    ∧ win0_9.index t = ![t.val, 0]
    ∧ win0_10.index t = ![0, 0]
    ∧ win0_11.index t = ![0, 0]
    ∧ win0_12.index t = ![0, 0]
    ∧ win0_13.index t = ![t.val, 0]
    ∧ win0_14.index t = ![0, 0]
    ∧ win0_15.index t = ![0, 0] :=
  (by decide +kernel : ∀ t : Fin grid0.N, _)

/-- The array's row at place `r` of a grid point's tile. -/
def rw' (t : Fin cfg0.N) (r : Fin 256) : Fin 16640 := ⟨t.val * 256 + r.val, by
  have h : t.val < 65 := lt_of_lt_of_eq t.isLt N_0
  omega⟩

section
variable (m : (ℓ : Loc nD τ sig) → Buf (Elt Ideal) ℓ) (c : Dev nD)

theorem blk0 (X : Vec Ideal S16640x256 .f32) (e : V m c main_v11 = X) (t : Fin cfg0.N) (r : Fin 256) (j : Fin 256) :
    iblk m c 0 t (ix2 r j) = X (ix2 (rw' t r) j) := by
  have rd : ∀ f : Vec Ideal S16640x256 .f32, ((cfg0.win 0).blk t).view.read (Elt Ideal) f (ix2 r j) = f (ix2 (rw' t r) j) := fun f => by
    blk_ext [idx t, rw']
  show ((cfg0.win 0).blk t).view.read (Elt Ideal) (V m c main_v11) _ = _
  rw [e]
  exact rd X

theorem blk1 (X : Vec Ideal S16640x128 .f32) (e : V m c main_v16 = X) (t : Fin cfg0.N) (r : Fin 256) (j : Fin 128) :
    iblk m c 1 t (ix2 r j) = X (ix2 (rw' t r) j) := by
  have rd : ∀ f : Vec Ideal S16640x128 .f32, ((cfg0.win 1).blk t).view.read (Elt Ideal) f (ix2 r j) = f (ix2 (rw' t r) j) := fun f => by
    blk_ext [idx t, rw']
  show ((cfg0.win 1).blk t).view.read (Elt Ideal) (V m c main_v16) _ = _
  rw [e]
  exact rd X

theorem blk2 (X : Vec Ideal S16640x512 .f32) (e : V m c main_v21 = X) (t : Fin cfg0.N) (r : Fin 256) (j : Fin 512) :
    iblk m c 2 t (ix2 r j) = X (ix2 (rw' t r) j) := by
  have rd : ∀ f : Vec Ideal S16640x512 .f32, ((cfg0.win 2).blk t).view.read (Elt Ideal) f (ix2 r j) = f (ix2 (rw' t r) j) := fun f => by
    blk_ext [idx t, rw']
  show ((cfg0.win 2).blk t).view.read (Elt Ideal) (V m c main_v21) _ = _
  rw [e]
  exact rd X

theorem blk3 (X : Vec Ideal S16640x512 .f32) (e : V m c main_v26 = X) (t : Fin cfg0.N) (r : Fin 256) (j : Fin 512) :
    iblk m c 3 t (ix2 r j) = X (ix2 (rw' t r) j) := by
  have rd : ∀ f : Vec Ideal S16640x512 .f32, ((cfg0.win 3).blk t).view.read (Elt Ideal) f (ix2 r j) = f (ix2 (rw' t r) j) := fun f => by
    blk_ext [idx t, rw']
  show ((cfg0.win 3).blk t).view.read (Elt Ideal) (V m c main_v26) _ = _
  rw [e]
  exact rd X

theorem blk4 (X : Vec Ideal S16640x512 .f32) (e : V m c main_v31 = X) (t : Fin cfg0.N) (r : Fin 256) (j : Fin 512) :
    iblk m c 4 t (ix2 r j) = X (ix2 (rw' t r) j) := by
  have rd : ∀ f : Vec Ideal S16640x512 .f32, ((cfg0.win 4).blk t).view.read (Elt Ideal) f (ix2 r j) = f (ix2 (rw' t r) j) := fun f => by
    blk_ext [idx t, rw']
  show ((cfg0.win 4).blk t).view.read (Elt Ideal) (V m c main_v31) _ = _
  rw [e]
  exact rd X

theorem blk5 (X : Vec Ideal S16640x512 .f32) (e : V m c main_v36 = X) (t : Fin cfg0.N) (r : Fin 256) (j : Fin 512) :
    iblk m c 5 t (ix2 r j) = X (ix2 (rw' t r) j) := by
  have rd : ∀ f : Vec Ideal S16640x512 .f32, ((cfg0.win 5).blk t).view.read (Elt Ideal) f (ix2 r j) = f (ix2 (rw' t r) j) := fun f => by
    blk_ext [idx t, rw']
  show ((cfg0.win 5).blk t).view.read (Elt Ideal) (V m c main_v36) _ = _
  rw [e]
  exact rd X

theorem blk6 (X : Vec Ideal S16640x512 .f32) (e : V m c main_v41 = X) (t : Fin cfg0.N) (r : Fin 256) (j : Fin 512) :
    iblk m c 6 t (ix2 r j) = X (ix2 (rw' t r) j) := by
  have rd : ∀ f : Vec Ideal S16640x512 .f32, ((cfg0.win 6).blk t).view.read (Elt Ideal) f (ix2 r j) = f (ix2 (rw' t r) j) := fun f => by
    blk_ext [idx t, rw']
  show ((cfg0.win 6).blk t).view.read (Elt Ideal) (V m c main_v41) _ = _
  rw [e]
  exact rd X

theorem blk7 (X : Vec Ideal S16640x32 .f32) (e : V m c main_v46 = X) (t : Fin cfg0.N) (r : Fin 256) (j : Fin 32) :
    iblk m c 7 t (ix2 r j) = X (ix2 (rw' t r) j) := by
  have rd : ∀ f : Vec Ideal S16640x32 .f32, ((cfg0.win 7).blk t).view.read (Elt Ideal) f (ix2 r j) = f (ix2 (rw' t r) j) := fun f => by
    blk_ext [idx t, rw']
  show ((cfg0.win 7).blk t).view.read (Elt Ideal) (V m c main_v46) _ = _
  rw [e]
  exact rd X

theorem blk8 (X : Vec Ideal S16640x1024 .f32) (e : V m c main_v51 = X) (t : Fin cfg0.N) (r : Fin 256) (j : Fin 1024) :
    iblk m c 8 t (ix2 r j) = X (ix2 (rw' t r) j) := by
  have rd : ∀ f : Vec Ideal S16640x1024 .f32, ((cfg0.win 8).blk t).view.read (Elt Ideal) f (ix2 r j) = f (ix2 (rw' t r) j) := fun f => by
    blk_ext [idx t, rw']
  show ((cfg0.win 8).blk t).view.read (Elt Ideal) (V m c main_v51) _ = _
  rw [e]
  exact rd X

theorem blk9 (X : Vec Ideal S16640x1024 .f32) (e : V m c main_v56 = X) (t : Fin cfg0.N) (r : Fin 256) (j : Fin 1024) :
    iblk m c 9 t (ix2 r j) = X (ix2 (rw' t r) j) := by
  have rd : ∀ f : Vec Ideal S16640x1024 .f32, ((cfg0.win 9).blk t).view.read (Elt Ideal) f (ix2 r j) = f (ix2 (rw' t r) j) := fun f => by
    blk_ext [idx t, rw']
  show ((cfg0.win 9).blk t).view.read (Elt Ideal) (V m c main_v56) _ = _
  rw [e]
  exact rd X

theorem blk10 (X : Vec Ideal S1x1024 .f32) (e : V m c main_arg1 = X) (t : Fin cfg0.N) (r : Fin 1) (j : Fin 1024) :
    iblk m c 10 t (ix2 r j) = X (ix2 r j) := by
  have rd : ∀ f : Vec Ideal S1x1024 .f32, ((cfg0.win 10).blk t).view.read (Elt Ideal) f (ix2 r j) = f (ix2 r j) := fun f => by
    blk_ext [idx t]
  show ((cfg0.win 10).blk t).view.read (Elt Ideal) (V m c main_arg1) _ = _
  rw [e]
  exact rd X

theorem blk11 (X : Vec Ideal S1024x2048 .bf16) (e : V m c main_v6 = X) (t : Fin cfg0.N) (r : Fin 1024) (j : Fin 2048) :
    iblk m c 11 t (ix2 r j) = X (ix2 r j) := by
  have rd : ∀ f : Vec Ideal S1024x2048 .bf16, ((cfg0.win 11).blk t).view.read (Elt Ideal) f (ix2 r j) = f (ix2 r j) := fun f => by
    blk_ext [idx t]
  show ((cfg0.win 11).blk t).view.read (Elt Ideal) (V m c main_v6) _ = _
  rw [e]
  exact rd X

theorem blk12 (X : Vec Ideal S1x512 .f32) (e : V m c main_arg3 = X) (t : Fin cfg0.N) (r : Fin 1) (j : Fin 512) :
    iblk m c 12 t (ix2 r j) = X (ix2 r j) := by
  have rd : ∀ f : Vec Ideal S1x512 .f32, ((cfg0.win 12).blk t).view.read (Elt Ideal) f (ix2 r j) = f (ix2 r j) := fun f => by
    blk_ext [idx t]
  show ((cfg0.win 12).blk t).view.read (Elt Ideal) (V m c main_arg3) _ = _
  rw [e]
  exact rd X

end

/-- A row of the projection's cotangent in the call's column order: seven ranges, the last of them zero. -/
def lad (d0 : Fin 256 → EReal) (d1 : Fin 128 → EReal) (d2 d3 d4 : Fin 512 → EReal) (d5 : Fin 32 → EReal) (e : Fin 2048) : EReal :=
  if h : e.val < 256 then d0 ⟨e.val, h⟩
  else if h : e.val - 256 < 128 then d1 ⟨e.val - 256, h⟩
  else if h : e.val - 256 - 128 < 512 then d2 ⟨e.val - 256 - 128, h⟩
  else if h : e.val - 256 - 128 - 512 < 512 then d3 ⟨e.val - 256 - 128 - 512, h⟩
  else if h : e.val - 256 - 128 - 512 - 512 < 512 then d4 ⟨e.val - 256 - 128 - 512 - 512, h⟩
  else if h : e.val - 256 - 128 - 512 - 512 - 512 < 32 then d5 ⟨e.val - 256 - 128 - 512 - 512 - 512, h⟩
  else 0

/-! ## The body's expressions, entry by entry -/

section
variable (p : FVec Ideal S256x2048 .f32) (q w9 : FVec Ideal S256x1024 .f32) (s : FVec Ideal S256x1 .f32) (w10 : Vec Ideal S1x1024 .f32) (w11 : Vec Ideal S1024x2048 .bf16)

theorem pay_dh (r : Fin 256) (d : Fin 1024) : k0_pay1 (k0_pay9 p q s w10 w11) w9 (ix2 r d)
    = w9 (ix2 r d) + s (ix2 r 0) * ((∑ x, p (ix2 r x) * w11 (ix2 d x)) * w10 (ix2 0 d) - q (ix2 r d) * s (ix2 r 0) *
      Ideal.div (∑ d', (∑ x, p (ix2 r x) * w11 (ix2 d' x)) * w10 (ix2 0 d') * (q (ix2 r d') * s (ix2 r 0))) (Ideal.ofBits FTy.f32 1149239296#32)) := by
  pointwise [k0_pay1, k0_pay9, k0_pay7, k0_pay8]

theorem pay_dp (r : Fin 1) (d : Fin 1024) : k0_pay10 p q s w11 (ix2 r d)
    = ∑ r', (∑ x, p (ix2 r' x) * w11 (ix2 d x)) * (q (ix2 r' d) * s (ix2 r' 0)) := by
  pointwise [k0_pay10, k0_pay7, k0_pay8]
theorem pay_w (d : Fin 1024) (e : Fin 2048) : k0_pay5 p q s w10 (ix2 d e) = ∑ r, q (ix2 r d) * s (ix2 r 0) * w10 (ix2 0 d) * p (ix2 r e) := by
  pointwise [k0_pay5]

theorem pay_i (r : Fin 256) (z : Fin 1) : k0_pay4 (F := Ideal) q (ix2 r z)
    = Ideal.rsqrt (Ideal.div (∑ x, q (ix2 r x) * q (ix2 r x)) (Ideal.ofBits FTy.f32 1149239296#32) + Ideal.ofBits FTy.f32 897988541#32) := by
  pointwise [k0_pay4, k0_pay3]

theorem pay_x (r : Fin 256) (d : Fin 1024) : k0_pay3 (F := Ideal) q (ix2 r d) = q (ix2 r d) := by
  pointwise [k0_pay3]

theorem pay_w' (W : FVec Ideal S1024x2048 .f32) (d : Fin 1024) (e : Fin 2048) :
    k0_pay6 p q s w10 W (ix2 d e) = W (ix2 d e) + k0_pay5 p q s w10 (ix2 d e) := by
  unfold k0_pay6
  generalize k0_pay5 p q s w10 = w
  pointwise []

theorem pay_dp' (W : FVec Ideal S1x1024 .f32) (d : Fin 1) (e : Fin 1024) :
    k0_pay11 p q s w11 W (ix2 d e) = W (ix2 d e) + k0_pay10 p q s w11 (ix2 d e) := by
  unfold k0_pay11
  generalize k0_pay10 p q s w11 = w
  pointwise []

theorem pay_p (x0 : Vec Ideal S256x256 .f32) (x1 : Vec Ideal S256x128 .f32) (x2 x3 x4 x5 x6 : Vec Ideal S256x512 .f32) (x7 : Vec Ideal S256x32 .f32)
    (x12 : Vec Ideal S1x512 .f32) (r : Fin 256) (e : Fin 2048) : k0_pay2 x3 x4 x12 x5 x0 x1 x2 x6 x7 (ix2 r e)
    = lad (fun j => x0 (ix2 r j)) (fun j => x1 (ix2 r j)) (fun j => x2 (ix2 r j))
      (fun j => x3 (ix2 r j) + x4 (ix2 r j) + x12 (ix2 0 j) * x5 (ix2 r j)) (fun j => x6 (ix2 r j)) (fun j => x7 (ix2 r j)) e := by
  pointwise [k0_pay2]
  unfold lad
  rfl
end

section
variable (X0 : Vec Ideal S16640x256 .f32)  (X1 : Vec Ideal S16640x128 .f32)  (X2 : Vec Ideal S16640x512 .f32)  (X3 : Vec Ideal S16640x512 .f32)  (X4 : Vec Ideal S16640x512 .f32)  (X5 : Vec Ideal S16640x512 .f32)  (X6 : Vec Ideal S16640x512 .f32)  (X7 : Vec Ideal S16640x32 .f32)  (X8 : Vec Ideal S16640x1024 .f32)  (X9 : Vec Ideal S16640x1024 .f32)  (X10 : Vec Ideal S1x1024 .f32)  (X11 : Vec Ideal S1024x2048 .bf16)  (X12 : Vec Ideal S1x512 .f32)

/-- The projection's cotangent. -/
def dP (r : Fin 16640) (e : Fin 2048) : EReal :=
  lad (fun j => X0 (ix2 r j)) (fun j => X1 (ix2 r j)) (fun j => X2 (ix2 r j))
    (fun j => X3 (ix2 r j) + X4 (ix2 r j) + X12 (ix2 0 j) * X5 (ix2 r j)) (fun j => X6 (ix2 r j)) (fun j => X7 (ix2 r j)) e

/-- The reciprocal root of a row's mean square. -/
def inv (r : Fin 16640) : EReal :=
  Ideal.rsqrt (Ideal.div (∑ x, X8 (ix2 r x) * X8 (ix2 r x)) (Ideal.ofBits FTy.f32 1149239296#32) + Ideal.ofBits FTy.f32 897988541#32)

/-- The normalised rows' cotangent. -/
def dY (r : Fin 16640) (d : Fin 1024) : EReal := ∑ x, dP X0 X1 X2 X3 X4 X5 X6 X7 X12 r x * X11 (ix2 d x)

/-- The rows' gradient, entry by entry. -/
def dhAt (r : Fin 16640) (d : Fin 1024) : EReal := X9 (ix2 r d) + inv X8 r * (dY X0 X1 X2 X3 X4 X5 X6 X7 X11 X12 r d * X10 (ix2 0 d)
    - X8 (ix2 r d) * inv X8 r * Ideal.div (∑ d', dY X0 X1 X2 X3 X4 X5 X6 X7 X11 X12 r d' * X10 (ix2 0 d') * (X8 (ix2 r d') * inv X8 r))
        (Ideal.ofBits FTy.f32 1149239296#32))

/-- The rows' gradient. -/
def dhArr : Vec Ideal S16640x1024 .f32 := fun i => dhAt X0 X1 X2 X3 X4 X5 X6 X7 X8 X9 X10 X11 X12 (i 0) (i 1)

/-- What row `r` adds to the weight's gradient. -/
def dwTerm (r : Fin 16640) (d : Fin 1024) (e : Fin 2048) : EReal :=
  X8 (ix2 r d) * inv X8 r * X10 (ix2 0 d) * dP X0 X1 X2 X3 X4 X5 X6 X7 X12 r e

/-- What row `r` adds to the norm weight's gradient. -/
def dpTerm (r : Fin 16640) (a : Fin 1) (d : Fin 1024) : EReal :=
  dY X0 X1 X2 X3 X4 X5 X6 X7 X11 X12 r d * (X8 (ix2 r d) * inv X8 r)
end

variable (m : (ℓ : Loc nD τ sig) → Buf (Elt Ideal) ℓ) (c : Dev nD)
  (X0 : Vec Ideal S16640x256 .f32)  (X1 : Vec Ideal S16640x128 .f32)  (X2 : Vec Ideal S16640x512 .f32)  (X3 : Vec Ideal S16640x512 .f32)  (X4 : Vec Ideal S16640x512 .f32)  (X5 : Vec Ideal S16640x512 .f32)  (X6 : Vec Ideal S16640x512 .f32)  (X7 : Vec Ideal S16640x32 .f32)  (X8 : Vec Ideal S16640x1024 .f32)  (X9 : Vec Ideal S16640x1024 .f32)  (X10 : Vec Ideal S1x1024 .f32)  (X11 : Vec Ideal S1024x2048 .bf16)  (X12 : Vec Ideal S1x512 .f32)
  (e0 : V m c main_v11 = X0) (e1 : V m c main_v16 = X1) (e2 : V m c main_v21 = X2) (e3 : V m c main_v26 = X3) (e4 : V m c main_v31 = X4) (e5 : V m c main_v36 = X5) (e6 : V m c main_v41 = X6) (e7 : V m c main_v46 = X7) (e8 : V m c main_v51 = X8) (e9 : V m c main_v56 = X9) (e10 : V m c main_arg1 = X10) (e11 : V m c main_v6 = X11) (e12 : V m c main_arg3 = X12)
  (t : Fin cfg0.N)

/-- A grid point's block of the projection's cotangent. -/
abbrev bP : FVec Ideal S256x2048 .f32 := k0_pay2 (iblk m c 3 t) (iblk m c 4 t) (iblk m c 12 t) (iblk m c 5 t) (iblk m c 0 t) (iblk m c 1 t) (iblk m c 2 t) (iblk m c 6 t) (iblk m c 7 t)

include e0 e1 e2 e3 e4 e5 e6 e7 e12 in
theorem bP_eq (r : Fin 256) (e : Fin 2048) : bP m c t (ix2 r e) = dP X0 X1 X2 X3 X4 X5 X6 X7 X12 (rw' t r) e := by
  refine (pay_p _ _ _ _ _ _ _ _ _ r e).trans ?_
  simp only [blk0 m c X0 e0, blk1 m c X1 e1, blk2 m c X2 e2, blk3 m c X3 e3, blk4 m c X4 e4, blk5 m c X5 e5, blk6 m c X6 e6, blk7 m c X7 e7, blk12 m c X12 e12]
  unfold dP
  rfl

include e8 in
theorem bI_eq (r : Fin 256) : k0_pay4 (iblk m c 8 t) (ix2 r (0 : Fin 1)) = inv X8 (rw' t r) := by
  refine (pay_i _ r _).trans ?_
  simp only [blk8 m c X8 e8]
  unfold inv
  rfl

include e8 in
theorem bX_eq (r : Fin 256) (d : Fin 1024) : k0_pay3 (iblk m c 8 t) (ix2 r d) = X8 (ix2 (rw' t r) d) := by
  exact (pay_x _ r d).trans <| blk8 m c X8 e8 t r d

include e0 e1 e2 e3 e4 e5 e6 e7 e8 e9 e10 e11 e12 in
theorem bDh (y : S256x1024.Idx) : k0_pay1 (k0_pay9 (bP m c t) (k0_pay3 (iblk m c 8 t)) (k0_pay4 (iblk m c 8 t)) (iblk m c 10 t) (iblk m c 11 t)) (iblk m c 9 t) y
    = dhArr X0 X1 X2 X3 X4 X5 X6 X7 X8 X9 X10 X11 X12 (ix2 (rw' t (y 0)) (y 1)) := by
  have hP := bP_eq m c X0 X1 X2 X3 X4 X5 X6 X7 X12 e0 e1 e2 e3 e4 e5 e6 e7 e12 t
  have hI := bI_eq m c X8 e8 t
  have hX := bX_eq m c X8 e8 t
  generalize bP m c t = p at hP ⊢
  generalize k0_pay3 (iblk m c 8 t) = q at hX ⊢
  generalize k0_pay4 (iblk m c 8 t) = s at hI ⊢
  obtain ⟨r, d, rfl⟩ : ∃ r d, y = ix2 r d := ⟨y 0, y 1, eq_ix2 y⟩
  rw [pay_dh]
  simp only [hP, hI, hX, blk9 m c X9 e9, blk10 m c X10 e10, blk11 m c X11 e11]
  show _ = dhAt X0 X1 X2 X3 X4 X5 X6 X7 X8 X9 X10 X11 X12 (rw' t r) d
  unfold dhAt dY
  rfl

/-- What a grid point adds to the weight's gradient. -/
def partW (t : Fin cfg0.N) : Vec Ideal S1024x2048 .f32 := fun y => ∑ r : Fin 256, dwTerm X0 X1 X2 X3 X4 X5 X6 X7 X8 X10 X12 (rw' t r) (y 0) (y 1)

/-- What a grid point adds to the norm weight's gradient. -/
def partP (t : Fin cfg0.N) : Vec Ideal S1x1024 .f32 := fun y => ∑ r : Fin 256, dpTerm X0 X1 X2 X3 X4 X5 X6 X7 X8 X11 X12 (rw' t r) (y 0) (y 1)

include e0 e1 e2 e3 e4 e5 e6 e7 e8 e10 e12 in
theorem bW (y : S1024x2048.Idx) : k0_pay5 (bP m c t) (k0_pay3 (iblk m c 8 t)) (k0_pay4 (iblk m c 8 t)) (iblk m c 10 t) y
    = partW X0 X1 X2 X3 X4 X5 X6 X7 X8 X10 X12 t y := by
  have hP := bP_eq m c X0 X1 X2 X3 X4 X5 X6 X7 X12 e0 e1 e2 e3 e4 e5 e6 e7 e12 t
  have hI := bI_eq m c X8 e8 t
  have hX := bX_eq m c X8 e8 t
  generalize bP m c t = p at hP ⊢
  generalize k0_pay3 (iblk m c 8 t) = q at hX ⊢
  generalize k0_pay4 (iblk m c 8 t) = s at hI ⊢
  obtain ⟨r, d, rfl⟩ : ∃ r d, y = ix2 r d := ⟨y 0, y 1, eq_ix2 y⟩
  rw [pay_w]
  simp only [hP, hI, hX, blk10 m c X10 e10]
  show _ = ∑ r' : Fin 256, dwTerm X0 X1 X2 X3 X4 X5 X6 X7 X8 X10 X12 (rw' t r') r d
  unfold dwTerm
  rfl

include e0 e1 e2 e3 e4 e5 e6 e7 e8 e11 e12 in
theorem bPw (y : S1x1024.Idx) : k0_pay10 (bP m c t) (k0_pay3 (iblk m c 8 t)) (k0_pay4 (iblk m c 8 t)) (iblk m c 11 t) y
    = partP X0 X1 X2 X3 X4 X5 X6 X7 X8 X11 X12 t y := by
  have hP := bP_eq m c X0 X1 X2 X3 X4 X5 X6 X7 X12 e0 e1 e2 e3 e4 e5 e6 e7 e12 t
  have hI := bI_eq m c X8 e8 t
  have hX := bX_eq m c X8 e8 t
  generalize bP m c t = p at hP ⊢
  generalize k0_pay3 (iblk m c 8 t) = q at hX ⊢
  generalize k0_pay4 (iblk m c 8 t) = s at hI ⊢
  obtain ⟨r, d, rfl⟩ : ∃ r d, y = ix2 r d := ⟨y 0, y 1, eq_ix2 y⟩
  rw [pay_dp]
  simp only [hP, hI, hX, blk11 m c X11 e11]
  show _ = ∑ r' : Fin 256, dpTerm X0 X1 X2 X3 X4 X5 X6 X7 X8 X11 X12 (rw' t r') r d
  unfold dpTerm dY
  rfl

/-- What the points leave, in terms of their blocks: at the first point, and at a later one. -/
theorem outs_A (h : t.val % 65 = 0) : outsAt0 m c t.val t.isLt
    = (k0_pay1 (k0_pay9 (bP m c t) (k0_pay3 (iblk m c 8 t)) (k0_pay4 (iblk m c 8 t)) (iblk m c 10 t) (iblk m c 11 t)) (iblk m c 9 t),
       k0_pay5 (bP m c t) (k0_pay3 (iblk m c 8 t)) (k0_pay4 (iblk m c 8 t)) (iblk m c 10 t),
       k0_pay10 (bP m c t) (k0_pay3 (iblk m c 8 t)) (k0_pay4 (iblk m c 8 t)) (iblk m c 11 t)) := by
  have h' : t.val < 65 := lt_of_lt_of_eq t.isLt N_0
  rw [outsAt0_A m c t h (by omega) h (by omega), outA_13, outA_14, outA_15]

theorem outs_B (h : ¬ t.val % 65 = 0) : outsAt0 m c t.val t.isLt
    = (k0_pay1 (k0_pay9 (bP m c t) (k0_pay3 (iblk m c 8 t)) (k0_pay4 (iblk m c 8 t)) (iblk m c 10 t) (iblk m c 11 t)) (iblk m c 9 t),
       k0_pay6 (bP m c t) (k0_pay3 (iblk m c 8 t)) (k0_pay4 (iblk m c 8 t)) (iblk m c 10 t) (outsAt0 m c (t.val - 1) (Nat.lt_of_le_of_lt (Nat.sub_le _ _) t.isLt)).2.1,
       k0_pay11 (bP m c t) (k0_pay3 (iblk m c 8 t)) (k0_pay4 (iblk m c 8 t)) (iblk m c 11 t) (outsAt0 m c (t.val - 1) (Nat.lt_of_le_of_lt (Nat.sub_le _ _) t.isLt)).2.2) := by
  rw [outsAt0_B m c t h (by omega) h (by omega), outB_13, outB_14, outB_15]

include e0 e1 e2 e3 e4 e5 e6 e7 e8 e9 e10 e11 e12 in
theorem final13 : (dats m 0 c).arrAt 13 (cfgs 0).N = dhArr X0 X1 X2 X3 X4 X5 X6 X7 X8 X9 X10 X11 X12 := by
  refine (dats m 0 c).arrAt_eq_of_covers 13 _ (by decide +kernel) fun t _ y => ?_
  blk_simp
  rw [after0_13]
  have h : (outsAt0 m c t.val t.isLt).1 y = dhArr X0 X1 X2 X3 X4 X5 X6 X7 X8 X9 X10 X11 X12 (ix2 (rw' t (y 0)) (y 1)) := by
    by_cases h0 : t.val % 65 = 0
    · rw [outs_A m c t h0]
      exact bDh m c X0 X1 X2 X3 X4 X5 X6 X7 X8 X9 X10 X11 X12 e0 e1 e2 e3 e4 e5 e6 e7 e8 e9 e10 e11 e12 t y
    · rw [outs_B m c t h0]
      exact bDh m c X0 X1 X2 X3 X4 X5 X6 X7 X8 X9 X10 X11 X12 e0 e1 e2 e3 e4 e5 e6 e7 e8 e9 e10 e11 e12 t y
  rw [h]
  generalize dhArr X0 X1 X2 X3 X4 X5 X6 X7 X8 X9 X10 X11 X12 = G
  blk_ext [idx t, rw']

/-- The array of window 14: the sum over all rows. -/
def sum14 (X0 : Vec Ideal S16640x256 .f32) (X1 : Vec Ideal S16640x128 .f32) (X2 : Vec Ideal S16640x512 .f32) (X3 : Vec Ideal S16640x512 .f32) (X4 : Vec Ideal S16640x512 .f32) (X5 : Vec Ideal S16640x512 .f32) (X6 : Vec Ideal S16640x512 .f32) (X7 : Vec Ideal S16640x32 .f32) (X8 : Vec Ideal S16640x1024 .f32) (X10 : Vec Ideal S1x1024 .f32) (X12 : Vec Ideal S1x512 .f32) : Vec Ideal S1024x2048 .f32 := fun y => ∑ r : Fin 16640, dwTerm X0 X1 X2 X3 X4 X5 X6 X7 X8 X10 X12 r (y 0) (y 1)

include e0 e1 e2 e3 e4 e5 e6 e7 e8 e10 e12 in
theorem final14 : (dats m 0 c).arrAt 14 (cfgs 0).N = sum14 X0 X1 X2 X3 X4 X5 X6 X7 X8 X10 X12 := by
  refine (dats m 0 c).arrAt_eq_of_covers 14 _ (by decide +kernel) fun t hf y => ?_
  blk_simp
  rw [after0_14, Pipeline.eq_sum_fin_of_reset_step_apply_of_flush (fun n h => (outsAt0 m c n h).2.1) 65 (fun _ => (0 : EReal)) (partW X0 X1 X2 X3 X4 X5 X6 X7 X8 X10 X12)
    (fun t h j => by
      rw [outs_A m c t h]
      exact (bW m c X0 X1 X2 X3 X4 X5 X6 X7 X8 X10 X12 e0 e1 e2 e3 e4 e5 e6 e7 e8 e10 e12 t j).trans (zero_add _).symm)
    (fun t h j => by
      rw [outs_B m c t h]
      have k := bW m c X0 X1 X2 X3 X4 X5 X6 X7 X8 X10 X12 e0 e1 e2 e3 e4 e5 e6 e7 e8 e10 e12 t j
      obtain ⟨r, d, rfl⟩ : ∃ r d, j = ix2 r d := ⟨j 0, j 1, eq_ix2 j⟩
      exact (pay_w' _ _ _ _ _ r d).trans (congrArg _ k))
    t ((flush0_14 t).mp hf) y, zero_add]
  have i : ∀ G : Vec Ideal S1024x2048 .f32, G y = G ((win0_14.blk t).view.emb y) := fun G => by
    obtain ⟨r, d, rfl⟩ : ∃ r d, y = ix2 r d := ⟨y 0, y 1, eq_ix2 y⟩
    blk_ext [idx t]
  refine Eq.trans ?_ (i (sum14 X0 X1 X2 X3 X4 X5 X6 X7 X8 X10 X12))
  unfold partW sum14
  refine Fin.sum_mul_add_congr fun s k hl => ?_
  have hs : s.val < 65 := s.isLt
  have ht : t.val < 65 := lt_of_lt_of_eq t.isLt N_0
  refine congrArg (fun r => dwTerm X0 X1 X2 X3 X4 X5 X6 X7 X8 X10 X12 r (y 0) (y 1)) (Fin.ext ?_)
  show (65 * (t.val / 65) + s.val) * 256 + k.val = s.val * 256 + k.val
  omega

/-- The array of window 15: the sum over all rows. -/
def sum15 (X0 : Vec Ideal S16640x256 .f32) (X1 : Vec Ideal S16640x128 .f32) (X2 : Vec Ideal S16640x512 .f32) (X3 : Vec Ideal S16640x512 .f32) (X4 : Vec Ideal S16640x512 .f32) (X5 : Vec Ideal S16640x512 .f32) (X6 : Vec Ideal S16640x512 .f32) (X7 : Vec Ideal S16640x32 .f32) (X8 : Vec Ideal S16640x1024 .f32) (X11 : Vec Ideal S1024x2048 .bf16) (X12 : Vec Ideal S1x512 .f32) : Vec Ideal S1x1024 .f32 := fun y => ∑ r : Fin 16640, dpTerm X0 X1 X2 X3 X4 X5 X6 X7 X8 X11 X12 r (y 0) (y 1)

include e0 e1 e2 e3 e4 e5 e6 e7 e8 e11 e12 in
theorem final15 : (dats m 0 c).arrAt 15 (cfgs 0).N = sum15 X0 X1 X2 X3 X4 X5 X6 X7 X8 X11 X12 := by
  refine (dats m 0 c).arrAt_eq_of_covers 15 _ (by decide +kernel) fun t hf y => ?_
  blk_simp
  rw [after0_15, Pipeline.eq_sum_fin_of_reset_step_apply_of_flush (fun n h => (outsAt0 m c n h).2.2) 65 (fun _ => (0 : EReal)) (partP X0 X1 X2 X3 X4 X5 X6 X7 X8 X11 X12)
    (fun t h j => by
      rw [outs_A m c t h]
      exact (bPw m c X0 X1 X2 X3 X4 X5 X6 X7 X8 X11 X12 e0 e1 e2 e3 e4 e5 e6 e7 e8 e11 e12 t j).trans (zero_add _).symm)
    (fun t h j => by
      rw [outs_B m c t h]
      have k := bPw m c X0 X1 X2 X3 X4 X5 X6 X7 X8 X11 X12 e0 e1 e2 e3 e4 e5 e6 e7 e8 e11 e12 t j
      obtain ⟨r, d, rfl⟩ : ∃ r d, j = ix2 r d := ⟨j 0, j 1, eq_ix2 j⟩
      exact (pay_dp' _ _ _ _ _ r d).trans (congrArg _ k))
    t ((flush0_15 t).mp hf) y, zero_add]
  have i : ∀ G : Vec Ideal S1x1024 .f32, G y = G ((win0_15.blk t).view.emb y) := fun G => by
    obtain ⟨r, d, rfl⟩ : ∃ r d, y = ix2 r d := ⟨y 0, y 1, eq_ix2 y⟩
    blk_ext [idx t]
  refine Eq.trans ?_ (i (sum15 X0 X1 X2 X3 X4 X5 X6 X7 X8 X11 X12))
  unfold partP sum15
  refine Fin.sum_mul_add_congr fun s k hl => ?_
  have hs : s.val < 65 := s.isLt
  have ht : t.val < 65 := lt_of_lt_of_eq t.isLt N_0
  refine congrArg (fun r => dpTerm X0 X1 X2 X3 X4 X5 X6 X7 X8 X11 X12 r (y 0) (y 1)) (Fin.ext ?_)
  show (65 * (t.val / 65) + s.val) * 256 + k.val = s.val * 256 + k.val
  omega

end Cert.InprojValue
-- ==== Proof.Inproj.Host.lean ====
/-
  What the host lines before the input projection's gradient leave in the region's arguments, and what the lines after it
  make of the region's results.
-/
module

public import proofs.«01_k».proof.Proof.Inproj.Region
public import proofs.«01_k».proof.Proof.Rows

@[expose] public section

set_option maxRecDepth 16384

noncomputable section

open Idealize.ShloMosaic Idealize.ShloMosaic.TcCoe Idealize.SL.Sem

namespace Cert.InprojValue

open Cert.InprojIdeal Cert.InprojIdeal.Gen

/-- The place in the call's column order of a column of the projection. -/
def col (e : Fin 1952) : Fin 2048 :=
  if h : e.val < 384 then ⟨e.val, by omega⟩ else if h' : e.val < 416 then ⟨e.val + 1536, by omega⟩ else ⟨e.val - 32, by omega⟩

/-- The weight in the call's column order, zero in the last 96 columns. -/
def wIn (W : FVec Ideal S1024x1952 .f32) : FVec Ideal S1024x2048 .bf16 := fun i =>
  if h : (i 1).val < 384 then W (ix2 (i 0) ⟨(i 1).val, by omega⟩)
  else if h' : (i 1).val < 1920 then W (ix2 (i 0) ⟨(i 1).val + 32, by omega⟩)
  else if h'' : (i 1).val < 1952 then W (ix2 (i 0) ⟨(i 1).val - 1536, by omega⟩) else 0

theorem wIn_eq (W : FVec Ideal S1024x1952 .f32) : truncf .bf16 (concatenate S1024x2048 1 [⟨S1024x1952, concatenate S1024x1952 1
      [⟨S1024x384, extractStridedSlice S1024x384 ![0, 0] W slices_S1024x1952_S1024x384_0_0⟩,
       ⟨S1024x1536, extractStridedSlice S1024x1536 ![0, 416] W slices_S1024x1952_S1024x1536_0_416⟩,
       ⟨S1024x32, extractStridedSlice S1024x32 ![0, 384] W slices_S1024x1952_S1024x32_0_384⟩] concatenates_S1024x384_S1024x1536_S1024x32_S1024x1952_d1⟩,
    ⟨S1024x96, broadcastInDim S1024x96 ![] bcast_S_S1024x96 (constant S_ .f32 0x00000000#32)⟩] concatenates_S1024x1952_S1024x96_S1024x2048_d1) bitsLt_bf16_f32 = wIn W := by
  funext i
  obtain ⟨d, e, rfl⟩ : ∃ d e, i = ix2 d e := ⟨i 0, i 1, eq_ix2 i⟩
  pointwise []
  unfold wIn
  show _ = (if h : e.val < 384 then W (ix2 d ⟨e.val, by omega⟩)
    else if h' : e.val < 1920 then W (ix2 d ⟨e.val + 32, by omega⟩)
    else if h'' : e.val < 1952 then W (ix2 d ⟨e.val - 1536, by omega⟩) else 0)
  have key : ∀ a b : Fin 1952, a.val = b.val → W (ix2 d a) = W (ix2 d b) := fun a b h => by rw [Fin.ext h]
  split_ifs <;> first | (exfalso; omega) | rfl | (refine key _ _ ?_; simp only []; omega) | (split <;> first | (exfalso; omega) | (refine key _ _ ?_; simp only []; omega)) | (refine key _ _ ?_; split <;> first | (exfalso; omega) | (simp only []; omega))

/-- The weight's gradient in the weight's own column order. -/
def wOut (X : Vec Ideal S1024x2048 .f32) : FVec Ideal S1024x1952 .f32 := fun i => X (ix2 (i 0) (col (i 1)))

theorem wOut_eq (X : Vec Ideal S1024x2048 .f32) : concatenate S1024x1952 1
      [⟨S1024x384, extractStridedSlice S1024x384 ![0, 0] (extractStridedSlice S1024x1952 ![0, 0] X slices_S1024x2048_S1024x1952_0_0) slices_S1024x1952_S1024x384_0_0⟩,
       ⟨S1024x32, extractStridedSlice S1024x32 ![0, 1920] (extractStridedSlice S1024x1952 ![0, 0] X slices_S1024x2048_S1024x1952_0_0) slices_S1024x1952_S1024x32_0_1920⟩,
       ⟨S1024x1536, extractStridedSlice S1024x1536 ![0, 384] (extractStridedSlice S1024x1952 ![0, 0] X slices_S1024x2048_S1024x1952_0_0) slices_S1024x1952_S1024x1536_0_384⟩]
      concatenates_S1024x384_S1024x32_S1024x1536_S1024x1952_d1 = wOut X := by
  funext i
  obtain ⟨d, e, rfl⟩ : ∃ d e, i = ix2 d e := ⟨i 0, i 1, eq_ix2 i⟩
  pointwise []
  unfold wOut
  show _ = X (ix2 d (col e))
  have key : ∀ a b : Fin 2048, a.val = b.val → X (ix2 d a) = X (ix2 d b) := fun a b h => by rw [Fin.ext h]
  unfold col
  split_ifs <;> first | (exfalso; omega) | rfl | (refine key _ _ ?_; simp only []; omega) | (split <;> first | (exfalso; omega) | (refine key _ _ ?_; simp only []; omega)) | (refine key _ _ ?_; split <;> first | (exfalso; omega) | (simp only []; omega))

variable (m : (ℓ : Loc nD τ sig) → Buf (Elt Ideal) ℓ)

theorem V_eq (c : Dev nD) : V0 m c = StableHlo.after hostOps0 (fun b => m (c, b)) := by
  show StableHlo.after (hostOps0 ++ []) (fun b => m (c, b)) = _
  rw [List.append_nil]

theorem s_v11 (U : Valuation τ sig (Elt Ideal)) : StableHlo.after hostOps0 U (Proc.devRef .tc main_v11) = Rows.rowsOf (φ := .f32) 256 (U (Proc.devRef .tc main_arg5)) := by
  after_results
  exact Rows.rowsOf_eq 256 _ _ _ _ _ _

theorem entry_v11 (c : Dev nD) : V m c main_v11 = Rows.rowsOf (φ := .f32) 256 (m ((c.tc : Thread nD τ).loc main_arg5)) :=
  (congrFun (V_eq m c) (Proc.devRef .tc main_v11)).trans (s_v11 _)

theorem s_v16 (U : Valuation τ sig (Elt Ideal)) : StableHlo.after hostOps0 U (Proc.devRef .tc main_v16) = Rows.rowsOf (φ := .f32) 128 (U (Proc.devRef .tc main_arg6)) := by
  after_results
  exact Rows.rowsOf_eq 128 _ _ _ _ _ _

theorem entry_v16 (c : Dev nD) : V m c main_v16 = Rows.rowsOf (φ := .f32) 128 (m ((c.tc : Thread nD τ).loc main_arg6)) :=
  (congrFun (V_eq m c) (Proc.devRef .tc main_v16)).trans (s_v16 _)

theorem s_v21 (U : Valuation τ sig (Elt Ideal)) : StableHlo.after hostOps0 U (Proc.devRef .tc main_v21) = Rows.rowsOf (φ := .f32) 512 (U (Proc.devRef .tc main_arg8)) := by
  after_results
  exact Rows.rowsOf_eq 512 _ _ _ _ _ _

theorem entry_v21 (c : Dev nD) : V m c main_v21 = Rows.rowsOf (φ := .f32) 512 (m ((c.tc : Thread nD τ).loc main_arg8)) :=
  (congrFun (V_eq m c) (Proc.devRef .tc main_v21)).trans (s_v21 _)

theorem s_v26 (U : Valuation τ sig (Elt Ideal)) : StableHlo.after hostOps0 U (Proc.devRef .tc main_v26) = Rows.rowsOf (φ := .f32) 512 (U (Proc.devRef .tc main_arg9)) := by
  after_results
  exact Rows.rowsOf_eq 512 _ _ _ _ _ _

theorem entry_v26 (c : Dev nD) : V m c main_v26 = Rows.rowsOf (φ := .f32) 512 (m ((c.tc : Thread nD τ).loc main_arg9)) :=
  (congrFun (V_eq m c) (Proc.devRef .tc main_v26)).trans (s_v26 _)

theorem s_v31 (U : Valuation τ sig (Elt Ideal)) : StableHlo.after hostOps0 U (Proc.devRef .tc main_v31) = Rows.rowsOf (φ := .f32) 512 (U (Proc.devRef .tc main_arg10)) := by
  after_results
  exact Rows.rowsOf_eq 512 _ _ _ _ _ _

theorem entry_v31 (c : Dev nD) : V m c main_v31 = Rows.rowsOf (φ := .f32) 512 (m ((c.tc : Thread nD τ).loc main_arg10)) :=
  (congrFun (V_eq m c) (Proc.devRef .tc main_v31)).trans (s_v31 _)

theorem s_v36 (U : Valuation τ sig (Elt Ideal)) : StableHlo.after hostOps0 U (Proc.devRef .tc main_v36) = Rows.rowsOf (φ := .f32) 512 (U (Proc.devRef .tc main_arg11)) := by
  after_results
  exact Rows.rowsOf_eq 512 _ _ _ _ _ _

theorem entry_v36 (c : Dev nD) : V m c main_v36 = Rows.rowsOf (φ := .f32) 512 (m ((c.tc : Thread nD τ).loc main_arg11)) :=
  (congrFun (V_eq m c) (Proc.devRef .tc main_v36)).trans (s_v36 _)

theorem s_v41 (U : Valuation τ sig (Elt Ideal)) : StableHlo.after hostOps0 U (Proc.devRef .tc main_v41) = Rows.rowsOf (φ := .f32) 512 (U (Proc.devRef .tc main_arg12)) := by
  after_results
  exact Rows.rowsOf_eq 512 _ _ _ _ _ _

theorem entry_v41 (c : Dev nD) : V m c main_v41 = Rows.rowsOf (φ := .f32) 512 (m ((c.tc : Thread nD τ).loc main_arg12)) :=
  (congrFun (V_eq m c) (Proc.devRef .tc main_v41)).trans (s_v41 _)

theorem s_v46 (U : Valuation τ sig (Elt Ideal)) : StableHlo.after hostOps0 U (Proc.devRef .tc main_v46) = Rows.rowsOf (φ := .f32) 32 (U (Proc.devRef .tc main_arg7)) := by
  after_results
  exact Rows.rowsOf_eq 32 _ _ _ _ _ _

theorem entry_v46 (c : Dev nD) : V m c main_v46 = Rows.rowsOf (φ := .f32) 32 (m ((c.tc : Thread nD τ).loc main_arg7)) :=
  (congrFun (V_eq m c) (Proc.devRef .tc main_v46)).trans (s_v46 _)

theorem s_v51 (U : Valuation τ sig (Elt Ideal)) : StableHlo.after hostOps0 U (Proc.devRef .tc main_v51) = Rows.rowsOf (φ := .f32) 1024 (U (Proc.devRef .tc main_arg0)) := by
  after_results
  exact Rows.rowsOf_eq 1024 _ _ _ _ _ _

theorem entry_v51 (c : Dev nD) : V m c main_v51 = Rows.rowsOf (φ := .f32) 1024 (m ((c.tc : Thread nD τ).loc main_arg0)) :=
  (congrFun (V_eq m c) (Proc.devRef .tc main_v51)).trans (s_v51 _)

theorem s_v56 (U : Valuation τ sig (Elt Ideal)) : StableHlo.after hostOps0 U (Proc.devRef .tc main_v56) = Rows.rowsOf (φ := .f32) 1024 (U (Proc.devRef .tc main_arg4)) := by
  after_results
  exact Rows.rowsOf_eq 1024 _ _ _ _ _ _

theorem entry_v56 (c : Dev nD) : V m c main_v56 = Rows.rowsOf (φ := .f32) 1024 (m ((c.tc : Thread nD τ).loc main_arg4)) :=
  (congrFun (V_eq m c) (Proc.devRef .tc main_v56)).trans (s_v56 _)

theorem s_arg1 (U : Valuation τ sig (Elt Ideal)) : StableHlo.after hostOps0 U (Proc.devRef .tc main_arg1) = (U (Proc.devRef .tc main_arg1)) := by
  after_results

theorem entry_arg1 (c : Dev nD) : V m c main_arg1 = (m ((c.tc : Thread nD τ).loc main_arg1)) :=
  (congrFun (V_eq m c) (Proc.devRef .tc main_arg1)).trans (s_arg1 _)

theorem s_v6 (U : Valuation τ sig (Elt Ideal)) : StableHlo.after hostOps0 U (Proc.devRef .tc main_v6) = wIn (U (Proc.devRef .tc main_arg2)) := by
  after_results
  exact wIn_eq _

theorem entry_v6 (c : Dev nD) : V m c main_v6 = wIn (m ((c.tc : Thread nD τ).loc main_arg2)) :=
  (congrFun (V_eq m c) (Proc.devRef .tc main_v6)).trans (s_v6 _)

theorem s_arg3 (U : Valuation τ sig (Elt Ideal)) : StableHlo.after hostOps0 U (Proc.devRef .tc main_arg3) = (U (Proc.devRef .tc main_arg3)) := by
  after_results

theorem entry_arg3 (c : Dev nD) : V m c main_arg3 = (m ((c.tc : Thread nD τ).loc main_arg3)) :=
  (congrFun (V_eq m c) (Proc.devRef .tc main_arg3)).trans (s_arg3 _)

theorem tail_v61 (U : Valuation τ sig (Elt Ideal)) : StableHlo.after hostOps1 U (Proc.devRef .tc main_v61)
    = Rows.tokensOf (φ := .f32) 1024 (U (Proc.devRef .tc main_v57_0)) := by
  after_results
  exact Rows.tokensOf_eq 1024 _ _ _ _ _

theorem tail_v66 (U : Valuation τ sig (Elt Ideal)) : StableHlo.after hostOps1 U (Proc.devRef .tc main_v66)
    = wOut (U (Proc.devRef .tc main_v57_1)) := by
  after_results
  exact wOut_eq _

end Cert.InprojValue
-- ==== Proof.Inproj.Reference.lean ====
/-
  The reference gradient of the input projection and its norm, entry by entry.
-/
module

public import proofs.«01_k».proof.Proof.Gen.InprojRefIdeal.Read
public import Idealize.ShloMosaic.Lib.Pipeline.ValueKit
public import proofs.«01_k».proof.Proof.Norm

@[expose] public section

set_option maxRecDepth 16384

noncomputable section

open Idealize.ShloMosaic Idealize.ShloMosaic.TcCoe Idealize.SL.Sem

namespace Cert.InprojRef

open Cert.InprojRefIdeal Cert.InprojRefIdeal.Gen Cert.InprojRefIdeal.Read

variable (A0 : FVec Ideal S16400x1024 .f32) (A1 : FVec Ideal S1x1024 .f32) (A2 : FVec Ideal S1024x1952 .f32) (A3 : FVec Ideal S1x512 .f32)
  (A4 : FVec Ideal S16400x1024 .f32) (A5 : FVec Ideal S16400x256 .f32) (A6 : FVec Ideal S16400x128 .f32) (A7 : FVec Ideal S16400x32 .f32)
  (A8 A9 A10 A11 A12 : FVec Ideal S16400x512 .f32)

/-- A row's reciprocal root mean square. -/
def inv (t : Fin 16400) : EReal :=
  Ideal.rsqrt (Norm.ms (fun x => A0 (ix2 t x)) (Ideal.ofBits FTy.f32 1149239296#32) (Ideal.ofBits FTy.f32 897988541#32))

/-- The projection's cotangent, put together from its parts. -/
def cot (t : Fin 16400) (e : Fin 1952) : EReal :=
  if h : e.val < 256 then A5 (ix2 t ⟨e.val, h⟩)
  else if h : e.val - 256 < 128 then A6 (ix2 t ⟨e.val - 256, h⟩)
  else if h : e.val - 256 - 128 < 32 then A7 (ix2 t ⟨e.val - 256 - 128, h⟩)
  else if h : e.val - 256 - 128 - 32 < 512 then A8 (ix2 t ⟨e.val - 256 - 128 - 32, h⟩)
  else if h : e.val - 256 - 128 - 32 - 512 < 512 then A9 (ix2 t ⟨e.val - 256 - 128 - 32 - 512, h⟩)
    + A10 (ix2 t ⟨e.val - 256 - 128 - 32 - 512, h⟩) + A3 (ix2 0 ⟨e.val - 256 - 128 - 32 - 512, h⟩) * A11 (ix2 t ⟨e.val - 256 - 128 - 32 - 512, h⟩)
  else A12 (ix2 t ⟨e.val - 256 - 128 - 32 - 512 - 512, by have := e.isLt; omega⟩)

/-- The normalised rows' cotangent. -/
def dy (t : Fin 16400) (d : Fin 1024) : EReal := ∑ x, cot A3 A5 A6 A7 A8 A9 A10 A11 A12 t x * A2 (ix2 d x)

theorem inv_eq (t : Fin 16400) : val_main_v7 (F := Ideal) A0 (ix2 t 0) = inv A0 t := by
  pointwise [val_main_v7, val_main_v6, val_main_v5, val_main_v4, val_main_v3, val_main_v2, val_main_v1, val_main_v0, val_main_cst, val_main_cst_0, val_main_cst_1]
  unfold inv Norm.ms
  rfl

theorem cot_eq (t : Fin 16400) (e : Fin 1952) : val_main_v28 (F := Ideal) A3 A5 A6 A7 A8 A9 A10 A11 A12 (ix2 t e)
    = cot A3 A5 A6 A7 A8 A9 A10 A11 A12 t e := by
  pointwise [val_main_v28, val_main_v27, val_main_v26, val_main_v25, val_main_v24, val_main_v23, val_main_v22, val_main_v21, val_main_v20, val_main_v19, val_main_v18, val_main_v17, val_main_v16, val_main_v15]
  unfold cot
  rfl

theorem dy_eq (t : Fin 16400) (d : Fin 1024) : val_main_v31 (F := Ideal) A2 A3 A5 A6 A7 A8 A9 A10 A11 A12 (ix2 t d)
    = dy A2 A3 A5 A6 A7 A8 A9 A10 A11 A12 t d := by
  unfold val_main_v31 dy
  have h := cot_eq A3 A5 A6 A7 A8 A9 A10 A11 A12
  generalize val_main_v28 (F := Ideal) A3 A5 A6 A7 A8 A9 A10 A11 A12 = DP at h ⊢
  simp only [← h]
  pointwise []

/-- The norm weight's gradient. -/
theorem dpre_eq (z : Fin 1) (d : Fin 1024) : val_main_v34 (F := Ideal) A0 A2 A3 A5 A6 A7 A8 A9 A10 A11 A12 (ix2 z d)
    = ∑ t, A0 (ix2 t d) * inv A0 t * dy A2 A3 A5 A6 A7 A8 A9 A10 A11 A12 t d := by
  unfold val_main_v34 val_main_v33 val_main_v32 val_main_v12 val_main_v11
  have h := dy_eq A2 A3 A5 A6 A7 A8 A9 A10 A11 A12
  have hI := inv_eq A0
  generalize val_main_v31 (F := Ideal) A2 A3 A5 A6 A7 A8 A9 A10 A11 A12 = DY at h ⊢
  generalize val_main_v7 (F := Ideal) A0 = I at hI ⊢
  simp only [← h, ← hI]
  pointwise [val_main_cst_3]

/-- The projection weight's gradient. -/
theorem dw_eq (d : Fin 1024) (e : Fin 1952) : val_main_v30 (F := Ideal) A0 A1 A3 A5 A6 A7 A8 A9 A10 A11 A12 (ix2 d e)
    = ∑ t, cot A3 A5 A6 A7 A8 A9 A10 A11 A12 t e * (A0 (ix2 t d) * inv A0 t * A1 (ix2 0 d)) := by
  unfold val_main_v30 val_main_v29 val_main_v14 val_main_v13 val_main_v12 val_main_v11
  have h := cot_eq A3 A5 A6 A7 A8 A9 A10 A11 A12
  have hI := inv_eq A0
  generalize val_main_v28 (F := Ideal) A3 A5 A6 A7 A8 A9 A10 A11 A12 = DP at h ⊢
  generalize val_main_v7 (F := Ideal) A0 = I at hI ⊢
  simp only [← h, ← hI]
  pointwise []

/-- The derivative of a norm's row, as differentiation writes it: cotangent `g`, row `x`, width `N`, small constant `e`. -/
def dxRef {n : ℕ} (c : EReal) (x g : Fin n → EReal) (N e k : EReal) (d : Fin n) : EReal :=
  c + g d * Ideal.rsqrt (Norm.ms x N e)
    + x d * ∑ _k : Fin 1, Ideal.div ((∑ k, x k * g k) * (k * Ideal.div (Ideal.rsqrt (Norm.ms x N e)) (Norm.ms x N e))) N
    + (∑ _k : Fin 1, Ideal.div ((∑ k, x k * g k) * (k * Ideal.div (Ideal.rsqrt (Norm.ms x N e)) (Norm.ms x N e))) N) * x d

/-- The rows' gradient. -/
theorem dh_eq (t : Fin 16400) (d : Fin 1024) : val_main_v51 (F := Ideal) A0 A1 A2 A3 A4 A5 A6 A7 A8 A9 A10 A11 A12 (ix2 t d)
    = dxRef (A4 (ix2 t d)) (fun x => A0 (ix2 t x)) (fun x => dy A2 A3 A5 A6 A7 A8 A9 A10 A11 A12 t x * A1 (ix2 0 x))
      (Ideal.ofBits FTy.f32 1149239296#32) (Ideal.ofBits FTy.f32 897988541#32) (Ideal.ofBits FTy.f32 3204448256#32) d := by
  unfold val_main_v51 val_main_v50 val_main_v49 val_main_v48 val_main_v47 val_main_v46 val_main_v45 val_main_v44 val_main_v43 val_main_v42 val_main_v41 val_main_v40 val_main_v39 val_main_v38 val_main_v37 val_main_v36 val_main_v35
  have h := dy_eq A2 A3 A5 A6 A7 A8 A9 A10 A11 A12
  generalize val_main_v31 (F := Ideal) A2 A3 A5 A6 A7 A8 A9 A10 A11 A12 = DY at h ⊢
  simp only [← h]
  pointwise [val_main_v10, val_main_v9, val_main_v8, val_main_cst_2, val_main_cst_3, val_main_cst_4, val_main_cst_5, val_main_cst_6, val_main_v7, val_main_v6, val_main_v5, val_main_v4, val_main_v3, val_main_v2, val_main_v1, val_main_v0, val_main_cst, val_main_cst_0, val_main_cst_1]
  unfold dxRef Norm.ms
  rfl

end Cert.InprojRef
-- ==== Proof.Inproj.Equation.lean ====
/-
  The input projection's gradient: the region's three arrays, taken back to the tokens' order and the weight's columns, are the
  reference's three gradients.  The weights' gradients agree on all extended reals; the rows' on reals.
-/
module

public import proofs.«01_k».proof.Proof.Inproj.Host
public import proofs.«01_k».proof.Proof.Inproj.Reference

@[expose] public section

set_option maxRecDepth 16384

noncomputable section

open Idealize.ShloMosaic Idealize.ShloMosaic.TcCoe Idealize.SL.Sem

namespace Cert.InprojValue

open Cert.InprojIdeal Cert.InprojIdeal.Gen Cert.InprojRefIdeal.Read Cert.InprojRef Cert.RealLift

/-- A sum over the call's columns that vanishes in the last 96. -/
theorem sum_col {M : Type} [AddCommMonoid M] (G : Fin 2048 → M) (h : ∀ x : Fin 2048, 1952 ≤ x.val → G x = 0) : ∑ x, G x = ∑ e, G (col e) := by
  refine (Finset.sum_of_injOn col ?_ ?_ ?_ ?_).symm
  · intro a _ b _ hab
    have := congrArg Fin.val hab
    unfold col at this
    refine Fin.ext ?_
    split_ifs at this <;> simp only [] at this <;> omega
  · intro _ _; simp
  · intro x _ hx
    refine h x ?_
    by_contra hlt
    refine hx ?_
    by_cases h1 : x.val < 384
    · exact ⟨⟨x.val, by omega⟩, by simp, by unfold col; rw [dif_pos h1]⟩
    · by_cases h2 : x.val < 1920
      · refine ⟨⟨x.val + 32, by omega⟩, by simp, ?_⟩
        unfold col; rw [dif_neg (by simp only []; omega), dif_neg (by simp only []; omega)]; exact Fin.ext (by simp only []; omega)
      · refine ⟨⟨x.val - 1536, by omega⟩, by simp, ?_⟩
        unfold col; rw [dif_neg (by simp only []; omega), dif_pos (by simp only []; omega)]; exact Fin.ext (by simp only []; omega)
  · intro _ _; rfl

theorem wIn_col (W : FVec Ideal S1024x1952 .f32) (d : Fin 1024) (e : Fin 1952) : wIn W (ix2 d (col e)) = W (ix2 d e) := by
  have key : ∀ a b : Fin 1952, a.val = b.val → W (ix2 d a) = W (ix2 d b) := fun a b h => by rw [Fin.ext h]
  have hc : (col e).val = if e.val < 384 then e.val else if e.val < 416 then e.val + 1536 else e.val - 32 := by
    unfold col; split_ifs <;> rfl
  have he := e.isLt
  generalize col e = x at *
  unfold wIn
  show (if h : x.val < 384 then W (ix2 d ⟨x.val, by omega⟩)
    else if h' : x.val < 1920 then W (ix2 d ⟨x.val + 32, by omega⟩)
    else if h'' : x.val < 1952 then W (ix2 d ⟨x.val - 1536, by omega⟩) else 0) = _
  split_ifs at hc <;> split_ifs <;> first | (exfalso; omega) | (refine key _ _ ?_; simp only []; omega)

variable (A0 : FVec Ideal S16400x1024 .f32) (A1 : FVec Ideal S1x1024 .f32) (A2 : FVec Ideal S1024x1952 .f32) (A3 : FVec Ideal S1x512 .f32)
  (A4 : FVec Ideal S16400x1024 .f32) (A5 : FVec Ideal S16400x256 .f32) (A6 : FVec Ideal S16400x128 .f32) (A7 : FVec Ideal S16400x32 .f32)
  (A8 A9 A10 A11 A12 : FVec Ideal S16400x512 .f32)

/-- At a token's row the call's cotangent is the reference's. -/
theorem dP_tok (t : Fin 16400) (e : Fin 1952) : dP (Rows.rowsOf (φ := .f32) 256 A5) (Rows.rowsOf (φ := .f32) 128 A6) (Rows.rowsOf (φ := .f32) 512 A8) (Rows.rowsOf (φ := .f32) 512 A9) (Rows.rowsOf (φ := .f32) 512 A10) (Rows.rowsOf (φ := .f32) 512 A11) (Rows.rowsOf (φ := .f32) 512 A12) (Rows.rowsOf (φ := .f32) 32 A7) A3 (Rows.row (Rows.tok t)) (col e) = cot A3 A5 A6 A7 A8 A9 A10 A11 A12 t e := by
  unfold dP
  simp only [Rows.rowsOf_tok]
  unfold lad cot
  have key5 : ∀ a b : Fin 256, a.val = b.val → A5 (ix2 t a) = A5 (ix2 t b) := fun a b h => by rw [Fin.ext h]
  have key6 : ∀ a b : Fin 128, a.val = b.val → A6 (ix2 t a) = A6 (ix2 t b) := fun a b h => by rw [Fin.ext h]
  have key7 : ∀ a b : Fin 32, a.val = b.val → A7 (ix2 t a) = A7 (ix2 t b) := fun a b h => by rw [Fin.ext h]
  have key8 : ∀ a b : Fin 512, a.val = b.val → A8 (ix2 t a) = A8 (ix2 t b) := fun a b h => by rw [Fin.ext h]
  have key12 : ∀ a b : Fin 512, a.val = b.val → A12 (ix2 t a) = A12 (ix2 t b) := fun a b h => by rw [Fin.ext h]
  have keym : ∀ a b : Fin 512, a.val = b.val → A9 (ix2 t a) + A10 (ix2 t a) + A3 (ix2 0 a) * A11 (ix2 t a)
      = A9 (ix2 t b) + A10 (ix2 t b) + A3 (ix2 0 b) * A11 (ix2 t b) := fun a b h => by rw [Fin.ext h]
  have hc : (col e).val = if e.val < 384 then e.val else if e.val < 416 then e.val + 1536 else e.val - 32 := by
    unfold col; split_ifs <;> rfl
  have he := e.isLt
  generalize col e = x at *
  by_cases hb256 : e.val < 256
  · have hx : x.val = e.val := by split_ifs at hc <;> omega
    rw [dif_pos (by omega), dif_pos (by omega)]
    exact key5 _ _ (by simp only []; omega)
  by_cases hb384 : e.val < 384
  · have hx : x.val = e.val := by split_ifs at hc <;> omega
    rw [dif_neg (by omega), dif_pos (by omega), dif_neg (by omega), dif_pos (by omega)]
    exact key6 _ _ (by simp only []; omega)
  by_cases hb416 : e.val < 416
  · have hx : x.val = e.val + 1536 := by split_ifs at hc <;> omega
    rw [dif_neg (by omega), dif_neg (by omega), dif_neg (by omega), dif_neg (by omega), dif_neg (by omega), dif_pos (by omega), dif_neg (by omega), dif_neg (by omega), dif_pos (by omega)]
    exact key7 _ _ (by simp only []; omega)
  by_cases hb928 : e.val < 928
  · have hx : x.val = e.val - 32 := by split_ifs at hc <;> omega
    rw [dif_neg (by omega), dif_neg (by omega), dif_pos (by omega), dif_neg (by omega), dif_neg (by omega), dif_neg (by omega), dif_pos (by omega)]
    exact key8 _ _ (by simp only []; omega)
  by_cases hb1440 : e.val < 1440
  · have hx : x.val = e.val - 32 := by split_ifs at hc <;> omega
    rw [dif_neg (by omega), dif_neg (by omega), dif_neg (by omega), dif_pos (by omega), dif_neg (by omega), dif_neg (by omega), dif_neg (by omega), dif_neg (by omega), dif_pos (by omega)]
    exact keym _ _ (by simp only []; omega)
  · have hx : x.val = e.val - 32 := by split_ifs at hc <;> omega
    rw [dif_neg (by omega), dif_neg (by omega), dif_neg (by omega), dif_neg (by omega), dif_pos (by omega), dif_neg (by omega), dif_neg (by omega), dif_neg (by omega), dif_neg (by omega), dif_neg (by omega)]
    exact key12 _ _ (by simp only []; omega)

/-- It is zero in the last 96 columns. -/
theorem dP_top (r : Fin 16640) (x : Fin 2048) (h : 1952 ≤ x.val) : dP (Rows.rowsOf (φ := .f32) 256 A5) (Rows.rowsOf (φ := .f32) 128 A6) (Rows.rowsOf (φ := .f32) 512 A8) (Rows.rowsOf (φ := .f32) 512 A9) (Rows.rowsOf (φ := .f32) 512 A10) (Rows.rowsOf (φ := .f32) 512 A11) (Rows.rowsOf (φ := .f32) 512 A12) (Rows.rowsOf (φ := .f32) 32 A7) A3 r x = 0 := by
  unfold dP lad
  split_ifs <;> first | (exfalso; omega) | rfl

/-- It is zero at the padding. -/
theorem dP_pad (r : Fin 16640) (h : ¬ (Rows.pos r).val < 16400) (x : Fin 2048) : dP (Rows.rowsOf (φ := .f32) 256 A5) (Rows.rowsOf (φ := .f32) 128 A6) (Rows.rowsOf (φ := .f32) 512 A8) (Rows.rowsOf (φ := .f32) 512 A9) (Rows.rowsOf (φ := .f32) 512 A10) (Rows.rowsOf (φ := .f32) 512 A11) (Rows.rowsOf (φ := .f32) 512 A12) (Rows.rowsOf (φ := .f32) 32 A7) A3 r x = 0 := by
  unfold dP
  simp only [Rows.rowsOf_pad _ _ r h]
  unfold lad
  split_ifs <;> first | rfl | (show (0 : EReal) + 0 + _ * 0 = 0; rw [mul_zero, add_zero, add_zero])

theorem inv_tok (t : Fin 16400) : inv (Rows.rowsOf (φ := .f32) 1024 A0) (Rows.row (Rows.tok t)) = InprojRef.inv A0 t := by
  unfold inv InprojRef.inv Norm.ms
  simp only [Rows.rowsOf_tok]

theorem dY_tok (t : Fin 16400) (d : Fin 1024) : dY (Rows.rowsOf (φ := .f32) 256 A5) (Rows.rowsOf (φ := .f32) 128 A6) (Rows.rowsOf (φ := .f32) 512 A8) (Rows.rowsOf (φ := .f32) 512 A9) (Rows.rowsOf (φ := .f32) 512 A10) (Rows.rowsOf (φ := .f32) 512 A11) (Rows.rowsOf (φ := .f32) 512 A12) (Rows.rowsOf (φ := .f32) 32 A7) (wIn A2) A3 (Rows.row (Rows.tok t)) d = dy A2 A3 A5 A6 A7 A8 A9 A10 A11 A12 t d := by
  unfold dY dy
  rw [sum_col _ fun x h => by rw [dP_top _ _ _ _ _ _ _ _ _ _ x h, zero_mul]]
  exact Finset.sum_congr rfl fun e _ => by rw [dP_tok, wIn_col]

theorem dY_pad (r : Fin 16640) (h : ¬ (Rows.pos r).val < 16400) (d : Fin 1024) : dY (Rows.rowsOf (φ := .f32) 256 A5) (Rows.rowsOf (φ := .f32) 128 A6) (Rows.rowsOf (φ := .f32) 512 A8) (Rows.rowsOf (φ := .f32) 512 A9) (Rows.rowsOf (φ := .f32) 512 A10) (Rows.rowsOf (φ := .f32) 512 A11) (Rows.rowsOf (φ := .f32) 512 A12) (Rows.rowsOf (φ := .f32) 32 A7) (wIn A2) A3 r d = 0 := by
  unfold dY
  exact Finset.sum_eq_zero fun x _ => by rw [dP_pad _ _ _ _ _ _ _ _ _ r h x, zero_mul]

/-- The norm weight's gradient. -/
theorem pre_result : sum15 (Rows.rowsOf (φ := .f32) 256 A5) (Rows.rowsOf (φ := .f32) 128 A6) (Rows.rowsOf (φ := .f32) 512 A8) (Rows.rowsOf (φ := .f32) 512 A9) (Rows.rowsOf (φ := .f32) 512 A10) (Rows.rowsOf (φ := .f32) 512 A11) (Rows.rowsOf (φ := .f32) 512 A12) (Rows.rowsOf (φ := .f32) 32 A7) (Rows.rowsOf (φ := .f32) 1024 A0) (wIn A2) A3 = val_main_v34 (F := Ideal) A0 A2 A3 A5 A6 A7 A8 A9 A10 A11 A12 := by
  funext y
  obtain ⟨z, d, rfl⟩ : ∃ z d, y = ix2 z d := ⟨y 0, y 1, eq_ix2 y⟩
  rw [dpre_eq]
  show ∑ r, dpTerm (Rows.rowsOf (φ := .f32) 256 A5) (Rows.rowsOf (φ := .f32) 128 A6) (Rows.rowsOf (φ := .f32) 512 A8) (Rows.rowsOf (φ := .f32) 512 A9) (Rows.rowsOf (φ := .f32) 512 A10) (Rows.rowsOf (φ := .f32) 512 A11) (Rows.rowsOf (φ := .f32) 512 A12) (Rows.rowsOf (φ := .f32) 32 A7) (Rows.rowsOf (φ := .f32) 1024 A0) (wIn A2) A3 r z d = _
  unfold dpTerm
  rw [Rows.sum_rows_tokens _ fun r h => by rw [dY_pad _ _ _ _ _ _ _ _ _ _ r h d, zero_mul]]
  refine Finset.sum_congr rfl fun t _ => ?_
  rw [dY_tok, inv_tok, Rows.rowsOf_tok, mul_comm]

/-- The projection weight's gradient. -/
theorem w_result : wOut (sum14 (Rows.rowsOf (φ := .f32) 256 A5) (Rows.rowsOf (φ := .f32) 128 A6) (Rows.rowsOf (φ := .f32) 512 A8) (Rows.rowsOf (φ := .f32) 512 A9) (Rows.rowsOf (φ := .f32) 512 A10) (Rows.rowsOf (φ := .f32) 512 A11) (Rows.rowsOf (φ := .f32) 512 A12) (Rows.rowsOf (φ := .f32) 32 A7) (Rows.rowsOf (φ := .f32) 1024 A0) A1 A3) = val_main_v30 (F := Ideal) A0 A1 A3 A5 A6 A7 A8 A9 A10 A11 A12 := by
  funext y
  obtain ⟨d, e, rfl⟩ : ∃ d e, y = ix2 d e := ⟨y 0, y 1, eq_ix2 y⟩
  rw [dw_eq]
  show ∑ r, dwTerm (Rows.rowsOf (φ := .f32) 256 A5) (Rows.rowsOf (φ := .f32) 128 A6) (Rows.rowsOf (φ := .f32) 512 A8) (Rows.rowsOf (φ := .f32) 512 A9) (Rows.rowsOf (φ := .f32) 512 A10) (Rows.rowsOf (φ := .f32) 512 A11) (Rows.rowsOf (φ := .f32) 512 A12) (Rows.rowsOf (φ := .f32) 32 A7) (Rows.rowsOf (φ := .f32) 1024 A0) A1 A3 r d (col e) = _
  unfold dwTerm
  rw [Rows.sum_rows_tokens _ fun r h => by rw [dP_pad _ _ _ _ _ _ _ _ _ r h, mul_zero]]
  refine Finset.sum_congr rfl fun t _ => ?_
  rw [dP_tok, inv_tok, Rows.rowsOf_tok, mul_comm]

theorem cot_real (h3 : Reals A3) (h5 : Reals A5) (h6 : Reals A6) (h7 : Reals A7) (h8 : Reals A8) (h9 : Reals A9) (h10 : Reals A10) (h11 : Reals A11)
    (h12 : Reals A12) (t : Fin 16400) (e : Fin 1952) : ∃ r : ℝ, cot A3 A5 A6 A7 A8 A9 A10 A11 A12 t e = ((r : ℝ) : EReal) := by
  unfold cot
  split_ifs
  · exact h5 _
  · exact h6 _
  · exact h7 _
  · exact h8 _
  · obtain ⟨a, ha⟩ := h9 (ix2 t ⟨e.val - 256 - 128 - 32 - 512, by assumption⟩)
    obtain ⟨b, hb⟩ := h10 (ix2 t ⟨e.val - 256 - 128 - 32 - 512, by assumption⟩)
    obtain ⟨k, hk⟩ := h3 (ix2 0 ⟨e.val - 256 - 128 - 32 - 512, by assumption⟩)
    obtain ⟨l, hl⟩ := h11 (ix2 t ⟨e.val - 256 - 128 - 32 - 512, by assumption⟩)
    exact ⟨a + b + k * l, by rw [ha, hb, hk, hl, ← EReal.coe_mul, ← EReal.coe_add, ← EReal.coe_add]⟩
  · exact h12 _

/-- The rows' gradient, on reals. -/
theorem h_result (h0 : Reals A0) (h1 : Reals A1) (h2 : Reals A2) (h3 : Reals A3) (h4 : Reals A4) (h5 : Reals A5) (h6 : Reals A6) (h7 : Reals A7)
    (h8 : Reals A8) (h9 : Reals A9) (h10 : Reals A10) (h11 : Reals A11) (h12 : Reals A12) :
    Rows.tokensOf (φ := .f32) 1024 (dhArr (Rows.rowsOf (φ := .f32) 256 A5) (Rows.rowsOf (φ := .f32) 128 A6) (Rows.rowsOf (φ := .f32) 512 A8) (Rows.rowsOf (φ := .f32) 512 A9) (Rows.rowsOf (φ := .f32) 512 A10) (Rows.rowsOf (φ := .f32) 512 A11) (Rows.rowsOf (φ := .f32) 512 A12) (Rows.rowsOf (φ := .f32) 32 A7) (Rows.rowsOf (φ := .f32) 1024 A0) (Rows.rowsOf (φ := .f32) 1024 A4) A1 (wIn A2) A3) = val_main_v51 (F := Ideal) A0 A1 A2 A3 A4 A5 A6 A7 A8 A9 A10 A11 A12 := by
  funext y
  obtain ⟨t, d, rfl⟩ : ∃ t d, y = ix2 t d := ⟨y 0, y 1, eq_ix2 y⟩
  rw [dh_eq]
  show dhAt (Rows.rowsOf (φ := .f32) 256 A5) (Rows.rowsOf (φ := .f32) 128 A6) (Rows.rowsOf (φ := .f32) 512 A8) (Rows.rowsOf (φ := .f32) 512 A9) (Rows.rowsOf (φ := .f32) 512 A10) (Rows.rowsOf (φ := .f32) 512 A11) (Rows.rowsOf (φ := .f32) 512 A12) (Rows.rowsOf (φ := .f32) 32 A7) (Rows.rowsOf (φ := .f32) 1024 A0) (Rows.rowsOf (φ := .f32) 1024 A4) A1 (wIn A2) A3 (Rows.row (Rows.tok t)) d = _
  unfold dhAt
  simp only [dY_tok, inv_tok, Rows.rowsOf_tok]
  choose a0 e0 using h0
  choose a4 e4 using h4
  have hg : ∀ d, ∃ g : ℝ, dy A2 A3 A5 A6 A7 A8 A9 A10 A11 A12 t d * A1 (ix2 0 d) = ((g : ℝ) : EReal) := fun d => by
    choose p ep using cot_real A3 A5 A6 A7 A8 A9 A10 A11 A12 h3 h5 h6 h7 h8 h9 h10 h11 h12 t
    choose a2 e2 using h2
    obtain ⟨a1, e1⟩ := h1 (ix2 0 d)
    unfold dy
    simp only [ep, e2, e1, ← EReal.coe_mul, RealLift.sum_real]
    exact ⟨_, rfl⟩
  choose g eg using hg
  obtain ⟨e, he, ee⟩ := Norm.eps_real
  unfold InprojRef.inv dxRef
  simp only [e0, e4, eg, ee, Norm.n1024, Norm.neg_half]
  exact Norm.dx_eq (fun k => a0 (ix2 t k)) g 1024 e (by norm_num) he (a4 (ix2 t d)) d

end Cert.InprojValue
-- ==== Proof.Inproj.Pre.lean ====
/-
  The precondition of the input projection's gradient: every argument is finite, so every argument is an array of reals.
-/
module

public import proofs.«01_k».proof.Proof.Gen.Pre_inproj_finite
public import proofs.«01_k».proof.Proof.RealLift

@[expose] public section

set_option maxRecDepth 16384

noncomputable section

open Idealize.ShloMosaic Idealize.ShloMosaic.TcCoe Idealize.SL.Sem

namespace Cert.InprojValue

open Cert.Pre_inproj_finite Cert.Pre_inproj_finite.Gen Cert.RealLift

theorem of_pre (A0 : FVec Ideal S16400x1024 .f32) (A1 : FVec Ideal S1x1024 .f32) (A2 : FVec Ideal S1024x1952 .f32) (A3 : FVec Ideal S1x512 .f32) (A4 : FVec Ideal S16400x1024 .f32) (A5 : FVec Ideal S16400x256 .f32) (A6 : FVec Ideal S16400x128 .f32) (A7 : FVec Ideal S16400x32 .f32) (A8 : FVec Ideal S16400x512 .f32) (A9 : FVec Ideal S16400x512 .f32) (A10 : FVec Ideal S16400x512 .f32) (A11 : FVec Ideal S16400x512 .f32) (A12 : FVec Ideal S16400x512 .f32)
    (h : fn (F := Ideal) A0 A1 A2 A3 A4 A5 A6 A7 A8 A9 A10 A11 A12 = fun _ => 1#1) :
    Reals A0 ∧ Reals A1 ∧ Reals A2 ∧ Reals A3 ∧ Reals A4 ∧ Reals A5 ∧ Reals A6 ∧ Reals A7 ∧ Reals A8 ∧ Reals A9 ∧ Reals A10 ∧ Reals A11 ∧ Reals A12 := by
  have e : fn (F := Ideal) A0 A1 A2 A3 A4 A5 A6 A7 A8 A9 A10 A11 A12 (fun a => a.elim0) = 1#1 := congrFun h _
  dsimp only [fn, fn_part1, fn_part2, fn_part3] at e
  obtain ⟨e, e12⟩ := andi_one e
  obtain ⟨e, e11⟩ := andi_one e
  obtain ⟨e, e10⟩ := andi_one e
  obtain ⟨e, e9⟩ := andi_one e
  obtain ⟨e, e8⟩ := andi_one e
  obtain ⟨e, e7⟩ := andi_one e
  obtain ⟨e, e6⟩ := andi_one e
  obtain ⟨e, e5⟩ := andi_one e
  obtain ⟨e, e4⟩ := andi_one e
  obtain ⟨e, e3⟩ := andi_one e
  obtain ⟨e, e2⟩ := andi_one e
  obtain ⟨e0, e1⟩ := andi_one e
  exact ⟨reals_of_all _ _ _ _ _ e0, reals_of_all _ _ _ _ _ e1, reals_of_all _ _ _ _ _ e2, reals_of_all _ _ _ _ _ e3, reals_of_all _ _ _ _ _ e4, reals_of_all _ _ _ _ _ e5, reals_of_all _ _ _ _ _ e6, reals_of_all _ _ _ _ _ e7, reals_of_all _ _ _ _ _ e8, reals_of_all _ _ _ _ _ e9, reals_of_all _ _ _ _ _ e10, reals_of_all _ _ _ _ _ e11, reals_of_all _ _ _ _ _ e12⟩

end Cert.InprojValue
-- ==== Proof.Inproj.Run.lean ====
/-
  The input projection's gradient call: its results are the reference's gradients.
-/
module

public import proofs.«01_k».proof.Defs
public import proofs.«01_k».proof.Proof.Inproj.Equation
public import proofs.«01_k».proof.Proof.Inproj.Pre

@[expose] public section

set_option maxRecDepth 16384

noncomputable section

open Idealize.ShloMosaic Idealize.ShloMosaic.TcCoe Idealize.SL.Sem

namespace Cert.InprojValue

open Cert.InprojIdeal Cert.InprojIdeal.Gen

variable (m : (ℓ : Loc nD τ sig) → Buf (Elt Ideal) ℓ)

/-- Result `main_v61` of the program in terms of its arguments. -/
theorem res_v61 (c : Dev nD) : Pipeline.afterTail₀ cfgs (dats m) 0 (V0 m) [hostOps1] c main_v61
    = Rows.tokensOf (φ := .f32) 1024 (dhArr (Rows.rowsOf (φ := .f32) 256 (m ((c.tc : Thread nD τ).loc main_arg5))) (Rows.rowsOf (φ := .f32) 128 (m ((c.tc : Thread nD τ).loc main_arg6))) (Rows.rowsOf (φ := .f32) 512 (m ((c.tc : Thread nD τ).loc main_arg8))) (Rows.rowsOf (φ := .f32) 512 (m ((c.tc : Thread nD τ).loc main_arg9))) (Rows.rowsOf (φ := .f32) 512 (m ((c.tc : Thread nD τ).loc main_arg10))) (Rows.rowsOf (φ := .f32) 512 (m ((c.tc : Thread nD τ).loc main_arg11))) (Rows.rowsOf (φ := .f32) 512 (m ((c.tc : Thread nD τ).loc main_arg12))) (Rows.rowsOf (φ := .f32) 32 (m ((c.tc : Thread nD τ).loc main_arg7))) (Rows.rowsOf (φ := .f32) 1024 (m ((c.tc : Thread nD τ).loc main_arg0))) (Rows.rowsOf (φ := .f32) 1024 (m ((c.tc : Thread nD τ).loc main_arg4))) (m ((c.tc : Thread nD τ).loc main_arg1)) (wIn (m ((c.tc : Thread nD τ).loc main_arg2))) (m ((c.tc : Thread nD τ).loc main_arg3))) := by
  rw [← final13 m c _ _ _ _ _ _ _ _ _ _ _ _ _ (entry_v11 m c) (entry_v16 m c) (entry_v21 m c) (entry_v26 m c) (entry_v31 m c) (entry_v36 m c) (entry_v41 m c) (entry_v46 m c) (entry_v51 m c) (entry_v56 m c) (entry_arg1 m c) (entry_v6 m c) (entry_arg3 m c)]
  unfold Pipeline.afterTail₀
  simp only [List.flatten_cons, List.flatten_nil, List.append_nil]
  refine (tail_v61 _).trans (congrArg (Rows.tokensOf (φ := .f32) 1024) ?_)
  exact Pipeline.withArrays_arr _ launch0.win.arr_inj c (V0 m c) _ 13

/-- Result `main_v66` of the program in terms of its arguments. -/
theorem res_v66 (c : Dev nD) : Pipeline.afterTail₀ cfgs (dats m) 0 (V0 m) [hostOps1] c main_v66
    = wOut (sum14 (Rows.rowsOf (φ := .f32) 256 (m ((c.tc : Thread nD τ).loc main_arg5))) (Rows.rowsOf (φ := .f32) 128 (m ((c.tc : Thread nD τ).loc main_arg6))) (Rows.rowsOf (φ := .f32) 512 (m ((c.tc : Thread nD τ).loc main_arg8))) (Rows.rowsOf (φ := .f32) 512 (m ((c.tc : Thread nD τ).loc main_arg9))) (Rows.rowsOf (φ := .f32) 512 (m ((c.tc : Thread nD τ).loc main_arg10))) (Rows.rowsOf (φ := .f32) 512 (m ((c.tc : Thread nD τ).loc main_arg11))) (Rows.rowsOf (φ := .f32) 512 (m ((c.tc : Thread nD τ).loc main_arg12))) (Rows.rowsOf (φ := .f32) 32 (m ((c.tc : Thread nD τ).loc main_arg7))) (Rows.rowsOf (φ := .f32) 1024 (m ((c.tc : Thread nD τ).loc main_arg0))) (m ((c.tc : Thread nD τ).loc main_arg1)) (m ((c.tc : Thread nD τ).loc main_arg3))) := by
  rw [← final14 m c _ _ _ _ _ _ _ _ _ _ _ (entry_v11 m c) (entry_v16 m c) (entry_v21 m c) (entry_v26 m c) (entry_v31 m c) (entry_v36 m c) (entry_v41 m c) (entry_v46 m c) (entry_v51 m c) (entry_arg1 m c) (entry_arg3 m c)]
  unfold Pipeline.afterTail₀
  simp only [List.flatten_cons, List.flatten_nil, List.append_nil]
  refine (tail_v66 _).trans (congrArg (wOut) ?_)
  exact Pipeline.withArrays_arr _ launch0.win.arr_inj c (V0 m c) _ 14

set_option maxHeartbeats 4000000 in
/-- The kernel and the reference end with the same gradients. -/
theorem claim : Cert.algebraic_InprojIdeal_InprojRefIdeal_pre_inproj_finite (hInprojIdeal := Cert.InprojIdeal.Gen.facts)
    (hInprojRefIdeal := Cert.InprojRefIdeal.Gen.facts) (hPre_inproj_finite := Cert.Pre_inproj_finite.Gen.facts) := by
  pair_intro
  · run_from Cert.InprojIdeal.Gen.run_main m g
    · exact W_main_arg0 m (dats m) c
    · exact W_main_arg2 m (dats m) c
    · exact W_main_arg4 m (dats m) c
    · exact W_main_arg5 m (dats m) c
    · exact W_main_arg6 m (dats m) c
    · exact W_main_arg7 m (dats m) c
    · exact W_main_arg8 m (dats m) c
    · exact W_main_arg9 m (dats m) c
    · exact W_main_arg10 m (dats m) c
    · exact W_main_arg11 m (dats m) c
    · exact W_main_arg12 m (dats m) c
  · refine (θ_run _ _ _).mono (fun r h c => ?_) (Cert.InprojRefIdeal.Value.run m' g')
    obtain ⟨r0, r1, r2, k0, k1, k2, k3, k4, k5, k6, k7, k8, k9, k10, k11, k12⟩ := h c
    obtain ⟨x0, x1, x2, x3, x4, x5, x6, x7, x8, x9, x10, x11, x12⟩ := hagree c
    obtain ⟨h0, h1, h2, h3, h4, h5, h6, h7, h8, h9, h10, h11, h12⟩ := of_pre _ _ _ _ _ _ _ _ _ _ _ _ _ (hpre c)
    rw [Cert.InprojRefIdeal.Read.val_main_v51_eq, x0, x1, x2, x3, x4, x5, x6, x7, x8, x9, x10, x11, x12] at r0
    rw [Cert.InprojRefIdeal.Read.val_main_v34_eq, x0, x2, x3, x5, x6, x7, x8, x9, x10, x11, x12] at r1
    rw [Cert.InprojRefIdeal.Read.val_main_v30_eq, x0, x1, x3, x5, x6, x7, x8, x9, x10, x11, x12] at r2
    exact ⟨r0.trans ((h_result _ _ _ _ _ _ _ _ _ _ _ _ _ h0 h1 h2 h3 h4 h5 h6 h7 h8 h9 h10 h11 h12).symm.trans (res_v61 m c).symm), r1.trans ((pre_result _ _ _ _ _ _ _ _ _ _ _ ).symm.trans (final15 m c _ _ _ _ _ _ _ _ _ _ _ (entry_v11 m c) (entry_v16 m c) (entry_v21 m c) (entry_v26 m c) (entry_v31 m c) (entry_v36 m c) (entry_v41 m c) (entry_v46 m c) (entry_v51 m c) (entry_v6 m c) (entry_arg3 m c)).symm), r2.trans ((w_result _ _ _ _ _ _ _ _ _ _ _ ).symm.trans (res_v66 m c).symm),
      k0, k1, k2, k3, k4, k5, k6, k7, k8, k9, k10, k11, k12⟩

end Cert.InprojValue
-- ==== Proof.lean ====
module

public import proofs.«01_k».proof.Defs
public import proofs.«01_k».proof.Proof.Gen.Disc
public import proofs.«01_k».proof.Proof.Gen.Disc.Skeleton
public import proofs.«01_k».proof.Proof.Gen.Disc.Launch
public import proofs.«01_k».proof.Proof.Gen.Disc.Points
public import proofs.«01_k».proof.Proof.Gen.Disc.Frame
public import proofs.«01_k».proof.Proof.Gen.DiscIdeal
public import proofs.«01_k».proof.Proof.Gen.DiscIdeal.Skeleton
public import proofs.«01_k».proof.Proof.Gen.DiscIdeal.Launch
public import proofs.«01_k».proof.Proof.Gen.DiscIdeal.Points
public import proofs.«01_k».proof.Proof.Gen.DiscIdeal.Frame
public import proofs.«01_k».proof.Proof.Gen.DiscRefIdeal
public import proofs.«01_k».proof.Proof.Gen.Attn
public import proofs.«01_k».proof.Proof.Gen.Attn.Skeleton
public import proofs.«01_k».proof.Proof.Gen.Attn.Loops
public import proofs.«01_k».proof.Proof.Gen.Attn.Launch
public import proofs.«01_k».proof.Proof.Gen.Attn.Points
public import proofs.«01_k».proof.Proof.Gen.Attn.Frame
public import proofs.«01_k».proof.Proof.Gen.AttnIdeal
public import proofs.«01_k».proof.Proof.Gen.AttnIdeal.Skeleton
public import proofs.«01_k».proof.Proof.Gen.AttnIdeal.Loops
public import proofs.«01_k».proof.Proof.Gen.AttnIdeal.Launch
public import proofs.«01_k».proof.Proof.Gen.AttnIdeal.Points
public import proofs.«01_k».proof.Proof.Gen.AttnIdeal.Frame
public import proofs.«01_k».proof.Proof.Gen.AttnRefIdeal
public import proofs.«01_k».proof.Proof.Gen.Post
public import proofs.«01_k».proof.Proof.Gen.Post.Skeleton
public import proofs.«01_k».proof.Proof.Gen.Post.Launch
public import proofs.«01_k».proof.Proof.Gen.Post.Points
public import proofs.«01_k».proof.Proof.Gen.Post.Frame
public import proofs.«01_k».proof.Proof.Gen.PostIdeal
public import proofs.«01_k».proof.Proof.Gen.PostIdeal.Skeleton
public import proofs.«01_k».proof.Proof.Gen.PostIdeal.Launch
public import proofs.«01_k».proof.Proof.Gen.PostIdeal.Points
public import proofs.«01_k».proof.Proof.Gen.PostIdeal.Frame
public import proofs.«01_k».proof.Proof.Gen.PostRefIdeal
public import proofs.«01_k».proof.Proof.Gen.Out
public import proofs.«01_k».proof.Proof.Gen.Out.Skeleton
public import proofs.«01_k».proof.Proof.Gen.Out.Launch
public import proofs.«01_k».proof.Proof.Gen.Out.Points
public import proofs.«01_k».proof.Proof.Gen.Out.Frame
public import proofs.«01_k».proof.Proof.Gen.OutIdeal
public import proofs.«01_k».proof.Proof.Gen.OutIdeal.Skeleton
public import proofs.«01_k».proof.Proof.Gen.OutIdeal.Launch
public import proofs.«01_k».proof.Proof.Gen.OutIdeal.Points
public import proofs.«01_k».proof.Proof.Gen.OutIdeal.Frame
public import proofs.«01_k».proof.Proof.Gen.OutRefIdeal
public import proofs.«01_k».proof.Proof.Gen.Qkv
public import proofs.«01_k».proof.Proof.Gen.Qkv.Skeleton
public import proofs.«01_k».proof.Proof.Gen.Qkv.Launch
public import proofs.«01_k».proof.Proof.Gen.Qkv.Points
public import proofs.«01_k».proof.Proof.Gen.Qkv.Frame
public import proofs.«01_k».proof.Proof.Gen.QkvIdeal
public import proofs.«01_k».proof.Proof.Gen.QkvIdeal.Skeleton
public import proofs.«01_k».proof.Proof.Gen.QkvIdeal.Launch
public import proofs.«01_k».proof.Proof.Gen.QkvIdeal.Points
public import proofs.«01_k».proof.Proof.Gen.QkvIdeal.Frame
public import proofs.«01_k».proof.Proof.Gen.QkvRefIdeal
public import proofs.«01_k».proof.Proof.Gen.Inproj
public import proofs.«01_k».proof.Proof.Gen.Inproj.Skeleton
public import proofs.«01_k».proof.Proof.Gen.Inproj.Launch
public import proofs.«01_k».proof.Proof.Gen.Inproj.Points
public import proofs.«01_k».proof.Proof.Gen.Inproj.Frame
public import proofs.«01_k».proof.Proof.Gen.InprojIdeal
public import proofs.«01_k».proof.Proof.Gen.InprojIdeal.Skeleton
public import proofs.«01_k».proof.Proof.Gen.InprojIdeal.Launch
public import proofs.«01_k».proof.Proof.Gen.InprojIdeal.Points
public import proofs.«01_k».proof.Proof.Gen.InprojIdeal.Frame
public import proofs.«01_k».proof.Proof.Gen.InprojRefIdeal
public import proofs.«01_k».proof.Proof.Gen.Pre_disc_finite
public import proofs.«01_k».proof.Proof.Gen.Pre_attn_finite
public import proofs.«01_k».proof.Proof.Gen.Pre_post_finite
public import proofs.«01_k».proof.Proof.Gen.Pre_out_finite
public import proofs.«01_k».proof.Proof.Gen.Pre_qkv_finite
public import proofs.«01_k».proof.Proof.Gen.Pre_inproj_finite
public import proofs.«01_k».proof.Proof.Gen.DiscRefIdeal.Run
public import proofs.«01_k».proof.Proof.Gen.DiscRefIdeal.Read
public import proofs.«01_k».proof.Proof.Disc.Run
public import proofs.«01_k».proof.Proof.Gen.AttnRefIdeal.Run
public import proofs.«01_k».proof.Proof.Gen.AttnRefIdeal.Read
public import proofs.«01_k».proof.Proof.Attn.Run
public import proofs.«01_k».proof.Proof.Gen.PostRefIdeal.Run
public import proofs.«01_k».proof.Proof.Gen.PostRefIdeal.Read
public import proofs.«01_k».proof.Proof.Post.Run
public import proofs.«01_k».proof.Proof.Gen.OutRefIdeal.Run
public import proofs.«01_k».proof.Proof.Gen.OutRefIdeal.Read
public import proofs.«01_k».proof.Proof.Out.Run
public import proofs.«01_k».proof.Proof.Gen.QkvRefIdeal.Run
public import proofs.«01_k».proof.Proof.Gen.QkvRefIdeal.Read
public import proofs.«01_k».proof.Proof.Qkv.Run
public import proofs.«01_k».proof.Proof.Gen.InprojRefIdeal.Run
public import proofs.«01_k».proof.Proof.Gen.InprojRefIdeal.Read
public import proofs.«01_k».proof.Proof.Inproj.Run
public import Idealize.ShloMosaic.Adequacy
public import Idealize.ShloMosaic.Init

@[expose] public section

noncomputable section

namespace Cert.Proof

open Idealize.ShloMosaic Idealize.SL.Sem

/-- The reference's run ends with its arguments unchanged. -/
theorem frame_disc_ref : Cert.quiescent_DiscRefIdeal (hDiscRefIdeal := Cert.DiscRefIdeal.Gen.facts) := fun m ρ _ =>
  (θ_run Cert.DiscRefIdeal.defs _ _).mono (fun r h => ⟨fun c => (h c).2.2.2.2.2, sem_eq_zero_of_no_sems (by decide) r.2⟩)
    (Cert.DiscRefIdeal.Value.run m ρ)

/-- The reference's run ends with its arguments unchanged. -/
theorem frame_attn_ref : Cert.quiescent_AttnRefIdeal (hAttnRefIdeal := Cert.AttnRefIdeal.Gen.facts) := fun m ρ _ =>
  (θ_run Cert.AttnRefIdeal.defs _ _).mono (fun r h => ⟨fun c => (h c).2.2.2, sem_eq_zero_of_no_sems (by decide) r.2⟩)
    (Cert.AttnRefIdeal.Value.run m ρ)

/-- The reference's run ends with its arguments unchanged. -/
theorem frame_post_ref : Cert.quiescent_PostRefIdeal (hPostRefIdeal := Cert.PostRefIdeal.Gen.facts) := fun m ρ _ =>
  (θ_run Cert.PostRefIdeal.defs _ _).mono (fun r h => ⟨fun c => (h c).2.2.2.2.2.2, sem_eq_zero_of_no_sems (by decide) r.2⟩)
    (Cert.PostRefIdeal.Value.run m ρ)

/-- The reference's run ends with its arguments unchanged. -/
theorem frame_out_ref : Cert.quiescent_OutRefIdeal (hOutRefIdeal := Cert.OutRefIdeal.Gen.facts) := fun m ρ _ =>
  (θ_run Cert.OutRefIdeal.defs _ _).mono (fun r h => ⟨fun c => (h c).2.2.2.2.2.2.2.2, sem_eq_zero_of_no_sems (by decide) r.2⟩)
    (Cert.OutRefIdeal.Value.run m ρ)

/-- The reference's run ends with its arguments unchanged. -/
theorem frame_qkv_ref : Cert.quiescent_QkvRefIdeal (hQkvRefIdeal := Cert.QkvRefIdeal.Gen.facts) := fun m ρ _ =>
  (θ_run Cert.QkvRefIdeal.defs _ _).mono (fun r h => ⟨fun c => (h c).2.2.2, sem_eq_zero_of_no_sems (by decide) r.2⟩)
    (Cert.QkvRefIdeal.Value.run m ρ)

/-- The reference's run ends with its arguments unchanged. -/
theorem frame_inproj_ref : Cert.quiescent_InprojRefIdeal (hInprojRefIdeal := Cert.InprojRefIdeal.Gen.facts) := fun m ρ _ =>
  (θ_run Cert.InprojRefIdeal.defs _ _).mono (fun r h => ⟨fun c => (h c).2.2.2, sem_eq_zero_of_no_sems (by decide) r.2⟩)
    (Cert.InprojRefIdeal.Value.run m ρ)

/-- Everything claimed. -/
theorem claim : Cert.Claim := ⟨Cert.Disc.Gen.facts, Cert.DiscIdeal.Gen.facts, Cert.DiscRefIdeal.Gen.facts, Cert.Attn.Gen.facts, Cert.AttnIdeal.Gen.facts, Cert.AttnRefIdeal.Gen.facts, Cert.Post.Gen.facts, Cert.PostIdeal.Gen.facts, Cert.PostRefIdeal.Gen.facts, Cert.Out.Gen.facts, Cert.OutIdeal.Gen.facts, Cert.OutRefIdeal.Gen.facts, Cert.Qkv.Gen.facts, Cert.QkvIdeal.Gen.facts, Cert.QkvRefIdeal.Gen.facts, Cert.Inproj.Gen.facts, Cert.InprojIdeal.Gen.facts, Cert.InprojRefIdeal.Gen.facts, Cert.Pre_disc_finite.Gen.facts, Cert.Pre_attn_finite.Gen.facts, Cert.Pre_post_finite.Gen.facts, Cert.Pre_out_finite.Gen.facts, Cert.Pre_qkv_finite.Gen.facts, Cert.Pre_inproj_finite.Gen.facts,
  fun m ρ _ => Cert.Disc.Gen.frame m ρ,
  fun m ρ _ => Cert.DiscIdeal.Gen.frame m ρ,
  fun m ρ _ => Cert.DiscIdeal.Gen.frame m ρ,
  frame_disc_ref,
  fun m ρ _ => frame_disc_ref m ρ trivial,
  fun m ρ _ => Cert.Attn.Gen.frame m ρ,
  fun m ρ _ => Cert.AttnIdeal.Gen.frame m ρ,
  fun m ρ _ => Cert.AttnIdeal.Gen.frame m ρ,
  frame_attn_ref,
  fun m ρ _ => frame_attn_ref m ρ trivial,
  fun m ρ _ => Cert.Post.Gen.frame m ρ,
  fun m ρ _ => Cert.PostIdeal.Gen.frame m ρ,
  fun m ρ _ => Cert.PostIdeal.Gen.frame m ρ,
  frame_post_ref,
  fun m ρ _ => frame_post_ref m ρ trivial,
  fun m ρ _ => Cert.Out.Gen.frame m ρ,
  fun m ρ _ => Cert.OutIdeal.Gen.frame m ρ,
  fun m ρ _ => Cert.OutIdeal.Gen.frame m ρ,
  frame_out_ref,
  fun m ρ _ => frame_out_ref m ρ trivial,
  fun m ρ _ => Cert.Qkv.Gen.frame m ρ,
  fun m ρ _ => Cert.QkvIdeal.Gen.frame m ρ,
  fun m ρ _ => Cert.QkvIdeal.Gen.frame m ρ,
  frame_qkv_ref,
  fun m ρ _ => frame_qkv_ref m ρ trivial,
  fun m ρ _ => Cert.Inproj.Gen.frame m ρ,
  fun m ρ _ => Cert.InprojIdeal.Gen.frame m ρ,
  fun m ρ _ => Cert.InprojIdeal.Gen.frame m ρ,
  frame_inproj_ref,
  fun m ρ _ => frame_inproj_ref m ρ trivial,
  trivial,
  Cert.DiscArr.claim,
  trivial,
  Cert.AttnHost.claim,
  ⟨IdealRules.named_const.statement Cert.PostIdeal.κ "gelu_c" .f32 0x3D372713#32 ((8943 / 200000 : ℝ) : EReal) rfl,
    IdealRules.named_const.statement Cert.PostIdeal.κ "gelu_c3" .f32 0x3E095D4F#32 ((26829 / 200000 : ℝ) : EReal) rfl⟩,
  Cert.PostValue.claim,
  trivial,
  Cert.OutValue.claim,
  ⟨IdealRules.named_const.statement Cert.QkvIdeal.κ "inv_sqrt" .f32 0x3DD105EC#32 (((Real.sqrt 96)⁻¹ : ℝ) : EReal) rfl,
    IdealRules.named_const.statement Cert.QkvIdeal.κ "ln2" .f32 0x3F317218#32 ((Real.log 2 : ℝ) : EReal) rfl⟩,
  Cert.QkvValue.claim,
  trivial,
  Cert.InprojValue.claim⟩

end Cert.Proof

end
